-- ==== Defs.lean ====
def Pre_KernelLn (m : (ℓ : Loc Cert.KernelLn.nD Cert.KernelLn.τ Cert.KernelLn.sig) → Buf (Elt Bits) ℓ) : Prop :=
  True

def Pre_KernelLnIdeal (m : (ℓ : Loc Cert.KernelLnIdeal.nD Cert.KernelLnIdeal.τ Cert.KernelLnIdeal.sig) → Buf (Elt Ideal) ℓ) : Prop :=
  True

def Pre_KernelLnIdeal_finite_ln [hPre_finite_ln : Cert.Pre_finite_ln.Facts] (m : (ℓ : Loc Cert.KernelLnIdeal.nD Cert.KernelLnIdeal.τ Cert.KernelLnIdeal.sig) → Buf (Elt Ideal) ℓ) : Prop :=
  ∀ c : Dev Cert.KernelLnIdeal.nD,
    (Cert.Pre_finite_ln.fn (F := Ideal) (m ((c.tc : Thread Cert.KernelLnIdeal.nD Cert.KernelLnIdeal.τ).loc Cert.KernelLnIdeal.main_arg0)) (m ((c.tc : Thread Cert.KernelLnIdeal.nD Cert.KernelLnIdeal.τ).loc Cert.KernelLnIdeal.main_arg1)) (m ((c.tc : Thread Cert.KernelLnIdeal.nD Cert.KernelLnIdeal.τ).loc Cert.KernelLnIdeal.main_arg2))) = (fun _ => 1#1)

def Pre_ReferenceLnIdeal (m : (ℓ : Loc Cert.ReferenceLnIdeal.nD Cert.ReferenceLnIdeal.τ Cert.ReferenceLnIdeal.sig) → Buf (Elt Ideal) ℓ) : Prop :=
  True

def Pre_ReferenceLnIdeal_finite_ln [hPre_finite_ln : Cert.Pre_finite_ln.Facts] (m : (ℓ : Loc Cert.ReferenceLnIdeal.nD Cert.ReferenceLnIdeal.τ Cert.ReferenceLnIdeal.sig) → Buf (Elt Ideal) ℓ) : Prop :=
  ∀ c : Dev Cert.ReferenceLnIdeal.nD,
    (Cert.Pre_finite_ln.fn (F := Ideal) (m ((c.tc : Thread Cert.ReferenceLnIdeal.nD Cert.ReferenceLnIdeal.τ).loc Cert.ReferenceLnIdeal.main_arg0)) (m ((c.tc : Thread Cert.ReferenceLnIdeal.nD Cert.ReferenceLnIdeal.τ).loc Cert.ReferenceLnIdeal.main_arg1)) (m ((c.tc : Thread Cert.ReferenceLnIdeal.nD Cert.ReferenceLnIdeal.τ).loc Cert.ReferenceLnIdeal.main_arg2))) = (fun _ => 1#1)

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite_attn [hPre_finite_attn : Cert.Pre_finite_attn.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1))) = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite_attn [hPre_finite_attn : Cert.Pre_finite_attn.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1))) = (fun _ => 1#1)

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_KernelMixIdeal_finite_mix [hPre_finite_mix : Cert.Pre_finite_mix.Facts] (m : (ℓ : Loc Cert.KernelMixIdeal.nD Cert.KernelMixIdeal.τ Cert.KernelMixIdeal.sig) → Buf (Elt Ideal) ℓ) : Prop :=
  ∀ c : Dev Cert.KernelMixIdeal.nD,
    (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3))) = (fun _ => 1#1)

def Pre_ReferenceMixIdeal (m : (ℓ : Loc Cert.ReferenceMixIdeal.nD Cert.ReferenceMixIdeal.τ Cert.ReferenceMixIdeal.sig) → Buf (Elt Ideal) ℓ) : Prop :=
  True

def Pre_ReferenceMixIdeal_finite_mix [hPre_finite_mix : Cert.Pre_finite_mix.Facts] (m : (ℓ : Loc Cert.ReferenceMixIdeal.nD Cert.ReferenceMixIdeal.τ Cert.ReferenceMixIdeal.sig) → Buf (Elt Ideal) ℓ) : Prop :=
  ∀ c : Dev Cert.ReferenceMixIdeal.nD,
    (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3))) = (fun _ => 1#1)

def Pre_KernelPool (m : (ℓ : Loc Cert.KernelPool.nD Cert.KernelPool.τ Cert.KernelPool.sig) → Buf (Elt Bits) ℓ) : Prop :=
  True

def Pre_KernelPoolIdeal (m : (ℓ : Loc Cert.KernelPoolIdeal.nD Cert.KernelPoolIdeal.τ Cert.KernelPoolIdeal.sig) → Buf (Elt Ideal) ℓ) : Prop :=
  True

def Pre_KernelPoolIdeal_finite_pool [hPre_finite_pool : Cert.Pre_finite_pool.Facts] (m : (ℓ : Loc Cert.KernelPoolIdeal.nD Cert.KernelPoolIdeal.τ Cert.KernelPoolIdeal.sig) → Buf (Elt Ideal) ℓ) : Prop :=
  ∀ c : Dev Cert.KernelPoolIdeal.nD,
    (Cert.Pre_finite_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1))) = (fun _ => 1#1)

def Pre_ReferencePoolIdeal (m : (ℓ : Loc Cert.ReferencePoolIdeal.nD Cert.ReferencePoolIdeal.τ Cert.ReferencePoolIdeal.sig) → Buf (Elt Ideal) ℓ) : Prop :=
  True

def Pre_ReferencePoolIdeal_finite_pool [hPre_finite_pool : Cert.Pre_finite_pool.Facts] (m : (ℓ : Loc Cert.ReferencePoolIdeal.nD Cert.ReferencePoolIdeal.τ Cert.ReferencePoolIdeal.sig) → Buf (Elt Ideal) ℓ) : Prop :=
  ∀ c : Dev Cert.ReferencePoolIdeal.nD,
    (Cert.Pre_finite_pool.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1))) = (fun _ => 1#1)

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_KernelConvIdeal_finite_conv [hPre_finite_conv : Cert.Pre_finite_conv.Facts] (m : (ℓ : Loc Cert.KernelConvIdeal.nD Cert.KernelConvIdeal.τ Cert.KernelConvIdeal.sig) → Buf (Elt Ideal) ℓ) : Prop :=
  ∀ c : Dev Cert.KernelConvIdeal.nD,
    (Cert.Pre_finite_conv.fn (F := Ideal) (m ((c.tc : Thread Cert.KernelConvIdeal.nD Cert.KernelConvIdeal.τ).loc Cert.KernelConvIdeal.main_arg0)) (m ((c.tc : Thread Cert.KernelConvIdeal.nD Cert.KernelConvIdeal.τ).loc Cert.KernelConvIdeal.main_arg1))) = (fun _ => 1#1)

def Pre_ReferenceConvIdeal (m : (ℓ : Loc Cert.ReferenceConvIdeal.nD Cert.ReferenceConvIdeal.τ Cert.ReferenceConvIdeal.sig) → Buf (Elt Ideal) ℓ) : Prop :=
  True

def Pre_ReferenceConvIdeal_finite_conv [hPre_finite_conv : Cert.Pre_finite_conv.Facts] (m : (ℓ : Loc Cert.ReferenceConvIdeal.nD Cert.ReferenceConvIdeal.τ Cert.ReferenceConvIdeal.sig) → Buf (Elt Ideal) ℓ) : Prop :=
  ∀ c : Dev Cert.ReferenceConvIdeal.nD,
    (Cert.Pre_finite_conv.fn (F := Ideal) (m ((c.tc : Thread Cert.ReferenceConvIdeal.nD Cert.ReferenceConvIdeal.τ).loc Cert.ReferenceConvIdeal.main_arg0)) (m ((c.tc : Thread Cert.ReferenceConvIdeal.nD Cert.ReferenceConvIdeal.τ).loc Cert.ReferenceConvIdeal.main_arg1))) = (fun _ => 1#1)

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_KernelActIdeal_finite_act [hPre_finite_act : Cert.Pre_finite_act.Facts] (m : (ℓ : Loc Cert.KernelActIdeal.nD Cert.KernelActIdeal.τ Cert.KernelActIdeal.sig) → Buf (Elt Ideal) ℓ) : Prop :=
  ∀ c : Dev Cert.KernelActIdeal.nD,
    (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))) = (fun _ => 1#1)

def Pre_ReferenceActIdeal (m : (ℓ : Loc Cert.ReferenceActIdeal.nD Cert.ReferenceActIdeal.τ Cert.ReferenceActIdeal.sig) → Buf (Elt Ideal) ℓ) : Prop :=
  True

def Pre_ReferenceActIdeal_finite_act [hPre_finite_act : Cert.Pre_finite_act.Facts] (m : (ℓ : Loc Cert.ReferenceActIdeal.nD Cert.ReferenceActIdeal.τ Cert.ReferenceActIdeal.sig) → Buf (Elt Ideal) ℓ) : Prop :=
  ∀ c : Dev Cert.ReferenceActIdeal.nD,
    (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))) = (fun _ => 1#1)

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_KernelLossIdeal_finite_loss [hPre_finite_loss : Cert.Pre_finite_loss.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1))) = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_finite_loss [hPre_finite_loss : Cert.Pre_finite_loss.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1))) = (fun _ => 1#1)

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_KernelFwdIdeal_finite_fwd [hPre_finite_fwd : Cert.Pre_finite_fwd.Facts] (m : (ℓ : Loc Cert.KernelFwdIdeal.nD Cert.KernelFwdIdeal.τ Cert.KernelFwdIdeal.sig) → Buf (Elt Ideal) ℓ) : Prop :=
  ∀ c : Dev Cert.KernelFwdIdeal.nD,
    (Cert.Pre_finite_fwd.fn (F := Ideal) (m ((c.tc : Thread Cert.KernelFwdIdeal.nD Cert.KernelFwdIdeal.τ).loc Cert.KernelFwdIdeal.main_arg0))) = (fun _ => 1#1)

def Pre_ReferenceFwdIdeal (m : (ℓ : Loc Cert.ReferenceFwdIdeal.nD Cert.ReferenceFwdIdeal.τ Cert.ReferenceFwdIdeal.sig) → Buf (Elt Ideal) ℓ) : Prop :=
  True

def Pre_ReferenceFwdIdeal_finite_fwd [hPre_finite_fwd : Cert.Pre_finite_fwd.Facts] (m : (ℓ : Loc Cert.ReferenceFwdIdeal.nD Cert.ReferenceFwdIdeal.τ Cert.ReferenceFwdIdeal.sig) → Buf (Elt Ideal) ℓ) : Prop :=
  ∀ c : Dev Cert.ReferenceFwdIdeal.nD,
    (Cert.Pre_finite_fwd.fn (F := Ideal) (m ((c.tc : Thread Cert.ReferenceFwdIdeal.nD Cert.ReferenceFwdIdeal.τ).loc Cert.ReferenceFwdIdeal.main_arg0))) = (fun _ => 1#1)

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_KernelGateIdeal_finite_gate [hPre_finite_gate : Cert.Pre_finite_gate.Facts] (m : (ℓ : Loc Cert.KernelGateIdeal.nD Cert.KernelGateIdeal.τ Cert.KernelGateIdeal.sig) → Buf (Elt Ideal) ℓ) : Prop :=
  ∀ c : Dev Cert.KernelGateIdeal.nD,
    (Cert.Pre_finite_gate.fn (F := Ideal) (m ((c.tc : Thread Cert.KernelGateIdeal.nD Cert.KernelGateIdeal.τ).loc Cert.KernelGateIdeal.main_arg0)) (m ((c.tc : Thread Cert.KernelGateIdeal.nD Cert.KernelGateIdeal.τ).loc Cert.KernelGateIdeal.main_arg1)) (m ((c.tc : Thread Cert.KernelGateIdeal.nD Cert.KernelGateIdeal.τ).loc Cert.KernelGateIdeal.main_arg2))) = (fun _ => 1#1)

def Pre_ReferenceGateIdeal (m : (ℓ : Loc Cert.ReferenceGateIdeal.nD Cert.ReferenceGateIdeal.τ Cert.ReferenceGateIdeal.sig) → Buf (Elt Ideal) ℓ) : Prop :=
  True

def Pre_ReferenceGateIdeal_finite_gate [hPre_finite_gate : Cert.Pre_finite_gate.Facts] (m : (ℓ : Loc Cert.ReferenceGateIdeal.nD Cert.ReferenceGateIdeal.τ Cert.ReferenceGateIdeal.sig) → Buf (Elt Ideal) ℓ) : Prop :=
  ∀ c : Dev Cert.ReferenceGateIdeal.nD,
    (Cert.Pre_finite_gate.fn (F := Ideal) (m ((c.tc : Thread Cert.ReferenceGateIdeal.nD Cert.ReferenceGateIdeal.τ).loc Cert.ReferenceGateIdeal.main_arg0)) (m ((c.tc : Thread Cert.ReferenceGateIdeal.nD Cert.ReferenceGateIdeal.τ).loc Cert.ReferenceGateIdeal.main_arg1)) (m ((c.tc : Thread Cert.ReferenceGateIdeal.nD Cert.ReferenceGateIdeal.τ).loc Cert.ReferenceGateIdeal.main_arg2))) = (fun _ => 1#1)

def Pre_KernelTrunk (m : (ℓ : Loc Cert.KernelTrunk.nD Cert.KernelTrunk.τ Cert.KernelTrunk.sig) → Buf (Elt Bits) ℓ) : Prop :=
  True

def Pre_KernelTrunkIdeal (m : (ℓ : Loc Cert.KernelTrunkIdeal.nD Cert.KernelTrunkIdeal.τ Cert.KernelTrunkIdeal.sig) → Buf (Elt Ideal) ℓ) : Prop :=
  True

def Pre_KernelTrunkIdeal_finite_trunk [hPre_finite_trunk : Cert.Pre_finite_trunk.Facts] (m : (ℓ : Loc Cert.KernelTrunkIdeal.nD Cert.KernelTrunkIdeal.τ Cert.KernelTrunkIdeal.sig) → Buf (Elt Ideal) ℓ) : Prop :=
  ∀ c : Dev Cert.KernelTrunkIdeal.nD,
    (Cert.Pre_finite_trunk.fn (F := Ideal) (m ((c.tc : Thread Cert.KernelTrunkIdeal.nD Cert.KernelTrunkIdeal.τ).loc Cert.KernelTrunkIdeal.main_arg0)) (m ((c.tc : Thread Cert.KernelTrunkIdeal.nD Cert.KernelTrunkIdeal.τ).loc Cert.KernelTrunkIdeal.main_arg1)) (m ((c.tc : Thread Cert.KernelTrunkIdeal.nD Cert.KernelTrunkIdeal.τ).loc Cert.KernelTrunkIdeal.main_arg2)) (m ((c.tc : Thread Cert.KernelTrunkIdeal.nD Cert.KernelTrunkIdeal.τ).loc Cert.KernelTrunkIdeal.main_arg3)) (m ((c.tc : Thread Cert.KernelTrunkIdeal.nD Cert.KernelTrunkIdeal.τ).loc Cert.KernelTrunkIdeal.main_arg4))) = (fun _ => 1#1)

def Pre_ReferenceTrunkIdeal (m : (ℓ : Loc Cert.ReferenceTrunkIdeal.nD Cert.ReferenceTrunkIdeal.τ Cert.ReferenceTrunkIdeal.sig) → Buf (Elt Ideal) ℓ) : Prop :=
  True

def Pre_ReferenceTrunkIdeal_finite_trunk [hPre_finite_trunk : Cert.Pre_finite_trunk.Facts] (m : (ℓ : Loc Cert.ReferenceTrunkIdeal.nD Cert.ReferenceTrunkIdeal.τ Cert.ReferenceTrunkIdeal.sig) → Buf (Elt Ideal) ℓ) : Prop :=
  ∀ c : Dev Cert.ReferenceTrunkIdeal.nD,
    (Cert.Pre_finite_trunk.fn (F := Ideal) (m ((c.tc : Thread Cert.ReferenceTrunkIdeal.nD Cert.ReferenceTrunkIdeal.τ).loc Cert.ReferenceTrunkIdeal.main_arg0)) (m ((c.tc : Thread Cert.ReferenceTrunkIdeal.nD Cert.ReferenceTrunkIdeal.τ).loc Cert.ReferenceTrunkIdeal.main_arg1)) (m ((c.tc : Thread Cert.ReferenceTrunkIdeal.nD Cert.ReferenceTrunkIdeal.τ).loc Cert.ReferenceTrunkIdeal.main_arg2)) (m ((c.tc : Thread Cert.ReferenceTrunkIdeal.nD Cert.ReferenceTrunkIdeal.τ).loc Cert.ReferenceTrunkIdeal.main_arg3)) (m ((c.tc : Thread Cert.ReferenceTrunkIdeal.nD Cert.ReferenceTrunkIdeal.τ).loc Cert.ReferenceTrunkIdeal.main_arg4))) = (fun _ => 1#1)

def Pre_KernelJoin (m : (ℓ : Loc Cert.KernelJoin.nD Cert.KernelJoin.τ Cert.KernelJoin.sig) → Buf (Elt Bits) ℓ) : Prop :=
  True

def Pre_KernelJoinIdeal (m : (ℓ : Loc Cert.KernelJoinIdeal.nD Cert.KernelJoinIdeal.τ Cert.KernelJoinIdeal.sig) → Buf (Elt Ideal) ℓ) : Prop :=
  True

def Pre_KernelJoinIdeal_finite_join [hPre_finite_join : Cert.Pre_finite_join.Facts] (m : (ℓ : Loc Cert.KernelJoinIdeal.nD Cert.KernelJoinIdeal.τ Cert.KernelJoinIdeal.sig) → Buf (Elt Ideal) ℓ) : Prop :=
  ∀ c : Dev Cert.KernelJoinIdeal.nD,
    (Cert.Pre_finite_join.fn (F := Ideal) (m ((c.tc : Thread Cert.KernelJoinIdeal.nD Cert.KernelJoinIdeal.τ).loc Cert.KernelJoinIdeal.main_arg0)) (m ((c.tc : Thread Cert.KernelJoinIdeal.nD Cert.KernelJoinIdeal.τ).loc Cert.KernelJoinIdeal.main_arg1)) (m ((c.tc : Thread Cert.KernelJoinIdeal.nD Cert.KernelJoinIdeal.τ).loc Cert.KernelJoinIdeal.main_arg2)) (m ((c.tc : Thread Cert.KernelJoinIdeal.nD Cert.KernelJoinIdeal.τ).loc Cert.KernelJoinIdeal.main_arg3)) (m ((c.tc : Thread Cert.KernelJoinIdeal.nD Cert.KernelJoinIdeal.τ).loc Cert.KernelJoinIdeal.main_arg4))) = (fun _ => 1#1)

def Pre_ReferenceJoinIdeal (m : (ℓ : Loc Cert.ReferenceJoinIdeal.nD Cert.ReferenceJoinIdeal.τ Cert.ReferenceJoinIdeal.sig) → Buf (Elt Ideal) ℓ) : Prop :=
  True

def Pre_ReferenceJoinIdeal_finite_join [hPre_finite_join : Cert.Pre_finite_join.Facts] (m : (ℓ : Loc Cert.ReferenceJoinIdeal.nD Cert.ReferenceJoinIdeal.τ Cert.ReferenceJoinIdeal.sig) → Buf (Elt Ideal) ℓ) : Prop :=
  ∀ c : Dev Cert.ReferenceJoinIdeal.nD,
    (Cert.Pre_finite_join.fn (F := Ideal) (m ((c.tc : Thread Cert.ReferenceJoinIdeal.nD Cert.ReferenceJoinIdeal.τ).loc Cert.ReferenceJoinIdeal.main_arg0)) (m ((c.tc : Thread Cert.ReferenceJoinIdeal.nD Cert.ReferenceJoinIdeal.τ).loc Cert.ReferenceJoinIdeal.main_arg1)) (m ((c.tc : Thread Cert.ReferenceJoinIdeal.nD Cert.ReferenceJoinIdeal.τ).loc Cert.ReferenceJoinIdeal.main_arg2)) (m ((c.tc : Thread Cert.ReferenceJoinIdeal.nD Cert.ReferenceJoinIdeal.τ).loc Cert.ReferenceJoinIdeal.main_arg3)) (m ((c.tc : Thread Cert.ReferenceJoinIdeal.nD Cert.ReferenceJoinIdeal.τ).loc Cert.ReferenceJoinIdeal.main_arg4))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelTn (m : (ℓ : Loc Cert.KernelTn.nD Cert.KernelTn.τ Cert.KernelTn.sig) → Buf (Elt Bits) ℓ) : Prop :=
  True

def Pre_KernelTnIdeal (m : (ℓ : Loc Cert.KernelTnIdeal.nD Cert.KernelTnIdeal.τ Cert.KernelTnIdeal.sig) → Buf (Elt Ideal) ℓ) : Prop :=
  True

def Pre_ReferenceTnIdeal (m : (ℓ : Loc Cert.ReferenceTnIdeal.nD Cert.ReferenceTnIdeal.τ Cert.ReferenceTnIdeal.sig) → Buf (Elt Ideal) ℓ) : Prop :=
  True

def Pre_KernelNt (m : (ℓ : Loc Cert.KernelNt.nD Cert.KernelNt.τ Cert.KernelNt.sig) → Buf (Elt Bits) ℓ) : Prop :=
  True

def Pre_KernelNtIdeal (m : (ℓ : Loc Cert.KernelNtIdeal.nD Cert.KernelNtIdeal.τ Cert.KernelNtIdeal.sig) → Buf (Elt Ideal) ℓ) : Prop :=
  True

def Pre_ReferenceNtIdeal (m : (ℓ : Loc Cert.ReferenceNtIdeal.nD Cert.ReferenceNtIdeal.τ Cert.ReferenceNtIdeal.sig) → Buf (Elt Ideal) ℓ) : Prop :=
  True

def quiescent_KernelLn [hKernelLn : Cert.KernelLn.Facts] : Prop :=
  ∀ (m : (ℓ : Loc Cert.KernelLn.nD Cert.KernelLn.τ Cert.KernelLn.sig) → Buf (Elt Bits) ℓ) (g : Dev Cert.KernelLn.nD → PrngReg), Pre_KernelLn m →
    θ_run (Cert.KernelLn.defs (F := Bits)) (onTc (τ := Cert.KernelLn.τ) (Cert.KernelLn.main (F := Bits))) ⟨m, fun _ => 0, g⟩ (fun r => (∀ c : Dev Cert.KernelLn.nD,
      r.2.mem ((c.tc : Thread Cert.KernelLn.nD Cert.KernelLn.τ).loc Cert.KernelLn.main_arg0) = m ((c.tc : Thread Cert.KernelLn.nD Cert.KernelLn.τ).loc Cert.KernelLn.main_arg0)
      ∧ r.2.mem ((c.tc : Thread Cert.KernelLn.nD Cert.KernelLn.τ).loc Cert.KernelLn.main_arg1) = m ((c.tc : Thread Cert.KernelLn.nD Cert.KernelLn.τ).loc Cert.KernelLn.main_arg1)
      ∧ r.2.mem ((c.tc : Thread Cert.KernelLn.nD Cert.KernelLn.τ).loc Cert.KernelLn.main_arg2) = m ((c.tc : Thread Cert.KernelLn.nD Cert.KernelLn.τ).loc Cert.KernelLn.main_arg2))
      ∧ r.2.sem = fun _ => 0)

def quiescent_KernelLnIdeal [hKernelLnIdeal : Cert.KernelLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2))
      ∧ r.2.sem = fun _ => 0)

def quiescent_KernelLnIdeal_pre_finite_ln [hKernelLnIdeal : Cert.KernelLnIdeal.Facts] [hPre_finite_ln : Cert.Pre_finite_ln.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal_finite_ln m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2))
      ∧ r.2.sem = fun _ => 0)

def quiescent_ReferenceLnIdeal [hReferenceLnIdeal : Cert.ReferenceLnIdeal.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2))
      ∧ r.2.sem = fun _ => 0)

def quiescent_ReferenceLnIdeal_pre_finite_ln [hReferenceLnIdeal : Cert.ReferenceLnIdeal.Facts] [hPre_finite_ln : Cert.Pre_finite_ln.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal_finite_ln m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1))
      ∧ r.2.sem = fun _ => 0)

def quiescent_KernelAttnIdeal_pre_finite_attn [hKernelAttnIdeal : Cert.KernelAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite_attn m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1))
      ∧ r.2.sem = fun _ => 0)

def quiescent_ReferenceAttnIdeal_pre_finite_attn [hReferenceAttnIdeal : Cert.ReferenceAttnIdeal.Facts] [hPre_finite_attn : Cert.Pre_finite_attn.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite_attn m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3))
      ∧ r.2.sem = fun _ => 0)

def quiescent_KernelMixIdeal_pre_finite_mix [hKernelMixIdeal : Cert.KernelMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal_finite_mix m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3))
      ∧ r.2.sem = fun _ => 0)

def quiescent_ReferenceMixIdeal_pre_finite_mix [hReferenceMixIdeal : Cert.ReferenceMixIdeal.Facts] [hPre_finite_mix : Cert.Pre_finite_mix.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal_finite_mix m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3))
      ∧ r.2.sem = fun _ => 0)

def quiescent_KernelPool [hKernelPool : Cert.KernelPool.Facts] : Prop :=
  ∀ (m : (ℓ : Loc Cert.KernelPool.nD Cert.KernelPool.τ Cert.KernelPool.sig) → Buf (Elt Bits) ℓ) (g : Dev Cert.KernelPool.nD → PrngReg), Pre_KernelPool m →
    θ_run (Cert.KernelPool.defs (F := Bits)) (onTc (τ := Cert.KernelPool.τ) (Cert.KernelPool.main (F := Bits))) ⟨m, fun _ => 0, g⟩ (fun r => (∀ c : Dev Cert.KernelPool.nD,
      r.2.mem ((c.tc : Thread Cert.KernelPool.nD Cert.KernelPool.τ).loc Cert.KernelPool.main_arg0) = m ((c.tc : Thread Cert.KernelPool.nD Cert.KernelPool.τ).loc Cert.KernelPool.main_arg0)
      ∧ r.2.mem ((c.tc : Thread Cert.KernelPool.nD Cert.KernelPool.τ).loc Cert.KernelPool.main_arg1) = m ((c.tc : Thread Cert.KernelPool.nD Cert.KernelPool.τ).loc Cert.KernelPool.main_arg1))
      ∧ r.2.sem = fun _ => 0)

def quiescent_KernelPoolIdeal [hKernelPoolIdeal : Cert.KernelPoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1))
      ∧ r.2.sem = fun _ => 0)

def quiescent_KernelPoolIdeal_pre_finite_pool [hKernelPoolIdeal : Cert.KernelPoolIdeal.Facts] [hPre_finite_pool : Cert.Pre_finite_pool.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal_finite_pool m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1))
      ∧ r.2.sem = fun _ => 0)

def quiescent_ReferencePoolIdeal [hReferencePoolIdeal : Cert.ReferencePoolIdeal.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1))
      ∧ r.2.sem = fun _ => 0)

def quiescent_ReferencePoolIdeal_pre_finite_pool [hReferencePoolIdeal : Cert.ReferencePoolIdeal.Facts] [hPre_finite_pool : Cert.Pre_finite_pool.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal_finite_pool m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1))
      ∧ r.2.sem = fun _ => 0)

def quiescent_KernelConvIdeal_pre_finite_conv [hKernelConvIdeal : Cert.KernelConvIdeal.Facts] [hPre_finite_conv : Cert.Pre_finite_conv.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal_finite_conv m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1))
      ∧ r.2.sem = fun _ => 0)

def quiescent_ReferenceConvIdeal_pre_finite_conv [hReferenceConvIdeal : Cert.ReferenceConvIdeal.Facts] [hPre_finite_conv : Cert.Pre_finite_conv.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal_finite_conv m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2)
      ∧ r.2.mem ((c.tc : Thread Cert.KernelAct.nD Cert.KernelAct.τ).loc Cert.KernelAct.main_arg3) = m ((c.tc : Thread Cert.KernelAct.nD Cert.KernelAct.τ).loc Cert.KernelAct.main_arg3))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_KernelActIdeal_pre_finite_act [hKernelActIdeal : Cert.KernelActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal_finite_act m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_ReferenceActIdeal_pre_finite_act [hReferenceActIdeal : Cert.ReferenceActIdeal.Facts] [hPre_finite_act : Cert.Pre_finite_act.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal_finite_act m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ r.2.sem = fun _ => 0)

def quiescent_KernelLossIdeal_pre_finite_loss [hKernelLossIdeal : Cert.KernelLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_finite_loss m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1))
      ∧ r.2.sem = fun _ => 0)

def quiescent_ReferenceLossIdeal_pre_finite_loss [hReferenceLossIdeal : Cert.ReferenceLossIdeal.Facts] [hPre_finite_loss : Cert.Pre_finite_loss.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_finite_loss m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0))
      ∧ r.2.sem = fun _ => 0)

def quiescent_KernelFwdIdeal_pre_finite_fwd [hKernelFwdIdeal : Cert.KernelFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal_finite_fwd m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0))
      ∧ r.2.sem = fun _ => 0)

def quiescent_ReferenceFwdIdeal_pre_finite_fwd [hReferenceFwdIdeal : Cert.ReferenceFwdIdeal.Facts] [hPre_finite_fwd : Cert.Pre_finite_fwd.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal_finite_fwd m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ r.2.sem = fun _ => 0)

def quiescent_KernelGateIdeal_pre_finite_gate [hKernelGateIdeal : Cert.KernelGateIdeal.Facts] [hPre_finite_gate : Cert.Pre_finite_gate.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal_finite_gate m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2))
      ∧ r.2.sem = fun _ => 0)

def quiescent_ReferenceGateIdeal_pre_finite_gate [hReferenceGateIdeal : Cert.ReferenceGateIdeal.Facts] [hPre_finite_gate : Cert.Pre_finite_gate.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal_finite_gate m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2))
      ∧ r.2.sem = fun _ => 0)

def quiescent_KernelTrunk [hKernelTrunk : Cert.KernelTrunk.Facts] : Prop :=
  ∀ (m : (ℓ : Loc Cert.KernelTrunk.nD Cert.KernelTrunk.τ Cert.KernelTrunk.sig) → Buf (Elt Bits) ℓ) (g : Dev Cert.KernelTrunk.nD → PrngReg), Pre_KernelTrunk m →
    θ_run (Cert.KernelTrunk.defs (F := Bits)) (onTc (τ := Cert.KernelTrunk.τ) (Cert.KernelTrunk.main (F := Bits))) ⟨m, fun _ => 0, g⟩ (fun r => (∀ c : Dev Cert.KernelTrunk.nD,
      r.2.mem ((c.tc : Thread Cert.KernelTrunk.nD Cert.KernelTrunk.τ).loc Cert.KernelTrunk.main_arg0) = m ((c.tc : Thread Cert.KernelTrunk.nD Cert.KernelTrunk.τ).loc Cert.KernelTrunk.main_arg0)
      ∧ r.2.mem ((c.tc : Thread Cert.KernelTrunk.nD Cert.KernelTrunk.τ).loc Cert.KernelTrunk.main_arg1) = m ((c.tc : Thread Cert.KernelTrunk.nD Cert.KernelTrunk.τ).loc Cert.KernelTrunk.main_arg1)
      ∧ r.2.mem ((c.tc : Thread Cert.KernelTrunk.nD Cert.KernelTrunk.τ).loc Cert.KernelTrunk.main_arg2) = m ((c.tc : Thread Cert.KernelTrunk.nD Cert.KernelTrunk.τ).loc Cert.KernelTrunk.main_arg2)
      ∧ r.2.mem ((c.tc : Thread Cert.KernelTrunk.nD Cert.KernelTrunk.τ).loc Cert.KernelTrunk.main_arg3) = m ((c.tc : Thread Cert.KernelTrunk.nD Cert.KernelTrunk.τ).loc Cert.KernelTrunk.main_arg3)
      ∧ r.2.mem ((c.tc : Thread Cert.KernelTrunk.nD Cert.KernelTrunk.τ).loc Cert.KernelTrunk.main_arg4) = m ((c.tc : Thread Cert.KernelTrunk.nD Cert.KernelTrunk.τ).loc Cert.KernelTrunk.main_arg4))
      ∧ r.2.sem = fun _ => 0)

def quiescent_KernelTrunkIdeal [hKernelTrunkIdeal : Cert.KernelTrunkIdeal.Facts] : Prop :=
  ∀ (m : (ℓ : Loc Cert.KernelTrunkIdeal.nD Cert.KernelTrunkIdeal.τ Cert.KernelTrunkIdeal.sig) → Buf (Elt Ideal) ℓ) (g : Dev Cert.KernelTrunkIdeal.nD → PrngReg), Pre_KernelTrunkIdeal m →
    θ_run (Cert.KernelTrunkIdeal.defs (F := Ideal)) (onTc (τ := Cert.KernelTrunkIdeal.τ) (Cert.KernelTrunkIdeal.main (F := Ideal))) ⟨m, fun _ => 0, g⟩ (fun r => (∀ c : Dev Cert.KernelTrunkIdeal.nD,
      r.2.mem ((c.tc : Thread Cert.KernelTrunkIdeal.nD Cert.KernelTrunkIdeal.τ).loc Cert.KernelTrunkIdeal.main_arg0) = m ((c.tc : Thread Cert.KernelTrunkIdeal.nD Cert.KernelTrunkIdeal.τ).loc Cert.KernelTrunkIdeal.main_arg0)
      ∧ r.2.mem ((c.tc : Thread Cert.KernelTrunkIdeal.nD Cert.KernelTrunkIdeal.τ).loc Cert.KernelTrunkIdeal.main_arg1) = m ((c.tc : Thread Cert.KernelTrunkIdeal.nD Cert.KernelTrunkIdeal.τ).loc Cert.KernelTrunkIdeal.main_arg1)
      ∧ r.2.mem ((c.tc : Thread Cert.KernelTrunkIdeal.nD Cert.KernelTrunkIdeal.τ).loc Cert.KernelTrunkIdeal.main_arg2) = m ((c.tc : Thread Cert.KernelTrunkIdeal.nD Cert.KernelTrunkIdeal.τ).loc Cert.KernelTrunkIdeal.main_arg2)
      ∧ r.2.mem ((c.tc : Thread Cert.KernelTrunkIdeal.nD Cert.KernelTrunkIdeal.τ).loc Cert.KernelTrunkIdeal.main_arg3) = m ((c.tc : Thread Cert.KernelTrunkIdeal.nD Cert.KernelTrunkIdeal.τ).loc Cert.KernelTrunkIdeal.main_arg3)
      ∧ r.2.mem ((c.tc : Thread Cert.KernelTrunkIdeal.nD Cert.KernelTrunkIdeal.τ).loc Cert.KernelTrunkIdeal.main_arg4) = m ((c.tc : Thread Cert.KernelTrunkIdeal.nD Cert.KernelTrunkIdeal.τ).loc Cert.KernelTrunkIdeal.main_arg4))
      ∧ r.2.sem = fun _ => 0)

def quiescent_KernelTrunkIdeal_pre_finite_trunk [hKernelTrunkIdeal : Cert.KernelTrunkIdeal.Facts] [hPre_finite_trunk : Cert.Pre_finite_trunk.Facts] : Prop :=
  ∀ (m : (ℓ : Loc Cert.KernelTrunkIdeal.nD Cert.KernelTrunkIdeal.τ Cert.KernelTrunkIdeal.sig) → Buf (Elt Ideal) ℓ) (g : Dev Cert.KernelTrunkIdeal.nD → PrngReg), Pre_KernelTrunkIdeal_finite_trunk m →
    θ_run (Cert.KernelTrunkIdeal.defs (F := Ideal)) (onTc (τ := Cert.KernelTrunkIdeal.τ) (Cert.KernelTrunkIdeal.main (F := Ideal))) ⟨m, fun _ => 0, g⟩ (fun r => (∀ c : Dev Cert.KernelTrunkIdeal.nD,
      r.2.mem ((c.tc : Thread Cert.KernelTrunkIdeal.nD Cert.KernelTrunkIdeal.τ).loc Cert.KernelTrunkIdeal.main_arg0) = m ((c.tc : Thread Cert.KernelTrunkIdeal.nD Cert.KernelTrunkIdeal.τ).loc Cert.KernelTrunkIdeal.main_arg0)
      ∧ r.2.mem ((c.tc : Thread Cert.KernelTrunkIdeal.nD Cert.KernelTrunkIdeal.τ).loc Cert.KernelTrunkIdeal.main_arg1) = m ((c.tc : Thread Cert.KernelTrunkIdeal.nD Cert.KernelTrunkIdeal.τ).loc Cert.KernelTrunkIdeal.main_arg1)
      ∧ r.2.mem ((c.tc : Thread Cert.KernelTrunkIdeal.nD Cert.KernelTrunkIdeal.τ).loc Cert.KernelTrunkIdeal.main_arg2) = m ((c.tc : Thread Cert.KernelTrunkIdeal.nD Cert.KernelTrunkIdeal.τ).loc Cert.KernelTrunkIdeal.main_arg2)
      ∧ r.2.mem ((c.tc : Thread Cert.KernelTrunkIdeal.nD Cert.KernelTrunkIdeal.τ).loc Cert.KernelTrunkIdeal.main_arg3) = m ((c.tc : Thread Cert.KernelTrunkIdeal.nD Cert.KernelTrunkIdeal.τ).loc Cert.KernelTrunkIdeal.main_arg3)
      ∧ r.2.mem ((c.tc : Thread Cert.KernelTrunkIdeal.nD Cert.KernelTrunkIdeal.τ).loc Cert.KernelTrunkIdeal.main_arg4) = m ((c.tc : Thread Cert.KernelTrunkIdeal.nD Cert.KernelTrunkIdeal.τ).loc Cert.KernelTrunkIdeal.main_arg4))
      ∧ r.2.sem = fun _ => 0)

def quiescent_ReferenceTrunkIdeal [hReferenceTrunkIdeal : Cert.ReferenceTrunkIdeal.Facts] : Prop :=
  ∀ (m : (ℓ : Loc Cert.ReferenceTrunkIdeal.nD Cert.ReferenceTrunkIdeal.τ Cert.ReferenceTrunkIdeal.sig) → Buf (Elt Ideal) ℓ) (g : Dev Cert.ReferenceTrunkIdeal.nD → PrngReg), Pre_ReferenceTrunkIdeal m →
    θ_run (Cert.ReferenceTrunkIdeal.defs (F := Ideal)) (onTc (τ := Cert.ReferenceTrunkIdeal.τ) (Cert.ReferenceTrunkIdeal.main (F := Ideal))) ⟨m, fun _ => 0, g⟩ (fun r => (∀ c : Dev Cert.ReferenceTrunkIdeal.nD,
      r.2.mem ((c.tc : Thread Cert.ReferenceTrunkIdeal.nD Cert.ReferenceTrunkIdeal.τ).loc Cert.ReferenceTrunkIdeal.main_arg0) = m ((c.tc : Thread Cert.ReferenceTrunkIdeal.nD Cert.ReferenceTrunkIdeal.τ).loc Cert.ReferenceTrunkIdeal.main_arg0)
      ∧ r.2.mem ((c.tc : Thread Cert.ReferenceTrunkIdeal.nD Cert.ReferenceTrunkIdeal.τ).loc Cert.ReferenceTrunkIdeal.main_arg1) = m ((c.tc : Thread Cert.ReferenceTrunkIdeal.nD Cert.ReferenceTrunkIdeal.τ).loc Cert.ReferenceTrunkIdeal.main_arg1)
      ∧ r.2.mem ((c.tc : Thread Cert.ReferenceTrunkIdeal.nD Cert.ReferenceTrunkIdeal.τ).loc Cert.ReferenceTrunkIdeal.main_arg2) = m ((c.tc : Thread Cert.ReferenceTrunkIdeal.nD Cert.ReferenceTrunkIdeal.τ).loc Cert.ReferenceTrunkIdeal.main_arg2)
      ∧ r.2.mem ((c.tc : Thread Cert.ReferenceTrunkIdeal.nD Cert.ReferenceTrunkIdeal.τ).loc Cert.ReferenceTrunkIdeal.main_arg3) = m ((c.tc : Thread Cert.ReferenceTrunkIdeal.nD Cert.ReferenceTrunkIdeal.τ).loc Cert.ReferenceTrunkIdeal.main_arg3)
      ∧ r.2.mem ((c.tc : Thread Cert.ReferenceTrunkIdeal.nD Cert.ReferenceTrunkIdeal.τ).loc Cert.ReferenceTrunkIdeal.main_arg4) = m ((c.tc : Thread Cert.ReferenceTrunkIdeal.nD Cert.ReferenceTrunkIdeal.τ).loc Cert.ReferenceTrunkIdeal.main_arg4))
      ∧ r.2.sem = fun _ => 0)

def quiescent_ReferenceTrunkIdeal_pre_finite_trunk [hReferenceTrunkIdeal : Cert.ReferenceTrunkIdeal.Facts] [hPre_finite_trunk : Cert.Pre_finite_trunk.Facts] : Prop :=
  ∀ (m : (ℓ : Loc Cert.ReferenceTrunkIdeal.nD Cert.ReferenceTrunkIdeal.τ Cert.ReferenceTrunkIdeal.sig) → Buf (Elt Ideal) ℓ) (g : Dev Cert.ReferenceTrunkIdeal.nD → PrngReg), Pre_ReferenceTrunkIdeal_finite_trunk m →
    θ_run (Cert.ReferenceTrunkIdeal.defs (F := Ideal)) (onTc (τ := Cert.ReferenceTrunkIdeal.τ) (Cert.ReferenceTrunkIdeal.main (F := Ideal))) ⟨m, fun _ => 0, g⟩ (fun r => (∀ c : Dev Cert.ReferenceTrunkIdeal.nD,
      r.2.mem ((c.tc : Thread Cert.ReferenceTrunkIdeal.nD Cert.ReferenceTrunkIdeal.τ).loc Cert.ReferenceTrunkIdeal.main_arg0) = m ((c.tc : Thread Cert.ReferenceTrunkIdeal.nD Cert.ReferenceTrunkIdeal.τ).loc Cert.ReferenceTrunkIdeal.main_arg0)
      ∧ r.2.mem ((c.tc : Thread Cert.ReferenceTrunkIdeal.nD Cert.ReferenceTrunkIdeal.τ).loc Cert.ReferenceTrunkIdeal.main_arg1) = m ((c.tc : Thread Cert.ReferenceTrunkIdeal.nD Cert.ReferenceTrunkIdeal.τ).loc Cert.ReferenceTrunkIdeal.main_arg1)
      ∧ r.2.mem ((c.tc : Thread Cert.ReferenceTrunkIdeal.nD Cert.ReferenceTrunkIdeal.τ).loc Cert.ReferenceTrunkIdeal.main_arg2) = m ((c.tc : Thread Cert.ReferenceTrunkIdeal.nD Cert.ReferenceTrunkIdeal.τ).loc Cert.ReferenceTrunkIdeal.main_arg2)
      ∧ r.2.mem ((c.tc : Thread Cert.ReferenceTrunkIdeal.nD Cert.ReferenceTrunkIdeal.τ).loc Cert.ReferenceTrunkIdeal.main_arg3) = m ((c.tc : Thread Cert.ReferenceTrunkIdeal.nD Cert.ReferenceTrunkIdeal.τ).loc Cert.ReferenceTrunkIdeal.main_arg3)
      ∧ r.2.mem ((c.tc : Thread Cert.ReferenceTrunkIdeal.nD Cert.ReferenceTrunkIdeal.τ).loc Cert.ReferenceTrunkIdeal.main_arg4) = m ((c.tc : Thread Cert.ReferenceTrunkIdeal.nD Cert.ReferenceTrunkIdeal.τ).loc Cert.ReferenceTrunkIdeal.main_arg4))
      ∧ r.2.sem = fun _ => 0)

def quiescent_KernelJoin [hKernelJoin : Cert.KernelJoin.Facts] : Prop :=
  ∀ (m : (ℓ : Loc Cert.KernelJoin.nD Cert.KernelJoin.τ Cert.KernelJoin.sig) → Buf (Elt Bits) ℓ) (g : Dev Cert.KernelJoin.nD → PrngReg), Pre_KernelJoin m →
    θ_run (Cert.KernelJoin.defs (F := Bits)) (onTc (τ := Cert.KernelJoin.τ) (Cert.KernelJoin.main (F := Bits))) ⟨m, fun _ => 0, g⟩ (fun r => (∀ c : Dev Cert.KernelJoin.nD,
      r.2.mem ((c.tc : Thread Cert.KernelJoin.nD Cert.KernelJoin.τ).loc Cert.KernelJoin.main_arg0) = m ((c.tc : Thread Cert.KernelJoin.nD Cert.KernelJoin.τ).loc Cert.KernelJoin.main_arg0)
      ∧ r.2.mem ((c.tc : Thread Cert.KernelJoin.nD Cert.KernelJoin.τ).loc Cert.KernelJoin.main_arg1) = m ((c.tc : Thread Cert.KernelJoin.nD Cert.KernelJoin.τ).loc Cert.KernelJoin.main_arg1)
      ∧ r.2.mem ((c.tc : Thread Cert.KernelJoin.nD Cert.KernelJoin.τ).loc Cert.KernelJoin.main_arg2) = m ((c.tc : Thread Cert.KernelJoin.nD Cert.KernelJoin.τ).loc Cert.KernelJoin.main_arg2)
      ∧ r.2.mem ((c.tc : Thread Cert.KernelJoin.nD Cert.KernelJoin.τ).loc Cert.KernelJoin.main_arg3) = m ((c.tc : Thread Cert.KernelJoin.nD Cert.KernelJoin.τ).loc Cert.KernelJoin.main_arg3)
      ∧ r.2.mem ((c.tc : Thread Cert.KernelJoin.nD Cert.KernelJoin.τ).loc Cert.KernelJoin.main_arg4) = m ((c.tc : Thread Cert.KernelJoin.nD Cert.KernelJoin.τ).loc Cert.KernelJoin.main_arg4))
      ∧ r.2.sem = fun _ => 0)

def quiescent_KernelJoinIdeal [hKernelJoinIdeal : Cert.KernelJoinIdeal.Facts] : Prop :=
  ∀ (m : (ℓ : Loc Cert.KernelJoinIdeal.nD Cert.KernelJoinIdeal.τ Cert.KernelJoinIdeal.sig) → Buf (Elt Ideal) ℓ) (g : Dev Cert.KernelJoinIdeal.nD → PrngReg), Pre_KernelJoinIdeal m →
    θ_run (Cert.KernelJoinIdeal.defs (F := Ideal)) (onTc (τ := Cert.KernelJoinIdeal.τ) (Cert.KernelJoinIdeal.main (F := Ideal))) ⟨m, fun _ => 0, g⟩ (fun r => (∀ c : Dev Cert.KernelJoinIdeal.nD,
      r.2.mem ((c.tc : Thread Cert.KernelJoinIdeal.nD Cert.KernelJoinIdeal.τ).loc Cert.KernelJoinIdeal.main_arg0) = m ((c.tc : Thread Cert.KernelJoinIdeal.nD Cert.KernelJoinIdeal.τ).loc Cert.KernelJoinIdeal.main_arg0)
      ∧ r.2.mem ((c.tc : Thread Cert.KernelJoinIdeal.nD Cert.KernelJoinIdeal.τ).loc Cert.KernelJoinIdeal.main_arg1) = m ((c.tc : Thread Cert.KernelJoinIdeal.nD Cert.KernelJoinIdeal.τ).loc Cert.KernelJoinIdeal.main_arg1)
      ∧ r.2.mem ((c.tc : Thread Cert.KernelJoinIdeal.nD Cert.KernelJoinIdeal.τ).loc Cert.KernelJoinIdeal.main_arg2) = m ((c.tc : Thread Cert.KernelJoinIdeal.nD Cert.KernelJoinIdeal.τ).loc Cert.KernelJoinIdeal.main_arg2)
      ∧ r.2.mem ((c.tc : Thread Cert.KernelJoinIdeal.nD Cert.KernelJoinIdeal.τ).loc Cert.KernelJoinIdeal.main_arg3) = m ((c.tc : Thread Cert.KernelJoinIdeal.nD Cert.KernelJoinIdeal.τ).loc Cert.KernelJoinIdeal.main_arg3)
      ∧ r.2.mem ((c.tc : Thread Cert.KernelJoinIdeal.nD Cert.KernelJoinIdeal.τ).loc Cert.KernelJoinIdeal.main_arg4) = m ((c.tc : Thread Cert.KernelJoinIdeal.nD Cert.KernelJoinIdeal.τ).loc Cert.KernelJoinIdeal.main_arg4))
      ∧ r.2.sem = fun _ => 0)

def quiescent_KernelJoinIdeal_pre_finite_join [hKernelJoinIdeal : Cert.KernelJoinIdeal.Facts] [hPre_finite_join : Cert.Pre_finite_join.Facts] : Prop :=
  ∀ (m : (ℓ : Loc Cert.KernelJoinIdeal.nD Cert.KernelJoinIdeal.τ Cert.KernelJoinIdeal.sig) → Buf (Elt Ideal) ℓ) (g : Dev Cert.KernelJoinIdeal.nD → PrngReg), Pre_KernelJoinIdeal_finite_join m →
    θ_run (Cert.KernelJoinIdeal.defs (F := Ideal)) (onTc (τ := Cert.KernelJoinIdeal.τ) (Cert.KernelJoinIdeal.main (F := Ideal))) ⟨m, fun _ => 0, g⟩ (fun r => (∀ c : Dev Cert.KernelJoinIdeal.nD,
      r.2.mem ((c.tc : Thread Cert.KernelJoinIdeal.nD Cert.KernelJoinIdeal.τ).loc Cert.KernelJoinIdeal.main_arg0) = m ((c.tc : Thread Cert.KernelJoinIdeal.nD Cert.KernelJoinIdeal.τ).loc Cert.KernelJoinIdeal.main_arg0)
      ∧ r.2.mem ((c.tc : Thread Cert.KernelJoinIdeal.nD Cert.KernelJoinIdeal.τ).loc Cert.KernelJoinIdeal.main_arg1) = m ((c.tc : Thread Cert.KernelJoinIdeal.nD Cert.KernelJoinIdeal.τ).loc Cert.KernelJoinIdeal.main_arg1)
      ∧ r.2.mem ((c.tc : Thread Cert.KernelJoinIdeal.nD Cert.KernelJoinIdeal.τ).loc Cert.KernelJoinIdeal.main_arg2) = m ((c.tc : Thread Cert.KernelJoinIdeal.nD Cert.KernelJoinIdeal.τ).loc Cert.KernelJoinIdeal.main_arg2)
      ∧ r.2.mem ((c.tc : Thread Cert.KernelJoinIdeal.nD Cert.KernelJoinIdeal.τ).loc Cert.KernelJoinIdeal.main_arg3) = m ((c.tc : Thread Cert.KernelJoinIdeal.nD Cert.KernelJoinIdeal.τ).loc Cert.KernelJoinIdeal.main_arg3)
      ∧ r.2.mem ((c.tc : Thread Cert.KernelJoinIdeal.nD Cert.KernelJoinIdeal.τ).loc Cert.KernelJoinIdeal.main_arg4) = m ((c.tc : Thread Cert.KernelJoinIdeal.nD Cert.KernelJoinIdeal.τ).loc Cert.KernelJoinIdeal.main_arg4))
      ∧ r.2.sem = fun _ => 0)

def quiescent_ReferenceJoinIdeal [hReferenceJoinIdeal : Cert.ReferenceJoinIdeal.Facts] : Prop :=
  ∀ (m : (ℓ : Loc Cert.ReferenceJoinIdeal.nD Cert.ReferenceJoinIdeal.τ Cert.ReferenceJoinIdeal.sig) → Buf (Elt Ideal) ℓ) (g : Dev Cert.ReferenceJoinIdeal.nD → PrngReg), Pre_ReferenceJoinIdeal m →
    θ_run (Cert.ReferenceJoinIdeal.defs (F := Ideal)) (onTc (τ := Cert.ReferenceJoinIdeal.τ) (Cert.ReferenceJoinIdeal.main (F := Ideal))) ⟨m, fun _ => 0, g⟩ (fun r => (∀ c : Dev Cert.ReferenceJoinIdeal.nD,
      r.2.mem ((c.tc : Thread Cert.ReferenceJoinIdeal.nD Cert.ReferenceJoinIdeal.τ).loc Cert.ReferenceJoinIdeal.main_arg0) = m ((c.tc : Thread Cert.ReferenceJoinIdeal.nD Cert.ReferenceJoinIdeal.τ).loc Cert.ReferenceJoinIdeal.main_arg0)
      ∧ r.2.mem ((c.tc : Thread Cert.ReferenceJoinIdeal.nD Cert.ReferenceJoinIdeal.τ).loc Cert.ReferenceJoinIdeal.main_arg1) = m ((c.tc : Thread Cert.ReferenceJoinIdeal.nD Cert.ReferenceJoinIdeal.τ).loc Cert.ReferenceJoinIdeal.main_arg1)
      ∧ r.2.mem ((c.tc : Thread Cert.ReferenceJoinIdeal.nD Cert.ReferenceJoinIdeal.τ).loc Cert.ReferenceJoinIdeal.main_arg2) = m ((c.tc : Thread Cert.ReferenceJoinIdeal.nD Cert.ReferenceJoinIdeal.τ).loc Cert.ReferenceJoinIdeal.main_arg2)
      ∧ r.2.mem ((c.tc : Thread Cert.ReferenceJoinIdeal.nD Cert.ReferenceJoinIdeal.τ).loc Cert.ReferenceJoinIdeal.main_arg3) = m ((c.tc : Thread Cert.ReferenceJoinIdeal.nD Cert.ReferenceJoinIdeal.τ).loc Cert.ReferenceJoinIdeal.main_arg3)
      ∧ r.2.mem ((c.tc : Thread Cert.ReferenceJoinIdeal.nD Cert.ReferenceJoinIdeal.τ).loc Cert.ReferenceJoinIdeal.main_arg4) = m ((c.tc : Thread Cert.ReferenceJoinIdeal.nD Cert.ReferenceJoinIdeal.τ).loc Cert.ReferenceJoinIdeal.main_arg4))
      ∧ r.2.sem = fun _ => 0)

def quiescent_ReferenceJoinIdeal_pre_finite_join [hReferenceJoinIdeal : Cert.ReferenceJoinIdeal.Facts] [hPre_finite_join : Cert.Pre_finite_join.Facts] : Prop :=
  ∀ (m : (ℓ : Loc Cert.ReferenceJoinIdeal.nD Cert.ReferenceJoinIdeal.τ Cert.ReferenceJoinIdeal.sig) → Buf (Elt Ideal) ℓ) (g : Dev Cert.ReferenceJoinIdeal.nD → PrngReg), Pre_ReferenceJoinIdeal_finite_join m →
    θ_run (Cert.ReferenceJoinIdeal.defs (F := Ideal)) (onTc (τ := Cert.ReferenceJoinIdeal.τ) (Cert.ReferenceJoinIdeal.main (F := Ideal))) ⟨m, fun _ => 0, g⟩ (fun r => (∀ c : Dev Cert.ReferenceJoinIdeal.nD,
      r.2.mem ((c.tc : Thread Cert.ReferenceJoinIdeal.nD Cert.ReferenceJoinIdeal.τ).loc Cert.ReferenceJoinIdeal.main_arg0) = m ((c.tc : Thread Cert.ReferenceJoinIdeal.nD Cert.ReferenceJoinIdeal.τ).loc Cert.ReferenceJoinIdeal.main_arg0)
      ∧ r.2.mem ((c.tc : Thread Cert.ReferenceJoinIdeal.nD Cert.ReferenceJoinIdeal.τ).loc Cert.ReferenceJoinIdeal.main_arg1) = m ((c.tc : Thread Cert.ReferenceJoinIdeal.nD Cert.ReferenceJoinIdeal.τ).loc Cert.ReferenceJoinIdeal.main_arg1)
      ∧ r.2.mem ((c.tc : Thread Cert.ReferenceJoinIdeal.nD Cert.ReferenceJoinIdeal.τ).loc Cert.ReferenceJoinIdeal.main_arg2) = m ((c.tc : Thread Cert.ReferenceJoinIdeal.nD Cert.ReferenceJoinIdeal.τ).loc Cert.ReferenceJoinIdeal.main_arg2)
      ∧ r.2.mem ((c.tc : Thread Cert.ReferenceJoinIdeal.nD Cert.ReferenceJoinIdeal.τ).loc Cert.ReferenceJoinIdeal.main_arg3) = m ((c.tc : Thread Cert.ReferenceJoinIdeal.nD Cert.ReferenceJoinIdeal.τ).loc Cert.ReferenceJoinIdeal.main_arg3)
      ∧ r.2.mem ((c.tc : Thread Cert.ReferenceJoinIdeal.nD Cert.ReferenceJoinIdeal.τ).loc Cert.ReferenceJoinIdeal.main_arg4) = m ((c.tc : Thread Cert.ReferenceJoinIdeal.nD Cert.ReferenceJoinIdeal.τ).loc Cert.ReferenceJoinIdeal.main_arg4))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelTn [hKernelTn : Cert.KernelTn.Facts] : Prop :=
  ∀ (m : (ℓ : Loc Cert.KernelTn.nD Cert.KernelTn.τ Cert.KernelTn.sig) → Buf (Elt Bits) ℓ) (g : Dev Cert.KernelTn.nD → PrngReg), Pre_KernelTn m →
    θ_run (Cert.KernelTn.defs (F := Bits)) (onTc (τ := Cert.KernelTn.τ) (Cert.KernelTn.main (F := Bits))) ⟨m, fun _ => 0, g⟩ (fun r => (∀ c : Dev Cert.KernelTn.nD,
      r.2.mem ((c.tc : Thread Cert.KernelTn.nD Cert.KernelTn.τ).loc Cert.KernelTn.main_arg0) = m ((c.tc : Thread Cert.KernelTn.nD Cert.KernelTn.τ).loc Cert.KernelTn.main_arg0)
      ∧ r.2.mem ((c.tc : Thread Cert.KernelTn.nD Cert.KernelTn.τ).loc Cert.KernelTn.main_arg1) = m ((c.tc : Thread Cert.KernelTn.nD Cert.KernelTn.τ).loc Cert.KernelTn.main_arg1))
      ∧ r.2.sem = fun _ => 0)

def quiescent_KernelTnIdeal [hKernelTnIdeal : Cert.KernelTnIdeal.Facts] : Prop :=
  ∀ (m : (ℓ : Loc Cert.KernelTnIdeal.nD Cert.KernelTnIdeal.τ Cert.KernelTnIdeal.sig) → Buf (Elt Ideal) ℓ) (g : Dev Cert.KernelTnIdeal.nD → PrngReg), Pre_KernelTnIdeal m →
    θ_run (Cert.KernelTnIdeal.defs (F := Ideal)) (onTc (τ := Cert.KernelTnIdeal.τ) (Cert.KernelTnIdeal.main (F := Ideal))) ⟨m, fun _ => 0, g⟩ (fun r => (∀ c : Dev Cert.KernelTnIdeal.nD,
      r.2.mem ((c.tc : Thread Cert.KernelTnIdeal.nD Cert.KernelTnIdeal.τ).loc Cert.KernelTnIdeal.main_arg0) = m ((c.tc : Thread Cert.KernelTnIdeal.nD Cert.KernelTnIdeal.τ).loc Cert.KernelTnIdeal.main_arg0)
      ∧ r.2.mem ((c.tc : Thread Cert.KernelTnIdeal.nD Cert.KernelTnIdeal.τ).loc Cert.KernelTnIdeal.main_arg1) = m ((c.tc : Thread Cert.KernelTnIdeal.nD Cert.KernelTnIdeal.τ).loc Cert.KernelTnIdeal.main_arg1))
      ∧ r.2.sem = fun _ => 0)

def quiescent_ReferenceTnIdeal [hReferenceTnIdeal : Cert.ReferenceTnIdeal.Facts] : Prop :=
  ∀ (m : (ℓ : Loc Cert.ReferenceTnIdeal.nD Cert.ReferenceTnIdeal.τ Cert.ReferenceTnIdeal.sig) → Buf (Elt Ideal) ℓ) (g : Dev Cert.ReferenceTnIdeal.nD → PrngReg), Pre_ReferenceTnIdeal m →
    θ_run (Cert.ReferenceTnIdeal.defs (F := Ideal)) (onTc (τ := Cert.ReferenceTnIdeal.τ) (Cert.ReferenceTnIdeal.main (F := Ideal))) ⟨m, fun _ => 0, g⟩ (fun r => (∀ c : Dev Cert.ReferenceTnIdeal.nD,
      r.2.mem ((c.tc : Thread Cert.ReferenceTnIdeal.nD Cert.ReferenceTnIdeal.τ).loc Cert.ReferenceTnIdeal.main_arg0) = m ((c.tc : Thread Cert.ReferenceTnIdeal.nD Cert.ReferenceTnIdeal.τ).loc Cert.ReferenceTnIdeal.main_arg0)
      ∧ r.2.mem ((c.tc : Thread Cert.ReferenceTnIdeal.nD Cert.ReferenceTnIdeal.τ).loc Cert.ReferenceTnIdeal.main_arg1) = m ((c.tc : Thread Cert.ReferenceTnIdeal.nD Cert.ReferenceTnIdeal.τ).loc Cert.ReferenceTnIdeal.main_arg1))
      ∧ r.2.sem = fun _ => 0)

def quiescent_KernelNt [hKernelNt : Cert.KernelNt.Facts] : Prop :=
  ∀ (m : (ℓ : Loc Cert.KernelNt.nD Cert.KernelNt.τ Cert.KernelNt.sig) → Buf (Elt Bits) ℓ) (g : Dev Cert.KernelNt.nD → PrngReg), Pre_KernelNt m →
    θ_run (Cert.KernelNt.defs (F := Bits)) (onTc (τ := Cert.KernelNt.τ) (Cert.KernelNt.main (F := Bits))) ⟨m, fun _ => 0, g⟩ (fun r => (∀ c : Dev Cert.KernelNt.nD,
      r.2.mem ((c.tc : Thread Cert.KernelNt.nD Cert.KernelNt.τ).loc Cert.KernelNt.main_arg0) = m ((c.tc : Thread Cert.KernelNt.nD Cert.KernelNt.τ).loc Cert.KernelNt.main_arg0)
      ∧ r.2.mem ((c.tc : Thread Cert.KernelNt.nD Cert.KernelNt.τ).loc Cert.KernelNt.main_arg1) = m ((c.tc : Thread Cert.KernelNt.nD Cert.KernelNt.τ).loc Cert.KernelNt.main_arg1)
      ∧ r.2.mem ((c.tc : Thread Cert.KernelNt.nD Cert.KernelNt.τ).loc Cert.KernelNt.main_arg2) = m ((c.tc : Thread Cert.KernelNt.nD Cert.KernelNt.τ).loc Cert.KernelNt.main_arg2))
      ∧ r.2.sem = fun _ => 0)

def quiescent_KernelNtIdeal [hKernelNtIdeal : Cert.KernelNtIdeal.Facts] : Prop :=
  ∀ (m : (ℓ : Loc Cert.KernelNtIdeal.nD Cert.KernelNtIdeal.τ Cert.KernelNtIdeal.sig) → Buf (Elt Ideal) ℓ) (g : Dev Cert.KernelNtIdeal.nD → PrngReg), Pre_KernelNtIdeal m →
    θ_run (Cert.KernelNtIdeal.defs (F := Ideal)) (onTc (τ := Cert.KernelNtIdeal.τ) (Cert.KernelNtIdeal.main (F := Ideal))) ⟨m, fun _ => 0, g⟩ (fun r => (∀ c : Dev Cert.KernelNtIdeal.nD,
      r.2.mem ((c.tc : Thread Cert.KernelNtIdeal.nD Cert.KernelNtIdeal.τ).loc Cert.KernelNtIdeal.main_arg0) = m ((c.tc : Thread Cert.KernelNtIdeal.nD Cert.KernelNtIdeal.τ).loc Cert.KernelNtIdeal.main_arg0)
      ∧ r.2.mem ((c.tc : Thread Cert.KernelNtIdeal.nD Cert.KernelNtIdeal.τ).loc Cert.KernelNtIdeal.main_arg1) = m ((c.tc : Thread Cert.KernelNtIdeal.nD Cert.KernelNtIdeal.τ).loc Cert.KernelNtIdeal.main_arg1)
      ∧ r.2.mem ((c.tc : Thread Cert.KernelNtIdeal.nD Cert.KernelNtIdeal.τ).loc Cert.KernelNtIdeal.main_arg2) = m ((c.tc : Thread Cert.KernelNtIdeal.nD Cert.KernelNtIdeal.τ).loc Cert.KernelNtIdeal.main_arg2))
      ∧ r.2.sem = fun _ => 0)

def quiescent_ReferenceNtIdeal [hReferenceNtIdeal : Cert.ReferenceNtIdeal.Facts] : Prop :=
  ∀ (m : (ℓ : Loc Cert.ReferenceNtIdeal.nD Cert.ReferenceNtIdeal.τ Cert.ReferenceNtIdeal.sig) → Buf (Elt Ideal) ℓ) (g : Dev Cert.ReferenceNtIdeal.nD → PrngReg), Pre_ReferenceNtIdeal m →
    θ_run (Cert.ReferenceNtIdeal.defs (F := Ideal)) (onTc (τ := Cert.ReferenceNtIdeal.τ) (Cert.ReferenceNtIdeal.main (F := Ideal))) ⟨m, fun _ => 0, g⟩ (fun r => (∀ c : Dev Cert.ReferenceNtIdeal.nD,
      r.2.mem ((c.tc : Thread Cert.ReferenceNtIdeal.nD Cert.ReferenceNtIdeal.τ).loc Cert.ReferenceNtIdeal.main_arg0) = m ((c.tc : Thread Cert.ReferenceNtIdeal.nD Cert.ReferenceNtIdeal.τ).loc Cert.ReferenceNtIdeal.main_arg0)
      ∧ r.2.mem ((c.tc : Thread Cert.ReferenceNtIdeal.nD Cert.ReferenceNtIdeal.τ).loc Cert.ReferenceNtIdeal.main_arg1) = m ((c.tc : Thread Cert.ReferenceNtIdeal.nD Cert.ReferenceNtIdeal.τ).loc Cert.ReferenceNtIdeal.main_arg1)
      ∧ r.2.mem ((c.tc : Thread Cert.ReferenceNtIdeal.nD Cert.ReferenceNtIdeal.τ).loc Cert.ReferenceNtIdeal.main_arg2) = m ((c.tc : Thread Cert.ReferenceNtIdeal.nD Cert.ReferenceNtIdeal.τ).loc Cert.ReferenceNtIdeal.main_arg2))
      ∧ r.2.sem = fun _ => 0)

def preserves_KernelLn_KernelLnIdeal : Prop :=
  True

def algebraic_KernelLnIdeal_ReferenceLnIdeal_pre_finite_ln [hKernelLnIdeal : Cert.KernelLnIdeal.Facts] [hReferenceLnIdeal : Cert.ReferenceLnIdeal.Facts] [hPre_finite_ln : Cert.Pre_finite_ln.Facts] : Prop :=
  ∀ (m : (ℓ : Loc Cert.KernelLnIdeal.nD Cert.KernelLnIdeal.τ Cert.KernelLnIdeal.sig) → Buf (Elt Ideal) ℓ) (g : Dev Cert.KernelLnIdeal.nD → PrngReg)
    (m' : (ℓ : Loc Cert.ReferenceLnIdeal.nD Cert.ReferenceLnIdeal.τ Cert.ReferenceLnIdeal.sig) → Buf (Elt Ideal) ℓ) (g' : Dev Cert.ReferenceLnIdeal.nD → PrngReg), Pre_KernelLnIdeal_finite_ln m →
    (∀ c : Dev Cert.KernelLnIdeal.nD,
      m' ((c.tc : Thread Cert.ReferenceLnIdeal.nD Cert.ReferenceLnIdeal.τ).loc Cert.ReferenceLnIdeal.main_arg0) = m ((c.tc : Thread Cert.KernelLnIdeal.nD Cert.KernelLnIdeal.τ).loc Cert.KernelLnIdeal.main_arg0)
      ∧ m' ((c.tc : Thread Cert.ReferenceLnIdeal.nD Cert.ReferenceLnIdeal.τ).loc Cert.ReferenceLnIdeal.main_arg1) = m ((c.tc : Thread Cert.KernelLnIdeal.nD Cert.KernelLnIdeal.τ).loc Cert.KernelLnIdeal.main_arg1)
      ∧ m' ((c.tc : Thread Cert.ReferenceLnIdeal.nD Cert.ReferenceLnIdeal.τ).loc Cert.ReferenceLnIdeal.main_arg2) = m ((c.tc : Thread Cert.KernelLnIdeal.nD Cert.KernelLnIdeal.τ).loc Cert.KernelLnIdeal.main_arg2)) →
    ∃ (v0 : (c : Dev Cert.KernelLnIdeal.nD) → Buf (Elt Ideal) ((c.tc : Thread Cert.KernelLnIdeal.nD Cert.KernelLnIdeal.τ).loc Cert.KernelLnIdeal.main_v1_0)) (v1 : (c : Dev Cert.KernelLnIdeal.nD) → Buf (Elt Ideal) ((c.tc : Thread Cert.KernelLnIdeal.nD Cert.KernelLnIdeal.τ).loc Cert.KernelLnIdeal.main_v1_1)) (v2 : (c : Dev Cert.KernelLnIdeal.nD) → Buf (Elt Ideal) ((c.tc : Thread Cert.KernelLnIdeal.nD Cert.KernelLnIdeal.τ).loc Cert.KernelLnIdeal.main_v1_2)) (v3 : (c : Dev Cert.KernelLnIdeal.nD) → Buf (Elt Ideal) ((c.tc : Thread Cert.KernelLnIdeal.nD Cert.KernelLnIdeal.τ).loc Cert.KernelLnIdeal.main_v1_3)),
      θ_run (Cert.KernelLnIdeal.defs (F := Ideal)) (onTc (τ := Cert.KernelLnIdeal.τ) (Cert.KernelLnIdeal.main (F := Ideal))) ⟨m, fun _ => 0, g⟩ (fun r => ∀ c : Dev Cert.KernelLnIdeal.nD,
          r.2.mem ((c.tc : Thread Cert.KernelLnIdeal.nD Cert.KernelLnIdeal.τ).loc Cert.KernelLnIdeal.main_v1_0) = v0 c
          ∧ r.2.mem ((c.tc : Thread Cert.KernelLnIdeal.nD Cert.KernelLnIdeal.τ).loc Cert.KernelLnIdeal.main_v1_1) = v1 c
          ∧ r.2.mem ((c.tc : Thread Cert.KernelLnIdeal.nD Cert.KernelLnIdeal.τ).loc Cert.KernelLnIdeal.main_v1_2) = v2 c
          ∧ r.2.mem ((c.tc : Thread Cert.KernelLnIdeal.nD Cert.KernelLnIdeal.τ).loc Cert.KernelLnIdeal.main_v1_3) = v3 c
          ∧ r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
          ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
          ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2))
      ∧ θ_run (Cert.ReferenceLnIdeal.defs (F := Ideal)) (onTc (τ := Cert.ReferenceLnIdeal.τ) (Cert.ReferenceLnIdeal.main (F := Ideal))) ⟨m', fun _ => 0, g'⟩ (fun r => ∀ c : Dev Cert.ReferenceLnIdeal.nD,
          r.2.mem ((c.tc : Thread Cert.ReferenceLnIdeal.nD Cert.ReferenceLnIdeal.τ).loc Cert.ReferenceLnIdeal.main_v63) = v0 c
          ∧ r.2.mem ((c.tc : Thread Cert.ReferenceLnIdeal.nD Cert.ReferenceLnIdeal.τ).loc Cert.ReferenceLnIdeal.main_v64) = v1 c
          ∧ r.2.mem ((c.tc : Thread Cert.ReferenceLnIdeal.nD Cert.ReferenceLnIdeal.τ).loc Cert.ReferenceLnIdeal.main_v65) = v2 c
          ∧ r.2.mem ((c.tc : Thread Cert.ReferenceLnIdeal.nD Cert.ReferenceLnIdeal.τ).loc Cert.ReferenceLnIdeal.main_v66) = v3 c
          ∧ r.2.mem ((c.tc : Thread Cert.ReferenceLnIdeal.nD Cert.ReferenceLnIdeal.τ).loc Cert.ReferenceLnIdeal.main_arg0) = m' ((c.tc : Thread Cert.ReferenceLnIdeal.nD Cert.ReferenceLnIdeal.τ).loc Cert.ReferenceLnIdeal.main_arg0)
          ∧ r.2.mem ((c.tc : Thread Cert.ReferenceLnIdeal.nD Cert.ReferenceLnIdeal.τ).loc Cert.ReferenceLnIdeal.main_arg1) = m' ((c.tc : Thread Cert.ReferenceLnIdeal.nD Cert.ReferenceLnIdeal.τ).loc Cert.ReferenceLnIdeal.main_arg1)
          ∧ r.2.mem ((c.tc : Thread Cert.ReferenceLnIdeal.nD Cert.ReferenceLnIdeal.τ).loc Cert.ReferenceLnIdeal.main_arg2) = m' ((c.tc : Thread Cert.ReferenceLnIdeal.nD Cert.ReferenceLnIdeal.τ).loc Cert.ReferenceLnIdeal.main_arg2))

def preserves_KernelAttn_KernelAttnIdeal : Prop :=
  IdealRules.named_const.Statement Cert.KernelAttnIdeal.κ "mask" .f32 0xF149F2CA#32 ⊥
  ∧ IdealRules.named_const.Statement Cert.KernelAttnIdeal.κ "exit" .f32 0xC2E60000#32 ⊥

def algebraic_KernelAttnIdeal_ReferenceAttnIdeal_pre_finite_attn [hKernelAttnIdeal : Cert.KernelAttnIdeal.Facts] [hReferenceAttnIdeal : Cert.ReferenceAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite_attn m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)) →
    ∃ (v0 : (c : Dev Cert.KernelAttnIdeal.nD) → Buf (Elt Ideal) ((c.tc : Thread Cert.KernelAttnIdeal.nD Cert.KernelAttnIdeal.τ).loc Cert.KernelAttnIdeal.main_v5_0)) (v1 : (c : Dev Cert.KernelAttnIdeal.nD) → Buf (Elt Ideal) ((c.tc : Thread Cert.KernelAttnIdeal.nD Cert.KernelAttnIdeal.τ).loc Cert.KernelAttnIdeal.main_v5_1)) (v2 : (c : Dev Cert.KernelAttnIdeal.nD) → Buf (Elt Ideal) ((c.tc : Thread Cert.KernelAttnIdeal.nD Cert.KernelAttnIdeal.τ).loc Cert.KernelAttnIdeal.main_v5_2)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v5_0) = v0 c
          ∧ r.2.mem ((c.tc : Thread Cert.KernelAttnIdeal.nD Cert.KernelAttnIdeal.τ).loc Cert.KernelAttnIdeal.main_v5_1) = v1 c
          ∧ r.2.mem ((c.tc : Thread Cert.KernelAttnIdeal.nD Cert.KernelAttnIdeal.τ).loc Cert.KernelAttnIdeal.main_v5_2) = v2 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v51) = v0 c
          ∧ r.2.mem ((c.tc : Thread Cert.ReferenceAttnIdeal.nD Cert.ReferenceAttnIdeal.τ).loc Cert.ReferenceAttnIdeal.main_v52) = v1 c
          ∧ r.2.mem ((c.tc : Thread Cert.ReferenceAttnIdeal.nD Cert.ReferenceAttnIdeal.τ).loc Cert.ReferenceAttnIdeal.main_v53) = v2 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1))

def preserves_KernelMix_KernelMixIdeal : Prop :=
  True

def algebraic_KernelMixIdeal_ReferenceMixIdeal_pre_finite_mix [hKernelMixIdeal : Cert.KernelMixIdeal.Facts] [hReferenceMixIdeal : Cert.ReferenceMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal_finite_mix m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)) →
    ∃ (v0 : (c : Dev Cert.KernelMixIdeal.nD) → Buf (Elt Ideal) ((c.tc : Thread Cert.KernelMixIdeal.nD Cert.KernelMixIdeal.τ).loc Cert.KernelMixIdeal.main_v2_0)) (v1 : (c : Dev Cert.KernelMixIdeal.nD) → Buf (Elt Ideal) ((c.tc : Thread Cert.KernelMixIdeal.nD Cert.KernelMixIdeal.τ).loc Cert.KernelMixIdeal.main_v2_1)) (v2 : (c : Dev Cert.KernelMixIdeal.nD) → Buf (Elt Ideal) ((c.tc : Thread Cert.KernelMixIdeal.nD Cert.KernelMixIdeal.τ).loc Cert.KernelMixIdeal.main_v2_2)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v2_0) = v0 c
          ∧ r.2.mem ((c.tc : Thread Cert.KernelMixIdeal.nD Cert.KernelMixIdeal.τ).loc Cert.KernelMixIdeal.main_v2_1) = v1 c
          ∧ r.2.mem ((c.tc : Thread Cert.KernelMixIdeal.nD Cert.KernelMixIdeal.τ).loc Cert.KernelMixIdeal.main_v2_2) = v2 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v89) = v0 c
          ∧ r.2.mem ((c.tc : Thread Cert.ReferenceMixIdeal.nD Cert.ReferenceMixIdeal.τ).loc Cert.ReferenceMixIdeal.main_v88) = v1 c
          ∧ r.2.mem ((c.tc : Thread Cert.ReferenceMixIdeal.nD Cert.ReferenceMixIdeal.τ).loc Cert.ReferenceMixIdeal.main_v90) = v2 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3))

def preserves_KernelPool_KernelPoolIdeal : Prop :=
  True

def algebraic_KernelPoolIdeal_ReferencePoolIdeal_pre_finite_pool [hKernelPoolIdeal : Cert.KernelPoolIdeal.Facts] [hReferencePoolIdeal : Cert.ReferencePoolIdeal.Facts] [hPre_finite_pool : Cert.Pre_finite_pool.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg)
    (m' : (ℓ : Loc Cert.ReferencePoolIdeal.nD Cert.ReferencePoolIdeal.τ Cert.ReferencePoolIdeal.sig) → Buf (Elt Ideal) ℓ) (g' : Dev Cert.ReferencePoolIdeal.nD → PrngReg), Pre_KernelPoolIdeal_finite_pool m →
    (∀ c : Dev Cert.KernelPoolIdeal.nD,
      m' ((c.tc : Thread Cert.ReferencePoolIdeal.nD Cert.ReferencePoolIdeal.τ).loc Cert.ReferencePoolIdeal.main_arg0) = m ((c.tc : Thread Cert.KernelPoolIdeal.nD Cert.KernelPoolIdeal.τ).loc Cert.KernelPoolIdeal.main_arg0)
      ∧ m' ((c.tc : Thread Cert.ReferencePoolIdeal.nD Cert.ReferencePoolIdeal.τ).loc Cert.ReferencePoolIdeal.main_arg1) = m ((c.tc : Thread Cert.KernelPoolIdeal.nD Cert.KernelPoolIdeal.τ).loc Cert.KernelPoolIdeal.main_arg1)) →
    ∃ (v0 : (c : Dev Cert.KernelPoolIdeal.nD) → Buf (Elt Ideal) ((c.tc : Thread Cert.KernelPoolIdeal.nD Cert.KernelPoolIdeal.τ).loc Cert.KernelPoolIdeal.main_v0)),
      θ_run (Cert.KernelPoolIdeal.defs (F := Ideal)) (onTc (τ := Cert.KernelPoolIdeal.τ) (Cert.KernelPoolIdeal.main (F := Ideal))) ⟨m, fun _ => 0, g⟩ (fun r => ∀ c : Dev Cert.KernelPoolIdeal.nD,
          r.2.mem ((c.tc : Thread Cert.KernelPoolIdeal.nD Cert.KernelPoolIdeal.τ).loc Cert.KernelPoolIdeal.main_v0) = v0 c
          ∧ r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
          ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1))
      ∧ θ_run (Cert.ReferencePoolIdeal.defs (F := Ideal)) (onTc (τ := Cert.ReferencePoolIdeal.τ) (Cert.ReferencePoolIdeal.main (F := Ideal))) ⟨m', fun _ => 0, g'⟩ (fun r => ∀ c : Dev Cert.ReferencePoolIdeal.nD,
          r.2.mem ((c.tc : Thread Cert.ReferencePoolIdeal.nD Cert.ReferencePoolIdeal.τ).loc Cert.ReferencePoolIdeal.main_v147) = v0 c
          ∧ r.2.mem ((c.tc : Thread Cert.ReferencePoolIdeal.nD Cert.ReferencePoolIdeal.τ).loc Cert.ReferencePoolIdeal.main_arg0) = m' ((c.tc : Thread Cert.ReferencePoolIdeal.nD Cert.ReferencePoolIdeal.τ).loc Cert.ReferencePoolIdeal.main_arg0)
          ∧ r.2.mem ((c.tc : Thread Cert.ReferencePoolIdeal.nD Cert.ReferencePoolIdeal.τ).loc Cert.ReferencePoolIdeal.main_arg1) = m' ((c.tc : Thread Cert.ReferencePoolIdeal.nD Cert.ReferencePoolIdeal.τ).loc Cert.ReferencePoolIdeal.main_arg1))

def preserves_KernelConv_KernelConvIdeal : Prop :=
  True

def algebraic_KernelConvIdeal_ReferenceConvIdeal_pre_finite_conv [hKernelConvIdeal : Cert.KernelConvIdeal.Facts] [hReferenceConvIdeal : Cert.ReferenceConvIdeal.Facts] [hPre_finite_conv : Cert.Pre_finite_conv.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal_finite_conv m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)) →
    ∃ (v0 : (c : Dev Cert.KernelConvIdeal.nD) → Buf (Elt Ideal) ((c.tc : Thread Cert.KernelConvIdeal.nD Cert.KernelConvIdeal.τ).loc Cert.KernelConvIdeal.main_v6)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v6) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v46) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1))

def preserves_KernelAct_KernelActIdeal : Prop :=
  True

def algebraic_KernelActIdeal_ReferenceActIdeal_pre_finite_act [hKernelActIdeal : Cert.KernelActIdeal.Facts] [hReferenceActIdeal : Cert.ReferenceActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal_finite_act m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)
      ∧ m' ((c.tc : Thread Cert.ReferenceActIdeal.nD Cert.ReferenceActIdeal.τ).loc Cert.ReferenceActIdeal.main_arg3) = m ((c.tc : Thread Cert.KernelActIdeal.nD Cert.KernelActIdeal.τ).loc Cert.KernelActIdeal.main_arg3)) →
    ∃ (v0 : (c : Dev Cert.KernelActIdeal.nD) → Buf (Elt Ideal) ((c.tc : Thread Cert.KernelActIdeal.nD Cert.KernelActIdeal.τ).loc Cert.KernelActIdeal.main_v11_0)) (v1 : (c : Dev Cert.KernelActIdeal.nD) → Buf (Elt Ideal) ((c.tc : Thread Cert.KernelActIdeal.nD Cert.KernelActIdeal.τ).loc Cert.KernelActIdeal.main_v11_1)) (v2 : (c : Dev Cert.KernelActIdeal.nD) → Buf (Elt Ideal) ((c.tc : Thread Cert.KernelActIdeal.nD Cert.KernelActIdeal.τ).loc Cert.KernelActIdeal.main_v11_2)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v11_0) = v0 c
          ∧ r.2.mem ((c.tc : Thread Cert.KernelActIdeal.nD Cert.KernelActIdeal.τ).loc Cert.KernelActIdeal.main_v11_1) = v1 c
          ∧ r.2.mem ((c.tc : Thread Cert.KernelActIdeal.nD Cert.KernelActIdeal.τ).loc Cert.KernelActIdeal.main_v11_2) = v2 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
          ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v59) = v0 c
          ∧ r.2.mem ((c.tc : Thread Cert.ReferenceActIdeal.nD Cert.ReferenceActIdeal.τ).loc Cert.ReferenceActIdeal.main_v62) = v1 c
          ∧ r.2.mem ((c.tc : Thread Cert.ReferenceActIdeal.nD Cert.ReferenceActIdeal.τ).loc Cert.ReferenceActIdeal.main_v64) = v2 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2)
          ∧ r.2.mem ((c.tc : Thread Cert.ReferenceActIdeal.nD Cert.ReferenceActIdeal.τ).loc Cert.ReferenceActIdeal.main_arg3) = m' ((c.tc : Thread Cert.ReferenceActIdeal.nD Cert.ReferenceActIdeal.τ).loc Cert.ReferenceActIdeal.main_arg3))

def preserves_KernelLoss_KernelLossIdeal : Prop :=
  True

def algebraic_KernelLossIdeal_ReferenceLossIdeal_pre_finite_loss [hKernelLossIdeal : Cert.KernelLossIdeal.Facts] [hReferenceLossIdeal : Cert.ReferenceLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_finite_loss m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v15) = v0 c
          ∧ r.2.mem ((c.tc : Thread Cert.ReferenceLossIdeal.nD Cert.ReferenceLossIdeal.τ).loc Cert.ReferenceLossIdeal.main_v14) = v1 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1))

def preserves_KernelFwd_KernelFwdIdeal : Prop :=
  IdealRules.named_const.Statement Cert.KernelFwdIdeal.κ "mask" .f32 0xF149F2CA#32 ⊥
  ∧ IdealRules.named_const.Statement Cert.KernelFwdIdeal.κ "exit" .f32 0xC2E60000#32 ⊥

def algebraic_KernelFwdIdeal_ReferenceFwdIdeal_pre_finite_fwd [hKernelFwdIdeal : Cert.KernelFwdIdeal.Facts] [hReferenceFwdIdeal : Cert.ReferenceFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal_finite_fwd m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)) →
    ∃ (v0 : (c : Dev Cert.KernelFwdIdeal.nD) → Buf (Elt Ideal) ((c.tc : Thread Cert.KernelFwdIdeal.nD Cert.KernelFwdIdeal.τ).loc Cert.KernelFwdIdeal.main_v3)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v3) = v0 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v29) = v0 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0))

def preserves_KernelGate_KernelGateIdeal : Prop :=
  True

def algebraic_KernelGateIdeal_ReferenceGateIdeal_pre_finite_gate [hKernelGateIdeal : Cert.KernelGateIdeal.Facts] [hReferenceGateIdeal : Cert.ReferenceGateIdeal.Facts] [hPre_finite_gate : Cert.Pre_finite_gate.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal_finite_gate m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)) →
    ∃ (v0 : (c : Dev Cert.KernelGateIdeal.nD) → Buf (Elt Ideal) ((c.tc : Thread Cert.KernelGateIdeal.nD Cert.KernelGateIdeal.τ).loc Cert.KernelGateIdeal.main_v8)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v8) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v32) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2))

def preserves_KernelTrunk_KernelTrunkIdeal : Prop :=
  True

def algebraic_KernelTrunkIdeal_ReferenceTrunkIdeal_pre_finite_trunk [hKernelTrunkIdeal : Cert.KernelTrunkIdeal.Facts] [hReferenceTrunkIdeal : Cert.ReferenceTrunkIdeal.Facts] [hPre_finite_trunk : Cert.Pre_finite_trunk.Facts] : Prop :=
  ∀ (m : (ℓ : Loc Cert.KernelTrunkIdeal.nD Cert.KernelTrunkIdeal.τ Cert.KernelTrunkIdeal.sig) → Buf (Elt Ideal) ℓ) (g : Dev Cert.KernelTrunkIdeal.nD → PrngReg)
    (m' : (ℓ : Loc Cert.ReferenceTrunkIdeal.nD Cert.ReferenceTrunkIdeal.τ Cert.ReferenceTrunkIdeal.sig) → Buf (Elt Ideal) ℓ) (g' : Dev Cert.ReferenceTrunkIdeal.nD → PrngReg), Pre_KernelTrunkIdeal_finite_trunk m →
    (∀ c : Dev Cert.KernelTrunkIdeal.nD,
      m' ((c.tc : Thread Cert.ReferenceTrunkIdeal.nD Cert.ReferenceTrunkIdeal.τ).loc Cert.ReferenceTrunkIdeal.main_arg0) = m ((c.tc : Thread Cert.KernelTrunkIdeal.nD Cert.KernelTrunkIdeal.τ).loc Cert.KernelTrunkIdeal.main_arg0)
      ∧ m' ((c.tc : Thread Cert.ReferenceTrunkIdeal.nD Cert.ReferenceTrunkIdeal.τ).loc Cert.ReferenceTrunkIdeal.main_arg1) = m ((c.tc : Thread Cert.KernelTrunkIdeal.nD Cert.KernelTrunkIdeal.τ).loc Cert.KernelTrunkIdeal.main_arg1)
      ∧ m' ((c.tc : Thread Cert.ReferenceTrunkIdeal.nD Cert.ReferenceTrunkIdeal.τ).loc Cert.ReferenceTrunkIdeal.main_arg2) = m ((c.tc : Thread Cert.KernelTrunkIdeal.nD Cert.KernelTrunkIdeal.τ).loc Cert.KernelTrunkIdeal.main_arg2)
      ∧ m' ((c.tc : Thread Cert.ReferenceTrunkIdeal.nD Cert.ReferenceTrunkIdeal.τ).loc Cert.ReferenceTrunkIdeal.main_arg3) = m ((c.tc : Thread Cert.KernelTrunkIdeal.nD Cert.KernelTrunkIdeal.τ).loc Cert.KernelTrunkIdeal.main_arg3)
      ∧ m' ((c.tc : Thread Cert.ReferenceTrunkIdeal.nD Cert.ReferenceTrunkIdeal.τ).loc Cert.ReferenceTrunkIdeal.main_arg4) = m ((c.tc : Thread Cert.KernelTrunkIdeal.nD Cert.KernelTrunkIdeal.τ).loc Cert.KernelTrunkIdeal.main_arg4)) →
    ∃ (v0 : (c : Dev Cert.KernelTrunkIdeal.nD) → Buf (Elt Ideal) ((c.tc : Thread Cert.KernelTrunkIdeal.nD Cert.KernelTrunkIdeal.τ).loc Cert.KernelTrunkIdeal.main_v4_0)) (v1 : (c : Dev Cert.KernelTrunkIdeal.nD) → Buf (Elt Ideal) ((c.tc : Thread Cert.KernelTrunkIdeal.nD Cert.KernelTrunkIdeal.τ).loc Cert.KernelTrunkIdeal.main_v4_1)) (v2 : (c : Dev Cert.KernelTrunkIdeal.nD) → Buf (Elt Ideal) ((c.tc : Thread Cert.KernelTrunkIdeal.nD Cert.KernelTrunkIdeal.τ).loc Cert.KernelTrunkIdeal.main_v4_2)),
      θ_run (Cert.KernelTrunkIdeal.defs (F := Ideal)) (onTc (τ := Cert.KernelTrunkIdeal.τ) (Cert.KernelTrunkIdeal.main (F := Ideal))) ⟨m, fun _ => 0, g⟩ (fun r => ∀ c : Dev Cert.KernelTrunkIdeal.nD,
          r.2.mem ((c.tc : Thread Cert.KernelTrunkIdeal.nD Cert.KernelTrunkIdeal.τ).loc Cert.KernelTrunkIdeal.main_v4_0) = v0 c
          ∧ r.2.mem ((c.tc : Thread Cert.KernelTrunkIdeal.nD Cert.KernelTrunkIdeal.τ).loc Cert.KernelTrunkIdeal.main_v4_1) = v1 c
          ∧ r.2.mem ((c.tc : Thread Cert.KernelTrunkIdeal.nD Cert.KernelTrunkIdeal.τ).loc Cert.KernelTrunkIdeal.main_v4_2) = v2 c
          ∧ r.2.mem ((c.tc : Thread Cert.KernelTrunkIdeal.nD Cert.KernelTrunkIdeal.τ).loc Cert.KernelTrunkIdeal.main_arg0) = m ((c.tc : Thread Cert.KernelTrunkIdeal.nD Cert.KernelTrunkIdeal.τ).loc Cert.KernelTrunkIdeal.main_arg0)
          ∧ r.2.mem ((c.tc : Thread Cert.KernelTrunkIdeal.nD Cert.KernelTrunkIdeal.τ).loc Cert.KernelTrunkIdeal.main_arg1) = m ((c.tc : Thread Cert.KernelTrunkIdeal.nD Cert.KernelTrunkIdeal.τ).loc Cert.KernelTrunkIdeal.main_arg1)
          ∧ r.2.mem ((c.tc : Thread Cert.KernelTrunkIdeal.nD Cert.KernelTrunkIdeal.τ).loc Cert.KernelTrunkIdeal.main_arg2) = m ((c.tc : Thread Cert.KernelTrunkIdeal.nD Cert.KernelTrunkIdeal.τ).loc Cert.KernelTrunkIdeal.main_arg2)
          ∧ r.2.mem ((c.tc : Thread Cert.KernelTrunkIdeal.nD Cert.KernelTrunkIdeal.τ).loc Cert.KernelTrunkIdeal.main_arg3) = m ((c.tc : Thread Cert.KernelTrunkIdeal.nD Cert.KernelTrunkIdeal.τ).loc Cert.KernelTrunkIdeal.main_arg3)
          ∧ r.2.mem ((c.tc : Thread Cert.KernelTrunkIdeal.nD Cert.KernelTrunkIdeal.τ).loc Cert.KernelTrunkIdeal.main_arg4) = m ((c.tc : Thread Cert.KernelTrunkIdeal.nD Cert.KernelTrunkIdeal.τ).loc Cert.KernelTrunkIdeal.main_arg4))
      ∧ θ_run (Cert.ReferenceTrunkIdeal.defs (F := Ideal)) (onTc (τ := Cert.ReferenceTrunkIdeal.τ) (Cert.ReferenceTrunkIdeal.main (F := Ideal))) ⟨m', fun _ => 0, g'⟩ (fun r => ∀ c : Dev Cert.ReferenceTrunkIdeal.nD,
          r.2.mem ((c.tc : Thread Cert.ReferenceTrunkIdeal.nD Cert.ReferenceTrunkIdeal.τ).loc Cert.ReferenceTrunkIdeal.main_v79) = v0 c
          ∧ r.2.mem ((c.tc : Thread Cert.ReferenceTrunkIdeal.nD Cert.ReferenceTrunkIdeal.τ).loc Cert.ReferenceTrunkIdeal.main_v103) = v1 c
          ∧ r.2.mem ((c.tc : Thread Cert.ReferenceTrunkIdeal.nD Cert.ReferenceTrunkIdeal.τ).loc Cert.ReferenceTrunkIdeal.main_v104) = v2 c
          ∧ r.2.mem ((c.tc : Thread Cert.ReferenceTrunkIdeal.nD Cert.ReferenceTrunkIdeal.τ).loc Cert.ReferenceTrunkIdeal.main_arg0) = m' ((c.tc : Thread Cert.ReferenceTrunkIdeal.nD Cert.ReferenceTrunkIdeal.τ).loc Cert.ReferenceTrunkIdeal.main_arg0)
          ∧ r.2.mem ((c.tc : Thread Cert.ReferenceTrunkIdeal.nD Cert.ReferenceTrunkIdeal.τ).loc Cert.ReferenceTrunkIdeal.main_arg1) = m' ((c.tc : Thread Cert.ReferenceTrunkIdeal.nD Cert.ReferenceTrunkIdeal.τ).loc Cert.ReferenceTrunkIdeal.main_arg1)
          ∧ r.2.mem ((c.tc : Thread Cert.ReferenceTrunkIdeal.nD Cert.ReferenceTrunkIdeal.τ).loc Cert.ReferenceTrunkIdeal.main_arg2) = m' ((c.tc : Thread Cert.ReferenceTrunkIdeal.nD Cert.ReferenceTrunkIdeal.τ).loc Cert.ReferenceTrunkIdeal.main_arg2)
          ∧ r.2.mem ((c.tc : Thread Cert.ReferenceTrunkIdeal.nD Cert.ReferenceTrunkIdeal.τ).loc Cert.ReferenceTrunkIdeal.main_arg3) = m' ((c.tc : Thread Cert.ReferenceTrunkIdeal.nD Cert.ReferenceTrunkIdeal.τ).loc Cert.ReferenceTrunkIdeal.main_arg3)
          ∧ r.2.mem ((c.tc : Thread Cert.ReferenceTrunkIdeal.nD Cert.ReferenceTrunkIdeal.τ).loc Cert.ReferenceTrunkIdeal.main_arg4) = m' ((c.tc : Thread Cert.ReferenceTrunkIdeal.nD Cert.ReferenceTrunkIdeal.τ).loc Cert.ReferenceTrunkIdeal.main_arg4))

def preserves_KernelJoin_KernelJoinIdeal : Prop :=
  True

def algebraic_KernelJoinIdeal_ReferenceJoinIdeal_pre_finite_join [hKernelJoinIdeal : Cert.KernelJoinIdeal.Facts] [hReferenceJoinIdeal : Cert.ReferenceJoinIdeal.Facts] [hPre_finite_join : Cert.Pre_finite_join.Facts] : Prop :=
  ∀ (m : (ℓ : Loc Cert.KernelJoinIdeal.nD Cert.KernelJoinIdeal.τ Cert.KernelJoinIdeal.sig) → Buf (Elt Ideal) ℓ) (g : Dev Cert.KernelJoinIdeal.nD → PrngReg)
    (m' : (ℓ : Loc Cert.ReferenceJoinIdeal.nD Cert.ReferenceJoinIdeal.τ Cert.ReferenceJoinIdeal.sig) → Buf (Elt Ideal) ℓ) (g' : Dev Cert.ReferenceJoinIdeal.nD → PrngReg), Pre_KernelJoinIdeal_finite_join m →
    (∀ c : Dev Cert.KernelJoinIdeal.nD,
      m' ((c.tc : Thread Cert.ReferenceJoinIdeal.nD Cert.ReferenceJoinIdeal.τ).loc Cert.ReferenceJoinIdeal.main_arg0) = m ((c.tc : Thread Cert.KernelJoinIdeal.nD Cert.KernelJoinIdeal.τ).loc Cert.KernelJoinIdeal.main_arg0)
      ∧ m' ((c.tc : Thread Cert.ReferenceJoinIdeal.nD Cert.ReferenceJoinIdeal.τ).loc Cert.ReferenceJoinIdeal.main_arg1) = m ((c.tc : Thread Cert.KernelJoinIdeal.nD Cert.KernelJoinIdeal.τ).loc Cert.KernelJoinIdeal.main_arg1)
      ∧ m' ((c.tc : Thread Cert.ReferenceJoinIdeal.nD Cert.ReferenceJoinIdeal.τ).loc Cert.ReferenceJoinIdeal.main_arg2) = m ((c.tc : Thread Cert.KernelJoinIdeal.nD Cert.KernelJoinIdeal.τ).loc Cert.KernelJoinIdeal.main_arg2)
      ∧ m' ((c.tc : Thread Cert.ReferenceJoinIdeal.nD Cert.ReferenceJoinIdeal.τ).loc Cert.ReferenceJoinIdeal.main_arg3) = m ((c.tc : Thread Cert.KernelJoinIdeal.nD Cert.KernelJoinIdeal.τ).loc Cert.KernelJoinIdeal.main_arg3)
      ∧ m' ((c.tc : Thread Cert.ReferenceJoinIdeal.nD Cert.ReferenceJoinIdeal.τ).loc Cert.ReferenceJoinIdeal.main_arg4) = m ((c.tc : Thread Cert.KernelJoinIdeal.nD Cert.KernelJoinIdeal.τ).loc Cert.KernelJoinIdeal.main_arg4)) →
    ∃ (v0 : (c : Dev Cert.KernelJoinIdeal.nD) → Buf (Elt Ideal) ((c.tc : Thread Cert.KernelJoinIdeal.nD Cert.KernelJoinIdeal.τ).loc Cert.KernelJoinIdeal.main_v6_0)) (v1 : (c : Dev Cert.KernelJoinIdeal.nD) → Buf (Elt Ideal) ((c.tc : Thread Cert.KernelJoinIdeal.nD Cert.KernelJoinIdeal.τ).loc Cert.KernelJoinIdeal.main_v6_1)) (v2 : (c : Dev Cert.KernelJoinIdeal.nD) → Buf (Elt Ideal) ((c.tc : Thread Cert.KernelJoinIdeal.nD Cert.KernelJoinIdeal.τ).loc Cert.KernelJoinIdeal.main_v6_2)),
      θ_run (Cert.KernelJoinIdeal.defs (F := Ideal)) (onTc (τ := Cert.KernelJoinIdeal.τ) (Cert.KernelJoinIdeal.main (F := Ideal))) ⟨m, fun _ => 0, g⟩ (fun r => ∀ c : Dev Cert.KernelJoinIdeal.nD,
          r.2.mem ((c.tc : Thread Cert.KernelJoinIdeal.nD Cert.KernelJoinIdeal.τ).loc Cert.KernelJoinIdeal.main_v6_0) = v0 c
          ∧ r.2.mem ((c.tc : Thread Cert.KernelJoinIdeal.nD Cert.KernelJoinIdeal.τ).loc Cert.KernelJoinIdeal.main_v6_1) = v1 c
          ∧ r.2.mem ((c.tc : Thread Cert.KernelJoinIdeal.nD Cert.KernelJoinIdeal.τ).loc Cert.KernelJoinIdeal.main_v6_2) = v2 c
          ∧ r.2.mem ((c.tc : Thread Cert.KernelJoinIdeal.nD Cert.KernelJoinIdeal.τ).loc Cert.KernelJoinIdeal.main_arg0) = m ((c.tc : Thread Cert.KernelJoinIdeal.nD Cert.KernelJoinIdeal.τ).loc Cert.KernelJoinIdeal.main_arg0)
          ∧ r.2.mem ((c.tc : Thread Cert.KernelJoinIdeal.nD Cert.KernelJoinIdeal.τ).loc Cert.KernelJoinIdeal.main_arg1) = m ((c.tc : Thread Cert.KernelJoinIdeal.nD Cert.KernelJoinIdeal.τ).loc Cert.KernelJoinIdeal.main_arg1)
          ∧ r.2.mem ((c.tc : Thread Cert.KernelJoinIdeal.nD Cert.KernelJoinIdeal.τ).loc Cert.KernelJoinIdeal.main_arg2) = m ((c.tc : Thread Cert.KernelJoinIdeal.nD Cert.KernelJoinIdeal.τ).loc Cert.KernelJoinIdeal.main_arg2)
          ∧ r.2.mem ((c.tc : Thread Cert.KernelJoinIdeal.nD Cert.KernelJoinIdeal.τ).loc Cert.KernelJoinIdeal.main_arg3) = m ((c.tc : Thread Cert.KernelJoinIdeal.nD Cert.KernelJoinIdeal.τ).loc Cert.KernelJoinIdeal.main_arg3)
          ∧ r.2.mem ((c.tc : Thread Cert.KernelJoinIdeal.nD Cert.KernelJoinIdeal.τ).loc Cert.KernelJoinIdeal.main_arg4) = m ((c.tc : Thread Cert.KernelJoinIdeal.nD Cert.KernelJoinIdeal.τ).loc Cert.KernelJoinIdeal.main_arg4))
      ∧ θ_run (Cert.ReferenceJoinIdeal.defs (F := Ideal)) (onTc (τ := Cert.ReferenceJoinIdeal.τ) (Cert.ReferenceJoinIdeal.main (F := Ideal))) ⟨m', fun _ => 0, g'⟩ (fun r => ∀ c : Dev Cert.ReferenceJoinIdeal.nD,
          r.2.mem ((c.tc : Thread Cert.ReferenceJoinIdeal.nD Cert.ReferenceJoinIdeal.τ).loc Cert.ReferenceJoinIdeal.main_v3) = v0 c
          ∧ r.2.mem ((c.tc : Thread Cert.ReferenceJoinIdeal.nD Cert.ReferenceJoinIdeal.τ).loc Cert.ReferenceJoinIdeal.main_v27) = v1 c
          ∧ r.2.mem ((c.tc : Thread Cert.ReferenceJoinIdeal.nD Cert.ReferenceJoinIdeal.τ).loc Cert.ReferenceJoinIdeal.main_v28) = v2 c
          ∧ r.2.mem ((c.tc : Thread Cert.ReferenceJoinIdeal.nD Cert.ReferenceJoinIdeal.τ).loc Cert.ReferenceJoinIdeal.main_arg0) = m' ((c.tc : Thread Cert.ReferenceJoinIdeal.nD Cert.ReferenceJoinIdeal.τ).loc Cert.ReferenceJoinIdeal.main_arg0)
          ∧ r.2.mem ((c.tc : Thread Cert.ReferenceJoinIdeal.nD Cert.ReferenceJoinIdeal.τ).loc Cert.ReferenceJoinIdeal.main_arg1) = m' ((c.tc : Thread Cert.ReferenceJoinIdeal.nD Cert.ReferenceJoinIdeal.τ).loc Cert.ReferenceJoinIdeal.main_arg1)
          ∧ r.2.mem ((c.tc : Thread Cert.ReferenceJoinIdeal.nD Cert.ReferenceJoinIdeal.τ).loc Cert.ReferenceJoinIdeal.main_arg2) = m' ((c.tc : Thread Cert.ReferenceJoinIdeal.nD Cert.ReferenceJoinIdeal.τ).loc Cert.ReferenceJoinIdeal.main_arg2)
          ∧ r.2.mem ((c.tc : Thread Cert.ReferenceJoinIdeal.nD Cert.ReferenceJoinIdeal.τ).loc Cert.ReferenceJoinIdeal.main_arg3) = m' ((c.tc : Thread Cert.ReferenceJoinIdeal.nD Cert.ReferenceJoinIdeal.τ).loc Cert.ReferenceJoinIdeal.main_arg3)
          ∧ r.2.mem ((c.tc : Thread Cert.ReferenceJoinIdeal.nD Cert.ReferenceJoinIdeal.τ).loc Cert.ReferenceJoinIdeal.main_arg4) = m' ((c.tc : Thread Cert.ReferenceJoinIdeal.nD Cert.ReferenceJoinIdeal.τ).loc Cert.ReferenceJoinIdeal.main_arg4))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v5)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v5) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v3) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelTn_KernelTnIdeal : Prop :=
  True

def algebraic_KernelTnIdeal_ReferenceTnIdeal [hKernelTnIdeal : Cert.KernelTnIdeal.Facts] [hReferenceTnIdeal : Cert.ReferenceTnIdeal.Facts] : Prop :=
  ∀ (m : (ℓ : Loc Cert.KernelTnIdeal.nD Cert.KernelTnIdeal.τ Cert.KernelTnIdeal.sig) → Buf (Elt Ideal) ℓ) (g : Dev Cert.KernelTnIdeal.nD → PrngReg)
    (m' : (ℓ : Loc Cert.ReferenceTnIdeal.nD Cert.ReferenceTnIdeal.τ Cert.ReferenceTnIdeal.sig) → Buf (Elt Ideal) ℓ) (g' : Dev Cert.ReferenceTnIdeal.nD → PrngReg), Pre_KernelTnIdeal m →
    (∀ c : Dev Cert.KernelTnIdeal.nD,
      m' ((c.tc : Thread Cert.ReferenceTnIdeal.nD Cert.ReferenceTnIdeal.τ).loc Cert.ReferenceTnIdeal.main_arg0) = m ((c.tc : Thread Cert.KernelTnIdeal.nD Cert.KernelTnIdeal.τ).loc Cert.KernelTnIdeal.main_arg0)
      ∧ m' ((c.tc : Thread Cert.ReferenceTnIdeal.nD Cert.ReferenceTnIdeal.τ).loc Cert.ReferenceTnIdeal.main_arg1) = m ((c.tc : Thread Cert.KernelTnIdeal.nD Cert.KernelTnIdeal.τ).loc Cert.KernelTnIdeal.main_arg1)) →
    ∃ (v0 : (c : Dev Cert.KernelTnIdeal.nD) → Buf (Elt Ideal) ((c.tc : Thread Cert.KernelTnIdeal.nD Cert.KernelTnIdeal.τ).loc Cert.KernelTnIdeal.main_v6)),
      θ_run (Cert.KernelTnIdeal.defs (F := Ideal)) (onTc (τ := Cert.KernelTnIdeal.τ) (Cert.KernelTnIdeal.main (F := Ideal))) ⟨m, fun _ => 0, g⟩ (fun r => ∀ c : Dev Cert.KernelTnIdeal.nD,
          r.2.mem ((c.tc : Thread Cert.KernelTnIdeal.nD Cert.KernelTnIdeal.τ).loc Cert.KernelTnIdeal.main_v6) = v0 c
          ∧ r.2.mem ((c.tc : Thread Cert.KernelTnIdeal.nD Cert.KernelTnIdeal.τ).loc Cert.KernelTnIdeal.main_arg0) = m ((c.tc : Thread Cert.KernelTnIdeal.nD Cert.KernelTnIdeal.τ).loc Cert.KernelTnIdeal.main_arg0)
          ∧ r.2.mem ((c.tc : Thread Cert.KernelTnIdeal.nD Cert.KernelTnIdeal.τ).loc Cert.KernelTnIdeal.main_arg1) = m ((c.tc : Thread Cert.KernelTnIdeal.nD Cert.KernelTnIdeal.τ).loc Cert.KernelTnIdeal.main_arg1))
      ∧ θ_run (Cert.ReferenceTnIdeal.defs (F := Ideal)) (onTc (τ := Cert.ReferenceTnIdeal.τ) (Cert.ReferenceTnIdeal.main (F := Ideal))) ⟨m', fun _ => 0, g'⟩ (fun r => ∀ c : Dev Cert.ReferenceTnIdeal.nD,
          r.2.mem ((c.tc : Thread Cert.ReferenceTnIdeal.nD Cert.ReferenceTnIdeal.τ).loc Cert.ReferenceTnIdeal.main_v6) = v0 c
          ∧ r.2.mem ((c.tc : Thread Cert.ReferenceTnIdeal.nD Cert.ReferenceTnIdeal.τ).loc Cert.ReferenceTnIdeal.main_arg0) = m' ((c.tc : Thread Cert.ReferenceTnIdeal.nD Cert.ReferenceTnIdeal.τ).loc Cert.ReferenceTnIdeal.main_arg0)
          ∧ r.2.mem ((c.tc : Thread Cert.ReferenceTnIdeal.nD Cert.ReferenceTnIdeal.τ).loc Cert.ReferenceTnIdeal.main_arg1) = m' ((c.tc : Thread Cert.ReferenceTnIdeal.nD Cert.ReferenceTnIdeal.τ).loc Cert.ReferenceTnIdeal.main_arg1))

def preserves_KernelNt_KernelNtIdeal : Prop :=
  True

def algebraic_KernelNtIdeal_ReferenceNtIdeal [hKernelNtIdeal : Cert.KernelNtIdeal.Facts] [hReferenceNtIdeal : Cert.ReferenceNtIdeal.Facts] : Prop :=
  ∀ (m : (ℓ : Loc Cert.KernelNtIdeal.nD Cert.KernelNtIdeal.τ Cert.KernelNtIdeal.sig) → Buf (Elt Ideal) ℓ) (g : Dev Cert.KernelNtIdeal.nD → PrngReg)
    (m' : (ℓ : Loc Cert.ReferenceNtIdeal.nD Cert.ReferenceNtIdeal.τ Cert.ReferenceNtIdeal.sig) → Buf (Elt Ideal) ℓ) (g' : Dev Cert.ReferenceNtIdeal.nD → PrngReg), Pre_KernelNtIdeal m →
    (∀ c : Dev Cert.KernelNtIdeal.nD,
      m' ((c.tc : Thread Cert.ReferenceNtIdeal.nD Cert.ReferenceNtIdeal.τ).loc Cert.ReferenceNtIdeal.main_arg0) = m ((c.tc : Thread Cert.KernelNtIdeal.nD Cert.KernelNtIdeal.τ).loc Cert.KernelNtIdeal.main_arg0)
      ∧ m' ((c.tc : Thread Cert.ReferenceNtIdeal.nD Cert.ReferenceNtIdeal.τ).loc Cert.ReferenceNtIdeal.main_arg1) = m ((c.tc : Thread Cert.KernelNtIdeal.nD Cert.KernelNtIdeal.τ).loc Cert.KernelNtIdeal.main_arg1)
      ∧ m' ((c.tc : Thread Cert.ReferenceNtIdeal.nD Cert.ReferenceNtIdeal.τ).loc Cert.ReferenceNtIdeal.main_arg2) = m ((c.tc : Thread Cert.KernelNtIdeal.nD Cert.KernelNtIdeal.τ).loc Cert.KernelNtIdeal.main_arg2)) →
    ∃ (v0 : (c : Dev Cert.KernelNtIdeal.nD) → Buf (Elt Ideal) ((c.tc : Thread Cert.KernelNtIdeal.nD Cert.KernelNtIdeal.τ).loc Cert.KernelNtIdeal.main_v8)),
      θ_run (Cert.KernelNtIdeal.defs (F := Ideal)) (onTc (τ := Cert.KernelNtIdeal.τ) (Cert.KernelNtIdeal.main (F := Ideal))) ⟨m, fun _ => 0, g⟩ (fun r => ∀ c : Dev Cert.KernelNtIdeal.nD,
          r.2.mem ((c.tc : Thread Cert.KernelNtIdeal.nD Cert.KernelNtIdeal.τ).loc Cert.KernelNtIdeal.main_v8) = v0 c
          ∧ r.2.mem ((c.tc : Thread Cert.KernelNtIdeal.nD Cert.KernelNtIdeal.τ).loc Cert.KernelNtIdeal.main_arg0) = m ((c.tc : Thread Cert.KernelNtIdeal.nD Cert.KernelNtIdeal.τ).loc Cert.KernelNtIdeal.main_arg0)
          ∧ r.2.mem ((c.tc : Thread Cert.KernelNtIdeal.nD Cert.KernelNtIdeal.τ).loc Cert.KernelNtIdeal.main_arg1) = m ((c.tc : Thread Cert.KernelNtIdeal.nD Cert.KernelNtIdeal.τ).loc Cert.KernelNtIdeal.main_arg1)
          ∧ r.2.mem ((c.tc : Thread Cert.KernelNtIdeal.nD Cert.KernelNtIdeal.τ).loc Cert.KernelNtIdeal.main_arg2) = m ((c.tc : Thread Cert.KernelNtIdeal.nD Cert.KernelNtIdeal.τ).loc Cert.KernelNtIdeal.main_arg2))
      ∧ θ_run (Cert.ReferenceNtIdeal.defs (F := Ideal)) (onTc (τ := Cert.ReferenceNtIdeal.τ) (Cert.ReferenceNtIdeal.main (F := Ideal))) ⟨m', fun _ => 0, g'⟩ (fun r => ∀ c : Dev Cert.ReferenceNtIdeal.nD,
          r.2.mem ((c.tc : Thread Cert.ReferenceNtIdeal.nD Cert.ReferenceNtIdeal.τ).loc Cert.ReferenceNtIdeal.main_v5) = v0 c
          ∧ r.2.mem ((c.tc : Thread Cert.ReferenceNtIdeal.nD Cert.ReferenceNtIdeal.τ).loc Cert.ReferenceNtIdeal.main_arg0) = m' ((c.tc : Thread Cert.ReferenceNtIdeal.nD Cert.ReferenceNtIdeal.τ).loc Cert.ReferenceNtIdeal.main_arg0)
          ∧ r.2.mem ((c.tc : Thread Cert.ReferenceNtIdeal.nD Cert.ReferenceNtIdeal.τ).loc Cert.ReferenceNtIdeal.main_arg1) = m' ((c.tc : Thread Cert.ReferenceNtIdeal.nD Cert.ReferenceNtIdeal.τ).loc Cert.ReferenceNtIdeal.main_arg1)
          ∧ r.2.mem ((c.tc : Thread Cert.ReferenceNtIdeal.nD Cert.ReferenceNtIdeal.τ).loc Cert.ReferenceNtIdeal.main_arg2) = m' ((c.tc : Thread Cert.ReferenceNtIdeal.nD Cert.ReferenceNtIdeal.τ).loc Cert.ReferenceNtIdeal.main_arg2))

def Claim : Prop :=
  ∃ (hKernelLn : Cert.KernelLn.Facts) (hKernelLnIdeal : Cert.KernelLnIdeal.Facts) (hReferenceLnIdeal : Cert.ReferenceLnIdeal.Facts) (hKernelAttn : Cert.KernelAttn.Facts) (hKernelAttnIdeal : Cert.KernelAttnIdeal.Facts) (hReferenceAttnIdeal : Cert.ReferenceAttnIdeal.Facts) (hKernelMix : Cert.KernelMix.Facts) (hKernelMixIdeal : Cert.KernelMixIdeal.Facts) (hReferenceMixIdeal : Cert.ReferenceMixIdeal.Facts) (hKernelPool : Cert.KernelPool.Facts) (hKernelPoolIdeal : Cert.KernelPoolIdeal.Facts) (hReferencePoolIdeal : Cert.ReferencePoolIdeal.Facts) (hKernelConv : Cert.KernelConv.Facts) (hKernelConvIdeal : Cert.KernelConvIdeal.Facts) (hReferenceConvIdeal : Cert.ReferenceConvIdeal.Facts) (hKernelAct : Cert.KernelAct.Facts) (hKernelActIdeal : Cert.KernelActIdeal.Facts) (hReferenceActIdeal : Cert.ReferenceActIdeal.Facts) (hKernelLoss : Cert.KernelLoss.Facts) (hKernelLossIdeal : Cert.KernelLossIdeal.Facts) (hReferenceLossIdeal : Cert.ReferenceLossIdeal.Facts) (hKernelFwd : Cert.KernelFwd.Facts) (hKernelFwdIdeal : Cert.KernelFwdIdeal.Facts) (hReferenceFwdIdeal : Cert.ReferenceFwdIdeal.Facts) (hKernelGate : Cert.KernelGate.Facts) (hKernelGateIdeal : Cert.KernelGateIdeal.Facts) (hReferenceGateIdeal : Cert.ReferenceGateIdeal.Facts) (hKernelTrunk : Cert.KernelTrunk.Facts) (hKernelTrunkIdeal : Cert.KernelTrunkIdeal.Facts) (hReferenceTrunkIdeal : Cert.ReferenceTrunkIdeal.Facts) (hKernelJoin : Cert.KernelJoin.Facts) (hKernelJoinIdeal : Cert.KernelJoinIdeal.Facts) (hReferenceJoinIdeal : Cert.ReferenceJoinIdeal.Facts) (hKernelUp : Cert.KernelUp.Facts) (hKernelUpIdeal : Cert.KernelUpIdeal.Facts) (hReferenceUpIdeal : Cert.ReferenceUpIdeal.Facts) (hKernelTn : Cert.KernelTn.Facts) (hKernelTnIdeal : Cert.KernelTnIdeal.Facts) (hReferenceTnIdeal : Cert.ReferenceTnIdeal.Facts) (hKernelNt : Cert.KernelNt.Facts) (hKernelNtIdeal : Cert.KernelNtIdeal.Facts) (hReferenceNtIdeal : Cert.ReferenceNtIdeal.Facts) (hPre_finite_ln : Cert.Pre_finite_ln.Facts) (hPre_finite_attn : Cert.Pre_finite_attn.Facts) (hPre_finite_mix : Cert.Pre_finite_mix.Facts) (hPre_finite_pool : Cert.Pre_finite_pool.Facts) (hPre_finite_conv : Cert.Pre_finite_conv.Facts) (hPre_finite_act : Cert.Pre_finite_act.Facts) (hPre_finite_loss : Cert.Pre_finite_loss.Facts) (hPre_finite_fwd : Cert.Pre_finite_fwd.Facts) (hPre_finite_gate : Cert.Pre_finite_gate.Facts) (hPre_finite_trunk : Cert.Pre_finite_trunk.Facts) (hPre_finite_join : Cert.Pre_finite_join.Facts),
    quiescent_KernelLn (hKernelLn := hKernelLn)
    ∧ quiescent_KernelLnIdeal (hKernelLnIdeal := hKernelLnIdeal)
    ∧ quiescent_KernelLnIdeal_pre_finite_ln (hKernelLnIdeal := hKernelLnIdeal) (hPre_finite_ln := hPre_finite_ln)
    ∧ quiescent_ReferenceLnIdeal (hReferenceLnIdeal := hReferenceLnIdeal)
    ∧ quiescent_ReferenceLnIdeal_pre_finite_ln (hReferenceLnIdeal := hReferenceLnIdeal) (hPre_finite_ln := hPre_finite_ln)
    ∧ quiescent_KernelAttn (hKernelAttn := hKernelAttn)
    ∧ quiescent_KernelAttnIdeal (hKernelAttnIdeal := hKernelAttnIdeal)
    ∧ quiescent_KernelAttnIdeal_pre_finite_attn (hKernelAttnIdeal := hKernelAttnIdeal) (hPre_finite_attn := hPre_finite_attn)
    ∧ quiescent_ReferenceAttnIdeal (hReferenceAttnIdeal := hReferenceAttnIdeal)
    ∧ quiescent_ReferenceAttnIdeal_pre_finite_attn (hReferenceAttnIdeal := hReferenceAttnIdeal) (hPre_finite_attn := hPre_finite_attn)
    ∧ quiescent_KernelMix (hKernelMix := hKernelMix)
    ∧ quiescent_KernelMixIdeal (hKernelMixIdeal := hKernelMixIdeal)
    ∧ quiescent_KernelMixIdeal_pre_finite_mix (hKernelMixIdeal := hKernelMixIdeal) (hPre_finite_mix := hPre_finite_mix)
    ∧ quiescent_ReferenceMixIdeal (hReferenceMixIdeal := hReferenceMixIdeal)
    ∧ quiescent_ReferenceMixIdeal_pre_finite_mix (hReferenceMixIdeal := hReferenceMixIdeal) (hPre_finite_mix := hPre_finite_mix)
    ∧ quiescent_KernelPool (hKernelPool := hKernelPool)
    ∧ quiescent_KernelPoolIdeal (hKernelPoolIdeal := hKernelPoolIdeal)
    ∧ quiescent_KernelPoolIdeal_pre_finite_pool (hKernelPoolIdeal := hKernelPoolIdeal) (hPre_finite_pool := hPre_finite_pool)
    ∧ quiescent_ReferencePoolIdeal (hReferencePoolIdeal := hReferencePoolIdeal)
    ∧ quiescent_ReferencePoolIdeal_pre_finite_pool (hReferencePoolIdeal := hReferencePoolIdeal) (hPre_finite_pool := hPre_finite_pool)
    ∧ quiescent_KernelConv (hKernelConv := hKernelConv)
    ∧ quiescent_KernelConvIdeal (hKernelConvIdeal := hKernelConvIdeal)
    ∧ quiescent_KernelConvIdeal_pre_finite_conv (hKernelConvIdeal := hKernelConvIdeal) (hPre_finite_conv := hPre_finite_conv)
    ∧ quiescent_ReferenceConvIdeal (hReferenceConvIdeal := hReferenceConvIdeal)
    ∧ quiescent_ReferenceConvIdeal_pre_finite_conv (hReferenceConvIdeal := hReferenceConvIdeal) (hPre_finite_conv := hPre_finite_conv)
    ∧ quiescent_KernelAct (hKernelAct := hKernelAct)
    ∧ quiescent_KernelActIdeal (hKernelActIdeal := hKernelActIdeal)
    ∧ quiescent_KernelActIdeal_pre_finite_act (hKernelActIdeal := hKernelActIdeal) (hPre_finite_act := hPre_finite_act)
    ∧ quiescent_ReferenceActIdeal (hReferenceActIdeal := hReferenceActIdeal)
    ∧ quiescent_ReferenceActIdeal_pre_finite_act (hReferenceActIdeal := hReferenceActIdeal) (hPre_finite_act := hPre_finite_act)
    ∧ quiescent_KernelLoss (hKernelLoss := hKernelLoss)
    ∧ quiescent_KernelLossIdeal (hKernelLossIdeal := hKernelLossIdeal)
    ∧ quiescent_KernelLossIdeal_pre_finite_loss (hKernelLossIdeal := hKernelLossIdeal) (hPre_finite_loss := hPre_finite_loss)
    ∧ quiescent_ReferenceLossIdeal (hReferenceLossIdeal := hReferenceLossIdeal)
    ∧ quiescent_ReferenceLossIdeal_pre_finite_loss (hReferenceLossIdeal := hReferenceLossIdeal) (hPre_finite_loss := hPre_finite_loss)
    ∧ quiescent_KernelFwd (hKernelFwd := hKernelFwd)
    ∧ quiescent_KernelFwdIdeal (hKernelFwdIdeal := hKernelFwdIdeal)
    ∧ quiescent_KernelFwdIdeal_pre_finite_fwd (hKernelFwdIdeal := hKernelFwdIdeal) (hPre_finite_fwd := hPre_finite_fwd)
    ∧ quiescent_ReferenceFwdIdeal (hReferenceFwdIdeal := hReferenceFwdIdeal)
    ∧ quiescent_ReferenceFwdIdeal_pre_finite_fwd (hReferenceFwdIdeal := hReferenceFwdIdeal) (hPre_finite_fwd := hPre_finite_fwd)
    ∧ quiescent_KernelGate (hKernelGate := hKernelGate)
    ∧ quiescent_KernelGateIdeal (hKernelGateIdeal := hKernelGateIdeal)
    ∧ quiescent_KernelGateIdeal_pre_finite_gate (hKernelGateIdeal := hKernelGateIdeal) (hPre_finite_gate := hPre_finite_gate)
    ∧ quiescent_ReferenceGateIdeal (hReferenceGateIdeal := hReferenceGateIdeal)
    ∧ quiescent_ReferenceGateIdeal_pre_finite_gate (hReferenceGateIdeal := hReferenceGateIdeal) (hPre_finite_gate := hPre_finite_gate)
    ∧ quiescent_KernelTrunk (hKernelTrunk := hKernelTrunk)
    ∧ quiescent_KernelTrunkIdeal (hKernelTrunkIdeal := hKernelTrunkIdeal)
    ∧ quiescent_KernelTrunkIdeal_pre_finite_trunk (hKernelTrunkIdeal := hKernelTrunkIdeal) (hPre_finite_trunk := hPre_finite_trunk)
    ∧ quiescent_ReferenceTrunkIdeal (hReferenceTrunkIdeal := hReferenceTrunkIdeal)
    ∧ quiescent_ReferenceTrunkIdeal_pre_finite_trunk (hReferenceTrunkIdeal := hReferenceTrunkIdeal) (hPre_finite_trunk := hPre_finite_trunk)
    ∧ quiescent_KernelJoin (hKernelJoin := hKernelJoin)
    ∧ quiescent_KernelJoinIdeal (hKernelJoinIdeal := hKernelJoinIdeal)
    ∧ quiescent_KernelJoinIdeal_pre_finite_join (hKernelJoinIdeal := hKernelJoinIdeal) (hPre_finite_join := hPre_finite_join)
    ∧ quiescent_ReferenceJoinIdeal (hReferenceJoinIdeal := hReferenceJoinIdeal)
    ∧ quiescent_ReferenceJoinIdeal_pre_finite_join (hReferenceJoinIdeal := hReferenceJoinIdeal) (hPre_finite_join := hPre_finite_join)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelTn (hKernelTn := hKernelTn)
    ∧ quiescent_KernelTnIdeal (hKernelTnIdeal := hKernelTnIdeal)
    ∧ quiescent_ReferenceTnIdeal (hReferenceTnIdeal := hReferenceTnIdeal)
    ∧ quiescent_KernelNt (hKernelNt := hKernelNt)
    ∧ quiescent_KernelNtIdeal (hKernelNtIdeal := hKernelNtIdeal)
    ∧ quiescent_ReferenceNtIdeal (hReferenceNtIdeal := hReferenceNtIdeal)
    ∧ preserves_KernelLn_KernelLnIdeal
    ∧ algebraic_KernelLnIdeal_ReferenceLnIdeal_pre_finite_ln (hKernelLnIdeal := hKernelLnIdeal) (hReferenceLnIdeal := hReferenceLnIdeal) (hPre_finite_ln := hPre_finite_ln)
    ∧ preserves_KernelAttn_KernelAttnIdeal
    ∧ algebraic_KernelAttnIdeal_ReferenceAttnIdeal_pre_finite_attn (hKernelAttnIdeal := hKernelAttnIdeal) (hReferenceAttnIdeal := hReferenceAttnIdeal) (hPre_finite_attn := hPre_finite_attn)
    ∧ preserves_KernelMix_KernelMixIdeal
    ∧ algebraic_KernelMixIdeal_ReferenceMixIdeal_pre_finite_mix (hKernelMixIdeal := hKernelMixIdeal) (hReferenceMixIdeal := hReferenceMixIdeal) (hPre_finite_mix := hPre_finite_mix)
    ∧ preserves_KernelPool_KernelPoolIdeal
    ∧ algebraic_KernelPoolIdeal_ReferencePoolIdeal_pre_finite_pool (hKernelPoolIdeal := hKernelPoolIdeal) (hReferencePoolIdeal := hReferencePoolIdeal) (hPre_finite_pool := hPre_finite_pool)
    ∧ preserves_KernelConv_KernelConvIdeal
    ∧ algebraic_KernelConvIdeal_ReferenceConvIdeal_pre_finite_conv (hKernelConvIdeal := hKernelConvIdeal) (hReferenceConvIdeal := hReferenceConvIdeal) (hPre_finite_conv := hPre_finite_conv)
    ∧ preserves_KernelAct_KernelActIdeal
    ∧ algebraic_KernelActIdeal_ReferenceActIdeal_pre_finite_act (hKernelActIdeal := hKernelActIdeal) (hReferenceActIdeal := hReferenceActIdeal) (hPre_finite_act := hPre_finite_act)
    ∧ preserves_KernelLoss_KernelLossIdeal
    ∧ algebraic_KernelLossIdeal_ReferenceLossIdeal_pre_finite_loss (hKernelLossIdeal := hKernelLossIdeal) (hReferenceLossIdeal := hReferenceLossIdeal) (hPre_finite_loss := hPre_finite_loss)
    ∧ preserves_KernelFwd_KernelFwdIdeal
    ∧ algebraic_KernelFwdIdeal_ReferenceFwdIdeal_pre_finite_fwd (hKernelFwdIdeal := hKernelFwdIdeal) (hReferenceFwdIdeal := hReferenceFwdIdeal) (hPre_finite_fwd := hPre_finite_fwd)
    ∧ preserves_KernelGate_KernelGateIdeal
    ∧ algebraic_KernelGateIdeal_ReferenceGateIdeal_pre_finite_gate (hKernelGateIdeal := hKernelGateIdeal) (hReferenceGateIdeal := hReferenceGateIdeal) (hPre_finite_gate := hPre_finite_gate)
    ∧ preserves_KernelTrunk_KernelTrunkIdeal
    ∧ algebraic_KernelTrunkIdeal_ReferenceTrunkIdeal_pre_finite_trunk (hKernelTrunkIdeal := hKernelTrunkIdeal) (hReferenceTrunkIdeal := hReferenceTrunkIdeal) (hPre_finite_trunk := hPre_finite_trunk)
    ∧ preserves_KernelJoin_KernelJoinIdeal
    ∧ algebraic_KernelJoinIdeal_ReferenceJoinIdeal_pre_finite_join (hKernelJoinIdeal := hKernelJoinIdeal) (hReferenceJoinIdeal := hReferenceJoinIdeal) (hPre_finite_join := hPre_finite_join)
    ∧ preserves_KernelUp_KernelUpIdeal
    ∧ algebraic_KernelUpIdeal_ReferenceUpIdeal (hKernelUpIdeal := hKernelUpIdeal) (hReferenceUpIdeal := hReferenceUpIdeal)
    ∧ preserves_KernelTn_KernelTnIdeal
    ∧ algebraic_KernelTnIdeal_ReferenceTnIdeal (hKernelTnIdeal := hKernelTnIdeal) (hReferenceTnIdeal := hReferenceTnIdeal)
    ∧ preserves_KernelNt_KernelNtIdeal
    ∧ algebraic_KernelNtIdeal_ReferenceNtIdeal (hKernelNtIdeal := hKernelNtIdeal) (hReferenceNtIdeal := hReferenceNtIdeal)
-- ==== Pre_finite_act.lean ====
abbrev S8192x11008 : Shape := ⟨2, ![8192, 11008]⟩
abbrev S3x11008 : Shape := ⟨2, ![3, 11008]⟩
abbrev S11008 : Shape := ⟨1, ![11008]⟩
abbrev S8192x5504 : Shape := ⟨2, ![8192, 5504]⟩
abbrev S_ : Shape := ⟨0, ![]⟩

class Facts : Prop where
  bcast_S_S8192x11008 : S_.BroadcastsInDim S8192x11008 (![] : Fin 0 → Fin S8192x11008.rank)
  reducesTo_S8192x11008_S_d0_1 : S8192x11008.ReducesTo [0, 1] S_
  h_S_ : 0 < S_.numel
  bcast_S_S3x11008 : S_.BroadcastsInDim S3x11008 (![] : Fin 0 → Fin S3x11008.rank)
  reducesTo_S3x11008_S_d0_1 : S3x11008.ReducesTo [0, 1] S_
  bcast_S_S11008 : S_.BroadcastsInDim S11008 (![] : Fin 0 → Fin S11008.rank)
  reducesTo_S11008_S_d0 : S11008.ReducesTo [0] S_
  bcast_S_S8192x5504 : S_.BroadcastsInDim S8192x5504 (![] : Fin 0 → Fin S8192x5504.rank)
  reducesTo_S8192x5504_S_d0_1 : S8192x5504.ReducesTo [0, 1] S_

variable [Facts]

def fn_part1 {F : FTy → Type} [FloatOps F] (main_v13 : IVec S_ 1) (main_v16 : IVec S8192x5504 1) : IVec S_ 1 :=
  let main_c_5 : IVec S_ 1 := constantI S_ 1 1#1
  let main_v17 : IVec S_ 1 := (fun x v => Host.reduce IntOp.andi x v reducesTo_S8192x5504_S_d0_1 h_S_) main_v16 main_c_5
  let main_v18 : IVec S_ 1 := andi main_v13 main_v17
  main_v18

def fn {F : FTy → Type} [FloatOps F] (main_arg0 : FVec F S8192x11008 .f32) (main_arg1 : FVec F S3x11008 .f32) (main_arg2 : FVec F S11008 .f32) (main_arg3 : FVec F S8192x5504 .f32) : IVec S_ 1 :=
  let main_v0 : FVec F S8192x11008 .f32 := Host.absf main_arg0
  let main_cst : FVec F S_ .f32 := constant S_ .f32 0x7F800000#32
  let main_v1 : FVec F S8192x11008 .f32 := broadcastInDim S8192x11008 ![] bcast_S_S8192x11008 main_cst
  let main_v2 : IVec S8192x11008 1 := cmpf .olt main_v0 main_v1
  let main_c : IVec S_ 1 := constantI S_ 1 1#1
  let main_v3 : IVec S_ 1 := (fun x v => Host.reduce IntOp.andi x v reducesTo_S8192x11008_S_d0_1 h_S_) main_v2 main_c
  let main_v4 : FVec F S3x11008 .f32 := Host.absf main_arg1
  let main_cst_0 : FVec F S_ .f32 := constant S_ .f32 0x7F800000#32
  let main_v5 : FVec F S3x11008 .f32 := broadcastInDim S3x11008 ![] bcast_S_S3x11008 main_cst_0
  let main_v6 : IVec S3x11008 1 := cmpf .olt main_v4 main_v5
  let main_c_1 : IVec S_ 1 := constantI S_ 1 1#1
  let main_v7 : IVec S_ 1 := (fun x v => Host.reduce IntOp.andi x v reducesTo_S3x11008_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S8192x5504 .f32 := Host.absf main_arg3
  let main_cst_4 : FVec F S_ .f32 := constant S_ .f32 0x7F800000#32
  let main_v15 : FVec F S8192x5504 .f32 := broadcastInDim S8192x5504 ![] bcast_S_S8192x5504 main_cst_4
  let main_v16 : IVec S8192x5504 1 := cmpf .olt main_v14 main_v15
  fn_part1 (F := F) main_v13 main_v16
-- ==== Pre_finite_attn.lean ====
abbrev S8192x6144 : Shape := ⟨2, ![8192, 6144]⟩
abbrev S8192x2048 : Shape := ⟨2, ![8192, 2048]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8192x6144 .f32) (main_arg1 : FVec F S8192x2048 .f32) : IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Pre_finite_conv.lean ====
abbrev S8192x11008 : Shape := ⟨2, ![8192, 11008]⟩
abbrev S3x11008 : Shape := ⟨2, ![3, 11008]⟩
abbrev S_ : Shape := ⟨0, ![]⟩

class Facts : Prop where
  bcast_S_S8192x11008 : S_.BroadcastsInDim S8192x11008 (![] : Fin 0 → Fin S8192x11008.rank)
  reducesTo_S8192x11008_S_d0_1 : S8192x11008.ReducesTo [0, 1] S_
  h_S_ : 0 < S_.numel
  bcast_S_S3x11008 : S_.BroadcastsInDim S3x11008 (![] : Fin 0 → Fin S3x11008.rank)
  reducesTo_S3x11008_S_d0_1 : S3x11008.ReducesTo [0, 1] S_

variable [Facts]

def fn {F : FTy → Type} [FloatOps F] (main_arg0 : FVec F S8192x11008 .f32) (main_arg1 : FVec F S3x11008 .f32) : IVec S_ 1 :=
  let main_v0 : FVec F S8192x11008 .f32 := Host.absf main_arg0
  let main_cst : FVec F S_ .f32 := constant S_ .f32 0x7F800000#32
  let main_v1 : FVec F S8192x11008 .f32 := broadcastInDim S8192x11008 ![] bcast_S_S8192x11008 main_cst
  let main_v2 : IVec S8192x11008 1 := cmpf .olt main_v0 main_v1
  let main_c : IVec S_ 1 := constantI S_ 1 1#1
  let main_v3 : IVec S_ 1 := (fun x v => Host.reduce IntOp.andi x v reducesTo_S8192x11008_S_d0_1 h_S_) main_v2 main_c
  let main_v4 : FVec F S3x11008 .f32 := Host.absf main_arg1
  let main_cst_0 : FVec F S_ .f32 := constant S_ .f32 0x7F800000#32
  let main_v5 : FVec F S3x11008 .f32 := broadcastInDim S3x11008 ![] bcast_S_S3x11008 main_cst_0
  let main_v6 : IVec S3x11008 1 := cmpf .olt main_v4 main_v5
  let main_c_1 : IVec S_ 1 := constantI S_ 1 1#1
  let main_v7 : IVec S_ 1 := (fun x v => Host.reduce IntOp.andi x v reducesTo_S3x11008_S_d0_1 h_S_) main_v6 main_c_1
  let main_v8 : IVec S_ 1 := andi main_v3 main_v7
  main_v8
-- ==== Pre_finite_fwd.lean ====
abbrev S8192x6144 : Shape := ⟨2, ![8192, 6144]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel

variable [Facts]

def fn {F : FTy → Type} [FloatOps F] (main_arg0 : FVec F S8192x6144 .f32) : IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  main_v3
-- ==== Pre_finite_gate.lean ====
abbrev S8192x11008 : Shape := ⟨2, ![8192, 11008]⟩
abbrev S3x11008 : Shape := ⟨2, ![3, 11008]⟩
abbrev S11008 : Shape := ⟨1, ![11008]⟩
abbrev S_ : Shape := ⟨0, ![]⟩

class Facts : Prop where
  bcast_S_S8192x11008 : S_.BroadcastsInDim S8192x11008 (![] : Fin 0 → Fin S8192x11008.rank)
  reducesTo_S8192x11008_S_d0_1 : S8192x11008.ReducesTo [0, 1] S_
  h_S_ : 0 < S_.numel
  bcast_S_S3x11008 : S_.BroadcastsInDim S3x11008 (![] : Fin 0 → Fin S3x11008.rank)
  reducesTo_S3x11008_S_d0_1 : S3x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S8192x11008 .f32) (main_arg1 : FVec F S3x11008 .f32) (main_arg2 : FVec F S11008 .f32) : IVec S_ 1 :=
  let main_v0 : FVec F S8192x11008 .f32 := Host.absf main_arg0
  let main_cst : FVec F S_ .f32 := constant S_ .f32 0x7F800000#32
  let main_v1 : FVec F S8192x11008 .f32 := broadcastInDim S8192x11008 ![] bcast_S_S8192x11008 main_cst
  let main_v2 : IVec S8192x11008 1 := cmpf .olt main_v0 main_v1
  let main_c : IVec S_ 1 := constantI S_ 1 1#1
  let main_v3 : IVec S_ 1 := (fun x v => Host.reduce IntOp.andi x v reducesTo_S8192x11008_S_d0_1 h_S_) main_v2 main_c
  let main_v4 : FVec F S3x11008 .f32 := Host.absf main_arg1
  let main_cst_0 : FVec F S_ .f32 := constant S_ .f32 0x7F800000#32
  let main_v5 : FVec F S3x11008 .f32 := broadcastInDim S3x11008 ![] bcast_S_S3x11008 main_cst_0
  let main_v6 : IVec S3x11008 1 := cmpf .olt main_v4 main_v5
  let main_c_1 : IVec S_ 1 := constantI S_ 1 1#1
  let main_v7 : IVec S_ 1 := (fun x v => Host.reduce IntOp.andi x v reducesTo_S3x11008_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Pre_finite_join.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S8192x2048 .f32) (main_arg1 : FVec F S2048x2048 .f32) (main_arg2 : FVec F S8192x2048 .f32) (main_arg3 : FVec F S2048 .f32) (main_arg4 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Pre_finite_ln.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S8192x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Pre_finite_loss.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) (main_arg1 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Pre_finite_mix.lean ====
abbrev S8192x2048 : Shape := ⟨2, ![8192, 2048]⟩
abbrev S4x512x512 : Shape := ⟨3, ![4, 512, 512]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S8192x2048 .f32) (main_arg1 : FVec F S4x512x512 .f32) (main_arg2 : FVec F S2048 .f32) (main_arg3 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== Pre_finite_pool.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) (main_arg1 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Pre_finite_trunk.lean ====
abbrev S8192x2048 : Shape := ⟨2, ![8192, 2048]⟩
abbrev S4x512x512 : Shape := ⟨3, ![4, 512, 512]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S8192x2048 .f32) (main_arg1 : FVec F S4x512x512 .f32) (main_arg2 : FVec F S2048 .f32) (main_arg3 : FVec F S2048 .f32) (main_arg4 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== KernelLn.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceLnIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 89
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S_, .f32⟩
  | .hbm, ⟨46, _⟩ => ⟨S2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S8192x1, .f32⟩
  | .hbm, ⟨62, _⟩ => ⟨S8192x2048, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x2048, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x2048, .f32⟩
  | .hbm, ⟨85, _⟩ => ⟨S8192x2048, .f32⟩
  | .hbm, ⟨86, _⟩ => ⟨S8192x2048, .bf16⟩
  | .hbm, ⟨87, _⟩ => ⟨S1x2048, .f32⟩
  | .hbm, ⟨88, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_v50 : Ref sig .tc := ⟨.hbm, 68, rfl⟩
abbrev main_cst_14 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_16 : Ref sig .tc := ⟨.hbm, 79, rfl⟩
abbrev main_v59 : Ref sig .tc := ⟨.hbm, 80, rfl⟩
abbrev main_v60 : Ref sig .tc := ⟨.hbm, 81, rfl⟩
abbrev main_cst_17 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== KernelAttn.lean ====
abbrev S8192x6144 : Shape := ⟨2, ![8192, 6144]⟩
abbrev S8192x2048 : Shape := ⟨2, ![8192, 2048]⟩
abbrev S8192x4x1536 : Shape := ⟨3, ![8192, 4, 1536]⟩
abbrev S4x8192x1536 : Shape := ⟨3, ![4, 8192, 1536]⟩
abbrev S1x8192x2048 : Shape := ⟨3, ![1, 8192, 2048]⟩
abbrev S1x128x256 : Shape := ⟨3, ![1, 128, 256]⟩
abbrev S1x8192x256 : Shape := ⟨3, ![1, 8192, 256]⟩
abbrev S128x256 : Shape := ⟨2, ![128, 256]⟩
abbrev S8192x256 : Shape := ⟨2, ![8192, 256]⟩
abbrev S2 : Shape := ⟨1, ![2]⟩
abbrev S384x384 : Shape := ⟨2, ![384, 384]⟩
abbrev S1x8192x128 : Shape := ⟨3, ![1, 8192, 128]⟩
abbrev S8192x128 : Shape := ⟨2, ![8192, 128]⟩
abbrev S8192 : Shape := ⟨1, ![8192]⟩
abbrev S8192x1 : Shape := ⟨2, ![8192, 1]⟩
abbrev S1x8192x1 : Shape := ⟨3, ![1, 8192, 1]⟩
abbrev S1 : Shape := ⟨1, ![1]⟩
abbrev S1x1x1 : Shape := ⟨3, ![1, 1, 1]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1x384x128 : Shape := ⟨3, ![1, 384, 128]⟩
abbrev S384x128 : Shape := ⟨2, ![384, 128]⟩
abbrev S128x384 : Shape := ⟨2, ![128, 384]⟩
abbrev S1x128x1 : Shape := ⟨3, ![1, 128, 1]⟩

abbrev nBuf : Space → Nat
  | .hbm => 10
  | .vmem => 18
  | .smem => 1
  | _ => 0

abbrev bufTy : (tb : Table) → Fin (tcTables nBuf tb) → BufTy
  | .hbm, ⟨0, _⟩ => ⟨S8192x6144, .f32⟩
  | .hbm, ⟨1, _⟩ => ⟨S8192x2048, .f32⟩
  | .hbm, ⟨2, _⟩ => ⟨S8192x6144, .bf16⟩
  | .hbm, ⟨3, _⟩ => ⟨S8192x4x1536, .bf16⟩
  | .hbm, ⟨4, _⟩ => ⟨S4x8192x1536, .bf16⟩
  | .hbm, ⟨5, _⟩ => ⟨S8192x2048, .bf16⟩
  | .hbm, ⟨6, _⟩ => ⟨S1x8192x2048, .bf16⟩
  | .hbm, ⟨7, _⟩ => ⟨S8192x2048, .bf16⟩
  | .hbm, ⟨8, _⟩ => ⟨S8192x2048, .bf16⟩
  | .hbm, ⟨9, _⟩ => ⟨S8192x2048, .bf16⟩
  | .local _ .vmem, ⟨0, _⟩ => ⟨S1x128x256, .bf16⟩
  | .local _ .vmem, ⟨1, _⟩ => ⟨S1x128x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x128x256, .bf16⟩
  | .local _ .vmem, ⟨7, _⟩ => ⟨S1x128x256, .bf16⟩
  | .local _ .vmem, ⟨8, _⟩ => ⟨S128x256, .bf16⟩
  | .local _ .vmem, ⟨9, _⟩ => ⟨S128x256, .bf16⟩
  | .local _ .vmem, ⟨10, _⟩ => ⟨S8192x256, .bf16⟩
  | .local _ .vmem, ⟨11, _⟩ => ⟨S8192x256, .bf16⟩
  | .local _ .vmem, ⟨12, _⟩ => ⟨S8192x256, .bf16⟩
  | .local _ .vmem, ⟨13, _⟩ => ⟨S8192x256, .bf16⟩
  | .local _ .vmem, ⟨14, _⟩ => ⟨S8192x256, .f32⟩
  | .local _ .vmem, ⟨15, _⟩ => ⟨S8192x256, .f32⟩
  | .local _ .vmem, ⟨16, _⟩ => ⟨S384x384, .bf16⟩
  | .local _ .vmem, ⟨17, _⟩ => ⟨S384x384, .bf16⟩
  | .local _ .smem, ⟨0, _⟩ => ⟨S2, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v5_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 64], ![false, false]⟩

def k0_mult1 (i : grid0.Coords) : BitVec 32 :=
  let arg1 : BitVec 32 := BitVec.ofNat 32 (i 1).val
  let c1_i32 : BitVec 32 := 1#32
  let v35 : BitVec 32 := Scalar.addi arg1 c1_i32
  let c128_i32 : BitVec 32 := 128#32
  let v36 : BitVec 32 := Scalar.muli v35 c128_i32
  let c384_i32 : BitVec 32 := 384#32
  let v41 : BitVec 32 := Scalar.subi v36 c384_i32
  let c0_i32_20 : BitVec 32 := 0#32
  let v42 : BitVec 32 := Scalar.maxsi v41 c0_i32_20
  v42
def k0_off1 (i : grid0.Coords) : Fin 3 → Nat :=
  let c0_21 : Index := 0#32
  let arg1 : BitVec 32 := BitVec.ofNat 32 (i 1).val
  let c1_i32 : BitVec 32 := 1#32
  let v35 : BitVec 32 := Scalar.addi arg1 c1_i32
  let c128_i32 : BitVec 32 := 128#32
  let v36 : BitVec 32 := Scalar.muli v35 c128_i32
  let c384_i32 : BitVec 32 := 384#32
  let v41 : BitVec 32 := Scalar.subi v36 c384_i32
  let c0_i32_20 : BitVec 32 := 0#32
  let v42 : BitVec 32 := Scalar.maxsi v41 c0_i32_20
  let v43 : BitVec 32 := v42
  let v44 : Index := Scalar.indexCast v43
  let c0_22 : Index := 0#32
  ![0, v44.toNat, 0]
def k0_off2 (i : grid0.Coords) : Fin 3 → Nat :=
  let c0_23 : Index := 0#32
  let arg1 : BitVec 32 := BitVec.ofNat 32 (i 1).val
  let c1_i32 : BitVec 32 := 1#32
  let v35 : BitVec 32 := Scalar.addi arg1 c1_i32
  let c128_i32 : BitVec 32 := 128#32
  let v36 : BitVec 32 := Scalar.muli v35 c128_i32
  let c384_i32 : BitVec 32 := 384#32
  let v41 : BitVec 32 := Scalar.subi v36 c384_i32
  let c0_i32_20 : BitVec 32 := 0#32
  let v42 : BitVec 32 := Scalar.maxsi v41 c0_i32_20
  let v43 : BitVec 32 := v42
  let v47 : Index := Scalar.indexCast v43
  let c128_24 : Index := 128#32
  ![0, v47.toNat, 128]
def k0_off3 (i : grid0.Coords) : Fin 2 → Nat :=
  let arg1 : BitVec 32 := BitVec.ofNat 32 (i 1).val
  let c1_i32 : BitVec 32 := 1#32
  let v35 : BitVec 32 := Scalar.addi arg1 c1_i32
  let c128_i32 : BitVec 32 := 128#32
  let v36 : BitVec 32 := Scalar.muli v35 c128_i32
  let c384_i32 : BitVec 32 := 384#32
  let v41 : BitVec 32 := Scalar.subi v36 c384_i32
  let c0_i32_20 : BitVec 32 := 0#32
  let v42 : BitVec 32 := Scalar.maxsi v41 c0_i32_20
  let v43 : BitVec 32 := v42
  let v125 : Index := Scalar.indexCast v43
  let c0_53 : Index := 0#32
  ![v125.toNat, 0]
def k0_off4 (i : grid0.Coords) : Fin 2 → Nat :=
  let arg1 : BitVec 32 := BitVec.ofNat 32 (i 1).val
  let c1_i32 : BitVec 32 := 1#32
  let v35 : BitVec 32 := Scalar.addi arg1 c1_i32
  let c128_i32 : BitVec 32 := 128#32
  let v36 : BitVec 32 := Scalar.muli v35 c128_i32
  let c384_i32 : BitVec 32 := 384#32
  let v41 : BitVec 32 := Scalar.subi v36 c384_i32
  let c0_i32_20 : BitVec 32 := 0#32
  let v42 : BitVec 32 := Scalar.maxsi v41 c0_i32_20
  let v43 : BitVec 32 := v42
  let v134 : Index := Scalar.indexCast v43
  let c128_56 : Index := 128#32
  ![v134.toNat, 128]
def k0_mult2 (arg14 : BitVec 32) : BitVec 32 :=
  let c384_i32_96 : BitVec 32 := 384#32
  let v240 : BitVec 32 := Scalar.subi arg14 c384_i32_96
  let c0_i32_97 : BitVec 32 := 0#32
  let v241 : BitVec 32 := Scalar.maxsi v240 c0_i32_97
  v241

def k0_off5 (arg14 : BitVec 32) : Fin 3 → Nat :=
  let c0_98 : Index := 0#32
  let c384_i32_96 : BitVec 32 := 384#32
  let v240 : BitVec 32 := Scalar.subi arg14 c384_i32_96
  let c0_i32_97 : BitVec 32 := 0#32
  let v241 : BitVec 32 := Scalar.maxsi v240 c0_i32_97
  let v242 : BitVec 32 := v241
  let v243 : Index := Scalar.indexCast v242
  let c0_99 : Index := 0#32
  ![0, v243.toNat, 0]
def k0_off6 (arg14 : BitVec 32) : Fin 3 → Nat :=
  let c0_100 : Index := 0#32
  let c384_i32_96 : BitVec 32 := 384#32
  let v240 : BitVec 32 := Scalar.subi arg14 c384_i32_96
  let c0_i32_97 : BitVec 32 := 0#32
  let v241 : BitVec 32 := Scalar.maxsi v240 c0_i32_97
  let v242 : BitVec 32 := v241
  let v246 : Index := Scalar.indexCast v242
  let c128_101 : Index := 128#32
  ![0, v246.toNat, 128]
def k0_off7 (arg14 : BitVec 32) : Fin 2 → Nat :=
  let c384_i32_96 : BitVec 32 := 384#32
  let v240 : BitVec 32 := Scalar.subi arg14 c384_i32_96
  let c0_i32_97 : BitVec 32 := 0#32
  let v241 : BitVec 32 := Scalar.maxsi v240 c0_i32_97
  let v242 : BitVec 32 := v241
  let v324 : Index := Scalar.indexCast v242
  let c0_130 : Index := 0#32
  ![v324.toNat, 0]
def k0_off8 (arg14 : BitVec 32) : Fin 2 → Nat :=
  let c384_i32_96 : BitVec 32 := 384#32
  let v240 : BitVec 32 := Scalar.subi arg14 c384_i32_96
  let c0_i32_97 : BitVec 32 := 0#32
  let v241 : BitVec 32 := Scalar.maxsi v240 c0_i32_97
  let v242 : BitVec 32 := v241
  let v333 : Index := Scalar.indexCast v242
  let c128_133 : Index := 128#32
  ![v333.toNat, 128]

def k0_chk1 (arg14 : BitVec 32) : Prop :=
  (128 ∣ (k0_mult2 arg14).toNat) ∧
  (∀ a, (k0_off5 arg14) a + S1x384x128.size a ≤ S1x8192x256.size a) ∧
  (∀ a, (k0_off6 arg14) a + S1x384x128.size a ≤ S1x8192x256.size a) ∧
  (∀ a, (k0_off7 arg14) a + S384x128.size a ≤ S8192x256.size a) ∧
  (∀ a, (k0_off8 arg14) a + S384x128.size a ≤ S8192x256.size a)
theorem k0_mult2_dvd : ∀ (arg14 : BitVec 32) (k0_hw1 : k0_chk1 arg14), 128 ∣ (k0_mult2 arg14).toNat := fun arg14 k0_hw1 => k0_hw1.1
theorem k0_off5_inb : ∀ (arg14 : BitVec 32) (k0_hw1 : k0_chk1 arg14), ∀ a, (k0_off5 arg14) a + S1x384x128.size a ≤ S1x8192x256.size a := fun arg14 k0_hw1 => k0_hw1.2.1
theorem k0_off6_inb : ∀ (arg14 : BitVec 32) (k0_hw1 : k0_chk1 arg14), ∀ a, (k0_off6 arg14) a + S1x384x128.size a ≤ S1x8192x256.size a := fun arg14 k0_hw1 => k0_hw1.2.2.1
theorem k0_off7_inb : ∀ (arg14 : BitVec 32) (k0_hw1 : k0_chk1 arg14), ∀ a, (k0_off7 arg14) a + S384x128.size a ≤ S8192x256.size a := fun arg14 k0_hw1 => k0_hw1.2.2.2.1
theorem k0_off8_inb : ∀ (arg14 : BitVec 32) (k0_hw1 : k0_chk1 arg14), ∀ a, (k0_off8 arg14) a + S384x128.size a ≤ S8192x256.size a := fun arg14 k0_hw1 => k0_hw1.2.2.2.2

def k0_mult3 (arg14 : BitVec 32) : BitVec 32 :=
  let c384_i32_96 : BitVec 32 := 384#32
  let v240 : BitVec 32 := Scalar.subi arg14 c384_i32_96
  let c0_i32_97 : BitVec 32 := 0#32
  let v241 : BitVec 32 := Scalar.maxsi v240 c0_i32_97
  v241

def k0_off9 (arg14 : BitVec 32) : Fin 3 → Nat :=
  let c0_98 : Index := 0#32
  let c384_i32_96 : BitVec 32 := 384#32
  let v240 : BitVec 32 := Scalar.subi arg14 c384_i32_96
  let c0_i32_97 : BitVec 32 := 0#32
  let v241 : BitVec 32 := Scalar.maxsi v240 c0_i32_97
  let v242 : BitVec 32 := v241
  let v243 : Index := Scalar.indexCast v242
  let c0_99 : Index := 0#32
  ![0, v243.toNat, 0]
def k0_off10 (arg14 : BitVec 32) : Fin 3 → Nat :=
  let c0_100 : Index := 0#32
  let c384_i32_96 : BitVec 32 := 384#32
  let v240 : BitVec 32 := Scalar.subi arg14 c384_i32_96
  let c0_i32_97 : BitVec 32 := 0#32
  let v241 : BitVec 32 := Scalar.maxsi v240 c0_i32_97
  let v242 : BitVec 32 := v241
  let v246 : Index := Scalar.indexCast v242
  let c128_101 : Index := 128#32
  ![0, v246.toNat, 128]
def k0_off11 (arg14 : BitVec 32) : Fin 2 → Nat :=
  let c384_i32_96 : BitVec 32 := 384#32
  let v240 : BitVec 32 := Scalar.subi arg14 c384_i32_96
  let c0_i32_97 : BitVec 32 := 0#32
  let v241 : BitVec 32 := Scalar.maxsi v240 c0_i32_97
  let v242 : BitVec 32 := v241
  let v382 : Index := Scalar.indexCast v242
  let c0_150 : Index := 0#32
  ![v382.toNat, 0]
def k0_off12 (arg14 : BitVec 32) : Fin 2 → Nat :=
  let c384_i32_96 : BitVec 32 := 384#32
  let v240 : BitVec 32 := Scalar.subi arg14 c384_i32_96
  let c0_i32_97 : BitVec 32 := 0#32
  let v241 : BitVec 32 := Scalar.maxsi v240 c0_i32_97
  let v242 : BitVec 32 := v241
  let v390 : Index := Scalar.indexCast v242
  let c128_153 : Index := 128#32
  ![v390.toNat, 128]

def k0_chk2 (arg14 : BitVec 32) : Prop :=
  (128 ∣ (k0_mult3 arg14).toNat) ∧
  (∀ a, (k0_off9 arg14) a + S1x384x128.size a ≤ S1x8192x256.size a) ∧
  (∀ a, (k0_off10 arg14) a + S1x384x128.size a ≤ S1x8192x256.size a) ∧
  (∀ a, (k0_off11 arg14) a + S384x128.size a ≤ S8192x256.size a) ∧
  (∀ a, (k0_off12 arg14) a + S384x128.size a ≤ S8192x256.size a)
theorem k0_mult3_dvd : ∀ (arg14 : BitVec 32) (k0_hw2 : k0_chk2 arg14), 128 ∣ (k0_mult3 arg14).toNat := fun arg14 k0_hw2 => k0_hw2.1
theorem k0_off9_inb : ∀ (arg14 : BitVec 32) (k0_hw2 : k0_chk2 arg14), ∀ a, (k0_off9 arg14) a + S1x384x128.size a ≤ S1x8192x256.size a := fun arg14 k0_hw2 => k0_hw2.2.1
theorem k0_off10_inb : ∀ (arg14 : BitVec 32) (k0_hw2 : k0_chk2 arg14), ∀ a, (k0_off10 arg14) a + S1x384x128.size a ≤ S1x8192x256.size a := fun arg14 k0_hw2 => k0_hw2.2.2.1
theorem k0_off11_inb : ∀ (arg14 : BitVec 32) (k0_hw2 : k0_chk2 arg14), ∀ a, (k0_off11 arg14) a + S384x128.size a ≤ S8192x256.size a := fun arg14 k0_hw2 => k0_hw2.2.2.2.1
theorem k0_off12_inb : ∀ (arg14 : BitVec 32) (k0_hw2 : k0_chk2 arg14), ∀ a, (k0_off12 arg14) a + S384x128.size a ≤ S8192x256.size a := fun arg14 k0_hw2 => k0_hw2.2.2.2.2

def k0_cond2 (i : grid0.Coords) : BitVec 1 :=
  let arg1 : BitVec 32 := BitVec.ofNat 32 (i 1).val
  let c63_i32 : BitVec 32 := 63#32
  let v237 : BitVec 1 := Scalar.cmpi .eq arg1 c63_i32
  let v238 : BitVec 32 := Scalar.extui v237
  let c0_i32_95 : BitVec 32 := 0#32
  let v239 : BitVec 1 := Scalar.cmpi .ne v238 c0_i32_95
  v239

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let v18 : BitVec 32 := Scalar.muli arg0 c2_i32_4
  let c12_i32_5 : BitVec 32 := 12#32
  let c0_i32_6 : BitVec 32 := 0#32
  let v19 : BitVec 1 := Scalar.cmpi .eq c12_i32_5 c0_i32_6
  let c1_i32_7 : BitVec 32 := 1#32
  let v20 : BitVec 32 := Scalar.select v19 c1_i32_7 c12_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c2_i32_11 : BitVec 32 := 2#32
  let v29 : BitVec 32 := Scalar.divsi v28 c2_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c2_i32_11 c0_i32_14
  let v36 : BitVec 32 := Scalar.extui v35
  let c0_i32_15 : BitVec 32 := 0#32
  let v37 : BitVec 1 := Scalar.cmpi .slt c2_i32_11 c0_i32_15
  let v38 : BitVec 32 := Scalar.extui v37
  let v39 : BitVec 32 := Scalar.subi v36 v38
  let v40 : BitVec 1 := Scalar.cmpi .ne v34 v39
  let v41 : BitVec 32 := Scalar.remsi v28 c2_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  ![v17.toNat, arg1.toNat, v45.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c16_i32 : BitVec 32 := 16#32
  let v1 : BitVec 32 := Scalar.addi c16_i32 v0
  let c12_i32 : BitVec 32 := 12#32
  let v2 : BitVec 32 := Scalar.divsi v1 c12_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c12_i32 c0_i32_1
  let v9 : BitVec 32 := Scalar.extui v8
  let c0_i32_2 : BitVec 32 := 0#32
  let v10 : BitVec 1 := Scalar.cmpi .slt c12_i32 c0_i32_2
  let v11 : BitVec 32 := Scalar.extui v10
  let v12 : BitVec 32 := Scalar.subi v9 v11
  let v13 : BitVec 1 := Scalar.cmpi .ne v7 v12
  let v14 : BitVec 32 := Scalar.remsi v1 c12_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32_4 : BitVec 32 := 2#32
  let v19 : BitVec 32 := Scalar.muli arg0 c2_i32_4
  let c16_i32_5 : BitVec 32 := 16#32
  let v20 : BitVec 32 := Scalar.addi c16_i32_5 v19
  let c12_i32_6 : BitVec 32 := 12#32
  let c0_i32_7 : BitVec 32 := 0#32
  let v21 : BitVec 1 := Scalar.cmpi .eq c12_i32_6 c0_i32_7
  let c1_i32_8 : BitVec 32 := 1#32
  let v22 : BitVec 32 := Scalar.select v21 c1_i32_8 c12_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c2_i32_12 : BitVec 32 := 2#32
  let v31 : BitVec 32 := Scalar.divsi v30 c2_i32_12
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c2_i32_12 c0_i32_15
  let v38 : BitVec 32 := Scalar.extui v37
  let c0_i32_16 : BitVec 32 := 0#32
  let v39 : BitVec 1 := Scalar.cmpi .slt c2_i32_12 c0_i32_16
  let v40 : BitVec 32 := Scalar.extui v39
  let v41 : BitVec 32 := Scalar.subi v38 v40
  let v42 : BitVec 1 := Scalar.cmpi .ne v36 v41
  let v43 : BitVec 32 := Scalar.remsi v30 c2_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c0_i32_19 : BitVec 32 := 0#32
  let c0_i32_20 : BitVec 32 := 0#32
  ![v18.toNat, c0_i32_19.toNat, v47.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c32_i32 : BitVec 32 := 32#32
  let v1 : BitVec 32 := Scalar.addi c32_i32 v0
  let c12_i32 : BitVec 32 := 12#32
  let v2 : BitVec 32 := Scalar.divsi v1 c12_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c12_i32 c0_i32_1
  let v9 : BitVec 32 := Scalar.extui v8
  let c0_i32_2 : BitVec 32 := 0#32
  let v10 : BitVec 1 := Scalar.cmpi .slt c12_i32 c0_i32_2
  let v11 : BitVec 32 := Scalar.extui v10
  let v12 : BitVec 32 := Scalar.subi v9 v11
  let v13 : BitVec 1 := Scalar.cmpi .ne v7 v12
  let v14 : BitVec 32 := Scalar.remsi v1 c12_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32_4 : BitVec 32 := 2#32
  let v19 : BitVec 32 := Scalar.muli arg0 c2_i32_4
  let c32_i32_5 : BitVec 32 := 32#32
  let v20 : BitVec 32 := Scalar.addi c32_i32_5 v19
  let c12_i32_6 : BitVec 32 := 12#32
  let c0_i32_7 : BitVec 32 := 0#32
  let v21 : BitVec 1 := Scalar.cmpi .eq c12_i32_6 c0_i32_7
  let c1_i32_8 : BitVec 32 := 1#32
  let v22 : BitVec 32 := Scalar.select v21 c1_i32_8 c12_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c2_i32_12 : BitVec 32 := 2#32
  let v31 : BitVec 32 := Scalar.divsi v30 c2_i32_12
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c2_i32_12 c0_i32_15
  let v38 : BitVec 32 := Scalar.extui v37
  let c0_i32_16 : BitVec 32 := 0#32
  let v39 : BitVec 1 := Scalar.cmpi .slt c2_i32_12 c0_i32_16
  let v40 : BitVec 32 := Scalar.extui v39
  let v41 : BitVec 32 := Scalar.subi v38 v40
  let v42 : BitVec 1 := Scalar.cmpi .ne v36 v41
  let v43 : BitVec 32 := Scalar.remsi v30 c2_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c0_i32_19 : BitVec 32 := 0#32
  let c0_i32_20 : BitVec 32 := 0#32
  ![v18.toNat, c0_i32_19.toNat, v47.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8192x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelAttnIdeal.lean ====
variable {F : FTy → Type} [FloatOps F] [Named F]
def κ : String → Option EReal := fun
  | "exit" => some ⊥
  | "mask" => some ⊥
  | _ => none
-- ==== ReferenceAttnIdeal.lean ====
abbrev S8192x6144 : Shape := ⟨2, ![8192, 6144]⟩
abbrev S8192x2048 : Shape := ⟨2, ![8192, 2048]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x128x8192 : Shape := ⟨3, ![16, 128, 8192]⟩

abbrev nBuf : Space → Nat
  | .hbm => 127
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x16x128, .f32⟩
  | .hbm, ⟨6, _⟩ => ⟨S16x8192x128, .f32⟩
  | .hbm, ⟨7, _⟩ => ⟨S8192x16x128, .f32⟩
  | .hbm, ⟨8, _⟩ => ⟨S16x8192x128, .f32⟩
  | .hbm, ⟨9, _⟩ => ⟨S8192x16x128, .f32⟩
  | .hbm, ⟨10, _⟩ => ⟨S16x8192x128, .f32⟩
  | .hbm, ⟨11, _⟩ => ⟨S16x8192x8192, .f32⟩
  | .hbm, ⟨12, _⟩ => ⟨S_, .f32⟩
  | .hbm, ⟨13, _⟩ => ⟨S16x8192x8192, .f32⟩
  | .hbm, ⟨14, _⟩ => ⟨S16x8192x8192, .f32⟩
  | .hbm, ⟨15, _⟩ => ⟨S8192, .i32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S16x8192x8192, .f32⟩
  | .hbm, ⟨23, _⟩ => ⟨S16x8192x8192, .f32⟩
  | .hbm, ⟨24, _⟩ => ⟨S_, .f32⟩
  | .hbm, ⟨25, _⟩ => ⟨S16x8192x8192, .f32⟩
  | .hbm, ⟨26, _⟩ => ⟨S16x8192x8192, .f32⟩
  | .hbm, ⟨27, _⟩ => ⟨S16x8192x8192, .f32⟩
  | .hbm, ⟨28, _⟩ => ⟨S16x8192x8192, .f32⟩
  | .hbm, ⟨29, _⟩ => ⟨S16x8192x8192, .i1⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S16x8192x8192, .f32⟩
  | .hbm, ⟨38, _⟩ => ⟨S_, .f32⟩
  | .hbm, ⟨39, _⟩ => ⟨S16x8192x8192, .f32⟩
  | .hbm, ⟨40, _⟩ => ⟨S16x8192x8192, .i1⟩
  | .hbm, ⟨41, _⟩ => ⟨S_, .f32⟩
  | .hbm, ⟨42, _⟩ => ⟨S16x8192x8192, .f32⟩
  | .hbm, ⟨43, _⟩ => ⟨S16x8192x8192, .f32⟩
  | .hbm, ⟨44, _⟩ => ⟨S_, .f32⟩
  | .hbm, ⟨45, _⟩ => ⟨S16x8192x8192, .f32⟩
  | .hbm, ⟨46, _⟩ => ⟨S16x8192x8192, .i1⟩
  | .hbm, ⟨47, _⟩ => ⟨S_, .f32⟩
  | .hbm, ⟨48, _⟩ => ⟨S16x8192x8192, .f32⟩
  | .hbm, ⟨49, _⟩ => ⟨S16x8192x8192, .f32⟩
  | .hbm, ⟨50, _⟩ => ⟨S16x8192x8192, .f32⟩
  | .hbm, ⟨51, _⟩ => ⟨S16x8192x8192, .f32⟩
  | .hbm, ⟨52, _⟩ => ⟨S_, .f32⟩
  | .hbm, ⟨53, _⟩ => ⟨S_, .f32⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S16x8192x8192, .f32⟩
  | .hbm, ⟨60, _⟩ => ⟨S16x8192x8192, .i1⟩
  | .hbm, ⟨61, _⟩ => ⟨S_, .f32⟩
  | .hbm, ⟨62, _⟩ => ⟨S16x8192x8192, .f32⟩
  | .hbm, ⟨63, _⟩ => ⟨S16x8192x8192, .f32⟩
  | .hbm, ⟨64, _⟩ => ⟨S16x8192x8192, .f32⟩
  | .hbm, ⟨65, _⟩ => ⟨S16x8192x8192, .f32⟩
  | .hbm, ⟨66, _⟩ => ⟨S16x8192x8192, .f32⟩
  | .hbm, ⟨67, _⟩ => ⟨S_, .f32⟩
  | .hbm, ⟨68, _⟩ => ⟨S16x8192x8192, .f32⟩
  | .hbm, ⟨69, _⟩ => ⟨S16x8192x8192, .f32⟩
  | .hbm, ⟨70, _⟩ => ⟨S16x8192x8192, .f32⟩
  | .hbm, ⟨71, _⟩ => ⟨S_, .f32⟩
  | .hbm, ⟨72, _⟩ => ⟨S_, .f32⟩
  | .hbm, ⟨73, _⟩ => ⟨S16x8192x8192, .i1⟩
  | .hbm, ⟨74, _⟩ => ⟨S16x8192x8192, .f32⟩
  | .hbm, ⟨75, _⟩ => ⟨S16x8192x8192, .f32⟩
  | .hbm, ⟨76, _⟩ => ⟨S_, .f32⟩
  | .hbm, ⟨77, _⟩ => ⟨S16x8192x8192, .f32⟩
  | .hbm, ⟨78, _⟩ => ⟨S_, .f32⟩
  | .hbm, ⟨79, _⟩ => ⟨S_, .f32⟩
  | .hbm, ⟨80, _⟩ => ⟨S16x8192x8192, .f32⟩
  | .hbm, ⟨81, _⟩ => ⟨S16x8192x8192, .f32⟩
  | .hbm, ⟨82, _⟩ => ⟨S_, .f32⟩
  | .hbm, ⟨83, _⟩ => ⟨S_, .f32⟩
  | .hbm, ⟨84, _⟩ => ⟨S16x8192x8192, .i1⟩
  | .hbm, ⟨85, _⟩ => ⟨S16x8192x8192, .f32⟩
  | .hbm, ⟨86, _⟩ => ⟨S16x8192x8192, .f32⟩
  | .hbm, ⟨87, _⟩ => ⟨S_, .f32⟩
  | .hbm, ⟨88, _⟩ => ⟨S16x8192x8192, .f32⟩
  | .hbm, ⟨89, _⟩ => ⟨S16x8192x8192, .f32⟩
  | .hbm, ⟨90, _⟩ => ⟨S16x8192x128, .f32⟩
  | .hbm, ⟨91, _⟩ => ⟨S8192x16x128, .f32⟩
  | .hbm, ⟨92, _⟩ => ⟨S8192x2048, .f32⟩
  | .hbm, ⟨93, _⟩ => ⟨S8192x16x128, .f32⟩
  | .hbm, ⟨94, _⟩ => ⟨S16x8192x128, .f32⟩
  | .hbm, ⟨95, _⟩ => ⟨S16x128x8192, .f32⟩
  | .hbm, ⟨96, _⟩ => ⟨S16x8192x128, .f32⟩
  | .hbm, ⟨97, _⟩ => ⟨S16x8192x8192, .f32⟩
  | .hbm, ⟨98, _⟩ => ⟨S16x8192x8192, .f32⟩
  | .hbm, ⟨99, _⟩ => ⟨S_, .f32⟩
  | .hbm, ⟨100, _⟩ => ⟨S16x8192x8192, .f32⟩
  | .hbm, ⟨101, _⟩ => ⟨S16x8192x8192, .f32⟩
  | .hbm, ⟨102, _⟩ => ⟨S_, .f32⟩
  | .hbm, ⟨103, _⟩ => ⟨S_, .f32⟩
  | .hbm, ⟨104, _⟩ => ⟨S16x8192x8192, .f32⟩
  | .hbm, ⟨105, _⟩ => ⟨S_, .f32⟩
  | .hbm, ⟨106, _⟩ => ⟨S16x8192x8192, .f32⟩
  | .hbm, ⟨107, _⟩ => ⟨S16x8192x8192, .f32⟩
  | .hbm, ⟨108, _⟩ => ⟨S16x8192x8192, .f32⟩
  | .hbm, ⟨109, _⟩ => ⟨S16x8192x8192, .f32⟩
  | .hbm, ⟨110, _⟩ => ⟨S16x8192x8192, .f32⟩
  | .hbm, ⟨111, _⟩ => ⟨S16x8192x8192, .f32⟩
  | .hbm, ⟨112, _⟩ => ⟨S16x8192x8192, .f32⟩
  | .hbm, ⟨113, _⟩ => ⟨S_, .f32⟩
  | .hbm, ⟨114, _⟩ => ⟨S16x8192x8192, .f32⟩
  | .hbm, ⟨115, _⟩ => ⟨S16x8192x8192, .f32⟩
  | .hbm, ⟨116, _⟩ => ⟨S16x8192x128, .f32⟩
  | .hbm, ⟨117, _⟩ => ⟨S16x8192x128, .f32⟩
  | .hbm, ⟨118, _⟩ => ⟨S8192x16x128, .f32⟩
  | .hbm, ⟨119, _⟩ => ⟨S8192x2048, .f32⟩
  | .hbm, ⟨120, _⟩ => ⟨S8192x16x128, .f32⟩
  | .hbm, ⟨121, _⟩ => ⟨S8192x2048, .f32⟩
  | .hbm, ⟨122, _⟩ => ⟨S8192x16x128, .f32⟩
  | .hbm, ⟨123, _⟩ => ⟨S8192x2048, .f32⟩
  | .hbm, ⟨124, _⟩ => ⟨S8192x2048, .bf16⟩
  | .hbm, ⟨125, _⟩ => ⟨S8192x2048, .bf16⟩
  | .hbm, ⟨126, _⟩ => ⟨S8192x2048, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_cst_1 : Ref sig .tc := ⟨.hbm, 82, rfl⟩
abbrev main_call3_v0 : Ref sig .tc := ⟨.hbm, 83, rfl⟩
abbrev main_v24_1 : Ref sig .tc := ⟨.hbm, 84, rfl⟩
abbrev main_call3_v2 : Ref sig .tc := ⟨.hbm, 85, rfl⟩
abbrev main_v24_0 : Ref sig .tc := ⟨.hbm, 86, rfl⟩
abbrev main_call3_cst : Ref sig .tc := ⟨.hbm, 87, rfl⟩
abbrev main_v24_2 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_call4_cst : Ref sig .tc := ⟨.hbm, 99, rfl⟩
abbrev main_call4_v0 : Ref sig .tc := ⟨.hbm, 100, rfl⟩
abbrev main_v35 : Ref sig .tc := ⟨.hbm, 101, rfl⟩
abbrev main_call5_cst : Ref sig .tc := ⟨.hbm, 102, rfl⟩
abbrev main_call5_v0 : Ref sig .tc := ⟨.hbm, 103, rfl⟩
abbrev main_v36 : Ref sig .tc := ⟨.hbm, 104, rfl⟩
abbrev main_call6_cst : Ref sig .tc := ⟨.hbm, 105, rfl⟩
abbrev main_call6_v0 : Ref sig .tc := ⟨.hbm, 106, rfl⟩
abbrev main_v37 : Ref sig .tc := ⟨.hbm, 107, rfl⟩
abbrev main_call7_v0 : Ref sig .tc := ⟨.hbm, 108, rfl⟩
abbrev main_call7_v1 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_cst_2 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩

abbrev nD : Nat := 1
abbrev τ : Topo := Topo.v7x

variable {F : FTy → Type} [FloatOps F]
-- ==== KernelMix.lean ====
abbrev S8192x2048 : Shape := ⟨2, ![8192, 2048]⟩
abbrev S4x512x512 : Shape := ⟨3, ![4, 512, 512]⟩
abbrev S2048 : Shape := ⟨1, ![2048]⟩
abbrev S1x2048 : Shape := ⟨2, ![1, 2048]⟩
abbrev S256x2048 : Shape := ⟨2, ![256, 2048]⟩
abbrev S16x2048 : Shape := ⟨2, ![16, 2048]⟩
abbrev S256x512 : Shape := ⟨2, ![256, 512]⟩
abbrev S16x512 : Shape := ⟨2, ![16, 512]⟩
abbrev S272x512 : Shape := ⟨2, ![272, 512]⟩
abbrev S256x1 : Shape := ⟨2, ![256, 1]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S2048, .f32⟩
  | .hbm, ⟨3, _⟩ => ⟨S8192x2048, .f32⟩
  | .hbm, ⟨4, _⟩ => ⟨S4x512x512, .bf16⟩
  | .hbm, ⟨5, _⟩ => ⟨S1x2048, .f32⟩
  | .hbm, ⟨6, _⟩ => ⟨S8192x2048, .f32⟩
  | .hbm, ⟨7, _⟩ => ⟨S4x512x512, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S16x2048, .f32⟩
  | .local _ .vmem, ⟨4, _⟩ => ⟨S256x2048, .f32⟩
  | .local _ .vmem, ⟨5, _⟩ => ⟨S256x2048, .f32⟩
  | .local _ .vmem, ⟨6, _⟩ => ⟨S4x512x512, .bf16⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S4x512x512, .f32⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceMixIdeal.lean ====
abbrev S8192x2048 : Shape := ⟨2, ![8192, 2048]⟩
abbrev S4x512x512 : Shape := ⟨3, ![4, 512, 512]⟩
abbrev S2048 : Shape := ⟨1, ![2048]⟩
abbrev S_ : Shape := ⟨0, ![]⟩
abbrev S8192x4x512 : Shape := ⟨3, ![8192, 4, 512]⟩
abbrev S8192 : Shape := ⟨1, ![8192]⟩
abbrev S8192x1x512 : Shape := ⟨3, ![8192, 1, 512]⟩
abbrev S8192x512 : Shape := ⟨2, ![8192, 512]⟩
abbrev S2x512 : Shape := ⟨2, ![2, 512]⟩
abbrev S8194x512 : Shape := ⟨2, ![8194, 512]⟩
abbrev S8192x1 : Shape := ⟨2, ![8192, 1]⟩
abbrev S4x512 : Shape := ⟨2, ![4, 512]⟩
abbrev S8196x512 : Shape := ⟨2, ![8196, 512]⟩
abbrev S8x512 : Shape := ⟨2, ![8, 512]⟩
abbrev S8200x512 : Shape := ⟨2, ![8200, 512]⟩
abbrev S16x512 : Shape := ⟨2, ![16, 512]⟩
abbrev S8208x512 : Shape := ⟨2, ![8208, 512]⟩
abbrev S4x512x8192 : Shape := ⟨3, ![4, 512, 8192]⟩
abbrev S1x2048 : Shape := ⟨2, ![1, 2048]⟩
abbrev S4x8192x512 : Shape := ⟨3, ![4, 8192, 512]⟩

abbrev nBuf : Space → Nat
  | .hbm => 108
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S_, .f32⟩
  | .hbm, ⟨6, _⟩ => ⟨S8192x2048, .f32⟩
  | .hbm, ⟨7, _⟩ => ⟨S8192x4x512, .f32⟩
  | .hbm, ⟨8, _⟩ => ⟨S8192x4x512, .f32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192x1x512, .f32⟩
  | .hbm, ⟨14, _⟩ => ⟨S8192x512, .f32⟩
  | .hbm, ⟨15, _⟩ => ⟨S_, .f32⟩
  | .hbm, ⟨16, _⟩ => ⟨S2x512, .f32⟩
  | .hbm, ⟨17, _⟩ => ⟨S8194x512, .f32⟩
  | .hbm, ⟨18, _⟩ => ⟨S8192x512, .f32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .f32⟩
  | .hbm, ⟨23, _⟩ => ⟨S8192x1, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x1x512, .f32⟩
  | .hbm, ⟨28, _⟩ => ⟨S8192x512, .f32⟩
  | .hbm, ⟨29, _⟩ => ⟨S8192x512, .f32⟩
  | .hbm, ⟨30, _⟩ => ⟨S8192x1x512, .f32⟩
  | .hbm, ⟨31, _⟩ => ⟨S8192x512, .f32⟩
  | .hbm, ⟨32, _⟩ => ⟨S_, .f32⟩
  | .hbm, ⟨33, _⟩ => ⟨S4x512, .f32⟩
  | .hbm, ⟨34, _⟩ => ⟨S8196x512, .f32⟩
  | .hbm, ⟨35, _⟩ => ⟨S8192x512, .f32⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .f32⟩
  | .hbm, ⟨40, _⟩ => ⟨S8192x1, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x1x512, .f32⟩
  | .hbm, ⟨45, _⟩ => ⟨S8192x512, .f32⟩
  | .hbm, ⟨46, _⟩ => ⟨S8192x512, .f32⟩
  | .hbm, ⟨47, _⟩ => ⟨S8192x1x512, .f32⟩
  | .hbm, ⟨48, _⟩ => ⟨S8192x512, .f32⟩
  | .hbm, ⟨49, _⟩ => ⟨S_, .f32⟩
  | .hbm, ⟨50, _⟩ => ⟨S8x512, .f32⟩
  | .hbm, ⟨51, _⟩ => ⟨S8200x512, .f32⟩
  | .hbm, ⟨52, _⟩ => ⟨S8192x512, .f32⟩
  | .hbm, ⟨53, _⟩ => ⟨S_, .i32⟩
  | .hbm, ⟨54, _⟩ => ⟨S8192, .i32⟩
  | .hbm, ⟨55, _⟩ => ⟨S8192, .i32⟩
  | .hbm, ⟨56, _⟩ => ⟨S8192, .f32⟩
  | .hbm, ⟨57, _⟩ => ⟨S8192x1, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S8192x1x512, .f32⟩
  | .hbm, ⟨62, _⟩ => ⟨S8192x512, .f32⟩
  | .hbm, ⟨63, _⟩ => ⟨S8192x512, .f32⟩
  | .hbm, ⟨64, _⟩ => ⟨S8192x1x512, .f32⟩
  | .hbm, ⟨65, _⟩ => ⟨S8192x512, .f32⟩
  | .hbm, ⟨66, _⟩ => ⟨S_, .f32⟩
  | .hbm, ⟨67, _⟩ => ⟨S16x512, .f32⟩
  | .hbm, ⟨68, _⟩ => ⟨S8208x512, .f32⟩
  | .hbm, ⟨69, _⟩ => ⟨S8192x512, .f32⟩
  | .hbm, ⟨70, _⟩ => ⟨S_, .i32⟩
  | .hbm, ⟨71, _⟩ => ⟨S8192, .i32⟩
  | .hbm, ⟨72, _⟩ => ⟨S8192, .i32⟩
  | .hbm, ⟨73, _⟩ => ⟨S8192, .f32⟩
  | .hbm, ⟨74, _⟩ => ⟨S8192x1, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x1x512, .f32⟩
  | .hbm, ⟨79, _⟩ => ⟨S8192x512, .f32⟩
  | .hbm, ⟨80, _⟩ => ⟨S8192x512, .f32⟩
  | .hbm, ⟨81, _⟩ => ⟨S8192x1x512, .f32⟩
  | .hbm, ⟨82, _⟩ => ⟨S8192x1x512, .f32⟩
  | .hbm, ⟨83, _⟩ => ⟨S8192x1x512, .f32⟩
  | .hbm, ⟨84, _⟩ => ⟨S8192x1x512, .f32⟩
  | .hbm, ⟨85, _⟩ => ⟨S8192x4x512, .f32⟩
  | .hbm, ⟨86, _⟩ => ⟨S4x512x8192, .f32⟩
  | .hbm, ⟨87, _⟩ => ⟨S8192x4x512, .f32⟩
  | .hbm, ⟨88, _⟩ => ⟨S8192x2048, .f32⟩
  | .hbm, ⟨89, _⟩ => ⟨S1x2048, .f32⟩
  | .hbm, ⟨90, _⟩ => ⟨S8192x2048, .f32⟩
  | .hbm, ⟨91, _⟩ => ⟨S8192x2048, .f32⟩
  | .hbm, ⟨92, _⟩ => ⟨S8192x2048, .f32⟩
  | .hbm, ⟨93, _⟩ => ⟨S_, .f32⟩
  | .hbm, ⟨94, _⟩ => ⟨S2048, .f32⟩
  | .hbm, ⟨95, _⟩ => ⟨S1x2048, .f32⟩
  | .hbm, ⟨96, _⟩ => ⟨S8192x2048, .f32⟩
  | .hbm, ⟨97, _⟩ => ⟨S8192x2048, .f32⟩
  | .hbm, ⟨98, _⟩ => ⟨S_, .f32⟩
  | .hbm, ⟨99, _⟩ => ⟨S2048, .f32⟩
  | .hbm, ⟨100, _⟩ => ⟨S8192x4x512, .f32⟩
  | .hbm, ⟨101, _⟩ => ⟨S4x512x8192, .f32⟩
  | .hbm, ⟨102, _⟩ => ⟨S4x8192x512, .f32⟩
  | .hbm, ⟨103, _⟩ => ⟨S8192x4x512, .f32⟩
  | .hbm, ⟨104, _⟩ => ⟨S4x512x512, .f32⟩
  | .hbm, ⟨105, _⟩ => ⟨S4x512x512, .f32⟩
  | .hbm, ⟨106, _⟩ => ⟨S8192x2048, .f32⟩
  | .hbm, ⟨107, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c_6 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_7 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_8 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩

abbrev nD : Nat := 1
abbrev τ : Topo := Topo.v7x

variable {F : FTy → Type} [FloatOps F]
-- ==== KernelPool.lean ====
abbrev S8192x2048 : Shape := ⟨2, ![8192, 2048]⟩
abbrev S512x2048 : Shape := ⟨2, ![512, 2048]⟩
abbrev S16x2048 : Shape := ⟨2, ![16, 2048]⟩
abbrev S512x1 : Shape := ⟨2, ![512, 1]⟩
abbrev S16x1 : Shape := ⟨2, ![16, 1]⟩
abbrev S512x512 : Shape := ⟨2, ![512, 512]⟩
abbrev S16x512 : Shape := ⟨2, ![16, 512]⟩
abbrev S528x512 : Shape := ⟨2, ![528, 512]⟩

abbrev nBuf : Space → Nat
  | .hbm => 3
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferencePoolIdeal.lean ====
abbrev S8192x2048 : Shape := ⟨2, ![8192, 2048]⟩
abbrev S_ : Shape := ⟨0, ![]⟩
abbrev S8192x4x512 : Shape := ⟨3, ![8192, 4, 512]⟩
abbrev S8192 : Shape := ⟨1, ![8192]⟩
abbrev S8192x1x512 : Shape := ⟨3, ![8192, 1, 512]⟩
abbrev S8192x512 : Shape := ⟨2, ![8192, 512]⟩
abbrev S2x512 : Shape := ⟨2, ![2, 512]⟩
abbrev S8194x512 : Shape := ⟨2, ![8194, 512]⟩
abbrev S8192x1 : Shape := ⟨2, ![8192, 1]⟩
abbrev S4x512 : Shape := ⟨2, ![4, 512]⟩
abbrev S8196x512 : Shape := ⟨2, ![8196, 512]⟩
abbrev S8x512 : Shape := ⟨2, ![8, 512]⟩
abbrev S8200x512 : Shape := ⟨2, ![8200, 512]⟩
abbrev S16x512 : Shape := ⟨2, ![16, 512]⟩
abbrev S8208x512 : Shape := ⟨2, ![8208, 512]⟩

abbrev nBuf : Space → Nat
  | .hbm => 182
  | .vmem => 0
  | .smem => 0
  | _ => 0

abbrev hbmTy0_0 (i : Nat) : BufTy := match i % 128 with
  | 0 => ⟨S8192x2048, .f32⟩
  | 1 => ⟨S8192x2048, .f32⟩
  | 2 => ⟨S_, .f32⟩
  | 3 => ⟨S8192x2048, .f32⟩
  | 4 => ⟨S_, .f32⟩
  | 5 => ⟨S_, .f32⟩
  | 6 => ⟨S8192x2048, .f32⟩
  | 7 => ⟨S8192x4x512, .f32⟩
  | 8 => ⟨S8192x4x512, .f32⟩
  | 9 => ⟨S8192, .i32⟩
  | 10 => ⟨S_, .i32⟩
  | 11 => ⟨S8192, .i32⟩
  | 12 => ⟨S8192, .i32⟩
  | 13 => ⟨S8192x1x512, .f32⟩
  | 14 => ⟨S8192x512, .f32⟩
  | 15 => ⟨S_, .f32⟩
  | 16 => ⟨S2x512, .f32⟩
  | 17 => ⟨S8194x512, .f32⟩
  | 18 => ⟨S_, .f32⟩
  | 19 => ⟨S2x512, .f32⟩
  | 20 => ⟨S8192x512, .f32⟩
  | 21 => ⟨S_, .i32⟩
  | 22 => ⟨S8192, .i32⟩
  | 23 => ⟨S8192, .i32⟩
  | 24 => ⟨S8192, .f32⟩
  | 25 => ⟨S8192x1, .f32⟩
  | 26 => ⟨S8192x512, .f32⟩
  | 27 => ⟨S8192x512, .f32⟩
  | 28 => ⟨S8192x512, .f32⟩
  | 29 => ⟨S8192x1x512, .f32⟩
  | 30 => ⟨S8192x512, .f32⟩
  | 31 => ⟨S8192x512, .f32⟩
  | 32 => ⟨S8192x1x512, .f32⟩
  | 33 => ⟨S8192x512, .f32⟩
  | 34 => ⟨S_, .f32⟩
  | 35 => ⟨S4x512, .f32⟩
  | 36 => ⟨S8196x512, .f32⟩
  | 37 => ⟨S_, .f32⟩
  | 38 => ⟨S4x512, .f32⟩
  | 39 => ⟨S8192x512, .f32⟩
  | 40 => ⟨S_, .i32⟩
  | 41 => ⟨S8192, .i32⟩
  | 42 => ⟨S8192, .i32⟩
  | 43 => ⟨S8192, .f32⟩
  | 44 => ⟨S8192x1, .f32⟩
  | 45 => ⟨S8192x512, .f32⟩
  | 46 => ⟨S8192x512, .f32⟩
  | 47 => ⟨S8192x512, .f32⟩
  | 48 => ⟨S8192x1x512, .f32⟩
  | 49 => ⟨S8192x512, .f32⟩
  | 50 => ⟨S8192x512, .f32⟩
  | 51 => ⟨S8192x1x512, .f32⟩
  | 52 => ⟨S8192x512, .f32⟩
  | 53 => ⟨S_, .f32⟩
  | 54 => ⟨S8x512, .f32⟩
  | 55 => ⟨S8200x512, .f32⟩
  | 56 => ⟨S_, .f32⟩
  | 57 => ⟨S8x512, .f32⟩
  | 58 => ⟨S8192x512, .f32⟩
  | 59 => ⟨S_, .i32⟩
  | 60 => ⟨S8192, .i32⟩
  | 61 => ⟨S8192, .i32⟩
  | 62 => ⟨S8192, .f32⟩
  | 63 => ⟨S8192x1, .f32⟩
  | 64 => ⟨S8192x512, .f32⟩
  | 65 => ⟨S8192x512, .f32⟩
  | 66 => ⟨S8192x512, .f32⟩
  | 67 => ⟨S8192x1x512, .f32⟩
  | 68 => ⟨S8192x512, .f32⟩
  | 69 => ⟨S8192x512, .f32⟩
  | 70 => ⟨S8192x1x512, .f32⟩
  | 71 => ⟨S8192x512, .f32⟩
  | 72 => ⟨S_, .f32⟩
  | 73 => ⟨S16x512, .f32⟩
  | 74 => ⟨S8208x512, .f32⟩
  | 75 => ⟨S_, .f32⟩
  | 76 => ⟨S16x512, .f32⟩
  | 77 => ⟨S8192x512, .f32⟩
  | 78 => ⟨S_, .i32⟩
  | 79 => ⟨S8192, .i32⟩
  | 80 => ⟨S8192, .i32⟩
  | 81 => ⟨S8192, .f32⟩
  | 82 => ⟨S8192x1, .f32⟩
  | 83 => ⟨S8192x512, .f32⟩
  | 84 => ⟨S8192x512, .f32⟩
  | 85 => ⟨S8192x512, .f32⟩
  | 86 => ⟨S8192x1x512, .f32⟩
  | 87 => ⟨S8192x512, .f32⟩
  | 88 => ⟨S8192x512, .f32⟩
  | 89 => ⟨S8192x1x512, .f32⟩
  | 90 => ⟨S8192x1x512, .f32⟩
  | 91 => ⟨S8192x1x512, .f32⟩
  | 92 => ⟨S8192x1x512, .f32⟩
  | 93 => ⟨S8192x4x512, .f32⟩
  | 94 => ⟨S_, .f32⟩
  | 95 => ⟨S8192x2048, .f32⟩
  | 96 => ⟨S8192x2048, .f32⟩
  | 97 => ⟨S8192x4x512, .f32⟩
  | 98 => ⟨S_, .f32⟩
  | 99 => ⟨S8192x2048, .f32⟩
  | 100 => ⟨S8192x2048, .f32⟩
  | 101 => ⟨S8192x1x512, .f32⟩
  | 102 => ⟨S8192x512, .f32⟩
  | 103 => ⟨S8192x1x512, .f32⟩
  | 104 => ⟨S8192x512, .f32⟩
  | 105 => ⟨S8192x1x512, .f32⟩
  | 106 => ⟨S8192x512, .f32⟩
  | 107 => ⟨S8192x1x512, .f32⟩
  | 108 => ⟨S8192x512, .f32⟩
  | 109 => ⟨S8192x512, .f32⟩
  | 110 => ⟨S8192x1x512, .f32⟩
  | 111 => ⟨S_, .f32⟩
  | 112 => ⟨S8192x4x512, .f32⟩
  | 113 => ⟨S8192x512, .f32⟩
  | 114 => ⟨S8192x512, .f32⟩
  | 115 => ⟨S8192x512, .f32⟩
  | 116 => ⟨S_, .f32⟩
  | 117 => ⟨S8208x512, .f32⟩
  | 118 => ⟨S16x512, .f32⟩
  | 119 => ⟨S8192x512, .f32⟩
  | 120 => ⟨S8192x512, .f32⟩
  | 121 => ⟨S8192x1x512, .f32⟩
  | 122 => ⟨S_, .f32⟩
  | 123 => ⟨S8192x4x512, .f32⟩
  | 124 => ⟨S8192x512, .f32⟩
  | 125 => ⟨S8192x1x512, .f32⟩
  | 126 => ⟨S_, .f32⟩
  | 127 => ⟨S8192x4x512, .f32⟩
  | _ => ⟨S8192x2048, .f32⟩

abbrev hbmTy0_1 (i : Nat) : BufTy := match i % 128 with
  | 0 => ⟨S8192x4x512, .f32⟩
  | 1 => ⟨S8192x512, .f32⟩
  | 2 => ⟨S8192x512, .f32⟩
  | 3 => ⟨S8192x512, .f32⟩
  | 4 => ⟨S_, .f32⟩
  | 5 => ⟨S8200x512, .f32⟩
  | 6 => ⟨S8x512, .f32⟩
  | 7 => ⟨S8192x512, .f32⟩
  | 8 => ⟨S8192x512, .f32⟩
  | 9 => ⟨S8192x1x512, .f32⟩
  | 10 => ⟨S_, .f32⟩
  | 11 => ⟨S8192x4x512, .f32⟩
  | 12 => ⟨S8192x4x512, .f32⟩
  | 13 => ⟨S8192x512, .f32⟩
  | 14 => ⟨S8192x1x512, .f32⟩
  | 15 => ⟨S_, .f32⟩
  | 16 => ⟨S8192x4x512, .f32⟩
  | 17 => ⟨S8192x4x512, .f32⟩
  | 18 => ⟨S8192x512, .f32⟩
  | 19 => ⟨S8192x512, .f32⟩
  | 20 => ⟨S8192x512, .f32⟩
  | 21 => ⟨S_, .f32⟩
  | 22 => ⟨S8196x512, .f32⟩
  | 23 => ⟨S4x512, .f32⟩
  | 24 => ⟨S8192x512, .f32⟩
  | 25 => ⟨S8192x512, .f32⟩
  | 26 => ⟨S8192x1x512, .f32⟩
  | 27 => ⟨S_, .f32⟩
  | 28 => ⟨S8192x4x512, .f32⟩
  | 29 => ⟨S8192x4x512, .f32⟩
  | 30 => ⟨S8192x512, .f32⟩
  | 31 => ⟨S8192x1x512, .f32⟩
  | 32 => ⟨S_, .f32⟩
  | 33 => ⟨S8192x4x512, .f32⟩
  | 34 => ⟨S8192x4x512, .f32⟩
  | 35 => ⟨S8192x512, .f32⟩
  | 36 => ⟨S8192x512, .f32⟩
  | 37 => ⟨S8192x512, .f32⟩
  | 38 => ⟨S_, .f32⟩
  | 39 => ⟨S8194x512, .f32⟩
  | 40 => ⟨S2x512, .f32⟩
  | 41 => ⟨S8192x512, .f32⟩
  | 42 => ⟨S8192x512, .f32⟩
  | 43 => ⟨S8192x1x512, .f32⟩
  | 44 => ⟨S_, .f32⟩
  | 45 => ⟨S8192x4x512, .f32⟩
  | 46 => ⟨S8192x4x512, .f32⟩
  | 47 => ⟨S8192x2048, .f32⟩
  | 48 => ⟨S8192x2048, .f32⟩
  | 49 => ⟨S8192x2048, .f32⟩
  | 50 => ⟨S_, .f32⟩
  | 51 => ⟨S_, .f32⟩
  | 52 => ⟨S8192x2048, .f32⟩
  | 53 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_c_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_9 : Ref sig .tc := ⟨.hbm, 72, rfl⟩
abbrev main_v57 : Ref sig .tc := ⟨.hbm, 73, rfl⟩
abbrev main_v58 : Ref sig .tc := ⟨.hbm, 74, rfl⟩
abbrev main_cst_10 : Ref sig .tc := ⟨.hbm, 75, rfl⟩
abbrev main_v59 : Ref sig .tc := ⟨.hbm, 76, rfl⟩
abbrev main_v60 : Ref sig .tc := ⟨.hbm, 77, rfl⟩
abbrev main_c_11 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_12 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_13 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_14 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_15 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_cst_16 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_17 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_cst_18 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_cst_19 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_20 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_cst_21 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_cst_22 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_cst_23 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_cst_24 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_cst_25 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_call1_call0_cst : Ref sig .tc := ⟨.hbm, 178, rfl⟩
abbrev main_call1_call0_v0 : Ref sig .tc := ⟨.hbm, 179, rfl⟩
abbrev main_v146 : Ref sig .tc := ⟨.hbm, 180, rfl⟩
abbrev main_v147 : Ref sig .tc := ⟨.hbm, 181, rfl⟩

abbrev nD : Nat := 1
abbrev τ : Topo := Topo.v7x

variable {F : FTy → Type} [FloatOps F]
-- ==== KernelConv.lean ====
abbrev S8192x11008 : Shape := ⟨2, ![8192, 11008]⟩
abbrev S3x11008 : Shape := ⟨2, ![3, 11008]⟩
abbrev S8192x4x2752 : Shape := ⟨3, ![8192, 4, 2752]⟩
abbrev S4x8192x2752 : Shape := ⟨3, ![4, 8192, 2752]⟩
abbrev S_ : Shape := ⟨0, ![]⟩
abbrev S4x8192x2816 : Shape := ⟨3, ![4, 8192, 2816]⟩
abbrev S3x4x2752 : Shape := ⟨3, ![3, 4, 2752]⟩
abbrev S4x3x2752 : Shape := ⟨3, ![4, 3, 2752]⟩
abbrev S4x3x2816 : Shape := ⟨3, ![4, 3, 2816]⟩
abbrev S1x512x2816 : Shape := ⟨3, ![1, 512, 2816]⟩
abbrev S1x8x2816 : Shape := ⟨3, ![1, 8, 2816]⟩
abbrev S1x3x2816 : Shape := ⟨3, ![1, 3, 2816]⟩
abbrev S512x2816 : Shape := ⟨2, ![512, 2816]⟩
abbrev S8x2816 : Shape := ⟨2, ![8, 2816]⟩
abbrev S520x2816 : Shape := ⟨2, ![520, 2816]⟩
abbrev S1x1x2816 : Shape := ⟨3, ![1, 1, 2816]⟩
abbrev S1x2816 : Shape := ⟨2, ![1, 2816]⟩

abbrev nBuf : Space → Nat
  | .hbm => 13
  | .vmem => 8
  | .smem => 0
  | _ => 0

abbrev bufTy : (tb : Table) → Fin (tcTables nBuf tb) → BufTy
  | .hbm, ⟨0, _⟩ => ⟨S8192x11008, .f32⟩
  | .hbm, ⟨1, _⟩ => ⟨S3x11008, .f32⟩
  | .hbm, ⟨2, _⟩ => ⟨S8192x4x2752, .f32⟩
  | .hbm, ⟨3, _⟩ => ⟨S4x8192x2752, .f32⟩
  | .hbm, ⟨4, _⟩ => ⟨S_, .i32⟩
  | .hbm, ⟨5, _⟩ => ⟨S_, .f32⟩
  | .hbm, ⟨6, _⟩ => ⟨S4x8192x2816, .f32⟩
  | .hbm, ⟨7, _⟩ => ⟨S3x4x2752, .f32⟩
  | .hbm, ⟨8, _⟩ => ⟨S4x3x2752, .f32⟩
  | .hbm, ⟨9, _⟩ => ⟨S_, .i32⟩
  | .hbm, ⟨10, _⟩ => ⟨S_, .f32⟩
  | .hbm, ⟨11, _⟩ => ⟨S4x3x2816, .f32⟩
  | .hbm, ⟨12, _⟩ => ⟨S4x8192x2816, .bf16⟩
  | .local _ .vmem, ⟨0, _⟩ => ⟨S1x512x2816, .f32⟩
  | .local _ .vmem, ⟨1, _⟩ => ⟨S1x512x2816, .f32⟩
  | .local _ .vmem, ⟨2, _⟩ => ⟨S1x8x2816, .f32⟩
  | .local _ .vmem, ⟨3, _⟩ => ⟨S1x8x2816, .f32⟩
  | .local _ .vmem, ⟨4, _⟩ => ⟨S1x3x2816, .f32⟩
  | .local _ .vmem, ⟨5, _⟩ => ⟨S1x3x2816, .f32⟩
  | .local _ .vmem, ⟨6, _⟩ => ⟨S1x512x2816, .bf16⟩
  | .local _ .vmem, ⟨7, _⟩ => ⟨S1x512x2816, .bf16⟩
  | _, _ => ⟨S8192x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceConvIdeal.lean ====
abbrev S8192x11008 : Shape := ⟨2, ![8192, 11008]⟩
abbrev S3x11008 : Shape := ⟨2, ![3, 11008]⟩
abbrev S_ : Shape := ⟨0, ![]⟩
abbrev S11008 : Shape := ⟨1, ![11008]⟩
abbrev S2x11008 : Shape := ⟨2, ![2, 11008]⟩
abbrev S8194x11008 : Shape := ⟨2, ![8194, 11008]⟩
abbrev S1x11008 : Shape := ⟨2, ![1, 11008]⟩
abbrev S8192x4x2752 : Shape := ⟨3, ![8192, 4, 2752]⟩
abbrev S4x8192x2752 : Shape := ⟨3, ![4, 8192, 2752]⟩
abbrev S4x8192x2816 : Shape := ⟨3, ![4, 8192, 2816]⟩

abbrev nBuf : Space → Nat
  | .hbm => 58
  | .vmem => 0
  | .smem => 0
  | _ => 0

abbrev bufTy : (tb : Table) → Fin (tcTables nBuf tb) → BufTy
  | .hbm, ⟨0, _⟩ => ⟨S8192x11008, .f32⟩
  | .hbm, ⟨1, _⟩ => ⟨S3x11008, .f32⟩
  | .hbm, ⟨2, _⟩ => ⟨S_, .f32⟩
  | .hbm, ⟨3, _⟩ => ⟨S8192x11008, .f32⟩
  | .hbm, ⟨4, _⟩ => ⟨S_, .f32⟩
  | .hbm, ⟨5, _⟩ => ⟨S11008, .f32⟩
  | .hbm, ⟨6, _⟩ => ⟨S_, .f32⟩
  | .hbm, ⟨7, _⟩ => ⟨S2x11008, .f32⟩
  | .hbm, ⟨8, _⟩ => ⟨S8194x11008, .f32⟩
  | .hbm, ⟨9, _⟩ => ⟨S_, .f32⟩
  | .hbm, ⟨10, _⟩ => ⟨S2x11008, .f32⟩
  | .hbm, ⟨11, _⟩ => ⟨S1x11008, .f32⟩
  | .hbm, ⟨12, _⟩ => ⟨S11008, .f32⟩
  | .hbm, ⟨13, _⟩ => ⟨S8192x11008, .f32⟩
  | .hbm, ⟨14, _⟩ => ⟨S1x11008, .f32⟩
  | .hbm, ⟨15, _⟩ => ⟨S8192x11008, .f32⟩
  | .hbm, ⟨16, _⟩ => ⟨S8192x11008, .f32⟩
  | .hbm, ⟨17, _⟩ => ⟨S1x11008, .f32⟩
  | .hbm, ⟨18, _⟩ => ⟨S8192x11008, .f32⟩
  | .hbm, ⟨19, _⟩ => ⟨S8192x11008, .f32⟩
  | .hbm, ⟨20, _⟩ => ⟨S1x11008, .f32⟩
  | .hbm, ⟨21, _⟩ => ⟨S11008, .f32⟩
  | .hbm, ⟨22, _⟩ => ⟨S8192x11008, .f32⟩
  | .hbm, ⟨23, _⟩ => ⟨S1x11008, .f32⟩
  | .hbm, ⟨24, _⟩ => ⟨S8192x11008, .f32⟩
  | .hbm, ⟨25, _⟩ => ⟨S8192x11008, .f32⟩
  | .hbm, ⟨26, _⟩ => ⟨S8192x11008, .f32⟩
  | .hbm, ⟨27, _⟩ => ⟨S1x11008, .f32⟩
  | .hbm, ⟨28, _⟩ => ⟨S11008, .f32⟩
  | .hbm, ⟨29, _⟩ => ⟨S8192x11008, .f32⟩
  | .hbm, ⟨30, _⟩ => ⟨S1x11008, .f32⟩
  | .hbm, ⟨31, _⟩ => ⟨S8192x11008, .f32⟩
  | .hbm, ⟨32, _⟩ => ⟨S8192x11008, .f32⟩
  | .hbm, ⟨33, _⟩ => ⟨S8192x11008, .f32⟩
  | .hbm, ⟨34, _⟩ => ⟨S8192x11008, .f32⟩
  | .hbm, ⟨35, _⟩ => ⟨S8192x11008, .f32⟩
  | .hbm, ⟨36, _⟩ => ⟨S8192x11008, .f32⟩
  | .hbm, ⟨37, _⟩ => ⟨S8192x11008, .f32⟩
  | .hbm, ⟨38, _⟩ => ⟨S_, .f32⟩
  | .hbm, ⟨39, _⟩ => ⟨S8194x11008, .f32⟩
  | .hbm, ⟨40, _⟩ => ⟨S8192x11008, .f32⟩
  | .hbm, ⟨41, _⟩ => ⟨S8192x11008, .f32⟩
  | .hbm, ⟨42, _⟩ => ⟨S_, .f32⟩
  | .hbm, ⟨43, _⟩ => ⟨S8194x11008, .f32⟩
  | .hbm, ⟨44, _⟩ => ⟨S8194x11008, .f32⟩
  | .hbm, ⟨45, _⟩ => ⟨S8192x11008, .f32⟩
  | .hbm, ⟨46, _⟩ => ⟨S8192x11008, .f32⟩
  | .hbm, ⟨47, _⟩ => ⟨S_, .f32⟩
  | .hbm, ⟨48, _⟩ => ⟨S8194x11008, .f32⟩
  | .hbm, ⟨49, _⟩ => ⟨S8194x11008, .f32⟩
  | .hbm, ⟨50, _⟩ => ⟨S2x11008, .f32⟩
  | .hbm, ⟨51, _⟩ => ⟨S8192x11008, .f32⟩
  | .hbm, ⟨52, _⟩ => ⟨S8192x4x2752, .f32⟩
  | .hbm, ⟨53, _⟩ => ⟨S4x8192x2752, .f32⟩
  | .hbm, ⟨54, _⟩ => ⟨S_, .i32⟩
  | .hbm, ⟨55, _⟩ => ⟨S_, .f32⟩
  | .hbm, ⟨56, _⟩ => ⟨S4x8192x2816, .f32⟩
  | .hbm, ⟨57, _⟩ => ⟨S4x8192x2816, .bf16⟩
  | _, _ => ⟨S8192x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_4 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_5 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_c : Ref sig .tc := ⟨.hbm, 54, rfl⟩
abbrev main_call0_v0 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== KernelAct.lean ====
abbrev S8192x11008 : Shape := ⟨2, ![8192, 11008]⟩
abbrev S3x11008 : Shape := ⟨2, ![3, 11008]⟩
abbrev S11008 : Shape := ⟨1, ![11008]⟩
abbrev S8192x5504 : Shape := ⟨2, ![8192, 5504]⟩
abbrev S8192x4x2752 : Shape := ⟨3, ![8192, 4, 2752]⟩
abbrev S4x8192x2752 : Shape := ⟨3, ![4, 8192, 2752]⟩
abbrev S_ : Shape := ⟨0, ![]⟩
abbrev S4x8192x2816 : Shape := ⟨3, ![4, 8192, 2816]⟩
abbrev S8192x2x2752 : Shape := ⟨3, ![8192, 2, 2752]⟩
abbrev S2x8192x2752 : Shape := ⟨3, ![2, 8192, 2752]⟩
abbrev S2x8192x2816 : Shape := ⟨3, ![2, 8192, 2816]⟩
abbrev S3x4x2752 : Shape := ⟨3, ![3, 4, 2752]⟩
abbrev S4x3x2752 : Shape := ⟨3, ![4, 3, 2752]⟩
abbrev S4x3x2816 : Shape := ⟨3, ![4, 3, 2816]⟩
abbrev S4x1x2752 : Shape := ⟨3, ![4, 1, 2752]⟩
abbrev S4x1x2816 : Shape := ⟨3, ![4, 1, 2816]⟩
abbrev S2x2x8192x2816 : Shape := ⟨4, ![2, 2, 8192, 2816]⟩
abbrev S2x2x3x2816 : Shape := ⟨4, ![2, 2, 3, 2816]⟩
abbrev S2x2x1x2816 : Shape := ⟨4, ![2, 2, 1, 2816]⟩
abbrev S1x256x2816 : Shape := ⟨3, ![1, 256, 2816]⟩
abbrev S1x8x2816 : Shape := ⟨3, ![1, 8, 2816]⟩
abbrev S1x3x2816 : Shape := ⟨3, ![1, 3, 2816]⟩
abbrev S1x1x2816 : Shape := ⟨3, ![1, 1, 2816]⟩
abbrev S2x1x256x2816 : Shape := ⟨4, ![2, 1, 256, 2816]⟩
abbrev S2x1x3x2816 : Shape := ⟨4, ![2, 1, 3, 2816]⟩
abbrev S2x1x1x2816 : Shape := ⟨4, ![2, 1, 1, 2816]⟩
abbrev S2x3x2816 : Shape := ⟨3, ![2, 3, 2816]⟩
abbrev S2x1x2816 : Shape := ⟨3, ![2, 1, 2816]⟩
abbrev S256x2816 : Shape := ⟨2, ![256, 2816]⟩
abbrev S8x2816 : Shape := ⟨2, ![8, 2816]⟩
abbrev S264x2816 : Shape := ⟨2, ![264, 2816]⟩
abbrev S1x2816 : Shape := ⟨2, ![1, 2816]⟩
abbrev S1x1x256x2816 : Shape := ⟨4, ![1, 1, 256, 2816]⟩
abbrev S1x1x1x2816 : Shape := ⟨4, ![1, 1, 1, 2816]⟩
abbrev S2816 : Shape := ⟨1, ![2816]⟩

abbrev nBuf : Space → Nat
  | .hbm => 26
  | .vmem => 24
  | .smem => 0
  | _ => 0

abbrev bufTy : (tb : Table) → Fin (tcTables nBuf tb) → BufTy
  | .hbm, ⟨0, _⟩ => ⟨S8192x11008, .f32⟩
  | .hbm, ⟨1, _⟩ => ⟨S3x11008, .f32⟩
  | .hbm, ⟨2, _⟩ => ⟨S11008, .f32⟩
  | .hbm, ⟨3, _⟩ => ⟨S8192x5504, .f32⟩
  | .hbm, ⟨4, _⟩ => ⟨S8192x4x2752, .f32⟩
  | .hbm, ⟨5, _⟩ => ⟨S4x8192x2752, .f32⟩
  | .hbm, ⟨6, _⟩ => ⟨S_, .i32⟩
  | .hbm, ⟨7, _⟩ => ⟨S_, .f32⟩
  | .hbm, ⟨8, _⟩ => ⟨S4x8192x2816, .f32⟩
  | .hbm, ⟨9, _⟩ => ⟨S8192x2x2752, .f32⟩
  | .hbm, ⟨10, _⟩ => ⟨S2x8192x2752, .f32⟩
  | .hbm, ⟨11, _⟩ => ⟨S_, .i32⟩
  | .hbm, ⟨12, _⟩ => ⟨S_, .f32⟩
  | .hbm, ⟨13, _⟩ => ⟨S2x8192x2816, .f32⟩
  | .hbm, ⟨14, _⟩ => ⟨S3x4x2752, .f32⟩
  | .hbm, ⟨15, _⟩ => ⟨S4x3x2752, .f32⟩
  | .hbm, ⟨16, _⟩ => ⟨S_, .i32⟩
  | .hbm, ⟨17, _⟩ => ⟨S_, .f32⟩
  | .hbm, ⟨18, _⟩ => ⟨S4x3x2816, .f32⟩
  | .hbm, ⟨19, _⟩ => ⟨S4x1x2752, .f32⟩
  | .hbm, ⟨20, _⟩ => ⟨S_, .i32⟩
  | .hbm, ⟨21, _⟩ => ⟨S_, .f32⟩
  | .hbm, ⟨22, _⟩ => ⟨S4x1x2816, .f32⟩
  | .hbm, ⟨23, _⟩ => ⟨S2x2x8192x2816, .f32⟩
  | .hbm, ⟨24, _⟩ => ⟨S2x2x3x2816, .f32⟩
  | .hbm, ⟨25, _⟩ => ⟨S2x2x1x2816, .f32⟩
  | .local _ .vmem, ⟨0, _⟩ => ⟨S1x256x2816, .f32⟩
  | .local _ .vmem, ⟨1, _⟩ => ⟨S1x256x2816, .f32⟩
  | .local _ .vmem, ⟨2, _⟩ => ⟨S1x8x2816, .f32⟩
  | .local _ .vmem, ⟨3, _⟩ => ⟨S1x8x2816, .f32⟩
  | .local _ .vmem, ⟨4, _⟩ => ⟨S1x256x2816, .f32⟩
  | .local _ .vmem, ⟨5, _⟩ => ⟨S1x256x2816, .f32⟩
  | .local _ .vmem, ⟨6, _⟩ => ⟨S1x8x2816, .f32⟩
  | .local _ .vmem, ⟨7, _⟩ => ⟨S1x8x2816, .f32⟩
  | .local _ .vmem, ⟨8, _⟩ => ⟨S1x3x2816, .f32⟩
  | .local _ .vmem, ⟨9, _⟩ => ⟨S1x3x2816, .f32⟩
  | .local _ .vmem, ⟨10, _⟩ => ⟨S1x3x2816, .f32⟩
  | .local _ .vmem, ⟨11, _⟩ => ⟨S1x3x2816, .f32⟩
  | .local _ .vmem, ⟨12, _⟩ => ⟨S1x1x2816, .f32⟩
  | .local _ .vmem, ⟨13, _⟩ => ⟨S1x1x2816, .f32⟩
  | .local _ .vmem, ⟨14, _⟩ => ⟨S1x1x2816, .f32⟩
  | .local _ .vmem, ⟨15, _⟩ => ⟨S1x1x2816, .f32⟩
  | .local _ .vmem, ⟨16, _⟩ => ⟨S1x256x2816, .f32⟩
  | .local _ .vmem, ⟨17, _⟩ => ⟨S1x256x2816, .f32⟩
  | .local _ .vmem, ⟨18, _⟩ => ⟨S2x1x256x2816, .f32⟩
  | .local _ .vmem, ⟨19, _⟩ => ⟨S2x1x256x2816, .f32⟩
  | .local _ .vmem, ⟨20, _⟩ => ⟨S2x1x3x2816, .f32⟩
  | .local _ .vmem, ⟨21, _⟩ => ⟨S2x1x3x2816, .f32⟩
  | .local _ .vmem, ⟨22, _⟩ => ⟨S2x1x1x2816, .f32⟩
  | .local _ .vmem, ⟨23, _⟩ => ⟨S2x1x1x2816, .f32⟩
  | _, _ => ⟨S8192x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call3_v0 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c32_i32 : BitVec 32 := 32#32
  let v1 : BitVec 32 := Scalar.muli arg1 c32_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c32_i32 : BitVec 32 := 32#32
  let v1 : BitVec 32 := Scalar.muli arg1 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v0.toNat, v3.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x256x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x3x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x1x1x2816 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceActIdeal.lean ====
abbrev S8192x11008 : Shape := ⟨2, ![8192, 11008]⟩
abbrev S3x11008 : Shape := ⟨2, ![3, 11008]⟩
abbrev S11008 : Shape := ⟨1, ![11008]⟩
abbrev S8192x5504 : Shape := ⟨2, ![8192, 5504]⟩
abbrev S_ : Shape := ⟨0, ![]⟩
abbrev S2x11008 : Shape := ⟨2, ![2, 11008]⟩
abbrev S8194x11008 : Shape := ⟨2, ![8194, 11008]⟩
abbrev S1x11008 : Shape := ⟨2, ![1, 11008]⟩
abbrev S8192x4x2752 : Shape := ⟨3, ![8192, 4, 2752]⟩
abbrev S4x8192x2752 : Shape := ⟨3, ![4, 8192, 2752]⟩
abbrev S4x8192x2816 : Shape := ⟨3, ![4, 8192, 2816]⟩
abbrev S2x2x8192x2816 : Shape := ⟨4, ![2, 2, 8192, 2816]⟩
abbrev S3x2x2x2752 : Shape := ⟨4, ![3, 2, 2, 2752]⟩
abbrev S2x2x3x2752 : Shape := ⟨4, ![2, 2, 3, 2752]⟩
abbrev S2x2x3x2816 : Shape := ⟨4, ![2, 2, 3, 2816]⟩
abbrev S2x2x1x2752 : Shape := ⟨4, ![2, 2, 1, 2752]⟩
abbrev S2x2x1x2816 : Shape := ⟨4, ![2, 2, 1, 2816]⟩

abbrev nBuf : Space → Nat
  | .hbm => 102
  | .vmem => 0
  | .smem => 0
  | _ => 0

abbrev bufTy : (tb : Table) → Fin (tcTables nBuf tb) → BufTy
  | .hbm, ⟨0, _⟩ => ⟨S8192x11008, .f32⟩
  | .hbm, ⟨1, _⟩ => ⟨S3x11008, .f32⟩
  | .hbm, ⟨2, _⟩ => ⟨S11008, .f32⟩
  | .hbm, ⟨3, _⟩ => ⟨S8192x5504, .f32⟩
  | .hbm, ⟨4, _⟩ => ⟨S_, .f32⟩
  | .hbm, ⟨5, _⟩ => ⟨S2x11008, .f32⟩
  | .hbm, ⟨6, _⟩ => ⟨S8194x11008, .f32⟩
  | .hbm, ⟨7, _⟩ => ⟨S1x11008, .f32⟩
  | .hbm, ⟨8, _⟩ => ⟨S11008, .f32⟩
  | .hbm, ⟨9, _⟩ => ⟨S8192x11008, .f32⟩
  | .hbm, ⟨10, _⟩ => ⟨S1x11008, .f32⟩
  | .hbm, ⟨11, _⟩ => ⟨S8192x11008, .f32⟩
  | .hbm, ⟨12, _⟩ => ⟨S8192x11008, .f32⟩
  | .hbm, ⟨13, _⟩ => ⟨S1x11008, .f32⟩
  | .hbm, ⟨14, _⟩ => ⟨S8192x11008, .f32⟩
  | .hbm, ⟨15, _⟩ => ⟨S8192x11008, .f32⟩
  | .hbm, ⟨16, _⟩ => ⟨S1x11008, .f32⟩
  | .hbm, ⟨17, _⟩ => ⟨S11008, .f32⟩
  | .hbm, ⟨18, _⟩ => ⟨S8192x11008, .f32⟩
  | .hbm, ⟨19, _⟩ => ⟨S1x11008, .f32⟩
  | .hbm, ⟨20, _⟩ => ⟨S8192x11008, .f32⟩
  | .hbm, ⟨21, _⟩ => ⟨S8192x11008, .f32⟩
  | .hbm, ⟨22, _⟩ => ⟨S8192x11008, .f32⟩
  | .hbm, ⟨23, _⟩ => ⟨S1x11008, .f32⟩
  | .hbm, ⟨24, _⟩ => ⟨S11008, .f32⟩
  | .hbm, ⟨25, _⟩ => ⟨S8192x11008, .f32⟩
  | .hbm, ⟨26, _⟩ => ⟨S1x11008, .f32⟩
  | .hbm, ⟨27, _⟩ => ⟨S8192x11008, .f32⟩
  | .hbm, ⟨28, _⟩ => ⟨S8192x11008, .f32⟩
  | .hbm, ⟨29, _⟩ => ⟨S8192x11008, .f32⟩
  | .hbm, ⟨30, _⟩ => ⟨S8192x5504, .f32⟩
  | .hbm, ⟨31, _⟩ => ⟨S8192x5504, .f32⟩
  | .hbm, ⟨32, _⟩ => ⟨S8192x5504, .f32⟩
  | .hbm, ⟨33, _⟩ => ⟨S8192x5504, .f32⟩
  | .hbm, ⟨34, _⟩ => ⟨S_, .f32⟩
  | .hbm, ⟨35, _⟩ => ⟨S8192x5504, .f32⟩
  | .hbm, ⟨36, _⟩ => ⟨S8192x5504, .f32⟩
  | .hbm, ⟨37, _⟩ => ⟨S_, .f32⟩
  | .hbm, ⟨38, _⟩ => ⟨S8192x5504, .f32⟩
  | .hbm, ⟨39, _⟩ => ⟨S8192x5504, .f32⟩
  | .hbm, ⟨40, _⟩ => ⟨S_, .f32⟩
  | .hbm, ⟨41, _⟩ => ⟨S8192x5504, .f32⟩
  | .hbm, ⟨42, _⟩ => ⟨S8192x5504, .f32⟩
  | .hbm, ⟨43, _⟩ => ⟨S8192x5504, .f32⟩
  | .hbm, ⟨44, _⟩ => ⟨S8192x5504, .f32⟩
  | .hbm, ⟨45, _⟩ => ⟨S8192x5504, .f32⟩
  | .hbm, ⟨46, _⟩ => ⟨S8192x5504, .f32⟩
  | .hbm, ⟨47, _⟩ => ⟨S8192x5504, .f32⟩
  | .hbm, ⟨48, _⟩ => ⟨S8192x5504, .f32⟩
  | .hbm, ⟨49, _⟩ => ⟨S8192x5504, .f32⟩
  | .hbm, ⟨50, _⟩ => ⟨S8192x5504, .f32⟩
  | .hbm, ⟨51, _⟩ => ⟨S8192x5504, .f32⟩
  | .hbm, ⟨52, _⟩ => ⟨S8192x11008, .f32⟩
  | .hbm, ⟨53, _⟩ => ⟨S8192x11008, .f32⟩
  | .hbm, ⟨54, _⟩ => ⟨S_, .f32⟩
  | .hbm, ⟨55, _⟩ => ⟨S11008, .f32⟩
  | .hbm, ⟨56, _⟩ => ⟨S1x11008, .f32⟩
  | .hbm, ⟨57, _⟩ => ⟨S_, .f32⟩
  | .hbm, ⟨58, _⟩ => ⟨S11008, .f32⟩
  | .hbm, ⟨59, _⟩ => ⟨S1x11008, .f32⟩
  | .hbm, ⟨60, _⟩ => ⟨S_, .f32⟩
  | .hbm, ⟨61, _⟩ => ⟨S3x11008, .f32⟩
  | .hbm, ⟨62, _⟩ => ⟨S8192x11008, .f32⟩
  | .hbm, ⟨63, _⟩ => ⟨S_, .f32⟩
  | .hbm, ⟨64, _⟩ => ⟨S11008, .f32⟩
  | .hbm, ⟨65, _⟩ => ⟨S1x11008, .f32⟩
  | .hbm, ⟨66, _⟩ => ⟨S_, .f32⟩
  | .hbm, ⟨67, _⟩ => ⟨S11008, .f32⟩
  | .hbm, ⟨68, _⟩ => ⟨S1x11008, .f32⟩
  | .hbm, ⟨69, _⟩ => ⟨S_, .f32⟩
  | .hbm, ⟨70, _⟩ => ⟨S3x11008, .f32⟩
  | .hbm, ⟨71, _⟩ => ⟨S3x11008, .f32⟩
  | .hbm, ⟨72, _⟩ => ⟨S_, .f32⟩
  | .hbm, ⟨73, _⟩ => ⟨S11008, .f32⟩
  | .hbm, ⟨74, _⟩ => ⟨S1x11008, .f32⟩
  | .hbm, ⟨75, _⟩ => ⟨S_, .f32⟩
  | .hbm, ⟨76, _⟩ => ⟨S11008, .f32⟩
  | .hbm, ⟨77, _⟩ => ⟨S8192x11008, .f32⟩
  | .hbm, ⟨78, _⟩ => ⟨S_, .f32⟩
  | .hbm, ⟨79, _⟩ => ⟨S11008, .f32⟩
  | .hbm, ⟨80, _⟩ => ⟨S1x11008, .f32⟩
  | .hbm, ⟨81, _⟩ => ⟨S_, .f32⟩
  | .hbm, ⟨82, _⟩ => ⟨S11008, .f32⟩
  | .hbm, ⟨83, _⟩ => ⟨S1x11008, .f32⟩
  | .hbm, ⟨84, _⟩ => ⟨S_, .f32⟩
  | .hbm, ⟨85, _⟩ => ⟨S3x11008, .f32⟩
  | .hbm, ⟨86, _⟩ => ⟨S3x11008, .f32⟩
  | .hbm, ⟨87, _⟩ => ⟨S8192x4x2752, .f32⟩
  | .hbm, ⟨88, _⟩ => ⟨S4x8192x2752, .f32⟩
  | .hbm, ⟨89, _⟩ => ⟨S_, .i32⟩
  | .hbm, ⟨90, _⟩ => ⟨S_, .f32⟩
  | .hbm, ⟨91, _⟩ => ⟨S4x8192x2816, .f32⟩
  | .hbm, ⟨92, _⟩ => ⟨S2x2x8192x2816, .f32⟩
  | .hbm, ⟨93, _⟩ => ⟨S3x2x2x2752, .f32⟩
  | .hbm, ⟨94, _⟩ => ⟨S2x2x3x2752, .f32⟩
  | .hbm, ⟨95, _⟩ => ⟨S_, .i32⟩
  | .hbm, ⟨96, _⟩ => ⟨S_, .f32⟩
  | .hbm, ⟨97, _⟩ => ⟨S2x2x3x2816, .f32⟩
  | .hbm, ⟨98, _⟩ => ⟨S2x2x1x2752, .f32⟩
  | .hbm, ⟨99, _⟩ => ⟨S_, .i32⟩
  | .hbm, ⟨100, _⟩ => ⟨S_, .f32⟩
  | .hbm, ⟨101, _⟩ => ⟨S2x2x1x2816, .f32⟩
  | _, _ => ⟨S8192x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v27_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v27_1 : Ref sig .tc := ⟨.hbm, 43, rfl⟩
abbrev main_v27_0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_0 : Ref sig .tc := ⟨.hbm, 54, rfl⟩
abbrev main_v34 : Ref sig .tc := ⟨.hbm, 55, rfl⟩
abbrev main_v35 : Ref sig .tc := ⟨.hbm, 56, rfl⟩
abbrev main_cst_1 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c : Ref sig .tc := ⟨.hbm, 89, rfl⟩
abbrev main_call2_v0 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_11 : Ref sig .tc := ⟨.hbm, 95, rfl⟩
abbrev main_call3_v0 : Ref sig .tc := ⟨.hbm, 96, rfl⟩
abbrev main_v62 : Ref sig .tc := ⟨.hbm, 97, rfl⟩
abbrev main_v63 : Ref sig .tc := ⟨.hbm, 98, rfl⟩
abbrev main_c_12 : Ref sig .tc := ⟨.hbm, 99, rfl⟩
abbrev main_call4_v0 : Ref sig .tc := ⟨.hbm, 100, rfl⟩
abbrev main_v64 : Ref sig .tc := ⟨.hbm, 101, rfl⟩

abbrev nD : Nat := 1
abbrev τ : Topo := Topo.v7x

variable {F : FTy → Type} [FloatOps F]
-- ==== KernelLoss.lean ====
abbrev S8192x2048 : Shape := ⟨2, ![8192, 2048]⟩
abbrev S1x128 : Shape := ⟨2, ![1, 128]⟩
abbrev S512x2048 : Shape := ⟨2, ![512, 2048]⟩
abbrev S1x2048 : Shape := ⟨2, ![1, 2048]⟩
abbrev S2048 : Shape := ⟨1, ![2048]⟩
abbrev S1 : Shape := ⟨1, ![1]⟩
abbrev S1x1 : Shape := ⟨2, ![1, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x128, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x128, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v17 : BitVec 1 := Scalar.cmpi .eq arg0 c15_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceLossIdeal.lean ====
abbrev S8192x2048 : Shape := ⟨2, ![8192, 2048]⟩
abbrev S_ : Shape := ⟨0, ![]⟩
abbrev S8192 : Shape := ⟨1, ![8192]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | .hbm, ⟨25, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== KernelFwd.lean ====
abbrev S8192x6144 : Shape := ⟨2, ![8192, 6144]⟩
abbrev S8192x4x1536 : Shape := ⟨3, ![8192, 4, 1536]⟩
abbrev S4x8192x1536 : Shape := ⟨3, ![4, 8192, 1536]⟩
abbrev S8192x2048 : Shape := ⟨2, ![8192, 2048]⟩
abbrev S1x128x512 : Shape := ⟨3, ![1, 128, 512]⟩
abbrev S1x8192x512 : Shape := ⟨3, ![1, 8192, 512]⟩
abbrev S128x512 : Shape := ⟨2, ![128, 512]⟩
abbrev S4 : Shape := ⟨1, ![4]⟩
abbrev S384x384 : Shape := ⟨2, ![384, 384]⟩
abbrev S1x8192x128 : Shape := ⟨3, ![1, 8192, 128]⟩
abbrev S8192x128 : Shape := ⟨2, ![8192, 128]⟩
abbrev S8192 : Shape := ⟨1, ![8192]⟩
abbrev S8192x1 : Shape := ⟨2, ![8192, 1]⟩
abbrev S1x8192x1 : Shape := ⟨3, ![1, 8192, 1]⟩
abbrev S1 : Shape := ⟨1, ![1]⟩
abbrev S1x1x1 : Shape := ⟨3, ![1, 1, 1]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1x384x128 : Shape := ⟨3, ![1, 384, 128]⟩
abbrev S384x128 : Shape := ⟨2, ![384, 128]⟩
abbrev S128x384 : Shape := ⟨2, ![128, 384]⟩
abbrev S1x128x1 : Shape := ⟨3, ![1, 128, 1]⟩

abbrev nBuf : Space → Nat
  | .hbm => 5
  | .vmem => 9
  | .smem => 1
  | _ => 0

abbrev bufTy : (tb : Table) → Fin (tcTables nBuf tb) → BufTy
  | .hbm, ⟨0, _⟩ => ⟨S8192x6144, .f32⟩
  | .hbm, ⟨1, _⟩ => ⟨S8192x6144, .bf16⟩
  | .hbm, ⟨2, _⟩ => ⟨S8192x4x1536, .bf16⟩
  | .hbm, ⟨3, _⟩ => ⟨S4x8192x1536, .bf16⟩
  | .hbm, ⟨4, _⟩ => ⟨S8192x2048, .bf16⟩
  | .local _ .vmem, ⟨0, _⟩ => ⟨S1x128x512, .bf16⟩
  | .local _ .vmem, ⟨1, _⟩ => ⟨S1x128x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x8192x512, .bf16⟩
  | .local _ .vmem, ⟨5, _⟩ => ⟨S1x8192x512, .bf16⟩
  | .local _ .vmem, ⟨6, _⟩ => ⟨S128x512, .bf16⟩
  | .local _ .vmem, ⟨7, _⟩ => ⟨S128x512, .bf16⟩
  | .local _ .vmem, ⟨8, _⟩ => ⟨S384x384, .bf16⟩
  | .local _ .smem, ⟨0, _⟩ => ⟨S4, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch1 : Ref sig .tc := ⟨.vmem, 8, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 64], ![false, false]⟩

def k0_mult1 (i : grid0.Coords) : BitVec 32 :=
  let arg1 : BitVec 32 := BitVec.ofNat 32 (i 1).val
  let c1_i32 : BitVec 32 := 1#32
  let v59 : BitVec 32 := Scalar.addi arg1 c1_i32
  let c128_i32_21 : BitVec 32 := 128#32
  let v60 : BitVec 32 := Scalar.muli v59 c128_i32_21
  let c384_i32 : BitVec 32 := 384#32
  let v69 : BitVec 32 := Scalar.subi v60 c384_i32
  let c0_i32_30 : BitVec 32 := 0#32
  let v70 : BitVec 32 := Scalar.maxsi v69 c0_i32_30
  v70
def k0_off1 (i : grid0.Coords) : Fin 3 → Nat :=
  let c0_31 : Index := 0#32
  let arg1 : BitVec 32 := BitVec.ofNat 32 (i 1).val
  let c1_i32 : BitVec 32 := 1#32
  let v59 : BitVec 32 := Scalar.addi arg1 c1_i32
  let c128_i32_21 : BitVec 32 := 128#32
  let v60 : BitVec 32 := Scalar.muli v59 c128_i32_21
  let c384_i32 : BitVec 32 := 384#32
  let v69 : BitVec 32 := Scalar.subi v60 c384_i32
  let c0_i32_30 : BitVec 32 := 0#32
  let v70 : BitVec 32 := Scalar.maxsi v69 c0_i32_30
  let v71 : BitVec 32 := v70
  let v76 : Index := Scalar.indexCast v71
  let c0_32 : Index := 0#32
  ![0, v76.toNat, 0]
def k0_off2 (i : grid0.Coords) : Fin 3 → Nat :=
  let c0_33 : Index := 0#32
  let arg1 : BitVec 32 := BitVec.ofNat 32 (i 1).val
  let c1_i32 : BitVec 32 := 1#32
  let v59 : BitVec 32 := Scalar.addi arg1 c1_i32
  let c128_i32_21 : BitVec 32 := 128#32
  let v60 : BitVec 32 := Scalar.muli v59 c128_i32_21
  let c384_i32 : BitVec 32 := 384#32
  let v69 : BitVec 32 := Scalar.subi v60 c384_i32
  let c0_i32_30 : BitVec 32 := 0#32
  let v70 : BitVec 32 := Scalar.maxsi v69 c0_i32_30
  let v71 : BitVec 32 := v70
  let v79 : Index := Scalar.indexCast v71
  let c128_34 : Index := 128#32
  ![0, v79.toNat, 128]
def k0_off3 (i : grid0.Coords) : Fin 3 → Nat :=
  let c0_35 : Index := 0#32
  let arg1 : BitVec 32 := BitVec.ofNat 32 (i 1).val
  let c1_i32 : BitVec 32 := 1#32
  let v59 : BitVec 32 := Scalar.addi arg1 c1_i32
  let c128_i32_21 : BitVec 32 := 128#32
  let v60 : BitVec 32 := Scalar.muli v59 c128_i32_21
  let c384_i32 : BitVec 32 := 384#32
  let v69 : BitVec 32 := Scalar.subi v60 c384_i32
  let c0_i32_30 : BitVec 32 := 0#32
  let v70 : BitVec 32 := Scalar.maxsi v69 c0_i32_30
  let v71 : BitVec 32 := v70
  let v82 : Index := Scalar.indexCast v71
  let c256_36 : Index := 256#32
  ![0, v82.toNat, 256]
def k0_off4 (i : grid0.Coords) : Fin 3 → Nat :=
  let c0_37 : Index := 0#32
  let arg1 : BitVec 32 := BitVec.ofNat 32 (i 1).val
  let c1_i32 : BitVec 32 := 1#32
  let v59 : BitVec 32 := Scalar.addi arg1 c1_i32
  let c128_i32_21 : BitVec 32 := 128#32
  let v60 : BitVec 32 := Scalar.muli v59 c128_i32_21
  let c384_i32 : BitVec 32 := 384#32
  let v69 : BitVec 32 := Scalar.subi v60 c384_i32
  let c0_i32_30 : BitVec 32 := 0#32
  let v70 : BitVec 32 := Scalar.maxsi v69 c0_i32_30
  let v71 : BitVec 32 := v70
  let v85 : Index := Scalar.indexCast v71
  let c384_38 : Index := 384#32
  ![0, v85.toNat, 384]
def k0_mult2 (arg8 : BitVec 32) : BitVec 32 :=
  let c384_i32_107 : BitVec 32 := 384#32
  let v252 : BitVec 32 := Scalar.subi arg8 c384_i32_107
  let c0_i32_108 : BitVec 32 := 0#32
  let v253 : BitVec 32 := Scalar.maxsi v252 c0_i32_108
  v253

def k0_off5 (arg8 : BitVec 32) : Fin 3 → Nat :=
  let c0_109 : Index := 0#32
  let c384_i32_107 : BitVec 32 := 384#32
  let v252 : BitVec 32 := Scalar.subi arg8 c384_i32_107
  let c0_i32_108 : BitVec 32 := 0#32
  let v253 : BitVec 32 := Scalar.maxsi v252 c0_i32_108
  let v254 : BitVec 32 := v253
  let v259 : Index := Scalar.indexCast v254
  let c0_110 : Index := 0#32
  ![0, v259.toNat, 0]
def k0_off6 (arg8 : BitVec 32) : Fin 3 → Nat :=
  let c0_111 : Index := 0#32
  let c384_i32_107 : BitVec 32 := 384#32
  let v252 : BitVec 32 := Scalar.subi arg8 c384_i32_107
  let c0_i32_108 : BitVec 32 := 0#32
  let v253 : BitVec 32 := Scalar.maxsi v252 c0_i32_108
  let v254 : BitVec 32 := v253
  let v262 : Index := Scalar.indexCast v254
  let c128_112 : Index := 128#32
  ![0, v262.toNat, 128]
def k0_off7 (arg8 : BitVec 32) : Fin 3 → Nat :=
  let c0_113 : Index := 0#32
  let c384_i32_107 : BitVec 32 := 384#32
  let v252 : BitVec 32 := Scalar.subi arg8 c384_i32_107
  let c0_i32_108 : BitVec 32 := 0#32
  let v253 : BitVec 32 := Scalar.maxsi v252 c0_i32_108
  let v254 : BitVec 32 := v253
  let v265 : Index := Scalar.indexCast v254
  let c256_114 : Index := 256#32
  ![0, v265.toNat, 256]
def k0_off8 (arg8 : BitVec 32) : Fin 3 → Nat :=
  let c0_115 : Index := 0#32
  let c384_i32_107 : BitVec 32 := 384#32
  let v252 : BitVec 32 := Scalar.subi arg8 c384_i32_107
  let c0_i32_108 : BitVec 32 := 0#32
  let v253 : BitVec 32 := Scalar.maxsi v252 c0_i32_108
  let v254 : BitVec 32 := v253
  let v268 : Index := Scalar.indexCast v254
  let c384_116 : Index := 384#32
  ![0, v268.toNat, 384]

def k0_chk1 (arg8 : BitVec 32) : Prop :=
  (128 ∣ (k0_mult2 arg8).toNat) ∧
  (∀ a, (k0_off5 arg8) a + S1x384x128.size a ≤ S1x8192x512.size a) ∧
  (∀ a, (k0_off6 arg8) a + S1x384x128.size a ≤ S1x8192x512.size a) ∧
  (∀ a, (k0_off7 arg8) a + S1x384x128.size a ≤ S1x8192x512.size a) ∧
  (∀ a, (k0_off8 arg8) a + S1x384x128.size a ≤ S1x8192x512.size a)
theorem k0_mult2_dvd : ∀ (arg8 : BitVec 32) (k0_hw1 : k0_chk1 arg8), 128 ∣ (k0_mult2 arg8).toNat := fun arg8 k0_hw1 => k0_hw1.1
theorem k0_off5_inb : ∀ (arg8 : BitVec 32) (k0_hw1 : k0_chk1 arg8), ∀ a, (k0_off5 arg8) a + S1x384x128.size a ≤ S1x8192x512.size a := fun arg8 k0_hw1 => k0_hw1.2.1
theorem k0_off6_inb : ∀ (arg8 : BitVec 32) (k0_hw1 : k0_chk1 arg8), ∀ a, (k0_off6 arg8) a + S1x384x128.size a ≤ S1x8192x512.size a := fun arg8 k0_hw1 => k0_hw1.2.2.1
theorem k0_off7_inb : ∀ (arg8 : BitVec 32) (k0_hw1 : k0_chk1 arg8), ∀ a, (k0_off7 arg8) a + S1x384x128.size a ≤ S1x8192x512.size a := fun arg8 k0_hw1 => k0_hw1.2.2.2.1
theorem k0_off8_inb : ∀ (arg8 : BitVec 32) (k0_hw1 : k0_chk1 arg8), ∀ a, (k0_off8 arg8) a + S1x384x128.size a ≤ S1x8192x512.size a := fun arg8 k0_hw1 => k0_hw1.2.2.2.2

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.muli arg0 c4_i32_4
  let c12_i32_5 : BitVec 32 := 12#32
  let c0_i32_6 : BitVec 32 := 0#32
  let v19 : BitVec 1 := Scalar.cmpi .eq c12_i32_5 c0_i32_6
  let c1_i32_7 : BitVec 32 := 1#32
  let v20 : BitVec 32 := Scalar.select v19 c1_i32_7 c12_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 32 := Scalar.divsi v28 c4_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c4_i32_11 c0_i32_14
  let v36 : BitVec 32 := Scalar.extui v35
  let c0_i32_15 : BitVec 32 := 0#32
  let v37 : BitVec 1 := Scalar.cmpi .slt c4_i32_11 c0_i32_15
  let v38 : BitVec 32 := Scalar.extui v37
  let v39 : BitVec 32 := Scalar.subi v36 v38
  let v40 : BitVec 1 := Scalar.cmpi .ne v34 v39
  let v41 : BitVec 32 := Scalar.remsi v28 c4_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  ![v17.toNat, arg1.toNat, v45.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c16_i32 : BitVec 32 := 16#32
  let v1 : BitVec 32 := Scalar.addi c16_i32 v0
  let c12_i32 : BitVec 32 := 12#32
  let v2 : BitVec 32 := Scalar.divsi v1 c12_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c12_i32 c0_i32_1
  let v9 : BitVec 32 := Scalar.extui v8
  let c0_i32_2 : BitVec 32 := 0#32
  let v10 : BitVec 1 := Scalar.cmpi .slt c12_i32 c0_i32_2
  let v11 : BitVec 32 := Scalar.extui v10
  let v12 : BitVec 32 := Scalar.subi v9 v11
  let v13 : BitVec 1 := Scalar.cmpi .ne v7 v12
  let v14 : BitVec 32 := Scalar.remsi v1 c12_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.muli arg0 c4_i32_4
  let c16_i32_5 : BitVec 32 := 16#32
  let v20 : BitVec 32 := Scalar.addi c16_i32_5 v19
  let c12_i32_6 : BitVec 32 := 12#32
  let c0_i32_7 : BitVec 32 := 0#32
  let v21 : BitVec 1 := Scalar.cmpi .eq c12_i32_6 c0_i32_7
  let c1_i32_8 : BitVec 32 := 1#32
  let v22 : BitVec 32 := Scalar.select v21 c1_i32_8 c12_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c4_i32_12 : BitVec 32 := 4#32
  let v31 : BitVec 32 := Scalar.divsi v30 c4_i32_12
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c4_i32_12 c0_i32_15
  let v38 : BitVec 32 := Scalar.extui v37
  let c0_i32_16 : BitVec 32 := 0#32
  let v39 : BitVec 1 := Scalar.cmpi .slt c4_i32_12 c0_i32_16
  let v40 : BitVec 32 := Scalar.extui v39
  let v41 : BitVec 32 := Scalar.subi v38 v40
  let v42 : BitVec 1 := Scalar.cmpi .ne v36 v41
  let v43 : BitVec 32 := Scalar.remsi v30 c4_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c0_i32_19 : BitVec 32 := 0#32
  let c0_i32_20 : BitVec 32 := 0#32
  ![v18.toNat, c0_i32_19.toNat, v47.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c32_i32 : BitVec 32 := 32#32
  let v1 : BitVec 32 := Scalar.addi c32_i32 v0
  let c12_i32 : BitVec 32 := 12#32
  let v2 : BitVec 32 := Scalar.divsi v1 c12_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c12_i32 c0_i32_1
  let v9 : BitVec 32 := Scalar.extui v8
  let c0_i32_2 : BitVec 32 := 0#32
  let v10 : BitVec 1 := Scalar.cmpi .slt c12_i32 c0_i32_2
  let v11 : BitVec 32 := Scalar.extui v10
  let v12 : BitVec 32 := Scalar.subi v9 v11
  let v13 : BitVec 1 := Scalar.cmpi .ne v7 v12
  let v14 : BitVec 32 := Scalar.remsi v1 c12_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.muli arg0 c4_i32_4
  let c32_i32_5 : BitVec 32 := 32#32
  let v20 : BitVec 32 := Scalar.addi c32_i32_5 v19
  let c12_i32_6 : BitVec 32 := 12#32
  let c0_i32_7 : BitVec 32 := 0#32
  let v21 : BitVec 1 := Scalar.cmpi .eq c12_i32_6 c0_i32_7
  let c1_i32_8 : BitVec 32 := 1#32
  let v22 : BitVec 32 := Scalar.select v21 c1_i32_8 c12_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c4_i32_12 : BitVec 32 := 4#32
  let v31 : BitVec 32 := Scalar.divsi v30 c4_i32_12
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c4_i32_12 c0_i32_15
  let v38 : BitVec 32 := Scalar.extui v37
  let c0_i32_16 : BitVec 32 := 0#32
  let v39 : BitVec 1 := Scalar.cmpi .slt c4_i32_12 c0_i32_16
  let v40 : BitVec 32 := Scalar.extui v39
  let v41 : BitVec 32 := Scalar.subi v38 v40
  let v42 : BitVec 1 := Scalar.cmpi .ne v36 v41
  let v43 : BitVec 32 := Scalar.remsi v30 c4_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c0_i32_19 : BitVec 32 := 0#32
  let c0_i32_20 : BitVec 32 := 0#32
  ![v18.toNat, c0_i32_19.toNat, v47.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelFwdIdeal.lean ====
variable {F : FTy → Type} [FloatOps F] [Named F]
def κ : String → Option EReal := fun
  | "exit" => some ⊥
  | "mask" => some ⊥
  | _ => none
-- ==== ReferenceFwdIdeal.lean ====
abbrev S8192x6144 : Shape := ⟨2, ![8192, 6144]⟩
abbrev S8192x2048 : Shape := ⟨2, ![8192, 2048]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x16x128, .f32⟩
  | .hbm, ⟨5, _⟩ => ⟨S16x8192x128, .f32⟩
  | .hbm, ⟨6, _⟩ => ⟨S8192x16x128, .f32⟩
  | .hbm, ⟨7, _⟩ => ⟨S16x8192x128, .f32⟩
  | .hbm, ⟨8, _⟩ => ⟨S8192x16x128, .f32⟩
  | .hbm, ⟨9, _⟩ => ⟨S16x8192x128, .f32⟩
  | .hbm, ⟨10, _⟩ => ⟨S16x8192x8192, .f32⟩
  | .hbm, ⟨11, _⟩ => ⟨S_, .f32⟩
  | .hbm, ⟨12, _⟩ => ⟨S16x8192x8192, .f32⟩
  | .hbm, ⟨13, _⟩ => ⟨S16x8192x8192, .f32⟩
  | .hbm, ⟨14, _⟩ => ⟨S8192, .i32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S16x8192x8192, .f32⟩
  | .hbm, ⟨22, _⟩ => ⟨S16x8192x8192, .f32⟩
  | .hbm, ⟨23, _⟩ => ⟨S_, .f32⟩
  | .hbm, ⟨24, _⟩ => ⟨S16x8192x8192, .f32⟩
  | .hbm, ⟨25, _⟩ => ⟨S16x8192x8192, .f32⟩
  | .hbm, ⟨26, _⟩ => ⟨S16x8192x8192, .f32⟩
  | .hbm, ⟨27, _⟩ => ⟨S16x8192x8192, .f32⟩
  | .hbm, ⟨28, _⟩ => ⟨S16x8192x8192, .i1⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S16x8192x8192, .f32⟩
  | .hbm, ⟨38, _⟩ => ⟨S_, .f32⟩
  | .hbm, ⟨39, _⟩ => ⟨S_, .f32⟩
  | .hbm, ⟨40, _⟩ => ⟨S16x8192x8192, .i1⟩
  | .hbm, ⟨41, _⟩ => ⟨S16x8192x8192, .f32⟩
  | .hbm, ⟨42, _⟩ => ⟨S16x8192x8192, .f32⟩
  | .hbm, ⟨43, _⟩ => ⟨S_, .f32⟩
  | .hbm, ⟨44, _⟩ => ⟨S_, .f32⟩
  | .hbm, ⟨45, _⟩ => ⟨S16x8192x8192, .f32⟩
  | .hbm, ⟨46, _⟩ => ⟨S16x8192x8192, .f32⟩
  | .hbm, ⟨47, _⟩ => ⟨S_, .f32⟩
  | .hbm, ⟨48, _⟩ => ⟨S_, .f32⟩
  | .hbm, ⟨49, _⟩ => ⟨S16x8192x8192, .i1⟩
  | .hbm, ⟨50, _⟩ => ⟨S16x8192x8192, .f32⟩
  | .hbm, ⟨51, _⟩ => ⟨S16x8192x8192, .f32⟩
  | .hbm, ⟨52, _⟩ => ⟨S16x8192x8192, .f32⟩
  | .hbm, ⟨53, _⟩ => ⟨S16x8192x128, .f32⟩
  | .hbm, ⟨54, _⟩ => ⟨S8192x16x128, .f32⟩
  | .hbm, ⟨55, _⟩ => ⟨S8192x2048, .f32⟩
  | .hbm, ⟨56, _⟩ => ⟨S8192x2048, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_call2_cst : Ref sig .tc := ⟨.hbm, 43, rfl⟩
abbrev main_call2_v0 : Ref sig .tc := ⟨.hbm, 44, rfl⟩
abbrev main_v22 : Ref sig .tc := ⟨.hbm, 45, rfl⟩
abbrev main_v23 : Ref sig .tc := ⟨.hbm, 46, rfl⟩
abbrev main_cst_1 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩

abbrev nD : Nat := 1
abbrev τ : Topo := Topo.v7x

variable {F : FTy → Type} [FloatOps F]
-- ==== KernelGate.lean ====
abbrev S8192x11008 : Shape := ⟨2, ![8192, 11008]⟩
abbrev S3x11008 : Shape := ⟨2, ![3, 11008]⟩
abbrev S11008 : Shape := ⟨1, ![11008]⟩
abbrev S8192x4x2752 : Shape := ⟨3, ![8192, 4, 2752]⟩
abbrev S4x8192x2752 : Shape := ⟨3, ![4, 8192, 2752]⟩
abbrev S_ : Shape := ⟨0, ![]⟩
abbrev S4x8192x2816 : Shape := ⟨3, ![4, 8192, 2816]⟩
abbrev S3x4x2752 : Shape := ⟨3, ![3, 4, 2752]⟩
abbrev S4x3x2752 : Shape := ⟨3, ![4, 3, 2752]⟩
abbrev S4x3x2816 : Shape := ⟨3, ![4, 3, 2816]⟩
abbrev S4x1x2752 : Shape := ⟨3, ![4, 1, 2752]⟩
abbrev S4x1x2816 : Shape := ⟨3, ![4, 1, 2816]⟩
abbrev S2x8192x2816 : Shape := ⟨3, ![2, 8192, 2816]⟩
abbrev S1x256x2816 : Shape := ⟨3, ![1, 256, 2816]⟩
abbrev S1x8x2816 : Shape := ⟨3, ![1, 8, 2816]⟩
abbrev S1x3x2816 : Shape := ⟨3, ![1, 3, 2816]⟩
abbrev S1x1x2816 : Shape := ⟨3, ![1, 1, 2816]⟩
abbrev S256x2816 : Shape := ⟨2, ![256, 2816]⟩
abbrev S8x2816 : Shape := ⟨2, ![8, 2816]⟩
abbrev S264x2816 : Shape := ⟨2, ![264, 2816]⟩
abbrev S1x2816 : Shape := ⟨2, ![1, 2816]⟩

abbrev nBuf : Space → Nat
  | .hbm => 18
  | .vmem => 18
  | .smem => 0
  | _ => 0

abbrev bufTy : (tb : Table) → Fin (tcTables nBuf tb) → BufTy
  | .hbm, ⟨0, _⟩ => ⟨S8192x11008, .f32⟩
  | .hbm, ⟨1, _⟩ => ⟨S3x11008, .f32⟩
  | .hbm, ⟨2, _⟩ => ⟨S11008, .f32⟩
  | .hbm, ⟨3, _⟩ => ⟨S8192x4x2752, .f32⟩
  | .hbm, ⟨4, _⟩ => ⟨S4x8192x2752, .f32⟩
  | .hbm, ⟨5, _⟩ => ⟨S_, .i32⟩
  | .hbm, ⟨6, _⟩ => ⟨S_, .f32⟩
  | .hbm, ⟨7, _⟩ => ⟨S4x8192x2816, .f32⟩
  | .hbm, ⟨8, _⟩ => ⟨S3x4x2752, .f32⟩
  | .hbm, ⟨9, _⟩ => ⟨S4x3x2752, .f32⟩
  | .hbm, ⟨10, _⟩ => ⟨S_, .i32⟩
  | .hbm, ⟨11, _⟩ => ⟨S_, .f32⟩
  | .hbm, ⟨12, _⟩ => ⟨S4x3x2816, .f32⟩
  | .hbm, ⟨13, _⟩ => ⟨S4x1x2752, .f32⟩
  | .hbm, ⟨14, _⟩ => ⟨S_, .i32⟩
  | .hbm, ⟨15, _⟩ => ⟨S_, .f32⟩
  | .hbm, ⟨16, _⟩ => ⟨S4x1x2816, .f32⟩
  | .hbm, ⟨17, _⟩ => ⟨S2x8192x2816, .bf16⟩
  | .local _ .vmem, ⟨0, _⟩ => ⟨S1x256x2816, .f32⟩
  | .local _ .vmem, ⟨1, _⟩ => ⟨S1x256x2816, .f32⟩
  | .local _ .vmem, ⟨2, _⟩ => ⟨S1x8x2816, .f32⟩
  | .local _ .vmem, ⟨3, _⟩ => ⟨S1x8x2816, .f32⟩
  | .local _ .vmem, ⟨4, _⟩ => ⟨S1x256x2816, .f32⟩
  | .local _ .vmem, ⟨5, _⟩ => ⟨S1x256x2816, .f32⟩
  | .local _ .vmem, ⟨6, _⟩ => ⟨S1x8x2816, .f32⟩
  | .local _ .vmem, ⟨7, _⟩ => ⟨S1x8x2816, .f32⟩
  | .local _ .vmem, ⟨8, _⟩ => ⟨S1x3x2816, .f32⟩
  | .local _ .vmem, ⟨9, _⟩ => ⟨S1x3x2816, .f32⟩
  | .local _ .vmem, ⟨10, _⟩ => ⟨S1x3x2816, .f32⟩
  | .local _ .vmem, ⟨11, _⟩ => ⟨S1x3x2816, .f32⟩
  | .local _ .vmem, ⟨12, _⟩ => ⟨S1x1x2816, .f32⟩
  | .local _ .vmem, ⟨13, _⟩ => ⟨S1x1x2816, .f32⟩
  | .local _ .vmem, ⟨14, _⟩ => ⟨S1x1x2816, .f32⟩
  | .local _ .vmem, ⟨15, _⟩ => ⟨S1x1x2816, .f32⟩
  | .local _ .vmem, ⟨16, _⟩ => ⟨S1x256x2816, .bf16⟩
  | .local _ .vmem, ⟨17, _⟩ => ⟨S1x256x2816, .bf16⟩
  | _, _ => ⟨S8192x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call2_v0 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c32_i32 : BitVec 32 := 32#32
  let v1 : BitVec 32 := Scalar.muli arg1 c32_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c32_i32 : BitVec 32 := 32#32
  let v1 : BitVec 32 := Scalar.muli arg1 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v0.toNat, v3.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceGateIdeal.lean ====
abbrev S8192x11008 : Shape := ⟨2, ![8192, 11008]⟩
abbrev S3x11008 : Shape := ⟨2, ![3, 11008]⟩
abbrev S11008 : Shape := ⟨1, ![11008]⟩
abbrev S_ : Shape := ⟨0, ![]⟩
abbrev S2x11008 : Shape := ⟨2, ![2, 11008]⟩
abbrev S8194x11008 : Shape := ⟨2, ![8194, 11008]⟩
abbrev S1x11008 : Shape := ⟨2, ![1, 11008]⟩
abbrev S8192x5504 : Shape := ⟨2, ![8192, 5504]⟩
abbrev S8192x2x2752 : Shape := ⟨3, ![8192, 2, 2752]⟩
abbrev S2x8192x2752 : Shape := ⟨3, ![2, 8192, 2752]⟩
abbrev S2x8192x2816 : Shape := ⟨3, ![2, 8192, 2816]⟩

abbrev nBuf : Space → Nat
  | .hbm => 47
  | .vmem => 0
  | .smem => 0
  | _ => 0

abbrev bufTy : (tb : Table) → Fin (tcTables nBuf tb) → BufTy
  | .hbm, ⟨0, _⟩ => ⟨S8192x11008, .f32⟩
  | .hbm, ⟨1, _⟩ => ⟨S3x11008, .f32⟩
  | .hbm, ⟨2, _⟩ => ⟨S11008, .f32⟩
  | .hbm, ⟨3, _⟩ => ⟨S_, .f32⟩
  | .hbm, ⟨4, _⟩ => ⟨S2x11008, .f32⟩
  | .hbm, ⟨5, _⟩ => ⟨S8194x11008, .f32⟩
  | .hbm, ⟨6, _⟩ => ⟨S1x11008, .f32⟩
  | .hbm, ⟨7, _⟩ => ⟨S11008, .f32⟩
  | .hbm, ⟨8, _⟩ => ⟨S8192x11008, .f32⟩
  | .hbm, ⟨9, _⟩ => ⟨S1x11008, .f32⟩
  | .hbm, ⟨10, _⟩ => ⟨S8192x11008, .f32⟩
  | .hbm, ⟨11, _⟩ => ⟨S8192x11008, .f32⟩
  | .hbm, ⟨12, _⟩ => ⟨S1x11008, .f32⟩
  | .hbm, ⟨13, _⟩ => ⟨S8192x11008, .f32⟩
  | .hbm, ⟨14, _⟩ => ⟨S8192x11008, .f32⟩
  | .hbm, ⟨15, _⟩ => ⟨S1x11008, .f32⟩
  | .hbm, ⟨16, _⟩ => ⟨S11008, .f32⟩
  | .hbm, ⟨17, _⟩ => ⟨S8192x11008, .f32⟩
  | .hbm, ⟨18, _⟩ => ⟨S1x11008, .f32⟩
  | .hbm, ⟨19, _⟩ => ⟨S8192x11008, .f32⟩
  | .hbm, ⟨20, _⟩ => ⟨S8192x11008, .f32⟩
  | .hbm, ⟨21, _⟩ => ⟨S8192x11008, .f32⟩
  | .hbm, ⟨22, _⟩ => ⟨S1x11008, .f32⟩
  | .hbm, ⟨23, _⟩ => ⟨S11008, .f32⟩
  | .hbm, ⟨24, _⟩ => ⟨S8192x11008, .f32⟩
  | .hbm, ⟨25, _⟩ => ⟨S1x11008, .f32⟩
  | .hbm, ⟨26, _⟩ => ⟨S8192x11008, .f32⟩
  | .hbm, ⟨27, _⟩ => ⟨S8192x11008, .f32⟩
  | .hbm, ⟨28, _⟩ => ⟨S8192x11008, .f32⟩
  | .hbm, ⟨29, _⟩ => ⟨S8192x5504, .f32⟩
  | .hbm, ⟨30, _⟩ => ⟨S8192x5504, .f32⟩
  | .hbm, ⟨31, _⟩ => ⟨S8192x5504, .f32⟩
  | .hbm, ⟨32, _⟩ => ⟨S8192x5504, .f32⟩
  | .hbm, ⟨33, _⟩ => ⟨S_, .f32⟩
  | .hbm, ⟨34, _⟩ => ⟨S8192x5504, .f32⟩
  | .hbm, ⟨35, _⟩ => ⟨S8192x5504, .f32⟩
  | .hbm, ⟨36, _⟩ => ⟨S_, .f32⟩
  | .hbm, ⟨37, _⟩ => ⟨S8192x5504, .f32⟩
  | .hbm, ⟨38, _⟩ => ⟨S8192x5504, .f32⟩
  | .hbm, ⟨39, _⟩ => ⟨S8192x5504, .f32⟩
  | .hbm, ⟨40, _⟩ => ⟨S8192x5504, .f32⟩
  | .hbm, ⟨41, _⟩ => ⟨S8192x2x2752, .f32⟩
  | .hbm, ⟨42, _⟩ => ⟨S2x8192x2752, .f32⟩
  | .hbm, ⟨43, _⟩ => ⟨S_, .i32⟩
  | .hbm, ⟨44, _⟩ => ⟨S_, .f32⟩
  | .hbm, ⟨45, _⟩ => ⟨S2x8192x2816, .f32⟩
  | .hbm, ⟨46, _⟩ => ⟨S2x8192x2816, .bf16⟩
  | _, _ => ⟨S8192x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_call1_v0 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== KernelTrunk.lean ====
abbrev S8192x2048 : Shape := ⟨2, ![8192, 2048]⟩
abbrev S4x512x512 : Shape := ⟨3, ![4, 512, 512]⟩
abbrev S2048 : Shape := ⟨1, ![2048]⟩
abbrev S1x2048 : Shape := ⟨2, ![1, 2048]⟩
abbrev S256x2048 : Shape := ⟨2, ![256, 2048]⟩
abbrev S16x2048 : Shape := ⟨2, ![16, 2048]⟩
abbrev S256x512 : Shape := ⟨2, ![256, 512]⟩
abbrev S16x512 : Shape := ⟨2, ![16, 512]⟩
abbrev S272x512 : Shape := ⟨2, ![272, 512]⟩
abbrev S256x1 : Shape := ⟨2, ![256, 1]⟩
abbrev S1x512x512 : Shape := ⟨3, ![1, 512, 512]⟩
abbrev S512x512 : Shape := ⟨2, ![512, 512]⟩
abbrev S1x512 : Shape := ⟨2, ![1, 512]⟩
abbrev S256 : Shape := ⟨1, ![256]⟩

abbrev nBuf : Space → Nat
  | .hbm => 12
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S4x512x512, .bf16⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S16x2048, .f32⟩
  | .local _ .vmem, ⟨4, _⟩ => ⟨S4x512x512, .bf16⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceTrunkIdeal.lean ====
abbrev S8192x2048 : Shape := ⟨2, ![8192, 2048]⟩
abbrev S4x512x512 : Shape := ⟨3, ![4, 512, 512]⟩
abbrev S2048 : Shape := ⟨1, ![2048]⟩
abbrev S_ : Shape := ⟨0, ![]⟩
abbrev S8192x4x512 : Shape := ⟨3, ![8192, 4, 512]⟩
abbrev S8192 : Shape := ⟨1, ![8192]⟩
abbrev S8192x1x512 : Shape := ⟨3, ![8192, 1, 512]⟩
abbrev S8192x512 : Shape := ⟨2, ![8192, 512]⟩
abbrev S2x512 : Shape := ⟨2, ![2, 512]⟩
abbrev S8194x512 : Shape := ⟨2, ![8194, 512]⟩
abbrev S8192x1 : Shape := ⟨2, ![8192, 1]⟩
abbrev S4x512 : Shape := ⟨2, ![4, 512]⟩
abbrev S8196x512 : Shape := ⟨2, ![8196, 512]⟩
abbrev S8x512 : Shape := ⟨2, ![8, 512]⟩
abbrev S8200x512 : Shape := ⟨2, ![8200, 512]⟩
abbrev S16x512 : Shape := ⟨2, ![16, 512]⟩
abbrev S8208x512 : Shape := ⟨2, ![8208, 512]⟩
abbrev S4x512x8192 : Shape := ⟨3, ![4, 512, 8192]⟩
abbrev S1x2048 : Shape := ⟨2, ![1, 2048]⟩

abbrev nBuf : Space → Nat
  | .hbm => 127
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S_, .f32⟩
  | .hbm, ⟨10, _⟩ => ⟨S8192x2048, .f32⟩
  | .hbm, ⟨11, _⟩ => ⟨S8192x4x512, .f32⟩
  | .hbm, ⟨12, _⟩ => ⟨S8192x4x512, .f32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192x1x512, .f32⟩
  | .hbm, ⟨18, _⟩ => ⟨S8192x512, .f32⟩
  | .hbm, ⟨19, _⟩ => ⟨S_, .f32⟩
  | .hbm, ⟨20, _⟩ => ⟨S2x512, .f32⟩
  | .hbm, ⟨21, _⟩ => ⟨S8194x512, .f32⟩
  | .hbm, ⟨22, _⟩ => ⟨S8192x512, .f32⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .f32⟩
  | .hbm, ⟨27, _⟩ => ⟨S8192x1, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x1x512, .f32⟩
  | .hbm, ⟨32, _⟩ => ⟨S8192x512, .f32⟩
  | .hbm, ⟨33, _⟩ => ⟨S8192x512, .f32⟩
  | .hbm, ⟨34, _⟩ => ⟨S8192x1x512, .f32⟩
  | .hbm, ⟨35, _⟩ => ⟨S8192x512, .f32⟩
  | .hbm, ⟨36, _⟩ => ⟨S_, .f32⟩
  | .hbm, ⟨37, _⟩ => ⟨S4x512, .f32⟩
  | .hbm, ⟨38, _⟩ => ⟨S8196x512, .f32⟩
  | .hbm, ⟨39, _⟩ => ⟨S8192x512, .f32⟩
  | .hbm, ⟨40, _⟩ => ⟨S_, .i32⟩
  | .hbm, ⟨41, _⟩ => ⟨S8192, .i32⟩
  | .hbm, ⟨42, _⟩ => ⟨S8192, .i32⟩
  | .hbm, ⟨43, _⟩ => ⟨S8192, .f32⟩
  | .hbm, ⟨44, _⟩ => ⟨S8192x1, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x1x512, .f32⟩
  | .hbm, ⟨49, _⟩ => ⟨S8192x512, .f32⟩
  | .hbm, ⟨50, _⟩ => ⟨S8192x512, .f32⟩
  | .hbm, ⟨51, _⟩ => ⟨S8192x1x512, .f32⟩
  | .hbm, ⟨52, _⟩ => ⟨S8192x512, .f32⟩
  | .hbm, ⟨53, _⟩ => ⟨S_, .f32⟩
  | .hbm, ⟨54, _⟩ => ⟨S8x512, .f32⟩
  | .hbm, ⟨55, _⟩ => ⟨S8200x512, .f32⟩
  | .hbm, ⟨56, _⟩ => ⟨S8192x512, .f32⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .f32⟩
  | .hbm, ⟨61, _⟩ => ⟨S8192x1, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x1x512, .f32⟩
  | .hbm, ⟨66, _⟩ => ⟨S8192x512, .f32⟩
  | .hbm, ⟨67, _⟩ => ⟨S8192x512, .f32⟩
  | .hbm, ⟨68, _⟩ => ⟨S8192x1x512, .f32⟩
  | .hbm, ⟨69, _⟩ => ⟨S8192x512, .f32⟩
  | .hbm, ⟨70, _⟩ => ⟨S_, .f32⟩
  | .hbm, ⟨71, _⟩ => ⟨S16x512, .f32⟩
  | .hbm, ⟨72, _⟩ => ⟨S8208x512, .f32⟩
  | .hbm, ⟨73, _⟩ => ⟨S8192x512, .f32⟩
  | .hbm, ⟨74, _⟩ => ⟨S_, .i32⟩
  | .hbm, ⟨75, _⟩ => ⟨S8192, .i32⟩
  | .hbm, ⟨76, _⟩ => ⟨S8192, .i32⟩
  | .hbm, ⟨77, _⟩ => ⟨S8192, .f32⟩
  | .hbm, ⟨78, _⟩ => ⟨S8192x1, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S8192x1x512, .f32⟩
  | .hbm, ⟨83, _⟩ => ⟨S8192x512, .f32⟩
  | .hbm, ⟨84, _⟩ => ⟨S8192x512, .f32⟩
  | .hbm, ⟨85, _⟩ => ⟨S8192x1x512, .f32⟩
  | .hbm, ⟨86, _⟩ => ⟨S8192x1x512, .f32⟩
  | .hbm, ⟨87, _⟩ => ⟨S8192x1x512, .f32⟩
  | .hbm, ⟨88, _⟩ => ⟨S8192x1x512, .f32⟩
  | .hbm, ⟨89, _⟩ => ⟨S8192x4x512, .f32⟩
  | .hbm, ⟨90, _⟩ => ⟨S4x512x8192, .f32⟩
  | .hbm, ⟨91, _⟩ => ⟨S8192x4x512, .f32⟩
  | .hbm, ⟨92, _⟩ => ⟨S8192x2048, .f32⟩
  | .hbm, ⟨93, _⟩ => ⟨S1x2048, .f32⟩
  | .hbm, ⟨94, _⟩ => ⟨S8192x2048, .f32⟩
  | .hbm, ⟨95, _⟩ => ⟨S8192x2048, .f32⟩
  | .hbm, ⟨96, _⟩ => ⟨S8192x2048, .f32⟩
  | .hbm, ⟨97, _⟩ => ⟨S_, .f32⟩
  | .hbm, ⟨98, _⟩ => ⟨S8192, .f32⟩
  | .hbm, ⟨99, _⟩ => ⟨S8192x1, .f32⟩
  | .hbm, ⟨100, _⟩ => ⟨S_, .f32⟩
  | .hbm, ⟨101, _⟩ => ⟨S8192x1, .f32⟩
  | .hbm, ⟨102, _⟩ => ⟨S8192x1, .f32⟩
  | .hbm, ⟨103, _⟩ => ⟨S8192x2048, .f32⟩
  | .hbm, ⟨104, _⟩ => ⟨S8192x2048, .f32⟩
  | .hbm, ⟨105, _⟩ => ⟨S8192x2048, .f32⟩
  | .hbm, ⟨106, _⟩ => ⟨S_, .f32⟩
  | .hbm, ⟨107, _⟩ => ⟨S8192, .f32⟩
  | .hbm, ⟨108, _⟩ => ⟨S8192x1, .f32⟩
  | .hbm, ⟨109, _⟩ => ⟨S_, .f32⟩
  | .hbm, ⟨110, _⟩ => ⟨S8192x1, .f32⟩
  | .hbm, ⟨111, _⟩ => ⟨S8192x1, .f32⟩
  | .hbm, ⟨112, _⟩ => ⟨S8192x2048, .f32⟩
  | .hbm, ⟨113, _⟩ => ⟨S8192x2048, .f32⟩
  | .hbm, ⟨114, _⟩ => ⟨S_, .f32⟩
  | .hbm, ⟨115, _⟩ => ⟨S8192x1, .f32⟩
  | .hbm, ⟨116, _⟩ => ⟨S8192x1, .f32⟩
  | .hbm, ⟨117, _⟩ => ⟨S8192x1, .f32⟩
  | .hbm, ⟨118, _⟩ => ⟨S8192x2048, .f32⟩
  | .hbm, ⟨119, _⟩ => ⟨S8192x2048, .f32⟩
  | .hbm, ⟨120, _⟩ => ⟨S1x2048, .f32⟩
  | .hbm, ⟨121, _⟩ => ⟨S8192x2048, .f32⟩
  | .hbm, ⟨122, _⟩ => ⟨S8192x2048, .f32⟩
  | .hbm, ⟨123, _⟩ => ⟨S1x2048, .f32⟩
  | .hbm, ⟨124, _⟩ => ⟨S8192x2048, .f32⟩
  | .hbm, ⟨125, _⟩ => ⟨S8192x2048, .f32⟩
  | .hbm, ⟨126, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_call0_call0_cst : Ref sig .tc := ⟨.hbm, 8, rfl⟩
abbrev main_call0_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_7 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_8 : Ref sig .tc := ⟨.hbm, 97, rfl⟩
abbrev main_v80 : Ref sig .tc := ⟨.hbm, 98, rfl⟩
abbrev main_v81 : Ref sig .tc := ⟨.hbm, 99, rfl⟩
abbrev main_cst_9 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_10 : Ref sig .tc := ⟨.hbm, 106, rfl⟩
abbrev main_v87 : Ref sig .tc := ⟨.hbm, 107, rfl⟩
abbrev main_v88 : Ref sig .tc := ⟨.hbm, 108, rfl⟩
abbrev main_cst_11 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_12 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩

abbrev nD : Nat := 1
abbrev τ : Topo := Topo.v7x

variable {F : FTy → Type} [FloatOps F]
-- ==== KernelJoin.lean ====
abbrev S8192x2048 : Shape := ⟨2, ![8192, 2048]⟩
abbrev S2048x2048 : Shape := ⟨2, ![2048, 2048]⟩
abbrev S2048 : Shape := ⟨1, ![2048]⟩
abbrev S1x8192x2048 : Shape := ⟨3, ![1, 8192, 2048]⟩
abbrev S1x2048x2048 : Shape := ⟨3, ![1, 2048, 2048]⟩
abbrev S1x2048 : Shape := ⟨2, ![1, 2048]⟩
abbrev S1x256x2048 : Shape := ⟨3, ![1, 256, 2048]⟩
abbrev S256x2048 : Shape := ⟨2, ![256, 2048]⟩
abbrev S_ : Shape := ⟨0, ![]⟩
abbrev S256 : Shape := ⟨1, ![256]⟩
abbrev S256x1 : Shape := ⟨2, ![256, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S8192x2048, .bf16⟩
  | .hbm, ⟨6, _⟩ => ⟨S1x8192x2048, .bf16⟩
  | .hbm, ⟨7, _⟩ => ⟨S2048x2048, .bf16⟩
  | .hbm, ⟨8, _⟩ => ⟨S1x2048x2048, .bf16⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceJoinIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== KernelUp.lean ====
abbrev S8192x2048 : Shape := ⟨2, ![8192, 2048]⟩
abbrev S2048x11008 : Shape := ⟨2, ![2048, 11008]⟩
abbrev S11008x2048 : Shape := ⟨2, ![11008, 2048]⟩
abbrev S4x2752x2048 : Shape := ⟨3, ![4, 2752, 2048]⟩
abbrev S_ : Shape := ⟨0, ![]⟩
abbrev S4x2816x2048 : Shape := ⟨3, ![4, 2816, 2048]⟩
abbrev S4x8192x2816 : Shape := ⟨3, ![4, 8192, 2816]⟩
abbrev S512x2048 : Shape := ⟨2, ![512, 2048]⟩
abbrev S1x2816x2048 : Shape := ⟨3, ![1, 2816, 2048]⟩
abbrev S1x512x2816 : Shape := ⟨3, ![1, 512, 2816]⟩
abbrev S2816x2048 : Shape := ⟨2, ![2816, 2048]⟩
abbrev S512x2816 : Shape := ⟨2, ![512, 2816]⟩

abbrev nBuf : Space → Nat
  | .hbm => 10
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x11008, .f32⟩
  | .hbm, ⟨2, _⟩ => ⟨S2048x11008, .bf16⟩
  | .hbm, ⟨3, _⟩ => ⟨S11008x2048, .bf16⟩
  | .hbm, ⟨4, _⟩ => ⟨S4x2752x2048, .bf16⟩
  | .hbm, ⟨5, _⟩ => ⟨S_, .i32⟩
  | .hbm, ⟨6, _⟩ => ⟨S_, .bf16⟩
  | .hbm, ⟨7, _⟩ => ⟨S4x2816x2048, .bf16⟩
  | .hbm, ⟨8, _⟩ => ⟨S8192x2048, .bf16⟩
  | .hbm, ⟨9, _⟩ => ⟨S4x8192x2816, .f32⟩
  | .local _ .vmem, ⟨0, _⟩ => ⟨S512x2048, .bf16⟩
  | .local _ .vmem, ⟨1, _⟩ => ⟨S512x2048, .bf16⟩
  | .local _ .vmem, ⟨2, _⟩ => ⟨S1x2816x2048, .bf16⟩
  | .local _ .vmem, ⟨3, _⟩ => ⟨S1x2816x2048, .bf16⟩
  | .local _ .vmem, ⟨4, _⟩ => ⟨S1x512x2816, .f32⟩
  | .local _ .vmem, ⟨5, _⟩ => ⟨S1x512x2816, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceUpIdeal.lean ====
abbrev S8192x2048 : Shape := ⟨2, ![8192, 2048]⟩
abbrev S2048x11008 : Shape := ⟨2, ![2048, 11008]⟩
abbrev S8192x11008 : Shape := ⟨2, ![8192, 11008]⟩
abbrev S8192x4x2752 : Shape := ⟨3, ![8192, 4, 2752]⟩
abbrev S4x8192x2752 : Shape := ⟨3, ![4, 8192, 2752]⟩
abbrev S_ : Shape := ⟨0, ![]⟩
abbrev S4x8192x2816 : Shape := ⟨3, ![4, 8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11008, .f32⟩
  | .hbm, ⟨2, _⟩ => ⟨S8192x11008, .f32⟩
  | .hbm, ⟨3, _⟩ => ⟨S8192x4x2752, .f32⟩
  | .hbm, ⟨4, _⟩ => ⟨S4x8192x2752, .f32⟩
  | .hbm, ⟨5, _⟩ => ⟨S_, .i32⟩
  | .hbm, ⟨6, _⟩ => ⟨S_, .f32⟩
  | .hbm, ⟨7, _⟩ => ⟨S4x8192x2816, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelTn.lean ====
abbrev S8192x11008 : Shape := ⟨2, ![8192, 11008]⟩
abbrev S8192x2048 : Shape := ⟨2, ![8192, 2048]⟩
abbrev S8192x4x2752 : Shape := ⟨3, ![8192, 4, 2752]⟩
abbrev S4x8192x2752 : Shape := ⟨3, ![4, 8192, 2752]⟩
abbrev S_ : Shape := ⟨0, ![]⟩
abbrev S4x8192x2816 : Shape := ⟨3, ![4, 8192, 2816]⟩
abbrev S1x8192x2048 : Shape := ⟨3, ![1, 8192, 2048]⟩
abbrev S4x2816x2048 : Shape := ⟨3, ![4, 2816, 2048]⟩
abbrev S1x1024x1408 : Shape := ⟨3, ![1, 1024, 1408]⟩
abbrev S1x1024x2048 : Shape := ⟨3, ![1, 1024, 2048]⟩
abbrev S1x1408x2048 : Shape := ⟨3, ![1, 1408, 2048]⟩
abbrev S1408x2048 : Shape := ⟨2, ![1408, 2048]⟩
abbrev S1024x1408 : Shape := ⟨2, ![1024, 1408]⟩
abbrev S1024x2048 : Shape := ⟨2, ![1024, 2048]⟩

abbrev nBuf : Space → Nat
  | .hbm => 11
  | .vmem => 6
  | .smem => 0
  | _ => 0

abbrev bufTy : (tb : Table) → Fin (tcTables nBuf tb) → BufTy
  | .hbm, ⟨0, _⟩ => ⟨S8192x11008, .f32⟩
  | .hbm, ⟨1, _⟩ => ⟨S8192x2048, .f32⟩
  | .hbm, ⟨2, _⟩ => ⟨S8192x11008, .bf16⟩
  | .hbm, ⟨3, _⟩ => ⟨S8192x4x2752, .bf16⟩
  | .hbm, ⟨4, _⟩ => ⟨S4x8192x2752, .bf16⟩
  | .hbm, ⟨5, _⟩ => ⟨S_, .i32⟩
  | .hbm, ⟨6, _⟩ => ⟨S_, .bf16⟩
  | .hbm, ⟨7, _⟩ => ⟨S4x8192x2816, .bf16⟩
  | .hbm, ⟨8, _⟩ => ⟨S8192x2048, .bf16⟩
  | .hbm, ⟨9, _⟩ => ⟨S1x8192x2048, .bf16⟩
  | .hbm, ⟨10, _⟩ => ⟨S4x2816x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1408x2048, .f32⟩
  | .local _ .vmem, ⟨5, _⟩ => ⟨S1x1408x2048, .f32⟩
  | _, _ => ⟨S8192x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1408x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceTnIdeal.lean ====
abbrev S8192x11008 : Shape := ⟨2, ![8192, 11008]⟩
abbrev S8192x2048 : Shape := ⟨2, ![8192, 2048]⟩
abbrev S_ : Shape := ⟨0, ![]⟩
abbrev S2048x11008 : Shape := ⟨2, ![2048, 11008]⟩
abbrev S11008x2048 : Shape := ⟨2, ![11008, 2048]⟩
abbrev S4x2752x2048 : Shape := ⟨3, ![4, 2752, 2048]⟩
abbrev S4x2816x2048 : Shape := ⟨3, ![4, 2816, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x11008, .f32⟩
  | .hbm, ⟨1, _⟩ => ⟨S8192x2048, .f32⟩
  | .hbm, ⟨2, _⟩ => ⟨S_, .f32⟩
  | .hbm, ⟨3, _⟩ => ⟨S2048x11008, .f32⟩
  | .hbm, ⟨4, _⟩ => ⟨S8192x11008, .f32⟩
  | .hbm, ⟨5, _⟩ => ⟨S11008x2048, .f32⟩
  | .hbm, ⟨6, _⟩ => ⟨S2048x11008, .f32⟩
  | .hbm, ⟨7, _⟩ => ⟨S11008x2048, .f32⟩
  | .hbm, ⟨8, _⟩ => ⟨S4x2752x2048, .f32⟩
  | .hbm, ⟨9, _⟩ => ⟨S_, .i32⟩
  | .hbm, ⟨10, _⟩ => ⟨S_, .f32⟩
  | .hbm, ⟨11, _⟩ => ⟨S4x2816x2048, .f32⟩
  | _, _ => ⟨S8192x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== KernelNt.lean ====
abbrev S8192x11008 : Shape := ⟨2, ![8192, 11008]⟩
abbrev S2048x11008 : Shape := ⟨2, ![2048, 11008]⟩
abbrev S8192x2048 : Shape := ⟨2, ![8192, 2048]⟩
abbrev S11008x2048 : Shape := ⟨2, ![11008, 2048]⟩
abbrev S4x2752x2048 : Shape := ⟨3, ![4, 2752, 2048]⟩
abbrev S_ : Shape := ⟨0, ![]⟩
abbrev S4x2816x2048 : Shape := ⟨3, ![4, 2816, 2048]⟩
abbrev S8192x4x2752 : Shape := ⟨3, ![8192, 4, 2752]⟩
abbrev S4x8192x2752 : Shape := ⟨3, ![4, 8192, 2752]⟩
abbrev S4x8192x2816 : Shape := ⟨3, ![4, 8192, 2816]⟩
abbrev S1x512x2816 : Shape := ⟨3, ![1, 512, 2816]⟩
abbrev S1x2816x2048 : Shape := ⟨3, ![1, 2816, 2048]⟩
abbrev S512x2048 : Shape := ⟨2, ![512, 2048]⟩
abbrev S512x2816 : Shape := ⟨2, ![512, 2816]⟩
abbrev S2816x2048 : Shape := ⟨2, ![2816, 2048]⟩

abbrev nBuf : Space → Nat
  | .hbm => 16
  | .vmem => 9
  | .smem => 0
  | _ => 0

abbrev bufTy : (tb : Table) → Fin (tcTables nBuf tb) → BufTy
  | .hbm, ⟨0, _⟩ => ⟨S8192x11008, .f32⟩
  | .hbm, ⟨1, _⟩ => ⟨S2048x11008, .f32⟩
  | .hbm, ⟨2, _⟩ => ⟨S8192x2048, .f32⟩
  | .hbm, ⟨3, _⟩ => ⟨S2048x11008, .bf16⟩
  | .hbm, ⟨4, _⟩ => ⟨S11008x2048, .bf16⟩
  | .hbm, ⟨5, _⟩ => ⟨S4x2752x2048, .bf16⟩
  | .hbm, ⟨6, _⟩ => ⟨S_, .i32⟩
  | .hbm, ⟨7, _⟩ => ⟨S_, .bf16⟩
  | .hbm, ⟨8, _⟩ => ⟨S4x2816x2048, .bf16⟩
  | .hbm, ⟨9, _⟩ => ⟨S8192x11008, .bf16⟩
  | .hbm, ⟨10, _⟩ => ⟨S8192x4x2752, .bf16⟩
  | .hbm, ⟨11, _⟩ => ⟨S4x8192x2752, .bf16⟩
  | .hbm, ⟨12, _⟩ => ⟨S_, .i32⟩
  | .hbm, ⟨13, _⟩ => ⟨S_, .bf16⟩
  | .hbm, ⟨14, _⟩ => ⟨S4x8192x2816, .bf16⟩
  | .hbm, ⟨15, _⟩ => ⟨S8192x2048, .f32⟩
  | .local _ .vmem, ⟨0, _⟩ => ⟨S1x512x2816, .bf16⟩
  | .local _ .vmem, ⟨1, _⟩ => ⟨S1x512x2816, .bf16⟩
  | .local _ .vmem, ⟨2, _⟩ => ⟨S1x2816x2048, .bf16⟩
  | .local _ .vmem, ⟨3, _⟩ => ⟨S1x2816x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S8192x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceNtIdeal.lean ====
abbrev S8192x11008 : Shape := ⟨2, ![8192, 11008]⟩
abbrev S2048x11008 : Shape := ⟨2, ![2048, 11008]⟩
abbrev S8192x2048 : Shape := ⟨2, ![8192, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x11008, .f32⟩
  | .hbm, ⟨1, _⟩ => ⟨S2048x11008, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x11008, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S8192x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Proof.Blocks.lean ====
/- Where a block lies in its array: the array's index of a block's entry, and the bounds of a block's indices;
and the words that count the keys. -/
module

public import Idealize.ShloMosaic.Lib.Pointwise.Index
public import Idealize.ShloMosaic.PureOps.Ideal
public import Idealize.ShloMosaic.Lib.VecWindow
public import Idealize.ShloMosaic.Signature.View

@[expose] public section

namespace Cert.Blocks

open Idealize.ShloMosaic

/-- An index by its coordinates. -/
theorem at2 {A B : ℕ} {x : (⟨2, ![A, B]⟩ : Shape).Idx} {p : Fin A} {q : Fin B} (h0 : (x 0).val = p.val) (h1 : (x 1).val = q.val) : x = ix2 p q := by
  funext a
  apply Fin.ext
  match a with
  | ⟨0, _⟩ => exact h0
  | ⟨1, _⟩ => exact h1

theorem at3 {A B C : ℕ} {x : (⟨3, ![A, B, C]⟩ : Shape).Idx} {p : Fin A} {q : Fin B} {r : Fin C} (h0 : (x 0).val = p.val) (h1 : (x 1).val = q.val)
    (h2 : (x 2).val = r.val) : x = ix3 p q r := by
  funext a
  apply Fin.ext
  match a with
  | ⟨0, _⟩ => exact h0
  | ⟨1, _⟩ => exact h1
  | ⟨2, _⟩ => exact h2

variable {x y n a i : ℕ}

/-- The array's coordinate of entry `a` of block `y`, -/
theorem blk_at (h : x = y) (e : y * n + a = i) : x * n + 1 * a = i := by rw [h, one_mul, e]

/-- of the first block, -/
theorem blk_in (h : x = 0) : x * n + 1 * a = a := by rw [h, Nat.zero_mul, Nat.zero_add, one_mul]

/-- and a coordinate's block. -/
theorem in_blk (i n : ℕ) (h : x = y) (e : y * n ≤ i ∧ i < y * n + n) : x * n ≤ i ∧ i < x * n + n := by rwa [h]

/-- An index lies in a block when each of its coordinates does. -/
theorem in_rect {sig : RefSig} {κ : Kind} {b : Ref sig κ} {off size : Fin b.ty.shape.rank → ℕ} {inb} {i : b.ty.shape.Idx}
    (h : ∀ a, off a ≤ i a ∧ (i a : ℕ) < off a + size a) : i ∈ ((View.whole b).slice (Rect.unit off size inb)).set := by
  rw [View.set_slice_whole, Rect.mem_set_unit]; exact h

theorem all2 {P : Fin 2 → Prop} (h0 : P 0) (h1 : P 1) : ∀ a, P a := by intro a; match a with | 0 => exact h0 | 1 => exact h1
theorem all3 {P : Fin 3 → Prop} (h0 : P 0) (h1 : P 1) (h2 : P 2) : ∀ a, P a := by intro a; match a with | 0 => exact h0 | 1 => exact h1 | 2 => exact h2

theorem all4 {P : Fin 4 → Prop} (h0 : P 0) (h1 : P 1) (h2 : P 2) (h3 : P 3) : ∀ a, P a := by
  intro a; match a with | 0 => exact h0 | 1 => exact h1 | 2 => exact h2 | 3 => exact h3

theorem row2 {A : ℕ} (j : (⟨2, ![1, A]⟩ : Shape).Idx) : ∃ b : Fin A, j = ix2 0 b := ⟨_, at2 (Nat.lt_one_iff.1 (j 0).isLt) rfl⟩

/-- A point of the grid by its number. -/
theorem fin_at {N : ℕ} (n : ℕ) (h : n < N) : ∃ t : Fin N, t.val = n := ⟨⟨n, h⟩, rfl⟩

/-- Arrays of equal entries are equal. -/
theorem ext2 {A B : ℕ} {α : Type} {x y : (⟨2, ![A, B]⟩ : Shape).Idx → α} (h : ∀ a b, x (ix2 a b) = y (ix2 a b)) : x = y :=
  funext fun j => by rw [eq_ix2 j]; exact h _ _

/-- An array equal to one of known entries has those entries. -/
theorem same1 {A : ℕ} {x y : (⟨1, ![A]⟩ : Shape).Idx → EReal} {f : Fin A → EReal} (h : ∀ k, x (ix1 k) = f k) (e : y = x) (k : Fin A) : y (ix1 k) = f k := by
  rw [e, h]

theorem same2 {A B : ℕ} {x y : (⟨2, ![A, B]⟩ : Shape).Idx → EReal} {f : Fin A → Fin B → EReal} (h : ∀ i k, x (ix2 i k) = f i k) (e : y = x)
    (i : Fin A) (k : Fin B) : y (ix2 i k) = f i k := by
  rw [e, h]

theorem same3 {A B C : ℕ} {x y : (⟨3, ![A, B, C]⟩ : Shape).Idx → EReal} {f : Fin A → Fin B → Fin C → EReal} (h : ∀ g i k, x (ix3 g i k) = f g i k) (e : y = x)
    (g : Fin A) (i : Fin B) (k : Fin C) : y (ix3 g i k) = f g i k := by
  rw [e, h]

/-- The end of the keys that are left when `n` blocks of 128 are, as the kernel's word. -/
abbrev hi (n : ℕ) : BitVec 32 := BitVec.ofNat 32 (128 * n)

theorem sext (n : ℕ) (hn : n ≤ 64) : (Scalar.indexCast (Scalar.maxsi (Scalar.subi (hi n) 384#32) 0#32)).toNat = 128 * (n - 3) := by
  have h : ∀ n : Fin 65, (Scalar.indexCast (Scalar.maxsi (Scalar.subi (hi n.val) 384#32) 0#32)).toNat = 128 * (n.val - 3) := by decide +kernel
  exact h ⟨n, by omega⟩

/-- The word of the window's first row. -/
theorem hi_next (n : ℕ) (hn : n ≤ 64) : Scalar.maxsi (Scalar.subi (hi n) 384#32) 0#32 = hi (n - 3) := by
  have h : ∀ n : Fin 65, Scalar.maxsi (Scalar.subi (hi n.val) 384#32) 0#32 = hi (n.val - 3) := by decide +kernel
  exact h ⟨n, by omega⟩

theorem hi_block (i : Fin 64) : Scalar.muli (Scalar.addi (BitVec.ofNat 32 i.val) 1#32) 128#32 = hi (i.val + 1) := by
  revert i; decide +kernel

theorem hi_pos (n : ℕ) (h0 : 0 < n) (hn : n ≤ 64) : Scalar.cmpi .sgt (hi n) 0#32 = 1#1 := by
  have h : ∀ n : Fin 65, 0 < n.val → Scalar.cmpi .sgt (hi n.val) 0#32 = 1#1 := by decide +kernel
  exact h ⟨n, by omega⟩ h0

/-- The offsets of a whole block. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A whole window is the vector, and a whole store leaves the payload. -/
theorem win_full {s : Shape} {α : Type} (x : s.Idx → α) {off : Fin s.rank → ℕ} (inb : ∀ a, off a + s.size a ≤ s.size a) :
    VecWindow.window x off s.size inb = x := by
  funext j; exact congrArg x (Rect.emb_unit_full inb j)
theorem put_full {s : Shape} {α : Type} (x w : s.Idx → α) {off : Fin s.rank → ℕ} (inb : ∀ a, off a + s.size a ≤ s.size a) :
    VecWindow.put x off s.size w = w := by
  rw [← win_full (VecWindow.put x off s.size w) inb, VecWindow.window_put_same]

theorem sgt_zero (b : BitVec 1) : Scalar.andi (Scalar.cmpi .sgt (hi 0) 0#32) b ≠ 1#1 := by
  revert b; decide +kernel

end Cert.Blocks
-- ==== Proof.Common.lean ====
/- Facts about the extended reals that every value proof here uses: the coercion of sums, quotients and roots, the
   float constants the programs spell, and the reading of a finiteness test. -/
module

public import Idealize.ShloMosaic.PureOps.Ideal
public import Idealize.ShloMosaic.PureOps.Ideal.Laws
public import Idealize.ShloMosaic.Lib.ReduceAll

@[expose] public section

noncomputable section

namespace Cert.Common

open Idealize.ShloMosaic

/-- A finite sum of reals, taken in the extended reals, is the real sum. -/
theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of reals with a nonzero denominator is the real quotient. -/
theorem div_real (x : ℝ) {y : ℝ} (h : y ≠ 0) : Ideal.div (x : EReal) (y : EReal) = ((x / y : ℝ) : EReal) := by
  rw [Ideal.div_coe h, ← EReal.coe_mul, mul_one_div]

/-- The reciprocal root of a positive real. -/
theorem rsqrt_real {x : ℝ} (h : 0 < x) : Ideal.rsqrt (x : EReal) = (((Real.sqrt x)⁻¹ : ℝ) : EReal) := by
  rw [Ideal.rsqrt_coe, if_neg (not_lt.2 h.le), if_neg h.ne']

theorem ofBits_2048 : Ideal.ofBits .f32 0x45000000#32 = ((2048 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee]

theorem ofBits_inf : Ideal.ofBits .f32 0x7F800000#32 = ⊤ := by
  simp [Ideal.ofBits, Ideal.ieee]

/-- The norm's epsilon, as the float literal denotes it. -/
def eps : ℝ := (8388608 + 2606508 : ℝ) * (2 : ℝ) ^ (-40 : Int)

theorem eps_pos : 0 < eps := by unfold eps; positivity

theorem ofBits_eps : Ideal.ofBits .f32 0x3727C5AC#32 = (eps : EReal) := by
  simp [Ideal.ofBits, Ideal.ieee, eps, -EReal.coe_mul]; norm_num

theorem ofBits_neg_inf : Ideal.ofBits .f32 0xFF800000#32 = ⊥ := by
  simp [Ideal.ofBits, Ideal.ieee]

/-- The factor of the attention's scores, as the float literal denotes it, -/
def scale : ℝ := (8388608 + 3474675 : ℝ) * (2 : ℝ) ^ (-27 : Int)

theorem ofBits_scale : Ideal.ofBits .f32 0x3DB504F3#32 = (scale : EReal) := by
  simp [Ideal.ofBits, Ideal.ieee, scale, -EReal.coe_mul]; norm_num

/-- and the two constants of the bound of a row's scores. -/
theorem ofBits_bound : Ideal.ofBits .f32 0x3DB5334A#32 = (((8388608 + 3486538 : ℝ) * (2 : ℝ) ^ (-27 : Int) : ℝ) : EReal) := by
  simp [Ideal.ofBits, Ideal.ieee, -EReal.coe_mul]; norm_num

theorem ofBits_slack : Ideal.ofBits .f32 0x3A83126F#32 = (((8388608 + 201327 : ℝ) * (2 : ℝ) ^ (-33 : Int) : ℝ) : EReal) := by
  simp [Ideal.ofBits, Ideal.ieee, -EReal.coe_mul]; norm_num

/-- The greater of two reals. -/
theorem max_real (x y : ℝ) : max (x : EReal) (y : EReal) = ((max x y : ℝ) : EReal) :=
  (EReal.coe_strictMono.monotone.map_max).symm

/-- The magnitude of a real. -/
theorem abs_real (x : ℝ) : max (x : EReal) (-(x : EReal)) = ((|x| : ℝ) : EReal) := by
  rw [← EReal.coe_neg, abs_eq_max_neg, max_real]

/-- The root of a real that is not negative. -/
theorem sqrt_real {x : ℝ} (h : 0 ≤ x) : Ideal.sqrt (x : EReal) = ((Real.sqrt x : ℝ) : EReal) := by
  rw [Ideal.sqrt_coe, if_neg (not_lt.2 h)]

/-- The logarithm of a positive real. -/
theorem log_real {x : ℝ} (h : 0 < x) : Ideal.log (x : EReal) = ((Real.log x : ℝ) : EReal) := by
  rw [Ideal.log_coe, if_neg (not_le.2 h)]

/-- A choice between two reals is a real. -/
theorem coe_ite (p : Prop) [Decidable p] (a b : ℝ) : (if p then (a : EReal) else (b : EReal)) = ((if p then a else b : ℝ) : EReal) := by
  split <;> rfl

/-- An extended real whose magnitude is below infinity is a real. -/
theorem real_of_abs_lt {x : EReal} (h : Ideal.cmp .olt (max x (-x)) ⊤ = 1#1) : x = ((x.toReal : ℝ) : EReal) := by
  have h' : max x (-x) < ⊤ := by
    by_contra hc
    simp [Ideal.cmp, hc] at h
  rw [EReal.coe_toReal]
  · rintro rfl; simp at h'
  · rintro rfl; simp at h'

/-- An array whose magnitudes a test found all below infinity is real at every index. -/
theorem real_at {s t u : Shape} {axes : List (Fin s.rank)} [Subsingleton t.Idx] {y : s.Idx → BitVec 1} {init : u.Idx → BitVec 1} {h : s.ReducesTo axes t}
    {hu : 0 < u.numel} {j : t.Idx} (e : Host.reduce IntOp.andi y init h hu j = 1#1) (i : s.Idx) {x : EReal}
    (hy : y i = Ideal.cmp .olt (max x (-x)) (Ideal.ofBits .f32 0x7f800000#32) := by rfl) : x = ((x.toReal : ℝ) : EReal) :=
  real_of_abs_lt (ofBits_inf ▸ hy ▸ Host.reduce_andi_all _ _ _ _ _ e i)

/-- A sum over `n` tiles of `k` rows is the sum over the rows. -/
theorem sum_tiles (k : ℕ) (g : ℕ → ℝ) : ∀ n : ℕ,
    ∑ s ∈ Finset.range n, ∑ a ∈ Finset.range k, g (s * k + a) = ∑ i ∈ Finset.range (n * k), g i
  | 0 => by simp
  | n + 1 => by rw [Finset.sum_range_succ, sum_tiles k g n, Nat.succ_mul, Finset.sum_range_add]

end Cert.Common

end
-- ==== Proof.LnMath.lean ====
/- The layer norm's backward on one row of reals, in the kernel's spelling and in the chain rule's, and their equality. -/
module

public import proofs.«01_k».proof.Proof.Common

@[expose] public section

noncomputable section

namespace Cert.LnMath

open Cert.Common

/-- A row less its mean. -/
def cen (x : Fin 2048 → ℝ) (k : Fin 2048) : ℝ := x k - (∑ l, x l) / 2048

/-- A row's variance with the epsilon. -/
def vep (x : Fin 2048 → ℝ) : ℝ := (∑ k, cen x k * cen x k) / 2048 + eps

theorem vep_pos (x : Fin 2048 → ℝ) : 0 < vep x :=
  add_pos_of_nonneg_of_pos (div_nonneg (Finset.sum_nonneg fun k _ => mul_self_nonneg _) (by norm_num)) eps_pos

/-- The reciprocal deviation of a row. -/
def rs (x : Fin 2048 → ℝ) : ℝ := (Real.sqrt (vep x))⁻¹

/-- The normalised row. -/
def xh (x : Fin 2048 → ℝ) (k : Fin 2048) : ℝ := cen x k * rs x

/-- The gradient of the row as the kernel spells it, `t` the cotangent times the scale. -/
def dr (x t : Fin 2048 → ℝ) (k : Fin 2048) : ℝ :=
  rs x * (t k - (∑ l, t l) / 2048 - xh x k * ((∑ l, t l * xh x l) / 2048))

/-- The gradient's part through the variance, as the chain rule spells it. -/
def dvar (x t : Fin 2048 → ℝ) (k : Fin 2048) : ℝ :=
  (∑ l, cen x l * t l) * (-(1 / 2) * (rs x / vep x)) / 2048 * (2 * cen x k)

/-- The gradient of the row as the chain rule spells it. -/
def drRef (x t : Fin 2048 → ℝ) (k : Fin 2048) : ℝ :=
  t k * rs x + dvar x t k + ((∑ l, -(t l * rs x)) + (∑ l, -(dvar x t l))) / 2048

theorem sum_cen (x : Fin 2048 → ℝ) : ∑ k, cen x k = 0 := by
  unfold cen
  rw [Finset.sum_sub_distrib, Finset.sum_const, Finset.card_univ, Fintype.card_fin, nsmul_eq_mul]
  push_cast
  ring

theorem rs_div (x : Fin 2048 → ℝ) : rs x / vep x = rs x * rs x * rs x := by
  have h := vep_pos x
  have hs : Real.sqrt (vep x) * Real.sqrt (vep x) = vep x := Real.mul_self_sqrt h.le
  have hp : Real.sqrt (vep x) ≠ 0 := (Real.sqrt_pos.2 h).ne'
  unfold rs
  rw [div_eq_mul_inv, show (vep x)⁻¹ = (Real.sqrt (vep x))⁻¹ * (Real.sqrt (vep x))⁻¹ by rw [← mul_inv, hs]]
  ring

theorem drRef_eq (x t : Fin 2048 → ℝ) (k : Fin 2048) : drRef x t k = dr x t k := by
  have h2 : ∑ l, dvar x t l = 0 := by
    unfold dvar
    rw [← Finset.mul_sum, ← Finset.mul_sum, sum_cen]; ring
  have h3 : ∑ l, t l * xh x l = (∑ l, cen x l * t l) * rs x := by
    rw [Finset.sum_mul]; exact Finset.sum_congr rfl fun l _ => by unfold xh; ring
  unfold drRef dr
  rw [Finset.sum_neg_distrib, Finset.sum_neg_distrib, h2, ← Finset.sum_mul, h3]
  unfold dvar xh
  rw [rs_div]
  ring

end Cert.LnMath

end
-- ==== Proof.LnKernel.lean ====
/- The values of the layer norm's backward kernel: each payload on reals, what each grid point leaves, and the four
   result arrays after the run. -/
module

public import proofs.«01_k».proof.Proof.Blocks
public import proofs.«01_k».proof.Defs
public import proofs.«01_k».proof.Proof.LnMath
public import proofs.«01_k».proof.Proof.Gen.KernelLnIdeal.Value
public import Idealize.ShloMosaic.Lib.Pointwise
public import Idealize.ShloMosaic.Lib.Tactic
public import Idealize.ShloMosaic.Lib.StableHlo.ReadAt

@[expose] public section

noncomputable section

namespace Cert.KernelLnIdeal.Val

open Cert.Blocks
open Cert.KernelLnIdeal Cert.KernelLnIdeal.Gen Cert.LnMath Cert.Common
open Idealize.ShloMosaic Idealize.ShloMosaic.TcCoe Idealize.SL.Sem
open Idealize.ShloMosaic.Pipeline (Dat)

/-! ## The payloads on reals -/

section Payloads

variable {d r : Vec Ideal S512x2048 .f32} {g : Vec Ideal S1x2048 .f32} {D R : Fin 512 → Fin 2048 → ℝ} {G : Fin 2048 → ℝ}

theorem pay6 (hr : ∀ a b, r (ix2 a b) = (R a b : EReal)) (a : Fin 512) (b : Fin 2048) :
    k0_pay6 r (ix2 a b) = (cen (R a) b : EReal) := by
  pointwise [k0_pay6]
  simp only [hr, coe_sum, ofBits_2048, div_real _ (by norm_num : (2048 : ℝ) ≠ 0), ← EReal.coe_sub, cen]

theorem pay7 (hr : ∀ a b, r (ix2 a b) = (R a b : EReal)) (a : Fin 512) :
    k0_pay7 r (ix2 a 0) = (rs (R a) : EReal) := by
  pointwise [k0_pay7]
  simp only [pay6 hr, coe_sum, ofBits_2048, ofBits_eps, ← EReal.coe_mul, ← EReal.coe_add,
    div_real _ (by norm_num : (2048 : ℝ) ≠ 0)]
  exact rsqrt_real (vep_pos (R a))

theorem pay8 (hr : ∀ a b, r (ix2 a b) = (R a b : EReal)) (a : Fin 512) (b : Fin 2048) :
    k0_pay8 r (ix2 a b) = (xh (R a) b : EReal) := by
  pointwise [k0_pay8]
  simp only [pay6 hr, pay7 hr, ← EReal.coe_mul, xh]

theorem pay9 (hd : ∀ a b, d (ix2 a b) = (D a b : EReal)) (hr : ∀ a b, r (ix2 a b) = (R a b : EReal))
    (hg : ∀ b, g (ix2 0 b) = (G b : EReal)) (a : Fin 512) (b : Fin 2048) :
    k0_pay9 r d g (ix2 a b) = (dr (R a) (fun k => D a k * G k) b : EReal) := by
  pointwise [k0_pay9]
  simp only [hd, hg, pay7 hr, pay8 hr, coe_sum, ofBits_2048, ← EReal.coe_mul, ← EReal.coe_sub,
    div_real _ (by norm_num : (2048 : ℝ) ≠ 0), dr]

theorem pay2 {o : Vec Ideal S1x2048 .f32} {O : Fin 2048 → ℝ} (hd : ∀ a b, d (ix2 a b) = (D a b : EReal))
    (hr : ∀ a b, r (ix2 a b) = (R a b : EReal)) (ho : ∀ b, o (ix2 0 b) = (O b : EReal)) (b : Fin 2048) :
    k0_pay2 d (k0_pay8 r) o (ix2 0 b) = ((O b + ∑ a, D a b * xh (R a) b : ℝ) : EReal) := by
  pointwise [k0_pay2]
  simp only [hd, pay8 hr, ho, coe_sum, ← EReal.coe_mul, ← EReal.coe_add]

theorem pay3 {o : Vec Ideal S1x2048 .f32} {O : Fin 2048 → ℝ} (hd : ∀ a b, d (ix2 a b) = (D a b : EReal))
    (ho : ∀ b, o (ix2 0 b) = (O b : EReal)) (b : Fin 2048) :
    k0_pay3 d o (ix2 0 b) = ((O b + ∑ a, D a b : ℝ) : EReal) := by
  pointwise [k0_pay3]
  simp only [hd, ho, coe_sum, ← EReal.coe_add]

end Payloads

/-! ## What a grid point leaves -/

section Points

variable {F : FTy → Type} [FloatOps F]
variable (m : (ℓ : Loc nD τ sig) → Buf (Elt F) ℓ)

theorem outs_A (c : Dev nD) (t : Fin cfg0.N) (h0 : t.val % 16 = 0) :
    outsAt0 m c t.val t.isLt = (k0_pay9 (iblk m c 1 t) (iblk m c 0 t) (iblk m c 2 t),
      k0_pay1 (k0_pay9 (iblk m c 1 t) (iblk m c 0 t) (iblk m c 2 t)),
      k0_pay2 (iblk m c 0 t) (k0_pay8 (iblk m c 1 t)) k0_pay4, k0_pay3 (iblk m c 0 t) k0_pay5) := by
  rw [outsAt0_A m c t h0]
  unfold out0_A_3 out0_A_4 out0_A_5 out0_A_6
  rw [View.read_writes_eq_canon _ _ _ (fun y => cover0_A_3 (y := y) ..), View.read_writes_eq_canon _ _ _ (fun y => cover0_A_4 (y := y) ..),
    View.read_writes_eq_canon _ _ _ (fun y => cover0_A_5 (y := y) ..), View.read_writes_eq_canon _ _ _ (fun y => cover0_A_6 (y := y) ..)]
  unfold kernelRun0_A
  dsimp only
  sl_unfold_words
  simp only [View.canon_unit_zero (S := S512x2048) hz2, View.canon_unit_zero (S := S1x2048) hz2,
    View.canon_cons_unit_zero (S := S1x2048) hz2, View.readCov_unit_zero (S := S1x2048) _ hz2, View.readAt_eq_ld,
    (hs0_0 t).read_unread, (hs0_1 t).read_unread, (hs0_2 t).read_unread, View.ld_unit_zero (S := S512x2048) hz2,
    View.ld_unit_zero (S := S1x2048) hz2, shapeCast_self]

theorem outs_B (c : Dev nD) (t : Fin cfg0.N) (h0 : ¬t.val % 16 = 0) :
    outsAt0 m c t.val t.isLt = (k0_pay9 (iblk m c 1 t) (iblk m c 0 t) (iblk m c 2 t),
      k0_pay1 (k0_pay9 (iblk m c 1 t) (iblk m c 0 t) (iblk m c 2 t)),
      k0_pay2 (iblk m c 0 t) (k0_pay8 (iblk m c 1 t))
        (outsAt0 m c (t.val - 1) (Nat.lt_of_le_of_lt (Nat.sub_le _ _) t.isLt)).2.2.1,
      k0_pay3 (iblk m c 0 t) (outsAt0 m c (t.val - 1) (Nat.lt_of_le_of_lt (Nat.sub_le _ _) t.isLt)).2.2.2) := by
  rw [outsAt0_B m c t h0]
  unfold out0_B_3 out0_B_4 out0_B_5 out0_B_6
  rw [View.read_writes_eq_canon _ _ _ (fun y => cover0_B_3 (y := y) ..), View.read_writes_eq_canon _ _ _ (fun y => cover0_B_4 (y := y) ..),
    View.read_writes_eq_canon _ _ _ (fun y => cover0_B_5 (y := y) ..), View.read_writes_eq_canon _ _ _ (fun y => cover0_B_6 (y := y) ..)]
  unfold kernelRun0_B
  dsimp only
  sl_unfold_words
  simp only [View.canon_unit_zero (S := S512x2048) hz2, View.canon_unit_zero (S := S1x2048) hz2,
    View.canon_cons_unit_zero (S := S1x2048) hz2, View.readCov_unit_zero (S := S1x2048) _ hz2, View.readAt_eq_ld,
    (hs0_0 t).read_unread, (hs0_1 t).read_unread, (hs0_2 t).read_unread, (hs0_5 t).read_unread, (hs0_6 t).read_unread,
    View.ld_unit_zero (S := S512x2048) hz2,
    View.ld_unit_zero (S := S1x2048) hz2, shapeCast_self]

/-! ## The blocks of the arguments -/

theorem point_lt (t : Fin cfg0.N) : t.val < 16 := lt_of_lt_of_eq t.isLt N_0

theorem row_lt (t : Fin cfg0.N) (a : Fin 512) : t.val * 512 + a.val < 8192 := by
  have := point_lt t; have := a.isLt; omega

theorem idx_facts : ∀ t : Fin cfg0.N, (win0_0.index t 0 = t.val ∧ win0_0.index t 1 = 0)
    ∧ (win0_1.index t 0 = t.val ∧ win0_1.index t 1 = 0) ∧ (win0_2.index t 0 = 0 ∧ win0_2.index t 1 = 0)
    ∧ (win0_3.index t 0 = t.val ∧ win0_3.index t 1 = 0) ∧ (win0_4.index t 0 = t.val ∧ win0_4.index t 1 = 0)
    ∧ (win0_5.index t 0 = 0 ∧ win0_5.index t 1 = 0) ∧ (win0_6.index t 0 = 0 ∧ win0_6.index t 1 = 0) :=
  (by decide +kernel : ∀ t : Fin grid0.N, _)

theorem iblk0 (c : Dev nD) (t : Fin cfg0.N) (a : Fin 512) (b : Fin 2048) :
    (iblk m c 0 t : Vec F S512x2048 .f32) (ix2 a b)
      = (m (c.tc.loc main_arg0) : Vec F S8192x2048 .f32) (ix2 ⟨t.val * 512 + a.val, row_lt t a⟩ b) := by
  have hi := (idx_facts t).1
  exact (congrArg (V m c main_arg0) (at2 (blk_at hi.1 rfl) (blk_in hi.2))).trans (congrFun (V_main_arg0 m c) _)

theorem iblk1 (c : Dev nD) (t : Fin cfg0.N) (a : Fin 512) (b : Fin 2048) :
    (iblk m c 1 t : Vec F S512x2048 .f32) (ix2 a b)
      = (m (c.tc.loc main_arg1) : Vec F S8192x2048 .f32) (ix2 ⟨t.val * 512 + a.val, row_lt t a⟩ b) := by
  have hi := (idx_facts t).2.1
  exact (congrArg (V m c main_arg1) (at2 (blk_at hi.1 rfl) (blk_in hi.2))).trans (congrFun (V_main_arg1 m c) _)

theorem V_main_v0 (c : Dev nD) (b : Fin 2048) :
    (V m c main_v0 : Vec F S1x2048 .f32) (ix2 0 b) = (m (c.tc.loc main_arg2) : Vec F S2048 .f32) (ix1 b) := by
  unfold V hostOps0
  after_reads_at

theorem iblk2 (c : Dev nD) (t : Fin cfg0.N) (b : Fin 2048) :
    (iblk m c 2 t : Vec F S1x2048 .f32) (ix2 0 b) = (m (c.tc.loc main_arg2) : Vec F S2048 .f32) (ix1 b) := by
  have hi := (idx_facts t).2.2.1
  rw [← V_main_v0 m c b]
  exact congrArg (V m c main_v0) (at2 (by show win0_2.index t 0 * 1 + 1 * 0 = 0; rw [hi.1]) (blk_in hi.2))

end Points

/-! ## The result arrays -/

variable (m : (ℓ : Loc nD τ sig) → Buf (Elt Ideal) ℓ) (ρ : Dev nD → PrngReg)

/-- The arguments of a device are reals: `D` the cotangent, `R` the rows, `G` the scale. -/
structure Reals (c : Dev nD) (D R : ℕ → Fin 2048 → ℝ) (G : Fin 2048 → ℝ) : Prop where
  d : ∀ (i : Fin 8192) k, (m (c.tc.loc main_arg0) : Vec Ideal S8192x2048 .f32) (ix2 i k) = (D i.val k : EReal)
  r : ∀ (i : Fin 8192) k, (m (c.tc.loc main_arg1) : Vec Ideal S8192x2048 .f32) (ix2 i k) = (R i.val k : EReal)
  g : ∀ k, (m (c.tc.loc main_arg2) : Vec Ideal S2048 .f32) (ix1 k) = (G k : EReal)

variable {m} {c : Dev nD} {D R : ℕ → Fin 2048 → ℝ} {G : Fin 2048 → ℝ} (h : Reals m c D R G)
include h

theorem Reals.d' (t : Fin cfg0.N) (a : Fin 512) (b : Fin 2048) :
    (iblk m c 0 t : Vec Ideal S512x2048 .f32) (ix2 a b) = (D (t.val * 512 + a.val) b : EReal) := by
  rw [iblk0, h.d]

theorem Reals.r' (t : Fin cfg0.N) (a : Fin 512) (b : Fin 2048) :
    (iblk m c 1 t : Vec Ideal S512x2048 .f32) (ix2 a b) = (R (t.val * 512 + a.val) b : EReal) := by
  rw [iblk1, h.r]

theorem Reals.g' (t : Fin cfg0.N) (b : Fin 2048) : (iblk m c 2 t : Vec Ideal S1x2048 .f32) (ix2 0 b) = (G b : EReal) := by
  rw [iblk2, h.g]

theorem outs_12 (t : Fin cfg0.N) (a : Fin 512) (b : Fin 2048) :
    (outsAt0 m c t.val t.isLt).1 (ix2 a b) = (dr (R (t.val * 512 + a.val)) (fun k => D (t.val * 512 + a.val) k * G k) b : EReal)
      ∧ (outsAt0 m c t.val t.isLt).2.1 (ix2 a b) = (outsAt0 m c t.val t.isLt).1 (ix2 a b) := by
  by_cases h0 : t.val % 16 = 0
  · rw [outs_A m c t h0]
    exact ⟨pay9 (h.d' t) (h.r' t) (h.g' t) a b, rfl⟩
  · rw [outs_B m c t h0]
    exact ⟨pay9 (h.d' t) (h.r' t) (h.g' t) a b, rfl⟩

theorem outs_3 (b : Fin 2048) : ∀ (n : ℕ) (hn : n < cfg0.N), (outsAt0 m c n hn).2.2.1 (ix2 0 b)
      = ((∑ s ∈ Finset.range (n + 1), ∑ a ∈ Finset.range 512, D (s * 512 + a) b * xh (R (s * 512 + a)) b : ℝ) : EReal)
  | 0, hn => by
    have e := outs_A m c ⟨0, hn⟩ rfl
    dsimp only at e
    rw [e]
    refine (pay2 (O := fun _ => 0) (h.d' ⟨0, hn⟩) (h.r' ⟨0, hn⟩) (fun b => ?_) b).trans ?_
    · pointwise [k0_pay4]; exact EReal.coe_zero.symm
    · rw [Finset.sum_range_one, zero_add, Finset.sum_range]
  | n + 1, hn => by
    have hN : cfg0.N = 16 := N_0
    have e := outs_B m c ⟨n + 1, hn⟩ (by dsimp only; omega)
    dsimp only at e
    rw [e, Finset.sum_range_succ]
    refine (pay2 (h.d' ⟨n + 1, hn⟩) (h.r' ⟨n + 1, hn⟩) (fun b => outs_3 b n (Nat.lt_of_succ_lt hn)) b).trans ?_
    rw [Finset.sum_range (n := 512)]

theorem outs_4 (b : Fin 2048) : ∀ (n : ℕ) (hn : n < cfg0.N), (outsAt0 m c n hn).2.2.2 (ix2 0 b)
      = ((∑ s ∈ Finset.range (n + 1), ∑ a ∈ Finset.range 512, D (s * 512 + a) b : ℝ) : EReal)
  | 0, hn => by
    have e := outs_A m c ⟨0, hn⟩ rfl
    dsimp only at e
    rw [e]
    refine (pay3 (O := fun _ => 0) (h.d' ⟨0, hn⟩) (fun b => ?_) b).trans ?_
    · pointwise [k0_pay5]; exact EReal.coe_zero.symm
    · rw [Finset.sum_range_one, zero_add, Finset.sum_range]
  | n + 1, hn => by
    have hN : cfg0.N = 16 := N_0
    have e := outs_B m c ⟨n + 1, hn⟩ (by dsimp only; omega)
    dsimp only at e
    rw [e, Finset.sum_range_succ]
    refine (pay3 (h.d' ⟨n + 1, hn⟩) (fun b => outs_4 b n (Nat.lt_of_succ_lt hn)) b).trans ?_
    rw [Finset.sum_range (n := 512)]

/-! The four arrays. -/

variable (D R G)
omit h

/-- The gradient of the rows, at an index of the array. -/
def gR (i : S8192x2048.Idx) : EReal := (dr (R (i 0).val) (fun k => D (i 0).val k * G k) (i 1) : EReal)

/-- The gradient of the scale. -/
def gG (i : S1x2048.Idx) : EReal := ((∑ n ∈ Finset.range 8192, D n (i 1) * xh (R n) (i 1) : ℝ) : EReal)

/-- The gradient of the shift. -/
def gB (i : S1x2048.Idx) : EReal := ((∑ n ∈ Finset.range 8192, D n (i 1) : ℝ) : EReal)

variable {D R G}

theorem cover_3 (i : S8192x2048.Idx) : ∃ t : Fin cfg0.N, (cfg0.win 3).flush t = true ∧ i ∈ ((cfg0.win 3).blk t).view.set := by
  have hN : cfg0.N = 16 := N_0
  have h0 : _ < 8192 := (i 0).isLt
  have h1 : _ < 2048 := (i 1).isLt
  obtain ⟨t, ht⟩ := fin_at (N := cfg0.N) ((i 0).val / 512) (by omega)
  refine ⟨t, flush0_3 _, ?_⟩
  have hi := (idx_facts t).2.2.2.1
  exact in_rect (all2 (in_blk (i 0).val 512 hi.1 (by omega)) (in_blk (i 1).val 2048 hi.2 (by omega)))

theorem cover_4 (i : S8192x2048.Idx) : ∃ t : Fin cfg0.N, (cfg0.win 4).flush t = true ∧ i ∈ ((cfg0.win 4).blk t).view.set := by
  have hN : cfg0.N = 16 := N_0
  have h0 : _ < 8192 := (i 0).isLt
  have h1 : _ < 2048 := (i 1).isLt
  obtain ⟨t, ht⟩ := fin_at (N := cfg0.N) ((i 0).val / 512) (by omega)
  refine ⟨t, flush0_4 _, ?_⟩
  have hi := (idx_facts t).2.2.2.2.1
  exact in_rect (all2 (in_blk (i 0).val 512 hi.1 (by omega)) (in_blk (i 1).val 2048 hi.2 (by omega)))

theorem lastLt : 15 < cfg0.N := lt_of_lt_of_eq (by decide) N_0.symm

theorem cover_5 (i : S1x2048.Idx) : ∃ t : Fin cfg0.N, (cfg0.win 5).flush t = true ∧ i ∈ ((cfg0.win 5).blk t).view.set := by
  have h0 : _ < 1 := (i 0).isLt
  have h1 : _ < 2048 := (i 1).isLt
  obtain ⟨t, ht⟩ := fin_at 15 lastLt
  refine ⟨t, (flush0_5 _).mpr (by rw [ht]), ?_⟩
  have hi := (idx_facts t).2.2.2.2.2.1
  exact in_rect (all2 (in_blk (i 0).val 1 hi.1 (by omega)) (in_blk (i 1).val 2048 hi.2 (by omega)))

theorem cover_6 (i : S1x2048.Idx) : ∃ t : Fin cfg0.N, (cfg0.win 6).flush t = true ∧ i ∈ ((cfg0.win 6).blk t).view.set := by
  have h0 : _ < 1 := (i 0).isLt
  have h1 : _ < 2048 := (i 1).isLt
  obtain ⟨t, ht⟩ := fin_at 15 lastLt
  refine ⟨t, (flush0_6 _).mpr (by rw [ht]), ?_⟩
  have hi := (idx_facts t).2.2.2.2.2.2
  exact in_rect (all2 (in_blk (i 0).val 1 hi.1 (by omega)) (in_blk (i 1).val 2048 hi.2 (by omega)))

include h

theorem final_3 : (dats m 0 c).arrAt 3 cfg0.N = gR D R G :=
  (dats m 0 c).arrAt_eq_of_cover 3 (gR D R G) (fun t _ => by
    have hi := (idx_facts t).2.2.2.1
    rw [Value.flushed3]
    exact ext2 fun a b => (outs_12 h t a b).1.trans (congrArg (gR D R G) (at2 (p := ⟨_, row_lt t a⟩) (blk_at hi.1 rfl) (blk_in hi.2))).symm) cover_3

theorem final_4 : (dats m 0 c).arrAt 4 cfg0.N = gR D R G :=
  (dats m 0 c).arrAt_eq_of_cover 4 (gR D R G) (fun t _ => by
    have hi := (idx_facts t).2.2.2.2.1
    rw [Value.flushed4]
    exact ext2 fun a b => ((outs_12 h t a b).2.trans (outs_12 h t a b).1).trans (congrArg (gR D R G) (at2 (p := ⟨_, row_lt t a⟩) (blk_at hi.1 rfl) (blk_in hi.2))).symm) cover_4

theorem final_5 : (dats m 0 c).arrAt 5 cfg0.N = gG D R :=
  (dats m 0 c).arrAt_eq_of_cover 5 (gG D R) (fun t hf => by
    have hi := (idx_facts t).2.2.2.2.2.1
    have ht : t.val = 15 := by have := (flush0_5 t).mp hf; have := point_lt t; omega
    rw [Value.flushed5]
    funext j
    rw [View.read_apply]
    obtain ⟨b, rfl⟩ := row2 j
    refine (outs_3 h b t.val t.isLt).trans ?_
    have e1 : ((cfg0.win 5).blk t).view.emb (ix2 0 b) 1 = b := Fin.ext (blk_in hi.2)
    unfold gG
    rw [e1, sum_tiles 512 (fun n => D n b * xh (R n) b), ht]
    rfl) cover_5

theorem final_6 : (dats m 0 c).arrAt 6 cfg0.N = gB D :=
  (dats m 0 c).arrAt_eq_of_cover 6 (gB D) (fun t hf => by
    have hi := (idx_facts t).2.2.2.2.2.2
    have ht : t.val = 15 := by have := (flush0_6 t).mp hf; have := point_lt t; omega
    rw [Value.flushed6]
    funext j
    rw [View.read_apply]
    obtain ⟨b, rfl⟩ := row2 j
    refine (outs_4 h b t.val t.isLt).trans ?_
    have e1 : ((cfg0.win 6).blk t).view.emb (ix2 0 b) 1 = b := Fin.ext (blk_in hi.2)
    unfold gB
    rw [e1, sum_tiles 512 (fun n => D n b), ht]
    rfl) cover_6

end Cert.KernelLnIdeal.Val

end
-- ==== Proof.LnRef.lean ====
/- The values of the layer norm's backward reference: each stage of the printed derivative on reals, and its four
   results as the kernel's formulas. -/
module

public import proofs.«01_k».proof.Proof.LnMath
public import proofs.«01_k».proof.Proof.Gen.ReferenceLnIdeal.Run
public import proofs.«01_k».proof.Proof.Gen.ReferenceLnIdeal.Read
public import Idealize.ShloMosaic.Lib.Pointwise

@[expose] public section

noncomputable section

namespace Cert.ReferenceLnIdeal.Val

open Cert.ReferenceLnIdeal Cert.ReferenceLnIdeal.Gen Cert.ReferenceLnIdeal.Read Cert.LnMath Cert.Common
open Idealize.ShloMosaic

variable {x0 x1 : Vec Ideal S8192x2048 .f32} {x2 : Vec Ideal S2048 .f32}
  {D R : Fin 8192 → Fin 2048 → ℝ} {G : Fin 2048 → ℝ}
  (h0 : ∀ i k, x0 (ix2 i k) = (D i k : EReal)) (h1 : ∀ i k, x1 (ix2 i k) = (R i k : EReal))
  (h2 : ∀ k, x2 (ix1 k) = (G k : EReal))

section Rows
include h1

theorem v4 (i : Fin 8192) : val_main_v4 (F := Ideal) x1 (ix2 i 0) = (((∑ l, R i l) / 2048 : ℝ) : EReal) := by
  pointwise [val_main_v4, val_main_v2, val_main_v1, val_main_v3, val_main_cst_1, val_main_cst_0]
  simp only [h1, coe_sum, ofBits_2048, div_real _ (by norm_num : (2048 : ℝ) ≠ 0)]

theorem v6 (i : Fin 8192) (k : Fin 2048) : val_main_v6 (F := Ideal) x1 (ix2 i k) = (cen (R i) k : EReal) := by
  pointwise [val_main_v6, val_main_v5]
  simp only [h1, v4 h1, ← EReal.coe_sub, cen]

theorem v15 (i : Fin 8192) (k : Fin 2048) : val_main_v15 (F := Ideal) x1 (ix2 i k) = (cen (R i) k : EReal) := by
  pointwise [val_main_v15, val_main_v14]
  simp only [h1, v4 h1, ← EReal.coe_sub, cen]

theorem v9 (i : Fin 8192) (k : Fin 2048) : val_main_v9 (F := Ideal) x1 (ix2 i k) = ((2 * cen (R i) k : ℝ) : EReal) := by
  pointwise [val_main_v9, val_main_v8, val_main_cst_2]
  simp only [v6 h1, ofBits_2, ← EReal.coe_mul]

theorem v17 (i : Fin 8192) : val_main_v17 (F := Ideal) x1 (ix2 i 0) = (vep (R i) : EReal) := by
  pointwise [val_main_v17, val_main_v16, val_main_cst_5, val_main_v13, val_main_v12, val_main_cst_4, val_main_v11,
    val_main_v10, val_main_cst_3, val_main_v7]
  simp only [v6 h1, coe_sum, ofBits_2048, ofBits_eps, ← EReal.coe_mul, ← EReal.coe_add,
    div_real _ (by norm_num : (2048 : ℝ) ≠ 0), vep]

theorem v18 (i : Fin 8192) : val_main_v18 (F := Ideal) x1 (ix2 i 0) = (rs (R i) : EReal) := by
  pointwise [val_main_v18]
  rw [v17 h1]
  exact rsqrt_real (vep_pos (R i))

theorem v21 (i : Fin 8192) : val_main_v21 (F := Ideal) x1 (ix2 i 0) = ((-(1 / 2) * (rs (R i) / vep (R i)) : ℝ) : EReal) := by
  pointwise [val_main_v21, val_main_v20, val_main_cst_6, val_main_v19]
  simp only [v17 h1, v18 h1, ofBits_neg_half, div_real _ (vep_pos (R i)).ne', ← EReal.coe_mul]

theorem v23 (i : Fin 8192) (k : Fin 2048) : val_main_v23 (F := Ideal) x1 (ix2 i k) = (xh (R i) k : EReal) := by
  pointwise [val_main_v23, val_main_v22]
  simp only [v15 h1, v18 h1, ← EReal.coe_mul, xh]

end Rows

include h0 in
theorem v66 (k : Fin 2048) : val_main_v66 (F := Ideal) x0 (ix2 0 k) = ((∑ i, D i k : ℝ) : EReal) := by
  pointwise [val_main_v66, val_main_v33, val_main_v32, val_main_v31, val_main_cst_7, val_main_cst_8]
  simp only [Fin.sum_univ_one, h0, coe_sum]

include h0 h1 in
theorem v65 (k : Fin 2048) : val_main_v65 (F := Ideal) x0 x1 (ix2 0 k) = ((∑ i, D i k * xh (R i) k : ℝ) : EReal) := by
  pointwise [val_main_v65, val_main_v39, val_main_v36, val_main_v35, val_main_v34, val_main_v30, val_main_cst_9,
    val_main_cst_10]
  simp only [Fin.sum_univ_one, h0, v23 h1, coe_sum, ← EReal.coe_mul]
  exact EReal.coe_eq_coe_iff.2 (Finset.sum_congr rfl fun _ _ => mul_comm _ _)

include h0 h2

theorem v38 (i : Fin 8192) (k : Fin 2048) : val_main_v38 (F := Ideal) x0 x2 (ix2 i k) = ((D i k * G k : ℝ) : EReal) := by
  pointwise [val_main_v38, val_main_v37, val_main_v30, val_main_v24]
  simp only [h0, h2, ← EReal.coe_mul]

include h1

theorem v44 (i : Fin 8192) (k : Fin 2048) :
    val_main_v44 (F := Ideal) x0 x1 x2 (ix2 i k) = ((D i k * G k * rs (R i) : ℝ) : EReal) := by
  pointwise [val_main_v44, val_main_v43]
  simp only [v38 h0 h2, v18 h1, ← EReal.coe_mul]

theorem v53 (i : Fin 8192) (k : Fin 2048) :
    val_main_v53 (F := Ideal) x0 x1 x2 (ix2 i k) = (dvar (R i) (fun l => D i l * G l) k : EReal) := by
  pointwise [val_main_v53, val_main_v52, val_main_v51, val_main_v50, val_main_v49, val_main_v45, val_main_v42,
    val_main_v41, val_main_v40, val_main_cst_11, val_main_cst_13, val_main_cst_14]
  simp only [Fin.sum_univ_one, v38 h0 h2, v15 h1, v21 h1, v9 h1, coe_sum, ofBits_2048, ← EReal.coe_mul,
    div_real _ (by norm_num : (2048 : ℝ) ≠ 0), dvar]

theorem v63 (i : Fin 8192) (k : Fin 2048) :
    val_main_v63 (F := Ideal) x0 x1 x2 (ix2 i k) = (dr (R i) (fun l => D i l * G l) k : EReal) := by
  rw [← drRef_eq]
  pointwise [val_main_v63, val_main_v62, val_main_v61, val_main_v60, val_main_v59, val_main_v58, val_main_v57,
    val_main_v56, val_main_v55, val_main_v54, val_main_v48, val_main_v47, val_main_v46, val_main_cst_12,
    val_main_cst_15, val_main_cst_16, val_main_cst_17]
  simp only [Fin.sum_univ_one, v44 h0 h1 h2, v53 h0 h1 h2, coe_sum, ofBits_2048, ← EReal.coe_neg, ← EReal.coe_add,
    div_real _ (by norm_num : (2048 : ℝ) ≠ 0), drRef]

theorem v64 (i : Fin 8192) (k : Fin 2048) :
    val_main_v64 (F := Ideal) x0 x1 x2 (ix2 i k) = (dr (R i) (fun l => D i l * G l) k : EReal) :=
  v63 h0 h1 h2 i k

end Cert.ReferenceLnIdeal.Val

end
-- ==== Proof.Ln.lean ====
/- The layer norm's backward call: its two frames, the reference's frame, and the equality of the four results over
   the reals from finite arguments. -/
module

public import proofs.«01_k».proof.Defs
public import proofs.«01_k».proof.Proof.Gen.KernelLn
public import proofs.«01_k».proof.Proof.Gen.Pre_finite_ln
public import proofs.«01_k».proof.Proof.LnKernel
public import proofs.«01_k».proof.Proof.LnRef
public import Idealize.ShloMosaic.Lib.ReduceAll

@[expose] public section

noncomputable section

namespace Cert.Ln

open Cert.LnMath Cert.Common Cert.Blocks
open Idealize.ShloMosaic

theorem frame_kernel : Cert.quiescent_KernelLn := fun m ρ _ =>
  cast (by sl_kernel_rfl) (Cert.KernelLnIdeal.Gen.frame (F := Bits) m ρ)

theorem frame_ideal : Cert.quiescent_KernelLnIdeal := fun m ρ _ => Cert.KernelLnIdeal.Gen.frame m ρ

theorem frame_reference : Cert.quiescent_ReferenceLnIdeal := fun m ρ _ =>
  (θ_run Cert.ReferenceLnIdeal.defs _ _).mono (fun r h => ⟨fun c => (h c).2.2.2.2, sem_eq_zero_of_no_sems (by decide) r.2⟩)
    (Cert.ReferenceLnIdeal.Value.run (F := Ideal) m ρ)

section Pre

variable (m : (ℓ : Loc Cert.KernelLnIdeal.nD Cert.KernelLnIdeal.τ Cert.KernelLnIdeal.sig) → Buf (Elt Ideal) ℓ)
  (c : Dev Cert.KernelLnIdeal.nD)

/-- The cotangent's rows as reals, a row past the last one zero. -/
def Dv (n : ℕ) (k : Fin 2048) : ℝ := if h : n < 8192 then
  ((m (c.tc.loc Cert.KernelLnIdeal.main_arg0) : Vec Ideal Cert.KernelLnIdeal.S8192x2048 .f32) (ix2 ⟨n, h⟩ k)).toReal else 0

/-- The saved residual rows as reals, a row past the last one zero. -/
def Rv (n : ℕ) (k : Fin 2048) : ℝ := if h : n < 8192 then
  ((m (c.tc.loc Cert.KernelLnIdeal.main_arg1) : Vec Ideal Cert.KernelLnIdeal.S8192x2048 .f32) (ix2 ⟨n, h⟩ k)).toReal else 0

/-- The scale as reals. -/
def Gv (k : Fin 2048) : ℝ :=
  ((m (c.tc.loc Cert.KernelLnIdeal.main_arg2) : Vec Ideal Cert.KernelLnIdeal.S2048 .f32) (ix1 k)).toReal

instance : Subsingleton Cert.Pre_finite_ln.S_.Idx := ⟨fun a b => funext fun i => i.elim0⟩

theorem reals (h : Cert.Pre_KernelLnIdeal_finite_ln m) : Cert.KernelLnIdeal.Val.Reals m c (Dv m c) (Rv m c) (Gv m c) := by
  have e := congrFun (h c) ix0
  obtain ⟨e01, e2⟩ := IntOp.andi_eq_one.1 e
  obtain ⟨e0, e1⟩ := IntOp.andi_eq_one.1 e01
  refine ⟨fun i k => ?_, fun i k => ?_, fun k => ?_⟩
  · rw [Dv, dif_pos i.isLt]
    exact real_at e0 (ix2 i k)
  · rw [Rv, dif_pos i.isLt]
    exact real_at e1 (ix2 i k)
  · exact real_at e2 (ix1 k)

end Pre

open Cert.KernelLnIdeal.Val in
theorem values : Cert.algebraic_KernelLnIdeal_ReferenceLnIdeal_pre_finite_ln := by
  intro m g m' g' h hag
  have hR := fun c => reals m c h
  refine ⟨fun c => gR (Dv m c) (Rv m c) (Gv m c), fun c => gR (Dv m c) (Rv m c) (Gv m c), fun c => gG (Dv m c) (Rv m c),
    fun c => gB (Dv m c), ?_, ?_⟩
  · refine (θ_run Cert.KernelLnIdeal.defs _ _).mono (fun r hr c => ?_) (Cert.KernelLnIdeal.Value.run_blocks (F := Ideal) m g)
    obtain ⟨h3, h4, h5, h6, ha⟩ := hr c
    exact ⟨h3.trans (final_3 (hR c)), h4.trans (final_4 (hR c)), h5.trans (final_5 (hR c)), h6.trans (final_6 (hR c)), ha⟩
  · refine (θ_run Cert.ReferenceLnIdeal.defs _ _).mono (fun r hr c => ?_) (Cert.ReferenceLnIdeal.Value.run (F := Ideal) m' g')
    obtain ⟨h0, h1, h2, h3, ha⟩ := hr c
    obtain ⟨a0, a1, a2⟩ := hag c
    have d0 := same2 (hR c).d a0
    have d1 := same2 (hR c).r a1
    have d2 := same1 (hR c).g a2
    refine ⟨h0.trans ((Cert.ReferenceLnIdeal.Read.val_main_v63_eq m' c).trans (funext fun i => ?_)),
      h1.trans ((Cert.ReferenceLnIdeal.Read.val_main_v64_eq m' c).trans (funext fun i => ?_)),
      h2.trans ((Cert.ReferenceLnIdeal.Read.val_main_v65_eq _ _).trans (funext fun i => ?_)),
      h3.trans ((Cert.ReferenceLnIdeal.Read.val_main_v66_eq _).trans (funext fun i => ?_)), ha⟩
    · obtain ⟨a, b, rfl⟩ : ∃ a b, i = ix2 a b := ⟨_, _, eq_ix2 i⟩
      exact Cert.ReferenceLnIdeal.Val.v63 d0 d1 d2 a b
    · obtain ⟨a, b, rfl⟩ : ∃ a b, i = ix2 a b := ⟨_, _, eq_ix2 i⟩
      exact Cert.ReferenceLnIdeal.Val.v64 d0 d1 d2 a b
    · obtain ⟨a, b, rfl⟩ : ∃ a b, i = ix2 a b := ⟨_, _, eq_ix2 i⟩
      obtain rfl : a = 0 := Subsingleton.elim _ _
      refine (Cert.ReferenceLnIdeal.Val.v65 d0 d1 b).trans ?_
      exact EReal.coe_eq_coe_iff.2 (Finset.sum_range fun n => Dv m c n b * xh (Rv m c n) b).symm
    · obtain ⟨a, b, rfl⟩ : ∃ a b, i = ix2 a b := ⟨_, _, eq_ix2 i⟩
      obtain rfl : a = 0 := Subsingleton.elim _ _
      refine (Cert.ReferenceLnIdeal.Val.v66 d0 b).trans ?_
      exact EReal.coe_eq_coe_iff.2 (Finset.sum_range fun n => Dv m c n b).symm

end Cert.Ln

end
end
-- ==== Proof.AttnStep.lean ====
/-
  The attention's backward kernel as plain functions of vectors: what a sweep's step makes of the rows it carries and of
  the accumulator it adds into, and the two loops by recursion on the number of key blocks that are left.
-/
module

public import proofs.«01_k».proof.Proof.Blocks
public import proofs.«01_k».proof.Proof.Gen.KernelAttnIdeal.Skeleton
public import proofs.«01_k».proof.Proof.Gen.KernelAttnIdeal.Launch
public import proofs.«01_k».proof.Proof.Gen.KernelAttnIdeal.Points
public import Idealize.ShloMosaic.Lib.Pointwise
public import Idealize.ShloMosaic.Lib.Tactic

@[expose] public section

noncomputable section

namespace Cert.Attn

open Idealize.ShloMosaic Idealize.ShloMosaic.TcCoe
open Cert.Blocks Cert.KernelAttnIdeal Cert.KernelAttnIdeal.Gen

variable {F : FTy → Type} [FloatOps F] [Named F]

/-- The window of 384 rows that ends with block `n` (or starts at row 0), 128 columns from column `128 c`. -/
def rows (x : Vec F S1x8192x256 .bf16) (n c : ℕ) : Vec F S1x384x128 .bf16 := fun j =>
  x (ix3 (0 : Fin 1) (⟨min (128 * (n - 3) + (j 1).val) 8191, by omega⟩ : Fin 8192) (⟨min (128 * c + (j 2).val) 255, by omega⟩ : Fin 256))

/-- The same window of an accumulator, -/
def arows (x : Vec F S8192x256 .f32) (n c : ℕ) : Vec F S384x128 .f32 := fun j =>
  x (ix2 (⟨min (128 * (n - 3) + (j 0).val) 8191, by omega⟩ : Fin 8192) (⟨min (128 * c + (j 1).val) 255, by omega⟩ : Fin 256))

/-- and the accumulator with `w` put over it. -/
def aput (x : Vec F S8192x256 .f32) (n c : ℕ) (w : Vec F S384x128 .f32) : Vec F S8192x256 .f32 :=
  VecWindow.put x ![128 * (n - 3), 128 * c] S384x128.size w

/-- Half `c` of a block of queries (or of incoming gradients). -/
def half (x : Vec F S1x128x256 .bf16) (c : ℕ) : Vec F S1x128x128 .bf16 := fun j =>
  x (ix3 (0 : Fin 1) (⟨(j 1).val, (j 1).isLt⟩ : Fin 128) (⟨min (128 * c + (j 2).val) 255, by omega⟩ : Fin 256))

/-- Half `c` of a slab. -/
def shalf (x : Vec F S1x8192x256 .bf16) (c : ℕ) : Vec F S1x8192x128 .bf16 := fun j =>
  x (ix3 (0 : Fin 1) (⟨(j 1).val, (j 1).isLt⟩ : Fin 8192) (⟨min (128 * c + (j 2).val) 255, by omega⟩ : Fin 256))

/-- What stays the same over one block of queries: the bounds of the scores, the queries, the incoming gradients, the
    positions, the key and value slabs and the two triangular matrices. -/
structure Env (F : FTy → Type) where
  b0 : FVec F S128x1 .f32
  b1 : FVec F S128x1 .f32
  g0 : FVec F S128x128 .bf16
  g1 : FVec F S128x128 .bf16
  pos : IVec S128x1 32
  q0 : FVec F S128x128 .bf16
  q1 : FVec F S128x128 .bf16
  k : Vec F S1x8192x256 .bf16
  v : Vec F S1x8192x256 .bf16
  su : Vec F S384x384 .bf16
  ss : Vec F S384x384 .bf16

/-- Four columns a sweep carries: both heads' rests, and both heads' totals (or laters). -/
structure Cols (F : FTy → Type) where
  r0 : FVec F S128x1 .f32
  r1 : FVec F S128x1 .f32
  t0 : FVec F S128x1 .f32
  t1 : FVec F S128x1 .f32

variable (e : Env F)

/-! ## The first sweep -/

abbrev zero : F .f32 := Scalar.ofBits .f32 0x00000000#32

/-- One step's columns. -/
def colStep1 (n : ℕ) (s : Cols F) : Cols F :=
  let z0 := k0_pay78 e.pos e.q0 (hi n) (rows e.k n 0)
  let z1 := k0_pay79 e.pos e.q1 (hi n) (rows e.k n 1)
  let a0 := k0_pay80 e.pos e.q0 (hi n) (rows e.k n 0)
  let a1 := k0_pay81 e.pos e.q1 (hi n) (rows e.k n 1)
  ⟨k0_pay5 s.r0 (k0_pay82 z0 a0), k0_pay6 s.r1 (k0_pay83 z1 a1 zero),
    k0_pay7 s.t0 (k0_pay86 s.r0 (k0_pay75 e.g0 (rows e.v n 0)) z0 a0 e.su),
    k0_pay8 s.t1 (k0_pay87 s.r1 (k0_pay76 e.g1 (rows e.v n 1)) z1 a1 zero e.su)⟩

/-- The accumulator of the value gradients after the step. -/
def accStep1 (n : ℕ) (s : Cols F) (dv : Vec F S8192x256 .f32) : Vec F S8192x256 .f32 :=
  let z0 := k0_pay78 e.pos e.q0 (hi n) (rows e.k n 0)
  let z1 := k0_pay79 e.pos e.q1 (hi n) (rows e.k n 1)
  let a0 := k0_pay80 e.pos e.q0 (hi n) (rows e.k n 0)
  let a1 := k0_pay81 e.pos e.q1 (hi n) (rows e.k n 1)
  let dv' := aput dv n 0 (k0_pay3 e.g0 (k0_pay84 s.r0 z0 a0 e.su) (arows dv n 0))
  aput dv' n 1 (k0_pay4 e.g1 (k0_pay85 s.r1 z1 a1 zero e.su) (arows dv' n 1))

/-- Whether the first sweep goes on. -/
def goes1 (n : ℕ) (s : Cols F) : Prop :=
  Scalar.andi (Scalar.cmpi .sgt (hi n) 0#32)
    (Scalar.ori (Scalar.cmpf .ogt (k0_pay1 e.b0 s.r0) (Named.named κ "exit" 0xC2E60000#32))
      (Scalar.cmpf .ogt (k0_pay2 e.b1 s.r1) (Named.named κ "exit" 0xC2E60000#32))) = 1#1

instance (n : ℕ) (s : Cols F) : Decidable (goes1 e n s) := inferInstanceAs (Decidable (_ = _))

/-- The first sweep from `n` blocks on: the columns and the accumulator it ends with. -/
def sweep1 (n : ℕ) (s : Cols F) (dv : Vec F S8192x256 .f32) : ℕ × Cols F × Vec F S8192x256 .f32 :=
  if h : 0 < n ∧ goes1 e n s then sweep1 (n - 3) (colStep1 e n s) (accStep1 e n s dv) else (n, s, dv)
termination_by n
decreasing_by omega

/-! ## The second sweep -/

/-- What the second sweep carries besides the columns: both heads' query gradients. -/
structure Dqs (F : FTy → Type) where
  d0 : FVec F S128x128 .f32
  d1 : FVec F S128x128 .f32

/-- One step's columns. -/
def colStep2 (n : ℕ) (s : Cols F) : Cols F :=
  let z0 := k0_pay93 e.pos e.q0 (hi n) (rows e.k n 0)
  let z1 := k0_pay94 e.pos e.q1 (hi n) (rows e.k n 1)
  let a0 := k0_pay95 e.pos e.q0 (hi n) (rows e.k n 0)
  let a1 := k0_pay96 e.pos e.q1 (hi n) (rows e.k n 1)
  ⟨k0_pay102 s.r0 (k0_pay98 z0 a0), k0_pay103 s.r1 (k0_pay99 z1 a1 zero),
    k0_pay16 s.t0 (k0_pay100 s.r0 (k0_pay90 e.g0 (rows e.v n 0)) z0 a0 e.su),
    k0_pay17 s.t1 (k0_pay101 s.r1 (k0_pay91 e.g1 (rows e.v n 1)) z1 a1 zero e.su)⟩

variable (T0 T1 : FVec F S128x1 .f32)

/-- The query gradients after the step, -/
def dqStep2 (n : ℕ) (s : Cols F) (d : Dqs F) : Dqs F :=
  let z0 := k0_pay93 e.pos e.q0 (hi n) (rows e.k n 0)
  let z1 := k0_pay94 e.pos e.q1 (hi n) (rows e.k n 1)
  let a0 := k0_pay95 e.pos e.q0 (hi n) (rows e.k n 0)
  let a1 := k0_pay96 e.pos e.q1 (hi n) (rows e.k n 1)
  let l0 := k0_pay100 s.r0 (k0_pay90 e.g0 (rows e.v n 0)) z0 a0 e.su
  let l1 := k0_pay101 s.r1 (k0_pay91 e.g1 (rows e.v n 1)) z1 a1 zero e.su
  let e1 := k0_pay97 a1 zero
  ⟨k0_pay12 d.d0 (k0_pay88 (rows e.k n 0)) (k0_pay104 T0 s.t0 z0 a0 l0 e.ss),
    k0_pay13 d.d1 (k0_pay89 (rows e.k n 1)) z1 e1 l1 (k0_pay105 T1 s.t1 l1 e.ss) (k0_pay106 e1)⟩

/-- and the accumulator of the key gradients. -/
def accStep2 (n : ℕ) (s : Cols F) (dk : Vec F S8192x256 .f32) : Vec F S8192x256 .f32 :=
  let z0 := k0_pay93 e.pos e.q0 (hi n) (rows e.k n 0)
  let z1 := k0_pay94 e.pos e.q1 (hi n) (rows e.k n 1)
  let a0 := k0_pay95 e.pos e.q0 (hi n) (rows e.k n 0)
  let a1 := k0_pay96 e.pos e.q1 (hi n) (rows e.k n 1)
  let l0 := k0_pay100 s.r0 (k0_pay90 e.g0 (rows e.v n 0)) z0 a0 e.su
  let l1 := k0_pay101 s.r1 (k0_pay91 e.g1 (rows e.v n 1)) z1 a1 zero e.su
  let e1 := k0_pay97 a1 zero
  let dk' := aput dk n 0 (k0_pay14 e.q0 (k0_pay104 T0 s.t0 z0 a0 l0 e.ss) (arows dk n 0))
  aput dk' n 1 (k0_pay15 e.q1 z1 e1 l1 (k0_pay105 T1 s.t1 l1 e.ss) (k0_pay106 e1) (arows dk' n 1))

/-- Whether the second sweep goes on. -/
def goes2 (n : ℕ) (s : Cols F) : Prop :=
  Scalar.andi (Scalar.cmpi .sgt (hi n) 0#32)
    (Scalar.ori (Scalar.cmpf .ogt (k0_pay9 e.b0 s.r0) (Named.named κ "exit" 0xC2E60000#32))
      (Scalar.cmpf .ogt (k0_pay10 e.b1 s.r1) (Named.named κ "exit" 0xC2E60000#32))) = 1#1

instance (n : ℕ) (s : Cols F) : Decidable (goes2 e n s) := inferInstanceAs (Decidable (_ = _))

/-- The second sweep from `n` blocks on. -/
def sweep2 (n : ℕ) (s : Cols F) (d : Dqs F) (dk : Vec F S8192x256 .f32) : ℕ × Cols F × Dqs F × Vec F S8192x256 .f32 :=
  if h : 0 < n ∧ goes2 e n s then sweep2 (n - 3) (colStep2 e n s) (dqStep2 e T0 T1 n s d) (accStep2 e T0 T1 n s dk) else (n, s, d, dk)
termination_by n
decreasing_by omega

/-! ## One block of queries: the window next to it, both sweeps -/

/-- What the kernel keeps from one block of queries to the next: the largest key norms, the accumulators of the key and the
    value gradients, the two triangular matrices. -/
structure Kept (F : FTy → Type) where
  km : Vec F S2 .f32
  dk : Vec F S8192x256 .f32
  dv : Vec F S8192x256 .f32
  su : Vec F S384x384 .bf16
  ss : Vec F S384x384 .bf16

/-- What it starts a group of heads with, from the group's keys. -/
def fresh (k : Vec F S1x8192x256 .bf16) : Kept F :=
  ⟨fun j => if (j 0).val = 0 then k0_pay18 (shalf k 0) else k0_pay19 (shalf k 1), k0_pay20, k0_pay21, k0_pay23 k0_pay22, k0_pay24⟩

/-- What block `i` of queries finds. -/
def found (i : ℕ) (k : Vec F S1x8192x256 .bf16) (s : Kept F) : Kept F := if i = 0 then fresh k else s

/-- The word of block `i`. -/
abbrev wi (i : ℕ) : BitVec 32 := BitVec.ofNat 32 i

/-- What stays the same over block `i`. -/
def env (i : ℕ) (q : Vec F S1x128x256 .bf16) (k v : Vec F S1x8192x256 .bf16) (g : Vec F S1x128x256 .bf16) (s : Kept F) : Env F where
  b0 := k0_pay29 (half q 0) (s.km (ix1 (0 : Fin 2)))
  b1 := k0_pay30 (half q 1) (s.km (ix1 (1 : Fin 2)))
  g0 := k0_pay27 (half g 0)
  g1 := k0_pay28 (half g 1)
  pos := k0_pay33 (wi i)
  q0 := k0_pay25 (half q 0)
  q1 := k0_pay26 (half q 1)
  k := k
  v := v
  su := s.su
  ss := s.ss

/-- The scores of head 0 and 1 in the window next to block `i`, before the second is masked. -/
abbrev fz0 (i : ℕ) : FVec F S128x384 .f32 := k0_pay40 (wi i) e.q0 (rows e.k (i + 1) 0)
abbrev fz1 (i : ℕ) : FVec F S128x384 .f32 := k0_pay38 e.q1 (rows e.k (i + 1) 1)
abbrev fm (i : ℕ) : IVec S128x384 1 := k0_pay39 (wi i)
/-- Head 0's weights, head 1's in two parts, -/
abbrev fw0 (i : ℕ) : FVec F S128x384 .f32 := k0_pay46 k0_pay31 (fz0 e i) e.su
abbrev fw1a (i : ℕ) : FVec F S128x384 .f32 := k0_pay48 (fz1 e i) (fm i) e.su
abbrev fw1b (i : ℕ) : FVec F S128x384 .f32 := k0_pay49 (fz1 e i) (fm i) e.su
/-- the products with the values, -/
abbrev fp0 (i : ℕ) : FVec F S128x384 .f32 := k0_pay36 e.g0 (rows e.v (i + 1) 0)
abbrev fp1 (i : ℕ) : FVec F S128x384 .f32 := k0_pay37 e.g1 (rows e.v (i + 1) 1)
/-- and the gradients of the logarithms of the weights. -/
abbrev fl0 (i : ℕ) : FVec F S128x384 .f32 := k0_pay52 (fp0 e i) (fz0 e i) (fw0 e i)
abbrev fl1 (i : ℕ) : FVec F S128x384 .f32 := k0_pay53 k0_pay32 (fp1 e i) (k0_pay41 (fz1 e i) (fm i)) (fw1a e i) (fw1b e i)

/-- The rests and totals after the window next to the block, -/
def firstCols (i : ℕ) : Cols F :=
  ⟨k0_pay56 k0_pay31 (k0_pay44 (fz0 e i)), k0_pay57 k0_pay32 (k0_pay45 (fz1 e i) (fm i)),
    k0_pay58 k0_pay31 (fp0 e i) (fz0 e i) (fw0 e i),
    k0_pay59 k0_pay32 (fp1 e i) (k0_pay41 (fz1 e i) (fm i)) (fw1a e i) (fw1b e i)⟩

/-- the accumulator of the value gradients after it, -/
def firstDv (i : ℕ) (dv : Vec F S8192x256 .f32) : Vec F S8192x256 .f32 :=
  let dv' := aput dv (i + 1) 0 (k0_pay54 e.g0 (fz0 e i) (fw0 e i) (arows dv (i + 1) 0))
  aput dv' (i + 1) 1 (k0_pay55 e.g1 k0_pay32 (k0_pay41 (fz1 e i) (fm i)) (fw1a e i) (fw1b e i) (arows dv' (i + 1) 1))

/-- The gradients of the scores in the window next to the block, from the totals, -/
def fdz0 (i : ℕ) : FVec F S128x384 .bf16 :=
  k0_pay63 k0_pay31 (fz0 e i) (k0_pay42 (fz0 e i)) (fl0 e i) T0 e.ss (k0_pay62 (fp0 e i) (fz0 e i) (fw0 e i))
def fdz1 (i : ℕ) : FVec F S128x384 .bf16 :=
  k0_pay64 k0_pay32 (k0_pay41 (fz1 e i) (fm i)) (k0_pay43 (fz1 e i) (fm i)) (fl1 e i) T1 e.ss

/-- what the second sweep starts with: the columns, -/
def secondCols (i : ℕ) : Cols F :=
  ⟨(firstCols e i).r0, (firstCols e i).r1, k0_pay69 k0_pay31 (fl0 e i), k0_pay70 k0_pay32 (fl1 e i)⟩

/-- the query gradients, -/
def firstDq (i : ℕ) : Dqs F :=
  ⟨k0_pay65 (k0_pay34 (rows e.k (i + 1) 0)) k0_pay60 (fdz0 e T0 i), k0_pay66 (k0_pay35 (rows e.k (i + 1) 1)) k0_pay61 (fdz1 e T1 i)⟩

/-- and the accumulator of the key gradients. -/
def firstDk (i : ℕ) (dk : Vec F S8192x256 .f32) : Vec F S8192x256 .f32 :=
  let dk' := aput dk (i + 1) 0 (k0_pay67 e.q0 (fdz0 e T0 i) (arows dk (i + 1) 0))
  aput dk' (i + 1) 1 (k0_pay68 e.q1 (fdz1 e T1 i) (arows dk' (i + 1) 1))

/-- The first sweep of block `i`, -/
def run1 (i : ℕ) (s : Kept F) : ℕ × Cols F × Vec F S8192x256 .f32 := sweep1 e (i + 1 - 3) (firstCols e i) (firstDv e i s.dv)

/-- and the second, from the totals the first ends with. -/
def run2 (i : ℕ) (s : Kept F) : ℕ × Cols F × Dqs F × Vec F S8192x256 .f32 :=
  let c := (run1 e i s).2.1
  sweep2 e c.t0 c.t1 (i + 1 - 3) (secondCols e i) (firstDq e c.t0 c.t1 i) (firstDk e c.t0 c.t1 i s.dk)

/-- What block `i` leaves for the next, of what it found. -/
def leaves (i : ℕ) (s : Kept F) : Kept F := ⟨s.km, (run2 e i s).2.2.2, (run1 e i s).2.2, s.su, s.ss⟩

/-- The query gradients it writes. -/
def dqOut (i : ℕ) (s : Kept F) : Vec F S128x256 .bf16 := fun j =>
  if h : (j 1).val < 128 then k0_pay71 (run2 e i s).2.2.1.d0 (ix2 (⟨(j 0).val, (j 0).isLt⟩ : Fin 128) (⟨(j 1).val, h⟩ : Fin 128))
  else k0_pay72 (run2 e i s).2.2.1.d1 (ix2 (⟨(j 0).val, (j 0).isLt⟩ : Fin 128) (⟨(j 1).val - 128, by have h2 : (j 1).val < 256 := (j 1).isLt; omega⟩ : Fin 128))

end Cert.Attn

end
-- ==== Proof.Loads.lean ====
/- Loads and stores by values. -/
module

public import Idealize.ShloMosaic.Lib.Pipeline.FrameBody
public import Idealize.ShloMosaic.Lib.VecWindow

@[expose] public section

namespace Cert.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev 𝒱₀ : Variants := Variants.nat

variable {nD : ℕ} {τ : Topo} {sig : RefSig} {Val : EltTy → Type} {U : Type} [URA U] {Λ : Labels} {defs : Defs nD τ sig Val Λ}
  {c : Dev nD} {bd : Option ℕ} {E : Set ℕ} {α : Type} {Q : α → sProp (MT nD τ sig Unit Val ℕ U ℕ)}
  {cs : CoreSpace} {s : Shape} {e : EltTy} {m : Memref sig .tc cs s e}

theorem own_load {off size : Fin s.rank → ℕ} {inb : ∀ a, off a + size a ≤ s.size a} {hl : m.view.LoadsAt (Rect.unit off size inb).toLoadRect}
    {k : ((Rect.unit off size inb).shape.Idx → Val e) → Prog (TpuEff nD τ sig Val Λ .tc) α} {q : PosShare TreeShare} {X : s.Idx → Val e}
    (w : (Rect.unit off size inb).shape.Idx → Val e) (hw : VecWindow.window X off size inb = w) :
    (owns c.tc m q X : sProp (MT nD τ sig Unit Val ℕ U ℕ))
      ⊢ iprop((owns c.tc m q X -∗ wp frame (wpE defs 𝒱₀ c.tc bd) E (k w) Q)
        -∗ wp frame (wpE defs 𝒱₀ c.tc bd) E (.op (.load m (Rect.unit off size inb).toLoadRect hl) k) Q) := by
  subst hw
  unfold owns
  iintro ⟨%f, %hf, H⟩ Hk
  iapply (wp_load 𝒱₀ c.tc bd E (m := m) (View.setOn_subset_set _ _)) $$ H
  iintro H
  have hv : m.view.readAt Val (Rect.unit off size inb).toLoadRect f = VecWindow.window X off size inb := by
    rw [View.readAt_unit m.view f inb rfl inb, hf]
  rw [hv]
  iapply Hk
  iexists f
  isplitr
  · ipureintro; exact hf
  · iexact H

theorem own_store {off size : Fin s.rank → ℕ} {inb : ∀ a, off a + size a ≤ s.size a} {w : (Rect.unit off size inb).shape.Idx → Val e}
    {hx : (m.access (Rect.unit off size inb)).Stores Finset.univ} {hm : Finset.univ = Finset.univ ∨ ∀ a, (Rect.unit off size inb).stride a = 1}
    {k : PUnit → Prog (TpuEff nD τ sig Val Λ .tc) α} {X : s.Idx → Val e}
    (Y : s.Idx → Val e) (hY : VecWindow.put X off size w = Y) :
    (owns c.tc m fullShare X : sProp (MT nD τ sig Unit Val ℕ U ℕ))
      ⊢ iprop((owns c.tc m fullShare Y -∗ wp frame (wpE defs 𝒱₀ c.tc bd) E (k ⟨⟩) Q)
        -∗ wp frame (wpE defs 𝒱₀ c.tc bd) E (.op (.store m (Rect.unit off size inb) w Finset.univ hx hm) k) Q) := by
  subst hY
  unfold owns
  iintro ⟨%f, %hf, H⟩ Hk
  iapply (wp_store 𝒱₀ (c : Thread nD τ) bd E (m := m) (r := Rect.unit off size inb) (w := w) (Mk := Finset.univ) (S := m.view.set)
    ((m.setOn_access_subset_setOn _ _).trans (View.setOn_subset_set _ _))) $$ H
  iintro H
  iapply Hk
  iexists (m.view.writes Val f [⟨Rect.unit off size inb, w⟩])
  isplitr
  · ipureintro
    rw [View.read_writes_cons_put m.view f inb w [] rfl, View.writes_nil, hf]
  · iexact H

end Cert.Blocks

end
-- ==== Proof.AttnLoop.lean ====
/-
  The two sweeps of the attention's backward kernel run as their plain functions say: the
  windows in closed form, and each loop's label met by induction on the number of key blocks that are left.
-/
module

public import proofs.«01_k».proof.Proof.AttnStep
public import proofs.«01_k».proof.Proof.Loads
public import Idealize.ShloMosaic.Lib.Pipeline.FrameSuffix

@[expose] public section

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Blocks Cert.KernelAttnIdeal Cert.KernelAttnIdeal.Gen

variable {F : FTy → Type} [FloatOps F] [Named F]

/-- The resources of the kernel's proof. -/
abbrev 𝕄 (F : FTy → Type) := MT nD τ sig Unit (Elt F) ℕ (UR sig nD τ) ℕ

/-! ## The windows -/

theorem off5_eq (n : ℕ) (hn : n ≤ 64) : k0_off5 (hi n) = ![0, 128 * (n - 3), 128 * 0] := by
  unfold k0_off5; dsimp only; rw [sext n hn]
theorem off6_eq (n : ℕ) (hn : n ≤ 64) : k0_off6 (hi n) = ![0, 128 * (n - 3), 128 * 1] := by
  unfold k0_off6; dsimp only; rw [sext n hn]
theorem off7_eq (n : ℕ) (hn : n ≤ 64) : k0_off7 (hi n) = ![128 * (n - 3), 128 * 0] := by
  unfold k0_off7; dsimp only; rw [sext n hn]
theorem off8_eq (n : ℕ) (hn : n ≤ 64) : k0_off8 (hi n) = ![128 * (n - 3), 128 * 1] := by
  unfold k0_off8; dsimp only; rw [sext n hn]
theorem off9_eq (n : ℕ) (hn : n ≤ 64) : k0_off9 (hi n) = ![0, 128 * (n - 3), 128 * 0] := by
  unfold k0_off9; dsimp only; rw [sext n hn]
theorem off10_eq (n : ℕ) (hn : n ≤ 64) : k0_off10 (hi n) = ![0, 128 * (n - 3), 128 * 1] := by
  unfold k0_off10; dsimp only; rw [sext n hn]
theorem off11_eq (n : ℕ) (hn : n ≤ 64) : k0_off11 (hi n) = ![128 * (n - 3), 128 * 0] := by
  unfold k0_off11; dsimp only; rw [sext n hn]
theorem off12_eq (n : ℕ) (hn : n ≤ 64) : k0_off12 (hi n) = ![128 * (n - 3), 128 * 1] := by
  unfold k0_off12; dsimp only; rw [sext n hn]

theorem inb3 (n c : ℕ) (hn : n ≤ 64) (hc : c ≤ 1) : ∀ a, (![0, 128 * (n - 3), 128 * c] : Fin 3 → ℕ) a + S1x384x128.size a ≤ S1x8192x256.size a := fun a => by
  fin_cases a
  · show 0 + 1 ≤ 1; omega
  · show 128 * (n - 3) + 384 ≤ 8192; omega
  · show 128 * c + 128 ≤ 256; omega
theorem inb2 (n c : ℕ) (hn : n ≤ 64) (hc : c ≤ 1) : ∀ a, (![128 * (n - 3), 128 * c] : Fin 2 → ℕ) a + S384x128.size a ≤ S8192x256.size a := fun a => by
  fin_cases a
  · show 128 * (n - 3) + 384 ≤ 8192; omega
  · show 128 * c + 128 ≤ 256; omega

theorem chk1 (n : ℕ) (hn : n ≤ 64) : k0_chk1 (hi n) := by
  refine ⟨?_, ?_, ?_, ?_, ?_⟩
  · have h : ∀ n : Fin 65, 128 ∣ (k0_mult2 (hi n.val)).toNat := by decide +kernel
    exact h ⟨n, by omega⟩
  · rw [off5_eq n hn]; exact inb3 n 0 hn (by omega)
  · rw [off6_eq n hn]; exact inb3 n 1 hn (by omega)
  · rw [off7_eq n hn]; exact inb2 n 0 hn (by omega)
  · rw [off8_eq n hn]; exact inb2 n 1 hn (by omega)

theorem chk2 (n : ℕ) (hn : n ≤ 64) : k0_chk2 (hi n) := by
  refine ⟨?_, ?_, ?_, ?_, ?_⟩
  · have h : ∀ n : Fin 65, 128 ∣ (k0_mult3 (hi n.val)).toNat := by decide +kernel
    exact h ⟨n, by omega⟩
  · rw [off9_eq n hn]; exact inb3 n 0 hn (by omega)
  · rw [off10_eq n hn]; exact inb3 n 1 hn (by omega)
  · rw [off11_eq n hn]; exact inb2 n 0 hn (by omega)
  · rw [off12_eq n hn]; exact inb2 n 1 hn (by omega)

theorem win_rows (x : Vec F S1x8192x256 .bf16) (n c : ℕ) (hn : n ≤ 64) (hc : c ≤ 1) {off : Fin 3 → ℕ} (inb : ∀ a, off a + S1x384x128.size a ≤ S1x8192x256.size a)
    (h : off = ![0, 128 * (n - 3), 128 * c]) : VecWindow.window x off S1x384x128.size inb = rows x n c := by
  subst h
  funext j
  unfold VecWindow.window rows
  congr 1
  funext a
  apply Fin.ext
  have h1 : (j 1).val < 384 := (j 1).isLt
  have h2 : (j 2).val < 128 := (j 2).isLt
  match a with
  | 0 => have h0 : (j 0).val < 1 := (j 0).isLt; show 0 + 1 * (j 0).val = 0; omega
  | 1 => show 128 * (n - 3) + 1 * (j 1).val = min (128 * (n - 3) + (j 1).val) 8191; omega
  | 2 => show 128 * c + 1 * (j 2).val = min (128 * c + (j 2).val) 255; omega

theorem win_arows (x : Vec F S8192x256 .f32) (n c : ℕ) (hn : n ≤ 64) (hc : c ≤ 1) {off : Fin 2 → ℕ} (inb : ∀ a, off a + S384x128.size a ≤ S8192x256.size a)
    (h : off = ![128 * (n - 3), 128 * c]) : VecWindow.window x off S384x128.size inb = arows x n c := by
  subst h
  funext j
  unfold VecWindow.window arows
  congr 1
  funext a
  apply Fin.ext
  have h0 : (j 0).val < 384 := (j 0).isLt
  have h1 : (j 1).val < 128 := (j 1).isLt
  match a with
  | 0 => show 128 * (n - 3) + 1 * (j 0).val = min (128 * (n - 3) + (j 0).val) 8191; omega
  | 1 => show 128 * c + 1 * (j 1).val = min (128 * c + (j 1).val) 255; omega

theorem put_aput (x : Vec F S8192x256 .f32) (n c : ℕ) (w : Vec F S384x128 .f32) {off : Fin 2 → ℕ} (h : off = ![128 * (n - 3), 128 * c]) :
    VecWindow.put x off S384x128.size w = aput x n c w := by
  subst h; rfl

/-! ## The first sweep's label -/

section Sweep1

variable (c : Dev nD) (i : grid0.Coords) (a3 : Memref sig .tc .vmem S1x8192x256 .bf16) (h3 : a3.IsWhole) (a4 : Memref sig .tc .vmem S1x8192x256 .bf16) (h4 : a4.IsWhole)
variable (a12 : Memref sig .tc .vmem S384x384 .bf16) (h12 : a12.IsWhole) (a11 : Memref sig .tc .vmem S8192x256 .f32) (h11 : a11.IsWhole)
variable (e : Env F)

/-- What the sweep holds. -/
def held1 (dv : Vec F S8192x256 .f32) : sProp (𝕄 F) :=
  iprop(owns c.tc a3 fullShare e.k ∗ owns c.tc a4 fullShare e.v ∗ owns c.tc a12 fullShare e.su
    ∗ owns c.tc a11 fullShare dv)

/-- What its label gives back. -/
abbrev ret1 (r : ℕ × Cols F × Vec F S8192x256 .f32) : BitVec 32 × FVec F S128x1 .f32 × FVec F S128x1 .f32 × FVec F S128x1 .f32 × FVec F S128x1 .f32 :=
  (hi r.1, r.2.1.r0, r.2.1.r1, r.2.1.t0, r.2.1.t1)

def spec1 (n : ℕ) (s : Cols F) (dv : Vec F S8192x256 .f32) : sWPT (𝕄 F) (BitVec 32 × FVec F S128x1 .f32 × FVec F S128x1 .f32 × FVec F S128x1 .f32 × FVec F S128x1 .f32) := do
  sWPT.consume (held1 c a3 a4 a12 a11 e dv)
  sWPT.produce (held1 c a3 a4 a12 a11 e (sweep1 e n s dv).2.2)
  pure (ret1 (sweep1 e n s dv))

theorem spec1_apply (n : ℕ) (s : Cols F) (dv : Vec F S8192x256 .f32) (K : _ → sProp (𝕄 F)) : spec1 c a3 a4 a12 a11 e n s dv K
    = iprop(held1 c a3 a4 a12 a11 e dv ∗ (held1 c a3 a4 a12 a11 e (sweep1 e n s dv).2.2 -∗ K (ret1 (sweep1 e n s dv)))) := rfl

set_option maxHeartbeats 1600000 in
theorem spec1_le (E : Set ℕ) (n : ℕ) : n ≤ 64 → ∀ (s : Cols F) (dv : Vec F S8192x256 .f32) K, spec1 c a3 a4 a12 a11 e n s dv K
    ⊢ wp frame (wpE (defs₀ (F := F)) 𝒱₀ c.tc (some n)) E
      (defs₀ (F := F) .tc 1 ⟨i, e.b0, e.b1, a3, h3, a4, h4, e.g0, e.g1, e.pos, e.q0, e.q1, a12, h12, a11, h11, hi n, s.r0, s.r1, s.t0, s.t1⟩) K := by
  induction n using Nat.strong_induction_on with
  | _ n ih =>
  intro hn s dv K
  rw [spec1_apply, sweep1]
  show _ ⊢ wp frame (wpE (defs₀ (F := F)) 𝒱₀ c.tc (some n)) E
    (cc0_while1 i e.b0 e.b1 a3 h3 a4 h4 e.g0 e.g1 e.pos e.q0 e.q1 a12 h12 a11 h11 (hi n) s.r0 s.r1 s.t0 s.t1) K
  simp only [cc0_while1_eq_skeleton]; unfold cc0_while1_skel
  dsimp only
  by_cases hg : 0 < n ∧ goes1 e n s
  · have hg2 := hg.2
    unfold goes1 at hg2
    rw [if_pos hg2, dif_pos hg]
    simp only [k0_part8_eq_skeleton, k0_part9_eq_skeleton]
    unfold k0_part8_skel k0_part9_skel held1
    simp only [Prog.lift, Prog.bind_op, Prog.bind_ret, Prog.pure_eq_ret]
    iintro ⟨⟨Hk, Hv, Hs, Ha⟩, HK⟩
    iapply (wp_assume 𝒱₀ c.tc (some n) E (chk1 n hn))
    simp only [Prog.bind_op, Prog.bind_ret]
    iapply (own_load (rows e.k n 0) (win_rows _ n 0 hn (by omega) _ (off5_eq n hn))) $$ Hk; iintro Hk
    simp only [Prog.bind_op, Prog.bind_ret]
    iapply (own_load (rows e.k n 1) (win_rows _ n 1 hn (by omega) _ (off6_eq n hn))) $$ Hk; iintro Hk
    simp only [Prog.bind_op, Prog.bind_ret]
    iapply (own_load (rows e.v n 0) (win_rows _ n 0 hn (by omega) _ (off5_eq n hn))) $$ Hv; iintro Hv
    simp only [Prog.bind_op, Prog.bind_ret]
    iapply (own_load (rows e.v n 1) (win_rows _ n 1 hn (by omega) _ (off6_eq n hn))) $$ Hv; iintro Hv
    simp only [Prog.bind_op, Prog.bind_ret]
    iapply (own_load e.su (win_full _ _)) $$ Hs; iintro Hs
    iapply (own_load e.su (win_full _ _)) $$ Hs; iintro Hs
    iapply (own_load (arows dv n 0) (win_arows _ n 0 hn (by omega) _ (off7_eq n hn))) $$ Ha; iintro Ha
    iapply (own_load (arows dv n 0) (win_arows _ n 0 hn (by omega) _ (off7_eq n hn))) $$ Ha; iintro Ha
    iapply (own_store _ (put_aput _ n 0 _ (off7_eq n hn))) $$ Ha; iintro Ha
    iapply (own_load _ (win_arows _ n 1 hn (by omega) _ (off8_eq n hn))) $$ Ha; iintro Ha
    iapply (own_load _ (win_arows _ n 1 hn (by omega) _ (off8_eq n hn))) $$ Ha; iintro Ha
    iapply (own_store _ (put_aput _ n 1 _ (off8_eq n hn))) $$ Ha; iintro Ha
    rw [hi_next n hn]
    iapply (wp_call_spec 𝒱₀ c.tc (some n) E (spec1 c a3 a4 a12 a11 e (n - 3) (colStep1 e n s) (accStep1 e n s dv)) (n - 3)
      (fun u hu => by cases hu; show n - 3 < n; omega) (ih (n - 3) (by omega) (by omega) (colStep1 e n s) (accStep1 e n s dv)))
    rw [spec1_apply]; unfold held1
    isplitl [Hk Hv Hs Ha]
    · isplitl [Hk]; · iexact Hk
      isplitl [Hv]; · iexact Hv
      isplitl [Hs]; · iexact Hs
      iexact Ha
    iintro H
    rw [wp_ret]; imodintro
    iapply HK
    iexact H
  · rw [dif_neg hg, if_neg (fun h => by
      rcases Nat.eq_zero_or_pos n with h0 | h0
      · subst h0; exact sgt_zero _ h
      · exact hg ⟨h0, h⟩)]
    iintro ⟨H, HK⟩
    rw [Prog.pure_eq_ret, wp_ret]; imodintro
    iapply HK
    iexact H

end Sweep1

/-! ## The second sweep's label -/

section Sweep2

variable (c : Dev nD) (i : grid0.Coords) (a3 : Memref sig .tc .vmem S1x8192x256 .bf16) (h3 : a3.IsWhole) (a4 : Memref sig .tc .vmem S1x8192x256 .bf16) (h4 : a4.IsWhole)
variable (a12 : Memref sig .tc .vmem S384x384 .bf16) (h12 : a12.IsWhole) (a13 : Memref sig .tc .vmem S384x384 .bf16) (h13 : a13.IsWhole)
variable (a10 : Memref sig .tc .vmem S8192x256 .f32) (h10 : a10.IsWhole)
variable (e : Env F) (T0 T1 : FVec F S128x1 .f32)

/-- What the sweep holds. -/
def held2 (dk : Vec F S8192x256 .f32) : sProp (𝕄 F) :=
  iprop(owns c.tc a3 fullShare e.k ∗ owns c.tc a4 fullShare e.v ∗ owns c.tc a12 fullShare e.su
    ∗ owns c.tc a13 fullShare e.ss ∗ owns c.tc a10 fullShare dk)

/-- What its label gives back. -/
abbrev Ret2 (F : FTy → Type) := BitVec 32 × FVec F S128x1 .f32 × FVec F S128x1 .f32 × FVec F S128x1 .f32 × FVec F S128x1 .f32 × FVec F S128x128 .f32 × FVec F S128x128 .f32

abbrev ret2 (r : ℕ × Cols F × Dqs F × Vec F S8192x256 .f32) : Ret2 F :=
  (hi r.1, r.2.1.r0, r.2.1.r1, r.2.1.t0, r.2.1.t1, r.2.2.1.d0, r.2.2.1.d1)

def spec2 (n : ℕ) (s : Cols F) (d : Dqs F) (dk : Vec F S8192x256 .f32) : sWPT (𝕄 F) (Ret2 F) := do
  sWPT.consume (held2 c a3 a4 a12 a13 a10 e dk)
  sWPT.produce (held2 c a3 a4 a12 a13 a10 e (sweep2 e T0 T1 n s d dk).2.2.2)
  pure (ret2 (sweep2 e T0 T1 n s d dk))

theorem spec2_apply (n : ℕ) (s : Cols F) (d : Dqs F) (dk : Vec F S8192x256 .f32) (K : _ → sProp (𝕄 F)) : spec2 c a3 a4 a12 a13 a10 e T0 T1 n s d dk K
    = iprop(held2 c a3 a4 a12 a13 a10 e dk
      ∗ (held2 c a3 a4 a12 a13 a10 e (sweep2 e T0 T1 n s d dk).2.2.2 -∗ K (ret2 (sweep2 e T0 T1 n s d dk)))) := rfl

set_option maxHeartbeats 1600000 in
theorem spec2_le (E : Set ℕ) (n : ℕ) : n ≤ 64 → ∀ (s : Cols F) (d : Dqs F) (dk : Vec F S8192x256 .f32) K, spec2 c a3 a4 a12 a13 a10 e T0 T1 n s d dk K
    ⊢ wp frame (wpE (defs₀ (F := F)) 𝒱₀ c.tc (some n)) E
      (defs₀ (F := F) .tc 2 ⟨i, e.b0, e.b1, a3, h3, a4, h4, e.g0, e.g1, e.pos, e.q0, e.q1, a12, h12, a13, h13, T0, T1, a10, h10, hi n, s.r0, s.r1, s.t0, s.t1,
        d.d0, d.d1⟩) K := by
  induction n using Nat.strong_induction_on with
  | _ n ih =>
  intro hn s d dk K
  rw [spec2_apply, sweep2]
  show _ ⊢ wp frame (wpE (defs₀ (F := F)) 𝒱₀ c.tc (some n)) E
    (cc0_while2 i e.b0 e.b1 a3 h3 a4 h4 e.g0 e.g1 e.pos e.q0 e.q1 a12 h12 a13 h13 T0 T1 a10 h10 (hi n) s.r0 s.r1 s.t0 s.t1 d.d0 d.d1) K
  simp only [cc0_while2_eq_skeleton]; unfold cc0_while2_skel
  dsimp only
  by_cases hg : 0 < n ∧ goes2 e n s
  · have hg2 := hg.2
    unfold goes2 at hg2
    rw [if_pos hg2, dif_pos hg]
    simp only [k0_part10_eq_skeleton, k0_part11_eq_skeleton, k0_part12_eq_skeleton]
    unfold k0_part10_skel k0_part11_skel k0_part12_skel held2
    simp only [Prog.lift, Prog.bind_op, Prog.bind_ret, Prog.pure_eq_ret]
    iintro ⟨⟨Hk, Hv, Hs, Ht, Ha⟩, HK⟩
    iapply (wp_assume 𝒱₀ c.tc (some n) E (chk2 n hn))
    simp only [Prog.bind_op, Prog.bind_ret]
    iapply (own_load (rows e.k n 0) (win_rows _ n 0 hn (by omega) _ (off9_eq n hn))) $$ Hk; iintro Hk
    simp only [Prog.bind_op, Prog.bind_ret]
    iapply (own_load (rows e.k n 1) (win_rows _ n 1 hn (by omega) _ (off10_eq n hn))) $$ Hk; iintro Hk
    simp only [Prog.bind_op, Prog.bind_ret]
    iapply (own_load (rows e.v n 0) (win_rows _ n 0 hn (by omega) _ (off9_eq n hn))) $$ Hv; iintro Hv
    simp only [Prog.bind_op, Prog.bind_ret]
    iapply (own_load (rows e.v n 1) (win_rows _ n 1 hn (by omega) _ (off10_eq n hn))) $$ Hv; iintro Hv
    simp only [Prog.bind_op, Prog.bind_ret]
    iapply (own_load e.su (win_full _ _)) $$ Hs; iintro Hs
    iapply (own_load e.su (win_full _ _)) $$ Hs; iintro Hs
    iapply (own_load e.ss (win_full _ _)) $$ Ht; iintro Ht
    iapply (own_load e.ss (win_full _ _)) $$ Ht; iintro Ht
    iapply (own_load (arows dk n 0) (win_arows _ n 0 hn (by omega) _ (off11_eq n hn))) $$ Ha; iintro Ha
    iapply (own_load (arows dk n 0) (win_arows _ n 0 hn (by omega) _ (off11_eq n hn))) $$ Ha; iintro Ha
    iapply (own_store _ (put_aput _ n 0 _ (off11_eq n hn))) $$ Ha; iintro Ha
    iapply (own_load _ (win_arows _ n 1 hn (by omega) _ (off12_eq n hn))) $$ Ha; iintro Ha
    iapply (own_load _ (win_arows _ n 1 hn (by omega) _ (off12_eq n hn))) $$ Ha; iintro Ha
    iapply (own_store _ (put_aput _ n 1 _ (off12_eq n hn))) $$ Ha; iintro Ha
    rw [hi_next n hn]
    iapply (wp_call_spec 𝒱₀ c.tc (some n) E
      (spec2 c a3 a4 a12 a13 a10 e T0 T1 (n - 3) (colStep2 e n s) (dqStep2 e T0 T1 n s d) (accStep2 e T0 T1 n s dk)) (n - 3)
      (fun u hu => by cases hu; show n - 3 < n; omega)
      (ih (n - 3) (by omega) (by omega) (colStep2 e n s) (dqStep2 e T0 T1 n s d) (accStep2 e T0 T1 n s dk)))
    rw [spec2_apply]; unfold held2
    isplitl [Hk Hv Hs Ht Ha]
    · isplitl [Hk]; · iexact Hk
      isplitl [Hv]; · iexact Hv
      isplitl [Hs]; · iexact Hs
      isplitl [Ht]; · iexact Ht
      iexact Ha
    iintro H
    rw [wp_ret]; imodintro
    iapply HK
    iexact H
  · rw [dif_neg hg, if_neg (fun h => by
      rcases Nat.eq_zero_or_pos n with h0 | h0
      · subst h0; exact sgt_zero _ h
      · exact hg ⟨h0, h⟩)]
    iintro ⟨H, HK⟩
    rw [Prog.pure_eq_ret, wp_ret]; imodintro
    iapply HK
    iexact H

end Sweep2

end Cert.Attn

end
-- ==== Proof.AttnBody.lean ====
/-
  One block of queries of the attention's backward kernel: the body, from what it finds in the buffers to what it leaves.
-/
module

public import proofs.«01_k».proof.Proof.AttnLoop

@[expose] public section

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Blocks Cert.KernelAttnIdeal Cert.KernelAttnIdeal.Gen

variable {F : FTy → Type} [FloatOps F] [Named F]

/-! ## Windows of the blocks -/

theorem win_half (x : Vec F S1x128x256 .bf16) (c : ℕ) (hc : c ≤ 1) {off : Fin 3 → ℕ} (inb : ∀ a, off a + S1x128x128.size a ≤ S1x128x256.size a)
    (h : off = ![0, 0, 128 * c]) : VecWindow.window x off S1x128x128.size inb = half x c := by
  subst h
  funext j
  unfold VecWindow.window half
  congr 1
  funext a
  apply Fin.ext
  have h2 : (j 2).val < 128 := (j 2).isLt
  match a with
  | 0 => have h0 : (j 0).val < 1 := (j 0).isLt; show 0 + 1 * (j 0).val = 0; omega
  | 1 => show 0 + 1 * (j 1).val = (j 1).val; omega
  | 2 => show 128 * c + 1 * (j 2).val = min (128 * c + (j 2).val) 255; omega

theorem win_shalf (x : Vec F S1x8192x256 .bf16) (c : ℕ) (hc : c ≤ 1) {off : Fin 3 → ℕ} (inb : ∀ a, off a + S1x8192x128.size a ≤ S1x8192x256.size a)
    (h : off = ![0, 0, 128 * c]) : VecWindow.window x off S1x8192x128.size inb = shalf x c := by
  subst h
  funext j
  unfold VecWindow.window shalf
  congr 1
  funext a
  apply Fin.ext
  have h2 : (j 2).val < 128 := (j 2).isLt
  match a with
  | 0 => have h0 : (j 0).val < 1 := (j 0).isLt; show 0 + 1 * (j 0).val = 0; omega
  | 1 => show 0 + 1 * (j 1).val = (j 1).val; omega
  | 2 => show 128 * c + 1 * (j 2).val = min (128 * c + (j 2).val) 255; omega

theorem win_word (x : Vec F S2 .f32) (p : Fin 2) {off : Fin 1 → ℕ} (inb : ∀ a, off a + S1.size a ≤ S2.size a) (h : off = ![p.val]) :
    VecWindow.window x off S1.size inb = fun _ => x (ix1 p) := by
  subst h
  funext j
  unfold VecWindow.window
  congr 1
  funext a
  apply Fin.ext
  match a with
  | 0 => have h0 : (j 0).val < 1 := (j 0).isLt; show p.val + 1 * (j 0).val = p.val; omega

theorem put_words (x : Vec F S2 .f32) (u w : F .f32) :
    VecWindow.put (VecWindow.put x ![0] S1.size (fun _ => u)) ![1] S1.size (fun _ => w) = fun j => if (j 0).val = 0 then u else w := by
  funext j
  have hj : (j 0).val < 2 := (j 0).isLt
  unfold VecWindow.put
  by_cases h : (j 0).val = 0
  · rw [dif_neg (fun hh => by have := (hh 0).1; change 1 ≤ (j 0).val at this; omega), dif_pos (fun a => by
      match a with
      | 0 => show 0 ≤ (j 0).val ∧ (j 0).val < 0 + 1; omega), if_pos h]
  · rw [dif_pos (fun a => by
      match a with
      | 0 => show 1 ≤ (j 0).val ∧ (j 0).val < 1 + 1; omega), if_neg h]

theorem put_halves (x : Vec F S128x256 .bf16) (u w : Vec F S128x128 .bf16) (j : S128x256.Idx) :
    VecWindow.put (VecWindow.put x ![0, 0] S128x128.size u) ![0, 128] S128x128.size w j
      = if h : (j 1).val < 128 then u (ix2 (⟨(j 0).val, (j 0).isLt⟩ : Fin 128) (⟨(j 1).val, h⟩ : Fin 128))
        else w (ix2 (⟨(j 0).val, (j 0).isLt⟩ : Fin 128) (⟨(j 1).val - 128, by have h2 : (j 1).val < 256 := (j 1).isLt; omega⟩ : Fin 128)) := by
  have h0 : (j 0).val < 128 := (j 0).isLt
  have h1 : (j 1).val < 256 := (j 1).isLt
  unfold VecWindow.put
  by_cases h : (j 1).val < 128
  · rw [dif_neg (fun hh => by have := (hh 1).1; change 128 ≤ (j 1).val at this; omega), dif_pos (fun a => by
      match a with
      | 0 => show 0 ≤ (j 0).val ∧ (j 0).val < 0 + 128; omega
      | 1 => show 0 ≤ (j 1).val ∧ (j 1).val < 0 + 128; omega), dif_pos h]
    refine congrArg u (funext fun a => Fin.ext ?_)
    match a with
    | 0 => show (j 0).val - 0 = (j 0).val; omega
    | 1 => show (j 1).val - 0 = (j 1).val; omega
  · rw [dif_pos (fun a => by
      match a with
      | 0 => show 0 ≤ (j 0).val ∧ (j 0).val < 0 + 128; omega
      | 1 => show 128 ≤ (j 1).val ∧ (j 1).val < 128 + 128; omega), dif_neg h]
    refine congrArg w (funext fun a => Fin.ext ?_)
    match a with
    | 0 => show (j 0).val - 0 = (j 0).val; omega
    | 1 => rfl

/-! ## The block's number -/

theorem off1_eq (i : grid0.Coords) : k0_off1 i = ![0, 128 * ((i 1).val + 1 - 3), 128 * 0] := by
  unfold k0_off1; dsimp only; rw [hi_block (i 1), sext _ (by have h : (i 1).val < 64 := (i 1).isLt; omega)]
theorem off2_eq (i : grid0.Coords) : k0_off2 i = ![0, 128 * ((i 1).val + 1 - 3), 128 * 1] := by
  unfold k0_off2; dsimp only; rw [hi_block (i 1), sext _ (by have h : (i 1).val < 64 := (i 1).isLt; omega)]
theorem off3_eq (i : grid0.Coords) : k0_off3 i = ![128 * ((i 1).val + 1 - 3), 128 * 0] := by
  unfold k0_off3; dsimp only; rw [hi_block (i 1), sext _ (by have h : (i 1).val < 64 := (i 1).isLt; omega)]
theorem off4_eq (i : grid0.Coords) : k0_off4 i = ![128 * ((i 1).val + 1 - 3), 128 * 1] := by
  unfold k0_off4; dsimp only; rw [hi_block (i 1), sext _ (by have h : (i 1).val < 64 := (i 1).isLt; omega)]

theorem first_iff (i : Fin 64) : Scalar.cmpi .ne (Scalar.extui (Scalar.cmpi .eq (BitVec.ofNat 32 i.val) 0#32) : BitVec 32) 0#32 = 1#1 ↔ i.val = 0 := by
  revert i; decide +kernel

theorem last_iff (i : grid0.Coords) : k0_cond2 i = 1#1 ↔ (i 1).val = 63 := by
  have h : ∀ i : Fin 64, Scalar.cmpi .ne (Scalar.extui (Scalar.cmpi .eq (BitVec.ofNat 32 i.val) 63#32) : BitVec 32) 0#32 = 1#1 ↔ i.val = 63 := by decide +kernel
  exact h (i 1)

section Body

variable (c : Dev nD) (i : grid0.Coords)
variable (a2 : Memref sig .tc .vmem S1x128x256 .bf16) (h2 : a2.IsWhole) (a3 : Memref sig .tc .vmem S1x8192x256 .bf16) (h3 : a3.IsWhole)
variable (a4 : Memref sig .tc .vmem S1x8192x256 .bf16) (h4 : a4.IsWhole) (a5 : Memref sig .tc .vmem S1x128x256 .bf16) (h5 : a5.IsWhole)
variable (a6 : Memref sig .tc .vmem S128x256 .bf16) (h6 : a6.IsWhole) (a7 : Memref sig .tc .vmem S8192x256 .bf16) (h7 : a7.IsWhole)
variable (a8 : Memref sig .tc .vmem S8192x256 .bf16) (h8 : a8.IsWhole) (a9 : Memref sig .tc .smem S2 .f32) (h9 : a9.IsWhole)
variable (a10 : Memref sig .tc .vmem S8192x256 .f32) (h10 : a10.IsWhole) (a11 : Memref sig .tc .vmem S8192x256 .f32) (h11 : a11.IsWhole)
variable (a12 : Memref sig .tc .vmem S384x384 .bf16) (h12 : a12.IsWhole) (a13 : Memref sig .tc .vmem S384x384 .bf16) (h13 : a13.IsWhole)
variable (q : Vec F S1x128x256 .bf16) (k v : Vec F S1x8192x256 .bf16) (g : Vec F S1x128x256 .bf16)

/-- The blocks read, -/
def heldIn : sProp (𝕄 F) :=
  iprop(owns c.tc a2 fullShare q ∗ owns c.tc a3 fullShare k ∗ owns c.tc a4 fullShare v
    ∗ owns c.tc a5 fullShare g)

/-- and what is kept. -/
def heldKept (s : Kept F) : sProp (𝕄 F) :=
  iprop(owns c.tc a9 fullShare s.km ∗ owns c.tc a10 fullShare s.dk ∗ owns c.tc a11 fullShare s.dv
    ∗ owns c.tc a12 fullShare s.su ∗ owns c.tc a13 fullShare s.ss)

/-- The state after the body's first lines: a group's start puts the fresh values. -/
theorem part2_run (s : Kept F) (K : _ → sProp (𝕄 F)) :
    iprop(heldIn c a2 a3 a4 a5 q k v g ∗ heldKept c a9 a10 a11 a12 a13 s
        ∗ (heldIn c a2 a3 a4 a5 q k v g -∗ heldKept c a9 a10 a11 a12 a13 (found (i 1).val k s)
          -∗ K ⟨wi (i 1).val, k0_pay25 (half q 0), k0_pay26 (half q 1), k0_pay27 (half g 0), k0_pay28 (half g 1),
            k0_pay29 (half q 0) ((found (i 1).val k s).km (ix1 (0 : Fin 2))), k0_pay30 (half q 1) ((found (i 1).val k s).km (ix1 (1 : Fin 2))), k0_pay31⟩))
      ⊢ wp frame (wpE (defs₀ (F := F)) 𝒱₀ c.tc none) Set.univ
        (k0_part2 i a2 h2 a3 h3 a4 h4 a5 h5 a6 h6 a7 h7 a8 h8 a9 h9 a10 h10 a11 h11 a12 h12 a13 h13) K := by
  simp only [k0_part2_eq_skeleton]; unfold k0_part2_skel
  unfold heldIn heldKept found
  dsimp only
  by_cases hi0 : (i 1).val = 0
  · rw [dif_pos ((first_iff (i 1)).2 hi0), if_pos hi0]
    simp only [k0_part1_eq_skeleton]; unfold k0_part1_skel
    simp only [smemLoad, smemLoadElt, Prog.lift, Prog.bind_op, Prog.bind_ret, Prog.pure_eq_ret]
    iintro ⟨⟨H2, H3, H4, H5⟩, ⟨H9, H10, H11, H12, H13⟩, HK⟩
    iapply (own_load (shalf k 0) (win_shalf _ 0 (by omega) _ rfl)) $$ H3; iintro H3
    iapply (own_load _ (win_word _ 0 _ rfl)) $$ H9; iintro H9
    iapply (own_store (VecWindow.put s.km ![0] S1.size (fun _ => k0_pay18 (shalf k 0))) rfl) $$ H9; iintro H9
    iapply (own_load (shalf k 1) (win_shalf _ 1 (by omega) _ rfl)) $$ H3; iintro H3
    iapply (own_load _ (win_word _ 1 _ rfl)) $$ H9; iintro H9
    iapply (own_store (fresh k).km (put_words s.km (k0_pay18 (shalf k 0)) (k0_pay19 (shalf k 1)))) $$ H9; iintro H9
    iapply (own_load _ (win_full _ _)) $$ H10; iintro H10
    iapply (own_store _ (put_full _ _ inb_S8192x256_S8192x256_0_0)) $$ H10; iintro H10
    iapply (own_load _ (win_full _ _)) $$ H11; iintro H11
    iapply (own_store _ (put_full _ _ inb_S8192x256_S8192x256_0_0)) $$ H11; iintro H11
    iapply (own_load _ (win_full _ _)) $$ H12; iintro H12
    iapply (own_store _ (put_full _ _ inb_S384x384_S384x384_0_0)) $$ H12; iintro H12
    iapply (own_load _ (win_full _ _)) $$ H13; iintro H13
    iapply (own_store _ (put_full _ _ inb_S384x384_S384x384_0_0)) $$ H13; iintro H13
    iapply (own_load (half q 0) (win_half _ 0 (by omega) _ rfl)) $$ H2; iintro H2
    iapply (own_load (half q 1) (win_half _ 1 (by omega) _ rfl)) $$ H2; iintro H2
    iapply (own_load (half g 0) (win_half _ 0 (by omega) _ rfl)) $$ H5; iintro H5
    iapply (own_load (half g 1) (win_half _ 1 (by omega) _ rfl)) $$ H5; iintro H5
    iapply (own_load _ (win_word _ 0 _ rfl)) $$ H9; iintro H9
    iapply (own_load _ (win_word _ 1 _ rfl)) $$ H9; iintro H9
    rw [wp_ret]; imodintro
    iapply HK $$ [H2 H3 H4 H5] [H9 H10 H11 H12 H13]
    · isplitl [H2]; · iexact H2
      isplitl [H3]; · iexact H3
      isplitl [H4]; · iexact H4
      iexact H5
    · isplitl [H9]; · iexact H9
      isplitl [H10]; · iexact H10
      isplitl [H11]; · iexact H11
      isplitl [H12]; · iexact H12
      iexact H13
  · rw [dif_neg (fun h => hi0 ((first_iff (i 1)).1 h)), if_neg hi0]
    simp only [smemLoad, smemLoadElt, Prog.lift, Prog.bind_op, Prog.bind_ret, Prog.pure_eq_ret]
    iintro ⟨⟨H2, H3, H4, H5⟩, ⟨H9, H10, H11, H12, H13⟩, HK⟩
    iapply (own_load (half q 0) (win_half _ 0 (by omega) _ rfl)) $$ H2; iintro H2
    iapply (own_load (half q 1) (win_half _ 1 (by omega) _ rfl)) $$ H2; iintro H2
    iapply (own_load (half g 0) (win_half _ 0 (by omega) _ rfl)) $$ H5; iintro H5
    iapply (own_load (half g 1) (win_half _ 1 (by omega) _ rfl)) $$ H5; iintro H5
    iapply (own_load _ (win_word _ 0 _ rfl)) $$ H9; iintro H9
    iapply (own_load _ (win_word _ 1 _ rfl)) $$ H9; iintro H9
    rw [wp_ret]; imodintro
    iapply HK $$ [H2 H3 H4 H5] [H9 H10 H11 H12 H13]
    · isplitl [H2]; · iexact H2
      isplitl [H3]; · iexact H3
      isplitl [H4]; · iexact H4
      iexact H5
    · isplitl [H9]; · iexact H9
      isplitl [H10]; · iexact H10
      isplitl [H11]; · iexact H11
      isplitl [H12]; · iexact H12
      iexact H13

/-- The blocks written: the query gradients always, the keys' and values' at a group's last block. -/
def heldOut (o6 : Vec F S128x256 .bf16) (o7 o8 : Vec F S8192x256 .bf16) : sProp (𝕄 F) :=
  iprop(owns c.tc a6 fullShare o6 ∗ owns c.tc a7 fullShare o7 ∗ owns c.tc a8 fullShare o8)

/-- What block `i` works with, -/
abbrev envOf (s : Kept F) : Env F := env (i 1).val q k v g (found (i 1).val k s)
/-- what it leaves, -/
abbrev after (s : Kept F) : Kept F := leaves (envOf i q k v g s) (i 1).val (found (i 1).val k s)
/-- the query gradients it writes, -/
abbrev dqAfter (s : Kept F) : Vec F S128x256 .bf16 := dqOut (envOf i q k v g s) (i 1).val (found (i 1).val k s)

set_option maxHeartbeats 3200000 in
theorem body_run (s : Kept F) (o6 : Vec F S128x256 .bf16) (o7 o8 : Vec F S8192x256 .bf16) (K : PUnit → sProp (𝕄 F)) :
    iprop(heldIn c a2 a3 a4 a5 q k v g ∗ heldKept c a9 a10 a11 a12 a13 s ∗ heldOut c a6 a7 a8 o6 o7 o8
        ∗ (heldIn c a2 a3 a4 a5 q k v g -∗ heldKept c a9 a10 a11 a12 a13 (after i q k v g s)
          -∗ heldOut c a6 a7 a8 (dqAfter i q k v g s) (if (i 1).val = 63 then k0_pay73 (after i q k v g s).dk else o7)
            (if (i 1).val = 63 then k0_pay74 (after i q k v g s).dv else o8) -∗ K ⟨⟩))
      ⊢ wp frame (wpE (defs₀ (F := F)) 𝒱₀ c.tc none) Set.univ
        (cc0_attn_bwd i a2 h2 a3 h3 a4 h4 a5 h5 a6 h6 a7 h7 a8 h8 a9 h9 a10 h10 a11 h11 a12 h12 a13 h13) K := by
  have hn : (i 1).val + 1 ≤ 64 := by have h : (i 1).val < 64 := (i 1).isLt; omega
  simp only [cc0_attn_bwd_eq_skeleton]; unfold cc0_attn_bwd_skel
  simp only [k0_part7_eq_skeleton]; unfold k0_part7_skel
  rw [wp_bind, wp_bind]
  iintro ⟨HI, HS, HO, HK⟩
  iapply (part2_run c i a2 h2 a3 h3 a4 h4 a5 h5 a6 h6 a7 h7 a8 h8 a9 h9 a10 h10 a11 h11 a12 h12 a13 h13 q k v g s)
  isplitl [HI]; · iexact HI
  isplitl [HS]; · iexact HS
  iintro HI HS
  simp only [k0_part3_eq_skeleton, k0_part4_eq_skeleton, k0_part5_eq_skeleton, k0_part6_eq_skeleton]
  unfold k0_part3_skel k0_part4_skel k0_part5_skel k0_part6_skel heldIn heldKept heldOut
  dsimp only
  icases HI with ⟨H2, H3, H4, H5⟩
  icases HS with ⟨H9, H10, H11, H12, H13⟩
  icases HO with ⟨H6, H7, H8⟩
  rw [hi_block (i 1), hi_next _ hn]
  simp only [Prog.lift, Prog.bind_op, Prog.bind_ret, Prog.pure_eq_ret]
  iapply (own_load (rows k ((i 1).val + 1) 0) (win_rows _ _ 0 hn (by omega) _ (off1_eq i))) $$ H3; iintro H3
  iapply (own_load (rows k ((i 1).val + 1) 1) (win_rows _ _ 1 hn (by omega) _ (off2_eq i))) $$ H3; iintro H3
  iapply (own_load (rows v ((i 1).val + 1) 0) (win_rows _ _ 0 hn (by omega) _ (off1_eq i))) $$ H4; iintro H4
  iapply (own_load (rows v ((i 1).val + 1) 1) (win_rows _ _ 1 hn (by omega) _ (off2_eq i))) $$ H4; iintro H4
  iapply (own_load _ (win_full _ _)) $$ H12; iintro H12
  iapply (own_load _ (win_full _ _)) $$ H12; iintro H12
  iapply (own_load _ (win_arows _ _ 0 hn (by omega) _ (off3_eq i))) $$ H11; iintro H11
  iapply (own_load _ (win_arows _ _ 0 hn (by omega) _ (off3_eq i))) $$ H11; iintro H11
  iapply (own_store _ (put_aput _ _ 0 _ (off3_eq i))) $$ H11; iintro H11
  iapply (own_load _ (win_arows _ _ 1 hn (by omega) _ (off4_eq i))) $$ H11; iintro H11
  iapply (own_load _ (win_arows _ _ 1 hn (by omega) _ (off4_eq i))) $$ H11; iintro H11
  iapply (own_store _ (put_aput _ _ 1 _ (off4_eq i))) $$ H11; iintro H11
  iapply (wp_call_spec 𝒱₀ c.tc none Set.univ
    (spec1 c a3 a4 a12 a11 (envOf i q k v g s) ((i 1).val + 1 - 3) (firstCols (envOf i q k v g s) (i 1).val)
      (firstDv (envOf i q k v g s) (i 1).val (found (i 1).val k s).dv)) ((i 1).val + 1 - 3)
    (fun u hu => nomatch hu)
    (spec1_le c i a3 h3 a4 h4 a12 h12 a11 h11 (envOf i q k v g s) Set.univ ((i 1).val + 1 - 3) (by omega) (firstCols (envOf i q k v g s) (i 1).val)
      (firstDv (envOf i q k v g s) (i 1).val (found (i 1).val k s).dv)))
  rw [spec1_apply]; unfold held1
  isplitl [H3 H4 H12 H11]
  · isplitl [H3]; · iexact H3
    isplitl [H4]; · iexact H4
    isplitl [H12]; · iexact H12
    iexact H11
  iintro ⟨H3, H4, H12, H11⟩
  iapply (own_load _ (win_full _ _)) $$ H13; iintro H13
  iapply (own_load _ (win_full _ _)) $$ H13; iintro H13
  iapply (own_load _ (win_arows _ _ 0 hn (by omega) _ (off3_eq i))) $$ H10; iintro H10
  iapply (own_load _ (win_arows _ _ 0 hn (by omega) _ (off3_eq i))) $$ H10; iintro H10
  iapply (own_store _ (put_aput _ _ 0 _ (off3_eq i))) $$ H10; iintro H10
  iapply (own_load _ (win_arows _ _ 1 hn (by omega) _ (off4_eq i))) $$ H10; iintro H10
  iapply (own_load _ (win_arows _ _ 1 hn (by omega) _ (off4_eq i))) $$ H10; iintro H10
  iapply (own_store _ (put_aput _ _ 1 _ (off4_eq i))) $$ H10; iintro H10
  iapply (wp_call_spec 𝒱₀ c.tc none Set.univ
    (spec2 c a3 a4 a12 a13 a10 (envOf i q k v g s) (run1 (envOf i q k v g s) (i 1).val (found (i 1).val k s)).2.1.t0
      (run1 (envOf i q k v g s) (i 1).val (found (i 1).val k s)).2.1.t1 ((i 1).val + 1 - 3) (secondCols (envOf i q k v g s) (i 1).val)
      (firstDq (envOf i q k v g s) (run1 (envOf i q k v g s) (i 1).val (found (i 1).val k s)).2.1.t0
        (run1 (envOf i q k v g s) (i 1).val (found (i 1).val k s)).2.1.t1 (i 1).val)
      (firstDk (envOf i q k v g s) (run1 (envOf i q k v g s) (i 1).val (found (i 1).val k s)).2.1.t0
        (run1 (envOf i q k v g s) (i 1).val (found (i 1).val k s)).2.1.t1 (i 1).val (found (i 1).val k s).dk)) ((i 1).val + 1 - 3)
    (fun u hu => nomatch hu)
    (spec2_le c i a3 h3 a4 h4 a12 h12 a13 h13 a10 h10 (envOf i q k v g s) _ _ Set.univ ((i 1).val + 1 - 3) (by omega) (secondCols (envOf i q k v g s) (i 1).val)
      (firstDq (envOf i q k v g s) (run1 (envOf i q k v g s) (i 1).val (found (i 1).val k s)).2.1.t0
        (run1 (envOf i q k v g s) (i 1).val (found (i 1).val k s)).2.1.t1 (i 1).val)
      (firstDk (envOf i q k v g s) (run1 (envOf i q k v g s) (i 1).val (found (i 1).val k s)).2.1.t0
        (run1 (envOf i q k v g s) (i 1).val (found (i 1).val k s)).2.1.t1 (i 1).val (found (i 1).val k s).dk)))
  rw [spec2_apply]; unfold held2
  isplitl [H3 H4 H12 H13 H10]
  · isplitl [H3]; · iexact H3
    isplitl [H4]; · iexact H4
    isplitl [H12]; · iexact H12
    isplitl [H13]; · iexact H13
    iexact H10
  iintro ⟨H3, H4, H12, H13, H10⟩
  iapply (own_load _ rfl) $$ H6; iintro H6
  iapply (own_store (VecWindow.put o6 ![0, 0] S128x128.size (k0_pay71 (run2 (envOf i q k v g s) (i 1).val (found (i 1).val k s)).2.2.1.d0)) rfl) $$ H6; iintro H6
  iapply (own_load _ rfl) $$ H6; iintro H6
  iapply (own_store (dqAfter i q k v g s) (funext fun j => put_halves o6 _ _ j)) $$ H6; iintro H6
  by_cases h63 : (i 1).val = 63
  · simp only [dif_pos ((last_iff i).2 h63), if_pos h63]
    iapply (own_load _ (win_full _ _)) $$ H10; iintro H10
    iapply (own_load _ (win_full _ _)) $$ H7; iintro H7
    iapply (own_store _ (put_full _ _ inb_S8192x256_S8192x256_0_0)) $$ H7; iintro H7
    iapply (own_load _ (win_full _ _)) $$ H11; iintro H11
    iapply (own_load _ (win_full _ _)) $$ H8; iintro H8
    iapply (own_store _ (put_full _ _ inb_S8192x256_S8192x256_0_0)) $$ H8; iintro H8
    rw [wp_ret]; imodintro
    rw [wp_ret]; imodintro
    iapply HK $$ [H2 H3 H4 H5] [H9 H10 H11 H12 H13] [H6 H7 H8]
    · isplitl [H2]; · iexact H2
      isplitl [H3]; · iexact H3
      isplitl [H4]; · iexact H4
      iexact H5
    · isplitl [H9]; · iexact H9
      isplitl [H10]; · iexact H10
      isplitl [H11]; · iexact H11
      isplitl [H12]; · iexact H12
      iexact H13
    · isplitl [H6]; · iexact H6
      isplitl [H7]; · iexact H7
      iexact H8
  · simp only [dif_neg (fun h => h63 ((last_iff i).1 h)), if_neg h63]
    rw [wp_ret]; imodintro
    rw [wp_ret]; imodintro
    iapply HK $$ [H2 H3 H4 H5] [H9 H10 H11 H12 H13] [H6 H7 H8]
    · isplitl [H2]; · iexact H2
      isplitl [H3]; · iexact H3
      isplitl [H4]; · iexact H4
      iexact H5
    · isplitl [H9]; · iexact H9
      isplitl [H10]; · iexact H10
      isplitl [H11]; · iexact H11
      isplitl [H12]; · iexact H12
      iexact H13
    · isplitl [H6]; · iexact H6
      isplitl [H7]; · iexact H7
      iexact H8

end Body

end Cert.Attn

end
-- ==== Proof.AttnRun.lean ====
/-
  The launch of the attention's backward kernel: what stays between blocks of queries, the obligation at a block, the run.
-/
module

public import proofs.«01_k».proof.Proof.AttnBody
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Blocks Cert.KernelAttnIdeal Cert.KernelAttnIdeal.Gen

variable {F : FTy → Type} [FloatOps F] [Named F]
variable (m : (ℓ : Loc nD τ sig) → Buf (Elt F) ℓ) (ρ : Dev nD → PrngReg)

/-! ## The host lines before the launch -/

/-- The arrays as the launch finds them. -/
abbrev V (c : Dev nD) (b : Ref sig .tc) : Buf (Elt F) ((c : Thread nD τ).loc b) :=
  StableHlo.after hostOps0 (fun b => m (c, b)) (Proc.devRef .tc b)

theorem hostOps0_fresh : (hostOps0 (F := F)).Forall fun op => op.fresh = ∅ := by
  simp only [List.Forall]; repeat' constructor

set_option maxHeartbeats 800000 in
theorem hmain : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

theorem V_args (c : Dev nD) : V m c main_arg0 = m (c.tc.loc main_arg0) ∧ V m c main_arg1 = m (c.tc.loc main_arg1) := by
  constructor <;> exact StableHlo.after_of_forall_not_mem _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The blocks and what is kept between points -/

/-- Window `w`'s block at point `t`. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

variable (c : Dev nD) (t : Fin (cfg0 (F := F)).N)

abbrev bq : Vec F S1x128x256 .bf16 := iblk m c 0 t
abbrev bk : Vec F S1x8192x256 .bf16 := iblk m c 1 t
abbrev bv : Vec F S1x8192x256 .bf16 := iblk m c 2 t
abbrev bg : Vec F S1x128x256 .bf16 := iblk m c 3 t

/-- What point `t` leaves when it finds `s`, -/
abbrev keptAt (s : Kept F) : Kept F :=
  after (grid0.coords t) (bq m c t) (bk m c t) (bv m c t) (bg m c t) s
/-- and the query gradients it writes. -/
abbrev dqAt (s : Kept F) : Vec F S128x256 .bf16 :=
  dqAfter (grid0.coords t) (bq m c t) (bk m c t) (bv m c t) (bg m c t) s

theorem N_pos : 0 < (cfg0 (F := F)).N := by rw [show (cfg0 (F := F)).N = 512 from N_0]; omega

/-- What point `n` finds (at the first point: anything, which it does not use). -/
def kept (c : Dev nD) : ℕ → Kept F
  | 0 => fresh (bk m c ⟨0, N_pos⟩)
  | n + 1 => if h : n < (cfg0 (F := F)).N then keptAt m c ⟨n, h⟩ (kept c n) else kept c n

theorem kept_succ : kept m c (t.val + 1) = keptAt m c t (kept m c t.val) := by
  rw [kept, dif_pos t.isLt]

theorem coords_one : ∀ t : Fin grid0.N, (grid0.coords t 1).val = t.val % 64 := by decide +kernel
theorem coords_zero : ∀ t : Fin grid0.N, (grid0.coords t 0).val = t.val / 64 := by decide +kernel

theorem keptAt_first (h : t.val % 64 = 0) (s s' : Kept F) : keptAt m c t s = keptAt m c t s' := by
  have e : (grid0.coords t 1).val = 0 := (coords_one t).trans h
  unfold keptAt after envOf; rw [e]; rfl
theorem dqAt_first (h : t.val % 64 = 0) (s s' : Kept F) : dqAt m c t s = dqAt m c t s' := by
  have e : (grid0.coords t 1).val = 0 := (coords_one t).trans h
  unfold dqAt dqAfter envOf; rw [e]; rfl

/-- Between points: the kept buffers, at what the points so far leave, and the generator. -/
def PhiS (c : Dev nD) (n : ℕ) : sProp (𝕄 F) :=
  iprop(∃ s : Kept F, ⌜n ≠ 0 → s = kept m c n⌝
    ∗ heldKept c (Memref.whole cc0_scratch0) (Memref.whole cc0_scratch1) (Memref.whole cc0_scratch2) (Memref.whole cc0_scratch3) (Memref.whole cc0_scratch4) s
    ∗ ∃ r, prngReg c r)

theorem PhiA_eq (c : Dev nD) : (Pipeline.ΦA spec0 c : sProp (𝕄 F))
    = iprop(iprop((∃ d, owns c.tc (Memref.whole cc0_scratch1) fullShare d) ∗ (∃ d, owns c.tc (Memref.whole cc0_scratch2) fullShare d)
        ∗ (∃ d, owns c.tc (Memref.whole cc0_scratch3) fullShare d) ∗ (∃ d, owns c.tc (Memref.whole cc0_scratch4) fullShare d)
        ∗ (∃ d, owns c.tc (Memref.whole cc0_scratch0) fullShare d)) ∗ (∃ r, prngReg c r)) := by
  unfold Pipeline.ΦA; rw [scopedRest0_eq]; simp only [owns_whole]; try rfl

/-! ## The pipeline's data -/

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqAt m c t (kept m c t.val)
    | ⟨5, _⟩ => k0_pay73 (kept m c (t.val + 1)).dk
    | ⟨6, _⟩ => k0_pay74 (kept m c (t.val + 1)).dv
  Φ t := PhiS m c t.val
  q w := Pipeline.shareOf spec0 w
  owed _ := 0

theorem A_eq (c : Dev nD) (w : Fin (cfg0 (F := F)).W) : (dats m 0 c).A w = V m c (Pipeline.arrRef spec0 w) := by dsimp only [dats]

theorem after0_0 : (dats m 0 c).after 0 t = bq m c t := rfl
theorem after0_1 : (dats m 0 c).after 1 t = bk m c t := rfl
theorem after0_2 : (dats m 0 c).after 2 t = bv m c t := rfl
theorem after0_3 : (dats m 0 c).after 3 t = bg m c t := rfl
theorem after0_4 : (dats m 0 c).after 4 t = dqAt m c t (kept m c t.val) := rfl
theorem after0_5 : (dats m 0 c).after 5 t = k0_pay73 (kept m c (t.val + 1)).dk := rfl
theorem after0_6 : (dats m 0 c).after 6 t = k0_pay74 (kept m c (t.val + 1)).dv := rfl

theorem PhiS_castSucc : (dats m 0 c).Φ t.castSucc = PhiS m c t.val := by
  dsimp only [dats]; rw [Fin.val_castSucc]

/-- An input's buffer holds its block at every point, fetched there or not. -/
theorem before0_0 (d) : (dats m 0 c).before 0 t d = bq m c t :=
  (dats m 0 c).before_in_eq_fetched 0 rfl (fun _ => rfl) (fun _ _ _ => rfl) (fun _ => rfl) t d
theorem before0_1 (d) : (dats m 0 c).before 1 t d = bk m c t :=
  (dats m 0 c).before_in_eq_fetched 1 rfl (fun _ => rfl) (fun _ _ _ => rfl) (fun _ => rfl) t d
theorem before0_2 (d) : (dats m 0 c).before 2 t d = bv m c t :=
  (dats m 0 c).before_in_eq_fetched 2 rfl (fun _ => rfl) (fun _ _ _ => rfl) (fun _ => rfl) t d
theorem before0_3 (d) : (dats m 0 c).before 3 t d = bg m c t :=
  (dats m 0 c).before_in_eq_fetched 3 rfl (fun _ => rfl) (fun _ _ _ => rfl) (fun _ => rfl) t d

abbrev ms0_0 : Memref sig .tc .vmem S1x128x256 .bf16 := win0_0.stage ((cfg0 (F := F)).slots t 0)
abbrev ms0_1 : Memref sig .tc .vmem S1x8192x256 .bf16 := win0_1.stage ((cfg0 (F := F)).slots t 1)
abbrev ms0_2 : Memref sig .tc .vmem S1x8192x256 .bf16 := win0_2.stage ((cfg0 (F := F)).slots t 2)
abbrev ms0_3 : Memref sig .tc .vmem S1x128x256 .bf16 := win0_3.stage ((cfg0 (F := F)).slots t 3)
abbrev ms0_4 : Memref sig .tc .vmem S128x256 .bf16 := win0_4.stage ((cfg0 (F := F)).slots t 4)
abbrev ms0_5 : Memref sig .tc .vmem S8192x256 .bf16 := win0_5.stage ((cfg0 (F := F)).slots t 5)
abbrev ms0_6 : Memref sig .tc .vmem S8192x256 .bf16 := win0_6.stage ((cfg0 (F := F)).slots t 6)

/-! ## The body at a point -/

/-- The body on anything the inputs' blocks, the kept buffers and the results' blocks, with what is kept stated at the point. -/
theorem point_run (o6 : Vec F S128x256 .bf16) (o7 o8 r7 r8 : Vec F S8192x256 .bf16)
    (h7 : (if (grid0.coords t 1).val = 63 then k0_pay73 (kept m c (t.val + 1)).dk else o7) = r7)
    (h8 : (if (grid0.coords t 1).val = 63 then k0_pay74 (kept m c (t.val + 1)).dv else o8) = r8) (K : PUnit → sProp (𝕄 F)) :
    iprop(heldIn c (ms0_0 t) (ms0_1 t) (ms0_2 t) (ms0_3 t) (bq m c t) (bk m c t) (bv m c t) (bg m c t) ∗ PhiS m c t.val
        ∗ heldOut c (ms0_4 t) (ms0_5 t) (ms0_6 t) o6 o7 o8
        ∗ (heldIn c (ms0_0 t) (ms0_1 t) (ms0_2 t) (ms0_3 t) (bq m c t) (bk m c t) (bv m c t) (bg m c t) -∗ PhiS m c (t.val + 1)
          -∗ heldOut c (ms0_4 t) (ms0_5 t) (ms0_6 t) (dqAt m c t (kept m c t.val)) r7 r8 -∗ K ⟨⟩))
      ⊢ wp frame (wpE (defs₀ (F := F)) 𝒱₀ c.tc none) Set.univ (bodyAt0 t) K := by
  unfold PhiS bodyAt0
  subst h7 h8
  iintro ⟨HI, ⟨%s, %hs, HS, Hg⟩, HO, HK⟩
  have e1 : keptAt m c t s = kept m c (t.val + 1) := by
    rw [kept_succ]
    by_cases h : t.val = 0
    · exact keptAt_first m c t (by rw [h]) _ _
    · rw [hs h]
  have e2 : dqAt m c t s = dqAt m c t (kept m c t.val) := by
    by_cases h : t.val = 0
    · exact dqAt_first m c t (by rw [h]) _ _
    · rw [hs h]
  rw [← e1, ← e2]
  iapply (body_run c (grid0.coords t) _ _ _ _ _ _ _ _ _ _ _ _ _ _ _ _ _ _ _ _ _ _ _ _ (bq m c t) (bk m c t) (bv m c t) (bg m c t) s o6 o7 o8 K)
  isplitl [HI]; · iexact HI
  isplitl [HS]; · iexact HS
  isplitl [HO]; · iexact HO
  iintro HI HS HO
  iapply HK $$ [HI] [HS Hg] [HO]
  · iexact HI
  · iexists _
    isplitr
    swap
    · isplitl [HS]; · iexact HS
      iexact Hg
    ipureintro
    exact fun _ => rfl
  · iexact HO

theorem leaves_live (w : Fin (cfg0 (F := F)).W) (h : (cfg0 (F := F)).idle w ((cfg0 (F := F)).grid.coords t) = false) :
    (dats m 0 c).leavesExact w t = owns c.tc (((cfg0 (F := F)).win w).stage ((cfg0 (F := F)).slots t w)) fullShare ((dats m 0 c).after w t) := by
  unfold Dat.leavesExact; rw [h]
theorem live_last (h : (grid0.coords t 1).val = 63) :
    (cfg0 (F := F)).idle 5 ((cfg0 (F := F)).grid.coords t) = false ∧ (cfg0 (F := F)).idle 6 ((cfg0 (F := F)).grid.coords t) = false := by
  have e : (!(k0_cond2 (grid0.coords t) == 1#1)) = false := by rw [(last_iff _).2 h]; rfl
  exact ⟨e, e⟩
theorem idle_else (h : (grid0.coords t 1).val ≠ 63) :
    (cfg0 (F := F)).idle 5 ((cfg0 (F := F)).grid.coords t) = true ∧ (cfg0 (F := F)).idle 6 ((cfg0 (F := F)).grid.coords t) = true := by
  have e : (!(k0_cond2 (grid0.coords t) == 1#1)) = true := by
    rw [show (k0_cond2 (grid0.coords t) == 1#1) = false from beq_false_of_ne (fun h' => h ((last_iff _).1 h'))]; rfl
  exact ⟨e, e⟩

/-- What the body is called with, and what it returns. -/
def bodyPre : sProp (𝕄 F) :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d))
    ∗ (∃ d, owns c.tc (ms0_4 t) fullShare ((dats m 0 c).before 4 t d))
    ∗ (∃ d, owns c.tc (ms0_5 t) fullShare ((dats m 0 c).before 5 t d))
    ∗ (∃ d, owns c.tc (ms0_6 t) fullShare ((dats m 0 c).before 6 t d)))

def bodyPost : sProp (𝕄 F) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 1600000 in
theorem sound_body :
    bodyPre m c t ⊢ wp frame (wpE (defs₀ (F := F)) 𝒱₀ c.tc none) Set.univ (bodyAt0 t) (fun _ => bodyPost m c t) := by
  unfold bodyPre bodyPost
  simp only [before0_0, before0_1, before0_2, before0_3]
  rw [show (dats m 0 c).owesAt () t.succ = (dats m 0 c).owesAt () t.castSucc from rfl]
  rw [show (dats m 0 c).Φ t.succ = PhiS m c (t.val + 1) from rfl, PhiS_castSucc m c t]
  rw [show (dats m 0 c).leavesExact 0 t = owns c.tc (ms0_0 t) fullShare (bq m c t) from
    (leaves_live m c t 0 rfl).trans (by rw [after0_0]; rfl)]
  rw [show (dats m 0 c).leavesExact 1 t = owns c.tc (ms0_1 t) fullShare (bk m c t) from
    (leaves_live m c t 1 rfl).trans (by rw [after0_1]; rfl)]
  rw [show (dats m 0 c).leavesExact 2 t = owns c.tc (ms0_2 t) fullShare (bv m c t) from
    (leaves_live m c t 2 rfl).trans (by rw [after0_2]; rfl)]
  rw [show (dats m 0 c).leavesExact 3 t = owns c.tc (ms0_3 t) fullShare (bg m c t) from
    (leaves_live m c t 3 rfl).trans (by rw [after0_3]; rfl)]
  rw [show (dats m 0 c).leavesExact 4 t = owns c.tc (ms0_4 t) fullShare (dqAt m c t (kept m c t.val)) from
    (leaves_live m c t 4 rfl).trans (by rw [after0_4]; rfl)]
  by_cases h63 : (grid0.coords t 1).val = 63
  · obtain ⟨l5, l6⟩ := live_last (F := F) t h63
    rw [show (dats m 0 c).leavesExact 5 t = owns c.tc (ms0_5 t) fullShare (k0_pay73 (kept m c (t.val + 1)).dk) from
      (leaves_live m c t 5 l5).trans (by rw [after0_5]; rfl)]
    rw [show (dats m 0 c).leavesExact 6 t = owns c.tc (ms0_6 t) fullShare (k0_pay74 (kept m c (t.val + 1)).dv) from
      (leaves_live m c t 6 l6).trans (by rw [after0_6]; rfl)]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (point_run m c t ((dats m 0 c).before 4 t d4) ((dats m 0 c).before 5 t d5) ((dats m 0 c).before 6 t d6) _ _ (if_pos h63) (if_pos h63))
    unfold heldIn heldOut
    isplitl [H0 H1 H2 H3]
    · isplitl [H0]; · iexact H0
      isplitl [H1]; · iexact H1
      isplitl [H2]; · iexact H2
      iexact H3
    isplitl [HΦ]; · iexact HΦ
    isplitl [H4 H5 H6]
    · isplitl [H4]; · iexact H4
      isplitl [H5]; · iexact H5
      iexact H6
    iintro ⟨H0, H1, H2, H3⟩ HΦ ⟨H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨l5, l6⟩ := idle_else (F := F) t h63
    have n63 : ¬ t.val % 64 = 63 := fun h => h63 ((coords_one t).trans h)
    rw [Dat.leavesExact_idle _ 5 t l5 (Bool.eq_false_iff.2 fun h => n63 ((flush0_5 t).1 h)),
      Dat.leavesExact_idle _ 6 t l6 (Bool.eq_false_iff.2 fun h => n63 ((flush0_6 t).1 h))]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (point_run m c t ((dats m 0 c).before 4 t d4) ((dats m 0 c).before 5 t d5) ((dats m 0 c).before 6 t d6) _ _ (if_neg h63) (if_neg h63))
    unfold heldIn heldOut
    isplitl [H0 H1 H2 H3]
    · isplitl [H0]; · iexact H0
      isplitl [H1]; · iexact H1
      isplitl [H2]; · iexact H2
      iexact H3
    isplitl [HΦ]; · iexact HΦ
    isplitl [H4 H5 H6]
    · isplitl [H4]; · iexact H4
      isplitl [H5]; · iexact H5
      iexact H6
    iintro ⟨H0, H1, H2, H3⟩ HΦ ⟨H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    iexists d6; iexact H6

theorem defs₀_row :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The launch -/

theorem hin (c : Dev nD) : Pipeline.ΦA spec0 c ⊢ (dats m 0 c).Φ 0 := by
  rw [show (dats m 0 c).Φ 0 = PhiS m c 0 from rfl, PhiA_eq]
  unfold PhiS heldKept
  iintro ⟨⟨⟨%d1, H1⟩, ⟨%d2, H2⟩, ⟨%d3, H3⟩, ⟨%d4, H4⟩, ⟨%d0, H0⟩⟩, Hg⟩
  iexists (⟨d0, d1, d2, d3, d4⟩ : Kept F)
  isplitr
  swap
  · isplitl [H0 H1 H2 H3 H4]
    · isplitl [H0]; · iexact H0
      isplitl [H1]; · iexact H1
      isplitl [H2]; · iexact H2
      isplitl [H3]; · iexact H3
      iexact H4
    iexact Hg
  ipureintro
  exact fun h => absurd rfl h

theorem hout (c : Dev nD) : (dats m 0 c).Φ (Fin.last (cfg0 (F := F)).N) ⊢ Pipeline.ΦA spec0 c := by
  rw [show (dats m 0 c).Φ (Fin.last (cfg0 (F := F)).N) = PhiS m c (cfg0 (F := F)).N from rfl, PhiA_eq]
  unfold PhiS heldKept
  iintro ⟨%s, -, ⟨H0, H1, H2, H3, H4⟩, Hg⟩
  isplitr [Hg]
  · isplitl [H1]; · iexists _; iexact H1
    isplitl [H2]; · iexists _; iexact H2
    isplitl [H3]; · iexists _; iexact H3
    isplitl [H4]; · iexists _; iexact H4
    iexists _; iexact H0
  iexact Hg

set_option backward.isDefEq.respectTransparency.types false in
set_option maxHeartbeats 800000 in
/-- The launch: every array at what the points leave in it, and every counter at zero. -/
theorem run_main_quiescent : θ_run defs (onTc (τ := τ) (main (F := F))) (s₀ m ρ)
    (fun r => (Pipeline.FramePost (cfgs (F := F)) (dats m) 0 (V m)) r ∧ r.2.sem = fun _ => 0) :=
  Pipeline.θ_run_frame_track_shared (Q' := _) (cfgs (F := F)) (dats m) (0 : Fin 1) launch₀0 defs₀ 𝒱₀ m ρ main
    (hbody := fun c => (body_obligation m c).loose) (hq := fun _ _ _ => rfl)
    (howed := fun _ _ => rfl) (V := V m) (hmain := hmain m) (hA := A_eq m) (hin := hin m) (hout := hout m)

theorem run_main : θ_run defs (onTc (τ := τ) (main (F := F))) (s₀ m ρ) (Pipeline.FramePost (cfgs (F := F)) (dats m) 0 (V m)) :=
  (θ_run defs _ _).mono (fun _ h => h.1) (run_main_quiescent m ρ)

/-- The arguments end as they were. -/
theorem unchanged_of {r : PUnit × MemSt nD τ sig (Elt F)} (h : Pipeline.FramePost (cfgs (F := F)) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide : ∀ w : Fin 7, (spec0 w).arr.view.ref ≠ main_arg0))).trans (V_args m c).1,
    ((h c).2 main_arg1 (Pipeline.mem_restRefs_of main_arg1 (by decide) (by decide : ∀ w : Fin 7, (spec0 w).arr.view.ref ≠ main_arg1))).trans (V_args m c).2⟩

/-- The frame. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => unchanged_of m h.1 c, h.2⟩) (run_main_quiescent m ρ)

end Cert.Attn

end
-- ==== Proof.AttnCanon.lean ====
/-
  One head's step. The kernel's text spells the same functions for either head and for the window next to the block as for
  the two sweeps; here they are one function each, and a block of queries is seen to be two sweeps that start at its own
  end with empty columns.
-/
module

public import proofs.«01_k».proof.Proof.AttnBody

@[expose] public section

noncomputable section

namespace Cert.Attn

open Idealize.ShloMosaic Idealize.ShloMosaic.TcCoe
open Cert.Blocks Cert.KernelAttnIdeal Cert.KernelAttnIdeal.Gen

variable {F : FTy → Type} [FloatOps F] [Named F]

/-! ## The functions of one head -/

/-- `exp (-|z|)`. -/
def ex (z : FVec F S128x384 .f32) : FVec F S128x384 .f32 :=
  exp (subf (broadcast S128x384 zero) (absf z))

/-- The logarithm of the part that is not kept. -/
def nl (z : FVec F S128x384 .f32) : FVec F S128x384 .f32 := k0_pay98 z (ex z)

/-- The weights, -/
def wt (r : FVec F S128x1 .f32) (z : FVec F S128x384 .f32) (su : Vec F S384x384 .bf16) : FVec F S128x384 .f32 :=
  k0_pay84 r z (ex z) su

/-- the gradients of their logarithms, -/
def dl (r : FVec F S128x1 .f32) (p z : FVec F S128x384 .f32) (su : Vec F S384x384 .bf16) : FVec F S128x384 .f32 :=
  mulf (wt r z su) p

/-- the gradients of the scores, -/
def dzs (T t : FVec F S128x1 .f32) (z d : FVec F S128x384 .f32) (ss : Vec F S384x384 .bf16) : FVec F S128x384 .bf16 :=
  k0_pay104 T t z (ex z) d ss

/-- a column with the sums of the rows added, -/
def colAdd (r : FVec F S128x1 .f32) (x : FVec F S128x384 .f32) : FVec F S128x1 .f32 := k0_pay102 r x

/-- and the transposed product added to an accumulator's window. -/
def accAdd (w : FVec F S128x384 .bf16) (g : FVec F S128x128 .bf16) (x : Vec F S384x128 .f32) : FVec F S384x128 .f32 :=
  k0_pay14 g w x

/-- The sweep's functions for one head: half `c` of the slabs, `n` blocks left. -/
def zz (pos : IVec S128x1 32) (q : FVec F S128x128 .bf16) (k : Vec F S1x8192x256 .bf16) (c n : ℕ) : FVec F S128x384 .f32 :=
  k0_pay93 pos q (hi n) (rows k n c)

def pp (g : FVec F S128x128 .bf16) (v : Vec F S1x8192x256 .bf16) (c n : ℕ) : FVec F S128x384 .f32 := k0_pay90 g (rows v n c)

/-- What one head's columns become. -/
def stepR (pos : IVec S128x1 32) (q : FVec F S128x128 .bf16) (k : Vec F S1x8192x256 .bf16) (c n : ℕ) (r : FVec F S128x1 .f32) :
    FVec F S128x1 .f32 := colAdd r (nl (zz pos q k c n))

def lls (pos : IVec S128x1 32) (q g : FVec F S128x128 .bf16) (k v : Vec F S1x8192x256 .bf16) (su : Vec F S384x384 .bf16) (c n : ℕ)
    (r : FVec F S128x1 .f32) : FVec F S128x384 .f32 := dl r (pp g v c n) (zz pos q k c n) su

def stepT (pos : IVec S128x1 32) (q g : FVec F S128x128 .bf16) (k v : Vec F S1x8192x256 .bf16) (su : Vec F S384x384 .bf16) (c n : ℕ)
    (r t : FVec F S128x1 .f32) : FVec F S128x1 .f32 := colAdd t (lls pos q g k v su c n r)

def stepV (pos : IVec S128x1 32) (q g : FVec F S128x128 .bf16) (k : Vec F S1x8192x256 .bf16) (su : Vec F S384x384 .bf16) (c n : ℕ)
    (r : FVec F S128x1 .f32) (x : Vec F S384x128 .f32) : FVec F S384x128 .f32 :=
  accAdd (truncf .bf16 (wt r (zz pos q k c n) su) bitsLt_bf16_f32) g x

def stepZ (pos : IVec S128x1 32) (q g : FVec F S128x128 .bf16) (k v : Vec F S1x8192x256 .bf16) (su ss : Vec F S384x384 .bf16) (c n : ℕ)
    (T r t : FVec F S128x1 .f32) : FVec F S128x384 .bf16 := dzs T t (zz pos q k c n) (lls pos q g k v su c n r) ss

def stepQ (pos : IVec S128x1 32) (q g : FVec F S128x128 .bf16) (k v : Vec F S1x8192x256 .bf16) (su ss : Vec F S384x384 .bf16) (c n : ℕ)
    (T r t : FVec F S128x1 .f32) (d : FVec F S128x128 .f32) : FVec F S128x128 .f32 :=
  k0_pay12 d (k0_pay88 (rows k n c)) (stepZ pos q g k v su ss c n T r t)

/-! ## The two loops by them -/

section Loops

variable (e : Env F) (n : ℕ) (s : Cols F)

theorem colStep1_eq : colStep1 e n s =
    ⟨stepR e.pos e.q0 e.k 0 n s.r0, stepR e.pos e.q1 e.k 1 n s.r1, stepT e.pos e.q0 e.g0 e.k e.v e.su 0 n s.r0 s.t0,
      stepT e.pos e.q1 e.g1 e.k e.v e.su 1 n s.r1 s.t1⟩ := rfl

theorem accStep1_eq (dv : Vec F S8192x256 .f32) : accStep1 e n s dv =
    (let dv' := aput dv n 0 (stepV e.pos e.q0 e.g0 e.k e.su 0 n s.r0 (arows dv n 0))
     aput dv' n 1 (stepV e.pos e.q1 e.g1 e.k e.su 1 n s.r1 (arows dv' n 1))) := rfl

theorem colStep2_eq : colStep2 e n s = colStep1 e n s := rfl

theorem dqStep2_eq (T0 T1 : FVec F S128x1 .f32) (d : Dqs F) : dqStep2 e T0 T1 n s d =
    ⟨stepQ e.pos e.q0 e.g0 e.k e.v e.su e.ss 0 n T0 s.r0 s.t0 d.d0, stepQ e.pos e.q1 e.g1 e.k e.v e.su e.ss 1 n T1 s.r1 s.t1 d.d1⟩ := rfl

theorem accStep2_eq (T0 T1 : FVec F S128x1 .f32) (dk : Vec F S8192x256 .f32) : accStep2 e T0 T1 n s dk =
    (let dk' := aput dk n 0 (accAdd (stepZ e.pos e.q0 e.g0 e.k e.v e.su e.ss 0 n T0 s.r0 s.t0) e.q0 (arows dk n 0))
     aput dk' n 1 (accAdd (stepZ e.pos e.q1 e.g1 e.k e.v e.su e.ss 1 n T1 s.r1 s.t1) e.q1 (arows dk' n 1))) := rfl

end Loops

/-! ## The window next to the block is a step from empty columns -/

/-- Empty columns. -/
def none4 : Cols F := ⟨k0_pay31, k0_pay31, k0_pay31, k0_pay31⟩

theorem mask_eq (i : ℕ) (hi' : i < 64) : k0_pay39 (wi i) = k0_pay77 (k0_pay33 (wi i)) (hi (i + 1)) := by
  rw [← hi_block ⟨i, hi'⟩]; rfl

section First

variable (e : Env F) (i : ℕ) (hi' : i < 64) (he : e.pos = k0_pay33 (wi i))
include hi' he

theorem fz0_eq : fz0 e i = zz e.pos e.q0 e.k 0 (i + 1) := by
  unfold fz0 k0_pay40 zz k0_pay93; dsimp only; rw [mask_eq i hi', he]; rfl

theorem fz1_eq : k0_pay41 (fz1 e i) (fm i) = zz e.pos e.q1 e.k 1 (i + 1) := by
  unfold fz1 fm k0_pay41 zz k0_pay93; dsimp only; rw [mask_eq i hi', he]; rfl

theorem firstCols_eq : firstCols e i = colStep1 e (i + 1) none4 := by
  rw [colStep1_eq]; unfold stepR stepT lls
  rw [← fz0_eq e i hi' he, ← fz1_eq e i hi' he]; rfl

theorem firstDv_eq (dv : Vec F S8192x256 .f32) : firstDv e i dv = accStep1 e (i + 1) none4 dv := by
  rw [accStep1_eq]; unfold stepV
  rw [← fz0_eq e i hi' he, ← fz1_eq e i hi' he]; rfl

theorem secondCols_eq : secondCols e i = colStep2 e (i + 1) none4 := by
  rw [colStep2_eq, colStep1_eq]; unfold stepR stepT lls
  rw [← fz0_eq e i hi' he, ← fz1_eq e i hi' he]; rfl

theorem firstDq_eq (T0 T1 : FVec F S128x1 .f32) : firstDq e T0 T1 i = dqStep2 e T0 T1 (i + 1) none4 ⟨k0_pay60, k0_pay60⟩ := by
  rw [dqStep2_eq]; unfold stepQ stepZ lls
  rw [← fz0_eq e i hi' he, ← fz1_eq e i hi' he]; rfl

theorem firstDk_eq (T0 T1 : FVec F S128x1 .f32) (dk : Vec F S8192x256 .f32) : firstDk e T0 T1 i dk = accStep2 e T0 T1 (i + 1) none4 dk := by
  rw [accStep2_eq]; unfold stepZ lls
  rw [← fz0_eq e i hi' he, ← fz1_eq e i hi' he]; rfl

end First

end Cert.Attn

end
-- ==== Proof.AttnMath.lean ====
/-
  The attention's gradients over the reals, for one head: positions are natural numbers, query `t` sees the keys `s < t`.
  `keep` is the logarithm of the part a key leaves to the earlier ones, `wgt` the weight of a key, `gl` the gradient of its
  logarithm, `gz` the gradient of the score.
-/
module

public import proofs.«01_k».proof.Proof.Common

@[expose] public section

noncomputable section

namespace Cert.AttnMath

open Finset Cert.Common

/-- One head's rows: queries, incoming gradients, keys, values. -/
structure Head where
  q : ℕ → Fin 128 → ℝ
  g : ℕ → Fin 128 → ℝ
  k : ℕ → Fin 128 → ℝ
  v : ℕ → Fin 128 → ℝ

variable (H : Head)

def z (t s : ℕ) : ℝ := (∑ d, H.q t d * H.k s d) * scale

def exz (x : ℝ) : ℝ := Real.exp (-|x|)

/-- `-log (1 + exp x)`. -/
def nlz (x : ℝ) : ℝ := 0 - (max x 0 + Real.log (1 + exz x))

/-- The logistic function of `x`, spelt by the magnitude. -/
def sig (x : ℝ) : ℝ := if 0 ≤ x then 1 / (1 + exz x) else exz x * (1 / (1 + exz x))

def keep (t s : ℕ) : ℝ := nlz (z H t s)

def wgt (t s : ℕ) : ℝ := Real.exp (z H t s + ∑ r ∈ Ico s t, keep H t r)

def gp (t s : ℕ) : ℝ := ∑ d, H.g t d * H.v s d

def gl (t s : ℕ) : ℝ := wgt H t s * gp H t s

def gz (t s : ℕ) : ℝ := (gl H t s - sig (z H t s) * ∑ r ∈ range (s + 1), gl H t r) * scale

/-! ## The heads of packed arguments -/

/-- Head `h` of real arguments: `X` the packed queries, keys and values, `Y` the incoming gradients. -/
def head (X Y : ℕ → ℕ → ℝ) (h : ℕ) : Head where
  q t d := X t (128 * h + d.val)
  g t d := Y t (128 * h + d.val)
  k s d := X s (2048 + 128 * h + d.val)
  v s d := X s (4096 + 128 * h + d.val)

/-- Which head a column of a result belongs to, and which of its columns it is. -/
def hd (X Y : ℕ → ℕ → ℝ) (x : Fin 2048) : Head := head X Y (x.val / 128)
def ix (x : Fin 2048) : Fin 128 := ⟨x.val % 128, by omega⟩

/-! ## Windows of keys -/

/-- A window's sum, of the keys from `lo + j` to `m`. -/
theorem sum_window (f : ℕ → ℝ) (lo m j : ℕ) (hm : m ≤ lo + 384) :
    (∑ x : Fin 384, if j ≤ x.val ∧ lo + x.val < m then f (lo + x.val) else 0) = ∑ r ∈ Ico (lo + j) m, f r := by
  rw [Fin.sum_univ_eq_sum_range (fun x => if j ≤ x ∧ lo + x < m then f (lo + x) else 0) 384, ← Finset.sum_filter]
  refine Finset.sum_bij (fun x _ => lo + x) ?_ ?_ ?_ ?_
  · intro a ha; simp only [mem_filter, mem_range, mem_Ico] at ha ⊢; omega
  · intro a _ b _ h; omega
  · intro b hb; simp only [mem_Ico] at hb
    refine ⟨b - lo, ?_, by omega⟩
    simp only [mem_filter, mem_range]; omega
  · intro a _; rfl

/-- A window's keys below `hi`, and the ones from `hi` on. -/
theorem sum_ico_min (f : ℕ → ℝ) (lo hi t : ℕ) (h : lo ≤ hi) :
    (∑ r ∈ Ico lo (min t hi), f r) + ∑ r ∈ Ico hi t, f r = ∑ r ∈ Ico lo t, f r := by
  rcases le_total t hi with ht | ht
  · rw [min_eq_left ht, Ico_eq_empty_of_le ht, sum_empty, add_zero]
  · rw [min_eq_right ht, sum_Ico_consecutive _ h ht]

/-- The sum up to a key is the total without the later windows and without the later keys of its own window. -/
theorem sum_upto (f : ℕ → ℝ) (s hi t : ℕ) (h : s < min t hi) :
    (∑ r ∈ Ico 0 t, f r) - (∑ r ∈ Ico hi t, f r) - (∑ r ∈ Ico (s + 1) (min t hi), f r) = ∑ r ∈ range (s + 1), f r := by
  have h1 := sum_ico_min f (s + 1) hi t (by have := lt_of_lt_of_le h (min_le_right _ _); omega)
  have h2 : (∑ r ∈ Ico 0 (s + 1), f r) + ∑ r ∈ Ico (s + 1) t, f r = ∑ r ∈ Ico 0 t, f r :=
    sum_Ico_consecutive _ (Nat.zero_le _) (by have := lt_of_lt_of_le h (min_le_left _ _); omega)
  rw [range_eq_Ico, ← h2, ← h1]; ring

end Cert.AttnMath

end
-- ==== Proof.AttnLive.lean ====
/-
  What the attention's forward and backward kernels and their references share: word arithmetic on positions, the keys a query
  sees, masked scores, sums against triangles, running columns, and the references' sums over windows.
-/
module

public import proofs.«01_k».proof.Proof.AttnMath
public import Idealize.ShloMosaic.Lib.Pointwise
public import Idealize.ShloMosaic.Lib.WordArith

@[expose] public section

set_option maxRecDepth 16384

noncomputable section

namespace Cert.AttnMath

open Idealize.ShloMosaic Idealize.ShloMosaic.TcCoe Cert.Common

/-- Heads by queries by keys. -/
abbrev T : Shape := ⟨3, ![16, 8192, 8192]⟩

/-- Query `a` of block `i` sees key `j` of the window that ends with block `n`. -/
abbrev live (i n : ℕ) (a : Fin 128) (j : Fin 384) : Prop := 128 * (n - 3) + j.val < min (128 * i + a.val) (128 * n)

theorem slt_ofNat (x y : ℕ) (hx : x < 2 ^ 31) (hy : y < 2 ^ 31) :
    (BitVec.ofNat 32 x).slt (BitVec.ofNat 32 y) = decide (x < y) := by
  rw [BitVec.slt, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

theorem sle_ofNat (x y : ℕ) (hx : x < 2 ^ 31) (hy : y < 2 ^ 31) :
    (BitVec.ofNat 32 x).sle (BitVec.ofNat 32 y) = decide (x ≤ y) := by
  rw [BitVec.sle, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

theorem minsi_ofNat (x y : ℕ) (hx : x < 2 ^ 31) (hy : y < 2 ^ 31) :
    IntOp.minsi (BitVec.ofNat 32 x) (BitVec.ofNat 32 y) = BitVec.ofNat 32 (min x y) := by
  unfold IntOp.minsi; rw [slt_ofNat x y hx hy]
  by_cases h : x < y
  · rw [if_pos (by simpa using h), min_eq_left h.le]
  · rw [if_neg (by simpa using h), min_eq_right (not_lt.1 h)]

theorem subi_ofNat (x y : ℕ) (h : y ≤ x) : IntOp.subi (BitVec.ofNat 32 x) (BitVec.ofNat 32 y) = BitVec.ofNat 32 (x - y) := by
  unfold IntOp.subi
  obtain ⟨d, rfl⟩ := Nat.exists_eq_add_of_le h
  rw [Nat.add_sub_cancel_left, BitVec.ofNat_add, BitVec.add_comm, BitVec.add_sub_cancel]

theorem sitofp_one : (FloatOps.sitofp (F := Ideal) .f32 (BitVec.setWidth 32 (1#1))) = ((1 : ℝ) : EReal) := by
  show (((BitVec.setWidth 32 (1#1)).toInt : ℝ) : EReal) = _
  rw [show (BitVec.setWidth 32 (1#1)).toInt = 1 by decide, Int.cast_one]

theorem sitofp_zero : (FloatOps.sitofp (F := Ideal) .f32 (BitVec.setWidth 32 (0#1))) = ((0 : ℝ) : EReal) := by
  show (((BitVec.setWidth 32 (0#1)).toInt : ℝ) : EReal) = _
  rw [show (BitVec.setWidth 32 (0#1)).toInt = 0 by decide, Int.cast_zero]

/-! ## The elementwise functions -/

/-- Scores that are real where `p` holds and `-∞` elsewhere. -/
def Masked (z : FVec Ideal ⟨2, ![128, 384]⟩ .f32) (p : Fin 128 → Fin 384 → Prop) (Z : Fin 128 → Fin 384 → ℝ) : Prop :=
  ∀ a j, (p a j → z (ix2 a j) = (Z a j : EReal)) ∧ (¬p a j → z (ix2 a j) = ⊥)

theorem one_add_ex (x : ℝ) : 0 < 1 + Real.exp (-|x|) := by positivity

/-- A sum against a matrix of ones and zeros is a sum over the ones. -/
theorem within_apply {x : Fin 384 → EReal} {X : Fin 384 → ℝ} (hx : ∀ j, x j = (X j : EReal)) {s : Fin 384 → EReal} {p : Fin 384 → Prop}
    [∀ j, Decidable (p j)] (hs : ∀ j, s j = ((if p j then 1 else 0 : ℝ) : EReal)) :
    (∑ j, x j * s j + ∑ j, (x j - x j) * s j) = ((∑ j, if p j then X j else 0 : ℝ) : EReal) := by
  have h0 : ∀ j, (x j - x j) * s j = 0 := fun j => by
    rw [hx, ← EReal.coe_sub, sub_self, EReal.coe_zero, zero_mul]
  rw [Finset.sum_congr rfl fun j _ => h0 j, Finset.sum_const_zero, add_zero, ← coe_sum]
  refine Finset.sum_congr rfl fun j _ => ?_
  rw [hx, hs, ← EReal.coe_mul, mul_ite, mul_one, mul_zero]

/-- The largest of some reals that are not negative is one. -/
theorem fold_real {ι : Type} [Fintype ι] (i0 : ι) (f : ι → ℝ) (hf : ∀ i, 0 ≤ f i) :
    ∃ y : ℝ, 0 ≤ y ∧ Finset.fold max (⊥ : EReal) (fun i => (f i : EReal)) Finset.univ = (y : EReal) := by
  have h0 : (0 : EReal) ≤ Finset.fold max (⊥ : EReal) (fun i => (f i : EReal)) Finset.univ :=
    Finset.le_fold_max _ |>.2 (Or.inr ⟨i0, Finset.mem_univ _, EReal.coe_nonneg.2 (hf i0)⟩)
  have h1 : Finset.fold max (⊥ : EReal) (fun i => (f i : EReal)) Finset.univ < ⊤ :=
    Finset.fold_max_lt _ |>.2 ⟨bot_lt_top, fun i _ => EReal.coe_lt_top _⟩
  refine ⟨(Finset.fold max (⊥ : EReal) (fun i => (f i : EReal)) Finset.univ).toReal, EReal.toReal_nonneg h0, ?_⟩
  exact (EReal.coe_toReal h1.ne (fun h => by rw [h] at h0; exact absurd h0 (by simp))).symm

/-! ## Columns -/

/-- A column that holds, for every query of the block, the sum of `f` over its keys from block `n` on. -/
def ColInv (i n : ℕ) (f : ℕ → ℕ → ℝ) (r : FVec Ideal ⟨2, ![128, 1]⟩ .f32) : Prop :=
  ∀ a : Fin 128, r (ix2 a 0) = ((∑ s ∈ Finset.Ico (128 * n) (128 * i + a.val), f (128 * i + a.val) s : ℝ) : EReal)

/-- The part of a window's sum that a query sees. -/
theorem live_sum (i n : ℕ) (hn : n ≤ i + 1) (f : ℕ → ℝ) (a : Fin 128) (j : ℕ) :
    (∑ x : Fin 384, if j ≤ x.val then (if live i n a x then f (128 * (n - 3) + x.val) else 0) else 0)
      = ∑ r ∈ Finset.Ico (128 * (n - 3) + j) (min (128 * i + a.val) (128 * n)), f r := by
  rw [← sum_window f _ _ j (by omega)]
  exact Finset.sum_congr rfl fun x _ => (ite_and _ _ _ _).symm

/-! ## Sums over windows -/

/-- Window positions along the last axis. -/
def winIdx : Fin 8192 ≃ (⟨3, ![1, 1, 8192]⟩ : Shape).Idx where
  toFun n := ix3 (0 : Fin 1) (0 : Fin 1) n
  invFun i := i 2
  left_inv _ := rfl
  right_inv i := (eq_ix3 i).symm ▸ by
    obtain ⟨a, b, n, rfl⟩ : ∃ (a : Fin 1) (b : Fin 1) (n : Fin 8192), i = ix3 a b n := ⟨_, _, _, eq_ix3 i⟩
    rw [Subsingleton.elim a 0, Subsingleton.elim b 0]; rfl

theorem foldl_sum {N : ℕ} (g : Fin N → EReal) : (List.finRange N).foldl (fun r n => r + g n) 0 = ∑ n, g n := by
  rw [Fin.sum_univ_def, List.sum_eq_foldl, List.foldl_map]

theorem window_sum (lo hi : Fin 3 → ℕ) (x : Vec Ideal T .f32)
    (w : Shape.ReduceWindows (s := T) ![1, 1, 8192] ![1, 1, 1] lo hi T) (g : Fin 8192 → EReal) (j : T.Idx)
    (hg : ∀ n : Fin 8192, g n = if hin : ∀ a : Fin 3, lo a ≤ (j a).val * ![1, 1, 1] a + (winIdx n a).val ∧
        (j a).val * ![1, 1, 1] a + (winIdx n a).val - lo a < T.size a then x (fun a => ⟨_, (hin a).2⟩) else 0) :
    Ideal.hostReduceWindowAdd (s := T) ![1, 1, 8192] ![1, 1, 1] lo hi w x 0 j = ∑ n, g n := by
  refine (foldl_sum _).trans ?_
  refine ((Fintype.sum_equiv (winIdx.trans (Shape.rowMajor _)) g _ fun n => ?_)).symm
  rw [hg n]
  simp only [Equiv.trans_apply, Equiv.symm_apply_apply]
  rfl

/-- The sum from a position on, -/
theorem window_from (x : Vec Ideal T .f32) (f : Fin 16 → ℕ → ℕ → ℝ)
    (hx : ∀ h (t s : Fin 8192), x (ix3 h t s) = (f h t.val s.val : EReal))
    (w : Shape.ReduceWindows (s := T) ![1, 1, 8192] ![1, 1, 1] ![0, 0, 0] ![0, 0, 8191] T) (h : Fin 16) (t s : Fin 8192) :
    Ideal.hostReduceWindowAdd (s := T) ![1, 1, 8192] ![1, 1, 1] ![0, 0, 0] ![0, 0, 8191] w x 0 (ix3 h t s)
      = ((∑ r ∈ Finset.Ico s.val 8192, f h t.val r : ℝ) : EReal) := by
  refine (window_sum _ _ _ _ (fun n => ((if s.val + n.val < 8192 then f h t.val (s.val + n.val) else 0 : ℝ) : EReal)) _ fun n => ?_).trans ?_
  · by_cases hn : s.val + n.val < 8192
    · rw [if_pos hn, dif_pos (fun a => by
        match a with
        | ⟨0, _⟩ => show 0 ≤ h.val * 1 + 0 ∧ h.val * 1 + 0 - 0 < 16; omega
        | ⟨1, _⟩ => show 0 ≤ t.val * 1 + 0 ∧ t.val * 1 + 0 - 0 < 8192; omega
        | ⟨2, _⟩ => show 0 ≤ s.val * 1 + n.val ∧ s.val * 1 + n.val - 0 < 8192; omega)]
      refine (hx h t ⟨s.val + n.val, hn⟩).symm.trans ?_
      congr 1; funext a; apply Fin.ext
      match a with
      | ⟨0, _⟩ => show h.val = h.val * 1 + 0 - 0; omega
      | ⟨1, _⟩ => show t.val = t.val * 1 + 0 - 0; omega
      | ⟨2, _⟩ => show s.val + n.val = s.val * 1 + n.val - 0; omega
    · rw [if_neg hn, dif_neg (fun hin => hn (by
        have h2 : 0 ≤ s.val * 1 + n.val ∧ s.val * 1 + n.val - 0 < 8192 := hin 2
        omega)), EReal.coe_zero]
  · rw [coe_sum, Fin.sum_univ_eq_sum_range (fun n => if s.val + n < 8192 then f h t.val (s.val + n) else 0) 8192, ← Finset.sum_filter, Finset.sum_Ico_eq_sum_range]
    congr 2; ext n; simp only [Finset.mem_filter, Finset.mem_range]; omega

/-- and the sum up to a position. -/
theorem window_upto (x : Vec Ideal T .f32) (f : Fin 16 → ℕ → ℕ → ℝ)
    (hx : ∀ h (t s : Fin 8192), x (ix3 h t s) = (f h t.val s.val : EReal))
    (w : Shape.ReduceWindows (s := T) ![1, 1, 8192] ![1, 1, 1] ![0, 0, 8191] ![0, 0, 0] T) (h : Fin 16) (t s : Fin 8192) :
    Ideal.hostReduceWindowAdd (s := T) ![1, 1, 8192] ![1, 1, 1] ![0, 0, 8191] ![0, 0, 0] w x 0 (ix3 h t s)
      = ((∑ r ∈ Finset.range (s.val + 1), f h t.val r : ℝ) : EReal) := by
  refine (window_sum _ _ _ _ (fun n => ((if 8191 ≤ s.val + n.val then f h t.val (s.val + n.val - 8191) else 0 : ℝ) : EReal)) _ fun n => ?_).trans ?_
  · by_cases hn : 8191 ≤ s.val + n.val
    · rw [if_pos hn, dif_pos (fun a => by
        match a with
        | ⟨0, _⟩ => show 0 ≤ h.val * 1 + 0 ∧ h.val * 1 + 0 - 0 < 16; omega
        | ⟨1, _⟩ => show 0 ≤ t.val * 1 + 0 ∧ t.val * 1 + 0 - 0 < 8192; omega
        | ⟨2, _⟩ => show 8191 ≤ s.val * 1 + n.val ∧ s.val * 1 + n.val - 8191 < 8192; omega)]
      refine (hx h t ⟨s.val + n.val - 8191, by omega⟩).symm.trans ?_
      congr 1; funext a; apply Fin.ext
      match a with
      | ⟨0, _⟩ => show h.val = h.val * 1 + 0 - 0; omega
      | ⟨1, _⟩ => show t.val = t.val * 1 + 0 - 0; omega
      | ⟨2, _⟩ => show s.val + n.val - 8191 = s.val * 1 + n.val - 8191; omega
    · rw [if_neg hn, dif_neg (fun hin => hn (by
        have h2 : 8191 ≤ s.val * 1 + n.val ∧ s.val * 1 + n.val - 8191 < 8192 := hin 2
        omega)), EReal.coe_zero]
  · rw [coe_sum, Fin.sum_univ_eq_sum_range (fun n => if 8191 ≤ s.val + n then f h t.val (s.val + n - 8191) else 0) 8192]
    refine EReal.coe_eq_coe_iff.2 ?_
    have e := Finset.sum_range_add (fun n => if 8191 ≤ s.val + n then f h t.val (s.val + n - 8191) else 0) (8191 - s.val) (s.val + 1)
    rw [show (8191 - s.val) + (s.val + 1) = 8192 by omega] at e
    rw [e, Finset.sum_eq_zero (fun n hn => if_neg (by simp only [Finset.mem_range] at hn; omega)), zero_add]
    refine Finset.sum_congr rfl fun n hn => ?_
    rw [if_pos (by omega)]
    exact congrArg (f h t.val) (by omega)

end Cert.AttnMath

end
-- ==== Proof.AttnReal.lean ====
/-
  One head's step on reals. A window of 384 keys that ends with block `n` starts at key `128 (n - 3)`; a query sees its keys
  below its own position and below the window's end, the others are masked with `-∞`.
-/
module

public import proofs.«01_k».proof.Proof.AttnCanon
public import proofs.«01_k».proof.Proof.AttnLive
public import Idealize.ShloMosaic.Lib.Pointwise
public import Idealize.ShloMosaic.Lib.WordArith

@[expose] public section

noncomputable section

namespace Cert.Attn

open Idealize.ShloMosaic Idealize.ShloMosaic.TcCoe
open Cert.Blocks Cert.KernelAttnIdeal Cert.KernelAttnIdeal.Gen Cert.AttnMath Cert.Common

theorem mask_apply (i n : ℕ) (hi64 : i < 64) (hn : n ≤ i + 1) (a : Fin 128) (j : Fin 384) :
    k0_pay77 (k0_pay33 (wi i)) (hi n) (ix2 a j) = if live i n a j then 1#1 else 0#1 := by
  pointwise [k0_pay77, k0_pay33]
  rw [hi_next n (by omega), show IntOp.addi (Scalar.muli (wi i) 128#32) (BitVec.ofNat 32 a.val) = BitVec.ofNat 32 (128 * i + a.val) by
    show BitVec.ofNat 32 i * BitVec.ofNat 32 128 + _ = _
    rw [BitVec.ofNat_add, BitVec.ofNat_mul, BitVec.mul_comm],
    minsi_ofNat _ _ (by omega) (by omega), subi_ofNat _ _ (by omega)]
  unfold IntOp.cmpi; dsimp only
  rw [slt_ofNat _ _ (by omega) (by omega)]
  by_cases h : live i n a j
  · rw [if_pos h, decide_eq_true (by unfold live at h; omega)]; rfl
  · rw [if_neg h, decide_eq_false (by unfold live at h; omega)]; rfl

/-! ## The elementwise functions -/

section Scalars

variable {z : FVec Ideal S128x384 .f32} {Z : Fin 128 → Fin 384 → ℝ} {p : Fin 128 → Fin 384 → Prop} [∀ a j, Decidable (p a j)]

theorem nl_apply (hz : Masked z p Z) (a : Fin 128) (j : Fin 384) :
    nl z (ix2 a j) = ((if p a j then nlz (Z a j) else 0 : ℝ) : EReal) := by
  pointwise [nl, k0_pay98, ex]
  rw [Ideal.absf_def]
  by_cases h : p a j
  · rw [if_pos h, (hz a j).1 h, abs_real, ← EReal.coe_zero, ← EReal.coe_one, ← EReal.coe_sub, Ideal.exp_coe, ← EReal.coe_add, zero_sub]
    rw [log_real (one_add_ex (Z a j)), max_real, ← EReal.coe_add, ← EReal.coe_sub]; rfl
  · rw [if_neg h, (hz a j).2 h]
    simp [← EReal.coe_one, log_real]

theorem wt_apply {r : FVec Ideal S128x1 .f32} {su : Vec Ideal S384x384 .bf16} {R : Fin 128 → ℝ} (hz : Masked z p Z)
    (hr : ∀ a, r (ix2 a 0) = (R a : EReal)) (hs : ∀ x j : Fin 384, su (ix2 x j) = ((if j.val ≤ x.val then 1 else 0 : ℝ) : EReal))
    (a : Fin 128) (j : Fin 384) :
    wt r z su (ix2 a j) = ((if p a j then Real.exp (Z a j + ((∑ x : Fin 384, if j.val ≤ x.val then (if p a x then nlz (Z a x) else 0) else 0) + R a))
      else 0 : ℝ) : EReal) := by
  pointwise [wt, k0_pay84]
  have hn : ∀ x, k0_pay82 z (ex z) (ix2 a x) = ((if p a x then nlz (Z a x) else 0 : ℝ) : EReal) := nl_apply hz a
  rw [within_apply hn (fun x => hs x j), hr, ← EReal.coe_add]
  by_cases h : p a j
  · rw [if_pos h, (hz a j).1 h, ← EReal.coe_add, Ideal.exp_coe]
  · rw [if_neg h, (hz a j).2 h, EReal.bot_add, Ideal.exp_bot, EReal.coe_zero]

theorem dzs_apply {T t : FVec Ideal S128x1 .f32} {d : FVec Ideal S128x384 .f32} {ss : Vec Ideal S384x384 .bf16} {RT Rt : Fin 128 → ℝ}
    {D : Fin 128 → Fin 384 → ℝ} (hz : Masked z p Z)
    (hT : ∀ a, T (ix2 a 0) = (RT a : EReal)) (ht : ∀ a, t (ix2 a 0) = (Rt a : EReal))
    (hd : ∀ a j, d (ix2 a j) = ((if p a j then D a j else 0 : ℝ) : EReal))
    (hs : ∀ x j : Fin 384, ss (ix2 x j) = ((if j.val < x.val then 1 else 0 : ℝ) : EReal)) (a : Fin 128) (j : Fin 384) :
    dzs T t z d ss (ix2 a j) = ((if p a j then (D a j - sig (Z a j) * (RT a - Rt a -
      ∑ x : Fin 384, if j.val < x.val then (if p a x then D a x else 0) else 0)) * scale else 0 : ℝ) : EReal) := by
  pointwise [dzs, k0_pay104, ex]
  rw [Ideal.absf_def, within_apply (hd a) (fun x => hs x j), hT, ht, ofBits_scale, hd]
  by_cases h : p a j
  · rw [(hz a j).1 h, abs_real, ← EReal.coe_zero, ← EReal.coe_one, ← EReal.coe_sub, Ideal.exp_coe, ← EReal.coe_add, zero_sub,
      div_real 1 (one_add_ex (Z a j)).ne', ← EReal.coe_mul]
    simp only [EReal.coe_le_coe_iff, if_pos h]
    rw [coe_ite]
    simp only [← EReal.coe_sub, ← EReal.coe_mul]; rfl
  · simp only [(hz a j).2 h, if_neg h]
    simp [← EReal.coe_one, ← EReal.coe_sub]

end Scalars

/-! ## One head's step -/

/-- What the step's vectors hold: the rows of `H`, queries from `128 i` on, keys and values in half `c` of the slabs, and the
    two triangles of ones. -/
structure At (H : Head) (i c : ℕ) (q g : FVec Ideal S128x128 .bf16) (k v : Vec Ideal S1x8192x256 .bf16) (su ss : Vec Ideal S384x384 .bf16) :
    Prop where
  q : ∀ (a d : Fin 128), q (ix2 a d) = (H.q (128 * i + a.val) d : EReal)
  g : ∀ (a d : Fin 128), g (ix2 a d) = (H.g (128 * i + a.val) d : EReal)
  k : ∀ (s : Fin 8192) (d : Fin 128), k (ix3 (0 : Fin 1) s (⟨min (128 * c + d.val) 255, by omega⟩ : Fin 256)) = (H.k s.val d : EReal)
  v : ∀ (s : Fin 8192) (d : Fin 128), v (ix3 (0 : Fin 1) s (⟨min (128 * c + d.val) 255, by omega⟩ : Fin 256)) = (H.v s.val d : EReal)
  su : ∀ x j : Fin 384, su (ix2 x j) = ((if j.val ≤ x.val then 1 else 0 : ℝ) : EReal)
  ss : ∀ x j : Fin 384, ss (ix2 x j) = ((if j.val < x.val then 1 else 0 : ℝ) : EReal)

theorem colInv_none (i : ℕ) (f : ℕ → ℕ → ℝ) : ColInv i (i + 1) f k0_pay31 := by
  intro a
  pointwise [k0_pay31]
  rw [Finset.Ico_eq_empty_of_le (by omega), Finset.sum_empty, EReal.coe_zero]

section Step

variable {H : Head} {i c n : ℕ} {q g : FVec Ideal S128x128 .bf16} {k v : Vec Ideal S1x8192x256 .bf16}
  {su ss : Vec Ideal S384x384 .bf16} (A : At H i c q g k v su ss) (hi64 : i < 64) (hn : n ≤ i + 1)
include A hi64 hn

theorem rows_k (j : Fin 384) (d : Fin 128) : rows k n c (ix3 (0 : Fin 1) j d) = (H.k (128 * (n - 3) + j.val) d : EReal) := by
  have := A.k ⟨min (128 * (n - 3) + j.val) 8191, by omega⟩ d
  rw [show (H.k (128 * (n - 3) + j.val) d) = H.k (min (128 * (n - 3) + j.val) 8191) d by congr 1; omega]
  exact this

theorem rows_v (j : Fin 384) (d : Fin 128) : rows v n c (ix3 (0 : Fin 1) j d) = (H.v (128 * (n - 3) + j.val) d : EReal) := by
  have := A.v ⟨min (128 * (n - 3) + j.val) 8191, by omega⟩ d
  rw [show (H.v (128 * (n - 3) + j.val) d) = H.v (min (128 * (n - 3) + j.val) 8191) d by congr 1; omega]
  exact this

theorem zz_masked : Masked (zz (k0_pay33 (wi i)) q k c n) (live i n) (fun a j => z H (128 * i + a.val) (128 * (n - 3) + j.val)) := by
  intro a j
  have hm : k0_pay92 (k0_pay33 (wi i)) (hi n) (ix2 a j) = if live i n a j then 1#1 else 0#1 := mask_apply i n hi64 hn a j
  have hz : zz (k0_pay33 (wi i)) q k c n (ix2 a j) = if live i n a j then (z H (128 * i + a.val) (128 * (n - 3) + j.val) : EReal) else ⊥ := by
    pointwise [zz, k0_pay93, k0_pay88]
    rw [hm, IdealRules.named_const.ideal_named_scalar (φ := .f32) κ "mask" 4048155338#32 ⊥ rfl, ofBits_scale]
    simp only [A.q, rows_k A hi64 hn, ← EReal.coe_mul, coe_sum]
    by_cases h : live i n a j
    · rw [if_pos h, if_pos h]; rfl
    · rw [if_neg h, if_neg h]; rfl
  exact ⟨fun h => by rw [hz, if_pos h], fun h => by rw [hz, if_neg h]⟩

theorem pp_apply (a : Fin 128) (j : Fin 384) : pp g v c n (ix2 a j) = (gp H (128 * i + a.val) (128 * (n - 3) + j.val) : EReal) := by
  pointwise [pp, k0_pay90]
  simp only [A.g, rows_v A hi64 hn, ← EReal.coe_mul, coe_sum, gp]

theorem wt_live {r : FVec Ideal S128x1 .f32} (hr : ColInv i n (keep H) r) (a : Fin 128) (j : Fin 384) :
    wt r (zz (k0_pay33 (wi i)) q k c n) su (ix2 a j) =
      ((if live i n a j then wgt H (128 * i + a.val) (128 * (n - 3) + j.val) else 0 : ℝ) : EReal) := by
  rw [wt_apply (zz_masked A hi64 hn) hr A.su]
  refine congrArg _ (if_ctx_congr Iff.rfl (fun hl => ?_) fun _ => rfl)
  have h := live_sum i n hn (keep H (128 * i + a.val)) a j.val
  unfold keep at h ⊢
  rw [h, wgt]; unfold keep
  rw [AttnMath.sum_ico_min _ _ _ _ (by have := lt_of_lt_of_le hl (min_le_right _ _); omega)]

theorem lls_live {r : FVec Ideal S128x1 .f32} (hr : ColInv i n (keep H) r) (a : Fin 128) (j : Fin 384) :
    lls (k0_pay33 (wi i)) q g k v su c n r (ix2 a j) =
      ((if live i n a j then gl H (128 * i + a.val) (128 * (n - 3) + j.val) else 0 : ℝ) : EReal) := by
  pointwise [lls, dl]
  rw [wt_live A hi64 hn hr, pp_apply A hi64 hn, ← EReal.coe_mul, ite_mul, zero_mul]; rfl

theorem colAdd_live {f : ℕ → ℕ → ℝ} {r : FVec Ideal S128x1 .f32} {x : FVec Ideal S128x384 .f32} (hr : ColInv i n f r)
    (hx : ∀ (a : Fin 128) (j : Fin 384), x (ix2 a j) = ((if live i n a j then f (128 * i + a.val) (128 * (n - 3) + j.val) else 0 : ℝ) : EReal)) :
    ColInv i (n - 3) f (colAdd r x) := by
  intro a
  pointwise [colAdd, k0_pay102]
  simp only [hr a, hx a, coe_sum, ← EReal.coe_add]
  have h := live_sum i n hn (f (128 * i + a.val)) a 0
  simp only [Nat.zero_le, if_true, Nat.add_zero] at h
  rw [h, add_comm, AttnMath.sum_ico_min _ _ _ _ (by omega)]

theorem stepR_inv {r : FVec Ideal S128x1 .f32} (hr : ColInv i n (keep H) r) :
    ColInv i (n - 3) (keep H) (stepR (k0_pay33 (wi i)) q k c n r) :=
  colAdd_live A hi64 hn hr fun a j => nl_apply (zz_masked A hi64 hn) a j

theorem stepT_inv {r t : FVec Ideal S128x1 .f32} (hr : ColInv i n (keep H) r) (ht : ColInv i n (gl H) t) :
    ColInv i (n - 3) (gl H) (stepT (k0_pay33 (wi i)) q g k v su c n r t) :=
  colAdd_live A hi64 hn ht fun a j => lls_live A hi64 hn hr a j

theorem stepZ_live {T r t : FVec Ideal S128x1 .f32} (hT : ColInv i 0 (gl H) T) (hr : ColInv i n (keep H) r) (ht : ColInv i n (gl H) t)
    (a : Fin 128) (j : Fin 384) :
    stepZ (k0_pay33 (wi i)) q g k v su ss c n T r t (ix2 a j) =
      ((if live i n a j then gz H (128 * i + a.val) (128 * (n - 3) + j.val) else 0 : ℝ) : EReal) := by
  unfold stepZ
  rw [dzs_apply (zz_masked A hi64 hn) hT ht (lls_live A hi64 hn hr) A.ss]
  refine congrArg _ (if_ctx_congr Iff.rfl (fun h => ?_) fun _ => rfl)
  have h2 := live_sum i n hn (gl H (128 * i + a.val)) a (j.val + 1)
  simp only [Nat.succ_le_iff] at h2
  rw [h2, gz, ← AttnMath.sum_upto (gl H (128 * i + a.val)) _ (128 * n) _ h]; rfl

/-- The query gradients, of the keys from block `n` on. -/
def DqInv (H : Head) (i n : ℕ) (x : FVec Ideal S128x128 .f32) : Prop :=
  ∀ a d : Fin 128, x (ix2 a d) =
    ((∑ s ∈ Finset.Ico (128 * n) (128 * i + a.val), gz H (128 * i + a.val) s * H.k s d : ℝ) : EReal)

theorem stepQ_inv {T r t : FVec Ideal S128x1 .f32} {x : FVec Ideal S128x128 .f32} (hT : ColInv i 0 (gl H) T) (hr : ColInv i n (keep H) r)
    (ht : ColInv i n (gl H) t) (hx : DqInv H i n x) :
    DqInv H i (n - 3) (stepQ (k0_pay33 (wi i)) q g k v su ss c n T r t x) := by
  intro a d
  pointwise [stepQ, k0_pay12, k0_pay88]
  simp only [hx a d, stepZ_live A hi64 hn hT hr ht, rows_k A hi64 hn, ← EReal.coe_mul, coe_sum, ← EReal.coe_add, ite_mul, zero_mul]
  have h := live_sum i n hn (fun s => gz H (128 * i + a.val) s * H.k s d) a 0
  simp only [Nat.zero_le, if_true, Nat.add_zero] at h
  rw [h, add_comm, AttnMath.sum_ico_min _ _ _ _ (by omega)]

omit A hi64 hn in
theorem accAdd_live {w : FVec Ideal S128x384 .bf16} {u : FVec Ideal S128x128 .bf16} {W : Fin 128 → Fin 384 → ℝ} {U : Fin 128 → Fin 128 → ℝ}
    (hw : ∀ a j, w (ix2 a j) = ((if live i n a j then W a j else 0 : ℝ) : EReal)) (hu : ∀ a d, u (ix2 a d) = (U a d : EReal))
    (x : Vec Ideal S384x128 .f32) (j : Fin 384) (d : Fin 128) :
    accAdd w u x (ix2 j d) = x (ix2 j d) + ((∑ a : Fin 128, if live i n a j then W a j * U a d else 0 : ℝ) : EReal) := by
  pointwise [accAdd, k0_pay14]
  simp only [hw, hu, ← EReal.coe_mul, coe_sum, ite_mul, zero_mul]

end Step

end Cert.Attn

end
-- ==== Proof.AttnSweep.lean ====
/-
  The two sweeps of a block of queries on reals: what the columns and the accumulators hold with `n` blocks of keys left,
  and that with the exit's threshold at `-∞` no key is left out.
-/
module

public import proofs.«01_k».proof.Proof.AttnReal

@[expose] public section

noncomputable section

namespace Cert.Attn

open Idealize.ShloMosaic Idealize.ShloMosaic.TcCoe
open Cert.Blocks Cert.KernelAttnIdeal Cert.KernelAttnIdeal.Gen Cert.AttnMath Cert.Common

/-! ## An accumulator's window -/

/-- Column `d` of half `c`. -/
abbrev col (c : Fin 2) (d : Fin 128) : Fin 256 := ⟨128 * c.val + d.val, by omega⟩

theorem arows_apply (x : Vec Ideal S8192x256 .f32) (n : ℕ) (hn : n ≤ 64) (c : Fin 2) (j : Fin 384) (d : Fin 128) :
    arows x n c.val (ix2 j d) = x (ix2 (⟨128 * (n - 3) + j.val, by omega⟩ : Fin 8192) (col c d)) := by
  unfold arows
  congr 1
  funext a; apply Fin.ext
  match a with
  | ⟨0, _⟩ => show min (128 * (n - 3) + j.val) 8191 = _; rw [min_eq_left (by omega)]; rfl
  | ⟨1, _⟩ => show min (128 * c.val + d.val) 255 = _; rw [min_eq_left (by omega)]; rfl

theorem aput_in (x : Vec Ideal S8192x256 .f32) (n : ℕ) {m : ℕ} (c : Fin 2) (hm : m = c.val) (w : Vec Ideal S384x128 .f32) (s : Fin 8192)
    (d : Fin 128) (j : Fin 384) (hj : s.val = 128 * (n - 3) + j.val) :
    aput x n m w (ix2 s (col c d)) = w (ix2 j d) := by
  subst hm
  unfold aput VecWindow.put
  rw [dif_pos (fun a => by
    match a with
    | ⟨0, _⟩ => show 128 * (n - 3) ≤ s.val ∧ s.val < 128 * (n - 3) + 384; omega
    | ⟨1, _⟩ => show 128 * c.val ≤ 128 * c.val + d.val ∧ 128 * c.val + d.val < 128 * c.val + 128; omega)]
  congr 1
  funext a; apply Fin.ext
  match a with
  | ⟨0, _⟩ => show s.val - 128 * (n - 3) = j.val; omega
  | ⟨1, _⟩ => show 128 * c.val + d.val - 128 * c.val = d.val; omega

theorem aput_out (x : Vec Ideal S8192x256 .f32) (n : ℕ) {m : ℕ} (c : Fin 2) (hm : m = c.val) (w : Vec Ideal S384x128 .f32) (s : Fin 8192)
    (c' : Fin 2) (d : Fin 128) (h : c ≠ c' ∨ s.val < 128 * (n - 3) ∨ 128 * (n - 3) + 384 ≤ s.val) :
    aput x n m w (ix2 s (col c' d)) = x (ix2 s (col c' d)) := by
  subst hm
  unfold aput VecWindow.put
  rw [dif_neg fun h' => ?_]
  have h0 : 128 * (n - 3) ≤ s.val ∧ s.val < 128 * (n - 3) + 384 := h' 0
  have h1 : 128 * c.val ≤ 128 * c'.val + d.val ∧ 128 * c'.val + d.val < 128 * c.val + 128 := h' 1
  rcases h with h | h
  · exact h (Fin.ext (by omega))
  · omega

/-- Both heads' windows written one after the other. -/
theorem both_apply (x : Vec Ideal S8192x256 .f32) (n : ℕ) (hn : n ≤ 64) (f0 f1 : Vec Ideal S384x128 .f32 → Vec Ideal S384x128 .f32)
    (W : Fin 2 → Fin 384 → Fin 128 → ℝ) (h0 : ∀ x j d, f0 x (ix2 j d) = x (ix2 j d) + (W 0 j d : EReal))
    (h1 : ∀ x j d, f1 x (ix2 j d) = x (ix2 j d) + (W 1 j d : EReal)) (s : Fin 8192) (c : Fin 2) (d : Fin 128) :
    (let x' := aput x n 0 (f0 (arows x n 0)); aput x' n 1 (f1 (arows x' n 1))) (ix2 s (col c d)) =
      x (ix2 s (col c d)) + ((if h : 128 * (n - 3) ≤ s.val ∧ s.val < 128 * (n - 3) + 384 then W c ⟨s.val - 128 * (n - 3), by omega⟩ d else 0 : ℝ) : EReal) := by
  dsimp only
  by_cases h : 128 * (n - 3) ≤ s.val ∧ s.val < 128 * (n - 3) + 384
  · rw [dif_pos h]
    have e : s.val = 128 * (n - 3) + (⟨s.val - 128 * (n - 3), by omega⟩ : Fin 384).val := by show _ = _ + (_ - _); omega
    have es : (⟨128 * (n - 3) + (⟨s.val - 128 * (n - 3), by omega⟩ : Fin 384).val, by omega⟩ : Fin 8192) = s := Fin.ext e.symm
    obtain rfl | rfl : c = 0 ∨ c = 1 := by omega
    · rw [aput_out (m := 1) _ n 1 rfl _ s 0 d (Or.inl (by decide)), aput_in (m := 0) x n 0 rfl _ s d _ e, h0, show arows x n 0 = arows x n (0 : Fin 2).val from rfl, arows_apply x n hn 0, es]
    · rw [aput_in (m := 1) _ n 1 rfl _ s d _ e, h1, show ∀ y : Vec Ideal S8192x256 .f32, arows y n 1 = arows y n (1 : Fin 2).val from fun _ => rfl, arows_apply _ n hn 1, es, aput_out (m := 0) _ n 0 rfl _ s 1 d (Or.inl (by decide))]
  · rw [dif_neg h, EReal.coe_zero, add_zero, aput_out (m := 1) _ n 1 rfl _ s c d (Or.inr (by omega)), aput_out (m := 0) _ n 0 rfl _ s c d (Or.inr (by omega))]

/-- An accumulator that holds, over what it held first, the block's contributions to the keys from block `n` on. -/
def AccInv (i n : ℕ) (f : Fin 2 → ℕ → ℕ → ℝ) (u : Fin 2 → ℕ → Fin 128 → ℝ) (x0 x : Vec Ideal S8192x256 .f32) : Prop :=
  ∀ (s : Fin 8192) (c : Fin 2) (d : Fin 128), x (ix2 s (col c d)) = x0 (ix2 s (col c d)) +
    ((if 128 * n ≤ s.val then ∑ a : Fin 128, if s.val < 128 * i + a.val then f c (128 * i + a.val) s.val * u c (128 * i + a.val) d else 0
      else 0 : ℝ) : EReal)

theorem accInv_none (i : ℕ) (f : Fin 2 → ℕ → ℕ → ℝ) (u : Fin 2 → ℕ → Fin 128 → ℝ) (x0 : Vec Ideal S8192x256 .f32) :
    AccInv i (i + 1) f u x0 x0 := by
  intro s c d
  rw [show (if 128 * (i + 1) ≤ s.val then ∑ a : Fin 128, if s.val < 128 * i + a.val then f c (128 * i + a.val) s.val * u c (128 * i + a.val) d
    else 0 else 0) = 0 from ?_, EReal.coe_zero, add_zero]
  split
  · exact Finset.sum_eq_zero fun a _ => if_neg (by omega)
  · rfl

theorem acc_step {i n : ℕ} (hi64 : i < 64) (hn : n ≤ i + 1) (f : Fin 2 → ℕ → ℕ → ℝ) (u : Fin 2 → ℕ → Fin 128 → ℝ) {x0 x : Vec Ideal S8192x256 .f32}
    (hx : AccInv i n f u x0 x) {w0 w1 : FVec Ideal S128x384 .bf16} {u0 u1 : FVec Ideal S128x128 .bf16}
    (hw0 : ∀ (a : Fin 128) (j : Fin 384), w0 (ix2 a j) = ((if live i n a j then f 0 (128 * i + a.val) (128 * (n - 3) + j.val) else 0 : ℝ) : EReal))
    (hw1 : ∀ (a : Fin 128) (j : Fin 384), w1 (ix2 a j) = ((if live i n a j then f 1 (128 * i + a.val) (128 * (n - 3) + j.val) else 0 : ℝ) : EReal))
    (hu0 : ∀ a d, u0 (ix2 a d) = (u 0 (128 * i + a.val) d : EReal)) (hu1 : ∀ a d, u1 (ix2 a d) = (u 1 (128 * i + a.val) d : EReal)) :
    AccInv i (n - 3) f u x0 (let x' := aput x n 0 (accAdd w0 u0 (arows x n 0)); aput x' n 1 (accAdd w1 u1 (arows x' n 1))) := by
  intro s c d
  rw [both_apply x n (by omega) (accAdd w0 u0) (accAdd w1 u1)
    (fun c j d => ∑ a : Fin 128, if live i n a j then f c (128 * i + a.val) (128 * (n - 3) + j.val) * u c (128 * i + a.val) d else 0)
    (fun x j d => accAdd_live hw0 hu0 x j d) (fun x j d => accAdd_live hw1 hu1 x j d), hx s c d, add_assoc, ← EReal.coe_add]
  congr 2
  by_cases h1 : 128 * n ≤ s.val
  · rw [if_pos h1, if_pos (by omega)]
    split
    · rename_i h
      rw [add_eq_left]
      exact Finset.sum_eq_zero fun a _ => if_neg (by
        show ¬(128 * (n - 3) + (s.val - 128 * (n - 3)) < _); omega)
    · exact add_zero _
  · rw [if_neg h1, zero_add]
    by_cases h2 : 128 * (n - 3) ≤ s.val
    · rw [if_pos h2, dif_pos ⟨h2, by omega⟩]
      refine Finset.sum_congr rfl fun a _ => ?_
      have e : 128 * (n - 3) + (s.val - 128 * (n - 3)) = s.val := by omega
      refine if_congr ?_ ?_ rfl
      · show 128 * (n - 3) + (s.val - 128 * (n - 3)) < _ ↔ _; omega
      · show f c _ (128 * (n - 3) + (s.val - 128 * (n - 3))) * _ = _; rw [e]
    · rw [if_neg h2, dif_neg (by omega)]

/-! ## No exit -/

theorem gt_bot {x : EReal} (h : ⊥ < x) : Scalar.cmpf (F := Ideal) (φ := .f32) .ogt x (Named.named κ "exit" 0xC2E60000#32) = 1#1 := by
  rw [IdealRules.named_const.ideal_named_scalar (φ := .f32) κ "exit" 0xC2E60000#32 ⊥ rfl]
  show Ideal.cmp .ogt x ⊥ = 1#1
  simp [Ideal.cmp, h]

theorem bound_gt {b r : FVec Ideal S128x1 .f32} (hb : ∀ a, ∃ x : ℝ, b (ix2 a 0) = (x : EReal)) (hr : ∀ a, ∃ x : ℝ, r (ix2 a 0) = (x : EReal)) :
    ⊥ < k0_pay1 b r := by
  pointwise [k0_pay1]
  refine (Finset.lt_fold_max _).2 (Or.inr ⟨(0, 0), Finset.mem_univ _, ?_⟩)
  obtain ⟨x, hx⟩ := hb 0
  obtain ⟨y, hy⟩ := hr 0
  show ⊥ < r (ix2 0 0) + b (ix2 0 0)
  rw [hx, hy, ← EReal.coe_add]; exact EReal.bot_lt_coe _

theorem goes (e : Env Ideal) (n : ℕ) (s : Cols Ideal) (h0 : 0 < n) (hn : n ≤ 64) (hb : ∀ a, ∃ x : ℝ, e.b0 (ix2 a 0) = (x : EReal))
    (hr : ∀ a, ∃ x : ℝ, s.r0 (ix2 a 0) = (x : EReal)) : goes1 e n s ∧ goes2 e n s := by
  have h1 : Scalar.cmpf .ogt (k0_pay1 e.b0 s.r0) (Named.named κ "exit" 0xC2E60000#32) = 1#1 := gt_bot (bound_gt hb hr)
  have h2 : Scalar.cmpf .ogt (k0_pay9 e.b0 s.r0) (Named.named κ "exit" 0xC2E60000#32) = 1#1 := gt_bot (bound_gt hb hr)
  have one : ∀ x : BitVec 1, Scalar.andi 1#1 (Scalar.ori 1#1 x) = 1#1 := by decide
  constructor
  · unfold goes1; rw [hi_pos n h0 hn, h1]; exact one _
  · unfold goes2; rw [hi_pos n h0 hn, h2]; exact one _

/-! ## The sweeps -/

section Sweeps

variable {e : Env Ideal} {i : ℕ} (hi64 : i < 64) {H : Fin 2 → Head} (hp : e.pos = k0_pay33 (wi i))
  (A0 : At (H 0) i 0 e.q0 e.g0 e.k e.v e.su e.ss) (A1 : At (H 1) i 1 e.q1 e.g1 e.k e.v e.su e.ss)
  (hb : ∀ a, ∃ x : ℝ, e.b0 (ix2 a 0) = (x : EReal))

/-- The columns with `n` blocks left. -/
structure ColsInv (H : Fin 2 → Head) (i n : ℕ) (s : Cols Ideal) : Prop where
  r0 : ColInv i n (keep (H 0)) s.r0
  r1 : ColInv i n (keep (H 1)) s.r1
  t0 : ColInv i n (gl (H 0)) s.t0
  t1 : ColInv i n (gl (H 1)) s.t1

theorem colsInv_none (H : Fin 2 → Head) (i : ℕ) : ColsInv H i (i + 1) none4 :=
  ⟨colInv_none _ _, colInv_none _ _, colInv_none _ _, colInv_none _ _⟩

include hi64 hp A0 A1

theorem colStep_inv {n : ℕ} (hn : n ≤ i + 1) {s : Cols Ideal} (hs : ColsInv H i n s) : ColsInv H i (n - 3) (colStep1 e n s) := by
  rw [colStep1_eq, hp]
  exact ⟨stepR_inv A0 hi64 hn hs.r0, stepR_inv A1 hi64 hn hs.r1, stepT_inv A0 hi64 hn hs.r0 hs.t0, stepT_inv A1 hi64 hn hs.r1 hs.t1⟩

theorem dv_step {n : ℕ} (hn : n ≤ i + 1) {s : Cols Ideal} (hs : ColsInv H i n s) {x0 x : Vec Ideal S8192x256 .f32}
    (hx : AccInv i n (fun c => wgt (H c)) (fun c => (H c).g) x0 x) :
    AccInv i (n - 3) (fun c => wgt (H c)) (fun c => (H c).g) x0 (accStep1 e n s x) := by
  rw [accStep1_eq, hp]
  exact acc_step hi64 hn _ _ hx (fun a j => wt_live A0 hi64 hn hs.r0 a j) (fun a j => wt_live A1 hi64 hn hs.r1 a j) A0.g A1.g

theorem dk_step {n : ℕ} (hn : n ≤ i + 1) {s : Cols Ideal} (hs : ColsInv H i n s) {T0 T1 : FVec Ideal S128x1 .f32}
    (hT0 : ColInv i 0 (gl (H 0)) T0) (hT1 : ColInv i 0 (gl (H 1)) T1) {x0 x : Vec Ideal S8192x256 .f32}
    (hx : AccInv i n (fun c => gz (H c)) (fun c => (H c).q) x0 x) :
    AccInv i (n - 3) (fun c => gz (H c)) (fun c => (H c).q) x0 (accStep2 e T0 T1 n s x) := by
  rw [accStep2_eq, hp]
  exact acc_step hi64 hn _ _ hx (fun a j => stepZ_live A0 hi64 hn hT0 hs.r0 hs.t0 a j) (fun a j => stepZ_live A1 hi64 hn hT1 hs.r1 hs.t1 a j) A0.q A1.q

theorem dq_step {n : ℕ} (hn : n ≤ i + 1) {s : Cols Ideal} (hs : ColsInv H i n s) {T0 T1 : FVec Ideal S128x1 .f32}
    (hT0 : ColInv i 0 (gl (H 0)) T0) (hT1 : ColInv i 0 (gl (H 1)) T1) {d : Dqs Ideal} (h0 : DqInv (H 0) i n d.d0) (h1 : DqInv (H 1) i n d.d1) :
    DqInv (H 0) i (n - 3) (dqStep2 e T0 T1 n s d).d0 ∧ DqInv (H 1) i (n - 3) (dqStep2 e T0 T1 n s d).d1 := by
  rw [dqStep2_eq, hp]
  exact ⟨stepQ_inv A0 hi64 hn hT0 hs.r0 hs.t0 h0, stepQ_inv A1 hi64 hn hT1 hs.r1 hs.t1 h1⟩

include hb

theorem sweep1_inv (x0 : Vec Ideal S8192x256 .f32) : ∀ (n : ℕ) (s : Cols Ideal) (x : Vec Ideal S8192x256 .f32), n ≤ i + 1 → ColsInv H i n s →
    AccInv i n (fun c => wgt (H c)) (fun c => (H c).g) x0 x →
    ColsInv H i 0 (sweep1 e n s x).2.1 ∧ AccInv i 0 (fun c => wgt (H c)) (fun c => (H c).g) x0 (sweep1 e n s x).2.2 := by
  intro n
  induction n using Nat.strong_induction_on with
  | _ n ih =>
    intro s x hn hs hx
    rw [sweep1]
    by_cases h : 0 < n
    · rw [dif_pos ⟨h, (goes e n s h (by omega) hb fun a => ⟨_, hs.r0 a⟩).1⟩]
      exact ih (n - 3) (by omega) _ _ (by omega) (colStep_inv hi64 hp A0 A1 hn hs) (dv_step hi64 hp A0 A1 hn hs hx)
    · obtain rfl : n = 0 := by omega
      rw [dif_neg fun h' => h h'.1]; exact ⟨hs, hx⟩

theorem sweep2_inv {T0 T1 : FVec Ideal S128x1 .f32} (hT0 : ColInv i 0 (gl (H 0)) T0) (hT1 : ColInv i 0 (gl (H 1)) T1)
    (x0 : Vec Ideal S8192x256 .f32) : ∀ (n : ℕ) (s : Cols Ideal) (d : Dqs Ideal) (x : Vec Ideal S8192x256 .f32), n ≤ i + 1 → ColsInv H i n s →
    DqInv (H 0) i n d.d0 → DqInv (H 1) i n d.d1 → AccInv i n (fun c => gz (H c)) (fun c => (H c).q) x0 x →
    (DqInv (H 0) i 0 (sweep2 e T0 T1 n s d x).2.2.1.d0 ∧ DqInv (H 1) i 0 (sweep2 e T0 T1 n s d x).2.2.1.d1) ∧
      AccInv i 0 (fun c => gz (H c)) (fun c => (H c).q) x0 (sweep2 e T0 T1 n s d x).2.2.2 := by
  intro n
  induction n using Nat.strong_induction_on with
  | _ n ih =>
    intro s d x hn hs h0 h1 hx
    rw [sweep2]
    by_cases h : 0 < n
    · rw [dif_pos ⟨h, (goes e n s h (by omega) hb fun a => ⟨_, hs.r0 a⟩).2⟩]
      exact ih (n - 3) (by omega) _ _ _ (by omega) (colStep2_eq e n s ▸ colStep_inv hi64 hp A0 A1 hn hs)
        (dq_step hi64 hp A0 A1 hn hs hT0 hT1 h0 h1).1 (dq_step hi64 hp A0 A1 hn hs hT0 hT1 h0 h1).2
        (dk_step hi64 hp A0 A1 hn hs hT0 hT1 hx)
    · obtain rfl : n = 0 := by omega
      rw [dif_neg fun h' => h h'.1]; exact ⟨⟨h0, h1⟩, hx⟩

/-- The first sweep of a block, -/
theorem run1_inv (k : Kept Ideal) :
    ColsInv H i 0 (run1 e i k).2.1 ∧ AccInv i 0 (fun c => wgt (H c)) (fun c => (H c).g) k.dv (run1 e i k).2.2 := by
  unfold run1
  rw [firstCols_eq e i hi64 hp, firstDv_eq e i hi64 hp]
  exact sweep1_inv hi64 hp A0 A1 hb k.dv _ _ _ (by omega) (colStep_inv hi64 hp A0 A1 le_rfl (colsInv_none H i))
    (dv_step hi64 hp A0 A1 le_rfl (colsInv_none H i) (accInv_none i _ _ _))

omit hi64 hp A0 A1 hb in
theorem dqInv_none (H : Head) (i : ℕ) : DqInv H i (i + 1) k0_pay60 := by
  intro a d
  pointwise [k0_pay60]
  rw [Finset.Ico_eq_empty_of_le (by omega), Finset.sum_empty, EReal.coe_zero]

/-- and the second. -/
theorem run2_inv (k : Kept Ideal) :
    (DqInv (H 0) i 0 (run2 e i k).2.2.1.d0 ∧ DqInv (H 1) i 0 (run2 e i k).2.2.1.d1) ∧
      AccInv i 0 (fun c => gz (H c)) (fun c => (H c).q) k.dk (run2 e i k).2.2.2 := by
  have h := (run1_inv hi64 hp A0 A1 hb k).1
  unfold run2; dsimp only
  rw [secondCols_eq e i hi64 hp, firstDq_eq e i hi64 hp, firstDk_eq e i hi64 hp]
  exact sweep2_inv hi64 hp A0 A1 hb h.t0 h.t1 k.dk _ _ _ _ (by omega)
    (colStep2_eq e (i + 1) none4 ▸ colStep_inv hi64 hp A0 A1 le_rfl (colsInv_none H i))
    (dq_step hi64 hp A0 A1 le_rfl (colsInv_none H i) h.t0 h.t1 (dqInv_none _ _) (dqInv_none _ _)).1
    (dq_step hi64 hp A0 A1 le_rfl (colsInv_none H i) h.t0 h.t1 (dqInv_none _ _) (dqInv_none _ _)).2
    (dk_step hi64 hp A0 A1 le_rfl (colsInv_none H i) h.t0 h.t1 (accInv_none i _ _ _))

end Sweeps

end Cert.Attn

end
-- ==== Proof.AttnKernel.lean ====
/-
  The attention's backward kernel on real arguments: the blocks it reads, what is kept between blocks of queries, and the
  three arrays it leaves.
-/
module

public import proofs.«01_k».proof.Proof.AttnRun
public import proofs.«01_k».proof.Proof.AttnSweep
public import Idealize.ShloMosaic.Lib.StableHlo.ReadAt

@[expose] public section

noncomputable section

namespace Cert.Attn

open Idealize.ShloMosaic Idealize.ShloMosaic.TcCoe Idealize.SL.Sem
open Idealize.ShloMosaic.Pipeline (Dat)
open Cert.Blocks Cert.KernelAttnIdeal Cert.KernelAttnIdeal.Gen Cert.AttnMath Cert.Common

variable (m : (ℓ : Loc nD τ sig) → Buf (Elt Ideal) ℓ)

/-! ## The blocks -/

theorem idx_facts : ∀ t : Fin grid0.N,
    (1536 * win0_0.index t 0 + 256 * win0_0.index t 2 = 256 * (t.val / 64) ∧ win0_0.index t 1 = t.val % 64) ∧
    (1536 * win0_1.index t 0 + 256 * win0_1.index t 2 = 2048 + 256 * (t.val / 64) ∧ win0_1.index t 1 = 0) ∧
    (1536 * win0_2.index t 0 + 256 * win0_2.index t 2 = 4096 + 256 * (t.val / 64) ∧ win0_2.index t 1 = 0) ∧
    (win0_3.index t 0 = 0 ∧ win0_3.index t 1 = t.val % 64 ∧ win0_3.index t 2 = t.val / 64) ∧
    (win0_4.index t 0 = t.val % 64 ∧ win0_4.index t 1 = t.val / 64) ∧
    (win0_5.index t 0 = 0 ∧ win0_5.index t 1 = t.val / 64) ∧
    (win0_6.index t 0 = 0 ∧ win0_6.index t 1 = t.val / 64) := by decide +kernel

theorem idx_lt : ∀ t : Fin grid0.N, (win0_0.index t 0 < 4 ∧ win0_0.index t 2 < 6) ∧ (win0_1.index t 0 < 4 ∧ win0_1.index t 2 < 6) ∧
    (win0_2.index t 0 < 4 ∧ win0_2.index t 2 < 6) := by decide +kernel

theorem V_qkv (c : Dev nD) (p : Fin 4) (r : Fin 8192) (x : Fin 1536) :
    (V m c main_v2 : Vec Ideal S4x8192x1536 .bf16) (ix3 p r x)
      = (m (c.tc.loc main_arg0) : Vec Ideal S8192x6144 .f32) (ix2 r ⟨p.val * 1536 + x.val, by omega⟩) := by
  unfold V hostOps0
  after_reads_at

theorem V_do (c : Dev nD) (r : Fin 8192) (x : Fin 2048) :
    (V m c main_v4 : Vec Ideal S1x8192x2048 .bf16) (ix3 (0 : Fin 1) r x)
      = (m (c.tc.loc main_arg1) : Vec Ideal S8192x2048 .f32) (ix2 r x) := by
  unfold V hostOps0
  after_reads_at

theorem t_lt (t : Fin (cfg0 (F := Ideal)).N) : t.val < 512 := lt_of_lt_of_eq t.isLt N_0

theorem bq_apply (c : Dev nD) (t : Fin (cfg0 (F := Ideal)).N) (a : Fin 128) (x : Fin 256) :
    bq m c t (ix3 (0 : Fin 1) a x) = (m (c.tc.loc main_arg0) : Vec Ideal S8192x6144 .f32)
      (ix2 ⟨128 * (t.val % 64) + a.val, by omega⟩ ⟨256 * (t.val / 64) + x.val, by have := t_lt t; omega⟩) := by
  have hi := (idx_facts t).1
  have hl := (idx_lt t).1
  refine Eq.trans ?_ ((V_qkv m c ⟨win0_0.index t 0, hl.1⟩ ⟨128 * (t.val % 64) + a.val, by omega⟩ ⟨256 * win0_0.index t 2 + x.val, by omega⟩).trans ?_)
  · unfold bq iblk; rw [View.read_apply]
    show V m c main_v2 _ = _
    congr 1; funext b; apply Fin.ext
    match b with
    | ⟨0, _⟩ => show win0_0.index t 0 * 1 + 1 * 0 = win0_0.index t 0; omega
    | ⟨1, _⟩ => show win0_0.index t 1 * 128 + 1 * a.val = 128 * (t.val % 64) + a.val; rw [hi.2]; omega
    | ⟨2, _⟩ => show win0_0.index t 2 * 256 + 1 * x.val = 256 * win0_0.index t 2 + x.val; omega
  · congr 2; apply Fin.ext; show win0_0.index t 0 * 1536 + (256 * win0_0.index t 2 + x.val) = 256 * (t.val / 64) + x.val; omega

theorem bk_apply (c : Dev nD) (t : Fin (cfg0 (F := Ideal)).N) (s : Fin 8192) (x : Fin 256) :
    bk m c t (ix3 (0 : Fin 1) s x) = (m (c.tc.loc main_arg0) : Vec Ideal S8192x6144 .f32)
      (ix2 s ⟨2048 + 256 * (t.val / 64) + x.val, by have := t_lt t; omega⟩) := by
  have hi := (idx_facts t).2.1
  have hl := (idx_lt t).2.1
  refine Eq.trans ?_ ((V_qkv m c ⟨win0_1.index t 0, hl.1⟩ s ⟨256 * win0_1.index t 2 + x.val, by omega⟩).trans ?_)
  · unfold bk iblk; rw [View.read_apply]
    show V m c main_v2 _ = _
    congr 1; funext b; apply Fin.ext
    match b with
    | ⟨0, _⟩ => show win0_1.index t 0 * 1 + 1 * 0 = win0_1.index t 0; omega
    | ⟨1, _⟩ => show win0_1.index t 1 * 8192 + 1 * s.val = s.val; rw [hi.2]; omega
    | ⟨2, _⟩ => show win0_1.index t 2 * 256 + 1 * x.val = 256 * win0_1.index t 2 + x.val; omega
  · congr 2; apply Fin.ext; show win0_1.index t 0 * 1536 + (256 * win0_1.index t 2 + x.val) = 2048 + 256 * (t.val / 64) + x.val; omega

theorem bv_apply (c : Dev nD) (t : Fin (cfg0 (F := Ideal)).N) (s : Fin 8192) (x : Fin 256) :
    bv m c t (ix3 (0 : Fin 1) s x) = (m (c.tc.loc main_arg0) : Vec Ideal S8192x6144 .f32)
      (ix2 s ⟨4096 + 256 * (t.val / 64) + x.val, by have := t_lt t; omega⟩) := by
  have hi := (idx_facts t).2.2.1
  have hl := (idx_lt t).2.2
  refine Eq.trans ?_ ((V_qkv m c ⟨win0_2.index t 0, hl.1⟩ s ⟨256 * win0_2.index t 2 + x.val, by omega⟩).trans ?_)
  · unfold bv iblk; rw [View.read_apply]
    show V m c main_v2 _ = _
    congr 1; funext b; apply Fin.ext
    match b with
    | ⟨0, _⟩ => show win0_2.index t 0 * 1 + 1 * 0 = win0_2.index t 0; omega
    | ⟨1, _⟩ => show win0_2.index t 1 * 8192 + 1 * s.val = s.val; rw [hi.2]; omega
    | ⟨2, _⟩ => show win0_2.index t 2 * 256 + 1 * x.val = 256 * win0_2.index t 2 + x.val; omega
  · congr 2; apply Fin.ext; show win0_2.index t 0 * 1536 + (256 * win0_2.index t 2 + x.val) = 4096 + 256 * (t.val / 64) + x.val; omega

theorem bg_apply (c : Dev nD) (t : Fin (cfg0 (F := Ideal)).N) (a : Fin 128) (x : Fin 256) :
    bg m c t (ix3 (0 : Fin 1) a x) = (m (c.tc.loc main_arg1) : Vec Ideal S8192x2048 .f32)
      (ix2 ⟨128 * (t.val % 64) + a.val, by omega⟩ ⟨256 * (t.val / 64) + x.val, by have := t_lt t; omega⟩) := by
  have hi := (idx_facts t).2.2.2.1
  refine Eq.trans ?_ (V_do m c ⟨128 * (t.val % 64) + a.val, by omega⟩ ⟨256 * (t.val / 64) + x.val, by have := t_lt t; omega⟩)
  unfold bg iblk; rw [View.read_apply]
  show V m c main_v4 _ = _
  congr 1; funext b; apply Fin.ext
  match b with
  | ⟨0, _⟩ => show win0_3.index t 0 * 1 + 1 * 0 = 0; rw [hi.1]
  | ⟨1, _⟩ => show win0_3.index t 1 * 128 + 1 * a.val = 128 * (t.val % 64) + a.val; rw [hi.2.1]; omega
  | ⟨2, _⟩ => show win0_3.index t 2 * 256 + 1 * x.val = 256 * (t.val / 64) + x.val; rw [hi.2.2]; omega

/-! ## Real arguments -/

/-- The arguments of a device are reals. -/
structure Reals (c : Dev nD) (X Y : ℕ → ℕ → ℝ) : Prop where
  x : ∀ (i : Fin 8192) (k : Fin 6144), (m (c.tc.loc main_arg0) : Vec Ideal S8192x6144 .f32) (ix2 i k) = (X i.val k.val : EReal)
  y : ∀ (i : Fin 8192) (k : Fin 2048), (m (c.tc.loc main_arg1) : Vec Ideal S8192x2048 .f32) (ix2 i k) = (Y i.val k.val : EReal)

/-! ## The triangles, the longest key, the bound -/

theorem tri_upper (x j : Fin 384) : (k0_pay23 (F := Ideal) k0_pay22) (ix2 x j) = ((if j.val ≤ x.val then 1 else 0 : ℝ) : EReal) := by
  pointwise [k0_pay23, k0_pay22]
  unfold IntOp.cmpi; dsimp only
  rw [sle_ofNat _ _ (by omega) (by omega)]
  by_cases h : j.val ≤ x.val
  · rw [if_pos h, decide_eq_true h]; exact sitofp_one
  · rw [if_neg h, decide_eq_false h]; exact sitofp_zero

theorem tri_strict (x j : Fin 384) : (k0_pay24 (F := Ideal)) (ix2 x j) = ((if j.val < x.val then 1 else 0 : ℝ) : EReal) := by
  pointwise [k0_pay24]
  unfold IntOp.cmpi; dsimp only
  rw [slt_ofNat _ _ (by omega) (by omega)]
  by_cases h : j.val < x.val
  · rw [if_pos h, decide_eq_true h]; exact sitofp_one
  · rw [if_neg h, decide_eq_false h]; exact sitofp_zero

theorem longest (k : Vec Ideal S1x8192x128 .bf16) (K : Fin 8192 → Fin 128 → ℝ) (hk : ∀ s d, k (ix3 (0 : Fin 1) s d) = (K s d : EReal)) :
    ∃ r : ℝ, k0_pay18 k = (r : EReal) := by
  pointwise [k0_pay18]
  simp only [hk, ← EReal.coe_mul, coe_sum, ofBits_neg_inf]
  obtain ⟨y, hy, e⟩ := fold_real ((0, 0) : Fin 8192 × Fin 1) (fun x => ∑ d, K x.1 d * K x.1 d) (fun x => Finset.sum_nonneg fun d _ => mul_self_nonneg _)
  rw [e]
  exact ⟨_, sqrt_real hy⟩

theorem bound (q : Vec Ideal S1x128x128 .bf16) (Q : Fin 128 → Fin 128 → ℝ) (hq : ∀ a d, q (ix3 (0 : Fin 1) a d) = (Q a d : EReal)) (r : ℝ)
    (a : Fin 128) : ∃ x : ℝ, k0_pay29 q ((r : ℝ) : EReal) (ix2 a 0) = (x : EReal) := by
  pointwise [k0_pay29, k0_pay25]
  simp only [hq, ofBits_bound, ofBits_slack, ← EReal.coe_mul, coe_sum]
  rw [sqrt_real (Finset.sum_nonneg fun d _ => mul_self_nonneg _)]
  simp only [← EReal.coe_mul, ← EReal.coe_add]
  exact ⟨_, rfl⟩

/-! ## What is kept -/

/-- What block `i` of queries of head group `g` finds: the longest key's length (only that it is real), the triangles, and
    the gradients the earlier blocks leave. -/
structure Found (X Y : ℕ → ℕ → ℝ) (g i : ℕ) (k : Kept Ideal) : Prop where
  km : ∃ r : ℝ, k.km (ix1 (0 : Fin 2)) = (r : EReal)
  su : ∀ x j : Fin 384, k.su (ix2 x j) = ((if j.val ≤ x.val then 1 else 0 : ℝ) : EReal)
  ss : ∀ x j : Fin 384, k.ss (ix2 x j) = ((if j.val < x.val then 1 else 0 : ℝ) : EReal)
  dk : ∀ (s : Fin 8192) (c : Fin 2) (d : Fin 128), k.dk (ix2 s (col c d)) = ((∑ t ∈ Finset.range (128 * i),
    if s.val < t then gz (head X Y (2 * g + c.val)) t s.val * (head X Y (2 * g + c.val)).q t d else 0 : ℝ) : EReal)
  dv : ∀ (s : Fin 8192) (c : Fin 2) (d : Fin 128), k.dv (ix2 s (col c d)) = ((∑ t ∈ Finset.range (128 * i),
    if s.val < t then wgt (head X Y (2 * g + c.val)) t s.val * (head X Y (2 * g + c.val)).g t d else 0 : ℝ) : EReal)

variable {m} {c : Dev nD} {X Y : ℕ → ℕ → ℝ} (h : Reals m c X Y)
include h

omit h in
theorem fresh_km (k : Vec Ideal S1x8192x256 .bf16) : (fresh k).km (ix1 (0 : Fin 2)) = k0_pay18 (shalf k 0) := by
  unfold fresh; dsimp only
  exact if_pos rfl

theorem fresh_real (t : Fin (cfg0 (F := Ideal)).N) : ∃ r : ℝ, (fresh (bk m c t)).km (ix1 (0 : Fin 2)) = (r : EReal) := by
  rw [fresh_km]
  refine longest _ (fun s d => X s.val (2048 + 256 * (t.val / 64) + min (128 * 0 + d.val) 255)) fun s d => ?_
  unfold shalf
  exact (bk_apply m c t s _).trans (h.x _ _)

omit h in
theorem fresh_dk (k : Vec Ideal S1x8192x256 .bf16) (s : Fin 8192) (x : Fin 256) : (fresh k).dk (ix2 s x) = 0 := by
  unfold fresh; dsimp only
  pointwise [k0_pay20]

omit h in
theorem fresh_dv (k : Vec Ideal S1x8192x256 .bf16) (s : Fin 8192) (x : Fin 256) : (fresh k).dv (ix2 s x) = 0 := by
  unfold fresh; dsimp only
  pointwise [k0_pay21]

theorem fresh_found (t : Fin (cfg0 (F := Ideal)).N) : Found X Y (t.val / 64) 0 (fresh (bk m c t)) := by
  refine ⟨fresh_real h t, fun x j => ?_, fun x j => ?_, fun s c d => ?_, fun s c d => ?_⟩
  · unfold fresh; exact tri_upper x j
  · unfold fresh; exact tri_strict x j
  · rw [fresh_dk, Nat.mul_zero, Finset.sum_range_zero, EReal.coe_zero]
  · rw [fresh_dv, Nat.mul_zero, Finset.sum_range_zero, EReal.coe_zero]

theorem at_0 (t : Fin (cfg0 (F := Ideal)).N) {k : Kept Ideal} (hk : Found X Y (t.val / 64) (t.val % 64) k) :
    At (head X Y (2 * (t.val / 64) + 0)) (t.val % 64) 0 (k0_pay25 (half (bq m c t) 0)) (k0_pay27 (half (bg m c t) 0)) (bk m c t) (bv m c t) k.su k.ss where
  q a d := by
    pointwise [k0_pay25]
    refine (bq_apply m c t a _).trans ((h.x _ _).trans ?_)
    show ((X (128 * (t.val % 64) + a.val) (256 * (t.val / 64) + min (128 * 0 + d.val) 255) : ℝ) : EReal) = ((X _ (128 * (2 * (t.val / 64) + 0) + d.val) : ℝ) : EReal)
    congr 2; omega
  g a d := by
    pointwise [k0_pay27]
    refine (bg_apply m c t a _).trans ((h.y _ _).trans ?_)
    show ((Y (128 * (t.val % 64) + a.val) (256 * (t.val / 64) + min (128 * 0 + d.val) 255) : ℝ) : EReal) = ((Y _ (128 * (2 * (t.val / 64) + 0) + d.val) : ℝ) : EReal)
    congr 2; omega
  k s d := by
    refine (bk_apply m c t s _).trans ((h.x _ _).trans ?_)
    show ((X s.val (2048 + 256 * (t.val / 64) + min (128 * 0 + d.val) 255) : ℝ) : EReal) = ((X _ (2048 + 128 * (2 * (t.val / 64) + 0) + d.val) : ℝ) : EReal)
    congr 2; omega
  v s d := by
    refine (bv_apply m c t s _).trans ((h.x _ _).trans ?_)
    show ((X s.val (4096 + 256 * (t.val / 64) + min (128 * 0 + d.val) 255) : ℝ) : EReal) = ((X _ (4096 + 128 * (2 * (t.val / 64) + 0) + d.val) : ℝ) : EReal)
    congr 2; omega
  su := hk.su
  ss := hk.ss

theorem at_1 (t : Fin (cfg0 (F := Ideal)).N) {k : Kept Ideal} (hk : Found X Y (t.val / 64) (t.val % 64) k) :
    At (head X Y (2 * (t.val / 64) + 1)) (t.val % 64) 1 (k0_pay26 (half (bq m c t) 1)) (k0_pay28 (half (bg m c t) 1)) (bk m c t) (bv m c t) k.su k.ss where
  q a d := by
    pointwise [k0_pay26]
    refine (bq_apply m c t a _).trans ((h.x _ _).trans ?_)
    show ((X (128 * (t.val % 64) + a.val) (256 * (t.val / 64) + min (128 * 1 + d.val) 255) : ℝ) : EReal) = ((X _ (128 * (2 * (t.val / 64) + 1) + d.val) : ℝ) : EReal)
    congr 2; omega
  g a d := by
    pointwise [k0_pay28]
    refine (bg_apply m c t a _).trans ((h.y _ _).trans ?_)
    show ((Y (128 * (t.val % 64) + a.val) (256 * (t.val / 64) + min (128 * 1 + d.val) 255) : ℝ) : EReal) = ((Y _ (128 * (2 * (t.val / 64) + 1) + d.val) : ℝ) : EReal)
    congr 2; omega
  k s d := by
    refine (bk_apply m c t s _).trans ((h.x _ _).trans ?_)
    show ((X s.val (2048 + 256 * (t.val / 64) + min (128 * 1 + d.val) 255) : ℝ) : EReal) = ((X _ (2048 + 128 * (2 * (t.val / 64) + 1) + d.val) : ℝ) : EReal)
    congr 2; omega
  v s d := by
    refine (bv_apply m c t s _).trans ((h.x _ _).trans ?_)
    show ((X s.val (4096 + 256 * (t.val / 64) + min (128 * 1 + d.val) 255) : ℝ) : EReal) = ((X _ (4096 + 128 * (2 * (t.val / 64) + 1) + d.val) : ℝ) : EReal)
    congr 2; omega
  su := hk.su
  ss := hk.ss

omit h in
/-- The block's keys' gradients after the earlier blocks'. -/
theorem more (f : ℕ → ℝ) (i : ℕ) : (∑ t ∈ Finset.range (128 * i), f t) + ∑ a : Fin 128, f (128 * i + a.val) = ∑ t ∈ Finset.range (128 * (i + 1)), f t := by
  rw [Nat.mul_succ, Finset.sum_range_add, Fin.sum_univ_eq_sum_range (fun a => f (128 * i + a))]

omit h in
theorem dqOut_0 (e : Env Ideal) (i : ℕ) (k : Kept Ideal) (a d : Fin 128) : dqOut e i k (ix2 a (col 0 d)) = (run2 e i k).2.2.1.d0 (ix2 a d) := by
  unfold dqOut
  refine (dif_pos (show 128 * 0 + d.val < 128 by omega)).trans ?_
  pointwise [k0_pay71]

omit h in
theorem dqOut_1 (e : Env Ideal) (i : ℕ) (k : Kept Ideal) (a d : Fin 128) : dqOut e i k (ix2 a (col 1 d)) = (run2 e i k).2.2.1.d1 (ix2 a d) := by
  unfold dqOut
  refine (dif_neg (show ¬128 * 1 + d.val < 128 by omega)).trans ?_
  pointwise [k0_pay72]

/-- A block of queries, of what it finds: what it leaves, and the query gradients. -/
theorem block (t : Fin (cfg0 (F := Ideal)).N) (s : Kept Ideal) (hk : Found X Y (t.val / 64) (t.val % 64) (found (t.val % 64) (bk m c t) s)) :
    Found X Y (t.val / 64) (t.val % 64 + 1) (keptAt m c t s) ∧
      ∀ (a : Fin 128) (u : Fin 2) (d : Fin 128), dqAt m c t s (ix2 a (col u d)) =
        ((∑ r ∈ Finset.range (128 * (t.val % 64) + a.val), gz (head X Y (2 * (t.val / 64) + u.val)) (128 * (t.val % 64) + a.val) r *
          (head X Y (2 * (t.val / 64) + u.val)).k r d : ℝ) : EReal) := by
  have e : (grid0.coords t 1).val = t.val % 64 := coords_one t
  unfold keptAt dqAt dqAfter after envOf
  rw [e]
  generalize hs : found (t.val % 64) (bk m c t) s = k at hk ⊢
  obtain ⟨r, hr⟩ := hk.km
  have hb : ∀ a, ∃ x : ℝ, (env (t.val % 64) (bq m c t) (bk m c t) (bv m c t) (bg m c t) k).b0 (ix2 a 0) = (x : EReal) := fun a => by
    unfold env; dsimp only; rw [hr]
    refine bound (half (bq m c t) 0) (fun a d => X (128 * (t.val % 64) + a.val) (256 * (t.val / 64) + min (128 * 0 + d.val) 255)) (fun a d => ?_) r a
    unfold half; exact (bq_apply m c t a _).trans (h.x _ _)
  have h1 := (run1_inv (e := env (t.val % 64) (bq m c t) (bk m c t) (bv m c t) (bg m c t) k) (H := fun u : Fin 2 => head X Y (2 * (t.val / 64) + u.val))
    (by omega) rfl (at_0 h t hk) (at_1 h t hk) hb k).2
  have h2 := run2_inv (e := env (t.val % 64) (bq m c t) (bk m c t) (bv m c t) (bg m c t) k) (H := fun u : Fin 2 => head X Y (2 * (t.val / 64) + u.val))
    (by omega) rfl (at_0 h t hk) (at_1 h t hk) hb k
  refine ⟨⟨⟨r, hr⟩, hk.su, hk.ss, fun s c d => ?_, fun s c d => ?_⟩, fun a u d => ?_⟩
  · refine (h2.2 s c d).trans ?_
    rw [if_pos (by omega), hk.dk, ← EReal.coe_add, ← more]
  · refine (h1 s c d).trans ?_
    rw [if_pos (by omega), hk.dv, ← EReal.coe_add, ← more]
  · obtain rfl | rfl : u = 0 ∨ u = 1 := by omega
    · have e0 := h2.1.1 a d
      rw [Nat.mul_zero, ← Finset.range_eq_Ico] at e0
      rw [dqOut_0, ← e0]
    · have e1 := h2.1.2 a d
      rw [Nat.mul_zero, ← Finset.range_eq_Ico] at e1
      rw [dqOut_1, ← e1]

theorem found_kept : ∀ (n : ℕ) (hn : n < (cfg0 (F := Ideal)).N), Found X Y (n / 64) (n % 64) (found (n % 64) (bk m c ⟨n, hn⟩) (kept m c n))
  | 0, hn => fresh_found h ⟨0, hn⟩
  | n + 1, hn => by
    unfold found
    by_cases h0 : (n + 1) % 64 = 0
    · rw [if_pos h0, h0]; exact fresh_found h ⟨n + 1, hn⟩
    · rw [if_neg h0]
      have hb := (block h ⟨n, Nat.lt_of_succ_lt hn⟩ _ (found_kept n (Nat.lt_of_succ_lt hn))).1
      rw [← kept_succ] at hb
      dsimp only at hb
      rwa [show (n + 1) / 64 = n / 64 by omega, show (n + 1) % 64 = n % 64 + 1 by omega]

/-! ## The three arrays -/

variable (X Y)
omit h

/-- The gradients of the queries, -/
def gQ (i : S8192x2048.Idx) : EReal :=
  ((∑ r ∈ Finset.range (i 0).val, gz (hd X Y (i 1)) (i 0).val r * (hd X Y (i 1)).k r (ix (i 1)) : ℝ) : EReal)
/-- of the keys -/
def gK (i : S8192x2048.Idx) : EReal :=
  ((∑ t ∈ Finset.range 8192, if (i 0).val < t then gz (hd X Y (i 1)) t (i 0).val * (hd X Y (i 1)).q t (ix (i 1)) else 0 : ℝ) : EReal)
/-- and of the values. -/
def gV (i : S8192x2048.Idx) : EReal :=
  ((∑ t ∈ Finset.range 8192, if (i 0).val < t then wgt (hd X Y (i 1)) t (i 0).val * (hd X Y (i 1)).g t (ix (i 1)) else 0 : ℝ) : EReal)

variable {X Y}

theorem hd_col (g : ℕ) (hg : g < 8) (u : Fin 2) (d : Fin 128) (x : Fin 2048) (hx : x.val = g * 256 + (128 * u.val + d.val)) :
    hd X Y x = head X Y (2 * g + u.val) ∧ ix x = d :=
  ⟨by unfold hd; congr 1; omega, Fin.ext (by show x.val % 128 = _; omega)⟩

theorem exists_col (b : Fin 256) : ∃ (u : Fin 2) (d : Fin 128), b = col u d :=
  ⟨⟨b.val / 128, by omega⟩, ⟨b.val % 128, by omega⟩, Fin.ext (by show b.val = 128 * (b.val / 128) + b.val % 128; omega)⟩

theorem point (i g : ℕ) (hi : i < 64) (hg : g < 8) : ∃ t : Fin (cfg0 (F := Ideal)).N, t.val = 64 * g + i :=
  ⟨⟨64 * g + i, lt_of_lt_of_eq (by omega : 64 * g + i < 512) N_0.symm⟩, rfl⟩

theorem cover_4 (i : S8192x2048.Idx) : ∃ t : Fin (cfg0 (F := Ideal)).N, (cfg0.win 4).flush t = true ∧ i ∈ ((cfg0.win 4).blk t).view.set := by
  have h0 : _ < 8192 := (i 0).isLt
  have h1 : _ < 2048 := (i 1).isLt
  obtain ⟨t, ht⟩ := point ((i 0).val / 128) ((i 1).val / 256) (by omega) (by omega)
  refine ⟨t, flush0_4 _, ?_⟩
  have hi := (idx_facts t).2.2.2.2.1
  exact in_rect (all2 (in_blk (i 0).val 128 hi.1 (by omega)) (in_blk (i 1).val 256 hi.2 (by omega)))

theorem cover_5 (i : S8192x2048.Idx) : ∃ t : Fin (cfg0 (F := Ideal)).N, (cfg0.win 5).flush t = true ∧ i ∈ ((cfg0.win 5).blk t).view.set := by
  have h0 : _ < 8192 := (i 0).isLt
  have h1 : _ < 2048 := (i 1).isLt
  obtain ⟨t, ht⟩ := point 63 ((i 1).val / 256) (by omega) (by omega)
  refine ⟨t, (flush0_5 _).mpr (by omega), ?_⟩
  have hi := (idx_facts t).2.2.2.2.2.1
  exact in_rect (all2 (in_blk (i 0).val 8192 hi.1 (by omega)) (in_blk (i 1).val 256 hi.2 (by omega)))

theorem cover_6 (i : S8192x2048.Idx) : ∃ t : Fin (cfg0 (F := Ideal)).N, (cfg0.win 6).flush t = true ∧ i ∈ ((cfg0.win 6).blk t).view.set := by
  have h0 : _ < 8192 := (i 0).isLt
  have h1 : _ < 2048 := (i 1).isLt
  obtain ⟨t, ht⟩ := point 63 ((i 1).val / 256) (by omega) (by omega)
  refine ⟨t, (flush0_6 _).mpr (by omega), ?_⟩
  have hi := (idx_facts t).2.2.2.2.2.2
  exact in_rect (all2 (in_blk (i 0).val 8192 hi.1 (by omega)) (in_blk (i 1).val 256 hi.2 (by omega)))

include h

theorem final_4 : (dats m 0 c).arrAt 4 (cfg0 (F := Ideal)).N = gQ X Y :=
  (dats m 0 c).arrAt_eq_of_cover 4 (gQ X Y) (fun t _ => by
    have hi := (idx_facts t).2.2.2.2.1
    have hN := t_lt t
    rw [show (dats m 0 c).flushed 4 t = (dats m 0 c).after 4 t from rfl, after0_4]
    refine ext2 fun a b => ?_
    rw [View.read_apply]
    obtain ⟨u, d, rfl⟩ := exists_col b
    refine ((block h t _ (found_kept h t.val t.isLt)).2 a u d).trans ?_
    have e0 : (((cfg0.win 4).blk t).view.emb (ix2 a (col u d)) 0 : Nat) = 128 * (t.val % 64) + a.val := by
      show win0_4.index t 0 * 128 + 1 * a.val = _; rw [hi.1]; omega
    have e1 := hd_col (X := X) (Y := Y) (t.val / 64) (by omega) u d (((cfg0.win 4).blk t).view.emb (ix2 a (col u d)) 1) (by
      show win0_4.index t 1 * 256 + 1 * (128 * u.val + d.val) = _; rw [hi.2]; omega)
    unfold gQ
    rw [e0, e1.1, e1.2]
    rfl) cover_4

theorem final_5 : (dats m 0 c).arrAt 5 (cfg0 (F := Ideal)).N = gK X Y :=
  (dats m 0 c).arrAt_eq_of_cover 5 (gK X Y) (fun t hf => by
    have hi := (idx_facts t).2.2.2.2.2.1
    have hN := t_lt t
    have ht : t.val % 64 = 63 := (flush0_5 t).mp hf
    rw [show (dats m 0 c).flushed 5 t = (dats m 0 c).after 5 t from rfl, after0_5, kept_succ]
    refine ext2 fun a b => ?_
    rw [View.read_apply]
    obtain ⟨u, d, rfl⟩ := exists_col b
    refine Eq.trans ?_ (((block h t _ (found_kept h t.val t.isLt)).1.dk a u d).trans ?_)
    · pointwise [k0_pay73]
    have e0 : (((cfg0.win 5).blk t).view.emb (ix2 a (col u d)) 0 : Nat) = a.val := by
      show win0_5.index t 0 * 8192 + 1 * a.val = _; rw [hi.1]; omega
    have e1 := hd_col (X := X) (Y := Y) (t.val / 64) (by omega) u d (((cfg0.win 5).blk t).view.emb (ix2 a (col u d)) 1) (by
      show win0_5.index t 1 * 256 + 1 * (128 * u.val + d.val) = _; rw [hi.2]; omega)
    unfold gK
    rw [e0, e1.1, e1.2, ht]
    rfl) cover_5

theorem final_6 : (dats m 0 c).arrAt 6 (cfg0 (F := Ideal)).N = gV X Y :=
  (dats m 0 c).arrAt_eq_of_cover 6 (gV X Y) (fun t hf => by
    have hi := (idx_facts t).2.2.2.2.2.2
    have hN := t_lt t
    have ht : t.val % 64 = 63 := (flush0_6 t).mp hf
    rw [show (dats m 0 c).flushed 6 t = (dats m 0 c).after 6 t from rfl, after0_6, kept_succ]
    refine ext2 fun a b => ?_
    rw [View.read_apply]
    obtain ⟨u, d, rfl⟩ := exists_col b
    refine Eq.trans ?_ (((block h t _ (found_kept h t.val t.isLt)).1.dv a u d).trans ?_)
    · pointwise [k0_pay74]
    have e0 : (((cfg0.win 6).blk t).view.emb (ix2 a (col u d)) 0 : Nat) = a.val := by
      show win0_6.index t 0 * 8192 + 1 * a.val = _; rw [hi.1]; omega
    have e1 := hd_col (X := X) (Y := Y) (t.val / 64) (by omega) u d (((cfg0.win 6).blk t).view.emb (ix2 a (col u d)) 1) (by
      show win0_6.index t 1 * 256 + 1 * (128 * u.val + d.val) = _; rw [hi.2]; omega)
    unfold gV
    rw [e0, e1.1, e1.2, ht]
    rfl) cover_6

end Cert.Attn

end
-- ==== Proof.AttnRef.lean ====
/-
  The attention's backward reference on real arguments: each stage of the printed derivative, and its three results.
-/
module

public import proofs.«01_k».proof.Proof.AttnLive
public import proofs.«01_k».proof.Proof.Gen.ReferenceAttnIdeal.Run
public import proofs.«01_k».proof.Proof.Gen.ReferenceAttnIdeal.Read
public import Idealize.ShloMosaic.Lib.Pointwise

@[expose] public section

noncomputable section

namespace Cert.ReferenceAttnIdeal.Val

open Cert.ReferenceAttnIdeal Cert.ReferenceAttnIdeal.Gen Cert.ReferenceAttnIdeal.Read Cert.AttnMath Cert.Common
open Idealize.ShloMosaic

theorem bits_const (b : BitVec 32) : (id (constant (F := Ideal) S_ .f32 b) ix0 : EReal) = Ideal.ofBits .f32 b := rfl

/-- The derivative of the logarithm's argument, as the printed derivative writes the logistic function. -/
theorem exp_sig (x : ℝ) : Real.exp (x - -nlz x) = AttnMath.sig x := by
  unfold nlz AttnMath.sig
  have hp : 0 < 1 + exz x := by unfold exz; positivity
  split
  · rename_i h
    rw [max_eq_left h, show x - -(0 - (x + Real.log (1 + exz x))) = -Real.log (1 + exz x) by ring, Real.exp_neg, Real.exp_log hp, one_div]
  · rename_i h
    rw [max_eq_right (le_of_not_ge h), show x - -(0 - (0 + Real.log (1 + exz x))) = x + -Real.log (1 + exz x) by ring, Real.exp_add, Real.exp_neg,
      Real.exp_log hp, one_div]
    congr 1; unfold exz; rw [abs_of_neg (lt_of_not_ge h), neg_neg]

section Stages

variable {x0 : Vec Ideal S8192x6144 .f32} {x1 : Vec Ideal S8192x2048 .f32} {X Y : ℕ → ℕ → ℝ}
  (h0 : ∀ (i : Fin 8192) (k : Fin 6144), x0 (ix2 i k) = (X i.val k.val : EReal))
  (h1 : ∀ (i : Fin 8192) (k : Fin 2048), x1 (ix2 i k) = (Y i.val k.val : EReal))

section One
include h0

theorem v4 (h : Fin 16) (t : Fin 8192) (d : Fin 128) : val_main_v4 (F := Ideal) x0 (ix3 h t d) = ((head X Y h.val).q t.val d : EReal) := by
  pointwise [val_main_v4, val_main_v3, val_main_v0]
  rw [h0]
  exact EReal.coe_eq_coe_iff.2 (congrArg (X t.val) (show h.val * 128 + d.val = 128 * h.val + d.val by omega))

theorem v6 (h : Fin 16) (t : Fin 8192) (d : Fin 128) : val_main_v6 (F := Ideal) x0 (ix3 h t d) = ((head X Y h.val).k t.val d : EReal) := by
  pointwise [val_main_v6, val_main_v5, val_main_v1]
  rw [h0]
  exact EReal.coe_eq_coe_iff.2 (congrArg (X t.val) (show 2048 + (h.val * 128 + d.val) = 2048 + 128 * h.val + d.val by omega))

theorem v8 (h : Fin 16) (t : Fin 8192) (d : Fin 128) : val_main_v8 (F := Ideal) x0 (ix3 h t d) = ((head X Y h.val).v t.val d : EReal) := by
  pointwise [val_main_v8, val_main_v7, val_main_v2]
  rw [h0]
  exact EReal.coe_eq_coe_iff.2 (congrArg (X t.val) (show 4096 + (h.val * 128 + d.val) = 4096 + 128 * h.val + d.val by omega))

theorem v11 (h : Fin 16) (t s : Fin 8192) : val_main_v11 (F := Ideal) x0 (ix3 h t s) = (z (head X Y h.val) t.val s.val : EReal) := by
  pointwise [val_main_v11, val_main_v10, val_main_v9, val_main_cst]
  simp only [v4 (Y := Y) h0, v6 (Y := Y) h0, coe_sum, ofBits_scale, ← EReal.coe_mul, z]

omit h0 in
theorem live (t s : Fin 8192) : val_main_v18 (F := Ideal) (ix2 t s) = if s.val < t.val then 1#1 else 0#1 := by
  pointwise [val_main_v18, val_main_v17, val_main_v16, val_main_v15, val_main_v14, val_main_v13, val_main_v12]
  unfold IntOp.cmpi; dsimp only
  rw [slt_ofNat _ _ (by omega) (by omega)]
  by_cases h : s.val < t.val
  · rw [if_pos h, decide_eq_true h]; rfl
  · rw [if_neg h, decide_eq_false h]; rfl

theorem score (h : Fin 16) (t s : Fin 8192) : val_main_call0_v0 (F := Ideal) x0 (ix3 h t s) = (z (head X Y h.val) t.val s.val : EReal) := by
  pointwise [val_main_call0_v0, val_main_v19]
  rw [v11 (Y := Y) h0]
  exact neg_neg _

theorem softplus (h : Fin 16) (t s : Fin 8192) : val_main_call0_v1_0 (F := Ideal) x0 (ix3 h t s) = ((-keep (head X Y h.val) t.val s.val : ℝ) : EReal) := by
  pointwise [val_main_call0_v1_0, val_main_call0_call0_v4, val_main_call0_call0_v11, val_main_call0_call0_v10, val_main_call0_call0_v9, val_main_call0_call0_v8,
    val_main_call0_call0_v7, val_main_call0_call0_v3, val_main_call0_call0_v2, val_main_call0_call0_v1, val_main_call0_call0_v0, val_main_call0_call0_cst]
  rw [score (Y := Y) h0]
  generalize hz : z (head X Y h.val) t.val s.val = x
  rw [if_neg (fun h => h rfl), Ideal.absf_def, abs_real, ← EReal.coe_neg, Ideal.exp_coe]
  unfold Ideal.log1p
  rw [← EReal.coe_one, ← EReal.coe_add, log_real (by positivity), ← EReal.coe_zero, max_real, ← EReal.coe_add]
  unfold keep nlz exz
  rw [hz]
  exact EReal.coe_eq_coe_iff.2 (by ring)

theorem v20_0 (h : Fin 16) (t s : Fin 8192) : val_main_v20_0 (F := Ideal) x0 (ix3 h t s) = (keep (head X Y h.val) t.val s.val : EReal) := by
  pointwise [val_main_v20_0]
  rw [softplus (Y := Y) h0, ← EReal.coe_neg, neg_neg]

theorem v20_1 (h : Fin 16) (t s : Fin 8192) : val_main_v20_1 (F := Ideal) x0 (ix3 h t s) = (AttnMath.sig (z (head X Y h.val) t.val s.val) : EReal) := by
  pointwise [val_main_v20_1, val_main_call0_call0_v21, val_main_call0_call0_v20, val_main_call0_call0_v18, val_main_call0_call0_v19, val_main_call0_call0_cst_3,
    val_main_call0_call0_v17, val_main_call0_call0_cst_2, val_main_call0_call0_v16, val_main_call0_call0_v14, val_main_call0_call0_v15, val_main_call0_call0_cst_1,
    val_main_call0_call0_v13, val_main_call0_call0_cst_0]
  rw [softplus (Y := Y) h0, score (Y := Y) h0, ofBits_inf, if_neg (EReal.coe_ne_top _), if_neg (EReal.coe_ne_top _), ← EReal.coe_sub, Ideal.exp_coe]
  exact EReal.coe_eq_coe_iff.2 (exp_sig _)

theorem v21_0 (h : Fin 16) (t s : Fin 8192) : val_main_v21_0 (F := Ideal) x0 (ix3 h t s)
    = ((if s.val < t.val then keep (head X Y h.val) t.val s.val else 0 : ℝ) : EReal) := by
  pointwise [val_main_v21_0, val_main_v21_1, val_main_call1_v2, val_main_call1_v0, val_main_cst_0]
  rw [live, v20_0 (Y := Y) h0, bits_const, ofBits_zero]
  by_cases h : s.val < t.val
  · rw [if_pos h, if_pos h]; rfl
  · rw [if_neg h, if_neg h]; rfl

theorem v22 (h : Fin 16) (t s : Fin 8192) : val_main_v22 (F := Ideal) x0 (ix3 h t s)
    = ((∑ r ∈ Finset.Ico s.val t.val, keep (head X Y h.val) t.val r : ℝ) : EReal) := by
  refine Eq.trans ?_ ((window_from (val_main_v21_0 (F := Ideal) x0) (fun h t r => if r < t then keep (head X Y h.val) t r else 0)
    (v21_0 (Y := Y) h0) reduceWindows_S16x8192x8192_S16x8192x8192_w1s1p0_0_w1s1p0_0_w8192s1p0_8191 h t s).trans ?_)
  · unfold val_main_v22 Host.reduceWindowAdd
    rw [Ideal.hostReduceWindowAdd_def]
    congr 1
    exact (show _ = Ideal.ofBits .f32 0x00000000#32 from rfl).trans ofBits_zero
  · rw [← Finset.sum_filter]
    refine EReal.coe_eq_coe_iff.2 (Finset.sum_congr ?_ fun _ _ => rfl)
    ext r; simp only [Finset.mem_filter, Finset.mem_Ico]; omega

theorem v25 (h : Fin 16) (t s : Fin 8192) : val_main_v25 (F := Ideal) x0 (ix3 h t s)
    = ((if s.val < t.val then wgt (head X Y h.val) t.val s.val else 0 : ℝ) : EReal) := by
  pointwise [val_main_v25, val_main_v24_0, val_main_v24_1, val_main_v23, val_main_call3_v2, val_main_call3_v0, val_main_cst_1]
  rw [live, v11 (Y := Y) h0, v22 (Y := Y) h0, bits_const, ofBits_neg_inf, ← EReal.coe_add]
  by_cases h : s.val < t.val
  · rw [if_pos h, if_pos h]; exact Ideal.exp_coe _
  · rw [if_neg h, if_neg h]; exact Ideal.exp_bot

include h1

omit h0 in
theorem v30 (h : Fin 16) (t : Fin 8192) (d : Fin 128) : val_main_v30 (F := Ideal) x1 (ix3 h t d) = ((head X Y h.val).g t.val d : EReal) := by
  pointwise [val_main_v30, val_main_v29]
  rw [h1]
  exact EReal.coe_eq_coe_iff.2 (congrArg (Y t.val) (show h.val * 128 + d.val = 128 * h.val + d.val by omega))

theorem v35 (h : Fin 16) (t s : Fin 8192) : val_main_v35 (F := Ideal) x0 x1 (ix3 h t s)
    = ((if s.val < t.val then gl (head X Y h.val) t.val s.val else 0 : ℝ) : EReal) := by
  pointwise [val_main_v35, val_main_v24_1, val_main_v34, val_main_v33, val_main_call4_v0, val_main_call4_cst]
  rw [live, v25 h0 (Y := Y)]
  simp only [v30 (X := X) h1, v8 (Y := Y) h0, coe_sum, ← EReal.coe_mul]
  by_cases h : s.val < t.val
  · simp only [if_pos h]; exact EReal.coe_eq_coe_iff.2 (mul_comm _ _)
  · simp only [if_neg h]; rfl

theorem v36 (h : Fin 16) (t s : Fin 8192) (hs : s.val < t.val) : val_main_v36 (F := Ideal) x0 x1 (ix3 h t s)
    = ((∑ r ∈ Finset.range (s.val + 1), gl (head X Y h.val) t.val r : ℝ) : EReal) := by
  refine Eq.trans ?_ ((window_upto (val_main_v35 (F := Ideal) x0 x1) (fun h t r => if r < t then gl (head X Y h.val) t r else 0)
    (v35 h0 h1) reduceWindows_S16x8192x8192_S16x8192x8192_w1s1p0_0_w1s1p0_0_w8192s1p8191_0 h t s).trans ?_)
  · unfold val_main_v36 Host.reduceWindowAdd
    rw [Ideal.hostReduceWindowAdd_def]
    congr 1
    exact (show _ = Ideal.ofBits .f32 0x00000000#32 from rfl).trans ofBits_zero
  · refine EReal.coe_eq_coe_iff.2 (Finset.sum_congr rfl fun r hr => if_pos ?_)
    simp only [Finset.mem_range] at hr; omega

theorem v42 (h : Fin 16) (t s : Fin 8192) : val_main_v42 (F := Ideal) x0 x1 (ix3 h t s)
    = ((if s.val < t.val then gz (head X Y h.val) t.val s.val else 0 : ℝ) : EReal) := by
  pointwise [val_main_v42, val_main_v41, val_main_cst_2, val_main_v40, val_main_v39, val_main_v38, val_main_call7_v1, val_main_call7_v0, val_main_v37,
    val_main_v21_1, val_main_call6_v0, val_main_call6_cst]
  rw [live, v35 h0 h1, v20_1 (Y := Y) h0, ofBits_scale]
  by_cases hs : s.val < t.val
  · rw [v36 h0 h1 h t s hs]
    simp only [if_pos hs, if_true, ← EReal.coe_neg, ← EReal.coe_mul, ← EReal.coe_add]
    refine EReal.coe_eq_coe_iff.2 ?_
    unfold gz; ring
  · simp only [if_neg hs]
    show (((0 : ℝ) : EReal) + - -(-(0 : EReal) * (AttnMath.sig (z (head X Y h.val) t.val s.val) : EReal))) * (scale : EReal) = ((0 : ℝ) : EReal)
    rw [← EReal.coe_zero]
    simp only [← EReal.coe_neg, ← EReal.coe_mul, ← EReal.coe_add]
    exact EReal.coe_eq_coe_iff.2 (by ring)

/-! ## The three results -/

theorem v51 (t : Fin 8192) (x : Fin 2048) : val_main_v51 (F := Ideal) x0 x1 (ix2 t x)
    = ((∑ r ∈ Finset.range t.val, gz (hd X Y x) t.val r * (hd X Y x).k r (ix x) : ℝ) : EReal) := by
  pointwise [val_main_v51, val_main_v50, val_main_v49, val_main_v44]
  simp only [v42 h0 h1, v6 (Y := Y) h0, ← EReal.coe_mul, coe_sum]
  refine EReal.coe_eq_coe_iff.2 ?_
  refine (Fin.sum_univ_eq_sum_range (fun r => (if r < t.val then gz (hd X Y x) t.val r else 0) * (hd X Y x).k r (ix x)) 8192).trans ?_
  simp only [ite_mul, zero_mul]
  rw [← Finset.sum_filter]
  refine Finset.sum_congr ?_ fun _ _ => rfl
  ext r; simp only [Finset.mem_filter, Finset.mem_range]; omega

theorem v52 (s : Fin 8192) (x : Fin 2048) : val_main_v52 (F := Ideal) x0 x1 (ix2 s x)
    = ((∑ t ∈ Finset.range 8192, if s.val < t then gz (hd X Y x) t s.val * (hd X Y x).q t (ix x) else 0 : ℝ) : EReal) := by
  pointwise [val_main_v52, val_main_v48, val_main_v47, val_main_v43]
  simp only [v42 h0 h1, v4 (Y := Y) h0, ← EReal.coe_mul, coe_sum, ite_mul, zero_mul]
  exact EReal.coe_eq_coe_iff.2 (Fin.sum_univ_eq_sum_range (fun t => if s.val < t then gz (hd X Y x) t s.val * (hd X Y x).q t (ix x) else 0) 8192)

theorem v53 (s : Fin 8192) (x : Fin 2048) : val_main_v53 (F := Ideal) x0 x1 (ix2 s x)
    = ((∑ t ∈ Finset.range 8192, if s.val < t then wgt (hd X Y x) t s.val * (hd X Y x).g t (ix x) else 0 : ℝ) : EReal) := by
  pointwise [val_main_v53, val_main_v46, val_main_v45, val_main_v32, val_main_v31]
  simp only [v30 (X := X) h1, v25 (Y := Y) h0, ← EReal.coe_mul, coe_sum, mul_ite, mul_zero]
  refine EReal.coe_eq_coe_iff.2 (Eq.trans (Finset.sum_congr rfl fun t _ => ?_)
    (Fin.sum_univ_eq_sum_range (fun t => if s.val < t then wgt (hd X Y x) t s.val * (hd X Y x).g t (ix x) else 0) 8192))
  exact if_congr Iff.rfl (mul_comm _ _) rfl

end One

end Stages

end Cert.ReferenceAttnIdeal.Val

end
-- ==== Proof.Safe.lean ====
/-
  Running a kernel without following its values: a load or a store goes through as soon as its buffer is held at some
  contents, and the buffer is held at some contents behind it.
-/
module

public import Idealize.ShloMosaic.Lib.Pipeline.FrameBody
public import Idealize.ShloMosaic.Lib.Pipeline.FrameSuffix
public import Idealize.ShloMosaic.Lib.Ring
public import Idealize.ShloMosaic.Lib.Tactic

@[expose] public section

noncomputable section

namespace Cert.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {U : Type} [URA U] {Λ : Labels}

/-- The resources. -/
abbrev M (nD : ℕ) (τ : Topo) (sig : RefSig) (Val : EltTy → Type) (U : Type) [URA U] := MT nD τ sig Unit Val ℕ U ℕ

/-- A buffer at some contents. -/
def some (c : Dev nD) {cs : CoreSpace} {s : Shape} {e : EltTy} (m : Memref sig .tc cs s e) : sProp (M nD τ sig Val U) :=
  iprop(∃ X, owns c.tc m fullShare X)

/-- `G` holds the buffer at some contents and asks no more of it. -/
def Has (G : sProp (M nD τ sig Val U)) (c : Dev nD) {cs : CoreSpace} {s : Shape} {e : EltTy} (m : Memref sig .tc cs s e) : Prop :=
  G ⊢ iprop(some c m ∗ (some c m -∗ G))

theorem here {G : sProp (M nD τ sig Val U)} {c : Dev nD} {cs : CoreSpace} {s : Shape} {e : EltTy} {m : Memref sig .tc cs s e} : Has iprop(some c m ∗ G) c m := by
  unfold Has
  iintro ⟨H, HG⟩
  isplitl [H]; · iexact H
  iintro H
  isplitl [H]; · iexact H
  iexact HG

theorem there {P G : sProp (M nD τ sig Val U)} {c : Dev nD} {cs : CoreSpace} {s : Shape} {e : EltTy} {m : Memref sig .tc cs s e} (h : Has G c m) : Has iprop(P ∗ G) c m := by
  unfold Has at h ⊢
  iintro ⟨H, HG⟩
  icases h $$ HG with ⟨H1, HG⟩
  isplitl [H1]; · iexact H1
  iintro H1
  isplitl [H]; · iexact H
  iapply HG $$ H1

variable {defs : Defs nD τ sig Val Λ} (𝒱 : Variants) {c : Dev nD} {bd : Option 𝒱.V} {E : Set ℕ} {α : Type} {Q : α → sProp (M nD τ sig Val U)} {G : sProp (M nD τ sig Val U)}
variable {cs : CoreSpace} {s : Shape} {e : EltTy} {m : Memref sig .tc cs s e}

theorem load {r : LoadRect s} {hl : m.view.LoadsAt r} {k : (r.shape.Idx → Val e) → Prog (TpuEff nD τ sig Val Λ .tc) α} (h : Has G c m)
    (hk : ∀ w, G ⊢ wp (M := M nD τ sig Val U) frame (wpE defs 𝒱 c.tc bd) E (k w) Q) :
    G ⊢ wp (M := M nD τ sig Val U) frame (wpE defs 𝒱 c.tc bd) E (.op (.load m r hl) k) Q := by
  refine BIBase.Entails.trans h ?_
  unfold some owns
  iintro ⟨⟨%X, %f, %hf, H⟩, HG⟩
  iapply (wp_load 𝒱 c.tc bd E (m := m) (View.setOn_subset_set _ _)) $$ H
  iintro H
  iapply (hk _)
  iapply HG
  iexists X, f
  isplitr
  · ipureintro; exact hf
  · iexact H

theorem store {r : Rect s} {w : r.shape.Idx → Val e} {Mk : Finset r.shape.Idx} {hx : (m.access r).Stores Mk} {hm : Mk = Finset.univ ∨ ∀ a, r.stride a = 1}
    {k : PUnit → Prog (TpuEff nD τ sig Val Λ .tc) α} (h : Has G c m)
    (hk : G ⊢ wp (M := M nD τ sig Val U) frame (wpE defs 𝒱 c.tc bd) E (k ⟨⟩) Q) :
    G ⊢ wp (M := M nD τ sig Val U) frame (wpE defs 𝒱 c.tc bd) E (.op (.store m r w Mk hx hm) k) Q := by
  refine BIBase.Entails.trans h ?_
  unfold some owns
  iintro ⟨⟨%X, %f, -, H⟩, HG⟩
  iapply (wp_store 𝒱 (c : Thread nD τ) bd E (m := m) (r := r) (w := w) (Mk := Mk) (S := m.view.set)
    ((m.setOn_access_subset_setOn _ _).trans (View.setOn_subset_set _ _))) $$ H
  iintro H
  iapply hk
  iapply HG
  iexists _, ((m.access r).write Val f w Mk)
  isplitr
  · ipureintro; rfl
  · iexact H

theorem assume {P : Prop} {d : Decidable P} {k : PLift P → Prog (TpuEff nD τ sig Val Λ .tc) α} (h : P)
    (hk : G ⊢ wp (M := M nD τ sig Val U) frame (wpE defs 𝒱 c.tc bd) E (k ⟨h⟩) Q) :
    G ⊢ wp (M := M nD τ sig Val U) frame (wpE defs 𝒱 c.tc bd) E (.op (.assume P d) k) Q := hk.trans (wp_assume 𝒱 c.tc bd E h)

theorem ret {x : α} (hk : G ⊢ Q x) : G ⊢ wp (M := M nD τ sig Val U) frame (wpE defs 𝒱 c.tc bd) E (.ret x) Q := by
  rw [wp_ret]; exact hk.trans BI.fupd_intro

theorem call {ℓ : Λ.Label} {a : Λ.Args ℓ} {k : Λ.Result ℓ → Prog (TpuEff nD τ sig Val Λ .tc) α} (v : 𝒱.V) (hv : ∀ u ∈ bd, 𝒱.lt v u)
    (hb : ∀ K : Λ.Result ℓ → sProp (M nD τ sig Val U), (∀ x, G ⊢ K x) → G ⊢ wp (M := M nD τ sig Val U) frame (wpE defs 𝒱 c.tc (Option.some v)) E (defs .tc ℓ a) K)
    (hk : ∀ x, G ⊢ wp (M := M nD τ sig Val U) frame (wpE defs 𝒱 c.tc bd) E (k x) Q) :
    G ⊢ wp (M := M nD τ sig Val U) frame (wpE defs 𝒱 c.tc bd) E (.op (.call ℓ a) k) Q :=
  (hb _ hk).trans (wp_call 𝒱 c.tc bd E v hv)

end Cert.Safe

end
-- ==== Proof.AttnWords.lean ====
/-
  The frame of the attention's backward kernel over words: the run goes through whatever the values are, since its
  windows lie inside the keys and its two sweeps end.
-/
module

public import proofs.«01_k».proof.Proof.Safe
public import proofs.«01_k».proof.Proof.AttnLoop
public import proofs.«01_k».proof.Proof.Gen.KernelAttn.Skeleton
public import proofs.«01_k».proof.Proof.Gen.KernelAttn.Launch
public import proofs.«01_k».proof.Proof.Gen.KernelAttn.Points
public import Idealize.ShloMosaic.Lib.Claim

@[expose] public section

noncomputable section

namespace Cert.AttnWords

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.KernelAttn Cert.KernelAttn.Gen
open Cert.Blocks

variable {F : FTy → Type} [FloatOps F]

abbrev 𝕄 (F : FTy → Type) := MT nD τ sig Unit (Elt F) ℕ (UR sig nD τ) ℕ

abbrev 𝒱₀ : Variants := Variants.nat

/-! ## The sweeps -/

theorem inb3 (n c : ℕ) (hn : n ≤ 64) (hc : c + 128 ≤ 256) {w : BitVec 32} (h : w = hi n) :
    ∀ a, (![0, (Scalar.indexCast (Scalar.maxsi (Scalar.subi w 384#32) 0#32)).toNat, c] : Fin 3 → ℕ) a + S1x384x128.size a ≤ S1x8192x256.size a := fun a => by
  rw [h, sext n hn]
  fin_cases a
  · show 0 + 1 ≤ 1; omega
  · show 128 * (n - 3) + 384 ≤ 8192; omega
  · show c + 128 ≤ 256; omega

theorem inb2 (n c : ℕ) (hn : n ≤ 64) (hc : c + 128 ≤ 256) {w : BitVec 32} (h : w = hi n) :
    ∀ a, (![(Scalar.indexCast (Scalar.maxsi (Scalar.subi w 384#32) 0#32)).toNat, c] : Fin 2 → ℕ) a + S384x128.size a ≤ S8192x256.size a := fun a => by
  rw [h, sext n hn]
  fin_cases a
  · show 128 * (n - 3) + 384 ≤ 8192; omega
  · show c + 128 ≤ 256; omega

theorem chk1 (n : ℕ) (hn : n ≤ 64) : k0_chk1 (hi n) := by
  have hm : ∀ n : Fin 65, 128 ∣ (k0_mult2 (hi n.val)).toNat := by decide +kernel
  exact ⟨hm ⟨n, by omega⟩, inb3 n 0 hn (by omega) rfl, inb3 n 128 hn (by omega) rfl, inb2 n 0 hn (by omega) rfl, inb2 n 128 hn (by omega) rfl⟩

theorem chk2 (n : ℕ) (hn : n ≤ 64) : k0_chk2 (hi n) := by
  have hm : ∀ n : Fin 65, 128 ∣ (k0_mult3 (hi n.val)).toNat := by decide +kernel
  exact ⟨hm ⟨n, by omega⟩, inb3 n 0 hn (by omega) rfl, inb3 n 128 hn (by omega) rfl, inb2 n 0 hn (by omega) rfl, inb2 n 128 hn (by omega) rfl⟩

section Run

variable (c : Dev nD) (G : sProp (𝕄 F)) (i : grid0.Coords)
variable (a2 : Memref sig .tc .vmem S1x128x256 .bf16) (h2 : a2.IsWhole) (a3 : Memref sig .tc .vmem S1x8192x256 .bf16) (h3 : a3.IsWhole)
variable (a4 : Memref sig .tc .vmem S1x8192x256 .bf16) (h4 : a4.IsWhole) (a5 : Memref sig .tc .vmem S1x128x256 .bf16) (h5 : a5.IsWhole)
variable (a6 : Memref sig .tc .vmem S128x256 .bf16) (h6 : a6.IsWhole) (a7 : Memref sig .tc .vmem S8192x256 .bf16) (h7 : a7.IsWhole)
variable (a8 : Memref sig .tc .vmem S8192x256 .bf16) (h8 : a8.IsWhole) (a9 : Memref sig .tc .smem S2 .f32) (h9 : a9.IsWhole)
variable (a10 : Memref sig .tc .vmem S8192x256 .f32) (h10 : a10.IsWhole) (a11 : Memref sig .tc .vmem S8192x256 .f32) (h11 : a11.IsWhole)
variable (a12 : Memref sig .tc .vmem S384x384 .bf16) (h12 : a12.IsWhole) (a13 : Memref sig .tc .vmem S384x384 .bf16) (h13 : a13.IsWhole)
variable (g2 : Safe.Has G c a2) (g3 : Safe.Has G c a3) (g4 : Safe.Has G c a4) (g5 : Safe.Has G c a5) (g6 : Safe.Has G c a6) (g7 : Safe.Has G c a7)
variable (g8 : Safe.Has G c a8) (g9 : Safe.Has G c a9) (g10 : Safe.Has G c a10) (g11 : Safe.Has G c a11) (g12 : Safe.Has G c a12) (g13 : Safe.Has G c a13)

include g3 g4 g12 g11 in
set_option maxHeartbeats 1600000 in
theorem sweep1_run (E : Set ℕ) (n : ℕ) : n ≤ 64 → ∀ b0 b1 x0 x1 pos q0 q1 r0 r1 t0 t1
    (K : _ → sProp (𝕄 F)), (∀ x, G ⊢ K x) →
    G ⊢ wp frame (wpE (defs₀ (F := F)) 𝒱₀ c.tc (some n)) E
      (defs₀ (F := F) .tc 1 ⟨i, b0, b1, a3, h3, a4, h4, x0, x1, pos, q0, q1, a12, h12, a11, h11, hi n, r0, r1, t0, t1⟩) K := by
  induction n using Nat.strong_induction_on with
  | _ n ih =>
  intro hn b0 b1 x0 x1 pos q0 q1 r0 r1 t0 t1 K hK
  show _ ⊢ wp frame (wpE (defs₀ (F := F)) 𝒱₀ c.tc (some n)) E
    (cc0_while1 i b0 b1 a3 h3 a4 h4 x0 x1 pos q0 q1 a12 h12 a11 h11 (hi n) r0 r1 t0 t1) K
  simp only [cc0_while1_eq_skeleton]; unfold cc0_while1_skel
  dsimp only
  split
  next hg =>
    have h0 : 0 < n := by
      rcases Nat.eq_zero_or_pos n with h0 | h0
      · subst h0; exact absurd hg (sgt_zero _)
      · exact h0
    simp only [k0_part8_eq_skeleton, k0_part9_eq_skeleton]
    unfold k0_part8_skel k0_part9_skel
    simp only [Prog.lift, Prog.bind_op, Prog.bind_ret, Prog.pure_eq_ret]
    refine Safe.assume 𝒱₀ (chk1 n hn) ?_
    simp only [Prog.bind_op, Prog.bind_ret]
    iterate 2
      refine Safe.load 𝒱₀ g3 fun _ => ?_
      simp only [Prog.bind_op, Prog.bind_ret]
    iterate 2
      refine Safe.load 𝒱₀ g4 fun _ => ?_
      simp only [Prog.bind_op, Prog.bind_ret]
    iterate 2 refine Safe.load 𝒱₀ g12 fun _ => ?_
    iterate 2
      iterate 2 refine Safe.load 𝒱₀ g11 fun _ => ?_
      refine Safe.store 𝒱₀ g11 ?_
    rw [hi_next n hn]
    exact Safe.call 𝒱₀ (n - 3) (fun u hu => by cases hu; show n - 3 < n; omega)
      (fun K' hK' => ih (n - 3) (by omega) (by omega) _ _ _ _ _ _ _ _ _ _ _ K' hK') fun x => Safe.ret 𝒱₀ (hK x)
  next => rw [Prog.pure_eq_ret]; exact Safe.ret 𝒱₀ (hK _)

include g3 g4 g12 g13 g10 in
set_option maxHeartbeats 1600000 in
theorem sweep2_run (E : Set ℕ) (n : ℕ) : n ≤ 64 → ∀ b0 b1 x0 x1 pos q0 q1 T0 T1 r0 r1 t0 t1 d0 d1
    (K : _ → sProp (𝕄 F)), (∀ x, G ⊢ K x) →
    G ⊢ wp frame (wpE (defs₀ (F := F)) 𝒱₀ c.tc (some n)) E
      (defs₀ (F := F) .tc 2 ⟨i, b0, b1, a3, h3, a4, h4, x0, x1, pos, q0, q1, a12, h12, a13, h13, T0, T1, a10, h10, hi n, r0, r1, t0, t1, d0, d1⟩) K := by
  induction n using Nat.strong_induction_on with
  | _ n ih =>
  intro hn b0 b1 x0 x1 pos q0 q1 T0 T1 r0 r1 t0 t1 d0 d1 K hK
  show _ ⊢ wp frame (wpE (defs₀ (F := F)) 𝒱₀ c.tc (some n)) E
    (cc0_while2 i b0 b1 a3 h3 a4 h4 x0 x1 pos q0 q1 a12 h12 a13 h13 T0 T1 a10 h10 (hi n) r0 r1 t0 t1 d0 d1) K
  simp only [cc0_while2_eq_skeleton]; unfold cc0_while2_skel
  dsimp only
  split
  next hg =>
    have h0 : 0 < n := by
      rcases Nat.eq_zero_or_pos n with h0 | h0
      · subst h0; exact absurd hg (sgt_zero _)
      · exact h0
    simp only [k0_part10_eq_skeleton, k0_part11_eq_skeleton, k0_part12_eq_skeleton]
    unfold k0_part10_skel k0_part11_skel k0_part12_skel
    simp only [Prog.lift, Prog.bind_op, Prog.bind_ret, Prog.pure_eq_ret]
    refine Safe.assume 𝒱₀ (chk2 n hn) ?_
    simp only [Prog.bind_op, Prog.bind_ret]
    iterate 2
      refine Safe.load 𝒱₀ g3 fun _ => ?_
      simp only [Prog.bind_op, Prog.bind_ret]
    iterate 2
      refine Safe.load 𝒱₀ g4 fun _ => ?_
      simp only [Prog.bind_op, Prog.bind_ret]
    iterate 2 refine Safe.load 𝒱₀ g12 fun _ => ?_
    iterate 2 refine Safe.load 𝒱₀ g13 fun _ => ?_
    iterate 2
      iterate 2 refine Safe.load 𝒱₀ g10 fun _ => ?_
      refine Safe.store 𝒱₀ g10 ?_
    rw [hi_next n hn]
    exact Safe.call 𝒱₀ (n - 3) (fun u hu => by cases hu; show n - 3 < n; omega)
      (fun K' hK' => ih (n - 3) (by omega) (by omega) _ _ _ _ _ _ _ _ _ _ _ _ _ _ _ K' hK') fun x => Safe.ret 𝒱₀ (hK x)
  next => rw [Prog.pure_eq_ret]; exact Safe.ret 𝒱₀ (hK _)

/-! ## The body -/

include g2 g3 g5 g9 g10 g11 g12 g13 in
set_option maxHeartbeats 1600000 in
theorem part2_run (K : _ → sProp (𝕄 F)) (hK : ∀ x, x.1 = BitVec.ofNat 32 (i 1).val → G ⊢ K x) :
    G ⊢ wp frame (wpE (defs₀ (F := F)) 𝒱₀ c.tc none) Set.univ (k0_part2 i a2 h2 a3 h3 a4 h4 a5 h5 a6 h6 a7 h7 a8 h8 a9 h9 a10 h10 a11 h11 a12 h12 a13 h13) K := by
  simp only [k0_part2_eq_skeleton]; unfold k0_part2_skel
  dsimp only
  split
  · simp only [k0_part1_eq_skeleton]; unfold k0_part1_skel
    simp only [smemLoad, smemLoadElt, Prog.lift, Prog.bind_op, Prog.bind_ret, Prog.pure_eq_ret]
    iterate 2
      refine Safe.load 𝒱₀ g3 fun _ => ?_
      refine Safe.load 𝒱₀ g9 fun _ => ?_
      refine Safe.store 𝒱₀ g9 ?_
    refine Safe.load 𝒱₀ g10 fun _ => Safe.store 𝒱₀ g10 ?_
    refine Safe.load 𝒱₀ g11 fun _ => Safe.store 𝒱₀ g11 ?_
    refine Safe.load 𝒱₀ g12 fun _ => Safe.store 𝒱₀ g12 ?_
    refine Safe.load 𝒱₀ g13 fun _ => Safe.store 𝒱₀ g13 ?_
    iterate 2 refine Safe.load 𝒱₀ g2 fun _ => ?_
    iterate 2 refine Safe.load 𝒱₀ g5 fun _ => ?_
    iterate 2 refine Safe.load 𝒱₀ g9 fun _ => ?_
    exact Safe.ret 𝒱₀ (hK _ rfl)
  · simp only [smemLoad, smemLoadElt, Prog.lift, Prog.bind_op, Prog.bind_ret, Prog.pure_eq_ret]
    iterate 2 refine Safe.load 𝒱₀ g2 fun _ => ?_
    iterate 2 refine Safe.load 𝒱₀ g5 fun _ => ?_
    iterate 2 refine Safe.load 𝒱₀ g9 fun _ => ?_
    exact Safe.ret 𝒱₀ (hK _ rfl)

include g2 g3 g4 g5 g6 g7 g8 g9 g10 g11 g12 g13 in
set_option maxHeartbeats 1600000 in
theorem body_run (K : PUnit → sProp (𝕄 F)) (hK : G ⊢ K ⟨⟩) :
    G ⊢ wp frame (wpE (defs₀ (F := F)) 𝒱₀ c.tc none) Set.univ (cc0_attn_bwd i a2 h2 a3 h3 a4 h4 a5 h5 a6 h6 a7 h7 a8 h8 a9 h9 a10 h10 a11 h11 a12 h12 a13 h13) K := by
  have hn : (i 1).val + 1 ≤ 64 := by have h : (i 1).val < 64 := (i 1).isLt; omega
  simp only [cc0_attn_bwd_eq_skeleton]; unfold cc0_attn_bwd_skel
  simp only [k0_part7_eq_skeleton]; unfold k0_part7_skel
  rw [wp_bind, wp_bind]
  refine part2_run c G i a2 h2 a3 h3 a4 h4 a5 h5 a6 h6 a7 h7 a8 h8 a9 h9 a10 h10 a11 h11 a12 h12 a13 h13 g2 g3 g5 g9 g10 g11 g12 g13 _ ?_
  rintro ⟨b, x0, x1, x2, x3, x4, x5, x6⟩ hb
  subst hb
  simp only [k0_part3_eq_skeleton, k0_part4_eq_skeleton, k0_part5_eq_skeleton, k0_part6_eq_skeleton]
  unfold k0_part3_skel k0_part4_skel k0_part5_skel k0_part6_skel
  dsimp only
  rw [hi_block (i 1), hi_next _ hn]
  simp only [Prog.lift, Prog.bind_op, Prog.bind_ret, Prog.pure_eq_ret]
  iterate 2 refine Safe.load 𝒱₀ g3 fun _ => ?_
  iterate 2 refine Safe.load 𝒱₀ g4 fun _ => ?_
  iterate 2 refine Safe.load 𝒱₀ g12 fun _ => ?_
  iterate 2
    iterate 2 refine Safe.load 𝒱₀ g11 fun _ => ?_
    refine Safe.store 𝒱₀ g11 ?_
  refine Safe.call 𝒱₀ ((i 1).val + 1 - 3) (fun u hu => nomatch hu)
    (sweep1_run c G i a3 h3 a4 h4 a11 h11 a12 h12 g3 g4 g11 g12 Set.univ _ (by omega) _ _ _ _ _ _ _ _ _ _ _) fun _ => ?_
  simp only [Prog.bind_op, Prog.bind_ret]
  iterate 2 refine Safe.load 𝒱₀ g13 fun _ => ?_
  iterate 2
    iterate 2 refine Safe.load 𝒱₀ g10 fun _ => ?_
    refine Safe.store 𝒱₀ g10 ?_
  refine Safe.call 𝒱₀ ((i 1).val + 1 - 3) (fun u hu => nomatch hu)
    (sweep2_run c G i a3 h3 a4 h4 a10 h10 a12 h12 a13 h13 g3 g4 g10 g12 g13 Set.univ _ (by omega) _ _ _ _ _ _ _ _ _ _ _ _ _ _ _) fun _ => ?_
  simp only [Prog.bind_op, Prog.bind_ret]
  iterate 2
    refine Safe.load 𝒱₀ g6 fun _ => ?_
    refine Safe.store 𝒱₀ g6 ?_
  split
  · refine Safe.load 𝒱₀ g10 fun _ => Safe.load 𝒱₀ g7 fun _ => Safe.store 𝒱₀ g7 ?_
    refine Safe.load 𝒱₀ g11 fun _ => Safe.load 𝒱₀ g8 fun _ => Safe.store 𝒱₀ g8 ?_
    exact Safe.ret 𝒱₀ (Safe.ret 𝒱₀ hK)
  · exact Safe.ret 𝒱₀ (Safe.ret 𝒱₀ hK)

end Run

/-! ## The launch -/

variable (m : (ℓ : Loc nD τ sig) → Buf (Elt F) ℓ) (ρ : Dev nD → PrngReg)

/-- The arrays as the launch finds them. -/
abbrev V (c : Dev nD) (b : Ref sig .tc) : Buf (Elt F) ((c : Thread nD τ).loc b) :=
  StableHlo.after hostOps0 (fun b => m (c, b)) (Proc.devRef .tc b)

theorem hostOps0_fresh : (hostOps0 (F := F)).Forall fun op => op.fresh = ∅ := by
  simp only [List.Forall]; repeat' constructor

set_option maxHeartbeats 800000 in
theorem hmain : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

theorem V_args (c : Dev nD) : V m c main_arg0 = m (c.tc.loc main_arg0) ∧ V m c main_arg1 = m (c.tc.loc main_arg1) := by
  constructor <;> exact StableHlo.after_of_forall_not_mem _ _ (List.forall_iff_forall_mem.mp (by
    simp only [hostOps0, List.Forall, StableHlo.unary_writes, StableHlo.reshape_writes, Finset.mem_singleton]
    repeat' apply And.intro
    all_goals exact StableHlo.devRef_ne_of_ne (by decide)))

theorem PhiA_eq (c : Dev nD) : (Pipeline.ΦA spec0 c : sProp (𝕄 F))
    = iprop(iprop((∃ d, owns c.tc (Memref.whole cc0_scratch1) fullShare d) ∗ (∃ d, owns c.tc (Memref.whole cc0_scratch2) fullShare d)
        ∗ (∃ d, owns c.tc (Memref.whole cc0_scratch3) fullShare d) ∗ (∃ d, owns c.tc (Memref.whole cc0_scratch4) fullShare d)
        ∗ (∃ d, owns c.tc (Memref.whole cc0_scratch0) fullShare d)) ∗ (∃ r, prngReg c r)) := by
  unfold Pipeline.ΦA; rw [scopedRest0_eq]; simp only [owns_whole]; try rfl

/-- The launch's data: nothing is said of what a block leaves in its buffers. -/
def rdat (c : Dev nD) : RDat τ (Elt F) Unit ℕ (UR sig nD τ) ℕ (cfg0 (F := F)) c where
  A w := V m c (Pipeline.arrRef spec0 w)
  after _ _ _ _ := True
  Φ _ := Pipeline.ΦA spec0 c
  q w := Pipeline.shareOf spec0 w
  owed _ := 0

variable (c : Dev nD) (t : Fin (cfg0 (F := F)).N)

abbrev ms0 : Memref sig .tc .vmem S1x128x256 .bf16 := win0_0.stage ((cfg0 (F := F)).slots t 0)
abbrev ms1 : Memref sig .tc .vmem S1x8192x256 .bf16 := win0_1.stage ((cfg0 (F := F)).slots t 1)
abbrev ms2 : Memref sig .tc .vmem S1x8192x256 .bf16 := win0_2.stage ((cfg0 (F := F)).slots t 2)
abbrev ms3 : Memref sig .tc .vmem S1x128x256 .bf16 := win0_3.stage ((cfg0 (F := F)).slots t 3)
abbrev ms4 : Memref sig .tc .vmem S128x256 .bf16 := win0_4.stage ((cfg0 (F := F)).slots t 4)
abbrev ms5 : Memref sig .tc .vmem S8192x256 .bf16 := win0_5.stage ((cfg0 (F := F)).slots t 5)
abbrev ms6 : Memref sig .tc .vmem S8192x256 .bf16 := win0_6.stage ((cfg0 (F := F)).slots t 6)

theorem defs₀_row :
    defs₀ (F := F) .tc (cfg0 (F := F)).body ((cfg0 (F := F)).bodyArgs t ((cfg0 (F := F)).slots t)) = bodyAt0 t := by
  unfold defs₀; rw [Defs.onTc_tc]

/-- All a block works in, and the rest. -/
def all (R : sProp (𝕄 F)) : sProp (𝕄 F) :=
  iprop(Safe.some c (ms0 t) ∗ Safe.some c (ms1 t) ∗ Safe.some c (ms2 t) ∗ Safe.some c (ms3 t) ∗ Safe.some c (ms4 t) ∗ Safe.some c (ms5 t) ∗ Safe.some c (ms6 t)
    ∗ Safe.some c (Memref.whole cc0_scratch0) ∗ Safe.some c (Memref.whole cc0_scratch1) ∗ Safe.some c (Memref.whole cc0_scratch2)
    ∗ Safe.some c (Memref.whole cc0_scratch3) ∗ Safe.some c (Memref.whole cc0_scratch4) ∗ R)

theorem point_run (R : sProp (𝕄 F)) (K : PUnit → sProp (𝕄 F)) (hK : all c t R ⊢ K ⟨⟩) :
    all c t R ⊢ wp frame (wpE (defs₀ (F := F)) 𝒱₀ c.tc none) Set.univ (bodyAt0 t) K := by
  unfold all at hK ⊢
  refine body_run c _ _ _ _ _ _ _ _ _ _ _ _ _ _ _ _ _ _ _ _ _ _ _ _ _ _ ?_ ?_ ?_ ?_ ?_ ?_ ?_ ?_ ?_ ?_ ?_ ?_ K hK
  all_goals repeat first | exact Safe.here | refine Safe.there ?_

theorem body_obligation (c : Dev nD) : (rdat m c).BodyObligation (defs₀ (F := F)) 𝒱₀ () Set.univ := fun t Y _ => by
  rw [bigSep_W0, bigSep_W0, defs₀_row]
  refine BIBase.Entails.trans ?_ (point_run c t iprop((∃ r, prngReg c r) ∗ (rdat m c).owesAt () t.castSucc) _ ?_)
  · rw [show (rdat m c).Φ t.castSucc = Pipeline.ΦA spec0 c from rfl, PhiA_eq]
    unfold all Safe.some
    iintro ⟨⟨⟨S1, S2, S3, S4, S0⟩, Hg⟩, Ho, H0, H1, H2, H3, H4, H5, H6⟩
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [S0]; · iexact S0
    isplitl [S1]; · iexact S1
    isplitl [S2]; · iexact S2
    isplitl [S3]; · iexact S3
    isplitl [S4]; · iexact S4
    isplitl [Hg]; · iexact Hg
    iexact Ho
  · rw [show (rdat m c).Φ t.succ = Pipeline.ΦA spec0 c from rfl, PhiA_eq, show (rdat m c).owesAt () t.succ = (rdat m c).owesAt () t.castSucc from rfl]
    unfold all Safe.some
    iintro ⟨⟨%d0, H0⟩, ⟨%d1, H1⟩, ⟨%d2, H2⟩, ⟨%d3, H3⟩, ⟨%d4, H4⟩, ⟨%d5, H5⟩, ⟨%d6, H6⟩, S0, S1, S2, S3, S4, Hg, Ho⟩
    isplitl [S0 S1 S2 S3 S4 Hg]
    · isplitr [Hg]
      · isplitl [S1]; · iexact S1
        isplitl [S2]; · iexact S2
        isplitl [S3]; · iexact S3
        isplitl [S4]; · iexact S4
        iexact S0
      iexact Hg
    isplitl [Ho]; · iexact Ho
    isplitl [H0]
    · iexists d0; isplitr; · ipureintro; exact trivial
      iexact H0
    isplitl [H1]
    · iexists d1; isplitr; · ipureintro; exact trivial
      iexact H1
    isplitl [H2]
    · iexists d2; isplitr; · ipureintro; exact trivial
      iexact H2
    isplitl [H3]
    · iexists d3; isplitr; · ipureintro; exact trivial
      iexact H3
    isplitl [H4]
    · iexists d4; isplitr; · ipureintro; exact trivial
      iexact H4
    isplitl [H5]
    · iexists d5; isplitr; · ipureintro; exact trivial
      iexact H5
    iexists d6; isplitr; · ipureintro; exact trivial
    iexact H6

set_option backward.isDefEq.respectTransparency.types false in
set_option maxHeartbeats 800000 in
theorem run_main : θ_run defs (onTc (τ := τ) (main (F := F))) (s₀ m ρ)
    (fun r => RDat.FramePost (cfg0 (F := F)) (rdat m) (V m) r ∧ r.2.sem = fun _ => 0) :=
  RDat.θ_run_frame_track_shared (Q' := _) (cfgs (F := F)) (0 : Fin 1) launch₀0 defs₀ 𝒱₀ (rdat m) m ρ main
    (hbody := body_obligation m) (hq := fun _ _ _ => rfl)
    (howed := fun _ _ => rfl) (V := V m) (hmain := hmain m) (hA := fun _ _ => rfl) (hin := fun _ => .rfl) (hout := fun _ => .rfl)

/-- The frame. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨((h.1 c).2 main_arg0 (Pipeline.mem_restRefs_of main_arg0 (by decide) (by decide : ∀ w : Fin 7, (spec0 w).arr.view.ref ≠ main_arg0))).trans (V_args m c).1,
      ((h.1 c).2 main_arg1 (Pipeline.mem_restRefs_of main_arg1 (by decide) (by decide : ∀ w : Fin 7, (spec0 w).arr.view.ref ≠ main_arg1))).trans (V_args m c).2⟩, h.2⟩)
    (run_main m ρ)

end Cert.AttnWords

end
-- ==== Proof.Attn.lean ====
/-
  The attention's backward call: its frames, the reference's frame, and the equality of the three results over the reals from
  finite arguments.
-/
module

public import proofs.«01_k».proof.Proof.AttnKernel
public import proofs.«01_k».proof.Proof.Blocks
public import proofs.«01_k».proof.Proof.AttnRef
public import proofs.«01_k».proof.Proof.AttnWords
public import proofs.«01_k».proof.Proof.Gen.KernelAttn
public import proofs.«01_k».proof.Proof.Gen.Pre_finite_attn
public import proofs.«01_k».proof.Proof.Gen.ReferenceAttnIdeal.Run
public import proofs.«01_k».proof.Defs
public import Idealize.ShloMosaic.Lib.ReduceAll

@[expose] public section

noncomputable section

namespace Cert.Attn

open Idealize.ShloMosaic Idealize.ShloMosaic.TcCoe Idealize.ShloMosaic.Tactic
open Idealize.SL Idealize.SL.Sem

/-! ## The frames -/

theorem frame_ideal : Cert.quiescent_KernelAttnIdeal := fun m ρ _ => frame_any (F := Ideal) m ρ
theorem frame_kernel : Cert.quiescent_KernelAttn := fun m ρ _ => Cert.AttnWords.frame_any (F := Bits) m ρ

theorem frame_reference : Cert.quiescent_ReferenceAttnIdeal := fun m ρ _ =>
  (θ_run Cert.ReferenceAttnIdeal.defs _ _).mono (fun r h => ⟨fun c => (h c).2.2.2, sem_eq_zero_of_no_sems (by decide) r.2⟩)
    (Cert.ReferenceAttnIdeal.Value.run (F := Ideal) m ρ)

theorem names : Cert.preserves_KernelAttn_KernelAttnIdeal := ⟨IdealRules.named_const.statement _ _ _ _ _ rfl, IdealRules.named_const.statement _ _ _ _ _ rfl⟩

/-! ## The values -/

open Cert.AttnMath Cert.Common Cert.Blocks

section Pre

variable (m : (ℓ : Loc Cert.KernelAttnIdeal.nD Cert.KernelAttnIdeal.τ Cert.KernelAttnIdeal.sig) → Buf (Elt Ideal) ℓ)
  (c : Dev Cert.KernelAttnIdeal.nD)

/-- The packed queries, keys and values as reals, zero outside the array. -/
def Xv (n k : ℕ) : ℝ := if h : n < 8192 ∧ k < 6144 then
  ((m (c.tc.loc Cert.KernelAttnIdeal.main_arg0) : Vec Ideal Cert.KernelAttnIdeal.S8192x6144 .f32) (ix2 ⟨n, h.1⟩ ⟨k, h.2⟩)).toReal else 0

/-- The incoming gradients as reals, zero outside the array. -/
def Yv (n k : ℕ) : ℝ := if h : n < 8192 ∧ k < 2048 then
  ((m (c.tc.loc Cert.KernelAttnIdeal.main_arg1) : Vec Ideal Cert.KernelAttnIdeal.S8192x2048 .f32) (ix2 ⟨n, h.1⟩ ⟨k, h.2⟩)).toReal else 0

instance : Subsingleton Cert.Pre_finite_attn.S_.Idx := ⟨fun a b => funext fun i => i.elim0⟩

theorem reals (h : Cert.Pre_KernelAttnIdeal_finite_attn m) : Reals m c (Xv m c) (Yv m c) := by
  have e := congrFun (h c) ix0
  obtain ⟨e0, e1⟩ := IntOp.andi_eq_one.1 e
  refine ⟨fun i k => ?_, fun i k => ?_⟩
  · rw [Xv, dif_pos ⟨i.isLt, k.isLt⟩]
    exact real_at e0 (ix2 i k)
  · rw [Yv, dif_pos ⟨i.isLt, k.isLt⟩]
    exact real_at e1 (ix2 i k)

end Pre

theorem values : Cert.algebraic_KernelAttnIdeal_ReferenceAttnIdeal_pre_finite_attn := by
  intro m g m' g' h hag
  have hR := fun c => reals m c h
  refine ⟨fun c => gQ (Xv m c) (Yv m c), fun c => gK (Xv m c) (Yv m c), fun c => gV (Xv m c) (Yv m c), ?_, ?_⟩
  · refine (θ_run Cert.KernelAttnIdeal.defs _ _).mono (fun r hr c => ?_) (run_main (F := Ideal) m g)
    exact ⟨((hr c).1 4).trans (final_4 (hR c)), ((hr c).1 5).trans (final_5 (hR c)), ((hr c).1 6).trans (final_6 (hR c)), unchanged_of m hr c⟩
  · refine (θ_run Cert.ReferenceAttnIdeal.defs _ _).mono (fun r hr c => ?_) (Cert.ReferenceAttnIdeal.Value.run (F := Ideal) m' g')
    obtain ⟨h0, h1, h2, ha⟩ := hr c
    obtain ⟨a0, a1⟩ := hag c
    have d0 := same2 (hR c).x a0
    have d1 := same2 (hR c).y a1
    refine ⟨h0.trans ((Cert.ReferenceAttnIdeal.Read.val_main_v51_eq _ _).trans (funext fun i => ?_)),
      h1.trans ((Cert.ReferenceAttnIdeal.Read.val_main_v52_eq _ _).trans (funext fun i => ?_)),
      h2.trans ((Cert.ReferenceAttnIdeal.Read.val_main_v53_eq _ _).trans (funext fun i => ?_)), ha⟩
    · obtain ⟨a, b, rfl⟩ : ∃ a b, i = ix2 a b := ⟨_, _, eq_ix2 i⟩
      exact Cert.ReferenceAttnIdeal.Val.v51 d0 d1 a b
    · obtain ⟨a, b, rfl⟩ : ∃ a b, i = ix2 a b := ⟨_, _, eq_ix2 i⟩
      exact Cert.ReferenceAttnIdeal.Val.v52 d0 d1 a b
    · obtain ⟨a, b, rfl⟩ : ∃ a b, i = ix2 a b := ⟨_, _, eq_ix2 i⟩
      exact Cert.ReferenceAttnIdeal.Val.v53 d0 d1 a b

end Cert.Attn

end
-- ==== Proof.Counts.lean ====
/- Counts as words: the row numbers and window lengths that the programs compute in 32-bit integers, as naturals, and
   sums over a window of rows. -/
module

public import proofs.«01_k».proof.Proof.Common

@[expose] public section

noncomputable section

namespace Cert.Counts

open Idealize.ShloMosaic Cert.Common

theorem toInt_ofNat (n : ℕ) (h : n < 2 ^ 31) : (BitVec.ofNat 32 n).toInt = (n : ℤ) := by
  rw [BitVec.toInt_eq_toNat_of_lt (by rw [BitVec.toNat_ofNat]; omega), BitVec.toNat_ofNat, Nat.mod_eq_of_lt (by omega)]

/-- A signed comparison of two counts. -/
theorem slt_counts (x y : ℕ) (hx : x < 2 ^ 31) (hy : y < 2 ^ 31) :
    (BitVec.ofNat 32 x).slt (BitVec.ofNat 32 y) = decide (x < y) := by
  rw [BitVec.slt, toInt_ofNat x hx, toInt_ofNat y hy]; simp

/-- The lesser of two counts. -/
theorem min_counts (x y : ℕ) (hx : x < 2 ^ 31) (hy : y < 2 ^ 31) :
    IntOp.minsi (BitVec.ofNat 32 x) (BitVec.ofNat 32 y) = BitVec.ofNat 32 (min x y) := by
  unfold IntOp.minsi; rw [slt_counts x y hx hy]
  by_cases h : x < y
  · rw [if_pos (by simpa using h), min_eq_left h.le]
  · rw [if_neg (by simpa using h), min_eq_right (by omega)]

/-- Row `r` of tile `i` of `k` rows, counted from one and cut at `w`. -/
theorem row_count (i k r w : ℕ) (h : i * k + r + 1 < 2 ^ 31) (hw : w < 2 ^ 31) :
    (IntOp.minsi (IntOp.addi (IntOp.addi (IntOp.muli (BitVec.ofNat 32 i) (BitVec.ofNat 32 k)) (BitVec.ofNat 32 r)) 1#32) (BitVec.ofNat 32 w)).toInt
      = ((min (i * k + r + 1) w : ℕ) : ℤ) := by
  rw [show IntOp.addi (IntOp.addi (IntOp.muli (BitVec.ofNat 32 i) (BitVec.ofNat 32 k)) (BitVec.ofNat 32 r)) 1#32
    = BitVec.ofNat 32 (i * k + r + 1) by
      show BitVec.ofNat 32 i * BitVec.ofNat 32 k + BitVec.ofNat 32 r + BitVec.ofNat 32 1 = _
      rw [BitVec.ofNat_add, BitVec.ofNat_add, BitVec.ofNat_mul],
    min_counts _ _ h hw, toInt_ofNat _ (by omega)]

/-- The length of the window of row `n`, and the row's entry over it. -/
def len (w n : ℕ) : ℝ := ((min (n + 1) w : ℕ) : ℝ)

theorem len_pos {w : ℕ} (hw : 0 < w) (n : ℕ) : len w n ≠ 0 := by
  unfold len; exact Nat.cast_ne_zero.2 (by omega)

/-- A window twice as long is two windows. -/
theorem window_double (f : ℕ → ℝ) (r s : ℕ) :
    (∑ k ∈ Finset.range s, f (r + k)) + ∑ k ∈ Finset.range s, f (r + s + k) = ∑ k ∈ Finset.range (s + s), f (r + k) := by
  rw [Finset.sum_range_add]; simp only [Nat.add_assoc]

/-- The row number so counted, as a real. -/
theorem row_real (i k r w : ℕ) (h : i * k + r + 1 < 2 ^ 31) (hw : w < 2 ^ 31) :
    (FloatOps.sitofp FTy.f32 (IntOp.minsi (IntOp.addi (IntOp.addi (IntOp.muli (BitVec.ofNat 32 i) (BitVec.ofNat 32 k)) (BitVec.ofNat 32 r)) 1#32) (BitVec.ofNat 32 w)) : Ideal .f32)
      = (len w (i * k + r) : EReal) := by
  exact (congrArg (fun z : ℤ => ((z : ℝ) : EReal)) (row_count i k r w h hw)).trans (by rw [Int.cast_natCast]; rfl)

theorem host_row_real (n w : ℕ) (h : n + 1 < 2 ^ 31) (hw : w < 2 ^ 31) :
    (FloatOps.sitofp FTy.f32 (IntOp.minsi (IntOp.addi 1#32 (BitVec.ofNat 32 n)) (BitVec.ofNat 32 w)) : Ideal .f32) = (len w n : EReal) := by
  have e : IntOp.addi 1#32 (BitVec.ofNat 32 n) = BitVec.ofNat 32 (n + 1) := by
    show BitVec.ofNat 32 1 + BitVec.ofNat 32 n = _; rw [BitVec.ofNat_add, BitVec.add_comm]
  rw [e, min_counts _ _ h hw]
  exact (congrArg (fun z : ℤ => ((z : ℝ) : EReal)) (toInt_ofNat _ (by omega))).trans (by rw [Int.cast_natCast]; rfl)

/-- Row `n`'s entry over its window's length, nothing from row 8192 on. -/
def over (w : ℕ) (D : ℕ → ℝ) (n : ℕ) : ℝ := if n < 8192 then D n / len w n else 0

/-- The factor of the residual. -/
def alpha : ℝ := (8388608 + 5719293 : ℝ) * (2 : ℝ) ^ (-23 : Int)

theorem ofBits_alpha : Ideal.ofBits .f32 0x3FD744FD#32 = (alpha : EReal) := by
  simp [Ideal.ofBits, Ideal.ieee, alpha, -EReal.coe_mul]; norm_num

/-- The window of a column's group: 2, 4, 8 and 16 rows for the four groups of 512 columns. -/
def span (b : ℕ) : ℕ := 2 ^ (b / 512 + 1)

/-- The gradient at row `n` of column `b`: the scaled residual, plus the window's rows over their lengths, less the
    pooled gradient itself. -/
def pooled (w : ℕ) (D A : ℕ → ℝ) (n : ℕ) : ℝ := alpha * A n + ∑ k ∈ Finset.range w, over w D (n + k) - D n

end Cert.Counts

end
-- ==== Proof.MixBody.lean ====
/- The pooling's backward kernel, one group of columns at a time: the window means of a tile, and what the group adds to the
   three gradients, on reals. -/
module

public import proofs.«01_k».proof.Defs
public import proofs.«01_k».proof.Proof.Counts
public import proofs.«01_k».proof.Proof.Gen.KernelMixIdeal.Value
public import Idealize.ShloMosaic.Lib.Pipeline.ReadBack
public import Idealize.ShloMosaic.Lib.KernelVsHost
public import Idealize.ShloMosaic.Lib.Pointwise
public import Idealize.ShloMosaic.Lib.Tactic

@[expose] public section

noncomputable section

/-! ## Windows that end at a row -/

namespace Cert.Counts

/-- A sequence sixteen places later, zeros before it. -/
def later (X : ℕ → ℝ) (n : ℕ) : ℝ := if n < 16 then 0 else X (n - 16)

/-- The sum of the window of `w` rows that ends at row `n`. -/
def win (w : ℕ) (X : ℕ → ℝ) (n : ℕ) : ℝ := ∑ k ∈ Finset.range w, later X (n + 16 - k)

/-- The window's mean less the row itself. -/
def mixed (w : ℕ) (X : ℕ → ℝ) (n : ℕ) : ℝ := win w X n / len w n - X n

end Cert.Counts

namespace Cert.KernelMixIdeal.Val

open Cert.KernelMixIdeal Cert.KernelMixIdeal.Gen Cert.Common Cert.Counts
open Idealize.ShloMosaic Idealize.ShloMosaic.TcCoe

/-- The sixteen rows before a tile and the tile; nothing comes before the first tile. -/
def ext (a : BitVec 32) (x : Vec Ideal S256x512 .f32) (y : Vec Ideal S16x512 .f32) : FVec Ideal S272x512 .f32 :=
  concatenate S272x512 0 [⟨S16x512, Scalar.select (Scalar.cmpi .sgt a 0#32) y (broadcast S16x512 (Scalar.ofBits .f32 0x00000000#32))⟩,
    ⟨S256x512, x⟩] concatenates_S16x512_S256x512_S272x512_d0

/-- Each row plus the row that a rotation by `n` brings to it. -/
def roll (n : BitVec 32) (s : FVec Ideal S272x512 .f32) : FVec Ideal S272x512 .f32 :=
  addf s (dynamicRotate 0 n none s rotates_S272x512_d0)

/-- The tile's window sums over their lengths, less the tile. -/
def mean (a w : BitVec 32) (s : FVec Ideal S272x512 .f32) (x : Vec Ideal S256x512 .f32) : FVec Ideal S256x512 .bf16 :=
  truncf .bf16 (subf (divf (extractStridedSlice S256x512 ![16, 0] s slices_S272x512_o16_0_S256x512)
    (broadcastTo S256x512 (sitofp .f32 (minsi (addi (addi (broadcast S256x1 (Scalar.muli a 256#32)) (iota .tc S256x1 32 [0] iota_S256x1_d0_w32))
      (broadcast S256x1 1#32)) (broadcast S256x1 w))) broadcasts_S256x1_S256x512)) x) bitsLt_bf16_f32

/-- The cotangent times the scale. -/
def scl (d : Vec Ideal S256x512 .f32) (s : Vec Ideal S1x512 .f32) : FVec Ideal S256x512 .bf16 :=
  truncf .bf16 (mulf d (broadcastTo S256x512 (shapeCast S1x512 s shapeCasts_S1x512_S1x512) broadcasts_S1x512_S256x512)) bitsLt_bf16_f32

/-- The gradient of the means. -/
def back (d : Vec Ideal S256x512 .f32) (s : Vec Ideal S1x512 .f32) (w : FVec Ideal S1x512x512 .bf16) : FVec Ideal S256x512 .f32 :=
  matmul dot_S256x512_S512x512_S256x512_1_1_0_0_n_n none (scl d s) (shapeCast S512x512 w shapeCasts_S1x512x512_S512x512)
    (constant S256x512 .f32 0x00000000#32)

/-- The weights' gradient with the tile's part added. -/
def accW (p : FVec Ideal S256x512 .bf16) (d : Vec Ideal S256x512 .f32) (s : Vec Ideal S1x512 .f32) (v : Vec Ideal S1x512x512 .f32) : FVec Ideal S1x512x512 .f32 :=
  shapeCast S1x512x512 (addf (shapeCast S512x512 v shapeCasts_S1x512x512_S512x512)
    (matmul dot_S256x512_S256x512_S512x512_0_0_1_1_n_n none p (scl d s) (constant S512x512 .f32 0x00000000#32))) shapeCasts_S512x512_S1x512x512

/-- The scale's gradient with the tile's part added. -/
def accS (p : FVec Ideal S256x512 .bf16) (w : FVec Ideal S1x512x512 .bf16) (d : Vec Ideal S256x512 .f32) (s : Vec Ideal S1x512 .f32) : FVec Ideal S1x512 .f32 :=
  addf (shapeCast S1x512 s shapeCasts_S1x512_S1x512) (shapeCast S1x512 (multiReduction .add [0] S512 (mulf d
    (matmul dot_S256x512_S512x512_S256x512_1_0_0_1_n_n none p (shapeCast S512x512 w shapeCasts_S1x512x512_S512x512) (constant S256x512 .f32 0x00000000#32)))
    0x00000000#32 reduces_S256x512_S512 (.inl rfl) rfl) shapeCasts_S512_S1x512)

/-- The means of the four groups. -/
def mean0 (a : BitVec 32) (x : Vec Ideal S256x512 .f32) (y : Vec Ideal S16x512 .f32) := mean a 2#32 (roll 1#32 (ext a x y)) x

def mean1 (a : BitVec 32) (x : Vec Ideal S256x512 .f32) (y : Vec Ideal S16x512 .f32) := mean a 4#32 (roll 2#32 (roll 1#32 (ext a x y))) x

def mean2 (a : BitVec 32) (x : Vec Ideal S256x512 .f32) (y : Vec Ideal S16x512 .f32) := mean a 8#32 (roll 4#32 (roll 2#32 (roll 1#32 (ext a x y)))) x

def mean3 (a : BitVec 32) (x : Vec Ideal S256x512 .f32) (y : Vec Ideal S16x512 .f32) := mean a 16#32 (roll 8#32 (roll 4#32 (roll 2#32 (roll 1#32 (ext a x y))))) x

/-! ## On reals -/

section Adds

variable {d : Vec Ideal S256x512 .f32} {s : Vec Ideal S1x512 .f32} {w : FVec Ideal S1x512x512 .bf16} {p : FVec Ideal S256x512 .bf16}
  {D P : Fin 256 → Fin 512 → ℝ} {S : Fin 512 → ℝ} {W : Fin 512 → Fin 512 → ℝ}
  (hd : ∀ a q, d (ix2 a q) = (D a q : EReal))

include hd

theorem scl_apply (hs : ∀ q, s (ix2 0 q) = (S q : EReal)) (a : Fin 256) (q : Fin 512) : scl d s (ix2 a q) = ((D a q * S q : ℝ) : EReal) := by
  pointwise [scl]
  rw [hd, hs, ← EReal.coe_mul]

theorem back_apply (hs : ∀ q, s (ix2 0 q) = (S q : EReal)) (hw : ∀ k q, w (ix3 0 k q) = (W k q : EReal)) (a : Fin 256) (k : Fin 512) :
    back d s w (ix2 a k) = ((∑ q, D a q * S q * W k q : ℝ) : EReal) := by
  pointwise [back]
  simp only [scl_apply hd hs, hw, ← EReal.coe_mul, coe_sum]

theorem accW_apply (hs : ∀ q, s (ix2 0 q) = (S q : EReal)) (hp : ∀ a k, p (ix2 a k) = (P a k : EReal)) {v : Vec Ideal S1x512x512 .f32}
    {V : Fin 512 → Fin 512 → ℝ} (hv : ∀ k q, v (ix3 0 k q) = (V k q : EReal)) (k q : Fin 512) :
    accW p d s v (ix3 0 k q) = ((V k q + ∑ a, P a k * (D a q * S q) : ℝ) : EReal) := by
  pointwise [accW]
  simp only [scl_apply hd hs, hp, hv, ← EReal.coe_mul, coe_sum, ← EReal.coe_add]

theorem accS_apply (hw : ∀ k q, w (ix3 0 k q) = (W k q : EReal)) (hp : ∀ a k, p (ix2 a k) = (P a k : EReal)) (hs : ∀ q, s (ix2 0 q) = (S q : EReal))
    (q : Fin 512) : accS p w d s (ix2 0 q) = ((S q + ∑ a, D a q * ∑ k, P a k * W k q : ℝ) : EReal) := by
  pointwise [accS]
  simp only [hd, hp, hs, hw, ← EReal.coe_mul, coe_sum, ← EReal.coe_add]

end Adds

section Means

variable {x : Vec Ideal S256x512 .f32} {y : Vec Ideal S16x512 .f32} {X : ℕ → ℝ} {i : ℕ} (c : Fin 512)

theorem roll_apply (s : ℕ) (hs : s ≤ 8) (n : BitVec 32) (hn : n.toNat = s) {f : ℕ → ℝ} {e : FVec Ideal S272x512 .f32} {o : ℕ}
    (he : ∀ a : Fin 272, s ≤ a.val + 1 → e (ix2 a c) = ((∑ k ∈ Finset.range s, f (o + a.val - k) : ℝ) : EReal)) (a : Fin 272)
    (ha : s + s ≤ a.val + 1) : roll n e (ix2 a c) = ((∑ k ∈ Finset.range (s + s), f (o + a.val - k) : ℝ) : EReal) := by
  have := a.isLt
  unfold roll
  rw [show ∀ u v : FVec Ideal S272x512 .f32, ∀ j, addf u v j = u j + v j from fun _ _ _ => rfl, dynamicRotate_apply _ _ _ _ _ (ix2 ⟨a.val - s, by omega⟩ c)]
  · rw [he a (by omega), he ⟨a.val - s, by omega⟩ (by show s ≤ a.val - s + 1; omega), ← EReal.coe_add, Finset.sum_range_add]
    refine congrArg (fun z : ℝ => ((_ + z : ℝ) : EReal)) (Finset.sum_congr rfl fun k hk => congrArg f ?_)
    show o + (a.val - s) - k = o + a.val - (s + k)
    omega
  · intro b
    match b with
    | ⟨0, _⟩ => show a.val - s = (a.val + 272 - n.toNat % 272) % 272; rw [hn]; omega
    | ⟨1, _⟩ => rfl

variable (hi : i < 32) (hx : ∀ a, x (ix2 a c) = (X (i * 256 + a.val) : EReal))
    (hy : ∀ a : Fin 16, 0 < i → y (ix2 a c) = (X (i * 256 + a.val - 16) : EReal))
include hi hx hy

theorem ext_apply (a : Fin 272) : ext (BitVec.ofNat 32 i) x y (ix2 a c) = (later X (i * 256 + a.val) : EReal) := by
  have := a.isLt
  unfold ext later
  by_cases h : a.val < 16
  · pointwise [h]
    rw [show Scalar.cmpi .sgt (BitVec.ofNat 32 i) 0#32 = BitVec.ofBool (decide (0 < i)) from
      congrArg BitVec.ofBool (slt_counts 0 i (by norm_num) (by omega))]
    by_cases h0 : 0 < i
    · refine (if_pos (by rw [decide_eq_true h0]; rfl)).trans ((hy _ h0).trans ?_)
      rw [if_neg (by omega)]
    · refine (if_neg (by rw [decide_eq_false h0]; decide)).trans ?_
      rw [if_pos (by omega)]; exact EReal.coe_zero.symm
  · pointwise [h]
    have e : (if i * 256 + a.val < 16 then (0 : ℝ) else X (i * 256 + a.val - 16)) = X (i * 256 + a.val - 16) := if_neg (by omega)
    rw [e]
    exact (hx _).trans (congrArg (fun n => (X n : EReal)) (by show i * 256 + (a.val - 16) = _; omega))

theorem roll1 (a : Fin 272) (ha : 2 ≤ a.val + 1) : roll 1#32 (ext (BitVec.ofNat 32 i) x y) (ix2 a c)
    = ((∑ k ∈ Finset.range 2, later X (i * 256 + a.val - k) : ℝ) : EReal) :=
  roll_apply c 1 (by norm_num) 1#32 rfl (fun a _ => by simpa using ext_apply c hi hx hy a) a ha

theorem roll2 (a : Fin 272) (ha : 4 ≤ a.val + 1) : roll 2#32 (roll 1#32 (ext (BitVec.ofNat 32 i) x y)) (ix2 a c)
    = ((∑ k ∈ Finset.range 4, later X (i * 256 + a.val - k) : ℝ) : EReal) :=
  roll_apply c 2 (by norm_num) 2#32 rfl (roll1 c hi hx hy) a ha

theorem roll3 (a : Fin 272) (ha : 8 ≤ a.val + 1) : roll 4#32 (roll 2#32 (roll 1#32 (ext (BitVec.ofNat 32 i) x y))) (ix2 a c)
    = ((∑ k ∈ Finset.range 8, later X (i * 256 + a.val - k) : ℝ) : EReal) :=
  roll_apply c 4 (by norm_num) 4#32 rfl (roll2 c hi hx hy) a ha

theorem roll4 (a : Fin 272) (ha : 16 ≤ a.val + 1) : roll 8#32 (roll 4#32 (roll 2#32 (roll 1#32 (ext (BitVec.ofNat 32 i) x y)))) (ix2 a c)
    = ((∑ k ∈ Finset.range 16, later X (i * 256 + a.val - k) : ℝ) : EReal) :=
  roll_apply c 8 (by norm_num) 8#32 rfl (roll3 c hi hx hy) a ha

omit hy in
theorem mean_apply (w : ℕ) (hw : 0 < w) (hw' : w ≤ 16) {s : FVec Ideal S272x512 .f32}
    (hs : ∀ a : Fin 272, w ≤ a.val + 1 → s (ix2 a c) = ((∑ k ∈ Finset.range w, later X (i * 256 + a.val - k) : ℝ) : EReal)) (a : Fin 256) :
    mean (BitVec.ofNat 32 i) (BitVec.ofNat 32 w) s x (ix2 a c) = (mixed w X (i * 256 + a.val) : EReal) := by
  have := a.isLt
  pointwise [mean]
  rw [hx, hs ⟨16 + a.val, by omega⟩ (by show w ≤ 16 + a.val + 1; omega)]
  refine (congrArg (fun z => Ideal.div _ z - _) (row_real i 256 a.val w (by omega) (by omega))).trans ?_
  rw [div_real _ (len_pos hw _), ← EReal.coe_sub]
  unfold mixed win
  rw [show i * 256 + (16 + a.val) = i * 256 + a.val + 16 by omega]

theorem mean0_apply (a : Fin 256) : mean0 (BitVec.ofNat 32 i) x y (ix2 a c) = (mixed 2 X (i * 256 + a.val) : EReal) :=
  mean_apply c hi hx 2 (by norm_num) (by norm_num) (roll1 c hi hx hy) a

theorem mean1_apply (a : Fin 256) : mean1 (BitVec.ofNat 32 i) x y (ix2 a c) = (mixed 4 X (i * 256 + a.val) : EReal) :=
  mean_apply c hi hx 4 (by norm_num) (by norm_num) (roll2 c hi hx hy) a

theorem mean2_apply (a : Fin 256) : mean2 (BitVec.ofNat 32 i) x y (ix2 a c) = (mixed 8 X (i * 256 + a.val) : EReal) :=
  mean_apply c hi hx 8 (by norm_num) (by norm_num) (roll3 c hi hx hy) a

theorem mean3_apply (a : Fin 256) : mean3 (BitVec.ofNat 32 i) x y (ix2 a c) = (mixed 16 X (i * 256 + a.val) : EReal) :=
  mean_apply c hi hx 16 (by norm_num) (by norm_num) (roll4 c hi hx hy) a

end Means

end Cert.KernelMixIdeal.Val

end
-- ==== Proof.MixKernel.lean ====
/- The values of the pooling's backward kernel: what each grid point leaves, and the three result arrays after the run. -/
module

public import proofs.«01_k».proof.Proof.Blocks
public import proofs.«01_k».proof.Proof.MixBody
public import Idealize.ShloMosaic.Lib.Pipeline.ValueKit.Tiles
public import Idealize.ShloMosaic.Lib.StableHlo.ReadAt
public import Idealize.ShloMosaic.Lib.Pipeline.ReadBack

@[expose] public section

noncomputable section

namespace Cert.KernelMixIdeal.Val

open Cert.Blocks
open Cert.KernelMixIdeal Cert.KernelMixIdeal.Gen Cert.Common Cert.Counts
open Idealize.ShloMosaic Idealize.ShloMosaic.TcCoe Idealize.SL.Sem
open Idealize.ShloMosaic.Pipeline (Dat)

/-! ## Loads and stores of a group -/

theorem inb_cols (R o : ℕ) (ho : o + 512 ≤ 2048) (k : Fin 2) : (![0, o] : Fin 2 → ℕ) k + (![R, 512] : Fin 2 → ℕ) k ≤ (![R, 2048] : Fin 2 → ℕ) k := by
  match k with
  | ⟨0, _⟩ => show 0 + R ≤ R; omega
  | ⟨1, _⟩ => exact ho

theorem inb_plane (j : ℕ) (hj : j < 4) (k : Fin 3) :
    (![j, 0, 0] : Fin 3 → ℕ) k + (![1, 512, 512] : Fin 3 → ℕ) k ≤ (![4, 512, 512] : Fin 3 → ℕ) k := by
  match k with
  | ⟨0, _⟩ => show j + 1 ≤ 4; omega
  | ⟨1, _⟩ => show 0 + 512 ≤ 512; omega
  | ⟨2, _⟩ => show 0 + 512 ≤ 512; omega

/-- 512 columns from column `o` on. -/
def cols {R : ℕ} (o : ℕ) (ho : o + 512 ≤ 2048) (x : Vec Ideal ⟨2, ![R, 2048]⟩ .f32) : Vec Ideal ⟨2, ![R, 512]⟩ .f32 :=
  View.ld x (Rect.unit (s := ⟨2, ![R, 2048]⟩) ![0, o] ![R, 512] (inb_cols R o ho))

theorem cols_apply {R : ℕ} (o : ℕ) (ho : o + 512 ≤ 2048) (x : Vec Ideal ⟨2, ![R, 2048]⟩ .f32) (p : Fin R) (q : Fin 512) :
    cols o ho x (ix2 p q) = x (ix2 p ⟨o + q.val, by have := q.isLt; omega⟩) := by
  unfold cols
  rw [View.ld_apply]
  congr 1
  funext k
  apply Fin.ext
  match k with
  | ⟨0, _⟩ => show 0 + 1 * p.val = p.val; omega
  | ⟨1, _⟩ => show o + 1 * q.val = o + q.val; omega

/-- Plane `j` of four. -/
def plane {e : EltTy} (j : ℕ) (hj : j < 4) (x : Vec Ideal S4x512x512 e) : Vec Ideal S1x512x512 e :=
  View.ld x (Rect.unit (s := S4x512x512) ![j, 0, 0] ![1, 512, 512] (inb_plane j hj))

theorem plane_apply {e : EltTy} (j : ℕ) (hj : j < 4) (x : Vec Ideal S4x512x512 e) (p q : Fin 512) :
    plane j hj x (ix3 0 p q) = x (ix3 ⟨j, hj⟩ p q) := by
  unfold plane
  rw [View.ld_apply]
  congr 1
  funext k
  apply Fin.ext
  match k with
  | ⟨0, _⟩ => show j + 1 * 0 = j; omega
  | ⟨1, _⟩ => show 0 + 1 * p.val = p.val; omega
  | ⟨2, _⟩ => show 0 + 1 * q.val = q.val; omega

variable (d : Vec Ideal S256x2048 .f32) (w : Vec Ideal S4x512x512 .bf16) (s : Vec Ideal S1x2048 .f32)
  (v : Vec Ideal S4x512x512 .f32) (u : Vec Ideal S1x2048 .f32)

/-- The stores of a group: of the means' gradient, -/
def st5 (j o : ℕ) (hj : j < 4) (ho : o + 512 ≤ 2048) : View.Piece (Elt Ideal) S256x2048 .f32 :=
  ⟨Rect.unit (s := S256x2048) ![0, o] ![256, 512] (inb_cols 256 o ho), back (cols o ho d) (cols o ho s) (plane j hj w)⟩

/-- of the weights' gradient, -/
def st6 (P : FVec Ideal S256x512 .bf16) (j o : ℕ) (hj : j < 4) (ho : o + 512 ≤ 2048) : View.Piece (Elt Ideal) S4x512x512 .f32 :=
  ⟨Rect.unit (s := S4x512x512) ![j, 0, 0] ![1, 512, 512] (inb_plane j hj), accW P (cols o ho d) (cols o ho s) (plane j hj v)⟩

/-- and of the scale's gradient. -/
def st7 (P : FVec Ideal S256x512 .bf16) (j o : ℕ) (hj : j < 4) (ho : o + 512 ≤ 2048) : View.Piece (Elt Ideal) S1x2048 .f32 :=
  ⟨Rect.unit (s := S1x2048) ![0, o] ![1, 512] (inb_cols 1 o ho), accS P (plane j hj w) (cols o ho d) (cols o ho u)⟩

variable (a : BitVec 32) (x : Vec Ideal S256x2048 .f32) (y : Vec Ideal S16x2048 .f32)

abbrev o0 : 0 + 512 ≤ 2048 := by norm_num
abbrev o1 : 512 + 512 ≤ 2048 := by norm_num
abbrev o2 : 1024 + 512 ≤ 2048 := by norm_num
abbrev o3 : 1536 + 512 ≤ 2048 := by norm_num

abbrev P0 := mean0 a (cols 0 o0 x) (cols 0 o0 y)
abbrev P1 := mean1 a (cols 512 o1 x) (cols 512 o1 y)
abbrev P2 := mean2 a (cols 1024 o2 x) (cols 1024 o2 y)
abbrev P3 := mean3 a (cols 1536 o3 x) (cols 1536 o3 y)

/-- The stores of a grid point. -/
def sts5 : List (View.Piece (Elt Ideal) S256x2048 .f32) :=
  [st5 d w s 3 1536 (by norm_num) o3, st5 d w s 2 1024 (by norm_num) o2, st5 d w s 1 512 (by norm_num) o1, st5 d w s 0 0 (by norm_num) o0]

def sts6 : List (View.Piece (Elt Ideal) S4x512x512 .f32) :=
  [st6 d s v (P3 a x y) 3 1536 (by norm_num) o3, st6 d s v (P2 a x y) 2 1024 (by norm_num) o2, st6 d s v (P1 a x y) 1 512 (by norm_num) o1,
    st6 d s v (P0 a x y) 0 0 (by norm_num) o0]

def sts7 : List (View.Piece (Elt Ideal) S1x2048 .f32) :=
  [st7 d w u (P3 a x y) 3 1536 (by norm_num) o3, st7 d w u (P2 a x y) 2 1024 (by norm_num) o2, st7 d w u (P1 a x y) 1 512 (by norm_num) o1,
    st7 d w u (P0 a x y) 0 0 (by norm_num) o0]

section Points

variable (m : (ℓ : Loc nD τ sig) → Buf (Elt Ideal) ℓ) (c : Dev nD)

theorem outs_B (t : Fin cfg0.N) (h0 : ¬t.val % 32 = 0) :
    outsAt0 m c t.val t.isLt = (View.canon (sts5 (iblk m c 2 t) (iblk m c 3 t) (iblk m c 4 t)),
      View.canon (sts6 (iblk m c 2 t) (iblk m c 4 t) (outsAt0 m c (t.val - 1) (Nat.lt_of_le_of_lt (Nat.sub_le _ _) t.isLt)).2.1
        (BitVec.ofNat 32 (grid0.coords t 0).val) (iblk m c 0 t) (iblk m c 1 t)),
      View.canon (sts7 (iblk m c 2 t) (iblk m c 3 t) (outsAt0 m c (t.val - 1) (Nat.lt_of_le_of_lt (Nat.sub_le _ _) t.isLt)).2.2
        (BitVec.ofNat 32 (grid0.coords t 0).val) (iblk m c 0 t) (iblk m c 1 t))) := by
  rw [outsAt0_B m c t h0]
  unfold out0_B_5 out0_B_6 out0_B_7
  rw [View.read_writes_eq_canon _ _ _ (fun y => cover0_B_5 (y := y) ..), View.read_writes_eq_canon _ _ _ (fun y => cover0_B_6 (y := y) ..),
    View.read_writes_eq_canon _ _ _ (fun y => cover0_B_7 (y := y) ..)]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_6 t).read_unread, (hs0_7 t).read_unread]
  rfl

theorem outs_A (t : Fin cfg0.N) (h0 : t.val % 32 = 0) :
    outsAt0 m c t.val t.isLt = (View.canon (sts5 (iblk m c 2 t) (iblk m c 3 t) (iblk m c 4 t)),
      View.canon (sts6 (iblk m c 2 t) (iblk m c 4 t) (k0_pay3 (F := Ideal)) (BitVec.ofNat 32 (grid0.coords t 0).val) (iblk m c 0 t) (iblk m c 1 t)
        ++ [⟨Rect.unit (s := S4x512x512) ![0, 0, 0] ![4, 512, 512] inb_S4x512x512_S4x512x512_0_0_0, k0_pay3 (F := Ideal)⟩]),
      View.canon (sts7 (iblk m c 2 t) (iblk m c 3 t) (k0_pay4 (F := Ideal)) (BitVec.ofNat 32 (grid0.coords t 0).val) (iblk m c 0 t) (iblk m c 1 t)
        ++ [⟨Rect.unit (s := S1x2048) ![0, 0] ![1, 2048] inb_S1x2048_S1x2048_0_0, k0_pay4 (F := Ideal)⟩])) := by
  rw [outsAt0_A m c t h0]
  unfold out0_A_5 out0_A_6 out0_A_7
  rw [View.read_writes_eq_canon _ _ _ (fun y => cover0_A_5 (y := y) ..), View.read_writes_eq_canon _ _ _ (fun y => cover0_A_6 (y := y) ..),
    View.read_writes_eq_canon _ _ _ (fun y => cover0_A_7 (y := y) ..)]
  unfold kernelRun0_A
  dsimp only
  sl_unfold_words
  simp (disch := decide) only [View.readAt_eq_ld, (hs0_0 t).read_unread, (hs0_1 t).read_unread, (hs0_2 t).read_unread, (hs0_3 t).read_unread,
    (hs0_4 t).read_unread, ↓View.readCov_skip, View.readCov_fill]
  rfl

end Points

/-! ## The stores as blocks of real arrays -/

/-- The means' difference, from the column's window. -/
def pm (X : ℕ → ℕ → ℝ) (n b : ℕ) : ℝ := mixed (span b) (fun n => X n b) n

section Blocks

variable (i : ℕ) (X Y : ℕ → ℕ → ℝ) (S : ℕ → ℝ) (W A : ℕ → ℕ → ℕ → ℝ) (B : ℕ → ℝ)

/-- The means' gradient at row `n`, column `k` of group `g`. -/
def rP (n g k : ℕ) : ℝ := ∑ q : Fin 512, Y n (g * 512 + q.val) * S (g * 512 + q.val) * W g k q.val

/-- A row's share of the weights' gradient. -/
def rW (n g k q : ℕ) : ℝ := pm X n (g * 512 + k) * (Y n (g * 512 + q) * S (g * 512 + q))

/-- A row's share of the scale's gradient. -/
def rS (n g q : ℕ) : ℝ := Y n (g * 512 + q) * ∑ k : Fin 512, pm X n (g * 512 + k.val) * W g k.val q

def G5 (z : S256x2048.Idx) : EReal := (rP Y S W (i * 256 + (z 0).val) ((z 1).val / 512) ((z 1).val % 512) : EReal)

def G6 (z : S4x512x512.Idx) : EReal :=
  ((A (z 0).val (z 1).val (z 2).val + ∑ a : Fin 256, rW X Y S (i * 256 + a.val) (z 0).val (z 1).val (z 2).val : ℝ) : EReal)

def G7 (z : S1x2048.Idx) : EReal :=
  ((B (z 1).val + ∑ a : Fin 256, rS X Y W (i * 256 + a.val) ((z 1).val / 512) ((z 1).val % 512) : ℝ) : EReal)

variable {i X Y S W A B} {d : Vec Ideal S256x2048 .f32} {w : Vec Ideal S4x512x512 .bf16} {s : Vec Ideal S1x2048 .f32}
  {v : Vec Ideal S4x512x512 .f32} {u : Vec Ideal S1x2048 .f32} {x : Vec Ideal S256x2048 .f32} {y : Vec Ideal S16x2048 .f32}

theorem st5_piece (hd : ∀ a b, d (ix2 a b) = (Y (i * 256 + a.val) b.val : EReal)) (hs : ∀ b, s (ix2 0 b) = (S b.val : EReal))
    (hw : ∀ g k q, w (ix3 g k q) = (W g.val k.val q.val : EReal)) (j o : ℕ) (hj : j < 4) (ho : o + 512 ≤ 2048) (hjo : o = j * 512)
    (z : (st5 d w s j o hj ho).1.shape.Idx) : (st5 d w s j o hj ho).2 z = G5 i Y S W ((st5 d w s j o hj ho).1.emb z) := by
  obtain ⟨a, k, rfl⟩ : ∃ (a : Fin 256) (k : Fin 512), z = ix2 a k := ⟨z 0, z 1, eq_ix2 z⟩
  have hk := k.isLt
  refine (back_apply (D := fun a q => Y (i * 256 + a.val) (o + q.val)) (S := fun q => S (o + q.val)) (W := fun k q => W j k.val q.val)
    (fun a q => by rw [cols_apply, hd]) (fun q => by rw [cols_apply, hs]) (fun k q => by rw [plane_apply, hw]) a k).trans ?_
  have e0 : ((st5 d w s j o hj ho).1.emb (ix2 a k) 0).val = a.val := by show 0 + 1 * a.val = _; omega
  have e1 : ((st5 d w s j o hj ho).1.emb (ix2 a k) 1).val = j * 512 + k.val := by show o + 1 * k.val = _; omega
  unfold G5 rP
  rw [e0, e1, show (j * 512 + k.val) / 512 = j by omega, show (j * 512 + k.val) % 512 = k.val by omega, hjo]

theorem st6_piece (hd : ∀ a b, d (ix2 a b) = (Y (i * 256 + a.val) b.val : EReal)) (hs : ∀ b, s (ix2 0 b) = (S b.val : EReal))
    (hv : ∀ g k q, v (ix3 g k q) = (A g.val k.val q.val : EReal)) (j o : ℕ) (hj : j < 4) (ho : o + 512 ≤ 2048) (hjo : o = j * 512)
    {P : FVec Ideal S256x512 .bf16} (hP : ∀ a k, P (ix2 a k) = (pm X (i * 256 + a.val) (o + k.val) : EReal))
    (z : (st6 d s v P j o hj ho).1.shape.Idx) : (st6 d s v P j o hj ho).2 z = G6 i X Y S A ((st6 d s v P j o hj ho).1.emb z) := by
  obtain ⟨z0, k, q, rfl⟩ : ∃ (z0 : Fin 1) (k : Fin 512) (q : Fin 512), z = ix3 z0 k q := ⟨z 0, z 1, z 2, eq_ix3 z⟩
  obtain rfl : z0 = 0 := Subsingleton.elim _ _
  refine (accW_apply (P := fun a k => pm X (i * 256 + a.val) (o + k.val)) (D := fun a q => Y (i * 256 + a.val) (o + q.val)) (S := fun q => S (o + q.val))
    (V := fun k q => A j k.val q.val)
    (fun a q => by rw [cols_apply, hd]) (fun q => by rw [cols_apply, hs]) hP (fun k q => by rw [plane_apply, hv]) k q).trans ?_
  have e0 : ((st6 d s v P j o hj ho).1.emb (ix3 0 k q) 0).val = j := by show j + 1 * 0 = _; omega
  have e1 : ((st6 d s v P j o hj ho).1.emb (ix3 0 k q) 1).val = k.val := by show 0 + 1 * k.val = _; omega
  have e2 : ((st6 d s v P j o hj ho).1.emb (ix3 0 k q) 2).val = q.val := by show 0 + 1 * q.val = _; omega
  unfold G6 rW
  rw [e0, e1, e2, hjo]

theorem st7_piece (hd : ∀ a b, d (ix2 a b) = (Y (i * 256 + a.val) b.val : EReal)) (hu : ∀ b, u (ix2 0 b) = (B b.val : EReal))
    (hw : ∀ g k q, w (ix3 g k q) = (W g.val k.val q.val : EReal)) (j o : ℕ) (hj : j < 4) (ho : o + 512 ≤ 2048) (hjo : o = j * 512)
    {P : FVec Ideal S256x512 .bf16} (hP : ∀ a k, P (ix2 a k) = (pm X (i * 256 + a.val) (o + k.val) : EReal))
    (z : (st7 d w u P j o hj ho).1.shape.Idx) : (st7 d w u P j o hj ho).2 z = G7 i X Y W B ((st7 d w u P j o hj ho).1.emb z) := by
  obtain ⟨z0, q, rfl⟩ : ∃ (z0 : Fin 1) (q : Fin 512), z = ix2 z0 q := ⟨z 0, z 1, eq_ix2 z⟩
  obtain rfl : z0 = 0 := Subsingleton.elim _ _
  have hq := q.isLt
  refine (accS_apply (P := fun a k => pm X (i * 256 + a.val) (o + k.val)) (D := fun a q => Y (i * 256 + a.val) (o + q.val)) (S := fun q => B (o + q.val))
    (W := fun k q => W j k.val q.val)
    (fun a q => by rw [cols_apply, hd]) (fun k q => by rw [plane_apply, hw]) hP (fun q => by rw [cols_apply, hu]) q).trans ?_
  have e1 : ((st7 d w u P j o hj ho).1.emb (ix2 0 q) 1).val = j * 512 + q.val := by show o + 1 * q.val = _; omega
  unfold G7 rS
  rw [e1, show (j * 512 + q.val) / 512 = j by omega, show (j * 512 + q.val) % 512 = q.val by omega, hjo]

section All

variable (hi : i < 32) (hx : ∀ a b, x (ix2 a b) = (X (i * 256 + a.val) b.val : EReal))
  (hy : 0 < i → ∀ a b, y (ix2 a b) = (X (i * 256 + a.val - 16) b.val : EReal))
  (hd : ∀ a b, d (ix2 a b) = (Y (i * 256 + a.val) b.val : EReal)) (hs : ∀ b, s (ix2 0 b) = (S b.val : EReal))
  (hw : ∀ g k q, w (ix3 g k q) = (W g.val k.val q.val : EReal))
include hi hx hy

theorem P0_apply (a : Fin 256) (k : Fin 512) : P0 (BitVec.ofNat 32 i) x y (ix2 a k) = (pm X (i * 256 + a.val) (0 + k.val) : EReal) := by
  have hk := k.isLt
  refine (mean0_apply k hi (X := fun n => X n (0 + k.val)) (fun a => by rw [cols_apply, hx]) (fun a h => by rw [cols_apply, hy h]) a).trans ?_
  unfold pm span
  rw [show (0 + k.val) / 512 = 0 by omega, show 2 ^ (0 + 1) = 2 from rfl]

theorem P1_apply (a : Fin 256) (k : Fin 512) : P1 (BitVec.ofNat 32 i) x y (ix2 a k) = (pm X (i * 256 + a.val) (512 + k.val) : EReal) := by
  have hk := k.isLt
  refine (mean1_apply k hi (X := fun n => X n (512 + k.val)) (fun a => by rw [cols_apply, hx]) (fun a h => by rw [cols_apply, hy h]) a).trans ?_
  unfold pm span
  rw [show (512 + k.val) / 512 = 1 by omega, show 2 ^ (1 + 1) = 4 from rfl]

theorem P2_apply (a : Fin 256) (k : Fin 512) : P2 (BitVec.ofNat 32 i) x y (ix2 a k) = (pm X (i * 256 + a.val) (1024 + k.val) : EReal) := by
  have hk := k.isLt
  refine (mean2_apply k hi (X := fun n => X n (1024 + k.val)) (fun a => by rw [cols_apply, hx]) (fun a h => by rw [cols_apply, hy h]) a).trans ?_
  unfold pm span
  rw [show (1024 + k.val) / 512 = 2 by omega, show 2 ^ (2 + 1) = 8 from rfl]

theorem P3_apply (a : Fin 256) (k : Fin 512) : P3 (BitVec.ofNat 32 i) x y (ix2 a k) = (pm X (i * 256 + a.val) (1536 + k.val) : EReal) := by
  have hk := k.isLt
  refine (mean3_apply k hi (X := fun n => X n (1536 + k.val)) (fun a => by rw [cols_apply, hx]) (fun a h => by rw [cols_apply, hy h]) a).trans ?_
  unfold pm span
  rw [show (1536 + k.val) / 512 = 3 by omega, show 2 ^ (3 + 1) = 16 from rfl]

include hd hs in
theorem sts6_pieces (hv : ∀ g k q, v (ix3 g k q) = (A g.val k.val q.val : EReal)) :
    View.PiecesOf (G6 i X Y S A) (sts6 d s v (BitVec.ofNat 32 i) x y) :=
  ⟨st6_piece hd hs hv 3 1536 _ _ rfl (P3_apply hi hx hy), st6_piece hd hs hv 2 1024 _ _ rfl (P2_apply hi hx hy),
    st6_piece hd hs hv 1 512 _ _ rfl (P1_apply hi hx hy), st6_piece hd hs hv 0 0 _ _ rfl (P0_apply hi hx hy), trivial⟩

include hd hw in
theorem sts7_pieces (hu : ∀ b, u (ix2 0 b) = (B b.val : EReal)) :
    View.PiecesOf (G7 i X Y W B) (sts7 d w u (BitVec.ofNat 32 i) x y) :=
  ⟨st7_piece hd hu hw 3 1536 _ _ rfl (P3_apply hi hx hy), st7_piece hd hu hw 2 1024 _ _ rfl (P2_apply hi hx hy),
    st7_piece hd hu hw 1 512 _ _ rfl (P1_apply hi hx hy), st7_piece hd hu hw 0 0 _ _ rfl (P0_apply hi hx hy), trivial⟩

omit hi hx hy
include hd hs hw

theorem sts5_pieces : View.PiecesOf (G5 i Y S W) (sts5 d w s) :=
  ⟨st5_piece hd hs hw 3 1536 _ _ rfl, st5_piece hd hs hw 2 1024 _ _ rfl, st5_piece hd hs hw 1 512 _ _ rfl, st5_piece hd hs hw 0 0 _ _ rfl, trivial⟩

end All

/-- Columns of one of the four groups. -/
theorem mem_cols {R : ℕ} (z : (⟨2, ![R, 2048]⟩ : Shape).Idx) (o : ℕ) (ho : o + 512 ≤ 2048) (h : o ≤ (z 1).val ∧ (z 1).val < o + 512) :
    z ∈ (Rect.unit (s := ⟨2, ![R, 2048]⟩) ![0, o] ![R, 512] (inb_cols R o ho)).set := by
  rw [Rect.mem_set_unit]
  intro a
  match a with
  | ⟨0, _⟩ => show 0 ≤ (z 0 : Nat) ∧ (z 0 : Nat) < 0 + R
              have := (z 0).isLt; exact ⟨Nat.zero_le _, by rw [Nat.zero_add]; exact this⟩
  | ⟨1, _⟩ => exact h

theorem mem_plane (z : S4x512x512.Idx) (j : ℕ) (hj : j < 4) (h : (z 0).val = j) :
    z ∈ (Rect.unit (s := S4x512x512) ![j, 0, 0] ![1, 512, 512] (inb_plane j hj)).set := by
  have h1 : (z 1 : Nat) < 512 := (z 1).isLt
  have h2 : (z 2 : Nat) < 512 := (z 2).isLt
  rw [Rect.mem_set_unit]
  intro a
  match a with
  | ⟨0, _⟩ => show j ≤ (z 0 : Nat) ∧ (z 0 : Nat) < j + 1; omega
  | ⟨1, _⟩ => show 0 ≤ (z 1 : Nat) ∧ (z 1 : Nat) < 0 + 512; omega
  | ⟨2, _⟩ => show 0 ≤ (z 2 : Nat) ∧ (z 2 : Nat) < 0 + 512; omega

/-- One of four members. -/
theorem one_of_four {α : Type} (q : α → Prop) (a b c d : α) (h : q a ∨ q b ∨ q c ∨ q d) : ∃ p ∈ [a, b, c, d], q p := by
  rcases h with h | h | h | h
  · exact ⟨a, by simp, h⟩
  · exact ⟨b, by simp, h⟩
  · exact ⟨c, by simp, h⟩
  · exact ⟨d, by simp, h⟩

theorem quarter (n : ℕ) (h : n < 2048) : (1536 ≤ n ∧ n < 1536 + 512) ∨ (1024 ≤ n ∧ n < 1024 + 512) ∨ (512 ≤ n ∧ n < 512 + 512) ∨ (0 ≤ n ∧ n < 0 + 512) := by
  omega

theorem sts5_cover (d : Vec Ideal S256x2048 .f32) (w : Vec Ideal S4x512x512 .bf16) (s : Vec Ideal S1x2048 .f32) (z : S256x2048.Idx) :
    ∃ p ∈ sts5 d w s, z ∈ p.1.set := by
  refine one_of_four (fun p : View.Piece (Elt Ideal) S256x2048 .f32 => z ∈ p.1.set) _ _ _ _ ?_
  exact (quarter (z 1).val (z 1).isLt).imp (mem_cols z _ o3) (Or.imp (mem_cols z _ o2) (Or.imp (mem_cols z _ o1) (mem_cols z _ o0)))

theorem sts7_cover (d : Vec Ideal S256x2048 .f32) (w : Vec Ideal S4x512x512 .bf16) (u : Vec Ideal S1x2048 .f32) (a : BitVec 32)
    (x : Vec Ideal S256x2048 .f32) (y : Vec Ideal S16x2048 .f32) (z : S1x2048.Idx) :
    ∃ p ∈ sts7 d w u a x y, z ∈ p.1.set := by
  refine one_of_four (fun p : View.Piece (Elt Ideal) S1x2048 .f32 => z ∈ p.1.set) _ _ _ _ ?_
  exact (quarter (z 1).val (z 1).isLt).imp (mem_cols z _ o3) (Or.imp (mem_cols z _ o2) (Or.imp (mem_cols z _ o1) (mem_cols z _ o0)))

theorem sts6_cover (d : Vec Ideal S256x2048 .f32) (s : Vec Ideal S1x2048 .f32) (v : Vec Ideal S4x512x512 .f32) (a : BitVec 32)
    (x : Vec Ideal S256x2048 .f32) (y : Vec Ideal S16x2048 .f32) (z : S4x512x512.Idx) :
    ∃ p ∈ sts6 d s v a x y, z ∈ p.1.set := by
  have h0 : (z 0 : Nat) < 4 := (z 0).isLt
  refine one_of_four (fun p : View.Piece (Elt Ideal) S4x512x512 .f32 => z ∈ p.1.set) _ _ _ _ ?_
  have h : (z 0).val = 3 ∨ (z 0).val = 2 ∨ (z 0).val = 1 ∨ (z 0).val = 0 := by omega
  exact h.imp (mem_plane z _ (by norm_num)) (Or.imp (mem_plane z _ (by norm_num)) (Or.imp (mem_plane z _ (by norm_num)) (mem_plane z _ (by norm_num))))

/-! ## The blocks that the stores leave -/

section Left

variable {L6 : List (View.Piece (Elt Ideal) S4x512x512 .f32)} {L7 : List (View.Piece (Elt Ideal) S1x2048 .f32)} {a : BitVec 32} (ha : a = BitVec.ofNat 32 i)
  (hi : i < 32) (hx : ∀ a b, x (ix2 a b) = (X (i * 256 + a.val) b.val : EReal))
  (hy : 0 < i → ∀ a b, y (ix2 a b) = (X (i * 256 + a.val - 16) b.val : EReal))
  (hd : ∀ a b, d (ix2 a b) = (Y (i * 256 + a.val) b.val : EReal)) (hs : ∀ b, s (ix2 0 b) = (S b.val : EReal))
  (hw : ∀ g k q, w (ix3 g k q) = (W g.val k.val q.val : EReal))

include hd hs hw in
theorem canon5 (z : S256x2048.Idx) : View.canon (sts5 d w s) z = G5 i Y S W z := by
  have e := View.canon_append_of_piecesOf _ [] _ (sts5_pieces hd hs hw) z (sts5_cover d w s z)
  rwa [List.append_nil] at e

include ha hi hx hy hd hs in
theorem canon6 (hv : ∀ g k q, v (ix3 g k q) = (A g.val k.val q.val : EReal)) (z : S4x512x512.Idx) :
    View.canon (sts6 d s v a x y ++ L6) z = G6 i X Y S A z := by
  subst ha
  exact View.canon_append_of_piecesOf _ _ _ (sts6_pieces hi hx hy hd hs hv) z (sts6_cover _ _ _ _ _ _ z)

include ha hi hx hy hd hw in
theorem canon7 (hu : ∀ b, u (ix2 0 b) = (B b.val : EReal)) (z : S1x2048.Idx) :
    View.canon (sts7 d w u a x y ++ L7) z = G7 i X Y W B z := by
  subst ha
  exact View.canon_append_of_piecesOf _ _ _ (sts7_pieces hi hx hy hd hw hu) z (sts7_cover _ _ _ _ _ _ z)

end Left

end Blocks

/-! ## The arguments' blocks -/

variable (m : (ℓ : Loc nD τ sig) → Buf (Elt Ideal) ℓ)

/-- The arguments of a device are reals. -/
structure Reals (c : Dev nD) (X Y : ℕ → ℕ → ℝ) (S : ℕ → ℝ) (W : ℕ → ℕ → ℕ → ℝ) : Prop where
  x : ∀ (i : Fin 8192) (k : Fin 2048), (m (c.tc.loc main_arg0) : Vec Ideal S8192x2048 .f32) (ix2 i k) = (X i.val k.val : EReal)
  w : ∀ (g : Fin 4) (k q : Fin 512), (m (c.tc.loc main_arg1) : Vec Ideal S4x512x512 .f32) (ix3 g k q) = (W g.val k.val q.val : EReal)
  s : ∀ (k : Fin 2048), (m (c.tc.loc main_arg2) : Vec Ideal S2048 .f32) (ix1 k) = (S k.val : EReal)
  d : ∀ (i : Fin 8192) (k : Fin 2048), (m (c.tc.loc main_arg3) : Vec Ideal S8192x2048 .f32) (ix2 i k) = (Y i.val k.val : EReal)

variable {m} {c : Dev nD} {X Y : ℕ → ℕ → ℝ} {S : ℕ → ℝ} {W : ℕ → ℕ → ℕ → ℝ} (h : Reals m c X Y S W)

theorem point_lt (t : Fin cfg0.N) : t.val < 32 := lt_of_lt_of_eq t.isLt N_0

theorem idx_facts : ∀ t : Fin cfg0.N, (win0_0.index t 0 = t.val ∧ win0_0.index t 1 = 0)
    ∧ (win0_1.index t 0 = max (t.val * 16 - 1) 0 ∧ win0_1.index t 1 = 0)
    ∧ (win0_2.index t 0 = t.val ∧ win0_2.index t 1 = 0)
    ∧ (win0_3.index t 0 = 0 ∧ win0_3.index t 1 = 0 ∧ win0_3.index t 2 = 0)
    ∧ (win0_4.index t 0 = 0 ∧ win0_4.index t 1 = 0)
    ∧ (win0_5.index t 0 = t.val ∧ win0_5.index t 1 = 0)
    ∧ (win0_6.index t 0 = 0 ∧ win0_6.index t 1 = 0 ∧ win0_6.index t 2 = 0)
    ∧ (win0_7.index t 0 = 0 ∧ win0_7.index t 1 = 0) ∧ (grid0.coords t 0).val = t.val :=
  (by decide +kernel : ∀ t : Fin grid0.N, _)

include h

theorem Reals.x' (t : Fin cfg0.N) (a : Fin 256) (b : Fin 2048) :
    (iblk m c 0 t : Vec Ideal S256x2048 .f32) (ix2 a b) = (X (t.val * 256 + a.val) b.val : EReal) := by
  have hi := (idx_facts t).1
  have ht := point_lt t
  have ha := a.isLt
  rw [← h.x ⟨t.val * 256 + a.val, by omega⟩ b]
  exact (congrArg (V m c main_arg0) (at2 (blk_at hi.1 rfl) (blk_in hi.2))).trans (congrFun (V_main_arg0 m c) _)

theorem Reals.y' (t : Fin cfg0.N) (h0 : 0 < t.val) (a : Fin 16) (b : Fin 2048) :
    (iblk m c 1 t : Vec Ideal S16x2048 .f32) (ix2 a b) = (X (t.val * 256 + a.val - 16) b.val : EReal) := by
  have hi := (idx_facts t).2.1
  have ht := point_lt t
  have ha := a.isLt
  rw [← h.x ⟨t.val * 256 + a.val - 16, by omega⟩ b]
  exact (congrArg (V m c main_arg0) (at2 (by show win0_1.index t 0 * 16 + 1 * a.val = t.val * 256 + a.val - 16; rw [hi.1]; omega) (blk_in hi.2))).trans (congrFun (V_main_arg0 m c) _)

theorem Reals.d' (t : Fin cfg0.N) (a : Fin 256) (b : Fin 2048) :
    (iblk m c 2 t : Vec Ideal S256x2048 .f32) (ix2 a b) = (Y (t.val * 256 + a.val) b.val : EReal) := by
  have hi := (idx_facts t).2.2.1
  have ht := point_lt t
  have ha := a.isLt
  rw [← h.d ⟨t.val * 256 + a.val, by omega⟩ b]
  exact (congrArg (V m c main_arg3) (at2 (blk_at hi.1 rfl) (blk_in hi.2))).trans (congrFun (V_main_arg3 m c) _)

theorem Reals.w' (t : Fin cfg0.N) (g : Fin 4) (k q : Fin 512) :
    (iblk m c 3 t : Vec Ideal S4x512x512 .bf16) (ix3 g k q) = (W g.val k.val q.val : EReal) := by
  have hi := (idx_facts t).2.2.2.1
  refine Eq.trans ?_ ((show (V m c main_v0 : Vec Ideal S4x512x512 .bf16) (ix3 g k q)
    = (m (c.tc.loc main_arg1) : Vec Ideal S4x512x512 .f32) (ix3 g k q) by unfold V hostOps0; after_reads_at).trans (h.w g k q))
  exact congrArg (V m c main_v0) (at3 (blk_in hi.1) (blk_in hi.2.1) (blk_in hi.2.2))

theorem Reals.s' (t : Fin cfg0.N) (b : Fin 2048) :
    (iblk m c 4 t : Vec Ideal S1x2048 .f32) (ix2 0 b) = (S b.val : EReal) := by
  have hi := (idx_facts t).2.2.2.2.1
  refine Eq.trans ?_ ((show (V m c main_v1 : Vec Ideal S1x2048 .f32) (ix2 0 b)
    = (m (c.tc.loc main_arg2) : Vec Ideal S2048 .f32) (ix1 b) by unfold V hostOps0; after_reads_at).trans (h.s b))
  exact congrArg (V m c main_v1) (at2 (by show win0_4.index t 0 * 1 + 1 * 0 = 0; rw [hi.1]) (blk_in hi.2))

/-! ## What the grid points leave -/

omit h in
theorem of_triple {α β γ : Type} {p : α × β × γ} {x : α} {y : β} {z : γ} (e : p = (x, y, z)) : p.1 = x ∧ p.2.1 = y ∧ p.2.2 = z := by
  subst e; exact ⟨rfl, rfl, rfl⟩

theorem outs_5 (t : Fin cfg0.N) (z : S256x2048.Idx) : (outsAt0 m c t.val t.isLt).1 z = G5 t.val Y S W z := by
  by_cases h0 : t.val % 32 = 0
  · rw [(of_triple (outs_A m c t h0)).1]
    exact canon5 (h.d' t) (h.s' t) (h.w' t) z
  · rw [(of_triple (outs_B m c t h0)).1]
    exact canon5 (h.d' t) (h.s' t) (h.w' t) z

/-- The sums of the tiles so far. -/
def sumW (X Y : ℕ → ℕ → ℝ) (S : ℕ → ℝ) (n g k q : ℕ) : ℝ := ∑ s ∈ Finset.range n, ∑ a ∈ Finset.range 256, rW X Y S (s * 256 + a) g k q

def sumS (X Y : ℕ → ℕ → ℝ) (W : ℕ → ℕ → ℕ → ℝ) (n b : ℕ) : ℝ :=
  ∑ s ∈ Finset.range n, ∑ a ∈ Finset.range 256, rS X Y W (s * 256 + a) (b / 512) (b % 512)

theorem outs_67 : ∀ (n : ℕ) (hn : n < cfg0.N),
    (∀ z, (outsAt0 m c n hn).2.1 z = (sumW X Y S (n + 1) (z 0).val (z 1).val (z 2).val : EReal))
    ∧ (∀ z, (outsAt0 m c n hn).2.2 z = (sumS X Y W (n + 1) (z 1).val : EReal))
  | 0, hn => by
    obtain ⟨-, e6, e7⟩ := of_triple (outs_A m c ⟨0, hn⟩ rfl)
    have ha : BitVec.ofNat 32 (grid0.coords ⟨0, hn⟩ 0).val = BitVec.ofNat 32 0 := congrArg _ (idx_facts ⟨0, hn⟩).2.2.2.2.2.2.2.2
    refine ⟨fun z => (congrFun e6 z).trans ?_, fun z => (congrFun e7 z).trans ?_⟩
    · refine (canon6 (i := 0) (A := fun _ _ _ => 0) ha (by norm_num) (h.x' ⟨0, hn⟩) (fun h0 => absurd h0 (lt_irrefl 0))
        (h.d' ⟨0, hn⟩) (h.s' ⟨0, hn⟩) (fun g k q => by pointwise [k0_pay3]; exact EReal.coe_zero.symm) z).trans ?_
      unfold G6 sumW
      rw [Finset.sum_range_one, zero_add, Finset.sum_range]
    · refine (canon7 (i := 0) (B := fun _ => 0) ha (by norm_num) (h.x' ⟨0, hn⟩) (fun h0 => absurd h0 (lt_irrefl 0))
        (h.d' ⟨0, hn⟩) (h.w' ⟨0, hn⟩) (fun b => by pointwise [k0_pay4]; exact EReal.coe_zero.symm) z).trans ?_
      unfold G7 sumS
      rw [Finset.sum_range_one, zero_add, Finset.sum_range]
  | n + 1, hn => by
    have hN : cfg0.N = 32 := N_0
    have ih := outs_67 n (Nat.lt_of_succ_lt hn)
    obtain ⟨-, e6, e7⟩ := of_triple (outs_B m c ⟨n + 1, hn⟩ (by dsimp only; omega))
    have ha : BitVec.ofNat 32 (grid0.coords ⟨n + 1, hn⟩ 0).val = BitVec.ofNat 32 (n + 1) := congrArg _ (idx_facts ⟨n + 1, hn⟩).2.2.2.2.2.2.2.2
    refine ⟨fun z => (congrFun e6 z).trans ?_, fun z => (congrFun e7 z).trans ?_⟩
    · refine (congrFun (congrArg View.canon (List.append_nil _).symm) z).trans ((canon6 (i := n + 1) ha (by omega) (h.x' ⟨n + 1, hn⟩) (fun h0 => h.y' ⟨n + 1, hn⟩ h0)
        (h.d' ⟨n + 1, hn⟩) (h.s' ⟨n + 1, hn⟩) (A := sumW X Y S (n + 1)) (fun g k q => ih.1 (ix3 g k q)) z).trans ?_)
      unfold G6
      conv_rhs => unfold sumW
      rw [Finset.sum_range_succ, Finset.sum_range (n := 256)]
      rfl
    · refine (congrFun (congrArg View.canon (List.append_nil _).symm) z).trans ((canon7 (i := n + 1) ha (by omega) (h.x' ⟨n + 1, hn⟩) (fun h0 => h.y' ⟨n + 1, hn⟩ h0)
        (h.d' ⟨n + 1, hn⟩) (h.w' ⟨n + 1, hn⟩) (B := sumS X Y W (n + 1)) (fun b => ih.2 (ix2 0 b)) z).trans ?_)
      unfold G7
      conv_rhs => unfold sumS
      rw [Finset.sum_range_succ, Finset.sum_range (n := 256)]
      rfl

/-! ## The result arrays -/

omit h
variable (X Y S W)

/-- The means' gradient, the weights' and the scale's. -/
def gP (i : S8192x2048.Idx) : EReal := (rP Y S W (i 0).val ((i 1).val / 512) ((i 1).val % 512) : EReal)

def gW (i : S4x512x512.Idx) : EReal := ((∑ n ∈ Finset.range 8192, rW X Y S n (i 0).val (i 1).val (i 2).val : ℝ) : EReal)

def gS (i : S1x2048.Idx) : EReal := ((∑ n ∈ Finset.range 8192, rS X Y W n ((i 1).val / 512) ((i 1).val % 512) : ℝ) : EReal)

variable {X Y S W}

theorem lastLt : 31 < cfg0.N := lt_of_lt_of_eq (by decide) N_0.symm

theorem cover_5 (i : S8192x2048.Idx) : ∃ t : Fin cfg0.N, (cfg0.win 5).flush t = true ∧ i ∈ ((cfg0.win 5).blk t).view.set := by
  have hN : cfg0.N = 32 := N_0
  have h0 : _ < 8192 := (i 0).isLt
  have h1 : _ < 2048 := (i 1).isLt
  obtain ⟨t, ht⟩ := fin_at (N := cfg0.N) ((i 0).val / 256) (by omega)
  refine ⟨t, flush0_5 _, ?_⟩
  have hi := (idx_facts t).2.2.2.2.2.1
  exact in_rect (all2 (in_blk (i 0).val 256 hi.1 (by omega)) (in_blk (i 1).val 2048 hi.2 (by omega)))

theorem cover_6 (i : S4x512x512.Idx) : ∃ t : Fin cfg0.N, (cfg0.win 6).flush t = true ∧ i ∈ ((cfg0.win 6).blk t).view.set := by
  have h0 : _ < 4 := (i 0).isLt
  have h1 : _ < 512 := (i 1).isLt
  have h2 : _ < 512 := (i 2).isLt
  obtain ⟨t, ht⟩ := fin_at 31 lastLt
  refine ⟨t, (flush0_6 _).mpr (by rw [ht]), ?_⟩
  have hi := (idx_facts t).2.2.2.2.2.2.1
  exact in_rect (all3 (in_blk (i 0).val 4 hi.1 (by omega)) (in_blk (i 1).val 512 hi.2.1 (by omega)) (in_blk (i 2).val 512 hi.2.2 (by omega)))

theorem cover_7 (i : S1x2048.Idx) : ∃ t : Fin cfg0.N, (cfg0.win 7).flush t = true ∧ i ∈ ((cfg0.win 7).blk t).view.set := by
  have h0 : _ < 1 := (i 0).isLt
  have h1 : _ < 2048 := (i 1).isLt
  obtain ⟨t, ht⟩ := fin_at 31 lastLt
  refine ⟨t, (flush0_7 _).mpr (by rw [ht]), ?_⟩
  have hi := (idx_facts t).2.2.2.2.2.2.2.1
  exact in_rect (all2 (in_blk (i 0).val 1 hi.1 (by omega)) (in_blk (i 1).val 2048 hi.2 (by omega)))

include h

theorem final_5 : (dats m 0 c).arrAt 5 cfg0.N = gP Y S W :=
  (dats m 0 c).arrAt_eq_of_cover 5 (gP Y S W) (fun t _ => by
    have hi := (idx_facts t).2.2.2.2.2.1
    rw [Value.flushed5]
    funext j
    rw [View.read_apply]
    refine (outs_5 h t j).trans ?_
    have e0 : (((cfg0.win 5).blk t).view.emb j 0 : Nat) = t.val * 256 + (j 0 : Nat) := blk_at hi.1 rfl
    have e1 : (((cfg0.win 5).blk t).view.emb j 1 : Nat) = (j 1 : Nat) := blk_in hi.2
    unfold gP
    rw [e0, e1]
    rfl) cover_5

theorem final_6 : (dats m 0 c).arrAt 6 cfg0.N = gW X Y S :=
  (dats m 0 c).arrAt_eq_of_cover 6 (gW X Y S) (fun t hf => by
    have ht : t.val = 31 := by have := (flush0_6 t).mp hf; have := point_lt t; omega
    have hi := (idx_facts t).2.2.2.2.2.2.1
    rw [Value.flushed6]
    funext j
    rw [View.read_apply]
    refine ((outs_67 h t.val t.isLt).1 j).trans ?_
    have e0 : (((cfg0.win 6).blk t).view.emb j 0 : Nat) = (j 0 : Nat) := blk_in hi.1
    have e1 : (((cfg0.win 6).blk t).view.emb j 1 : Nat) = (j 1 : Nat) := blk_in hi.2.1
    have e2 : (((cfg0.win 6).blk t).view.emb j 2 : Nat) = (j 2 : Nat) := blk_in hi.2.2
    unfold gW sumW
    rw [e0, e1, e2, ht]
    exact congrArg (fun z : ℝ => (z : EReal)) (sum_tiles 256 (fun n => rW X Y S n (j 0).val (j 1).val (j 2).val) (31 + 1))) cover_6

theorem final_7 : (dats m 0 c).arrAt 7 cfg0.N = gS X Y W :=
  (dats m 0 c).arrAt_eq_of_cover 7 (gS X Y W) (fun t hf => by
    have ht : t.val = 31 := by have := (flush0_7 t).mp hf; have := point_lt t; omega
    have hi := (idx_facts t).2.2.2.2.2.2.2.1
    rw [Value.flushed7]
    funext j
    rw [View.read_apply]
    refine ((outs_67 h t.val t.isLt).2 j).trans ?_
    have e1 : (((cfg0.win 7).blk t).view.emb j 1 : Nat) = (j 1 : Nat) := blk_in hi.2
    unfold gS sumS
    rw [e1, ht]
    exact congrArg (fun z : ℝ => (z : EReal)) (sum_tiles 256 (fun n => rS X Y W n ((j 1).val / 512) ((j 1).val % 512)) (31 + 1))) cover_7

end Cert.KernelMixIdeal.Val

end
-- ==== Proof.RowSums.lean ====
/- Host operations on rows of 2048 columns: running sums down the rows, from the top and from the bottom. -/
module

public import proofs.«01_k».proof.Proof.Counts
public import Idealize.ShloMosaic.Lib.Pointwise
public import Idealize.ShloMosaic.Lib.KernelVsHost

@[expose] public section

set_option maxRecDepth 16384

noncomputable section

namespace Cert.RowSums

open Idealize.ShloMosaic Cert.Common Cert.Counts

/-! ## Running sums -/

/-- Window positions along the rows. -/
def rowIdx : Fin 8192 ≃ (⟨2, ![8192, 1]⟩ : Shape).Idx where
  toFun n := ix2 n (0 : Fin 1)
  invFun i := i 0
  left_inv _ := rfl
  right_inv i := by
    obtain ⟨n, a, rfl⟩ : ∃ (n : Fin 8192) (a : Fin 1), i = ix2 n a := ⟨_, _, eq_ix2 i⟩
    rw [Subsingleton.elim a 0]; rfl

theorem fold_rows {N : ℕ} (g : Fin N → EReal) : (List.finRange N).foldl (fun r n => r + g n) 0 = ∑ n, g n := by
  rw [Fin.sum_univ_def, List.sum_eq_foldl, List.foldl_map]

theorem rows_sum (lo hi : Fin 2 → ℕ) (x : Vec Ideal ⟨2, ![8192, 2048]⟩ .f32)
    (w : Shape.ReduceWindows (s := ⟨2, ![8192, 2048]⟩) ![8192, 1] ![1, 1] lo hi ⟨2, ![8192, 2048]⟩) (g : Fin 8192 → EReal) (j : (⟨2, ![8192, 2048]⟩ : Shape).Idx)
    (hg : ∀ n : Fin 8192, g n = if hin : ∀ a : Fin 2, lo a ≤ (j a).val * ![1, 1] a + (rowIdx n a).val ∧
        (j a).val * ![1, 1] a + (rowIdx n a).val - lo a < (⟨2, ![8192, 2048]⟩ : Shape).size a then x (fun a => ⟨_, (hin a).2⟩) else 0) :
    Ideal.hostReduceWindowAdd (s := ⟨2, ![8192, 2048]⟩) ![8192, 1] ![1, 1] lo hi w x 0 j = ∑ n, g n := by
  refine (fold_rows _).trans ?_
  refine ((Fintype.sum_equiv (rowIdx.trans (Shape.rowMajor _)) g _ fun n => ?_)).symm
  rw [hg n]
  simp only [Equiv.trans_apply, Equiv.symm_apply_apply]
  rfl

variable {x : Vec Ideal ⟨2, ![8192, 2048]⟩ .f32} {f : ℕ → Fin 2048 → ℝ} (hx : ∀ (t : Fin 8192) b, x (ix2 t b) = (f t.val b : EReal))
include hx

/-- The sum from a row on, -/
theorem rows_from (w : Shape.ReduceWindows (s := ⟨2, ![8192, 2048]⟩) ![8192, 1] ![1, 1] ![0, 0] ![8191, 0] ⟨2, ![8192, 2048]⟩) (t : Fin 8192) (b : Fin 2048) :
    Ideal.hostReduceWindowAdd (s := ⟨2, ![8192, 2048]⟩) ![8192, 1] ![1, 1] ![0, 0] ![8191, 0] w x 0 (ix2 t b)
      = ((∑ k ∈ Finset.range (8192 - t.val), f (t.val + k) b : ℝ) : EReal) := by
  refine (rows_sum _ _ _ _ (fun n => ((if t.val + n.val < 8192 then f (t.val + n.val) b else 0 : ℝ) : EReal)) _ fun n => ?_).trans ?_
  · by_cases hn : t.val + n.val < 8192
    · rw [if_pos hn, dif_pos (fun a => by
        match a with
        | ⟨0, _⟩ => show 0 ≤ t.val * 1 + n.val ∧ t.val * 1 + n.val - 0 < 8192; omega
        | ⟨1, _⟩ => show 0 ≤ b.val * 1 + 0 ∧ b.val * 1 + 0 - 0 < 2048; omega)]
      refine (hx ⟨t.val + n.val, hn⟩ b).symm.trans ?_
      congr 1; funext a; apply Fin.ext
      match a with
      | ⟨0, _⟩ => show t.val + n.val = t.val * 1 + n.val - 0; omega
      | ⟨1, _⟩ => show b.val = b.val * 1 + 0 - 0; omega
    · rw [if_neg hn, dif_neg (fun hin => hn (by
        have h2 : 0 ≤ t.val * 1 + n.val ∧ t.val * 1 + n.val - 0 < 8192 := hin 0
        omega)), EReal.coe_zero]
  · rw [coe_sum, Fin.sum_univ_eq_sum_range (fun n => if t.val + n < 8192 then f (t.val + n) b else 0) 8192, ← Finset.sum_filter]
    congr 2; ext n; simp only [Finset.mem_filter, Finset.mem_range]; omega

/-- and the sum up to a row. -/
theorem rows_upto (w : Shape.ReduceWindows (s := ⟨2, ![8192, 2048]⟩) ![8192, 1] ![1, 1] ![8191, 0] ![0, 0] ⟨2, ![8192, 2048]⟩) (t : Fin 8192) (b : Fin 2048) :
    Ideal.hostReduceWindowAdd (s := ⟨2, ![8192, 2048]⟩) ![8192, 1] ![1, 1] ![8191, 0] ![0, 0] w x 0 (ix2 t b)
      = ((∑ k ∈ Finset.range (t.val + 1), f k b : ℝ) : EReal) := by
  refine (rows_sum _ _ _ _ (fun n => ((if 8191 ≤ t.val + n.val then f (t.val + n.val - 8191) b else 0 : ℝ) : EReal)) _ fun n => ?_).trans ?_
  · by_cases hn : 8191 ≤ t.val + n.val
    · rw [if_pos hn, dif_pos (fun a => by
        match a with
        | ⟨0, _⟩ => show 8191 ≤ t.val * 1 + n.val ∧ t.val * 1 + n.val - 8191 < 8192; omega
        | ⟨1, _⟩ => show 0 ≤ b.val * 1 + 0 ∧ b.val * 1 + 0 - 0 < 2048; omega)]
      refine (hx ⟨t.val + n.val - 8191, by omega⟩ b).symm.trans ?_
      congr 1; funext a; apply Fin.ext
      match a with
      | ⟨0, _⟩ => show t.val + n.val - 8191 = t.val * 1 + n.val - 8191; omega
      | ⟨1, _⟩ => show b.val = b.val * 1 + 0 - 0; omega
    · rw [if_neg hn, dif_neg (fun hin => hn (by
        have h2 : 8191 ≤ t.val * 1 + n.val ∧ t.val * 1 + n.val - 8191 < 8192 := hin 0
        omega)), EReal.coe_zero]
  · rw [coe_sum, Fin.sum_univ_eq_sum_range (fun n => if 8191 ≤ t.val + n then f (t.val + n - 8191) b else 0) 8192]
    refine EReal.coe_eq_coe_iff.2 ?_
    have e := Finset.sum_range_add (fun n => if 8191 ≤ t.val + n then f (t.val + n - 8191) b else 0) (8191 - t.val) (t.val + 1)
    rw [show (8191 - t.val) + (t.val + 1) = 8192 by omega] at e
    rw [e, Finset.sum_eq_zero (fun n hn => if_neg (by simp only [Finset.mem_range] at hn; omega)), zero_add]
    refine Finset.sum_congr rfl fun n hn => ?_
    rw [if_pos (by omega)]
    exact congrArg (fun k => f k b) (by omega)

omit hx

/-- The differences of a sequence `w` apart, summed from a row on, are the next `w` terms, when the sequence ends. -/
theorem sum_diff (g : ℕ → ℝ) (w n M : ℕ) (hg : ∀ k, M ≤ k → g (n + k) = 0) :
    (∑ k ∈ Finset.range M, (g (n + k) - g (n + k + w))) = ∑ k ∈ Finset.range w, g (n + k) := by
  have e1 := Finset.sum_range_add (fun k => g (n + k)) w M
  have e2 := Finset.sum_range_add (fun k => g (n + k)) M w
  rw [Finset.sum_eq_zero (s := Finset.range w) (f := fun x => g (n + (M + x))) (fun k _ => hg _ (by omega)), add_zero, Nat.add_comm M w, e1] at e2
  rw [Finset.sum_sub_distrib, ← e2]
  simp only [Nat.add_assoc, Nat.add_comm w]
  ring

end Cert.RowSums

end
-- ==== Proof.MixRef.lean ====
/- The values of the pooling's backward reference: each stage of the printed derivative on reals, and its results as the
   kernel's formulas. -/
module

public import proofs.«01_k».proof.Proof.MixKernel
public import proofs.«01_k».proof.Proof.RowSums
public import proofs.«01_k».proof.Proof.Gen.ReferenceMixIdeal.Run
public import proofs.«01_k».proof.Proof.Gen.ReferenceMixIdeal.Read

@[expose] public section

noncomputable section

namespace Cert.Counts

/-- A window's sum is a difference of two sums from the first row. -/
theorem win_prefix (w : ℕ) (hw : w ≤ 16) (X : ℕ → ℝ) (n : ℕ) : win w X n
    = (∑ k ∈ Finset.range (n + 1), X k) - (if n < w then 0 else ∑ k ∈ Finset.range (n - w + 1), X k) := by
  unfold win
  by_cases h : n < w
  · rw [if_pos h, sub_zero, ← Finset.sum_range_reflect (fun k => X k) (n + 1)]
    have e := Finset.sum_range_add (fun k => later X (n + 16 - k)) (n + 1) (w - (n + 1))
    rw [show (n + 1) + (w - (n + 1)) = w by omega] at e
    rw [e, Finset.sum_eq_zero (s := Finset.range (w - (n + 1))) (f := fun k => later X (n + 16 - (n + 1 + k)))
      (fun k hk => if_pos (by simp only [Finset.mem_range] at hk; omega)), add_zero]
    refine Finset.sum_congr rfl fun k hk => ?_
    simp only [Finset.mem_range] at hk
    unfold later
    rw [if_neg (by omega)]
    exact congrArg X (by omega)
  · rw [if_neg h]
    have e := Finset.sum_range_add (fun k => X k) (n - w + 1) w
    rw [show (n - w + 1) + w = n + 1 by omega] at e
    rw [e, add_sub_cancel_left, ← Finset.sum_range_reflect (fun k => X (n - w + 1 + k)) w]
    refine Finset.sum_congr rfl fun k hk => ?_
    simp only [Finset.mem_range] at hk
    unfold later
    rw [if_neg (by omega)]
    exact congrArg X (by omega)

end Cert.Counts

namespace Cert.ReferenceMixIdeal.Val

open Cert.ReferenceMixIdeal Cert.ReferenceMixIdeal.Gen Cert.ReferenceMixIdeal.Read Cert.Common Cert.Counts Cert.RowSums
open Cert.KernelMixIdeal.Val (pm rP rW rS gP gW gS)
open Idealize.ShloMosaic

variable {x0 x3 : Vec Ideal S8192x2048 .f32} {x1 : Vec Ideal S4x512x512 .f32} {x2 : Vec Ideal S2048 .f32} {X Y : ℕ → ℕ → ℝ} {S : ℕ → ℝ} {W : ℕ → ℕ → ℕ → ℝ}
  (h0 : ∀ (i : Fin 8192) (k : Fin 2048), x0 (ix2 i k) = (X i.val k.val : EReal))
  (h1 : ∀ (g : Fin 4) (k q : Fin 512), x1 (ix3 g k q) = (W g.val k.val q.val : EReal))
  (h2 : ∀ k : Fin 2048, x2 (ix1 k) = (S k.val : EReal))
  (h3 : ∀ (i : Fin 8192) (k : Fin 2048), x3 (ix2 i k) = (Y i.val k.val : EReal))

include h0 in
/-- The sums from the first row. -/
theorem v0 (i : Fin 8192) (b : Fin 2048) : val_main_v0 (F := Ideal) x0 (ix2 i b) = ((∑ k ∈ Finset.range (i.val + 1), X k b.val : ℝ) : EReal) := by
  refine Eq.trans ?_ (rows_upto (f := fun n b => X n b.val) h0 reduceWindows_S8192x2048_S8192x2048_w8192s1p8191_0_w1s1p0_0 i b)
  unfold val_main_v0 Host.reduceWindowAdd
  rw [Ideal.hostReduceWindowAdd_def]
  congr 1
  exact (show _ = Ideal.ofBits .f32 0x00000000#32 from rfl).trans ofBits_zero

/-- The sum `w` rows before, zero before the first row. -/
theorem before (w : ℕ) (X : ℕ → ℝ) (i : Fin 8192) {f : Fin 8192 → EReal} (hf : ∀ j, f j = ((∑ k ∈ Finset.range (j.val + 1), X k : ℝ) : EReal)) :
    (if h : i.val < w then (0 : EReal) else f ⟨i.val - w, by omega⟩) = ((if i.val < w then 0 else ∑ k ∈ Finset.range (i.val - w + 1), X k : ℝ) : EReal) := by
  by_cases h : i.val < w
  · rw [dif_pos h, if_pos h]; rfl
  · rw [dif_neg h, if_neg h, hf]

/-- A mean's difference from its row. -/
theorem mean_row (w : ℕ) (hw : 0 < w) (hw' : w ≤ 16) (X : ℕ → ℝ) (i : Fin 8192) {f : Fin 8192 → EReal}
    (hf : ∀ j, f j = ((∑ k ∈ Finset.range (j.val + 1), X k : ℝ) : EReal)) {l x : EReal} (hl : l = (len w i.val : EReal)) (hx : x = (X i.val : EReal)) :
    Ideal.div (f i - if h : i.val < w then (0 : EReal) else f ⟨i.val - w, by omega⟩) l - x = (mixed w X i.val : EReal) := by
  rw [before w X i hf, hf, hl, hx, ← EReal.coe_sub, div_real _ (len_pos hw _), ← EReal.coe_sub, ← win_prefix w hw']
  rfl

/-! ## The four groups -/

theorem v13 (i : Fin 8192) : val_main_v14 (F := Ideal) (ix2 i 0) = (len 2 i.val : EReal) := by
  pointwise [val_main_v14, val_main_v13, val_main_v12, val_main_v11, val_main_c_0, val_main_v5, val_main_v4, val_main_c, val_main_v3]
  exact host_row_real i.val 2 (by have := i.isLt; omega) (by norm_num)

include h0 in
theorem v7 (i : Fin 8192) (q : Fin 512) : val_main_v7 (F := Ideal) x0 (ix2 i q) = ((∑ k ∈ Finset.range (i.val + 1), X k q.val : ℝ) : EReal) := by
  pointwise [val_main_v7, val_main_v6, val_main_v1]
  exact (v0 h0 _ _).trans (congrArg (fun b => ((∑ k ∈ Finset.range (i.val + 1), X k b : ℝ) : EReal)) (by dsimp only))

include h0 in
theorem v20 (i : Fin 8192) (q : Fin 512) : val_main_v20 (F := Ideal) x0 (ix2 i q) = (mixed 2 (fun n => X n q.val) i.val : EReal) := by
  pointwise [val_main_v20, val_main_v19, val_main_v18, val_main_v17, val_main_v16, val_main_v15, val_main_v10, val_main_v9, val_main_v8, val_main_cst, val_main_v2]
  exact mean_row 2 (by norm_num) (by norm_num) (fun n => X n q.val) i (f := fun j => val_main_v7 (F := Ideal) x0 (ix2 j q)) (fun j => v7 h0 j q) (v13 i)
    (h0 i ⟨q.val, by omega⟩)

theorem v28 (i : Fin 8192) : val_main_v29 (F := Ideal) (ix2 i 0) = (len 4 i.val : EReal) := by
  pointwise [val_main_v29, val_main_v28, val_main_v27, val_main_v26, val_main_c_2, val_main_v5, val_main_v4, val_main_c, val_main_v3]
  exact host_row_real i.val 4 (by have := i.isLt; omega) (by norm_num)

include h0 in
theorem v22 (i : Fin 8192) (q : Fin 512) : val_main_v22 (F := Ideal) x0 (ix2 i q) = ((∑ k ∈ Finset.range (i.val + 1), X k (512 + q.val) : ℝ) : EReal) := by
  pointwise [val_main_v22, val_main_v21, val_main_v1]
  exact (v0 h0 _ _).trans (congrArg (fun b => ((∑ k ∈ Finset.range (i.val + 1), X k b : ℝ) : EReal)) (by dsimp only))

include h0 in
theorem v35 (i : Fin 8192) (q : Fin 512) : val_main_v35 (F := Ideal) x0 (ix2 i q) = (mixed 4 (fun n => X n (512 + q.val)) i.val : EReal) := by
  pointwise [val_main_v35, val_main_v34, val_main_v33, val_main_v32, val_main_v31, val_main_v30, val_main_v25, val_main_v24, val_main_v23, val_main_cst_1, val_main_v2]
  exact mean_row 4 (by norm_num) (by norm_num) (fun n => X n (512 + q.val)) i (f := fun j => val_main_v22 (F := Ideal) x0 (ix2 j q)) (fun j => v22 h0 j q) (v28 i)
    ((h0 _ _).trans (congrArg (fun b => (X i.val b : EReal)) (by dsimp only)))

theorem v43 (i : Fin 8192) : val_main_v44 (F := Ideal) (ix2 i 0) = (len 8 i.val : EReal) := by
  pointwise [val_main_v44, val_main_v43, val_main_v42, val_main_v41, val_main_c_4, val_main_v5, val_main_v4, val_main_c, val_main_v3]
  exact host_row_real i.val 8 (by have := i.isLt; omega) (by norm_num)

include h0 in
theorem v37 (i : Fin 8192) (q : Fin 512) : val_main_v37 (F := Ideal) x0 (ix2 i q) = ((∑ k ∈ Finset.range (i.val + 1), X k (1024 + q.val) : ℝ) : EReal) := by
  pointwise [val_main_v37, val_main_v36, val_main_v1]
  exact (v0 h0 _ _).trans (congrArg (fun b => ((∑ k ∈ Finset.range (i.val + 1), X k b : ℝ) : EReal)) (by dsimp only))

include h0 in
theorem v50 (i : Fin 8192) (q : Fin 512) : val_main_v50 (F := Ideal) x0 (ix2 i q) = (mixed 8 (fun n => X n (1024 + q.val)) i.val : EReal) := by
  pointwise [val_main_v50, val_main_v49, val_main_v48, val_main_v47, val_main_v46, val_main_v45, val_main_v40, val_main_v39, val_main_v38, val_main_cst_3, val_main_v2]
  exact mean_row 8 (by norm_num) (by norm_num) (fun n => X n (1024 + q.val)) i (f := fun j => val_main_v37 (F := Ideal) x0 (ix2 j q)) (fun j => v37 h0 j q) (v43 i)
    ((h0 _ _).trans (congrArg (fun b => (X i.val b : EReal)) (by dsimp only)))

theorem v58 (i : Fin 8192) : val_main_v59 (F := Ideal) (ix2 i 0) = (len 16 i.val : EReal) := by
  pointwise [val_main_v59, val_main_v58, val_main_v57, val_main_v56, val_main_c_6, val_main_v5, val_main_v4, val_main_c, val_main_v3]
  exact host_row_real i.val 16 (by have := i.isLt; omega) (by norm_num)

include h0 in
theorem v52 (i : Fin 8192) (q : Fin 512) : val_main_v52 (F := Ideal) x0 (ix2 i q) = ((∑ k ∈ Finset.range (i.val + 1), X k (1536 + q.val) : ℝ) : EReal) := by
  pointwise [val_main_v52, val_main_v51, val_main_v1]
  exact (v0 h0 _ _).trans (congrArg (fun b => ((∑ k ∈ Finset.range (i.val + 1), X k b : ℝ) : EReal)) (by dsimp only))

include h0 in
theorem v65 (i : Fin 8192) (q : Fin 512) : val_main_v65 (F := Ideal) x0 (ix2 i q) = (mixed 16 (fun n => X n (1536 + q.val)) i.val : EReal) := by
  pointwise [val_main_v65, val_main_v64, val_main_v63, val_main_v62, val_main_v61, val_main_v60, val_main_v55, val_main_v54, val_main_v53, val_main_cst_5, val_main_v2]
  exact mean_row 16 (by norm_num) (by norm_num) (fun n => X n (1536 + q.val)) i (f := fun j => val_main_v52 (F := Ideal) x0 (ix2 j q)) (fun j => v52 h0 j q) (v58 i)
    ((h0 _ _).trans (congrArg (fun b => (X i.val b : EReal)) (by dsimp only)))

/-! ## The groups put together and the products -/

include h0 in
theorem v70 (i : Fin 8192) (p : Fin 4) (q : Fin 512) : val_main_v70 (F := Ideal) x0 (ix3 i p q) = (pm X i.val (p.val * 512 + q.val) : EReal) := by
  have hq := q.isLt
  unfold pm span
  match p with
  | 0 =>
    pointwise [val_main_v70, val_main_v66]
    rw [v20 h0, show q.val / 512 = 0 by omega]; rfl
  | 1 =>
    pointwise [val_main_v70, val_main_v67]
    rw [v35 h0, show (1 * 512 + q.val) / 512 = 1 by omega]; rfl
  | 2 =>
    pointwise [val_main_v70, val_main_v68]
    rw [v50 h0, show (2 * 512 + q.val) / 512 = 2 by omega]; rfl
  | 3 =>
    pointwise [val_main_v70, val_main_v69]
    rw [v65 h0, show (3 * 512 + q.val) / 512 = 3 by omega]; rfl

include h2 h3 in
theorem v84 (p : Fin 4) (q : Fin 512) (i : Fin 8192) : val_main_v84 (F := Ideal) x2 x3 (ix3 p q i)
    = ((Y i.val (p.val * 512 + q.val) * S (p.val * 512 + q.val) : ℝ) : EReal) := by
  pointwise [val_main_v84, val_main_v83, val_main_v81, val_main_v80, val_main_v74]
  rw [h2, h3, ← EReal.coe_mul]

include h1 h2 h3 in
theorem v89 (i : Fin 8192) (b : Fin 2048) : val_main_v89 (F := Ideal) x1 x2 x3 (ix2 i b) = gP Y S W (ix2 i b) := by
  pointwise [val_main_v89, val_main_v86, val_main_v85]
  simp only [v84 h2 h3, h1, ← EReal.coe_mul, coe_sum]
  rfl

include h0 h2 h3 in
theorem v88 (g : Fin 4) (k q : Fin 512) : val_main_v88 (F := Ideal) x0 x2 x3 (ix3 g k q) = gW X Y S (ix3 g k q) := by
  pointwise [val_main_v88, val_main_v87]
  simp only [v84 h2 h3, v70 h0, ← EReal.coe_mul, coe_sum]
  unfold gW rW
  rw [Finset.sum_range]
  refine EReal.coe_eq_coe_iff.2 (Finset.sum_congr rfl fun n _ => ?_)
  exact mul_comm _ _

include h0 h1 in
theorem v73 (i : Fin 8192) (b : Fin 2048) : val_main_v73 (F := Ideal) x0 x1 (ix2 i b)
    = ((∑ k : Fin 512, pm X i.val (b.val / 512 * 512 + k.val) * W (b.val / 512) k.val (b.val % 512) : ℝ) : EReal) := by
  pointwise [val_main_v73, val_main_v72, val_main_v71]
  simp only [v70 h0, h1, ← EReal.coe_mul, coe_sum]
  refine EReal.coe_eq_coe_iff.2 (Finset.sum_congr rfl fun n _ => ?_)
  exact mul_comm _ _

include h0 h1 h3 in
theorem v90 (b : Fin 2048) : val_main_v90 (F := Ideal) x0 x1 x3 (ix2 0 b) = gS X Y W (ix2 0 b) := by
  pointwise [val_main_v90, val_main_v82, val_main_v79, val_main_v78, val_main_v77, val_main_cst_7, val_main_cst_8]
  simp only [v73 h0 h1, h3, ← EReal.coe_mul, coe_sum]
  refine EReal.coe_eq_coe_iff.2 ((Fin.sum_univ_one _).trans ?_)
  show _ = ∑ n ∈ Finset.range 8192, rS X Y W n (b.val / 512) (b.val % 512)
  unfold rS
  rw [Finset.sum_range, show b.val / 512 * 512 + b.val % 512 = b.val by omega]
  exact Finset.sum_congr rfl fun n _ => mul_comm _ _

end Cert.ReferenceMixIdeal.Val

end
-- ==== Proof.Mix.lean ====
/- The pooling's backward kernel: its two frames, the reference's frame, and the equality of the results over the reals from
   finite arguments. -/
module

public import proofs.«01_k».proof.Defs
public import proofs.«01_k».proof.Proof.Gen.KernelMix
public import proofs.«01_k».proof.Proof.Gen.Pre_finite_mix
public import proofs.«01_k».proof.Proof.MixKernel
public import proofs.«01_k».proof.Proof.MixRef
public import Idealize.ShloMosaic.Lib.ReduceAll

@[expose] public section

noncomputable section

namespace Cert.Mix

open Cert.Common Cert.Blocks
open Idealize.ShloMosaic

theorem frame_kernel : Cert.quiescent_KernelMix := fun m ρ _ =>
  cast (by sl_kernel_rfl) (Cert.KernelMixIdeal.Gen.frame (F := Bits) m ρ)

theorem frame_ideal : Cert.quiescent_KernelMixIdeal := fun m ρ _ => Cert.KernelMixIdeal.Gen.frame m ρ

theorem frame_reference : Cert.quiescent_ReferenceMixIdeal := fun m ρ _ =>
  (θ_run Cert.ReferenceMixIdeal.defs _ _).mono (fun r h => ⟨fun c => (h c).2.2.2, sem_eq_zero_of_no_sems (by decide) r.2⟩)
    (Cert.ReferenceMixIdeal.Value.run (F := Ideal) m ρ)

section Pre

variable (m : (ℓ : Loc Cert.KernelMixIdeal.nD Cert.KernelMixIdeal.τ Cert.KernelMixIdeal.sig) → Buf (Elt Ideal) ℓ)
  (c : Dev Cert.KernelMixIdeal.nD)

/-- The entries of an array as reals, zero past its ends. -/
def rowsOf (x : Vec Ideal Cert.KernelMixIdeal.S8192x2048 .f32) (n k : ℕ) : ℝ :=
  if h : n < 8192 ∧ k < 2048 then (x (ix2 ⟨n, h.1⟩ ⟨k, h.2⟩)).toReal else 0

/-- The rows, the cotangent, the scale and the weights as reals. -/
def Xv : ℕ → ℕ → ℝ := rowsOf (m (c.tc.loc Cert.KernelMixIdeal.main_arg0))

def Yv : ℕ → ℕ → ℝ := rowsOf (m (c.tc.loc Cert.KernelMixIdeal.main_arg3))

def Sv (k : ℕ) : ℝ := if h : k < 2048 then ((m (c.tc.loc Cert.KernelMixIdeal.main_arg2) : Vec Ideal Cert.KernelMixIdeal.S2048 .f32) (ix1 ⟨k, h⟩)).toReal else 0

def Wv (g k q : ℕ) : ℝ := if h : g < 4 ∧ k < 512 ∧ q < 512 then
  ((m (c.tc.loc Cert.KernelMixIdeal.main_arg1) : Vec Ideal Cert.KernelMixIdeal.S4x512x512 .f32) (ix3 ⟨g, h.1⟩ ⟨k, h.2.1⟩ ⟨q, h.2.2⟩)).toReal else 0

instance : Subsingleton Cert.Pre_finite_mix.S_.Idx := ⟨fun a b => funext fun i => i.elim0⟩

theorem reals (h : Cert.Pre_KernelMixIdeal_finite_mix m) : Cert.KernelMixIdeal.Val.Reals m c (Xv m c) (Yv m c) (Sv m c) (Wv m c) := by
  have e := congrFun (h c) ix0
  obtain ⟨e, e3⟩ := IntOp.andi_eq_one.1 e
  obtain ⟨e, e2⟩ := IntOp.andi_eq_one.1 e
  obtain ⟨e0, e1⟩ := IntOp.andi_eq_one.1 e
  refine ⟨fun i k => ?_, fun g k q => ?_, fun k => ?_, fun i k => ?_⟩
  · rw [Xv, rowsOf, dif_pos ⟨i.isLt, k.isLt⟩]
    exact real_at e0 (ix2 i k)
  · rw [Wv, dif_pos ⟨g.isLt, k.isLt, q.isLt⟩]
    exact real_at e1 (ix3 g k q)
  · rw [Sv, dif_pos k.isLt]
    exact real_at e2 (ix1 k)
  · rw [Yv, rowsOf, dif_pos ⟨i.isLt, k.isLt⟩]
    exact real_at e3 (ix2 i k)

end Pre

open Cert.KernelMixIdeal.Val in
theorem values : Cert.algebraic_KernelMixIdeal_ReferenceMixIdeal_pre_finite_mix := by
  intro m g m' g' h hag
  have hR := fun c => reals m c h
  refine ⟨fun c => gP (Yv m c) (Sv m c) (Wv m c), fun c => gW (Xv m c) (Yv m c) (Sv m c), fun c => gS (Xv m c) (Yv m c) (Wv m c), ?_, ?_⟩
  · refine (θ_run Cert.KernelMixIdeal.defs _ _).mono (fun r hr c => ?_) (Cert.KernelMixIdeal.Value.run_blocks (F := Ideal) m g)
    obtain ⟨h5, h6, h7, ha⟩ := hr c
    exact ⟨h5.trans (final_5 (hR c)), h6.trans (final_6 (hR c)), h7.trans (final_7 (hR c)), ha⟩
  · refine (θ_run Cert.ReferenceMixIdeal.defs _ _).mono (fun r hr c => ?_) (Cert.ReferenceMixIdeal.Value.run (F := Ideal) m' g')
    obtain ⟨r0, r1, r2, ha⟩ := hr c
    obtain ⟨a0, a1, a2, a3⟩ := hag c
    have d0 := same2 (hR c).x a0
    have d1 := same3 (hR c).w a1
    have d2 := same1 (hR c).s a2
    have d3 := same2 (hR c).d a3
    refine ⟨r0.trans ((Cert.ReferenceMixIdeal.Read.val_main_v89_eq _ _ _).trans (funext fun i => ?_)),
      r1.trans ((Cert.ReferenceMixIdeal.Read.val_main_v88_eq _ _).trans (funext fun i => ?_)),
      r2.trans ((Cert.ReferenceMixIdeal.Read.val_main_v90_eq _ _).trans (funext fun i => ?_)), ha⟩
    · obtain ⟨a, b, rfl⟩ : ∃ a b, i = ix2 a b := ⟨_, _, eq_ix2 i⟩
      exact Cert.ReferenceMixIdeal.Val.v89 d1 d2 d3 a b
    · obtain ⟨a, b, q, rfl⟩ : ∃ a b q, i = ix3 a b q := ⟨_, _, _, eq_ix3 i⟩
      exact Cert.ReferenceMixIdeal.Val.v88 d0 d2 d3 a b q
    · obtain ⟨b, rfl⟩ : ∃ b : Fin 2048, i = ix2 0 b := by
        obtain ⟨a, b, e⟩ : ∃ (a : Fin 1) (b : Fin 2048), i = ix2 a b := ⟨_, _, eq_ix2 i⟩
        exact ⟨b, by rw [e, Subsingleton.elim a 0]⟩
      exact Cert.ReferenceMixIdeal.Val.v90 d0 d1 d3 b

end Cert.Mix

end
-- ==== Proof.PoolKernel.lean ====
/- The values of the pooling adjoint's kernel: each payload on reals, what each grid point leaves, and the result array
   after the run. -/
module

public import proofs.«01_k».proof.Proof.Blocks
public import proofs.«01_k».proof.Defs
public import proofs.«01_k».proof.Proof.Counts
public import proofs.«01_k».proof.Proof.Gen.KernelPoolIdeal.Value
public import Idealize.ShloMosaic.Lib.Pointwise
public import Idealize.ShloMosaic.Lib.KernelVsHost
public import Idealize.ShloMosaic.Lib.Pipeline.ValueKit.Tiles
public import Idealize.ShloMosaic.Lib.Tactic
public import Idealize.ShloMosaic.Lib.StableHlo.ReadAt

@[expose] public section

noncomputable section

namespace Cert.KernelPoolIdeal.Val

open Cert.Blocks
open Cert.KernelPoolIdeal Cert.KernelPoolIdeal.Gen Cert.Common Cert.Counts
open Idealize.ShloMosaic Idealize.ShloMosaic.TcCoe Idealize.SL.Sem
open Idealize.ShloMosaic.Pipeline (Dat)

/-! ## The payloads on reals -/

/-- A tile's rows and the sixteen rows after it, each over its window's length; nothing comes after the last tile. -/
def ext (a w : BitVec 32) (x : Vec Ideal S512x512 .f32) (y : Vec Ideal S16x512 .f32) : FVec Ideal S528x512 .f32 :=
  concatenate S528x512 0 [⟨S512x512, divf x (broadcastTo S512x512 (sitofp .f32 (minsi (addi (addi (broadcast S512x1 (Scalar.muli a 512#32)) (iota .tc S512x1 32 [0] iota_S512x1_d0_w32))
      (broadcast S512x1 1#32)) (broadcast S512x1 w))) broadcasts_S512x1_S512x512)⟩,
    ⟨S16x512, Scalar.select (Scalar.cmpi .slt a 15#32) (divf y (broadcastTo S16x512 (sitofp .f32 (minsi (addi (addi (broadcast S16x1
      (Scalar.muli (Scalar.addi a 1#32) 512#32)) (iota .tc S16x1 32 [0] iota_S16x1_d0_w32)) (broadcast S16x1 1#32)) (broadcast S16x1 w))) broadcasts_S16x1_S16x512))
      (broadcast S16x512 (Scalar.ofBits .f32 0x00000000#32))⟩] concatenates_S512x512_S16x512_S528x512_d0

/-- Each row plus the row that a rotation by `n` brings to it. -/
def roll (n : BitVec 32) (s : FVec Ideal S528x512 .f32) : FVec Ideal S528x512 .f32 :=
  addf s (dynamicRotate 0 n none s rotates_S528x512_d0)

/-- The scaled residual, plus the window sums, less the tile itself. -/
def tail (s : FVec Ideal S528x512 .f32) (r x : Vec Ideal S512x512 .f32) : FVec Ideal S512x512 .f32 :=
  subf (addf (mulf (broadcast S512x512 (Scalar.ofBits .f32 0x3FD744FD#32)) r)
    (extractStridedSlice S512x512 ![0, 0] s slices_S528x512_o0_0_S512x512)) x

section Payloads

variable {x r : Vec Ideal S512x512 .f32} {y : Vec Ideal S16x512 .f32}

theorem pay2_eq (i : grid0.Coords) : k0_pay2 i x y r = tail (roll 527#32 (ext (BitVec.ofNat 32 (i 0).val) 2#32 x y)) r x := rfl

theorem pay3_eq (a : BitVec 32) : k0_pay3 a (iota .tc S512x1 32 [0] iota_S512x1_d0_w32) (iota .tc S16x1 32 [0] iota_S16x1_d0_w32) x y r = tail (roll 526#32 (roll 527#32 (ext a 4#32 x y))) r x := rfl

theorem pay4_eq (a : BitVec 32) :
    k0_pay4 a (iota .tc S512x1 32 [0] iota_S512x1_d0_w32) (iota .tc S16x1 32 [0] iota_S16x1_d0_w32) x y r = tail (roll 524#32 (roll 526#32 (roll 527#32 (ext a 8#32 x y)))) r x := rfl

theorem pay1_eq (a : BitVec 32) : k0_pay1 x (k0_pay5 a (iota .tc S512x1 32 [0] iota_S512x1_d0_w32) (iota .tc S16x1 32 [0] iota_S16x1_d0_w32) x y r)
    = tail (roll 520#32 (roll 524#32 (roll 526#32 (roll 527#32 (ext a 16#32 x y))))) r x := rfl

variable {D A : ℕ → ℝ} {i : ℕ} (c : Fin 512)

theorem ext_apply (w : ℕ) (hw : 0 < w) (hw' : w < 2 ^ 31) (hi : i < 16) (hx : ∀ a, x (ix2 a c) = (D (i * 512 + a.val) : EReal))
    (hy : ∀ a : Fin 16, i < 15 → y (ix2 a c) = (D ((i + 1) * 512 + a.val) : EReal)) (a : Fin 528) :
    ext (BitVec.ofNat 32 i) (BitVec.ofNat 32 w) x y (ix2 a c) = (over w D (i * 512 + a.val) : EReal) := by
  unfold ext
  by_cases h : a.val < 512
  · pointwise [h, hx]
    refine (congrArg _ (row_real i 512 a.val w (by omega) hw')).trans ?_
    rw [div_real _ (len_pos hw _)]
    unfold over
    rw [if_pos (by omega)]
  · have := a.isLt
    pointwise [h]
    rw [show Scalar.cmpi .slt (BitVec.ofNat 32 i) 15#32 = BitVec.ofBool (decide (i < 15)) from
      congrArg BitVec.ofBool (slt_counts i 15 (by omega) (by norm_num))]
    by_cases h15 : i < 15
    · rw [hy _ h15, show Scalar.addi (BitVec.ofNat 32 i) 1#32 = BitVec.ofNat 32 (i + 1) from (BitVec.ofNat_add i 1).symm]
      refine (if_pos (by rw [decide_eq_true h15]; rfl)).trans ((congrArg _ (row_real (i + 1) 512 (a.val - 512) w (by omega) hw')).trans ?_)
      rw [div_real _ (len_pos hw _), show (i + 1) * 512 + (a.val - 512) = i * 512 + a.val by omega]
      unfold over
      rw [if_pos (by omega)]
    · refine (if_neg (by rw [decide_eq_false h15]; decide)).trans ?_
      unfold over
      rw [if_neg (by omega)]; rfl

theorem roll_apply (s : ℕ) (hs : s ≤ 8) (n : BitVec 32) (hn : n.toNat = 528 - s) (hs0 : 0 < s) {f : ℕ → ℝ} {e : FVec Ideal S528x512 .f32}
    (he : ∀ a : Fin 528, a.val + s ≤ 528 → e (ix2 a c) = ((∑ k ∈ Finset.range s, f (a.val + k) : ℝ) : EReal)) (a : Fin 528)
    (ha : a.val + (s + s) ≤ 528) : roll n e (ix2 a c) = ((∑ k ∈ Finset.range (s + s), f (a.val + k) : ℝ) : EReal) := by
  unfold roll
  rw [show ∀ u v : FVec Ideal S528x512 .f32, ∀ j, addf u v j = u j + v j from fun _ _ _ => rfl, dynamicRotate_apply _ _ _ _ _ (ix2 ⟨a.val + s, by omega⟩ c)]
  · rw [he a (by omega), he ⟨a.val + s, by omega⟩ (by show a.val + s + s ≤ 528; omega), ← EReal.coe_add, window_double]
  · intro b
    match b with
    | ⟨0, _⟩ => show a.val + s = (a.val + 528 - n.toNat % 528) % 528; rw [hn]; omega
    | ⟨1, _⟩ => rfl

theorem tail_apply (w : ℕ) (hw : w ≤ 16) (hx : ∀ a, x (ix2 a c) = (D (i * 512 + a.val) : EReal))
    (hr : ∀ a, r (ix2 a c) = (A (i * 512 + a.val) : EReal)) {e : FVec Ideal S528x512 .f32}
    (he : ∀ a : Fin 528, a.val + w ≤ 528 → e (ix2 a c) = ((∑ k ∈ Finset.range w, over w D (i * 512 + a.val + k) : ℝ) : EReal))
    (a : Fin 512) : tail e r x (ix2 a c) = (pooled w D A (i * 512 + a.val) : EReal) := by
  have := a.isLt
  unfold tail
  pointwise []
  rw [hx, hr, ofBits_alpha, he ⟨a.val, by omega⟩ (by show a.val + w ≤ 528; omega), ← EReal.coe_mul, ← EReal.coe_add, ← EReal.coe_sub]
  rfl

variable (hi : i < 16) (hx : ∀ a, x (ix2 a c) = (D (i * 512 + a.val) : EReal))
    (hy : ∀ a : Fin 16, i < 15 → y (ix2 a c) = (D ((i + 1) * 512 + a.val) : EReal)) (hr : ∀ a, r (ix2 a c) = (A (i * 512 + a.val) : EReal))
include hi hx hy

theorem roll1 (w : ℕ) (hw : 0 < w) (hw' : w < 2 ^ 31) (a : Fin 528) (ha : a.val + (1 + 1) ≤ 528) :
    roll 527#32 (ext (BitVec.ofNat 32 i) (BitVec.ofNat 32 w) x y) (ix2 a c)
      = ((∑ k ∈ Finset.range 2, over w D (i * 512 + a.val + k) : ℝ) : EReal) := by
  have h := roll_apply c 1 (by norm_num) 527#32 (by decide) (by norm_num) (f := fun n => over w D (i * 512 + n))
    (fun a _ => by simpa using ext_apply c w hw hw' hi hx hy a) a ha
  simpa only [Nat.add_assoc] using h

theorem roll2 (w : ℕ) (hw : 0 < w) (hw' : w < 2 ^ 31) (a : Fin 528) (ha : a.val + (2 + 2) ≤ 528) :
    roll 526#32 (roll 527#32 (ext (BitVec.ofNat 32 i) (BitVec.ofNat 32 w) x y)) (ix2 a c)
      = ((∑ k ∈ Finset.range 4, over w D (i * 512 + a.val + k) : ℝ) : EReal) := by
  have h := roll_apply c 2 (by norm_num) 526#32 (by decide) (by norm_num) (f := fun n => over w D (i * 512 + n))
    (fun a h => by simpa only [Nat.add_assoc] using roll1 c hi hx hy w hw hw' a h) a ha
  simpa only [Nat.add_assoc] using h

theorem roll3 (w : ℕ) (hw : 0 < w) (hw' : w < 2 ^ 31) (a : Fin 528) (ha : a.val + (4 + 4) ≤ 528) :
    roll 524#32 (roll 526#32 (roll 527#32 (ext (BitVec.ofNat 32 i) (BitVec.ofNat 32 w) x y))) (ix2 a c)
      = ((∑ k ∈ Finset.range 8, over w D (i * 512 + a.val + k) : ℝ) : EReal) := by
  have h := roll_apply c 4 (by norm_num) 524#32 (by decide) (by norm_num) (f := fun n => over w D (i * 512 + n))
    (fun a h => by simpa only [Nat.add_assoc] using roll2 c hi hx hy w hw hw' a h) a ha
  simpa only [Nat.add_assoc] using h

theorem roll4 (w : ℕ) (hw : 0 < w) (hw' : w < 2 ^ 31) (a : Fin 528) (ha : a.val + (8 + 8) ≤ 528) :
    roll 520#32 (roll 524#32 (roll 526#32 (roll 527#32 (ext (BitVec.ofNat 32 i) (BitVec.ofNat 32 w) x y)))) (ix2 a c)
      = ((∑ k ∈ Finset.range 16, over w D (i * 512 + a.val + k) : ℝ) : EReal) := by
  have h := roll_apply c 8 (by norm_num) 520#32 (by decide) (by norm_num) (f := fun n => over w D (i * 512 + n))
    (fun a h => by simpa only [Nat.add_assoc] using roll3 c hi hx hy w hw hw' a h) a ha
  simpa only [Nat.add_assoc] using h

end Payloads

/-! ## What a grid point leaves -/

theorem ld_tile (o : ℕ) (ho : o + 512 ≤ 2048) (h : ∀ k, (![0, o] : Fin 2 → ℕ) k + S512x512.size k ≤ S512x2048.size k) (x : Vec Ideal S512x2048 .f32)
    (p q : Fin 512) : View.ld x (Rect.unit (s := S512x2048) ![0, o] S512x512.size h) (ix2 p q) = x (ix2 p ⟨o + q.val, by have := q.isLt; omega⟩) := by
  rw [View.ld_apply]
  congr 1
  funext k
  apply Fin.ext
  match k with
  | ⟨0, _⟩ => show 0 + 1 * p.val = p.val; omega
  | ⟨1, _⟩ => show o + 1 * q.val = o + q.val; omega

theorem ld_after (o : ℕ) (ho : o + 512 ≤ 2048) (h : ∀ k, (![0, o] : Fin 2 → ℕ) k + S16x512.size k ≤ S16x2048.size k) (x : Vec Ideal S16x2048 .f32)
    (p : Fin 16) (q : Fin 512) : View.ld x (Rect.unit (s := S16x2048) ![0, o] S16x512.size h) (ix2 p q) = x (ix2 p ⟨o + q.val, by have := q.isLt; omega⟩) := by
  rw [View.ld_apply]
  congr 1
  funext k
  apply Fin.ext
  match k with
  | ⟨0, _⟩ => show 0 + 1 * p.val = p.val; omega
  | ⟨1, _⟩ => show o + 1 * q.val = o + q.val; omega

theorem slab_at {i : ℕ} {D A : ℕ → Fin 2048 → ℝ} (o w : ℕ) (ho : o + 512 ≤ 2048) (hs : ∀ q, q < 512 → span (o + q) = w) {e : FVec Ideal S512x512 .f32}
    (he : ∀ p q : Fin 512, e (ix2 p q) = (pooled w (fun n => D n ⟨o + q.val, by have := q.isLt; omega⟩)
      (fun n => A n ⟨o + q.val, by have := q.isLt; omega⟩) (i * 512 + p.val) : EReal)) (a : Fin 512) (b : Fin 2048) :
    View.TileAt (Val := Elt Ideal) (S := S512x2048) (e := .f32) (ix2 a b) ![0, o] S512x512.size e
      (pooled (span b.val) (fun n => D n b) (fun n => A n b) (i * 512 + a.val) : EReal) := by
  intro z hz
  have h0 : a.val = 0 + (z 0).val := hz 0
  have h1 : b.val = o + (z 1).val := hz 1
  have hz' : z = ix2 (z 0) (z 1) := by
    funext k
    match k with
    | ⟨0, _⟩ => rfl
    | ⟨1, _⟩ => rfl
  rw [hz']
  have hb : b = ⟨o + (z 1).val, h1 ▸ b.isLt⟩ := Fin.ext h1
  have ha : a.val = (z 0).val := by omega
  have hq : (z 1).val < 512 := (z 1).isLt
  rw [h1, hs _ hq, ha, hb]
  exact he (z 0) (z 1)

theorem out_apply (t : grid0.Coords) {i : ℕ} (ht : (t 0).val = i) (hi : i < 16) (x : Vec Ideal S512x2048 .f32) (y : Vec Ideal S16x2048 .f32)
    (r : Vec Ideal S512x2048 .f32) {D A : ℕ → Fin 2048 → ℝ} (hx : ∀ a b, x (ix2 a b) = (D (i * 512 + a.val) b : EReal))
    (hy : ∀ (a : Fin 16) b, i < 15 → y (ix2 a b) = (D ((i + 1) * 512 + a.val) b : EReal))
    (hr : ∀ a b, r (ix2 a b) = (A (i * 512 + a.val) b : EReal)) (a : Fin 512) (b : Fin 2048) :
    out0_3 t x y r (ix2 a b) = (pooled (span b.val) (fun n => D n b) (fun n => A n b) (i * 512 + a.val) : EReal) := by
  have hs : ∀ j q : ℕ, q < 512 → span (j * 512 + q) = 2 ^ (j + 1) := fun j q hq => by
    unfold span; rw [show (j * 512 + q) / 512 = j by omega]
  unfold out0_3 k0_pay6 k0_pay7
  refine View.canon_eq_of_allAt _ _ _ (cover0_3 _ _ _ _ _) ?_
  refine View.allAt_cons_unit _ _ _ _ _ (slab_at 1536 16 (by norm_num) (hs 3) (fun p q => ?_) a b) ?_
  · rw [pay1_eq, ht]
    exact tail_apply q 16 (by norm_num) (fun p => (ld_tile 1536 (by norm_num) _ x p q).trans (hx _ _))
      (fun p => (ld_tile 1536 (by norm_num) _ r p q).trans (hr _ _))
      (fun p h => roll4 q hi (fun p => (ld_tile 1536 (by norm_num) _ x p q).trans (hx _ _))
        (fun p h => (ld_after 1536 (by norm_num) _ y p q).trans (hy _ _ h)) 16 (by norm_num) (by norm_num) p h) p
  refine View.allAt_cons_unit _ _ _ _ _ (slab_at 1024 8 (by norm_num) (hs 2) (fun p q => ?_) a b) ?_
  · rw [pay4_eq, ht]
    exact tail_apply q 8 (by norm_num) (fun p => (ld_tile 1024 (by norm_num) _ x p q).trans (hx _ _))
      (fun p => (ld_tile 1024 (by norm_num) _ r p q).trans (hr _ _))
      (fun p h => roll3 q hi (fun p => (ld_tile 1024 (by norm_num) _ x p q).trans (hx _ _))
        (fun p h => (ld_after 1024 (by norm_num) _ y p q).trans (hy _ _ h)) 8 (by norm_num) (by norm_num) p h) p
  refine View.allAt_cons_unit _ _ _ _ _ (slab_at 512 4 (by norm_num) (hs 1) (fun p q => ?_) a b) ?_
  · rw [pay3_eq, ht]
    exact tail_apply q 4 (by norm_num) (fun p => (ld_tile 512 (by norm_num) _ x p q).trans (hx _ _))
      (fun p => (ld_tile 512 (by norm_num) _ r p q).trans (hr _ _))
      (fun p h => roll2 q hi (fun p => (ld_tile 512 (by norm_num) _ x p q).trans (hx _ _))
        (fun p h => (ld_after 512 (by norm_num) _ y p q).trans (hy _ _ h)) 4 (by norm_num) (by norm_num) p h) p
  refine View.allAt_cons_unit _ _ _ _ _ (slab_at 0 2 (by norm_num) (hs 0) (fun p q => ?_) a b) (View.allAt_nil _ _)
  · rw [pay2_eq, ht]
    exact tail_apply q 2 (by norm_num) (fun p => (ld_tile 0 (by norm_num) _ x p q).trans (hx _ _))
      (fun p => (ld_tile 0 (by norm_num) _ r p q).trans (hr _ _))
      (fun p h => roll1 q hi (fun p => (ld_tile 0 (by norm_num) _ x p q).trans (hx _ _))
        (fun p h => (ld_after 0 (by norm_num) _ y p q).trans (hy _ _ h)) 2 (by norm_num) (by norm_num) p h) p

/-! ## The blocks and the result array -/

theorem point_lt (t : Fin cfg0.N) : t.val < 16 := lt_of_lt_of_eq t.isLt N_0

theorem idx_facts : ∀ t : Fin cfg0.N, (win0_0.index t 0 = t.val ∧ win0_0.index t 1 = 0)
    ∧ (win0_1.index t 0 = min ((t.val + 1) * 32) 511 ∧ win0_1.index t 1 = 0) ∧ (win0_2.index t 0 = t.val ∧ win0_2.index t 1 = 0)
    ∧ (win0_3.index t 0 = t.val ∧ win0_3.index t 1 = 0) ∧ (grid0.coords t 0).val = t.val :=
  (by decide +kernel : ∀ t : Fin grid0.N, _)

variable (m : (ℓ : Loc nD τ sig) → Buf (Elt Ideal) ℓ) (ρ : Dev nD → PrngReg)

/-- The arguments of a device are reals: `D` the pooled rows' cotangent, `A` the residual's. -/
structure Reals (c : Dev nD) (D A : ℕ → Fin 2048 → ℝ) : Prop where
  d : ∀ (i : Fin 8192) k, (m (c.tc.loc main_arg0) : Vec Ideal S8192x2048 .f32) (ix2 i k) = (D i.val k : EReal)
  a : ∀ (i : Fin 8192) k, (m (c.tc.loc main_arg1) : Vec Ideal S8192x2048 .f32) (ix2 i k) = (A i.val k : EReal)

variable {m} {c : Dev nD} {D A : ℕ → Fin 2048 → ℝ} (h : Reals m c D A)
include h

theorem Reals.d' (t : Fin cfg0.N) (a : Fin 512) (b : Fin 2048) :
    (iblk m c 0 t : Vec Ideal S512x2048 .f32) (ix2 a b) = (D (t.val * 512 + a.val) b : EReal) := by
  have hi := (idx_facts t).1
  have ht := point_lt t
  have ha := a.isLt
  rw [← h.d ⟨t.val * 512 + a.val, by omega⟩]
  exact (congrArg (V m c main_arg0) (at2 (blk_at hi.1 rfl) (blk_in hi.2))).trans (congrFun (V_main_arg0 m c) _)

theorem Reals.after' (t : Fin cfg0.N) (a : Fin 16) (b : Fin 2048) (h15 : t.val < 15) :
    (iblk m c 1 t : Vec Ideal S16x2048 .f32) (ix2 a b) = (D ((t.val + 1) * 512 + a.val) b : EReal) := by
  have hi := (idx_facts t).2.1
  have ha := a.isLt
  rw [← h.d ⟨(t.val + 1) * 512 + a.val, by omega⟩]
  exact (congrArg (V m c main_arg0) (at2 (by show win0_1.index t 0 * 16 + 1 * a.val = (t.val + 1) * 512 + a.val; rw [hi.1]; omega) (blk_in hi.2))).trans (congrFun (V_main_arg0 m c) _)

theorem Reals.a' (t : Fin cfg0.N) (a : Fin 512) (b : Fin 2048) :
    (iblk m c 2 t : Vec Ideal S512x2048 .f32) (ix2 a b) = (A (t.val * 512 + a.val) b : EReal) := by
  have hi := (idx_facts t).2.2.1
  have ht := point_lt t
  have ha := a.isLt
  rw [← h.a ⟨t.val * 512 + a.val, by omega⟩]
  exact (congrArg (V m c main_arg1) (at2 (blk_at hi.1 rfl) (blk_in hi.2))).trans (congrFun (V_main_arg1 m c) _)

variable (D A)
omit h

/-- The gradient of the pooling's input, at an index of the array. -/
def gX (i : S8192x2048.Idx) : EReal := (pooled (span (i 1).val) (fun n => D n (i 1)) (fun n => A n (i 1)) (i 0).val : EReal)

variable {D A}

theorem cover_3 (i : S8192x2048.Idx) : ∃ t : Fin cfg0.N, (cfg0.win 3).flush t = true ∧ i ∈ ((cfg0.win 3).blk t).view.set := by
  have hN : cfg0.N = 16 := N_0
  have h0 : _ < 8192 := (i 0).isLt
  have h1 : _ < 2048 := (i 1).isLt
  obtain ⟨t, ht⟩ := fin_at (N := cfg0.N) ((i 0).val / 512) (by omega)
  refine ⟨t, flush0_3 _, ?_⟩
  have hi := (idx_facts t).2.2.2.1
  exact in_rect (all2 (in_blk (i 0).val 512 hi.1 (by omega)) (in_blk (i 1).val 2048 hi.2 (by omega)))

include h in
theorem final_3 : (dats m 0 c).arrAt 3 cfg0.N = gX D A :=
  (dats m 0 c).arrAt_eq_of_cover 3 _ (fun t hf => by
    rw [Value.flushed3]
    have hi := (idx_facts t).2.2.2
    exact ext2 fun a b => (out_apply _ hi.2 (point_lt t) _ _ _ (h.d' t) (fun a b => h.after' t a b) (h.a' t) a b).trans (congrArg (gX D A) (at2 (p := ⟨t.val * 512 + a.val, by have := point_lt t; omega⟩) (blk_at hi.1.1 rfl) (blk_in hi.1.2))).symm) cover_3

end Cert.KernelPoolIdeal.Val

end
-- ==== Proof.PoolRef.lean ====
/- The values of the pooling adjoint's reference: each stage of the printed derivative on reals, and its result as the
   kernel's formula. -/
module

public import proofs.«01_k».proof.Proof.RowSums
public import proofs.«01_k».proof.Proof.Gen.ReferencePoolIdeal.Run
public import proofs.«01_k».proof.Proof.Gen.ReferencePoolIdeal.Read

@[expose] public section

noncomputable section

namespace Cert.ReferencePoolIdeal.Val

open Cert.ReferencePoolIdeal Cert.ReferencePoolIdeal.Gen Cert.ReferencePoolIdeal.Read Cert.Common Cert.Counts Cert.RowSums
open Idealize.ShloMosaic

variable {x0 x1 : Vec Ideal S8192x2048 .f32} {D A : ℕ → Fin 2048 → ℝ}
  (h0 : ∀ (i : Fin 8192) k, x0 (ix2 i k) = (D i.val k : EReal)) (h1 : ∀ (i : Fin 8192) k, x1 (ix2 i k) = (A i.val k : EReal))

/-! ## The window lengths -/

theorem v16 (i : Fin 8192) : val_main_v16 (F := Ideal) (ix2 i 0) = (len 2 i.val : EReal) := by
  pointwise [val_main_v16, val_main_v15, val_main_v14, val_main_v13, val_main_c_2, val_main_v6, val_main_v5, val_main_c, val_main_v4]
  exact host_row_real i.val 2 (by have := i.isLt; omega) (by norm_num)

theorem v32 (i : Fin 8192) : val_main_v32 (F := Ideal) (ix2 i 0) = (len 4 i.val : EReal) := by
  pointwise [val_main_v32, val_main_v31, val_main_v30, val_main_v29, val_main_c_5, val_main_v6, val_main_v5, val_main_c, val_main_v4]
  exact host_row_real i.val 4 (by have := i.isLt; omega) (by norm_num)

theorem v48 (i : Fin 8192) : val_main_v48 (F := Ideal) (ix2 i 0) = (len 8 i.val : EReal) := by
  pointwise [val_main_v48, val_main_v47, val_main_v46, val_main_v45, val_main_c_8, val_main_v6, val_main_v5, val_main_c, val_main_v4]
  exact host_row_real i.val 8 (by have := i.isLt; omega) (by norm_num)

theorem v64 (i : Fin 8192) : val_main_v64 (F := Ideal) (ix2 i 0) = (len 16 i.val : EReal) := by
  pointwise [val_main_v64, val_main_v63, val_main_v62, val_main_v61, val_main_c_11, val_main_v6, val_main_v5, val_main_c, val_main_v4]
  exact host_row_real i.val 16 (by have := i.isLt; omega) (by norm_num)

include h0

/-! ## The four groups -/

theorem v82 (i : Fin 8192) (q : Fin 512) : val_main_v82 (F := Ideal) x0 (ix2 i q) = (D i.val ⟨q.val, by omega⟩ : EReal) := by
  pointwise [val_main_v82, val_main_v81, val_main_v78]
  exact (h0 _ _).trans (congrArg (fun b => (D i.val b : EReal)) (Fin.ext (by dsimp only)))

theorem v134 (i : Fin 8192) (q : Fin 512) : val_main_v134 (F := Ideal) x0 (ix2 i q)
    = (over 2 (fun n => D n ⟨q.val, by omega⟩) i.val : EReal) := by
  pointwise [val_main_v134, val_main_v133]
  rw [v82 h0, v16, div_real _ (len_pos (by norm_num) _), over, if_pos i.isLt]

theorem v139 (i : Fin 8192) (q : Fin 512) : val_main_v139 (F := Ideal) x0 (ix2 i q)
    = ((over 2 (fun n => D n ⟨q.val, by omega⟩) i.val - over 2 (fun n => D n ⟨q.val, by omega⟩) (2 + i.val) : ℝ) : EReal) := by
  pointwise [val_main_v139, val_main_v138, val_main_v136, val_main_v135, val_main_cst_24]
  rw [v134 h0]
  by_cases h : 2 + i.val < 8192
  · rw [dif_pos h, v134 h0, ← EReal.coe_neg, ← EReal.coe_add, ← sub_eq_add_neg]
  · rw [dif_neg h, show over 2 (fun n => D n ⟨q.val, by omega⟩) (2 + i.val) = 0 from if_neg (by omega), sub_zero, add_zero]

theorem v84 (i : Fin 8192) (q : Fin 512) : val_main_v84 (F := Ideal) x0 (ix2 i q) = (D i.val ⟨512 + q.val, by omega⟩ : EReal) := by
  pointwise [val_main_v84, val_main_v83, val_main_v78]
  exact (h0 _ _).trans (congrArg (fun b => (D i.val b : EReal)) (Fin.ext (by dsimp only)))

theorem v120 (i : Fin 8192) (q : Fin 512) : val_main_v120 (F := Ideal) x0 (ix2 i q)
    = (over 4 (fun n => D n ⟨512 + q.val, by omega⟩) i.val : EReal) := by
  pointwise [val_main_v120, val_main_v119]
  rw [v84 h0, v32, div_real _ (len_pos (by norm_num) _), over, if_pos i.isLt]

theorem v125 (i : Fin 8192) (q : Fin 512) : val_main_v125 (F := Ideal) x0 (ix2 i q)
    = ((over 4 (fun n => D n ⟨512 + q.val, by omega⟩) i.val - over 4 (fun n => D n ⟨512 + q.val, by omega⟩) (4 + i.val) : ℝ) : EReal) := by
  pointwise [val_main_v125, val_main_v124, val_main_v122, val_main_v121, val_main_cst_21]
  rw [v120 h0]
  by_cases h : 4 + i.val < 8192
  · rw [dif_pos h, v120 h0, ← EReal.coe_neg, ← EReal.coe_add, ← sub_eq_add_neg]
  · rw [dif_neg h, show over 4 (fun n => D n ⟨512 + q.val, by omega⟩) (4 + i.val) = 0 from if_neg (by omega), sub_zero, add_zero]

theorem v86 (i : Fin 8192) (q : Fin 512) : val_main_v86 (F := Ideal) x0 (ix2 i q) = (D i.val ⟨1024 + q.val, by omega⟩ : EReal) := by
  pointwise [val_main_v86, val_main_v85, val_main_v78]
  exact (h0 _ _).trans (congrArg (fun b => (D i.val b : EReal)) (Fin.ext (by dsimp only)))

theorem v106 (i : Fin 8192) (q : Fin 512) : val_main_v106 (F := Ideal) x0 (ix2 i q)
    = (over 8 (fun n => D n ⟨1024 + q.val, by omega⟩) i.val : EReal) := by
  pointwise [val_main_v106, val_main_v105]
  rw [v86 h0, v48, div_real _ (len_pos (by norm_num) _), over, if_pos i.isLt]

theorem v111 (i : Fin 8192) (q : Fin 512) : val_main_v111 (F := Ideal) x0 (ix2 i q)
    = ((over 8 (fun n => D n ⟨1024 + q.val, by omega⟩) i.val - over 8 (fun n => D n ⟨1024 + q.val, by omega⟩) (8 + i.val) : ℝ) : EReal) := by
  pointwise [val_main_v111, val_main_v110, val_main_v108, val_main_v107, val_main_cst_18]
  rw [v106 h0]
  by_cases h : 8 + i.val < 8192
  · rw [dif_pos h, v106 h0, ← EReal.coe_neg, ← EReal.coe_add, ← sub_eq_add_neg]
  · rw [dif_neg h, show over 8 (fun n => D n ⟨1024 + q.val, by omega⟩) (8 + i.val) = 0 from if_neg (by omega), sub_zero, add_zero]

theorem v88 (i : Fin 8192) (q : Fin 512) : val_main_v88 (F := Ideal) x0 (ix2 i q) = (D i.val ⟨1536 + q.val, by omega⟩ : EReal) := by
  pointwise [val_main_v88, val_main_v87, val_main_v78]
  exact (h0 _ _).trans (congrArg (fun b => (D i.val b : EReal)) (Fin.ext (by dsimp only)))

theorem v93 (i : Fin 8192) (q : Fin 512) : val_main_v93 (F := Ideal) x0 (ix2 i q)
    = (over 16 (fun n => D n ⟨1536 + q.val, by omega⟩) i.val : EReal) := by
  pointwise [val_main_v93, val_main_v92]
  rw [v88 h0, v64, div_real _ (len_pos (by norm_num) _), over, if_pos i.isLt]

theorem v98 (i : Fin 8192) (q : Fin 512) : val_main_v98 (F := Ideal) x0 (ix2 i q)
    = ((over 16 (fun n => D n ⟨1536 + q.val, by omega⟩) i.val - over 16 (fun n => D n ⟨1536 + q.val, by omega⟩) (16 + i.val) : ℝ) : EReal) := by
  pointwise [val_main_v98, val_main_v97, val_main_v95, val_main_v94, val_main_cst_15]
  rw [v93 h0]
  by_cases h : 16 + i.val < 8192
  · rw [dif_pos h, v93 h0, ← EReal.coe_neg, ← EReal.coe_add, ← sub_eq_add_neg]
  · rw [dif_neg h, show over 16 (fun n => D n ⟨1536 + q.val, by omega⟩) (16 + i.val) = 0 from if_neg (by omega), sub_zero, add_zero]

/-! ## The groups put together -/

theorem v142 (i : Fin 8192) (p : Fin 4) (q : Fin 512) : val_main_v142 (F := Ideal) x0 (ix3 i p q)
    = ((over (2 ^ (p.val + 1)) (fun n => D n ⟨p.val * 512 + q.val, by omega⟩) i.val
      - over (2 ^ (p.val + 1)) (fun n => D n ⟨p.val * 512 + q.val, by omega⟩) (i.val + 2 ^ (p.val + 1)) : ℝ) : EReal) := by
  match p with
  | 0 =>
    pointwise [val_main_v142, val_main_v128, val_main_v114, val_main_v141, val_main_v127, val_main_v113, val_main_v100, val_main_v140, val_main_v126, val_main_v112, val_main_v99,
      val_main_cst_16, val_main_cst_19, val_main_cst_22, val_main_cst_25]
    rw [v139 h0, Nat.add_comm i.val]
    rfl
  | 1 =>
    pointwise [val_main_v142, val_main_v128, val_main_v114, val_main_v141, val_main_v127, val_main_v113, val_main_v100, val_main_v140, val_main_v126, val_main_v112, val_main_v99,
      val_main_cst_16, val_main_cst_19, val_main_cst_22, val_main_cst_25]
    rw [v125 h0, Nat.add_comm i.val]
    rfl
  | 2 =>
    pointwise [val_main_v142, val_main_v128, val_main_v114, val_main_v141, val_main_v127, val_main_v113, val_main_v100, val_main_v140, val_main_v126, val_main_v112, val_main_v99,
      val_main_cst_16, val_main_cst_19, val_main_cst_22, val_main_cst_25]
    rw [v111 h0, Nat.add_comm i.val]
    rfl
  | 3 =>
    pointwise [val_main_v142, val_main_v128, val_main_v114, val_main_v141, val_main_v127, val_main_v113, val_main_v100, val_main_v140, val_main_v126, val_main_v112, val_main_v99,
      val_main_cst_16, val_main_cst_19, val_main_cst_22, val_main_cst_25]
    rw [v98 h0, Nat.add_comm i.val]
    rfl

theorem v132 (i : Fin 8192) (p : Fin 4) (q : Fin 512) :
    val_main_v132 (F := Ideal) x0 (ix3 i p q) = ((-D i.val ⟨p.val * 512 + q.val, by omega⟩ : ℝ) : EReal) := by
  match p with
  | 0 =>
    pointwise [val_main_v132, val_main_v118, val_main_v104, val_main_v131, val_main_v117, val_main_v103, val_main_v91, val_main_v130, val_main_v116, val_main_v102, val_main_v90,
      val_main_v89, val_main_v101, val_main_v115, val_main_v129, val_main_cst_14, val_main_cst_17, val_main_cst_20, val_main_cst_23]
    rw [v82 h0, ← EReal.coe_neg]
  | 1 =>
    pointwise [val_main_v132, val_main_v118, val_main_v104, val_main_v131, val_main_v117, val_main_v103, val_main_v91, val_main_v130, val_main_v116, val_main_v102, val_main_v90,
      val_main_v89, val_main_v101, val_main_v115, val_main_v129, val_main_cst_14, val_main_cst_17, val_main_cst_20, val_main_cst_23]
    rw [v84 h0, ← EReal.coe_neg]
  | 2 =>
    pointwise [val_main_v132, val_main_v118, val_main_v104, val_main_v131, val_main_v117, val_main_v103, val_main_v91, val_main_v130, val_main_v116, val_main_v102, val_main_v90,
      val_main_v89, val_main_v101, val_main_v115, val_main_v129, val_main_cst_14, val_main_cst_17, val_main_cst_20, val_main_cst_23]
    rw [v86 h0, ← EReal.coe_neg]
  | 3 =>
    pointwise [val_main_v132, val_main_v118, val_main_v104, val_main_v131, val_main_v117, val_main_v103, val_main_v91, val_main_v130, val_main_v116, val_main_v102, val_main_v90,
      val_main_v89, val_main_v101, val_main_v115, val_main_v129, val_main_cst_14, val_main_cst_17, val_main_cst_20, val_main_cst_23]
    rw [v88 h0, ← EReal.coe_neg]

theorem v145 (i : Fin 8192) (b : Fin 2048) : val_main_v145 (F := Ideal) x0 (ix2 i b)
    = ((over (span b.val) (fun n => D n b) i.val - over (span b.val) (fun n => D n b) (i.val + span b.val) : ℝ) : EReal) := by
  pointwise [val_main_v145]
  rw [v142 h0]
  have hb : (⟨b.val / 512 * 512 + b.val % 512, by omega⟩ : Fin 2048) = b := Fin.ext (by dsimp only; omega)
  dsimp only
  rw [hb]
  rfl

theorem v146 (i : Fin 8192) (b : Fin 2048) : val_main_v146 (F := Ideal) x0 (ix2 i b)
    = ((∑ k ∈ Finset.range (span b.val), over (span b.val) (fun n => D n b) (i.val + k) : ℝ) : EReal) := by
  refine Eq.trans ?_ ((rows_from (f := fun t b => over (span b.val) (fun n => D n b) t - over (span b.val) (fun n => D n b) (t + span b.val))
    (v145 h0) reduceWindows_S8192x2048_S8192x2048_w8192s1p0_8191_w1s1p0_0 i b).trans ?_)
  · unfold val_main_v146 Host.reduceWindowAdd
    rw [Ideal.hostReduceWindowAdd_def]
    congr 1
    exact (show _ = Ideal.ofBits .f32 0x00000000#32 from rfl).trans ofBits_zero
  · exact EReal.coe_eq_coe_iff.2 (sum_diff _ _ _ _ fun k hk => if_neg (by omega))

include h1

theorem v147 (i : Fin 8192) (b : Fin 2048) : val_main_v147 (F := Ideal) x0 x1 (ix2 i b)
    = (pooled (span b.val) (fun n => D n b) (fun n => A n b) i.val : EReal) := by
  pointwise [val_main_v147, val_main_v144, val_main_v143, val_main_v80, val_main_v79, val_main_cst_13]
  rw [v132 h0, v146 h0, h1, ofBits_alpha, ← EReal.coe_mul, ← EReal.coe_add, ← EReal.coe_add]
  have hb : (⟨b.val / 512 * 512 + b.val % 512, by omega⟩ : Fin 2048) = b := Fin.ext (by dsimp only; omega)
  dsimp only
  rw [hb]
  refine EReal.coe_eq_coe_iff.2 ?_
  unfold pooled
  ring

end Cert.ReferencePoolIdeal.Val

end
-- ==== Proof.Pool.lean ====
/- The pooling's adjoint: its two frames, the reference's frame, and the equality of the result over the reals from
   finite arguments. -/
module

public import proofs.«01_k».proof.Defs
public import proofs.«01_k».proof.Proof.Gen.KernelPool
public import proofs.«01_k».proof.Proof.Gen.Pre_finite_pool
public import proofs.«01_k».proof.Proof.PoolKernel
public import proofs.«01_k».proof.Proof.PoolRef
public import Idealize.ShloMosaic.Lib.ReduceAll

@[expose] public section

noncomputable section

namespace Cert.Pool

open Cert.Common Cert.Blocks
open Idealize.ShloMosaic

theorem frame_kernel : Cert.quiescent_KernelPool := fun m ρ _ =>
  cast (by sl_kernel_rfl) (Cert.KernelPoolIdeal.Gen.frame (F := Bits) m ρ)

theorem frame_ideal : Cert.quiescent_KernelPoolIdeal := fun m ρ _ => Cert.KernelPoolIdeal.Gen.frame m ρ

theorem frame_reference : Cert.quiescent_ReferencePoolIdeal := fun m ρ _ =>
  (θ_run Cert.ReferencePoolIdeal.defs _ _).mono (fun r h => ⟨fun c => (h c).2, sem_eq_zero_of_no_sems (by decide) r.2⟩)
    (Cert.ReferencePoolIdeal.Value.run (F := Ideal) m ρ)

section Pre

variable (m : (ℓ : Loc Cert.KernelPoolIdeal.nD Cert.KernelPoolIdeal.τ Cert.KernelPoolIdeal.sig) → Buf (Elt Ideal) ℓ)
  (c : Dev Cert.KernelPoolIdeal.nD)

/-- The rows of an array as reals, a row past the last one zero. -/
def rowsOf (x : Vec Ideal Cert.KernelPoolIdeal.S8192x2048 .f32) (n : ℕ) (k : Fin 2048) : ℝ :=
  if h : n < 8192 then (x (ix2 ⟨n, h⟩ k)).toReal else 0

/-- The pooled rows' cotangent as reals. -/
def Dv : ℕ → Fin 2048 → ℝ := rowsOf (m (c.tc.loc Cert.KernelPoolIdeal.main_arg0))

/-- The residual's cotangent as reals. -/
def Av : ℕ → Fin 2048 → ℝ := rowsOf (m (c.tc.loc Cert.KernelPoolIdeal.main_arg1))

instance : Subsingleton Cert.Pre_finite_pool.S_.Idx := ⟨fun a b => funext fun i => i.elim0⟩

theorem reals (h : Cert.Pre_KernelPoolIdeal_finite_pool m) : Cert.KernelPoolIdeal.Val.Reals m c (Dv m c) (Av m c) := by
  have e := congrFun (h c) ix0
  obtain ⟨e0, e1⟩ := IntOp.andi_eq_one.1 e
  refine ⟨fun i k => ?_, fun i k => ?_⟩
  · rw [Dv, rowsOf, dif_pos i.isLt]
    exact real_at e0 (ix2 i k)
  · rw [Av, rowsOf, dif_pos i.isLt]
    exact real_at e1 (ix2 i k)

end Pre

open Cert.KernelPoolIdeal.Val in
theorem values : Cert.algebraic_KernelPoolIdeal_ReferencePoolIdeal_pre_finite_pool := by
  intro m g m' g' h hag
  have hR := fun c => reals m c h
  refine ⟨fun c => gX (Dv m c) (Av m c), ?_, ?_⟩
  · refine (θ_run Cert.KernelPoolIdeal.defs _ _).mono (fun r hr c => ?_) (Cert.KernelPoolIdeal.Value.run_blocks (F := Ideal) m g)
    obtain ⟨h3, ha⟩ := hr c
    exact ⟨h3.trans (final_3 (hR c)), ha⟩
  · refine (θ_run Cert.ReferencePoolIdeal.defs _ _).mono (fun r hr c => ?_) (Cert.ReferencePoolIdeal.Value.run (F := Ideal) m' g')
    obtain ⟨h0, ha⟩ := hr c
    obtain ⟨a0, a1⟩ := hag c
    have d0 := same2 (hR c).d a0
    have d1 := same2 (hR c).a a1
    refine ⟨h0.trans ((Cert.ReferencePoolIdeal.Read.val_main_v147_eq m' c).trans (funext fun i => ?_)), ha⟩
    obtain ⟨a, b, rfl⟩ : ∃ a b, i = ix2 a b := ⟨_, _, eq_ix2 i⟩
    exact Cert.ReferencePoolIdeal.Val.v147 d0 d1 a b

end Cert.Pool

end
-- ==== Proof.Columns.lean ====
/- Columns packed in four groups: each group of 2752 columns followed by 64 columns of zeros. -/
module

public import proofs.«01_k».proof.Proof.Counts

@[expose] public section

noncomputable section

namespace Cert.Columns

open Idealize.ShloMosaic Cert.Common Cert.Counts

/-- Column `q` of group `g` of a row of 11008 columns. -/
def packed (f : Fin 11008 → ℝ) (g : ℕ) (q : ℕ) : ℝ := if h : g < 4 ∧ q < 2752 then f ⟨g * 2752 + q, by omega⟩ else 0

theorem packed_host {f : Fin 11008 → ℝ} {z : Fin 11008 → EReal} (hz : ∀ b, z b = (f b : EReal)) (g : Fin 4) (q : ℕ) :
    (if h : q < 2752 then z ⟨g.val * 2752 + q, by omega⟩ else (FloatOps.sitofp FTy.f32 0#32 : Ideal .f32)) = (packed f g.val q : EReal) := by
  unfold packed
  by_cases h : q < 2752
  · rw [dif_pos h, dif_pos ⟨g.isLt, h⟩, hz]
  · rw [dif_neg h, dif_neg (fun h' => h h'.2)]
    show (((0#32 : BitVec 32).toInt : ℝ) : EReal) = _
    simp

/-- A row of an array of 8192 rows, zeros past the last one. -/
def ended (D : ℕ → ℝ) (n : ℕ) : ℝ := if n < 8192 then D n else 0

/-- The convolution's adjoint: the row under the last tap and the next two rows under the other two. -/
def adj (W : ℕ → ℝ) (D : ℕ → ℝ) (n : ℕ) : ℝ := W 2 * D n + W 1 * ended D (n + 1) + W 0 * ended D (n + 2)

theorem packed_adj (W D : ℕ → Fin 11008 → ℝ) (g q n : ℕ) :
    packed (fun b => adj (fun k => W k b) (fun n => D n b) n) g q = adj (fun k => packed (W k) g q) (fun n => packed (D n) g q) n := by
  unfold packed
  by_cases h : g < 4 ∧ q < 2752
  · simp only [dif_pos h]
  · simp only [dif_neg h, adj, ended, ite_self, mul_zero, add_zero]

end Cert.Columns

end
-- ==== Proof.ConvKernel.lean ====
/- The values of the convolution adjoint's kernel: the payload on reals, the host's packing, and the result array after the
   run. -/
module

public import proofs.«01_k».proof.Proof.Blocks
public import proofs.«01_k».proof.Defs
public import proofs.«01_k».proof.Proof.Columns
public import proofs.«01_k».proof.Proof.Gen.KernelConvIdeal.Value
public import Idealize.ShloMosaic.Lib.Pointwise
public import Idealize.ShloMosaic.Lib.KernelVsHost
public import Idealize.ShloMosaic.Lib.Tactic
public import Idealize.ShloMosaic.Lib.StableHlo.ReadAt

@[expose] public section

noncomputable section

namespace Cert.KernelConvIdeal.Val

open Cert.Blocks
open Cert.KernelConvIdeal Cert.KernelConvIdeal.Gen Cert.Common Cert.Counts Cert.Columns
open Idealize.ShloMosaic Idealize.ShloMosaic.TcCoe Idealize.SL.Sem
open Idealize.ShloMosaic.Pipeline (Dat)

/-- The tile's row, or the row after the tile. -/
theorem next_row {i : ℕ} (hi : i < 16) {D : ℕ → ℝ} {x : Fin 512 → EReal} {y : Fin 8 → EReal} (hx : ∀ a, x a = (D (i * 512 + a.val) : EReal))
    (hy : i < 15 → ∀ a, y a = (D ((i + 1) * 512 + a.val) : EReal)) (n r k : ℕ) (hk : k ≤ 8) (hr : r < 512) (hn : n = r + k) (hn' : n < 520) :
    (if h : n < 512 then x ⟨n, h⟩ else Scalar.select (Scalar.cmpi .slt (BitVec.ofNat 32 i) 15#32) (y ⟨n - 512, by omega⟩) 0)
      = (ended D (i * 512 + r + k) : EReal) := by
  unfold ended
  by_cases h : n < 512
  · rw [dif_pos h, hx, if_pos (by omega)]
    exact congrArg (fun k => (D k : EReal)) (by dsimp only; omega)
  · rw [dif_neg h, show Scalar.cmpi .slt (BitVec.ofNat 32 i) 15#32 = BitVec.ofBool (decide (i < 15)) from
      congrArg BitVec.ofBool (slt_counts i 15 (by omega) (by norm_num))]
    by_cases h15 : i < 15
    · refine (if_pos (by rw [decide_eq_true h15]; rfl)).trans ?_
      rw [hy h15, if_pos (by omega)]
      exact congrArg (fun k => (D k : EReal)) (by dsimp only; omega)
    · refine (if_neg (by rw [decide_eq_false h15]; decide)).trans ?_
      rw [if_neg (by omega)]; rfl

theorem pay1_apply (t : grid0.Coords) {i : ℕ} (ht : (t 1).val = i) (hi : i < 16) {D : ℕ → ℝ} {W : ℕ → ℝ} {x : Vec Ideal S1x512x2816 .f32} {y : Vec Ideal S1x8x2816 .f32}
    {u v w : Vec Ideal S1x1x2816 .f32} (q : Fin 2816) (hx : ∀ a, x (ix3 0 a q) = (D (i * 512 + a.val) : EReal))
    (hy : i < 15 → ∀ a, y (ix3 0 a q) = (D ((i + 1) * 512 + a.val) : EReal)) (hu : u (ix3 0 0 q) = (W 2 : EReal)) (hv : v (ix3 0 0 q) = (W 1 : EReal))
    (hw : w (ix3 0 0 q) = (W 0 : EReal)) (a : Fin 512) : k0_pay1 t x y u v w (ix3 0 a q) = (adj W D (i * 512 + a.val) : EReal) := by
  have ha := a.isLt
  pointwise [k0_pay1]
  rw [hu, hv, hw, hx, ht]
  have e1 := next_row hi hx hy ((a.val + 520 - 519) % 520) a.val 1 (by norm_num) ha (by omega) (by omega)
  have e2 := next_row hi hx hy ((a.val + 520 - 518) % 520) a.val 2 (by norm_num) ha (by omega) (by omega)
  refine (congrArg₂ (· + ·) (congrArg₂ (· + ·) rfl (congrArg₂ (· * ·) rfl e1)) (congrArg₂ (· * ·) rfl e2)).trans ?_
  rw [← EReal.coe_mul, ← EReal.coe_mul, ← EReal.coe_mul, ← EReal.coe_add, ← EReal.coe_add]
  rfl

/-! ## The host's packing and the blocks -/

variable (m : (ℓ : Loc nD τ sig) → Buf (Elt Ideal) ℓ)

/-- The arguments of a device are reals: `D` the cotangent's rows, `W` the taps. -/
structure Reals (c : Dev nD) (D : ℕ → Fin 11008 → ℝ) (W : ℕ → Fin 11008 → ℝ) : Prop where
  d : ∀ (i : Fin 8192) k, (m (c.tc.loc main_arg0) : Vec Ideal S8192x11008 .f32) (ix2 i k) = (D i.val k : EReal)
  w : ∀ (i : Fin 3) k, (m (c.tc.loc main_arg1) : Vec Ideal S3x11008 .f32) (ix2 i k) = (W i.val k : EReal)

variable {m} {c : Dev nD} {D W : ℕ → Fin 11008 → ℝ} (h : Reals m c D W)

theorem point_lt (t : Fin cfg0.N) : t.val < 64 := lt_of_lt_of_eq t.isLt N_0

theorem idx_facts : ∀ t : Fin cfg0.N, (win0_0.index t 0 = t.val / 16 ∧ win0_0.index t 1 = t.val % 16 ∧ win0_0.index t 2 = 0)
    ∧ (win0_1.index t 0 = t.val / 16 ∧ win0_1.index t 1 = min ((t.val % 16 + 1) * 64) 1023 ∧ win0_1.index t 2 = 0)
    ∧ (win0_2.index t 0 = t.val / 16 ∧ win0_2.index t 1 = 0 ∧ win0_2.index t 2 = 0)
    ∧ (win0_3.index t 0 = t.val / 16 ∧ win0_3.index t 1 = t.val % 16 ∧ win0_3.index t 2 = 0) ∧ (grid0.coords t 1).val = t.val % 16 :=
  (by decide +kernel : ∀ t : Fin grid0.N, _)

include h

theorem Reals.v2 (g : Fin 4) (n : Fin 8192) (q : Fin 2816) :
    (V m c main_v2 : Vec Ideal S4x8192x2816 .f32) (ix3 g n q) = (packed (D n.val) g.val q.val : EReal) := by
  refine Eq.trans ?_ (packed_host (fun b => h.d n b) g q.val)
  unfold V hostOps0 hostOps0_1 hostOps0_2 hostOps0_3
  after_reads_at

theorem Reals.v5 (g : Fin 4) (n : Fin 3) (q : Fin 2816) :
    (V m c main_v5 : Vec Ideal S4x3x2816 .f32) (ix3 g n q) = (packed (W n.val) g.val q.val : EReal) := by
  refine Eq.trans ?_ (packed_host (fun b => h.w n b) g q.val)
  unfold V hostOps0 hostOps0_1 hostOps0_2 hostOps0_3
  after_reads_at

theorem Reals.x (t : Fin cfg0.N) (a : Fin 512) (q : Fin 2816) :
    (iblk m c 0 t : Vec Ideal S1x512x2816 .f32) (ix3 0 a q) = (packed (D (t.val % 16 * 512 + a.val)) (t.val / 16) q.val : EReal) := by
  have hi := (idx_facts t).1
  have ht := point_lt t
  have ha := a.isLt
  rw [← h.v2 ⟨t.val / 16, by omega⟩ ⟨t.val % 16 * 512 + a.val, by omega⟩]
  exact congrArg (V m c main_v2) (at3 (by show win0_0.index t 0 * 1 + 1 * 0 = t.val / 16; rw [hi.1]; omega) (blk_at hi.2.1 rfl) (blk_in hi.2.2))

theorem Reals.y (t : Fin cfg0.N) (h15 : t.val % 16 < 15) (a : Fin 8) (q : Fin 2816) :
    (iblk m c 1 t : Vec Ideal S1x8x2816 .f32) (ix3 0 a q) = (packed (D ((t.val % 16 + 1) * 512 + a.val)) (t.val / 16) q.val : EReal) := by
  have hi := (idx_facts t).2.1
  have ht := point_lt t
  have ha := a.isLt
  rw [← h.v2 ⟨t.val / 16, by omega⟩ ⟨(t.val % 16 + 1) * 512 + a.val, by omega⟩]
  exact congrArg (V m c main_v2) (at3 (by show win0_1.index t 0 * 1 + 1 * 0 = t.val / 16; rw [hi.1]; omega) (by show win0_1.index t 1 * 8 + 1 * a.val = (t.val % 16 + 1) * 512 + a.val; rw [hi.2.1]; omega) (blk_in hi.2.2))

theorem Reals.u (t : Fin cfg0.N) (k : ℕ) (hk : k < 3) (hl : ∀ a, (![0, k, 0] : Fin 3 → ℕ) a + S1x1x2816.size a ≤ S1x3x2816.size a) (q : Fin 2816) :
    View.ld (iblk m c 2 t : Vec Ideal S1x3x2816 .f32) (Rect.unit (s := S1x3x2816) ![0, k, 0] S1x1x2816.size hl) (ix3 0 0 q) = (packed (W k) (t.val / 16) q.val : EReal) := by
  have hi := (idx_facts t).2.2.1
  have ht := point_lt t
  rw [← h.v5 ⟨t.val / 16, by omega⟩ ⟨k, hk⟩]
  unfold View.ld iblk
  rw [View.read_apply]
  show V m c main_v5 _ = V m c main_v5 _
  congr 1
  funext x
  apply Fin.ext
  match x with
  | ⟨0, _⟩ => show win0_2.index t 0 * 1 + 1 * (0 + 1 * 0) = t.val / 16; rw [hi.1]; omega
  | ⟨1, _⟩ => show win0_2.index t 1 * 3 + 1 * (k + 1 * 0) = k; rw [hi.2.1]; omega
  | ⟨2, _⟩ => show win0_2.index t 2 * 2816 + 1 * (0 + 1 * q.val) = q.val; rw [hi.2.2]; omega

/-! ## The result array -/

variable (D W)
omit h

/-- The gradient of the convolution's input, packed, at an index of the array. -/
def gH (i : S4x8192x2816.Idx) : EReal :=
  (adj (fun k => packed (W k) (i 0).val (i 2).val) (fun n => packed (D n) (i 0).val (i 2).val) (i 1).val : EReal)

variable {D W}

theorem cover_3 (i : S4x8192x2816.Idx) : ∃ t : Fin cfg0.N, (cfg0.win 3).flush t = true ∧ i ∈ ((cfg0.win 3).blk t).view.set := by
  have hN : cfg0.N = 64 := N_0
  have h0 : _ < 4 := (i 0).isLt
  have h1 : _ < 8192 := (i 1).isLt
  have h2 : _ < 2816 := (i 2).isLt
  obtain ⟨t, ht⟩ := fin_at (N := cfg0.N) ((i 0).val * 16 + (i 1).val / 512) (by omega)
  refine ⟨t, flush0_3 _, ?_⟩
  have hi := (idx_facts t).2.2.2.1
  exact in_rect (all3 (in_blk (i 0).val 1 hi.1 (by omega)) (in_blk (i 1).val 512 hi.2.1 (by omega)) (in_blk (i 2).val 2816 hi.2.2 (by omega)))

include h in
theorem final_3 : (dats m 0 c).arrAt 3 cfg0.N = gH D W :=
  (dats m 0 c).arrAt_eq_of_cover 3 _ (fun t hf => by
    rw [Value.flushed3]
    funext j
    rw [View.read_apply]
    have hi := (idx_facts t).2.2.2
    have ht := point_lt t
    obtain ⟨z, a, q, rfl⟩ : ∃ (z : Fin 1) (a : Fin 512) (q : Fin 2816), j = ix3 z a q := ⟨_, _, _, eq_ix3 j⟩
    obtain rfl : z = 0 := Subsingleton.elim _ _
    have e0 : ((((cfg0.win 3).blk t).view.emb (ix3 0 a q)) 0).val = t.val / 16 := by
      show win0_3.index t 0 * 1 + 1 * 0 = _; rw [hi.1.1]; omega
    have e1 : ((((cfg0.win 3).blk t).view.emb (ix3 0 a q)) 1).val = t.val % 16 * 512 + a.val := blk_at hi.1.2.1 rfl
    have e2 : ((((cfg0.win 3).blk t).view.emb (ix3 0 a q)) 2).val = q.val := blk_in hi.1.2.2
    have hp := pay1_apply (grid0.coords t) hi.2 (by omega) (D := fun n => packed (D n) (t.val / 16) q.val) (W := fun k => packed (W k) (t.val / 16) q.val)
      q (fun a => h.x t a q) (fun h15 a => h.y t h15 a q) (h.u t 2 (by norm_num) inb_S1x3x2816_S1x1x2816_0_2_0 q)
      (h.u t 1 (by norm_num) inb_S1x3x2816_S1x1x2816_0_1_0 q) (h.u t 0 (by norm_num) inb_S1x3x2816_S1x1x2816_0_0_0 q) a
    refine Eq.trans ?_ (hp.trans ?_)
    · unfold out0_3
      simp only [View.canon_unit_zero (S := S1x512x2816) hz3, View.ld_unit_zero (S := S1x512x2816) hz3, View.ld_unit_zero (S := S1x8x2816) hz3]
      rfl
    · unfold gH
      rw [e0, e1, e2]
      rfl) cover_3

end Cert.KernelConvIdeal.Val

end
-- ==== Proof.ConvRef.lean ====
/- The values of the convolution adjoint's reference: the printed derivative on reals, as the kernel's formula. -/
module

public import proofs.«01_k».proof.Proof.Columns
public import proofs.«01_k».proof.Proof.Gen.ReferenceConvIdeal.Run
public import proofs.«01_k».proof.Proof.Gen.ReferenceConvIdeal.Read
public import Idealize.ShloMosaic.Lib.Pointwise

@[expose] public section

noncomputable section

namespace Cert.ReferenceConvIdeal.Val

open Cert.ReferenceConvIdeal Cert.ReferenceConvIdeal.Gen Cert.ReferenceConvIdeal.Read Cert.Common Cert.Columns
open Idealize.ShloMosaic

variable {x0 : Vec Ideal S8192x11008 .f32} {x1 : Vec Ideal S3x11008 .f32} {D W : ℕ → Fin 11008 → ℝ}
  (h0 : ∀ (i : Fin 8192) k, x0 (ix2 i k) = (D i.val k : EReal)) (h1 : ∀ (i : Fin 3) k, x1 (ix2 i k) = (W i.val k : EReal))
include h0 h1

theorem v42 (i : Fin 8192) (b : Fin 11008) : val_main_v42 (F := Ideal) x0 x1 (ix2 i b) = (adj (fun k => W k b) (fun n => D n b) i.val : EReal) := by
  pointwise [val_main_v42, val_main_v40, val_main_v36, val_main_v32, val_main_v35, val_main_v39, val_main_v38, val_main_v37, val_main_v34, val_main_v33, val_main_v31,
    val_main_v30, val_main_v29, val_main_v28, val_main_v24, val_main_v22, val_main_v21, val_main_v17, val_main_v15, val_main_v14, val_main_v8, val_main_v6, val_main_v5,
    val_main_cst_3, val_main_cst_4, val_main_cst_5]
  have e1 : (if h : 1 ≤ 2 + i.val ∧ 2 + i.val - 1 < 8192 then x1 (ix2 1 b) * x0 (ix2 ⟨2 + i.val - 1, h.2⟩ b) else 0)
      = ((W 1 b * ended (fun n => D n b) (i.val + 1) : ℝ) : EReal) := by
    unfold ended
    by_cases h : i.val + 1 < 8192
    · rw [dif_pos ⟨by omega, by omega⟩, if_pos h, h0, h1, ← EReal.coe_mul]
      exact congrArg (fun n => ((W 1 b * D n b : ℝ) : EReal)) (show 2 + i.val - 1 = i.val + 1 by omega)
    · rw [dif_neg (by omega), if_neg h, mul_zero]; rfl
  have e2 : (if h : 2 + i.val < 8192 then x1 (ix2 0 b) * x0 (ix2 ⟨2 + i.val, h⟩ b) else 0)
      = ((W 0 b * ended (fun n => D n b) (i.val + 2) : ℝ) : EReal) := by
    unfold ended
    by_cases h : i.val + 2 < 8192
    · rw [dif_pos (by omega), if_pos h, h0, h1, ← EReal.coe_mul]
      exact congrArg (fun n => ((W 0 b * D n b : ℝ) : EReal)) (show 2 + i.val = i.val + 2 by omega)
    · rw [dif_neg (by omega), if_neg h, mul_zero]; rfl
  rw [h0, h1, ← EReal.coe_mul]
  exact (congrArg₂ (· + ·) (congrArg₂ (· + ·) rfl e1) e2).trans (by rw [← EReal.coe_add, ← EReal.coe_add]; rfl)

theorem v46 (g : Fin 4) (i : Fin 8192) (q : Fin 2816) : val_main_v46 (F := Ideal) x0 x1 (ix3 g i q)
    = (adj (fun k => packed (W k) g.val q.val) (fun n => packed (D n) g.val q.val) i.val : EReal) := by
  pointwise [val_main_v46, val_main_v45, val_main_v44, val_main_v43, val_main_call0_v0, val_main_c]
  rw [← packed_adj]
  exact packed_host (fun b => v42 h0 h1 i b) g q.val

end Cert.ReferenceConvIdeal.Val

end
-- ==== Proof.Conv.lean ====
/- The convolution's adjoint: its two frames, the reference's frame, and the equality of the result over the reals from
   finite arguments. -/
module

public import proofs.«01_k».proof.Defs
public import proofs.«01_k».proof.Proof.Gen.KernelConv
public import proofs.«01_k».proof.Proof.Gen.Pre_finite_conv
public import proofs.«01_k».proof.Proof.ConvKernel
public import proofs.«01_k».proof.Proof.ConvRef
public import Idealize.ShloMosaic.Lib.ReduceAll

@[expose] public section

noncomputable section

namespace Cert.Conv

open Cert.Common Cert.Blocks
open Idealize.ShloMosaic

theorem frame_kernel : Cert.quiescent_KernelConv := fun m ρ _ =>
  cast (by sl_kernel_rfl) (Cert.KernelConvIdeal.Gen.frame (F := Bits) m ρ)

theorem frame_ideal : Cert.quiescent_KernelConvIdeal := fun m ρ _ => Cert.KernelConvIdeal.Gen.frame m ρ

theorem frame_reference : Cert.quiescent_ReferenceConvIdeal := fun m ρ _ =>
  (θ_run Cert.ReferenceConvIdeal.defs _ _).mono (fun r h => ⟨fun c => (h c).2, sem_eq_zero_of_no_sems (by decide) r.2⟩)
    (Cert.ReferenceConvIdeal.Value.run (F := Ideal) m ρ)

section Pre

variable (m : (ℓ : Loc Cert.KernelConvIdeal.nD Cert.KernelConvIdeal.τ Cert.KernelConvIdeal.sig) → Buf (Elt Ideal) ℓ)
  (c : Dev Cert.KernelConvIdeal.nD)

/-- The cotangent's rows as reals, a row past the last one zero. -/
def Dv (n : ℕ) (k : Fin 11008) : ℝ := if h : n < 8192 then
  ((m (c.tc.loc Cert.KernelConvIdeal.main_arg0) : Vec Ideal Cert.KernelConvIdeal.S8192x11008 .f32) (ix2 ⟨n, h⟩ k)).toReal else 0

/-- The taps as reals. -/
def Wv (n : ℕ) (k : Fin 11008) : ℝ := if h : n < 3 then
  ((m (c.tc.loc Cert.KernelConvIdeal.main_arg1) : Vec Ideal Cert.KernelConvIdeal.S3x11008 .f32) (ix2 ⟨n, h⟩ k)).toReal else 0

instance : Subsingleton Cert.Pre_finite_conv.S_.Idx := ⟨fun a b => funext fun i => i.elim0⟩

theorem reals (h : Cert.Pre_KernelConvIdeal_finite_conv m) : Cert.KernelConvIdeal.Val.Reals m c (Dv m c) (Wv m c) := by
  have e := congrFun (h c) ix0
  obtain ⟨e0, e1⟩ := IntOp.andi_eq_one.1 e
  refine ⟨fun i k => ?_, fun i k => ?_⟩
  · rw [Dv, dif_pos i.isLt]
    exact real_at e0 (ix2 i k)
  · rw [Wv, dif_pos i.isLt]
    exact real_at e1 (ix2 i k)

end Pre

open Cert.KernelConvIdeal.Val in
theorem values : Cert.algebraic_KernelConvIdeal_ReferenceConvIdeal_pre_finite_conv := by
  intro m g m' g' h hag
  have hR := fun c => reals m c h
  refine ⟨fun c => gH (Dv m c) (Wv m c), ?_, ?_⟩
  · refine (θ_run Cert.KernelConvIdeal.defs _ _).mono (fun r hr c => ?_) (Cert.KernelConvIdeal.Value.run_blocks (F := Ideal) m g)
    obtain ⟨h3, ha⟩ := hr c
    exact ⟨h3.trans (final_3 (hR c)), ha⟩
  · refine (θ_run Cert.ReferenceConvIdeal.defs _ _).mono (fun r hr c => ?_) (Cert.ReferenceConvIdeal.Value.run (F := Ideal) m' g')
    obtain ⟨h0, ha⟩ := hr c
    obtain ⟨a0, a1⟩ := hag c
    have d0 := same2 (hR c).d a0
    have d1 := same2 (hR c).w a1
    refine ⟨h0.trans ((Cert.ReferenceConvIdeal.Read.val_main_v46_eq _ _).trans (funext fun i => ?_)), ha⟩
    obtain ⟨g, a, b, rfl⟩ : ∃ g a b, i = ix3 g a b := ⟨_, _, _, eq_ix3 i⟩
    exact Cert.ReferenceConvIdeal.Val.v46 d0 d1 g a b

end Cert.Conv

end
-- ==== Proof.ActBody.lean ====
/- The gated convolution's backward kernel at one grid point: the convolution, the gate and its gradient on reals, and the
   pieces that a grid point stores. -/
module

public import proofs.«01_k».proof.Defs
public import proofs.«01_k».proof.Proof.Counts
public import proofs.«01_k».proof.Proof.Gen.KernelActIdeal.Value
public import Idealize.ShloMosaic.Lib.Pipeline.ReadBack
public import Idealize.ShloMosaic.Lib.Pipeline.ValueKit.Tiles
public import Idealize.ShloMosaic.Lib.KernelVsHost
public import Idealize.ShloMosaic.Lib.Pointwise
public import Idealize.ShloMosaic.Lib.Tactic

@[expose] public section

noncomputable section

/-! ## One column of the gated convolution -/

namespace Cert.Gated

open Idealize.ShloMosaic

/-- Column `q` of group `g`; 2752 columns to a group, zeros after them. -/
def grp (f : ℕ → ℝ) (g q : ℕ) : ℝ := if q < 2752 then f (g * 2752 + q) else 0

theorem grp_host {N : ℕ} {f : ℕ → ℝ} {z : Fin N → EReal} (hz : ∀ b, z b = (f b.val : EReal)) (g q : ℕ) (hg : g * 2752 + 2752 ≤ N) :
    (if h : q < 2752 then z ⟨g * 2752 + q, by omega⟩ else (FloatOps.sitofp FTy.f32 0#32 : Ideal .f32)) = (grp f g q : EReal) := by
  unfold grp
  by_cases h : q < 2752
  · rw [dif_pos h, if_pos h, hz]
  · rw [dif_neg h, if_neg h]
    show (((0#32 : BitVec 32).toInt : ℝ) : EReal) = _
    simp

/-- A sequence `k` places later, zeros before it. -/
def prior (F : ℕ → ℝ) (k n : ℕ) : ℝ := if k ≤ n then F (n - k) else 0

/-- The logistic function. -/
def sg (x : ℝ) : ℝ := (1 + Real.exp (-x))⁻¹

/-- The causal convolution by three taps. -/
def conv (b : ℝ) (W F : ℕ → ℝ) (n : ℕ) : ℝ := b + W 0 * prior F 2 n + W 1 * prior F 1 n + W 2 * F n

/-- A column's inputs: the rows under the gate and under the value, the cotangent, the taps and the biases. -/
structure Col where
  (F H Y : ℕ → ℝ)
  (W U : ℕ → ℝ)
  (b e : ℝ)

variable (C : Col)

def Col.gate (n : ℕ) : ℝ := conv C.b C.W C.F n
def Col.val (n : ℕ) : ℝ := conv C.e C.U C.H n

/-- The gradients of the gate and of the value. -/
def Col.dg (n : ℕ) : ℝ := C.Y n * C.val n * (sg (C.gate n) * (1 + C.gate n * (1 - sg (C.gate n))))
def Col.dv (n : ℕ) : ℝ := C.Y n * (C.gate n * sg (C.gate n))

def Col.dd (s n : ℕ) : ℝ := if s = 0 then C.dg n else C.dv n
def Col.src (s : ℕ) : ℕ → ℝ := if s = 0 then C.F else C.H

end Cert.Gated

namespace Cert.KernelActIdeal.Val

open Cert.KernelActIdeal Cert.KernelActIdeal.Gen Cert.Common Cert.Counts Cert.Gated
open Idealize.ShloMosaic Idealize.ShloMosaic.TcCoe

/-- The tile's row, or the row before the tile; nothing comes before the first tile. -/
theorem prior_row {i : ℕ} (hi : i < 32) {F : ℕ → ℝ} {x : Fin 256 → EReal} {y : Fin 8 → EReal} (hx : ∀ a, x a = (F (i * 256 + a.val) : EReal))
    (hy : 0 < i → ∀ a, y a = (F (i * 256 + a.val - 8) : EReal)) (n r k : ℕ) (hk : k ≤ 8) (hr : r < 256) (hn : n + k = r + 8) (hn' : n < 264) :
    (if h : n < 8 then Scalar.select (Scalar.cmpi .eq (BitVec.ofNat 32 i) 0#32) (0 : EReal) (y ⟨n, h⟩) else x ⟨n - 8, by omega⟩)
      = (prior F k (i * 256 + r) : EReal) := by
  have e : Scalar.cmpi .eq (BitVec.ofNat 32 i) 0#32 = BitVec.ofBool (decide (i = 0)) := by
    interval_cases i <;> rfl
  unfold prior
  by_cases h : n < 8
  · rw [dif_pos h, e]
    by_cases h0 : i = 0
    · refine (if_pos (by rw [decide_eq_true h0]; rfl)).trans ?_
      rw [if_neg (by omega)]; rfl
    · refine (if_neg (by rw [decide_eq_false h0]; decide)).trans ?_
      rw [hy (by omega), if_pos (by omega)]
      exact congrArg (fun k => (F k : EReal)) (by dsimp only; omega)
  · rw [dif_neg h, hx, if_pos (by omega)]
    exact congrArg (fun k => (F k : EReal)) (by dsimp only; omega)

/-- What a grid point's rows under a block add: the row sums of the gradient times the shifted rows, -/
def rowAdd (S D : FVec Ideal S256x2816 .f32) (o : Vec Ideal S1x1x1x2816 .f32) : FVec Ideal S1x1x1x2816 .f32 :=
  shapeCast S1x1x1x2816 (addf (shapeCast S1x2816 o shapeCasts_S1x1x1x2816_S1x2816) (shapeCast S1x2816
    (multiReduction .add [0] S2816 (mulf D S) 0x00000000#32 reduces_S256x2816_S2816 (.inl rfl) rfl) shapeCasts_S2816_S1x2816)) shapeCasts_S1x2816_S1x1x1x2816

/-- and the row sums of the gradient. -/
def sumAdd (D : FVec Ideal S256x2816 .f32) (o : Vec Ideal S1x1x1x2816 .f32) : FVec Ideal S1x1x1x2816 .f32 :=
  shapeCast S1x1x1x2816 (addf (shapeCast S1x2816 o shapeCasts_S1x1x1x2816_S1x2816) (shapeCast S1x2816
    (multiReduction .add [0] S2816 D 0x00000000#32 reduces_S256x2816_S2816 (.inl rfl) rfl) shapeCasts_S2816_S1x2816)) shapeCasts_S1x2816_S1x1x1x2816

theorem rowAdd_apply {S D : FVec Ideal S256x2816 .f32} {o : Vec Ideal S1x1x1x2816 .f32} (q : Fin 2816) {s d : Fin 256 → ℝ} {r : ℝ}
    (hS : ∀ a, S (ix2 a q) = (s a : EReal)) (hD : ∀ a, D (ix2 a q) = (d a : EReal)) (ho : o (ix4 0 0 0 q) = (r : EReal)) :
    rowAdd S D o (ix4 0 0 0 q) = ((r + ∑ a, d a * s a : ℝ) : EReal) := by
  pointwise [rowAdd]
  simp only [hS, hD, ho, ← EReal.coe_mul, coe_sum, ← EReal.coe_add]

theorem sumAdd_apply {D : FVec Ideal S256x2816 .f32} {o : Vec Ideal S1x1x1x2816 .f32} (q : Fin 2816) {d : Fin 256 → ℝ} {r : ℝ}
    (hD : ∀ a, D (ix2 a q) = (d a : EReal)) (ho : o (ix4 0 0 0 q) = (r : EReal)) :
    sumAdd D o (ix4 0 0 0 q) = ((r + ∑ a, d a : ℝ) : EReal) := by
  pointwise [sumAdd]
  simp only [hD, ho, coe_sum, ← EReal.coe_add]

/-! ## A grid point's payloads -/

/-- A grid point's blocks. -/
structure Blks where
  (hg hv da : Vec Ideal S1x256x2816 .f32)
  (hgb hvb : Vec Ideal S1x8x2816 .f32)
  (wg wv : Vec Ideal S1x3x2816 .f32)
  (bg bv : Vec Ideal S1x1x2816 .f32)

abbrev tap0 (w : Vec Ideal S1x3x2816 .f32) : Vec Ideal S1x1x2816 .f32 := View.ld w (Rect.unit ![0, 0, 0] ![1, 1, 2816] inb_S1x3x2816_S1x1x2816_0_0_0)
abbrev tap1 (w : Vec Ideal S1x3x2816 .f32) : Vec Ideal S1x1x2816 .f32 := View.ld w (Rect.unit ![0, 1, 0] ![1, 1, 2816] inb_S1x3x2816_S1x1x2816_0_1_0)
abbrev tap2 (w : Vec Ideal S1x3x2816 .f32) : Vec Ideal S1x1x2816 .f32 := View.ld w (Rect.unit ![0, 2, 0] ![1, 1, 2816] inb_S1x3x2816_S1x1x2816_0_2_0)

variable (t : grid0.Coords) (B : Blks)

abbrev bit : BitVec 1 := Scalar.cmpi .eq (BitVec.ofNat 32 (t 1).val) 0#32

def g0 : FVec Ideal S256x2816 .f32 := k0_pay6 B.hg
def v0 : FVec Ideal S256x2816 .f32 := k0_pay7 B.hv
def g1 : FVec Ideal S256x2816 .f32 := k0_pay9 t B.hg B.hgb
def g2 : FVec Ideal S256x2816 .f32 := k0_pay10 t B.hg B.hgb
def v1 : FVec Ideal S256x2816 .f32 := k0_pay15 (bit t) (k0_pay7 B.hv) B.hvb
def v2 : FVec Ideal S256x2816 .f32 := k0_pay16 (bit t) (k0_pay7 B.hv) B.hvb
def pre : FVec Ideal S256x2816 .f32 := k0_pay11 t B.hg B.hgb B.bg (tap0 B.wg) (tap1 B.wg)
def gate : FVec Ideal S256x2816 .f32 := k0_pay13 (k0_pay6 B.hg) (pre t B) (k0_pay12 (tap2 B.wg))
def sigm : FVec Ideal S256x2816 .f32 := k0_pay18 (k0_pay6 B.hg) (pre t B) (k0_pay12 (tap2 B.wg))
def yv : FVec Ideal S256x2816 .f32 := k0_pay19 (bit t) (k0_pay7 B.hv) B.hvb B.bv (tap0 B.wv) (tap1 B.wv) (tap2 B.wv) B.da
def gs : FVec Ideal S256x2816 .f32 := k0_pay20 (k0_pay6 B.hg) (pre t B) (k0_pay12 (tap2 B.wg))
def dgate : FVec Ideal S256x2816 .f32 := k0_pay21 (sigm t B) (yv t B) (gs t B) (FloatOps.ofBits FTy.f32 1065353216#32)
def dval : FVec Ideal S256x2816 .f32 := k0_pay22 (gate t B) (k0_pay17 B.da) (sigm t B)

/-- The blocks are reals: rows of tile `i` of the columns `C`. -/
structure BReals (i : ℕ) (C : ℕ → Col) : Prop where
  ht : (t 1).val = i
  hi : i < 32
  hg : ∀ (a : Fin 256) (q : Fin 2816), B.hg (ix3 0 a q) = ((C q.val).F (i * 256 + a.val) : EReal)
  hv : ∀ (a : Fin 256) (q : Fin 2816), B.hv (ix3 0 a q) = ((C q.val).H (i * 256 + a.val) : EReal)
  da : ∀ (a : Fin 256) (q : Fin 2816), B.da (ix3 0 a q) = ((C q.val).Y (i * 256 + a.val) : EReal)
  hgb : 0 < i → ∀ (a : Fin 8) (q : Fin 2816), B.hgb (ix3 0 a q) = ((C q.val).F (i * 256 + a.val - 8) : EReal)
  hvb : 0 < i → ∀ (a : Fin 8) (q : Fin 2816), B.hvb (ix3 0 a q) = ((C q.val).H (i * 256 + a.val - 8) : EReal)
  wg : ∀ (k : Fin 3) (q : Fin 2816), B.wg (ix3 0 k q) = ((C q.val).W k.val : EReal)
  wv : ∀ (k : Fin 3) (q : Fin 2816), B.wv (ix3 0 k q) = ((C q.val).U k.val : EReal)
  bg : ∀ (q : Fin 2816), B.bg (ix3 0 0 q) = ((C q.val).b : EReal)
  bv : ∀ (q : Fin 2816), B.bv (ix3 0 0 q) = ((C q.val).e : EReal)

theorem tap_apply (w : Vec Ideal S1x3x2816 .f32) (k : ℕ) (hk : k < 3) (hl : ∀ a, (![0, k, 0] : Fin 3 → ℕ) a + (![1, 1, 2816] : Fin 3 → ℕ) a ≤ S1x3x2816.size a) (q : Fin 2816) :
    View.ld w (Rect.unit (s := S1x3x2816) ![0, k, 0] ![1, 1, 2816] hl) (ix3 0 0 q) = w (ix3 0 ⟨k, hk⟩ q) := by
  rw [View.ld_apply]
  congr 1
  funext x
  apply Fin.ext
  match x with
  | ⟨0, _⟩ => rfl
  | ⟨1, _⟩ => show k + 1 * 0 = k; omega
  | ⟨2, _⟩ => show 0 + 1 * q.val = q.val; omega

variable {t B} {i : ℕ} {C : ℕ → Col} (h : BReals t B i C)
include h

section Cells
variable (a : Fin 256) (q : Fin 2816)

theorem g0_apply : g0 B (ix2 a q) = ((C q.val).F (i * 256 + a.val) : EReal) := by
  pointwise [g0, k0_pay6]; exact h.hg a q

theorem v0_apply : v0 B (ix2 a q) = ((C q.val).H (i * 256 + a.val) : EReal) := by
  pointwise [v0, k0_pay7]; exact h.hv a q

theorem g1_apply : g1 t B (ix2 a q) = (prior (C q.val).F 1 (i * 256 + a.val) : EReal) := by
  have ha := a.isLt
  pointwise [g1, k0_pay9, k0_pay8, k0_pay6]
  rw [h.ht]
  exact prior_row h.hi (fun a => h.hg a q) (fun h0 a => h.hgb h0 a q) _ _ 1 (by norm_num) ha (by omega) (by omega)

theorem g2_apply : g2 t B (ix2 a q) = (prior (C q.val).F 2 (i * 256 + a.val) : EReal) := by
  have ha := a.isLt
  pointwise [g2, k0_pay10, k0_pay8, k0_pay6]
  rw [h.ht]
  exact prior_row h.hi (fun a => h.hg a q) (fun h0 a => h.hgb h0 a q) _ _ 2 (by norm_num) ha (by omega) (by omega)

theorem v1_apply : v1 t B (ix2 a q) = (prior (C q.val).H 1 (i * 256 + a.val) : EReal) := by
  have ha := a.isLt
  pointwise [v1, k0_pay15, k0_pay14, k0_pay7]
  unfold bit
  rw [h.ht]
  exact prior_row h.hi (fun a => h.hv a q) (fun h0 a => h.hvb h0 a q) _ _ 1 (by norm_num) ha (by omega) (by omega)

theorem v2_apply : v2 t B (ix2 a q) = (prior (C q.val).H 2 (i * 256 + a.val) : EReal) := by
  have ha := a.isLt
  pointwise [v2, k0_pay16, k0_pay14, k0_pay7]
  unfold bit
  rw [h.ht]
  exact prior_row h.hi (fun a => h.hv a q) (fun h0 a => h.hvb h0 a q) _ _ 2 (by norm_num) ha (by omega) (by omega)

theorem gate_apply : gate t B (ix2 a q) = ((C q.val).gate (i * 256 + a.val) : EReal) := by
  have e1 := g1_apply h a q
  have e2 := g2_apply h a q
  have e0 := g0_apply h a q
  unfold g1 at e1
  unfold g2 at e2
  unfold g0 at e0
  have w0 : tap0 B.wg (ix3 0 0 q) = _ := (tap_apply B.wg 0 (by norm_num) inb_S1x3x2816_S1x1x2816_0_0_0 q).trans (h.wg 0 q)
  have w1 : tap1 B.wg (ix3 0 0 q) = _ := (tap_apply B.wg 1 (by norm_num) inb_S1x3x2816_S1x1x2816_0_1_0 q).trans (h.wg 1 q)
  have w2 : tap2 B.wg (ix3 0 0 q) = _ := (tap_apply B.wg 2 (by norm_num) inb_S1x3x2816_S1x1x2816_0_2_0 q).trans (h.wg 2 q)
  pointwise [gate, pre, k0_pay13, k0_pay12, k0_pay11]
  rw [e0, e1, e2, w0, w1, w2, h.bg]
  simp only [← EReal.coe_mul, ← EReal.coe_add]
  rfl

theorem sig_apply : sigm t B (ix2 a q) = (sg ((C q.val).gate (i * 256 + a.val)) : EReal) := by
  have e := gate_apply h a q
  unfold gate at e
  pointwise [sigm, k0_pay18]
  rw [e, Ideal.logistic_coe]
  rfl

theorem yv_apply : yv t B (ix2 a q) = ((C q.val).Y (i * 256 + a.val) * (C q.val).val (i * 256 + a.val) : ℝ) := by
  have e1 := v1_apply h a q
  have e2 := v2_apply h a q
  have e0 := v0_apply h a q
  unfold v1 at e1
  unfold v2 at e2
  unfold v0 at e0
  have w0 : tap0 B.wv (ix3 0 0 q) = _ := (tap_apply B.wv 0 (by norm_num) inb_S1x3x2816_S1x1x2816_0_0_0 q).trans (h.wv 0 q)
  have w1 : tap1 B.wv (ix3 0 0 q) = _ := (tap_apply B.wv 1 (by norm_num) inb_S1x3x2816_S1x1x2816_0_1_0 q).trans (h.wv 1 q)
  have w2 : tap2 B.wv (ix3 0 0 q) = _ := (tap_apply B.wv 2 (by norm_num) inb_S1x3x2816_S1x1x2816_0_2_0 q).trans (h.wv 2 q)
  pointwise [yv, k0_pay19, k0_pay17]
  rw [e0, e1, e2, w0, w1, w2, h.bv, h.da]
  simp only [← EReal.coe_mul, ← EReal.coe_add]
  rfl

theorem dgate_apply : dgate t B (ix2 a q) = ((C q.val).dg (i * 256 + a.val) : EReal) := by
  have e1 := gate_apply h a q
  have e2 := sig_apply h a q
  unfold gate at e1
  unfold sigm at e2
  pointwise [dgate, gs, k0_pay21, k0_pay20]
  rw [sig_apply h a q, yv_apply h a q, e1, e2]
  simp only [← EReal.coe_one, ← EReal.coe_mul, ← EReal.coe_add, ← EReal.coe_sub]
  rfl

theorem dval_apply : dval t B (ix2 a q) = ((C q.val).dv (i * 256 + a.val) : EReal) := by
  pointwise [dval, k0_pay22, k0_pay17]
  rw [sig_apply h a q, gate_apply h a q, h.da]
  simp only [← EReal.coe_mul]
  rfl

end Cells

end Cert.KernelActIdeal.Val

end
-- ==== Proof.ActOuts.lean ====
/- The pieces that a grid point of the gated convolution's backward kernel stores. -/
module

public import proofs.«01_k».proof.Proof.Blocks
public import proofs.«01_k».proof.Proof.ActBody
public import Idealize.ShloMosaic.Lib.StableHlo.ReadAt

@[expose] public section

noncomputable section

namespace Cert.KernelActIdeal.Val

open Cert.Blocks Cert.KernelActIdeal Cert.KernelActIdeal.Gen Cert.Common Cert.Counts Cert.Gated
open Idealize.ShloMosaic Idealize.ShloMosaic.TcCoe Idealize.SL.Sem
open Idealize.ShloMosaic.Pipeline (Dat)

/-! ## The pieces that a grid point stores -/

theorem inb9 (s : ℕ) (hs : s < 2) (k : Fin 4) : (![s, 0, 0, 0] : Fin 4 → ℕ) k + (![1, 1, 256, 2816] : Fin 4 → ℕ) k ≤ (![2, 1, 256, 2816] : Fin 4 → ℕ) k := by
  match k with
  | ⟨0, _⟩ => show s + 1 ≤ 2; omega
  | ⟨1, _⟩ => exact le_refl 1
  | ⟨2, _⟩ => show 0 + 256 ≤ 256; omega
  | ⟨3, _⟩ => show 0 + 2816 ≤ 2816; omega

theorem inb10 (R s j : ℕ) (hs : s < 2) (hj : j < R) (k : Fin 4) : (![s, 0, j, 0] : Fin 4 → ℕ) k + (![1, 1, 1, 2816] : Fin 4 → ℕ) k ≤ (![2, 1, R, 2816] : Fin 4 → ℕ) k := by
  match k with
  | ⟨0, _⟩ => show s + 1 ≤ 2; omega
  | ⟨1, _⟩ => exact le_refl 1
  | ⟨2, _⟩ => show j + 1 ≤ R; omega
  | ⟨3, _⟩ => show 0 + 2816 ≤ 2816; omega

/-- A stored row of the taps' gradient, or of the biases'. -/
abbrev row (R s j : ℕ) (hs : s < 2) (hj : j < R) : Rect ⟨4, ![2, 1, R, 2816]⟩ :=
  Rect.unit (s := ⟨4, ![2, 1, R, 2816]⟩) ![s, 0, j, 0] ![1, 1, 1, 2816] (inb10 R s j hs hj)

theorem row_ld {R : ℕ} (v : Vec Ideal ⟨4, ![2, 1, R, 2816]⟩ .f32) (s j : ℕ) (hs : s < 2) (hj : j < R) (q : Fin 2816) :
    View.ld v (row R s j hs hj) (ix4 0 0 0 q) = v (ix4 ⟨s, hs⟩ 0 ⟨j, hj⟩ q) := by
  rw [View.ld_apply]
  congr 1
  funext x
  apply Fin.ext
  match x with
  | ⟨0, _⟩ => show s + 1 * 0 = s; omega
  | ⟨1, _⟩ => rfl
  | ⟨2, _⟩ => show j + 1 * 0 = j; omega
  | ⟨3, _⟩ => show 0 + 1 * q.val = q.val; omega

def st9 (D : FVec Ideal S256x2816 .f32) (s : ℕ) (hs : s < 2) : View.Piece (Elt Ideal) S2x1x256x2816 .f32 :=
  ⟨Rect.unit (s := S2x1x256x2816) ![s, 0, 0, 0] ![1, 1, 256, 2816] (inb9 s hs), shapeCast S1x1x256x2816 D shapeCasts_S256x2816_S1x1x256x2816⟩

def st10 (S D : FVec Ideal S256x2816 .f32) (v : Vec Ideal S2x1x3x2816 .f32) (s j : ℕ) (hs : s < 2) (hj : j < 3) : View.Piece (Elt Ideal) S2x1x3x2816 .f32 :=
  ⟨row 3 s j hs hj, rowAdd S D (View.ld v (row 3 s j hs hj))⟩

def st11 (D : FVec Ideal S256x2816 .f32) (v : Vec Ideal S2x1x1x2816 .f32) (s : ℕ) (hs : s < 2) : View.Piece (Elt Ideal) S2x1x1x2816 .f32 :=
  ⟨row 1 s 0 hs (by norm_num), sumAdd D (View.ld v (row 1 s 0 hs (by norm_num)))⟩

abbrev z2 : 0 < 2 := by norm_num
abbrev o2 : 1 < 2 := by norm_num

variable (t : grid0.Coords) (B : Blks) (v : Vec Ideal S2x1x3x2816 .f32) (u : Vec Ideal S2x1x1x2816 .f32)

def sts9 : List (View.Piece (Elt Ideal) S2x1x256x2816 .f32) := [st9 (dval t B) 1 o2, st9 (dgate t B) 0 z2]

def sts10 : List (View.Piece (Elt Ideal) S2x1x3x2816 .f32) :=
  [st10 (v0 B) (dval t B) v 1 2 o2 (by norm_num), st10 (v1 t B) (dval t B) v 1 1 o2 (by norm_num), st10 (v2 t B) (dval t B) v 1 0 o2 (by norm_num),
    st10 (g0 B) (dgate t B) v 0 2 z2 (by norm_num), st10 (g1 t B) (dgate t B) v 0 1 z2 (by norm_num), st10 (g2 t B) (dgate t B) v 0 0 z2 (by norm_num)]

def sts11 : List (View.Piece (Elt Ideal) S2x1x1x2816 .f32) := [st11 (dval t B) u 1 o2, st11 (dgate t B) u 0 z2]

section Points

variable (m : (ℓ : Loc nD τ sig) → Buf (Elt Ideal) ℓ) (c : Dev nD)

/-- The blocks of a grid point. -/
def blks (t : Fin cfg0.N) : Blks where
  hg := iblk m c 0 t
  hgb := iblk m c 1 t
  hv := iblk m c 2 t
  hvb := iblk m c 3 t
  wg := iblk m c 4 t
  wv := iblk m c 5 t
  bg := iblk m c 6 t
  bv := iblk m c 7 t
  da := iblk m c 8 t

set_option maxHeartbeats 1600000 in
theorem outs_B (t : Fin cfg0.N) (h0 : ¬t.val % 32 = 0) :
    outsAt0 m c t.val t.isLt = (View.canon (sts9 (grid0.coords t) (blks m c t)),
      View.canon (sts10 (grid0.coords t) (blks m c t) (outsAt0 m c (t.val - 1) (Nat.lt_of_le_of_lt (Nat.sub_le _ _) t.isLt)).2.1),
      View.canon (sts11 (grid0.coords t) (blks m c t) (outsAt0 m c (t.val - 1) (Nat.lt_of_le_of_lt (Nat.sub_le _ _) t.isLt)).2.2)) := by
  rw [outsAt0_B m c t h0]
  unfold out0_B_9 out0_B_10 out0_B_11
  rw [View.read_writes_eq_canon _ _ _ (fun y => cover0_B_9 (y := y) ..), View.read_writes_eq_canon _ _ _ (fun y => cover0_B_10 (y := y) ..),
    View.read_writes_eq_canon _ _ _ (fun y => cover0_B_11 (y := y) ..)]
  unfold kernelRun0_B
  dsimp only
  sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, ↓View.readCov_skip, View.readCov_fill,
    View.ld_unit_zero (S := S1x256x2816) hz3, View.ld_unit_zero (S := S1x8x2816) hz3, View.ld_unit_zero (S := S1x1x2816) hz3]
  rfl

set_option maxHeartbeats 1600000 in
theorem outs_A (t : Fin cfg0.N) (h0 : t.val % 32 = 0) :
    outsAt0 m c t.val t.isLt = (View.canon (sts9 (grid0.coords t) (blks m c t)),
      View.canon (sts10 (grid0.coords t) (blks m c t) (k0_pay4 (F := Ideal))
        ++ [⟨Rect.unit (s := S2x1x3x2816) ![0, 0, 0, 0] ![2, 1, 3, 2816] inb_S2x1x3x2816_S2x1x3x2816_0_0_0_0, k0_pay4 (F := Ideal)⟩]),
      View.canon (sts11 (grid0.coords t) (blks m c t) (k0_pay5 (F := Ideal))
        ++ [⟨Rect.unit (s := S2x1x1x2816) ![0, 0, 0, 0] ![2, 1, 1, 2816] inb_S2x1x1x2816_S2x1x1x2816_0_0_0_0, k0_pay5 (F := Ideal)⟩])) := by
  rw [outsAt0_A m c t h0]
  unfold out0_A_9 out0_A_10 out0_A_11
  rw [View.read_writes_eq_canon _ _ _ (fun y => cover0_A_9 (y := y) ..), View.read_writes_eq_canon _ _ _ (fun y => cover0_A_10 (y := y) ..),
    View.read_writes_eq_canon _ _ _ (fun y => cover0_A_11 (y := y) ..)]
  unfold kernelRun0_A
  dsimp only
  sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, ↓View.readCov_skip, View.readCov_fill,
    View.ld_unit_zero (S := S1x256x2816) hz3, View.ld_unit_zero (S := S1x8x2816) hz3, View.ld_unit_zero (S := S1x1x2816) hz3]
  rfl

end Points

end Cert.KernelActIdeal.Val

end
-- ==== Proof.ActKernel.lean ====
/- The values of the gated convolution's backward kernel: what each grid point leaves, and the three result arrays after the
   run. -/
module

public import proofs.«01_k».proof.Proof.ActOuts

@[expose] public section

set_option maxRecDepth 16384

noncomputable section

namespace Cert.KernelActIdeal.Val

open Cert.Blocks
open Cert.KernelActIdeal Cert.KernelActIdeal.Gen Cert.Common Cert.Counts Cert.Gated
open Idealize.ShloMosaic Idealize.ShloMosaic.TcCoe Idealize.SL.Sem
open Idealize.ShloMosaic.Pipeline (Dat)

/-! ## The pieces as blocks of real arrays -/

/-- A row's share of the taps' gradient. -/
def rW (C : Col) (s j n : ℕ) : ℝ := C.dd s n * (if j = 2 then C.src s n else prior (C.src s) (2 - j) n)

section Blocks

variable (i : ℕ) (C : ℕ → Col) (A : ℕ → ℕ → ℕ → ℝ) (E : ℕ → ℕ → ℝ)

def G9 (z : S2x1x256x2816.Idx) : EReal := ((C (z 3).val).dd (z 0).val (i * 256 + (z 2).val) : EReal)

def G10 (z : S2x1x3x2816.Idx) : EReal :=
  ((A (z 0).val (z 2).val (z 3).val + ∑ a : Fin 256, rW (C (z 3).val) (z 0).val (z 2).val (i * 256 + a.val) : ℝ) : EReal)

def G11 (z : S2x1x1x2816.Idx) : EReal :=
  ((E (z 0).val (z 3).val + ∑ a : Fin 256, (C (z 3).val).dd (z 0).val (i * 256 + a.val) : ℝ) : EReal)

variable {i C A E}

section Piece
variable {D S : FVec Ideal S256x2816 .f32} {v : Vec Ideal S2x1x3x2816 .f32} {u : Vec Ideal S2x1x1x2816 .f32} {s : ℕ} (hs : s < 2)
  (hD : ∀ a q, D (ix2 a q) = ((C q.val).dd s (i * 256 + a.val) : EReal))
include hD

theorem st9_piece (z : (st9 D s hs).1.shape.Idx) : (st9 D s hs).2 z = G9 i C ((st9 D s hs).1.emb z) := by
  obtain ⟨x, y, a, q, rfl⟩ : ∃ (x y : Fin 1) (a : Fin 256) (q : Fin 2816), z = ix4 x y a q := ⟨z 0, z 1, z 2, z 3, eq_ix4 z⟩
  obtain rfl : x = 0 := Subsingleton.elim _ _
  obtain rfl : y = 0 := Subsingleton.elim _ _
  have e0 : ((st9 D s hs).1.emb (ix4 0 0 a q) 0).val = s := by show s + 1 * 0 = _; omega
  have e2 : ((st9 D s hs).1.emb (ix4 0 0 a q) 2).val = a.val := by show 0 + 1 * a.val = _; omega
  have e3 : ((st9 D s hs).1.emb (ix4 0 0 a q) 3).val = q.val := by show 0 + 1 * q.val = _; omega
  unfold G9
  rw [e0, e2, e3, ← hD]
  show shapeCast S1x1x256x2816 D shapeCasts_S256x2816_S1x1x256x2816 (ix4 0 0 a q) = _
  pointwise []

theorem st10_piece (j : ℕ) (hj : j < 3) (hv : ∀ s k q, v (ix4 s 0 k q) = (A s.val k.val q.val : EReal))
    (hS : ∀ a q, S (ix2 a q) = ((if j = 2 then (C q.val).src s (i * 256 + a.val) else prior ((C q.val).src s) (2 - j) (i * 256 + a.val) : ℝ) : EReal))
    (z : (st10 S D v s j hs hj).1.shape.Idx) : (st10 S D v s j hs hj).2 z = G10 i C A ((st10 S D v s j hs hj).1.emb z) := by
  obtain ⟨x, y, w, q, rfl⟩ : ∃ (x y w : Fin 1) (q : Fin 2816), z = ix4 x y w q := ⟨z 0, z 1, z 2, z 3, eq_ix4 z⟩
  obtain rfl : x = 0 := Subsingleton.elim _ _
  obtain rfl : y = 0 := Subsingleton.elim _ _
  obtain rfl : w = 0 := Subsingleton.elim _ _
  have e0 : ((st10 S D v s j hs hj).1.emb (ix4 0 0 0 q) 0).val = s := by show s + 1 * 0 = _; omega
  have e2 : ((st10 S D v s j hs hj).1.emb (ix4 0 0 0 q) 2).val = j := by show j + 1 * 0 = _; omega
  have e3 : ((st10 S D v s j hs hj).1.emb (ix4 0 0 0 q) 3).val = q.val := by show 0 + 1 * q.val = _; omega
  unfold G10 rW
  rw [e0, e2, e3]
  exact rowAdd_apply q (fun a => hS a q) (fun a => hD a q) ((row_ld v s j hs hj q).trans (hv _ _ _))

theorem st11_piece (hu : ∀ s q, u (ix4 s 0 0 q) = (E s.val q.val : EReal))
    (z : (st11 D u s hs).1.shape.Idx) : (st11 D u s hs).2 z = G11 i C E ((st11 D u s hs).1.emb z) := by
  obtain ⟨x, y, w, q, rfl⟩ : ∃ (x y w : Fin 1) (q : Fin 2816), z = ix4 x y w q := ⟨z 0, z 1, z 2, z 3, eq_ix4 z⟩
  obtain rfl : x = 0 := Subsingleton.elim _ _
  obtain rfl : y = 0 := Subsingleton.elim _ _
  obtain rfl : w = 0 := Subsingleton.elim _ _
  have e0 : ((st11 D u s hs).1.emb (ix4 0 0 0 q) 0).val = s := by show s + 1 * 0 = _; omega
  have e3 : ((st11 D u s hs).1.emb (ix4 0 0 0 q) 3).val = q.val := by show 0 + 1 * q.val = _; omega
  unfold G11
  rw [e0, e3]
  exact sumAdd_apply q (fun a => hD a q) ((row_ld u s 0 hs (by norm_num) q).trans (hu _ _))

end Piece

theorem mem_row {R : ℕ} (z : (⟨4, ![2, 1, R, 2816]⟩ : Shape).Idx) (s j : ℕ) (hs : s < 2) (hj : j < R) (h : (z 0).val = s ∧ (z 2).val = j) :
    z ∈ (row R s j hs hj).set := by
  have h1 : (z 1 : Nat) < 1 := (z 1).isLt
  have h3 : (z 3 : Nat) < 2816 := (z 3).isLt
  rw [Rect.mem_set_unit]
  intro a
  match a with
  | ⟨0, _⟩ => show s ≤ (z 0 : Nat) ∧ (z 0 : Nat) < s + 1; omega
  | ⟨1, _⟩ => show 0 ≤ (z 1 : Nat) ∧ (z 1 : Nat) < 0 + 1; omega
  | ⟨2, _⟩ => show j ≤ (z 2 : Nat) ∧ (z 2 : Nat) < j + 1; omega
  | ⟨3, _⟩ => show 0 ≤ (z 3 : Nat) ∧ (z 3 : Nat) < 0 + 2816; omega

theorem mem_plane (z : S2x1x256x2816.Idx) (s : ℕ) (hs : s < 2) (h : (z 0).val = s) :
    z ∈ (Rect.unit (s := S2x1x256x2816) ![s, 0, 0, 0] ![1, 1, 256, 2816] (inb9 s hs)).set := by
  have h1 : (z 1 : Nat) < 1 := (z 1).isLt
  have h2 : (z 2 : Nat) < 256 := (z 2).isLt
  have h3 : (z 3 : Nat) < 2816 := (z 3).isLt
  rw [Rect.mem_set_unit]
  intro a
  match a with
  | ⟨0, _⟩ => show s ≤ (z 0 : Nat) ∧ (z 0 : Nat) < s + 1; omega
  | ⟨1, _⟩ => show 0 ≤ (z 1 : Nat) ∧ (z 1 : Nat) < 0 + 1; omega
  | ⟨2, _⟩ => show 0 ≤ (z 2 : Nat) ∧ (z 2 : Nat) < 0 + 256; omega
  | ⟨3, _⟩ => show 0 ≤ (z 3 : Nat) ∧ (z 3 : Nat) < 0 + 2816; omega

theorem one_of_two {α : Type} (q : α → Prop) (a b : α) (h : q a ∨ q b) : ∃ p ∈ [a, b], q p := by
  rcases h with h | h
  · exact ⟨a, by simp, h⟩
  · exact ⟨b, by simp, h⟩

theorem one_of_six {α : Type} (q : α → Prop) (a b c d e f : α) (h : q a ∨ q b ∨ q c ∨ q d ∨ q e ∨ q f) : ∃ p ∈ [a, b, c, d, e, f], q p := by
  rcases h with h | h | h | h | h | h
  · exact ⟨a, by simp, h⟩
  · exact ⟨b, by simp, h⟩
  · exact ⟨c, by simp, h⟩
  · exact ⟨d, by simp, h⟩
  · exact ⟨e, by simp, h⟩
  · exact ⟨f, by simp, h⟩

section Left

variable {t : grid0.Coords} {B : Blks} (h : BReals t B i C) {v : Vec Ideal S2x1x3x2816 .f32} {u : Vec Ideal S2x1x1x2816 .f32}
  {L10 : List (View.Piece (Elt Ideal) S2x1x3x2816 .f32)} {L11 : List (View.Piece (Elt Ideal) S2x1x1x2816 .f32)}
include h

theorem canon9 (z : S2x1x256x2816.Idx) : View.canon (sts9 t B) z = G9 i C z := by
  have e := View.canon_append_of_piecesOf (G9 i C) [] (sts9 t B) ⟨st9_piece o2 (fun a q => dval_apply h a q), st9_piece z2 (fun a q => dgate_apply h a q), trivial⟩ z
    (one_of_two (fun p : View.Piece (Elt Ideal) S2x1x256x2816 .f32 => z ∈ p.1.set) _ _ (by
      have h0 : (z 0 : Nat) < 2 := (z 0).isLt
      have h : (z 0).val = 1 ∨ (z 0).val = 0 := by omega
      exact h.imp (mem_plane z _ o2) (mem_plane z _ z2)))
  rwa [List.append_nil] at e

theorem canon10 (hv : ∀ s k q, v (ix4 s 0 k q) = (A s.val k.val q.val : EReal)) (z : S2x1x3x2816.Idx) :
    View.canon (sts10 t B v ++ L10) z = G10 i C A z :=
  View.canon_append_of_piecesOf (G10 i C A) _ (sts10 t B v)
    ⟨st10_piece o2 (fun a q => dval_apply h a q) 2 _ hv (fun a q => v0_apply h a q), st10_piece o2 (fun a q => dval_apply h a q) 1 _ hv (fun a q => v1_apply h a q),
      st10_piece o2 (fun a q => dval_apply h a q) 0 _ hv (fun a q => v2_apply h a q), st10_piece z2 (fun a q => dgate_apply h a q) 2 _ hv (fun a q => g0_apply h a q),
      st10_piece z2 (fun a q => dgate_apply h a q) 1 _ hv (fun a q => g1_apply h a q), st10_piece z2 (fun a q => dgate_apply h a q) 0 _ hv (fun a q => g2_apply h a q), trivial⟩ z
    (one_of_six (fun p : View.Piece (Elt Ideal) S2x1x3x2816 .f32 => z ∈ p.1.set) _ _ _ _ _ _ (by
      have h0 : (z 0 : Nat) < 2 := (z 0).isLt
      have h2 : (z 2 : Nat) < 3 := (z 2).isLt
      have h : ((z 0).val = 1 ∧ (z 2).val = 2) ∨ ((z 0).val = 1 ∧ (z 2).val = 1) ∨ ((z 0).val = 1 ∧ (z 2).val = 0) ∨ ((z 0).val = 0 ∧ (z 2).val = 2)
        ∨ ((z 0).val = 0 ∧ (z 2).val = 1) ∨ ((z 0).val = 0 ∧ (z 2).val = 0) := by omega
      exact h.imp (mem_row z _ _ o2 (by norm_num)) (Or.imp (mem_row z _ _ o2 (by norm_num)) (Or.imp (mem_row z _ _ o2 (by norm_num))
        (Or.imp (mem_row z _ _ z2 (by norm_num)) (Or.imp (mem_row z _ _ z2 (by norm_num)) (mem_row z _ _ z2 (by norm_num))))))))

theorem canon11 (hu : ∀ s q, u (ix4 s 0 0 q) = (E s.val q.val : EReal)) (z : S2x1x1x2816.Idx) :
    View.canon (sts11 t B u ++ L11) z = G11 i C E z :=
  View.canon_append_of_piecesOf (G11 i C E) _ (sts11 t B u)
    ⟨st11_piece o2 (fun a q => dval_apply h a q) hu, st11_piece z2 (fun a q => dgate_apply h a q) hu, trivial⟩ z
    (one_of_two (fun p : View.Piece (Elt Ideal) S2x1x1x2816 .f32 => z ∈ p.1.set) _ _ (by
      have h0 : (z 0 : Nat) < 2 := (z 0).isLt
      have h2 : (z 2 : Nat) < 1 := (z 2).isLt
      have h : ((z 0).val = 1 ∧ (z 2).val = 0) ∨ ((z 0).val = 0 ∧ (z 2).val = 0) := by omega
      exact h.imp (mem_row z _ _ o2 (by norm_num)) (mem_row z _ _ z2 (by norm_num))))

end Left

end Blocks

/-! ## The arguments' blocks -/

variable (m : (ℓ : Loc nD τ sig) → Buf (Elt Ideal) ℓ)

/-- The arguments of a device are reals: `H` the rows of the convolution's input, `W` the taps, `b` the biases, `Y` the cotangent's rows. -/
structure Reals (c : Dev nD) (H W : ℕ → ℕ → ℝ) (b : ℕ → ℝ) (Y : ℕ → ℕ → ℝ) : Prop where
  h : ∀ (i : Fin 8192) (k : Fin 11008), (m (c.tc.loc main_arg0) : Vec Ideal S8192x11008 .f32) (ix2 i k) = (H i.val k.val : EReal)
  w : ∀ (i : Fin 3) (k : Fin 11008), (m (c.tc.loc main_arg1) : Vec Ideal S3x11008 .f32) (ix2 i k) = (W i.val k.val : EReal)
  b : ∀ (k : Fin 11008), (m (c.tc.loc main_arg2) : Vec Ideal S11008 .f32) (ix1 k) = (b k.val : EReal)
  y : ∀ (i : Fin 8192) (k : Fin 5504), (m (c.tc.loc main_arg3) : Vec Ideal S8192x5504 .f32) (ix2 i k) = (Y i.val k.val : EReal)

/-- Column `q` of group `g`. -/
def cl (H W : ℕ → ℕ → ℝ) (b : ℕ → ℝ) (Y : ℕ → ℕ → ℝ) (g q : ℕ) : Col where
  F n := grp (H n) g q
  H n := grp (H n) (g + 2) q
  Y n := grp (Y n) g q
  W k := grp (W k) g q
  U k := grp (W k) (g + 2) q
  b := grp b g q
  e := grp b (g + 2) q

variable {m} {c : Dev nD} {H W : ℕ → ℕ → ℝ} {b : ℕ → ℝ} {Y : ℕ → ℕ → ℝ} (h : Reals m c H W b Y)

theorem point_lt (t : Fin cfg0.N) : t.val < 64 := lt_of_lt_of_eq t.isLt N_0

theorem idx_facts : ∀ t : Fin cfg0.N, (win0_0.index t 0 = t.val / 32 ∧ win0_0.index t 1 = t.val % 32 ∧ win0_0.index t 2 = 0)
    ∧ (win0_1.index t 0 = t.val / 32 ∧ win0_1.index t 1 = max (t.val % 32 * 32 - 1) 0 ∧ win0_1.index t 2 = 0)
    ∧ (win0_2.index t 0 = t.val / 32 + 2 ∧ win0_2.index t 1 = t.val % 32 ∧ win0_2.index t 2 = 0)
    ∧ (win0_3.index t 0 = t.val / 32 + 2 ∧ win0_3.index t 1 = max (t.val % 32 * 32 - 1) 0 ∧ win0_3.index t 2 = 0)
    ∧ (win0_4.index t 0 = t.val / 32 ∧ win0_4.index t 1 = 0 ∧ win0_4.index t 2 = 0)
    ∧ (win0_5.index t 0 = t.val / 32 + 2 ∧ win0_5.index t 1 = 0 ∧ win0_5.index t 2 = 0)
    ∧ (win0_6.index t 0 = t.val / 32 ∧ win0_6.index t 1 = 0 ∧ win0_6.index t 2 = 0)
    ∧ (win0_7.index t 0 = t.val / 32 + 2 ∧ win0_7.index t 1 = 0 ∧ win0_7.index t 2 = 0)
    ∧ (win0_8.index t 0 = t.val / 32 ∧ win0_8.index t 1 = t.val % 32 ∧ win0_8.index t 2 = 0)
    ∧ (win0_9.index t 0 = 0 ∧ win0_9.index t 1 = t.val / 32 ∧ win0_9.index t 2 = t.val % 32 ∧ win0_9.index t 3 = 0)
    ∧ (win0_10.index t 0 = 0 ∧ win0_10.index t 1 = t.val / 32 ∧ win0_10.index t 2 = 0 ∧ win0_10.index t 3 = 0)
    ∧ (win0_11.index t 0 = 0 ∧ win0_11.index t 1 = t.val / 32 ∧ win0_11.index t 2 = 0 ∧ win0_11.index t 3 = 0)
    ∧ (grid0.coords t 1).val = t.val % 32 :=
  (by decide +kernel : ∀ t : Fin grid0.N, _)

include h

theorem Reals.v2 (g : Fin 4) (n : Fin 8192) (q : Fin 2816) :
    (V m c main_v2 : Vec Ideal S4x8192x2816 .f32) (ix3 g n q) = (grp (H n.val) g.val q.val : EReal) := by
  have hg := g.isLt
  refine Eq.trans ?_ (grp_host (fun k => h.h n k) g.val q.val (by omega))
  unfold V hostOps0 hostOps0_1 hostOps0_2 hostOps0_3 hostOps0_4 hostOps0_5 hostOps0_6 hostOps0_7
  after_reads_at

theorem Reals.v5 (g : Fin 2) (n : Fin 8192) (q : Fin 2816) :
    (V m c main_v5 : Vec Ideal S2x8192x2816 .f32) (ix3 g n q) = (grp (Y n.val) g.val q.val : EReal) := by
  have hg := g.isLt
  refine Eq.trans ?_ (grp_host (fun k => h.y n k) g.val q.val (by omega))
  unfold V hostOps0 hostOps0_1 hostOps0_2 hostOps0_3 hostOps0_4 hostOps0_5 hostOps0_6 hostOps0_7
  after_reads_at

theorem Reals.v8 (g : Fin 4) (n : Fin 3) (q : Fin 2816) :
    (V m c main_v8 : Vec Ideal S4x3x2816 .f32) (ix3 g n q) = (grp (W n.val) g.val q.val : EReal) := by
  have hg := g.isLt
  refine Eq.trans ?_ (grp_host (fun k => h.w n k) g.val q.val (by omega))
  unfold V hostOps0 hostOps0_1 hostOps0_2 hostOps0_3 hostOps0_4 hostOps0_5 hostOps0_6 hostOps0_7
  after_reads_at

theorem Reals.v10 (g : Fin 4) (q : Fin 2816) :
    (V m c main_v10 : Vec Ideal S4x1x2816 .f32) (ix3 g 0 q) = (grp b g.val q.val : EReal) := by
  have hg := g.isLt
  refine Eq.trans ?_ (grp_host (fun k => h.b k) g.val q.val (by omega))
  unfold V hostOps0 hostOps0_1 hostOps0_2 hostOps0_3 hostOps0_4 hostOps0_5 hostOps0_6 hostOps0_7
  after_reads_at

theorem Reals.x (t : Fin cfg0.N) (a : Fin 256) (q : Fin 2816) :
    (iblk m c 0 t : Vec Ideal S1x256x2816 .f32) (ix3 0 a q) = (grp (H (t.val % 32 * 256 + a.val)) (t.val / 32) q.val : EReal) := by
  have hi := (idx_facts t).1
  have ht := point_lt t
  have ha := a.isLt
  rw [← h.v2 ⟨t.val / 32, by omega⟩ ⟨t.val % 32 * 256 + a.val, by omega⟩]
  exact congrArg (V m c main_v2) (at3 (by show win0_0.index t 0 * 1 + 1 * 0 = t.val / 32; rw [hi.1]; omega) (blk_at hi.2.1 rfl) (blk_in hi.2.2))

theorem Reals.x2 (t : Fin cfg0.N) (a : Fin 256) (q : Fin 2816) :
    (iblk m c 2 t : Vec Ideal S1x256x2816 .f32) (ix3 0 a q) = (grp (H (t.val % 32 * 256 + a.val)) (t.val / 32 + 2) q.val : EReal) := by
  have hi := (idx_facts t).2.2.1
  have ht := point_lt t
  have ha := a.isLt
  rw [← h.v2 ⟨t.val / 32 + 2, by omega⟩ ⟨t.val % 32 * 256 + a.val, by omega⟩]
  exact congrArg (V m c main_v2) (at3 (by show win0_2.index t 0 * 1 + 1 * 0 = t.val / 32 + 2; rw [hi.1]; omega) (blk_at hi.2.1 rfl) (blk_in hi.2.2))

theorem Reals.p (t : Fin cfg0.N) (h0 : 0 < t.val % 32) (a : Fin 8) (q : Fin 2816) :
    (iblk m c 1 t : Vec Ideal S1x8x2816 .f32) (ix3 0 a q) = (grp (H (t.val % 32 * 256 + a.val - 8)) (t.val / 32) q.val : EReal) := by
  have hi := (idx_facts t).2.1
  have ht := point_lt t
  have ha := a.isLt
  rw [← h.v2 ⟨t.val / 32, by omega⟩ ⟨t.val % 32 * 256 + a.val - 8, by omega⟩]
  exact congrArg (V m c main_v2) (at3 (by show win0_1.index t 0 * 1 + 1 * 0 = t.val / 32; rw [hi.1]; omega) (by show win0_1.index t 1 * 8 + 1 * a.val = t.val % 32 * 256 + a.val - 8; rw [hi.2.1]; omega) (blk_in hi.2.2))

theorem Reals.p2 (t : Fin cfg0.N) (h0 : 0 < t.val % 32) (a : Fin 8) (q : Fin 2816) :
    (iblk m c 3 t : Vec Ideal S1x8x2816 .f32) (ix3 0 a q) = (grp (H (t.val % 32 * 256 + a.val - 8)) (t.val / 32 + 2) q.val : EReal) := by
  have hi := (idx_facts t).2.2.2.1
  have ht := point_lt t
  have ha := a.isLt
  rw [← h.v2 ⟨t.val / 32 + 2, by omega⟩ ⟨t.val % 32 * 256 + a.val - 8, by omega⟩]
  exact congrArg (V m c main_v2) (at3 (by show win0_3.index t 0 * 1 + 1 * 0 = t.val / 32 + 2; rw [hi.1]; omega) (by show win0_3.index t 1 * 8 + 1 * a.val = t.val % 32 * 256 + a.val - 8; rw [hi.2.1]; omega) (blk_in hi.2.2))

theorem Reals.w4 (t : Fin cfg0.N) (a : Fin 3) (q : Fin 2816) :
    (iblk m c 4 t : Vec Ideal S1x3x2816 .f32) (ix3 0 a q) = (grp (W a.val) (t.val / 32) q.val : EReal) := by
  have hi := (idx_facts t).2.2.2.2.1
  have ht := point_lt t
  have ha := a.isLt
  rw [← h.v8 ⟨t.val / 32, by omega⟩ a]
  exact congrArg (V m c main_v8) (at3 (by show win0_4.index t 0 * 1 + 1 * 0 = t.val / 32; rw [hi.1]; omega) (blk_in hi.2.1) (blk_in hi.2.2))

theorem Reals.w5 (t : Fin cfg0.N) (a : Fin 3) (q : Fin 2816) :
    (iblk m c 5 t : Vec Ideal S1x3x2816 .f32) (ix3 0 a q) = (grp (W a.val) (t.val / 32 + 2) q.val : EReal) := by
  have hi := (idx_facts t).2.2.2.2.2.1
  have ht := point_lt t
  have ha := a.isLt
  rw [← h.v8 ⟨t.val / 32 + 2, by omega⟩ a]
  exact congrArg (V m c main_v8) (at3 (by show win0_5.index t 0 * 1 + 1 * 0 = t.val / 32 + 2; rw [hi.1]; omega) (blk_in hi.2.1) (blk_in hi.2.2))

theorem Reals.b6 (t : Fin cfg0.N) (q : Fin 2816) :
    (iblk m c 6 t : Vec Ideal S1x1x2816 .f32) (ix3 0 0 q) = (grp b (t.val / 32) q.val : EReal) := by
  have hi := (idx_facts t).2.2.2.2.2.2.1
  have ht := point_lt t
  rw [← h.v10 ⟨t.val / 32, by omega⟩]
  exact congrArg (V m c main_v10) (at3 (by show win0_6.index t 0 * 1 + 1 * 0 = t.val / 32; rw [hi.1]; omega) (by show win0_6.index t 1 * 1 + 1 * 0 = 0; rw [hi.2.1]) (blk_in hi.2.2))

theorem Reals.b7 (t : Fin cfg0.N) (q : Fin 2816) :
    (iblk m c 7 t : Vec Ideal S1x1x2816 .f32) (ix3 0 0 q) = (grp b (t.val / 32 + 2) q.val : EReal) := by
  have hi := (idx_facts t).2.2.2.2.2.2.2.1
  have ht := point_lt t
  rw [← h.v10 ⟨t.val / 32 + 2, by omega⟩]
  exact congrArg (V m c main_v10) (at3 (by show win0_7.index t 0 * 1 + 1 * 0 = t.val / 32 + 2; rw [hi.1]; omega) (by show win0_7.index t 1 * 1 + 1 * 0 = 0; rw [hi.2.1]) (blk_in hi.2.2))

theorem Reals.y8 (t : Fin cfg0.N) (a : Fin 256) (q : Fin 2816) :
    (iblk m c 8 t : Vec Ideal S1x256x2816 .f32) (ix3 0 a q) = (grp (Y (t.val % 32 * 256 + a.val)) (t.val / 32) q.val : EReal) := by
  have hi := (idx_facts t).2.2.2.2.2.2.2.2.1
  have ht := point_lt t
  have ha := a.isLt
  rw [← h.v5 ⟨t.val / 32, by omega⟩ ⟨t.val % 32 * 256 + a.val, by omega⟩]
  exact congrArg (V m c main_v5) (at3 (by show win0_8.index t 0 * 1 + 1 * 0 = t.val / 32; rw [hi.1]; omega) (blk_at hi.2.1 rfl) (blk_in hi.2.2))

theorem Reals.blks (t : Fin cfg0.N) : BReals (grid0.coords t) (blks m c t) (t.val % 32) (cl H W b Y (t.val / 32)) where
  ht := (idx_facts t).2.2.2.2.2.2.2.2.2.2.2.2
  hi := Nat.mod_lt _ (by norm_num)
  hg := h.x t
  hv := h.x2 t
  da := h.y8 t
  hgb := h.p t
  hvb := h.p2 t
  wg := h.w4 t
  wv := h.w5 t
  bg := h.b6 t
  bv := h.b7 t

/-! ## What the grid points leave -/

omit h in
theorem of_triple {α β γ : Type} {p : α × β × γ} {x : α} {y : β} {z : γ} (e : p = (x, y, z)) : p.1 = x ∧ p.2.1 = y ∧ p.2.2 = z := by
  subst e; exact ⟨rfl, rfl, rfl⟩

theorem outs_9 (t : Fin cfg0.N) (z : S2x1x256x2816.Idx) : (outsAt0 m c t.val t.isLt).1 z = G9 (t.val % 32) (cl H W b Y (t.val / 32)) z := by
  by_cases h0 : t.val % 32 = 0
  · rw [(of_triple (outs_A m c t h0)).1]
    exact canon9 (h.blks t) z
  · rw [(of_triple (outs_B m c t h0)).1]
    exact canon9 (h.blks t) z

/-- The sums of the tiles so far. -/
def sumW (C : Col) (n s j : ℕ) : ℝ := ∑ r ∈ Finset.range n, ∑ a ∈ Finset.range 256, rW C s j (r * 256 + a)

def sumB (C : Col) (n s : ℕ) : ℝ := ∑ r ∈ Finset.range n, ∑ a ∈ Finset.range 256, C.dd s (r * 256 + a)

theorem outs_10_11 (g : ℕ) : ∀ (n : ℕ), n < 32 → ∀ (k : ℕ) (hk : k < cfg0.N), k = g * 32 + n →
    (∀ z, (outsAt0 m c k hk).2.1 z = (sumW (cl H W b Y g (z 3).val) (n + 1) (z 0).val (z 2).val : EReal))
    ∧ (∀ z, (outsAt0 m c k hk).2.2 z = (sumB (cl H W b Y g (z 3).val) (n + 1) (z 0).val : EReal))
  | 0, hn, k, hk, e => by
    obtain ⟨-, e6, e7⟩ := of_triple (outs_A m c ⟨k, hk⟩ (by dsimp only; omega))
    have hb := h.blks ⟨k, hk⟩
    dsimp only at hb
    rw [show k % 32 = 0 by omega, show k / 32 = g by omega] at hb
    refine ⟨fun z => (congrFun e6 z).trans ?_, fun z => (congrFun e7 z).trans ?_⟩
    · refine (canon10 hb (A := fun _ _ _ => 0) (fun s k q => by pointwise [k0_pay4]; exact EReal.coe_zero.symm) z).trans ?_
      unfold G10 sumW
      rw [Finset.sum_range_one, zero_add, Finset.sum_range]
    · refine (canon11 hb (E := fun _ _ => 0) (fun s q => by pointwise [k0_pay5]; exact EReal.coe_zero.symm) z).trans ?_
      unfold G11 sumB
      rw [Finset.sum_range_one, zero_add, Finset.sum_range]
  | n + 1, hn, k, hk, e => by
    have ih := outs_10_11 g n (by omega) (k - 1) (by omega) (by omega)
    obtain ⟨-, e6, e7⟩ := of_triple (outs_B m c ⟨k, hk⟩ (by dsimp only; omega))
    have hb := h.blks ⟨k, hk⟩
    dsimp only at hb
    rw [show k % 32 = n + 1 by omega, show k / 32 = g by omega] at hb
    refine ⟨fun z => (congrFun e6 z).trans ?_, fun z => (congrFun e7 z).trans ?_⟩
    · refine (congrFun (congrArg View.canon (List.append_nil _).symm) z).trans ((canon10 hb
        (A := fun s k q => sumW (cl H W b Y g q) (n + 1) s k) (fun s k q => ih.1 (ix4 s 0 k q)) z).trans ?_)
      unfold G10
      conv_rhs => unfold sumW
      rw [Finset.sum_range_succ, Finset.sum_range (n := 256)]
      rfl
    · refine (congrFun (congrArg View.canon (List.append_nil _).symm) z).trans ((canon11 hb
        (E := fun s q => sumB (cl H W b Y g q) (n + 1) s) (fun s q => ih.2 (ix4 s 0 0 q)) z).trans ?_)
      unfold G11
      conv_rhs => unfold sumB
      rw [Finset.sum_range_succ, Finset.sum_range (n := 256)]
      rfl

/-! ## The result arrays -/

omit h
variable (H W b Y)

/-- The gradients of the convolution's result, of its taps and of its biases, packed. -/
def gH (z : S2x2x8192x2816.Idx) : EReal := ((cl H W b Y (z 1).val (z 3).val).dd (z 0).val (z 2).val : EReal)

def gW (z : S2x2x3x2816.Idx) : EReal := ((∑ n ∈ Finset.range 8192, rW (cl H W b Y (z 1).val (z 3).val) (z 0).val (z 2).val n : ℝ) : EReal)

def gB (z : S2x2x1x2816.Idx) : EReal := ((∑ n ∈ Finset.range 8192, (cl H W b Y (z 1).val (z 3).val).dd (z 0).val n : ℝ) : EReal)

variable {H W b Y}

theorem cover_9 (i : S2x2x8192x2816.Idx) : ∃ t : Fin cfg0.N, (cfg0.win 9).flush t = true ∧ i ∈ ((cfg0.win 9).blk t).view.set := by
  have hN : cfg0.N = 64 := N_0
  have h0 : _ < 2 := (i 0).isLt
  have h1 : _ < 2 := (i 1).isLt
  have h2 : _ < 8192 := (i 2).isLt
  have h3 : _ < 2816 := (i 3).isLt
  obtain ⟨t, ht⟩ := fin_at (N := cfg0.N) ((i 1).val * 32 + (i 2).val / 256) (by omega)
  refine ⟨t, flush0_9 _, ?_⟩
  have hi := (idx_facts t).2.2.2.2.2.2.2.2.2.1
  exact in_rect (all4 (in_blk (i 0).val 2 hi.1 (by omega)) (in_blk (i 1).val 1 hi.2.1 (by omega)) (in_blk (i 2).val 256 hi.2.2.1 (by omega)) (in_blk (i 3).val 2816 hi.2.2.2 (by omega)))

theorem cover_10 (i : S2x2x3x2816.Idx) : ∃ t : Fin cfg0.N, (cfg0.win 10).flush t = true ∧ i ∈ ((cfg0.win 10).blk t).view.set := by
  have hN : cfg0.N = 64 := N_0
  have h0 : _ < 2 := (i 0).isLt
  have h1 : _ < 2 := (i 1).isLt
  have h2 : _ < 3 := (i 2).isLt
  have h3 : _ < 2816 := (i 3).isLt
  obtain ⟨t, ht⟩ := fin_at (N := cfg0.N) ((i 1).val * 32 + 31) (by omega)
  refine ⟨t, (flush0_10 _).mpr (by omega), ?_⟩
  have hi := (idx_facts t).2.2.2.2.2.2.2.2.2.2.1
  exact in_rect (all4 (in_blk (i 0).val 2 hi.1 (by omega)) (in_blk (i 1).val 1 hi.2.1 (by omega)) (in_blk (i 2).val 3 hi.2.2.1 (by omega)) (in_blk (i 3).val 2816 hi.2.2.2 (by omega)))

theorem cover_11 (i : S2x2x1x2816.Idx) : ∃ t : Fin cfg0.N, (cfg0.win 11).flush t = true ∧ i ∈ ((cfg0.win 11).blk t).view.set := by
  have hN : cfg0.N = 64 := N_0
  have h0 : _ < 2 := (i 0).isLt
  have h1 : _ < 2 := (i 1).isLt
  have h2 : _ < 1 := (i 2).isLt
  have h3 : _ < 2816 := (i 3).isLt
  obtain ⟨t, ht⟩ := fin_at (N := cfg0.N) ((i 1).val * 32 + 31) (by omega)
  refine ⟨t, (flush0_11 _).mpr (by omega), ?_⟩
  have hi := (idx_facts t).2.2.2.2.2.2.2.2.2.2.2.1
  exact in_rect (all4 (in_blk (i 0).val 2 hi.1 (by omega)) (in_blk (i 1).val 1 hi.2.1 (by omega)) (in_blk (i 2).val 1 hi.2.2.1 (by omega)) (in_blk (i 3).val 2816 hi.2.2.2 (by omega)))

include h

theorem final_9 : (dats m 0 c).arrAt 9 cfg0.N = gH H W b Y :=
  (dats m 0 c).arrAt_eq_of_cover 9 (gH H W b Y) (fun t hf => by
    have hi := (idx_facts t).2.2.2.2.2.2.2.2.2.1
    have ht := point_lt t
    rw [Value.flushed9]
    funext j
    rw [View.read_apply]
    refine (outs_9 h t j).trans ?_
    have hj1 : (j 1 : Nat) < 1 := (j 1).isLt
    have e0 : (((cfg0.win 9).blk t).view.emb j 0 : Nat) = (j 0 : Nat) := blk_in hi.1
    have e1 : (((cfg0.win 9).blk t).view.emb j 1 : Nat) = t.val / 32 := by
      show win0_9.index t 1 * 1 + 1 * (j 1 : Nat) = _; rw [hi.2.1]; omega
    have e2 : (((cfg0.win 9).blk t).view.emb j 2 : Nat) = t.val % 32 * 256 + (j 2 : Nat) := blk_at hi.2.2.1 rfl
    have e3 : (((cfg0.win 9).blk t).view.emb j 3 : Nat) = (j 3 : Nat) := blk_in hi.2.2.2
    unfold gH
    rw [e0, e1, e2, e3]
    rfl) cover_9

theorem final_10 : (dats m 0 c).arrAt 10 cfg0.N = gW H W b Y :=
  (dats m 0 c).arrAt_eq_of_cover 10 (gW H W b Y) (fun t hf => by
    have hi := (idx_facts t).2.2.2.2.2.2.2.2.2.2.1
    have ht := point_lt t
    have hm : t.val % 32 = 31 := by have := (flush0_10 t).mp hf; omega
    rw [Value.flushed10]
    funext j
    rw [View.read_apply]
    refine ((outs_10_11 h (t.val / 32) 31 (by norm_num) t.val t.isLt (by omega)).1 j).trans ?_
    have hj1 : (j 1 : Nat) < 1 := (j 1).isLt
    have e0 : (((cfg0.win 10).blk t).view.emb j 0 : Nat) = (j 0 : Nat) := blk_in hi.1
    have e1 : (((cfg0.win 10).blk t).view.emb j 1 : Nat) = t.val / 32 := by
      show win0_10.index t 1 * 1 + 1 * (j 1 : Nat) = _; rw [hi.2.1]; omega
    have e2 : (((cfg0.win 10).blk t).view.emb j 2 : Nat) = (j 2 : Nat) := blk_in hi.2.2.1
    have e3 : (((cfg0.win 10).blk t).view.emb j 3 : Nat) = (j 3 : Nat) := blk_in hi.2.2.2
    unfold gW sumW
    rw [e0, e1, e2, e3]
    exact congrArg (fun z : ℝ => (z : EReal)) (sum_tiles 256 (fun n => rW (cl H W b Y (t.val / 32) (j 3).val) (j 0).val (j 2).val n) (31 + 1))) cover_10

theorem final_11 : (dats m 0 c).arrAt 11 cfg0.N = gB H W b Y :=
  (dats m 0 c).arrAt_eq_of_cover 11 (gB H W b Y) (fun t hf => by
    have hi := (idx_facts t).2.2.2.2.2.2.2.2.2.2.2.1
    have ht := point_lt t
    have hm : t.val % 32 = 31 := by have := (flush0_11 t).mp hf; omega
    rw [Value.flushed11]
    funext j
    rw [View.read_apply]
    refine ((outs_10_11 h (t.val / 32) 31 (by norm_num) t.val t.isLt (by omega)).2 j).trans ?_
    have hj1 : (j 1 : Nat) < 1 := (j 1).isLt
    have e0 : (((cfg0.win 11).blk t).view.emb j 0 : Nat) = (j 0 : Nat) := blk_in hi.1
    have e1 : (((cfg0.win 11).blk t).view.emb j 1 : Nat) = t.val / 32 := by
      show win0_11.index t 1 * 1 + 1 * (j 1 : Nat) = _; rw [hi.2.1]; omega
    have e2 : (((cfg0.win 11).blk t).view.emb j 2 : Nat) = (j 2 : Nat) := blk_in hi.2.2.1
    have e3 : (((cfg0.win 11).blk t).view.emb j 3 : Nat) = (j 3 : Nat) := blk_in hi.2.2.2
    unfold gB sumB
    rw [e0, e1, e3]
    exact congrArg (fun z : ℝ => (z : EReal)) (sum_tiles 256 (fun n => (cl H W b Y (t.val / 32) (j 3).val).dd (j 0).val n) (31 + 1))) cover_11

end Cert.KernelActIdeal.Val

end
-- ==== Proof.ActRef.lean ====
/- The values of the gated convolution's reference: the printed derivative on reals, as the kernel's formulas. -/
module

public import proofs.«01_k».proof.Proof.ActKernel
public import proofs.«01_k».proof.Proof.Gen.ReferenceActIdeal.Run
public import proofs.«01_k».proof.Proof.Gen.ReferenceActIdeal.Read
public import Idealize.ShloMosaic.Lib.Pointwise

@[expose] public section

set_option maxRecDepth 16384

noncomputable section

namespace Cert.ReferenceActIdeal.Val

open Cert.ReferenceActIdeal Cert.ReferenceActIdeal.Gen Cert.ReferenceActIdeal.Read Cert.Common Cert.Gated
open Cert.KernelActIdeal.Val (cl rW gH gW gB)
open Idealize.ShloMosaic

/-- Column `b` before packing. -/
def uc (H W : ℕ → ℕ → ℝ) (b : ℕ → ℝ) (Y : ℕ → ℕ → ℝ) (k : ℕ) : Col where
  F n := H n k
  H n := H n (k + 5504)
  Y n := Y n k
  W j := W j k
  U j := W j (k + 5504)
  b := b k
  e := b (k + 5504)

section Real
variable (H W : ℕ → ℕ → ℝ) (b : ℕ → ℝ) (Y : ℕ → ℕ → ℝ)

/-- The gradient of the convolution's result, all its columns. -/
def dR (n k : ℕ) : ℝ := if k < 5504 then (uc H W b Y k).dg n else (uc H W b Y (k - 5504)).dv n

theorem cl_real (g q : ℕ) (hq : q < 2752) : cl H W b Y g q = uc H W b Y (g * 2752 + q) := by
  have e : (g + 2) * 2752 + q = g * 2752 + q + 5504 := by omega
  have eg : ∀ f : ℕ → ℝ, grp f g q = f (g * 2752 + q) := fun f => if_pos hq
  have eg2 : ∀ f : ℕ → ℝ, grp f (g + 2) q = f (g * 2752 + q + 5504) := fun f => (if_pos hq).trans (congrArg f e)
  unfold cl uc
  simp only [eg, eg2]

theorem cl_dd (s g q n : ℕ) (hs : s < 2) (hg : g < 2) : (cl H W b Y g q).dd s n = grp (dR H W b Y n) (s * 2 + g) q := by
  by_cases hq : q < 2752
  · rw [cl_real _ _ _ _ _ _ hq]
    unfold grp dR Col.dd
    rw [if_pos hq]
    by_cases h0 : s = 0
    · rw [if_pos h0, if_pos (by omega)]; subst h0
      exact congrArg (fun k => (uc H W b Y k).dg n) (by omega)
    · rw [if_neg h0, if_neg (by omega)]; obtain rfl : s = 1 := by omega
      exact congrArg (fun k => (uc H W b Y k).dv n) (by omega)
  · have hy : ∀ n, (cl H W b Y g q).Y n = 0 := fun n => if_neg hq
    unfold grp Col.dd Col.dg Col.dv
    rw [if_neg hq, hy]
    simp

theorem cl_rW (s g q j n : ℕ) (hs : s < 2) (hg : g < 2) : rW (cl H W b Y g q) s j n
    = grp (fun k => dR H W b Y n k * (if j = 2 then H n k else prior (fun n => H n k) (2 - j) n)) (s * 2 + g) q := by
  unfold rW
  rw [cl_dd _ _ _ _ _ _ _ _ hs hg]
  by_cases hq : q < 2752
  · have hF : (cl H W b Y g q).src s = fun n => H n ((s * 2 + g) * 2752 + q) := by
      rw [cl_real _ _ _ _ _ _ hq]
      unfold Col.src uc
      funext n
      by_cases h0 : s = 0
      · rw [if_pos h0]; subst h0; exact congrArg (H n) (by omega)
      · rw [if_neg h0]; obtain rfl : s = 1 := by omega
        exact congrArg (H n) (by omega)
    rw [hF]
    unfold grp
    rw [if_pos hq, if_pos hq]
  · unfold grp
    rw [if_neg hq, if_neg hq, zero_mul]

theorem sum_grp (N : ℕ) (f : ℕ → ℕ → ℝ) (g q : ℕ) : grp (fun k => ∑ n ∈ Finset.range N, f n k) g q = ∑ n ∈ Finset.range N, grp (f n) g q := by
  unfold grp
  split
  · rfl
  · rw [Finset.sum_const_zero]

end Real

variable {x0 : Vec Ideal S8192x11008 .f32} {x1 : Vec Ideal S3x11008 .f32} {x2 : Vec Ideal S11008 .f32} {x3 : Vec Ideal S8192x5504 .f32}
  {H W : ℕ → ℕ → ℝ} {b : ℕ → ℝ} {Y : ℕ → ℕ → ℝ}
  (h0 : ∀ (i : Fin 8192) (k : Fin 11008), x0 (ix2 i k) = (H i.val k.val : EReal)) (h1 : ∀ (i : Fin 3) (k : Fin 11008), x1 (ix2 i k) = (W i.val k.val : EReal))
  (h2 : ∀ k : Fin 11008, x2 (ix1 k) = (b k.val : EReal)) (h3 : ∀ (i : Fin 8192) (k : Fin 5504), x3 (ix2 i k) = (Y i.val k.val : EReal))

/-- A row of the rows with two zero rows before them. -/
theorem early (F : ℕ → ℝ) {f : Fin 8192 → EReal} (hf : ∀ n, f n = (F n.val : EReal)) (n k i : ℕ) (hk : k ≤ 2) (hi : i < 8192) (hn : n + k = i + 2) (hn' : n < 8194) :
    (if h : n < 2 then (0 : EReal) else f ⟨n - 2, by omega⟩) = (prior F k i : EReal) := by
  unfold prior
  by_cases h : n < 2
  · rw [dif_pos h, if_neg (by omega)]; rfl
  · rw [dif_neg h, hf, if_pos (by omega)]
    exact congrArg (fun k => (F k : EReal)) (by dsimp only; omega)

/-- The sum of a column. -/
theorem host_sum {f : Fin 8192 → EReal} {F : ℕ → ℝ} (hf : ∀ n, f n = (F n.val : EReal)) :
    (∑ _x : Fin 1, ∑ x, f x) = ((∑ n ∈ Finset.range 8192, F n : ℝ) : EReal) := by
  rw [Fin.sum_univ_one, Finset.sum_range, ← coe_sum]
  exact Finset.sum_congr rfl fun n _ => hf n

include h0

theorem v4 (i : Fin 8192) (k : Fin 11008) : val_main_v4 (F := Ideal) x0 (ix2 i k) = (prior (fun n => H n k.val) 2 i.val : EReal) := by
  have hi := i.isLt
  pointwise [val_main_v4, val_main_v1, val_main_v0, val_main_cst]
  exact early (fun n => H n k.val) (fun n => h0 n k) _ 2 i.val (by norm_num) hi (by omega) (by omega)

theorem v13 (i : Fin 8192) (k : Fin 11008) : val_main_v13 (F := Ideal) x0 (ix2 i k) = (prior (fun n => H n k.val) 1 i.val : EReal) := by
  have hi := i.isLt
  pointwise [val_main_v13, val_main_v1, val_main_v0, val_main_cst]
  exact early (fun n => H n k.val) (fun n => h0 n k) _ 1 i.val (by norm_num) hi (by omega) (by omega)

theorem v20 (i : Fin 8192) (k : Fin 11008) : val_main_v20 (F := Ideal) x0 (ix2 i k) = (H i.val k.val : EReal) := by
  have hi := i.isLt
  pointwise [val_main_v20, val_main_v1, val_main_v0, val_main_cst]
  exact h0 i k

include h1 h2

theorem v24 (i : Fin 8192) (k : Fin 11008) : val_main_v24 (F := Ideal) x0 x1 x2 (ix2 i k)
    = (conv (b k.val) (fun j => W j k.val) (fun n => H n k.val) i.val : EReal) := by
  pointwise [val_main_v24, val_main_v23, val_main_v22, val_main_v21, val_main_v19, val_main_v18, val_main_v17, val_main_v16, val_main_v15, val_main_v14, val_main_v12,
    val_main_v11, val_main_v10, val_main_v9, val_main_v8, val_main_v7, val_main_v6, val_main_v5, val_main_v3, val_main_v2]
  rw [v4 h0, v13 h0, v20 h0, h1, h1, h1, h2]
  simp only [← EReal.coe_mul, ← EReal.coe_add]
  rfl

theorem v25 (i : Fin 8192) (k : Fin 5504) : val_main_v25 (F := Ideal) x0 x1 x2 (ix2 i k) = ((uc H W b Y k.val).gate i.val : EReal) := by
  pointwise [val_main_v25]
  exact v24 h0 h1 h2 i _

theorem v26 (i : Fin 8192) (k : Fin 5504) : val_main_v26 (F := Ideal) x0 x1 x2 (ix2 i k) = ((uc H W b Y k.val).val i.val : EReal) := by
  pointwise [val_main_v26]
  refine (v24 h0 h1 h2 i _).trans ?_
  unfold Col.val uc
  dsimp only
  rw [Nat.add_comm]

theorem v27 (i : Fin 8192) (k : Fin 5504) : val_main_v27_2 (F := Ideal) x0 x1 x2 (ix2 i k) = (sg ((uc H W b Y k.val).gate i.val) : EReal) := by
  pointwise [val_main_v27_2, val_main_call0_v4, val_main_call0_v3, val_main_call0_v2, val_main_call0_v1, val_main_call0_v0, val_main_call0_cst, val_main_call0_cst_0]
  rw [v25 (Y := Y) h0 h1 h2]
  exact Ideal.logistic_coe _

include h3

theorem v29 (i : Fin 8192) (k : Fin 5504) : val_main_v29 (F := Ideal) x0 x1 x2 x3 (ix2 i k) = ((uc H W b Y k.val).dv i.val : EReal) := by
  pointwise [val_main_v29, val_main_v27_0]
  rw [v25 (Y := Y) h0 h1 h2, v27 (Y := Y) h0 h1 h2, h3]
  simp only [← EReal.coe_mul]
  congr 1
  unfold Col.dv
  exact mul_comm _ _

theorem v31 (i : Fin 8192) (k : Fin 5504) : val_main_v31 (F := Ideal) x0 x1 x2 x3 (ix2 i k) = ((uc H W b Y k.val).dg i.val : EReal) := by
  pointwise [val_main_v31, val_main_call1_v2, val_main_call1_v1, val_main_call1_v0, val_main_v30, val_main_v27_1, val_main_call0_v7, val_main_call0_v6, val_main_call0_cst_1]
  rw [v25 (Y := Y) h0 h1 h2, v27 (Y := Y) h0 h1 h2, v26 (Y := Y) h0 h1 h2, h3]
  simp only [← EReal.coe_one, ← EReal.coe_mul, ← EReal.coe_sub, ← EReal.coe_add]
  congr 1
  unfold Col.dg
  rw [show (uc H W b Y k.val).Y i.val = Y i.val k.val from rfl]
  ring

theorem v32 (i : Fin 8192) (k : Fin 11008) : val_main_v32 (F := Ideal) x0 x1 x2 x3 (ix2 i k) = (dR H W b Y i.val k.val : EReal) := by
  pointwise [val_main_v32]
  unfold dR
  by_cases h : k.val < 5504
  · rw [dif_pos h, if_pos h]
    exact v31 h0 h1 h2 h3 i ⟨k.val, h⟩
  · rw [dif_neg h, if_neg h]
    exact v29 h0 h1 h2 h3 i ⟨k.val - 5504, by omega⟩

theorem v48 (k : Fin 11008) : val_main_v48 (F := Ideal) x0 x1 x2 x3 (ix1 k) = ((∑ n ∈ Finset.range 8192, dR H W b Y n k.val : ℝ) : EReal) := by
  pointwise [val_main_v48, val_main_v47, val_main_v46, val_main_cst_6, val_main_cst_7]
  exact host_sum (F := fun n => dR H W b Y n k.val) (fun n => v32 h0 h1 h2 h3 n k)

theorem v55 (j : Fin 3) (k : Fin 11008) : val_main_v55 (F := Ideal) x0 x1 x2 x3 (ix2 j k)
    = ((∑ n ∈ Finset.range 8192, dR H W b Y n k.val * (if j.val = 2 then H n k.val else prior (fun n => H n k.val) (2 - j.val) n) : ℝ) : EReal) := by
  pointwise [val_main_v55, val_main_v54, val_main_v53, val_main_v52, val_main_v51, val_main_v50, val_main_v49, val_main_v45, val_main_v44, val_main_v43, val_main_v42,
    val_main_v41, val_main_v40, val_main_v39, val_main_v38, val_main_v37, val_main_v36, val_main_v35, val_main_v34, val_main_v33, val_main_cst_0, val_main_cst_1,
    val_main_cst_2, val_main_cst_3, val_main_cst_4, val_main_cst_5, val_main_cst_8, val_main_cst_9, val_main_cst_10]
  have t2 := host_sum (F := fun n => dR H W b Y n k.val * H n k.val) (fun n => (congrArg₂ (· * ·) (v32 h0 h1 h2 h3 n k) (v20 h0 n k)).trans (EReal.coe_mul _ _).symm)
  have t1 := host_sum (F := fun n => dR H W b Y n k.val * prior (fun n => H n k.val) 1 n)
    (fun n => (congrArg₂ (· * ·) (v32 h0 h1 h2 h3 n k) (v13 h0 n k)).trans (EReal.coe_mul _ _).symm)
  have t0 := host_sum (F := fun n => dR H W b Y n k.val * prior (fun n => H n k.val) 2 n)
    (fun n => (congrArg₂ (· * ·) (v32 h0 h1 h2 h3 n k) (v4 h0 n k)).trans (EReal.coe_mul _ _).symm)
  have hj := j.isLt
  obtain h | h | h : j.val = 0 ∨ j.val = 1 ∨ j.val = 2 := by omega
  · rw [dif_neg (show ¬(2 ≤ j.val ∧ j.val - 2 < 1) by omega), dif_neg (show ¬(1 ≤ j.val ∧ j.val - 1 < 1) by omega), dif_pos (show j.val < 1 by omega), zero_add, zero_add, h]
    exact t0
  · rw [dif_neg (show ¬(2 ≤ j.val ∧ j.val - 2 < 1) by omega), dif_pos (show 1 ≤ j.val ∧ j.val - 1 < 1 by omega), dif_neg (show ¬j.val < 1 by omega), zero_add, add_zero, h]
    exact t1
  · rw [dif_pos (show 2 ≤ j.val ∧ j.val - 2 < 1 by omega), dif_neg (show ¬(1 ≤ j.val ∧ j.val - 1 < 1) by omega), dif_neg (show ¬j.val < 1 by omega), add_zero, add_zero, h]
    exact t2

theorem v59 (z : S2x2x8192x2816.Idx) : val_main_v59 (F := Ideal) x0 x1 x2 x3 z = gH H W b Y z := by
  obtain ⟨s, g, n, q, rfl⟩ : ∃ s g n q, z = ix4 s g n q := ⟨_, _, _, _, eq_ix4 z⟩
  pointwise [val_main_v59, val_main_v58, val_main_v57, val_main_v56, val_main_call2_v0, val_main_c]
  have hs := s.isLt
  have hg := g.isLt
  unfold gH
  show _ = ((cl H W b Y g.val q.val).dd s.val n.val : EReal)
  rw [cl_dd _ _ _ _ _ _ _ _ hs hg]
  refine Eq.trans ?_ (grp_host (fun k => v32 h0 h1 h2 h3 n k) (s.val * 2 + g.val) q.val (by omega))
  by_cases hq : q.val < 2752
  · rw [dif_pos ⟨by omega, hq⟩, dif_pos hq]
  · rw [dif_neg (fun h => hq h.2), dif_neg hq]

theorem v62 (z : S2x2x3x2816.Idx) : val_main_v62 (F := Ideal) x0 x1 x2 x3 z = gW H W b Y z := by
  obtain ⟨s, g, n, q, rfl⟩ : ∃ s g n q, z = ix4 s g n q := ⟨_, _, _, _, eq_ix4 z⟩
  pointwise [val_main_v62, val_main_v61, val_main_v60, val_main_call3_v0, val_main_c_11]
  have hs := s.isLt
  have hg := g.isLt
  have e : ∀ r, rW (cl H W b Y g.val q.val) s.val n.val r = _ := fun r => cl_rW H W b Y s.val g.val q.val n.val r hs hg
  unfold gW
  show _ = ((∑ r ∈ Finset.range 8192, rW (cl H W b Y g.val q.val) s.val n.val r : ℝ) : EReal)
  rw [Finset.sum_congr rfl (fun r _ => e r), ← sum_grp]
  refine Eq.trans ?_ (grp_host (fun k => v55 h0 h1 h2 h3 n k) (s.val * 2 + g.val) q.val (by omega))
  by_cases hq : q.val < 2752
  · rw [dif_pos hq, dif_pos hq]
    congr 3
    omega
  · rw [dif_neg hq, dif_neg hq]

theorem v64 (z : S2x2x1x2816.Idx) : val_main_v64 (F := Ideal) x0 x1 x2 x3 z = gB H W b Y z := by
  obtain ⟨s, g, n, q, rfl⟩ : ∃ s g n q, z = ix4 s g n q := ⟨_, _, _, _, eq_ix4 z⟩
  pointwise [val_main_v64, val_main_v63, val_main_call4_v0, val_main_c_12]
  have hs := s.isLt
  have hg := g.isLt
  have e : ∀ r, (cl H W b Y g.val q.val).dd s.val r = _ := fun r => cl_dd H W b Y s.val g.val q.val r hs hg
  unfold gB
  show _ = ((∑ r ∈ Finset.range 8192, (cl H W b Y g.val q.val).dd s.val r : ℝ) : EReal)
  rw [Finset.sum_congr rfl (fun r _ => e r), ← sum_grp]
  refine Eq.trans ?_ (grp_host (fun k => v48 h0 h1 h2 h3 k) (s.val * 2 + g.val) q.val (by omega))
  by_cases hq : q.val < 2752
  · rw [dif_pos hq, dif_pos hq]
    congr 3
    omega
  · rw [dif_neg hq, dif_neg hq]

end Cert.ReferenceActIdeal.Val

end
-- ==== Proof.Act.lean ====
/- The gated activation's backward kernel: its two frames, the reference's frame, and the equality of the results over the reals from
   finite arguments. -/
module

public import proofs.«01_k».proof.Defs
public import proofs.«01_k».proof.Proof.Gen.KernelAct
public import proofs.«01_k».proof.Proof.Gen.Pre_finite_act
public import proofs.«01_k».proof.Proof.ActKernel
public import proofs.«01_k».proof.Proof.ActRef
public import Idealize.ShloMosaic.Lib.ReduceAll

@[expose] public section

noncomputable section

namespace Cert.Act

open Cert.Common Cert.Blocks
open Idealize.ShloMosaic

theorem frame_kernel : Cert.quiescent_KernelAct := fun m ρ _ =>
  cast (by sl_kernel_rfl) (Cert.KernelActIdeal.Gen.frame (F := Bits) m ρ)

theorem frame_ideal : Cert.quiescent_KernelActIdeal := fun m ρ _ => Cert.KernelActIdeal.Gen.frame m ρ

theorem frame_reference : Cert.quiescent_ReferenceActIdeal := fun m ρ _ =>
  (θ_run Cert.ReferenceActIdeal.defs _ _).mono (fun r h => ⟨fun c => (h c).2.2.2, sem_eq_zero_of_no_sems (by decide) r.2⟩)
    (Cert.ReferenceActIdeal.Value.run (F := Ideal) m ρ)

section Pre

variable (m : (ℓ : Loc Cert.KernelActIdeal.nD Cert.KernelActIdeal.τ Cert.KernelActIdeal.sig) → Buf (Elt Ideal) ℓ)
  (c : Dev Cert.KernelActIdeal.nD)

/-- The entries of an array as reals, zero past its ends. -/
def rowsOf {R C : ℕ} (x : Vec Ideal ⟨2, ![R, C]⟩ .f32) (n k : ℕ) : ℝ :=
  if h : n < R ∧ k < C then (x (ix2 ⟨n, h.1⟩ ⟨k, h.2⟩)).toReal else 0

/-- The convolution's input, the taps, the biases and the cotangent as reals. -/
def Hv : ℕ → ℕ → ℝ := rowsOf (R := 8192) (C := 11008) (m (c.tc.loc Cert.KernelActIdeal.main_arg0))

def Wv : ℕ → ℕ → ℝ := rowsOf (R := 3) (C := 11008) (m (c.tc.loc Cert.KernelActIdeal.main_arg1))

def bv (k : ℕ) : ℝ := if h : k < 11008 then ((m (c.tc.loc Cert.KernelActIdeal.main_arg2) : Vec Ideal Cert.KernelActIdeal.S11008 .f32) (ix1 ⟨k, h⟩)).toReal else 0

def Yv : ℕ → ℕ → ℝ := rowsOf (R := 8192) (C := 5504) (m (c.tc.loc Cert.KernelActIdeal.main_arg3))

instance : Subsingleton Cert.Pre_finite_act.S_.Idx := ⟨fun a b => funext fun i => i.elim0⟩

theorem reals (h : Cert.Pre_KernelActIdeal_finite_act m) : Cert.KernelActIdeal.Val.Reals m c (Hv m c) (Wv m c) (bv m c) (Yv m c) := by
  have e := congrFun (h c) ix0
  obtain ⟨e, e3⟩ := IntOp.andi_eq_one.1 e
  obtain ⟨e, e2⟩ := IntOp.andi_eq_one.1 e
  obtain ⟨e0, e1⟩ := IntOp.andi_eq_one.1 e
  refine ⟨fun i k => ?_, fun i k => ?_, fun k => ?_, fun i k => ?_⟩
  · rw [Hv, rowsOf, dif_pos ⟨i.isLt, k.isLt⟩]
    exact real_at e0 (ix2 i k)
  · rw [Wv, rowsOf, dif_pos ⟨i.isLt, k.isLt⟩]
    exact real_at e1 (ix2 i k)
  · rw [bv, dif_pos k.isLt]
    exact real_at e2 (ix1 k)
  · rw [Yv, rowsOf, dif_pos ⟨i.isLt, k.isLt⟩]
    exact real_at e3 (ix2 i k)

end Pre

open Cert.KernelActIdeal.Val in
theorem values : Cert.algebraic_KernelActIdeal_ReferenceActIdeal_pre_finite_act := by
  intro m g m' g' h hag
  have hR := fun c => reals m c h
  refine ⟨fun c => gH (Hv m c) (Wv m c) (bv m c) (Yv m c), fun c => gW (Hv m c) (Wv m c) (bv m c) (Yv m c),
    fun c => gB (Hv m c) (Wv m c) (bv m c) (Yv m c), ?_, ?_⟩
  · refine (θ_run Cert.KernelActIdeal.defs _ _).mono (fun r hr c => ?_) (Cert.KernelActIdeal.Value.run_blocks (F := Ideal) m g)
    obtain ⟨h9, h10, h11, ha⟩ := hr c
    exact ⟨h9.trans (final_9 (hR c)), h10.trans (final_10 (hR c)), h11.trans (final_11 (hR c)), ha⟩
  · refine (θ_run Cert.ReferenceActIdeal.defs _ _).mono (fun r hr c => ?_) (Cert.ReferenceActIdeal.Value.run (F := Ideal) m' g')
    obtain ⟨r0, r1, r2, ha⟩ := hr c
    obtain ⟨a0, a1, a2, a3⟩ := hag c
    have d0 := same2 (hR c).h a0
    have d1 := same2 (hR c).w a1
    have d2 := same1 (hR c).b a2
    have d3 := same2 (hR c).y a3
    exact ⟨r0.trans ((Cert.ReferenceActIdeal.Read.val_main_v59_eq _ _).trans (funext fun i => Cert.ReferenceActIdeal.Val.v59 d0 d1 d2 d3 i)),
      r1.trans ((Cert.ReferenceActIdeal.Read.val_main_v62_eq _ _).trans (funext fun i => Cert.ReferenceActIdeal.Val.v62 d0 d1 d2 d3 i)),
      r2.trans ((Cert.ReferenceActIdeal.Read.val_main_v64_eq _ _).trans (funext fun i => Cert.ReferenceActIdeal.Val.v64 d0 d1 d2 d3 i)), ha⟩

end Cert.Act

end
-- ==== Proof.LossKernel.lean ====
/- The values of the loss and its gradient: each payload on reals, what each grid point leaves, and the two result
   arrays after the run. -/
module

public import proofs.«01_k».proof.Proof.Blocks
public import proofs.«01_k».proof.Defs
public import proofs.«01_k».proof.Proof.Common
public import proofs.«01_k».proof.Proof.Gen.KernelLossIdeal.Value
public import Idealize.ShloMosaic.Lib.Pointwise
public import Idealize.ShloMosaic.Lib.Tactic

@[expose] public section

noncomputable section

namespace Cert.KernelLossIdeal.Val

open Cert.Blocks
open Cert.KernelLossIdeal Cert.KernelLossIdeal.Gen Cert.Common
open Idealize.ShloMosaic Idealize.ShloMosaic.TcCoe Idealize.SL.Sem
open Idealize.ShloMosaic.Pipeline (Dat)

theorem ofBits_mean : Ideal.ofBits .f32 0x3A000000#32 = ((1 / 2048 : ℝ) : EReal) := by
  simp [Ideal.ofBits, Ideal.ieee, -EReal.coe_mul]; norm_num

theorem ofBits_half_mean : Ideal.ofBits .f32 0x39800000#32 = ((1 / 4096 : ℝ) : EReal) := by
  simp [Ideal.ofBits, Ideal.ieee, -EReal.coe_mul]; norm_num

/-! ## The payloads on reals -/

section Payloads

variable {y t : Vec Ideal S512x2048 .f32} {Y T : Fin 512 → Fin 2048 → ℝ}
  (hy : ∀ a b, y (ix2 a b) = (Y a b : EReal)) (ht : ∀ a b, t (ix2 a b) = (T a b : EReal))
include hy ht

theorem pay2 (a : Fin 512) (b : Fin 2048) : k0_pay2 y t (ix2 a b) = ((Y a b - T a b : ℝ) : EReal) := by
  pointwise [k0_pay2]
  simp only [hy, ht, ← EReal.coe_sub]

theorem pay3 (a : Fin 512) (b : Fin 2048) : k0_pay3 y t (ix2 a b) = (((Y a b - T a b) * (1 / 2048) : ℝ) : EReal) := by
  pointwise [k0_pay3]
  simp only [pay2 hy ht, ofBits_mean, ← EReal.coe_mul]

theorem pay4 {o : Vec Ideal S1x2048 .f32} {O : Fin 2048 → ℝ} (ho : ∀ b, o (ix2 0 b) = (O b : EReal)) (b : Fin 2048) :
    k0_pay4 y t o (ix2 0 b) = ((O b + ∑ a, (Y a b - T a b) * (Y a b - T a b) : ℝ) : EReal) := by
  pointwise [k0_pay4]
  simp only [pay2 hy ht, ho, coe_sum, ← EReal.coe_mul, ← EReal.coe_add]

omit hy ht

theorem pay5 {o : Vec Ideal S1x2048 .f32} {O : Fin 2048 → ℝ} (ho : ∀ b, o (ix2 0 b) = (O b : EReal)) (b : Fin 128) :
    k0_pay5 o (ix2 0 b) = (((∑ k, O k) * (1 / 4096) : ℝ) : EReal) := by
  pointwise [k0_pay5]
  simp only [ho, coe_sum, ofBits_half_mean, ← EReal.coe_mul]

end Payloads

/-! ## What a grid point leaves -/

section Points

variable {F : FTy → Type} [FloatOps F]
variable (m : (ℓ : Loc nD τ sig) → Buf (Elt F) ℓ)

theorem outs_A (c : Dev nD) (t : Fin cfg0.N) (h0 : t.val % 16 = 0) (h1 : ¬t.val % 16 = 15) :
    (outsAt0 m c t.val t.isLt).2 = (k0_pay3 (iblk m c 0 t) (iblk m c 1 t), k0_pay4 (iblk m c 0 t) (iblk m c 1 t) k0_pay1) := by
  rw [outsAt0_A m c t h0 h1]
  dsimp only
  unfold out0_A_3 sout0_A_0
  rw [View.read_writes_eq_canon _ _ _ (fun y => cover0_A_3 (y := y) ..), View.read_writes_eq_canon _ _ _ (fun y => scover0_A_0 (y := y) ..)]
  unfold kernelRun0_A
  dsimp only
  sl_unfold_words
  simp only [View.canon_unit_zero (S := S512x2048) hz2, View.canon_unit_zero (S := S1x2048) hz2,
    View.canon_cons_unit_zero (S := S1x2048) hz2, View.readCov_unit_zero (S := S1x2048) _ hz2, View.readAt_eq_ld,
    (hs0_0 t).read_unread, (hs0_1 t).read_unread, View.ld_unit_zero (S := S512x2048) hz2,
    View.ld_unit_zero (S := S1x2048) hz2, shapeCast_self]

theorem outs_B (c : Dev nD) (t : Fin cfg0.N) (h0 : ¬t.val % 16 = 0) (h1 : ¬t.val % 16 = 15) :
    (outsAt0 m c t.val t.isLt).2 = (k0_pay3 (iblk m c 0 t) (iblk m c 1 t), k0_pay4 (iblk m c 0 t) (iblk m c 1 t)
      (outsAt0 m c (t.val - 1) (Nat.lt_of_le_of_lt (Nat.sub_le _ _) t.isLt)).2.2) := by
  rw [outsAt0_B m c t h0 h1]
  dsimp only
  unfold out0_B_3 sout0_B_0
  rw [View.read_writes_eq_canon _ _ _ (fun y => cover0_B_3 (y := y) ..), View.read_writes_eq_canon _ _ _ (fun y => scover0_B_0 (y := y) ..)]
  unfold kernelRun0_B
  dsimp only
  sl_unfold_words
  simp only [View.canon_unit_zero (S := S512x2048) hz2, View.canon_unit_zero (S := S1x2048) hz2,
    View.canon_cons_unit_zero (S := S1x2048) hz2, View.readCov_unit_zero (S := S1x2048) _ hz2, View.readAt_eq_ld,
    (hs0_0 t).read_unread, (hs0_1 t).read_unread, (Memref.isWhole_whole _ : scM0_0.IsWhole).read_unread, View.ld_unit_zero (S := S512x2048) hz2,
    View.ld_unit_zero (S := S1x2048) hz2, shapeCast_self]

theorem outs_C (c : Dev nD) (t : Fin cfg0.N) (h0 : ¬t.val % 16 = 0) (h1 : t.val % 16 = 15) :
    outsAt0 m c t.val t.isLt = (k0_pay5 (k0_pay4 (iblk m c 0 t) (iblk m c 1 t)
        (outsAt0 m c (t.val - 1) (Nat.lt_of_le_of_lt (Nat.sub_le _ _) t.isLt)).2.2),
      k0_pay3 (iblk m c 0 t) (iblk m c 1 t), k0_pay4 (iblk m c 0 t) (iblk m c 1 t)
        (outsAt0 m c (t.val - 1) (Nat.lt_of_le_of_lt (Nat.sub_le _ _) t.isLt)).2.2) := by
  rw [outsAt0_C m c t h0 h1]
  unfold out0_C_2 out0_C_3 sout0_C_0
  rw [View.read_writes_eq_canon _ _ _ (fun y => cover0_C_2 (y := y) ..), View.read_writes_eq_canon _ _ _ (fun y => cover0_C_3 (y := y) ..),
    View.read_writes_eq_canon _ _ _ (fun y => scover0_C_0 (y := y) ..)]
  unfold kernelRun0_C
  dsimp only
  sl_unfold_words
  simp only [View.canon_unit_zero (S := S512x2048) hz2, View.canon_unit_zero (S := S1x2048) hz2, View.canon_unit_zero (S := S1x128) hz2,
    View.canon_cons_unit_zero (S := S1x2048) hz2, View.readCov_unit_zero (S := S1x2048) _ hz2, View.readAt_eq_ld,
    (hs0_0 t).read_unread, (hs0_1 t).read_unread, (Memref.isWhole_whole _ : scM0_0.IsWhole).read_unread, View.ld_unit_zero (S := S512x2048) hz2,
    View.ld_unit_zero (S := S1x2048) hz2, shapeCast_self]

/-! ## The blocks of the arguments -/

theorem point_lt (t : Fin cfg0.N) : t.val < 16 := lt_of_lt_of_eq t.isLt N_0

theorem row_lt (t : Fin cfg0.N) (a : Fin 512) : t.val * 512 + a.val < 8192 := by
  have := point_lt t; have := a.isLt; omega

theorem idx_facts : ∀ t : Fin cfg0.N, (win0_0.index t 0 = t.val ∧ win0_0.index t 1 = 0)
    ∧ (win0_1.index t 0 = t.val ∧ win0_1.index t 1 = 0) ∧ (win0_2.index t 0 = 0 ∧ win0_2.index t 1 = 0)
    ∧ (win0_3.index t 0 = t.val ∧ win0_3.index t 1 = 0) :=
  (by decide +kernel : ∀ t : Fin grid0.N, _)

theorem iblk0 (c : Dev nD) (t : Fin cfg0.N) (a : Fin 512) (b : Fin 2048) :
    (iblk m c 0 t : Vec F S512x2048 .f32) (ix2 a b)
      = (m (c.tc.loc main_arg0) : Vec F S8192x2048 .f32) (ix2 ⟨t.val * 512 + a.val, row_lt t a⟩ b) := by
  have hi := (idx_facts t).1
  exact (congrArg (V m c main_arg0) (at2 (blk_at hi.1 rfl) (blk_in hi.2))).trans (congrFun (V_main_arg0 m c) _)

theorem iblk1 (c : Dev nD) (t : Fin cfg0.N) (a : Fin 512) (b : Fin 2048) :
    (iblk m c 1 t : Vec F S512x2048 .f32) (ix2 a b)
      = (m (c.tc.loc main_arg1) : Vec F S8192x2048 .f32) (ix2 ⟨t.val * 512 + a.val, row_lt t a⟩ b) := by
  have hi := (idx_facts t).2.1
  exact (congrArg (V m c main_arg1) (at2 (blk_at hi.1 rfl) (blk_in hi.2))).trans (congrFun (V_main_arg1 m c) _)

end Points

/-! ## The result arrays -/

variable (m : (ℓ : Loc nD τ sig) → Buf (Elt Ideal) ℓ)

/-- The arguments of a device are reals: `Y` the output, `T` the target. -/
structure Reals (c : Dev nD) (Y T : ℕ → Fin 2048 → ℝ) : Prop where
  y : ∀ (i : Fin 8192) k, (m (c.tc.loc main_arg0) : Vec Ideal S8192x2048 .f32) (ix2 i k) = (Y i.val k : EReal)
  t : ∀ (i : Fin 8192) k, (m (c.tc.loc main_arg1) : Vec Ideal S8192x2048 .f32) (ix2 i k) = (T i.val k : EReal)

/-- The square of an error. -/
def sq (Y T : ℕ → Fin 2048 → ℝ) (n : ℕ) (k : Fin 2048) : ℝ := (Y n k - T n k) * (Y n k - T n k)

variable {m} {c : Dev nD} {Y T : ℕ → Fin 2048 → ℝ} (h : Reals m c Y T)
include h

theorem Reals.y' (t : Fin cfg0.N) (a : Fin 512) (b : Fin 2048) :
    (iblk m c 0 t : Vec Ideal S512x2048 .f32) (ix2 a b) = (Y (t.val * 512 + a.val) b : EReal) := by
  rw [iblk0, h.y]

theorem Reals.t' (t : Fin cfg0.N) (a : Fin 512) (b : Fin 2048) :
    (iblk m c 1 t : Vec Ideal S512x2048 .f32) (ix2 a b) = (T (t.val * 512 + a.val) b : EReal) := by
  rw [iblk1, h.t]

theorem outs_d (t : Fin cfg0.N) (a : Fin 512) (b : Fin 2048) :
    (outsAt0 m c t.val t.isLt).2.1 (ix2 a b)
      = (((Y (t.val * 512 + a.val) b - T (t.val * 512 + a.val) b) * (1 / 2048) : ℝ) : EReal) := by
  by_cases h0 : t.val % 16 = 0
  · rw [outs_A m c t h0 (by omega)]
    exact pay3 (h.y' t) (h.t' t) a b
  · by_cases h1 : t.val % 16 = 15
    · rw [outs_C m c t h0 h1]
      exact pay3 (h.y' t) (h.t' t) a b
    · rw [outs_B m c t h0 h1]
      exact pay3 (h.y' t) (h.t' t) a b

theorem outs_s (b : Fin 2048) : ∀ (n : ℕ) (hn : n < cfg0.N), (outsAt0 m c n hn).2.2 (ix2 0 b)
      = ((∑ s ∈ Finset.range (n + 1), ∑ a ∈ Finset.range 512, sq Y T (s * 512 + a) b : ℝ) : EReal)
  | 0, hn => by
    have e := outs_A m c ⟨0, hn⟩ rfl (by dsimp only; omega)
    dsimp only at e
    rw [e]
    refine (pay4 (O := fun _ => 0) (h.y' ⟨0, hn⟩) (h.t' ⟨0, hn⟩) (fun b => ?_) b).trans ?_
    · pointwise [k0_pay1]; exact EReal.coe_zero.symm
    · rw [Finset.sum_range_one, zero_add, Finset.sum_range]; rfl
  | n + 1, hn => by
    have hN : cfg0.N = 16 := N_0
    have e : (outsAt0 m c (n + 1) hn).2.2 = k0_pay4 (iblk m c 0 ⟨n + 1, hn⟩) (iblk m c 1 ⟨n + 1, hn⟩) (outsAt0 m c n (Nat.lt_of_succ_lt hn)).2.2 := by
      by_cases h1 : (n + 1) % 16 = 15
      · exact congrArg (fun z => z.2.2) (outs_C m c ⟨n + 1, hn⟩ (by dsimp only; omega) h1)
      · exact congrArg (fun z => z.2) (outs_B m c ⟨n + 1, hn⟩ (by dsimp only; omega) h1)
    rw [e, Finset.sum_range_succ]
    refine (pay4 (h.y' ⟨n + 1, hn⟩) (h.t' ⟨n + 1, hn⟩) (fun b => outs_s b n (Nat.lt_of_succ_lt hn)) b).trans ?_
    rw [Finset.sum_range (n := 512)]; rfl

theorem outs_l (t : Fin cfg0.N) (ht : t.val = 15) (b : Fin 128) : (outsAt0 m c t.val t.isLt).1 (ix2 0 b)
      = (((∑ k, ∑ n ∈ Finset.range 8192, sq Y T n k) * (1 / 4096) : ℝ) : EReal) := by
  have hs := fun b => outs_s h b t.val t.isLt
  have e := outs_C m c t (by omega) (by omega)
  rw [e] at hs ⊢
  refine (pay5 hs b).trans ?_
  rw [ht]
  simp only [fun k => sum_tiles 512 (fun n => sq Y T n k) (15 + 1)]

omit h
variable (Y T)

/-- The loss, along its row, -/
def gL (_ : S1x128.Idx) : EReal := (((∑ k, ∑ n ∈ Finset.range 8192, sq Y T n k) * (1 / 4096) : ℝ) : EReal)

/-- and its gradient, at an index of the array. -/
def gD (i : S8192x2048.Idx) : EReal := (((Y (i 0).val (i 1) - T (i 0).val (i 1)) * (1 / 2048) : ℝ) : EReal)

variable {Y T}

theorem lastLt : 15 < cfg0.N := lt_of_lt_of_eq (by decide) N_0.symm

theorem cover_2 (i : S1x128.Idx) : ∃ t : Fin cfg0.N, (cfg0.win 2).flush t = true ∧ i ∈ ((cfg0.win 2).blk t).view.set := by
  have h0 : _ < 1 := (i 0).isLt
  have h1 : _ < 128 := (i 1).isLt
  obtain ⟨t, ht⟩ := fin_at 15 lastLt
  refine ⟨t, (flush0_2 _).mpr (by rw [ht]), ?_⟩
  have hi := (idx_facts t).2.2.1
  exact in_rect (all2 (in_blk (i 0).val 1 hi.1 (by omega)) (in_blk (i 1).val 128 hi.2 (by omega)))

theorem cover_3 (i : S8192x2048.Idx) : ∃ t : Fin cfg0.N, (cfg0.win 3).flush t = true ∧ i ∈ ((cfg0.win 3).blk t).view.set := by
  have hN : cfg0.N = 16 := N_0
  have h0 : _ < 8192 := (i 0).isLt
  have h1 : _ < 2048 := (i 1).isLt
  obtain ⟨t, ht⟩ := fin_at (N := cfg0.N) ((i 0).val / 512) (by omega)
  refine ⟨t, flush0_3 _, ?_⟩
  have hi := (idx_facts t).2.2.2
  exact in_rect (all2 (in_blk (i 0).val 512 hi.1 (by omega)) (in_blk (i 1).val 2048 hi.2 (by omega)))

include h

theorem final_2 : (dats m 0 c).arrAt 2 cfg0.N = gL Y T :=
  (dats m 0 c).arrAt_eq_of_cover 2 (gL Y T) (fun t hf => by
    have ht : t.val = 15 := by have := (flush0_2 t).mp hf; have := point_lt t; omega
    rw [Value.flushed2]
    funext j
    rw [View.read_apply]
    obtain ⟨b, rfl⟩ := row2 j
    exact outs_l h t ht b) cover_2

theorem final_3 : (dats m 0 c).arrAt 3 cfg0.N = gD Y T :=
  (dats m 0 c).arrAt_eq_of_cover 3 (gD Y T) (fun t _ => by
    have hi := (idx_facts t).2.2.2
    rw [Value.flushed3]
    exact ext2 fun a b => (outs_d h t a b).trans (congrArg (gD Y T) (at2 (p := ⟨_, row_lt t a⟩) (blk_at hi.1 rfl) (blk_in hi.2))).symm) cover_3

end Cert.KernelLossIdeal.Val

end
-- ==== Proof.LossRef.lean ====
/- The values of the loss and its derivative as the reference has them. -/
module

public import proofs.«01_k».proof.Proof.LossKernel
public import proofs.«01_k».proof.Proof.Gen.ReferenceLossIdeal.Run
public import proofs.«01_k».proof.Proof.Gen.ReferenceLossIdeal.Read

@[expose] public section

noncomputable section

namespace Cert.ReferenceLossIdeal.Val

open Cert.ReferenceLossIdeal Cert.ReferenceLossIdeal.Gen Cert.ReferenceLossIdeal.Read Cert.Common
open Idealize.ShloMosaic

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

/-- Positions in an array of rows. -/
def rowIdx : Fin 8192 ≃ S8192.Idx where
  toFun n := ix1 n
  invFun i := i 0
  left_inv _ := rfl
  right_inv i := (eq_ix1 i).symm

variable {x0 x1 : Vec Ideal S8192x2048 .f32} {Y T : ℕ → Fin 2048 → ℝ}
  (h0 : ∀ (i : Fin 8192) k, x0 (ix2 i k) = (Y i.val k : EReal)) (h1 : ∀ (i : Fin 8192) k, x1 (ix2 i k) = (T i.val k : EReal))
include h0 h1

theorem v6 (i : Fin 8192) : val_main_v6 (F := Ideal) x0 x1 (ix1 i) = (((∑ k, Cert.KernelLossIdeal.Val.sq Y T i.val k) / 2048 : ℝ) : EReal) := by
  pointwise [val_main_v6, val_main_v4, val_main_v5, val_main_v1, val_main_v0, val_main_cst_0, val_main_cst_1]
  simp only [h0, h1, ← EReal.coe_sub, ← EReal.coe_mul, coe_sum, ofBits_2048, div_real _ (by norm_num : (2048 : ℝ) ≠ 0)]
  rfl

theorem v15 (i : S1x128.Idx) : val_main_v15 (F := Ideal) x0 x1 i = Cert.KernelLossIdeal.Val.gL Y T i := by
  rw [val_main_v15_apply, val_main_v8_apply, val_main_v7_apply, ← Equiv.sum_comp rowIdx]
  simp only [fun n => show rowIdx n = ix1 n from rfl, v6 h0 h1, coe_sum]
  rw [show val_main_cst_2 (F := Ideal) (Shape.Idx.first h_S_) = ((0 : ℝ) : EReal) from ofBits_zero,
    show val_main_cst_3 (F := Ideal) (idx_main_v15 i) = ((1 / 2 : ℝ) : EReal) from ofBits_half, ← EReal.coe_add]
  refine (EReal.coe_mul _ _).symm.trans ?_
  unfold Cert.KernelLossIdeal.Val.gL
  rw [zero_add, ← Finset.sum_div, Finset.sum_comm]
  simp only [Finset.sum_range]
  congr 1
  ring

theorem v14 (a : Fin 8192) (b : Fin 2048) : val_main_v14 (F := Ideal) x0 x1 (ix2 a b)
    = (((Y a.val b - T a.val b) * (1 / 2048) : ℝ) : EReal) := by
  pointwise [val_main_v14, val_main_v13, val_main_v12, val_main_v11, val_main_v10, val_main_v9, val_main_cst_4, val_main_cst_5, val_main_cst_6,
    val_main_v3, val_main_v2, val_main_cst, val_main_v0]
  simp only [h0, h1, ofBits_half, ofBits_one, ofBits_2, ofBits_2048, ← EReal.coe_sub, ← EReal.coe_mul, div_real _ (by norm_num : (2048 : ℝ) ≠ 0)]
  congr 1
  ring

end Cert.ReferenceLossIdeal.Val

end
-- ==== Proof.Loss.lean ====
/- The loss and its gradient: their two frames, the reference's frame, and the equality of the results over the reals from
   finite arguments. -/
module

public import proofs.«01_k».proof.Defs
public import proofs.«01_k».proof.Proof.Gen.KernelLoss
public import proofs.«01_k».proof.Proof.Gen.Pre_finite_loss
public import proofs.«01_k».proof.Proof.LossKernel
public import proofs.«01_k».proof.Proof.LossRef
public import Idealize.ShloMosaic.Lib.ReduceAll

@[expose] public section

noncomputable section

namespace Cert.Loss

open Cert.Common Cert.Blocks
open Idealize.ShloMosaic

theorem frame_kernel : Cert.quiescent_KernelLoss := fun m ρ _ =>
  cast (by sl_kernel_rfl) (Cert.KernelLossIdeal.Gen.frame (F := Bits) m ρ)

theorem frame_ideal : Cert.quiescent_KernelLossIdeal := fun m ρ _ => Cert.KernelLossIdeal.Gen.frame m ρ

theorem frame_reference : Cert.quiescent_ReferenceLossIdeal := fun m ρ _ =>
  (θ_run Cert.ReferenceLossIdeal.defs _ _).mono (fun r h => ⟨fun c => (h c).2.2, sem_eq_zero_of_no_sems (by decide) r.2⟩)
    (Cert.ReferenceLossIdeal.Value.run (F := Ideal) m ρ)

section Pre

variable (m : (ℓ : Loc Cert.KernelLossIdeal.nD Cert.KernelLossIdeal.τ Cert.KernelLossIdeal.sig) → Buf (Elt Ideal) ℓ)
  (c : Dev Cert.KernelLossIdeal.nD)

/-- The rows of an array as reals, a row past the last one zero. -/
def rowsOf (x : Vec Ideal Cert.KernelLossIdeal.S8192x2048 .f32) (n : ℕ) (k : Fin 2048) : ℝ :=
  if h : n < 8192 then (x (ix2 ⟨n, h⟩ k)).toReal else 0

/-- The output as reals. -/
def Yv : ℕ → Fin 2048 → ℝ := rowsOf (m (c.tc.loc Cert.KernelLossIdeal.main_arg0))

/-- The target as reals. -/
def Tv : ℕ → Fin 2048 → ℝ := rowsOf (m (c.tc.loc Cert.KernelLossIdeal.main_arg1))

instance : Subsingleton Cert.Pre_finite_loss.S_.Idx := ⟨fun a b => funext fun i => i.elim0⟩

theorem reals (h : Cert.Pre_KernelLossIdeal_finite_loss m) : Cert.KernelLossIdeal.Val.Reals m c (Yv m c) (Tv m c) := by
  have e := congrFun (h c) ix0
  obtain ⟨e0, e1⟩ := IntOp.andi_eq_one.1 e
  refine ⟨fun i k => ?_, fun i k => ?_⟩
  · rw [Yv, rowsOf, dif_pos i.isLt]
    exact real_at e0 (ix2 i k)
  · rw [Tv, rowsOf, dif_pos i.isLt]
    exact real_at e1 (ix2 i k)

end Pre

open Cert.KernelLossIdeal.Val in
theorem values : Cert.algebraic_KernelLossIdeal_ReferenceLossIdeal_pre_finite_loss := by
  intro m g m' g' h hag
  have hR := fun c => reals m c h
  refine ⟨fun c => gL (Yv m c) (Tv m c), fun c => gD (Yv m c) (Tv m c), ?_, ?_⟩
  · refine (θ_run Cert.KernelLossIdeal.defs _ _).mono (fun r hr c => ?_) (Cert.KernelLossIdeal.Value.run_blocks (F := Ideal) m g)
    obtain ⟨h2, h3, ha⟩ := hr c
    exact ⟨h2.trans (final_2 (hR c)), h3.trans (final_3 (hR c)), ha⟩
  · refine (θ_run Cert.ReferenceLossIdeal.defs _ _).mono (fun r hr c => ?_) (Cert.ReferenceLossIdeal.Value.run (F := Ideal) m' g')
    obtain ⟨h0, h1, ha⟩ := hr c
    obtain ⟨a0, a1⟩ := hag c
    have d0 := same2 (hR c).y a0
    have d1 := same2 (hR c).t a1
    refine ⟨h0.trans ((Cert.ReferenceLossIdeal.Read.val_main_v15_eq _ _).trans (funext fun i => Cert.ReferenceLossIdeal.Val.v15 d0 d1 i)),
      h1.trans ((Cert.ReferenceLossIdeal.Read.val_main_v14_eq _ _).trans (funext fun i => ?_)), ha⟩
    obtain ⟨a, b, rfl⟩ : ∃ a b, i = ix2 a b := ⟨_, _, eq_ix2 i⟩
    exact Cert.ReferenceLossIdeal.Val.v14 d0 d1 a b

end Cert.Loss

end
-- ==== Proof.FwdStep.lean ====
/-
  The attention's forward kernel as plain functions of vectors: what one window of 384 keys does to the rest and to the
  accumulator of each of the four heads, and the sweep over the windows by recursion on the number of key blocks left.
-/
module

public import proofs.«01_k».proof.Proof.Blocks
public import proofs.«01_k».proof.Proof.Gen.KernelFwd.Skeleton
public import Idealize.ShloMosaic.Lib.Pointwise
public import Idealize.ShloMosaic.Lib.Tactic

@[expose] public section

noncomputable section

namespace Cert.Fwd

open Idealize.ShloMosaic Idealize.ShloMosaic.TcCoe
open Cert.Blocks Cert.KernelFwd Cert.KernelFwd.Gen

variable {F : FTy → Type} [FloatOps F]

/-- The window of 384 rows that ends with block `n` (or starts at row 0), head `h`'s columns. -/
def rows (x : Vec F S1x8192x512 .bf16) (n : ℕ) (h : Fin 4) : Vec F S1x384x128 .bf16 := fun j =>
  x (ix3 (0 : Fin 1) (⟨min (128 * (n - 3) + (j 1).val) 8191, by omega⟩ : Fin 8192) (⟨min (128 * h.val + (j 2).val) 511, by omega⟩ : Fin 512))

/-- Head `h`'s columns of a block of queries, -/
def quarter (x : Vec F S1x128x512 .bf16) (h : Fin 4) : Vec F S1x128x128 .bf16 := fun j =>
  x (ix3 (0 : Fin 1) (⟨(j 1).val, (j 1).isLt⟩ : Fin 128) (⟨min (128 * h.val + (j 2).val) 511, by omega⟩ : Fin 512))

/-- and of a slab of keys. -/
def slab (x : Vec F S1x8192x512 .bf16) (h : Fin 4) : Vec F S1x8192x128 .bf16 := fun j =>
  x (ix3 (0 : Fin 1) (⟨(j 1).val, (j 1).isLt⟩ : Fin 8192) (⟨min (128 * h.val + (j 2).val) 511, by omega⟩ : Fin 512))

/-- What stays the same over one block of queries: the stand-in of a masked score, the threshold of the exit, the bounds
    of the scores, the positions, the queries, the key and value slabs and the triangular matrix. -/
structure Env (F : FTy → Type) where
  mask : F .f32
  exit : F .f32
  b : Fin 4 → FVec F S128x1 .f32
  pos : IVec S128x1 32
  q : Fin 4 → FVec F S128x128 .bf16
  k : Vec F S1x8192x512 .bf16
  v : Vec F S1x8192x512 .bf16
  su : Vec F S384x384 .bf16

/-- What the sweep carries: each head's rest and its accumulator. -/
structure St (F : FTy → Type) where
  r : Fin 4 → FVec F S128x1 .f32
  o : Fin 4 → FVec F S128x128 .f32

variable (e : Env F)

/-- One head's scores of the keys `k` that end at word `w`, -/
def score1 (mask : F .f32) (pos : IVec S128x1 32) (q : FVec F S128x128 .bf16) (w : BitVec 32) (k : Vec F S1x384x128 .bf16) : FVec F S128x384 .f32 :=
  k0_pay64 (k0_pay59 q k) (k0_pay61 pos w) mask

/-- the rest after them, -/
def rest (r : FVec F S128x1 .f32) (z : FVec F S128x384 .f32) : FVec F S128x1 .f32 := k0_pay82 r (k0_pay67 z)

/-- and the accumulator. -/
def acc (o : FVec F S128x128 .f32) (z : FVec F S128x384 .f32) (r : FVec F S128x1 .f32) (su : Vec F S384x384 .bf16) (v : Vec F S1x384x128 .bf16) :
    FVec F S128x128 .f32 := k0_pay78 o z (k0_pay72 r (k0_pay67 z) su) v

/-- Head `h`'s scores in the window that ends with block `n`. -/
def score (n : ℕ) (h : Fin 4) : FVec F S128x384 .f32 := score1 e.mask e.pos (e.q h) (hi n) (rows e.k n h)

/-- One window's step. -/
def step (n : ℕ) (s : St F) : St F where
  r h := rest (s.r h) (score e n h)
  o h := acc (s.o h) (score e n h) (s.r h) e.su (rows e.v n h)

/-- Whether the sweep goes on. -/
def goes (n : ℕ) (s : St F) : Prop :=
  Scalar.andi (Scalar.cmpi .sgt (hi n) 0#32)
    (Scalar.ori (Scalar.ori (Scalar.ori (Scalar.cmpf .ogt (k0_pay4 (e.b 0) (s.r 0)) e.exit) (Scalar.cmpf .ogt (k0_pay4 (e.b 1) (s.r 1)) e.exit))
      (Scalar.cmpf .ogt (k0_pay4 (e.b 2) (s.r 2)) e.exit)) (Scalar.cmpf .ogt (k0_pay4 (e.b 3) (s.r 3)) e.exit)) = 1#1

instance (n : ℕ) (s : St F) : Decidable (goes e n s) := inferInstanceAs (Decidable (_ = _))

/-- The sweep from `n` blocks on. -/
def sweep (n : ℕ) (s : St F) : ℕ × St F :=
  if h : 0 < n ∧ goes e n s then sweep (n - 3) (step e n s) else (n, s)
termination_by n
decreasing_by omega

/-- Where the sweep starts. -/
def start : St F := ⟨fun _ => k0_pay24, fun _ => k0_pay28⟩

/-- What a group's points keep: the bounds of its keys and the triangular matrix. -/
structure Kept (F : FTy → Type) where
  km : Vec F S4 .f32
  su : Vec F S384x384 .bf16

/-- What a group's first point makes of its keys, -/
def fresh (k : Vec F S1x8192x512 .bf16) : Kept F := ⟨fun j => k0_pay10 (slab k ⟨(j 0).val, (j 0).isLt⟩), k0_pay14⟩

/-- and what query block `i` reads. -/
def found (i : Fin 64) (k : Vec F S1x8192x512 .bf16) (s : Kept F) : Kept F := if i.val = 0 then fresh k else s

/-- The sweep's surroundings at query block `i`. -/
def env (mask exit : F .f32) (i : Fin 64) (q : Vec F S1x128x512 .bf16) (k v : Vec F S1x8192x512 .bf16) (s : Kept F) : Env F where
  mask := mask
  exit := exit
  b h := k0_pay19 (quarter q h) (s.km (ix1 h))
  pos := k0_pay23 (BitVec.ofNat 32 i.val)
  q h := k0_pay15 (quarter q h)
  k := k
  v := v
  su := s.su

/-- The whole sweep of query block `i`. -/
def run (i : ℕ) : ℕ × St F := sweep e (i + 1 - 3) (step e (i + 1) start)

/-- What the block leaves: each head's accumulator in its columns. -/
def out (s : St F) : Vec F S128x512 .bf16 := fun j =>
  k0_pay58 (s.o ⟨min ((j 1).val / 128) 3, by omega⟩) (ix2 (⟨(j 0).val, (j 0).isLt⟩ : Fin 128) (⟨(j 1).val % 128, by omega⟩ : Fin 128))

end Cert.Fwd

end
-- ==== Proof.FwdCanon.lean ====
/-
  The forward kernel's printed payloads are the plain functions, head by head.
-/
module

public import proofs.«01_k».proof.Proof.FwdStep
public import proofs.«01_k».proof.Proof.Gen.KernelFwdIdeal.Skeleton

@[expose] public section

noncomputable section

namespace Cert.Fwd

open Idealize.ShloMosaic Idealize.ShloMosaic.TcCoe
open Cert.Blocks Cert.KernelFwdIdeal Cert.KernelFwdIdeal.Gen

variable {F : FTy → Type} [FloatOps F] [Named F]

/-! ## The loop -/

section Loop

variable (pos : IVec S128x1 32) (q : FVec F S128x128 .bf16) (w : BitVec 32) (k v : Vec F S1x384x128 .bf16) (su : Vec F S384x384 .bf16)
variable (r : FVec F S128x1 .f32) (o : FVec F S128x128 .f32) (z p : FVec F S128x384 .f32) (b : IVec S128x384 1)

/-- The stand-in of a masked score. -/
abbrev mask : F .f32 := Named.named κ "mask" 0xF149F2CA#32

theorem loop0_z : k0_pay62 pos q w k = score1 mask pos q w k := rfl
theorem loop1_z : k0_pay63 pos q w k = score1 mask pos q w k := rfl
theorem loop2_z : k0_pay64 (k0_pay59 q k) (k0_pay61 pos w) mask = score1 mask pos q w k := rfl
theorem loop3_z : k0_pay65 (k0_pay60 q k) (k0_pay61 pos w) = score1 mask pos q w k := rfl
theorem loop1_nl : k0_pay68 z = k0_pay67 z := rfl
theorem loop2_nl : k0_pay69 (k0_pay59 q k) (k0_pay61 pos w) mask = k0_pay67 (score1 mask pos q w k) := rfl
theorem loop3_nl : k0_pay71 (k0_pay65 p b) (k0_pay66 p b) k0_pay70 = k0_pay67 (k0_pay65 p b) := rfl
theorem loop0_r : k0_pay82 r (k0_pay67 z) = rest r z := rfl
theorem loop1_r : k0_pay83 r (k0_pay67 z) = rest r z := rfl
theorem loop2_r : k0_pay8 r (k0_pay84 (k0_pay67 z)) = rest r z := rfl
theorem loop3_r : k0_pay9 r (k0_pay67 z) = rest r z := rfl
theorem loop0_o : k0_pay78 o z (k0_pay72 r (k0_pay67 z) su) v = acc o z r su v := rfl
theorem loop1_o : k0_pay79 o z (k0_pay73 r (k0_pay67 z) su) v = acc o z r su v := rfl
theorem loop2_o : k0_pay80 o z (k0_pay74 r (k0_pay67 z) su) v = acc o z r su v := rfl
theorem loop3_o : k0_pay81 r o (k0_pay65 p b) su (k0_pay76 (k0_pay65 p b) (k0_pay66 p b) k0_pay70) (k0_pay77 (k0_pay65 p b) (k0_pay66 p b) k0_pay70 su) v
    = acc o (k0_pay65 p b) r su v := rfl

/-! ## The first window -/

theorem first_words (i : ℕ) (hn : i + 1 ≤ 64) : Scalar.maxsi (Scalar.subi (Scalar.muli (Scalar.addi (BitVec.ofNat 32 i) 1#32) 128#32) 384#32) 0#32 = hi (i + 1 - 3) := by
  have := hi_block ⟨i, by omega⟩
  simp only at this
  rw [this, hi_next _ hn]

theorem first_z (i : ℕ) (hn : i + 1 ≤ 64) : k0_pay34 q (hi (i + 1 - 3)) (k0_pay32 (BitVec.ofNat 32 i)) k = score1 mask (k0_pay23 (BitVec.ofNat 32 i)) q (hi (i + 1)) k := by
  have := hi_block ⟨i, by omega⟩
  simp only at this
  rw [← first_words i hn, ← this]
  rfl

variable (a : BitVec 32) (l : IVec S128x1 32)
theorem first1_z : k0_pay35 q a l k = k0_pay34 q a l k := rfl
theorem first2_z : k0_pay36 q a l k = k0_pay34 q a l k := rfl
theorem first3_z : k0_pay37 q a l k = k0_pay34 q a l k := rfl
theorem first0_nl : k0_pay40 (k0_pay34 q a l k) (k0_pay38 q a l k) k0_pay39 = k0_pay67 (k0_pay34 q a l k) := rfl
theorem first1_nl : k0_pay41 z = k0_pay67 z := rfl
theorem first2_nl : k0_pay42 z = k0_pay67 z := rfl
theorem first3_nl : k0_pay45 (k0_pay43 z) k0_pay44 = k0_pay67 z := rfl
theorem first0_r : k0_pay54 r (k0_pay67 z) = rest r z := rfl
theorem first1_r : k0_pay55 r (k0_pay67 z) = rest r z := rfl
theorem first2_r : k0_pay56 r (k0_pay67 z) = rest r z := rfl
theorem first3_r : k0_pay57 r (k0_pay67 z) = rest r z := rfl
theorem first0_o : k0_pay50 o (k0_pay48 r z (k0_pay67 z) su) v = acc o z r su v := rfl
theorem first1_o : k0_pay51 o (k0_pay49 r z (k0_pay67 z) su) v = acc o z r su v := rfl
theorem first2_o : k0_pay52 o z (k0_pay46 r (k0_pay67 z) su) v = acc o z r su v := rfl
theorem first3_o : k0_pay53 o z (k0_pay47 r (k0_pay43 z) k0_pay44 su) v = acc o z r su v := rfl

end Loop

end Cert.Fwd

end
-- ==== Proof.FwdLoop.lean ====
/-
  The forward sweep runs as its plain function says: the windows in closed form, and the
  loop's label met by induction on the number of key blocks that are left.
-/
module

public import proofs.«01_k».proof.Proof.FwdCanon
public import proofs.«01_k».proof.Proof.Gen.KernelFwdIdeal.Skeleton
public import proofs.«01_k».proof.Proof.Gen.KernelFwdIdeal.Launch
public import proofs.«01_k».proof.Proof.Gen.KernelFwdIdeal.Points
public import proofs.«01_k».proof.Proof.Loads
public import Idealize.ShloMosaic.Lib.Pipeline.FrameSuffix

@[expose] public section

noncomputable section

namespace Cert.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Blocks Cert.KernelFwdIdeal Cert.KernelFwdIdeal.Gen

variable {F : FTy → Type} [FloatOps F] [Named F]

/-- The resources of the kernel's proof. -/
abbrev 𝕄 (F : FTy → Type) := MT nD τ sig Unit (Elt F) ℕ (UR sig nD τ) ℕ

/-! ## The windows -/

theorem off5_eq (n : ℕ) (hn : n ≤ 64) : k0_off5 (hi n) = ![0, 128 * (n - 3), 128 * 0] := by
  unfold k0_off5; dsimp only; rw [sext n hn]
theorem off6_eq (n : ℕ) (hn : n ≤ 64) : k0_off6 (hi n) = ![0, 128 * (n - 3), 128 * 1] := by
  unfold k0_off6; dsimp only; rw [sext n hn]
theorem off7_eq (n : ℕ) (hn : n ≤ 64) : k0_off7 (hi n) = ![0, 128 * (n - 3), 128 * 2] := by
  unfold k0_off7; dsimp only; rw [sext n hn]
theorem off8_eq (n : ℕ) (hn : n ≤ 64) : k0_off8 (hi n) = ![0, 128 * (n - 3), 128 * 3] := by
  unfold k0_off8; dsimp only; rw [sext n hn]

theorem inb3 (n c : ℕ) (hn : n ≤ 64) (hc : c ≤ 3) : ∀ a, (![0, 128 * (n - 3), 128 * c] : Fin 3 → ℕ) a + S1x384x128.size a ≤ S1x8192x512.size a := fun a => by
  fin_cases a
  · show 0 + 1 ≤ 1; omega
  · show 128 * (n - 3) + 384 ≤ 8192; omega
  · show 128 * c + 128 ≤ 512; omega

theorem chk1 (n : ℕ) (hn : n ≤ 64) : k0_chk1 (hi n) := by
  refine ⟨?_, ?_, ?_, ?_, ?_⟩
  · have h : ∀ n : Fin 65, 128 ∣ (k0_mult2 (hi n.val)).toNat := by decide +kernel
    exact h ⟨n, by omega⟩
  · rw [off5_eq n hn]; exact inb3 n 0 hn (by omega)
  · rw [off6_eq n hn]; exact inb3 n 1 hn (by omega)
  · rw [off7_eq n hn]; exact inb3 n 2 hn (by omega)
  · rw [off8_eq n hn]; exact inb3 n 3 hn (by omega)

theorem win_rows (x : Vec F S1x8192x512 .bf16) (n : ℕ) (h : Fin 4) (hn : n ≤ 64) {off : Fin 3 → ℕ} (inb : ∀ a, off a + S1x384x128.size a ≤ S1x8192x512.size a)
    (ho : off = ![0, 128 * (n - 3), 128 * h.val]) : VecWindow.window x off S1x384x128.size inb = rows x n h := by
  subst ho
  funext j
  unfold VecWindow.window rows
  congr 1
  funext a
  apply Fin.ext
  have h1 : (j 1).val < 384 := (j 1).isLt
  have h2 : (j 2).val < 128 := (j 2).isLt
  match a with
  | 0 => have h0 : (j 0).val < 1 := (j 0).isLt; show 0 + 1 * (j 0).val = 0; omega
  | 1 => show 128 * (n - 3) + 1 * (j 1).val = min (128 * (n - 3) + (j 1).val) 8191; omega
  | 2 => show 128 * h.val + 1 * (j 2).val = min (128 * h.val + (j 2).val) 511; omega

/-! ## The loop's label -/

section Sweep

variable (c : Dev nD) (i : grid0.Coords) (a3 : Memref sig .tc .vmem S1x8192x512 .bf16) (h3 : a3.IsWhole) (a4 : Memref sig .tc .vmem S1x8192x512 .bf16) (h4 : a4.IsWhole)
variable (a7 : Memref sig .tc .vmem S384x384 .bf16) (h7 : a7.IsWhole)
variable (e : Env F)

/-- What the sweep holds. -/
def held : sProp (𝕄 F) :=
  iprop(owns c.tc a3 fullShare e.k ∗ owns c.tc a4 fullShare e.v ∗ owns c.tc a7 fullShare e.su)

/-- What its label gives back. -/
abbrev Ret (F : FTy → Type) := BitVec 32 × FVec F S128x1 .f32 × FVec F S128x1 .f32 × FVec F S128x1 .f32 × FVec F S128x1 .f32
  × FVec F S128x128 .f32 × FVec F S128x128 .f32 × FVec F S128x128 .f32 × FVec F S128x128 .f32

abbrev ret (r : ℕ × St F) : Ret F := (hi r.1, r.2.r 0, r.2.r 1, r.2.r 2, r.2.r 3, r.2.o 0, r.2.o 1, r.2.o 2, r.2.o 3)

def spec (n : ℕ) (s : St F) : sWPT (𝕄 F) (Ret F) := do
  sWPT.consume (held c a3 a4 a7 e)
  sWPT.produce (held c a3 a4 a7 e)
  pure (ret (sweep e n s))

theorem spec_apply (n : ℕ) (s : St F) (K : _ → sProp (𝕄 F)) : spec c a3 a4 a7 e n s K
    = iprop(held c a3 a4 a7 e ∗ (held c a3 a4 a7 e -∗ K (ret (sweep e n s)))) := rfl

set_option maxHeartbeats 1600000 in
theorem spec_le (hM : e.mask = Named.named κ "mask" 0xF149F2CA#32) (hE : e.exit = Named.named κ "exit" 0xC2E60000#32)
    (E : Set ℕ) (n : ℕ) : n ≤ 64 → ∀ (s : St F) K, spec c a3 a4 a7 e n s K
    ⊢ wp frame (wpE (defs₀ (F := F)) 𝒱₀ c.tc (some n)) E
      (defs₀ (F := F) .tc 1 ⟨i, e.b 0, e.b 1, e.b 2, e.b 3, e.pos, a3, h3, e.q 0, e.q 1, e.q 2, e.q 3, a7, h7, a4, h4, hi n, s.r 0, s.r 1, s.r 2, s.r 3,
        s.o 0, s.o 1, s.o 2, s.o 3⟩) K := by
  induction n using Nat.strong_induction_on with
  | _ n ih =>
  intro hn s K
  rw [spec_apply, sweep]
  show _ ⊢ wp frame (wpE (defs₀ (F := F)) 𝒱₀ c.tc (some n)) E
    (cc0_while1 i (e.b 0) (e.b 1) (e.b 2) (e.b 3) e.pos a3 h3 (e.q 0) (e.q 1) (e.q 2) (e.q 3) a7 h7 a4 h4 (hi n) (s.r 0) (s.r 1) (s.r 2) (s.r 3)
      (s.o 0) (s.o 1) (s.o 2) (s.o 3)) K
  simp only [cc0_while1_eq_skeleton]; unfold cc0_while1_skel
  dsimp only
  by_cases hg : 0 < n ∧ goes e n s
  · have hg2 := hg.2
    unfold goes at hg2
    rw [hE] at hg2
    have hg3 : Scalar.andi (Scalar.cmpi .sgt (hi n) 0#32)
      (Scalar.ori (Scalar.ori (Scalar.ori (Scalar.cmpf .ogt (k0_pay4 (e.b 0) (s.r 0)) (Named.named κ "exit" 0xC2E60000#32))
        (Scalar.cmpf .ogt (k0_pay5 (e.b 1) (s.r 1)) (Named.named κ "exit" 0xC2E60000#32)))
        (Scalar.cmpf .ogt (k0_pay6 (e.b 2) (s.r 2)) (Named.named κ "exit" 0xC2E60000#32)))
        (Scalar.cmpf .ogt (k0_pay7 (e.b 3) (s.r 3)) (Named.named κ "exit" 0xC2E60000#32))) = 1#1 := hg2
    rw [if_pos hg3, dif_pos hg]
    simp only [k0_part8_eq_skeleton, k0_part9_eq_skeleton, k0_part10_eq_skeleton, k0_part11_eq_skeleton]
    unfold k0_part8_skel k0_part9_skel k0_part10_skel k0_part11_skel held
    simp only [Prog.lift, Prog.bind_op, Prog.bind_ret, Prog.pure_eq_ret]
    iintro ⟨⟨Hk, Hv, Hs⟩, HK⟩
    iapply (wp_assume 𝒱₀ c.tc (some n) E (chk1 n hn))
    simp only [Prog.bind_op, Prog.bind_ret]
    iapply (own_load (rows e.k n 0) (win_rows _ n 0 hn _ (off5_eq n hn))) $$ Hk; iintro Hk
    simp only [Prog.bind_op, Prog.bind_ret]
    iapply (own_load (rows e.k n 1) (win_rows _ n 1 hn _ (off6_eq n hn))) $$ Hk; iintro Hk
    simp only [Prog.bind_op, Prog.bind_ret]
    iapply (own_load (rows e.k n 2) (win_rows _ n 2 hn _ (off7_eq n hn))) $$ Hk; iintro Hk
    simp only [Prog.bind_op, Prog.bind_ret]
    iapply (own_load (rows e.k n 3) (win_rows _ n 3 hn _ (off8_eq n hn))) $$ Hk; iintro Hk
    simp only [Prog.bind_op, Prog.bind_ret]
    iapply (own_load e.su (win_full _ _)) $$ Hs; iintro Hs
    iapply (own_load e.su (win_full _ _)) $$ Hs; iintro Hs
    iapply (own_load e.su (win_full _ _)) $$ Hs; iintro Hs
    iapply (own_load e.su (win_full _ _)) $$ Hs; iintro Hs
    iapply (own_load (rows e.v n 0) (win_rows _ n 0 hn _ (off5_eq n hn))) $$ Hv; iintro Hv
    iapply (own_load (rows e.v n 1) (win_rows _ n 1 hn _ (off6_eq n hn))) $$ Hv; iintro Hv
    iapply (own_load (rows e.v n 2) (win_rows _ n 2 hn _ (off7_eq n hn))) $$ Hv; iintro Hv
    iapply (own_load (rows e.v n 3) (win_rows _ n 3 hn _ (off8_eq n hn))) $$ Hv; iintro Hv
    simp only [loop3_nl, loop3_o]
    simp only [loop0_z, loop1_z, loop2_z, loop3_z, loop1_nl, loop2_nl, loop2_r, loop3_r, loop0_r, loop1_r, loop0_o, loop1_o, loop2_o]
    rw [hi_next n hn]; unfold mask; rw [← hM]
    iapply (wp_call_spec 𝒱₀ c.tc (some n) E (spec c a3 a4 a7 e (n - 3) (step e n s)) (n - 3)
      (fun u hu => by cases hu; show n - 3 < n; omega) (ih (n - 3) (by omega) (by omega) (step e n s)))
    rw [spec_apply]; unfold held
    isplitl [Hk Hv Hs]
    · isplitl [Hk]; · iexact Hk
      isplitl [Hv]; · iexact Hv
      iexact Hs
    iintro H
    rw [wp_ret]; imodintro
    iapply HK
    iexact H
  · rw [dif_neg hg, if_neg (fun h => by
      rcases Nat.eq_zero_or_pos n with h0 | h0
      · subst h0; exact sgt_zero _ h
      · exact hg ⟨h0, by unfold goes; rw [hE]; exact h⟩)]
    iintro ⟨H, HK⟩
    rw [Prog.pure_eq_ret, wp_ret]; imodintro
    iapply HK
    iexact H

end Sweep

end Cert.Fwd

end
-- ==== Proof.FwdBody.lean ====
/-
  One block of queries of the attention's forward kernel: the body, from what it finds in the buffers to what it leaves.
-/
module

public import proofs.«01_k».proof.Proof.FwdLoop

@[expose] public section

noncomputable section

namespace Cert.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Blocks Cert.KernelFwdIdeal Cert.KernelFwdIdeal.Gen

variable {F : FTy → Type} [FloatOps F] [Named F]

/-! ## Windows of the blocks -/

theorem win_quarter (x : Vec F S1x128x512 .bf16) (h : Fin 4) {off : Fin 3 → ℕ} (inb : ∀ a, off a + S1x128x128.size a ≤ S1x128x512.size a)
    (ho : off = ![0, 0, 128 * h.val]) : VecWindow.window x off S1x128x128.size inb = quarter x h := by
  subst ho
  funext j
  unfold VecWindow.window quarter
  congr 1
  funext a
  apply Fin.ext
  have h2 : (j 2).val < 128 := (j 2).isLt
  match a with
  | 0 => have h0 : (j 0).val < 1 := (j 0).isLt; show 0 + 1 * (j 0).val = 0; omega
  | 1 => show 0 + 1 * (j 1).val = (j 1).val; omega
  | 2 => show 128 * h.val + 1 * (j 2).val = min (128 * h.val + (j 2).val) 511; omega

theorem win_slab (x : Vec F S1x8192x512 .bf16) (h : Fin 4) {off : Fin 3 → ℕ} (inb : ∀ a, off a + S1x8192x128.size a ≤ S1x8192x512.size a)
    (ho : off = ![0, 0, 128 * h.val]) : VecWindow.window x off S1x8192x128.size inb = slab x h := by
  subst ho
  funext j
  unfold VecWindow.window slab
  congr 1
  funext a
  apply Fin.ext
  have h2 : (j 2).val < 128 := (j 2).isLt
  match a with
  | 0 => have h0 : (j 0).val < 1 := (j 0).isLt; show 0 + 1 * (j 0).val = 0; omega
  | 1 => show 0 + 1 * (j 1).val = (j 1).val; omega
  | 2 => show 128 * h.val + 1 * (j 2).val = min (128 * h.val + (j 2).val) 511; omega

theorem win_word (x : Vec F S4 .f32) (p : Fin 4) {off : Fin 1 → ℕ} (inb : ∀ a, off a + S1.size a ≤ S4.size a) (h : off = ![p.val]) :
    VecWindow.window x off S1.size inb = fun _ => x (ix1 p) := by
  subst h
  funext j
  unfold VecWindow.window
  congr 1
  funext a
  apply Fin.ext
  match a with
  | 0 => have h0 : (j 0).val < 1 := (j 0).isLt; show p.val + 1 * (j 0).val = p.val; omega

/-- Word `p` put. -/
def wput (x : Vec F S4 .f32) (p : ℕ) (w : F .f32) : Vec F S4 .f32 := VecWindow.put x ![p] S1.size (fun _ => w)

theorem put_word (x : Vec F S4 .f32) (p : ℕ) (w : F .f32) (j : S4.Idx) :
    wput x p w j = if (j 0).val = p then w else x j := by
  unfold wput VecWindow.put
  by_cases h : (j 0).val = p
  · rw [dif_pos (fun a => by
      match a with
      | 0 => show p ≤ (j 0).val ∧ (j 0).val < p + 1; omega), if_pos h]
  · rw [dif_neg (fun hh => by have := hh 0; change p ≤ (j 0).val ∧ (j 0).val < p + 1 at this; omega), if_neg h]

theorem put_words (x : Vec F S4 .f32) (f : Fin 4 → F .f32) :
    wput (wput (wput (wput x 0 (f 0)) 1 (f 1)) 2 (f 2)) 3 (f 3) = fun j => f ⟨(j 0).val, (j 0).isLt⟩ := by
  funext j
  rw [put_word, put_word, put_word, put_word]
  have hj : (j 0).val < 4 := (j 0).isLt
  generalize hp : (⟨(j 0).val, (j 0).isLt⟩ : Fin 4) = p
  have hv : (j 0).val = p.val := by rw [← hp]
  rw [hv]
  fin_cases p <;> rfl

/-- Quarter `c` put. -/
def qput (x : Vec F S128x512 .bf16) (c : ℕ) (w : Vec F S128x128 .bf16) : Vec F S128x512 .bf16 := VecWindow.put x ![0, 128 * c] S128x128.size w

theorem put_quarter (x : Vec F S128x512 .bf16) (c : ℕ) (w : Vec F S128x128 .bf16) (j : S128x512.Idx) :
    qput x c w j
      = if (j 1).val / 128 = c then w (ix2 (⟨(j 0).val, (j 0).isLt⟩ : Fin 128) (⟨(j 1).val % 128, by omega⟩ : Fin 128)) else x j := by
  have h0 : (j 0).val < 128 := (j 0).isLt
  unfold qput VecWindow.put
  by_cases h : (j 1).val / 128 = c
  · rw [dif_pos (fun a => by
      match a with
      | 0 => show 0 ≤ (j 0).val ∧ (j 0).val < 0 + 128; omega
      | 1 => show 128 * c ≤ (j 1).val ∧ (j 1).val < 128 * c + 128; omega), if_pos h]
    refine congrArg w (funext fun a => Fin.ext ?_)
    match a with
    | 0 => show (j 0).val - 0 = (j 0).val; omega
    | 1 => show (j 1).val - 128 * c = (j 1).val % 128; omega
  · rw [dif_neg (fun hh => by have := hh 1; change 128 * c ≤ (j 1).val ∧ (j 1).val < 128 * c + 128 at this; omega), if_neg h]

theorem put_quarters (x : Vec F S128x512 .bf16) (s : St F) :
    qput (qput (qput (qput x 0 (k0_pay58 (s.o 0))) 1 (k0_pay58 (s.o 1))) 2 (k0_pay58 (s.o 2))) 3 (k0_pay58 (s.o 3)) = out s := by
  funext j
  rw [put_quarter _ 3, put_quarter _ 2, put_quarter _ 1, put_quarter _ 0]
  have hj : (j 1).val < 512 := (j 1).isLt
  unfold out
  generalize hp : (⟨min ((j 1).val / 128) 3, by omega⟩ : Fin 4) = p
  have hv : (j 1).val / 128 = p.val := by rw [← hp]; show _ = min _ 3; omega
  rw [hv]
  fin_cases p <;> rfl

/-! ## The block's number -/

theorem off_eq (i : grid0.Coords) (h : Fin 4) : (![0, (Scalar.indexCast (Scalar.maxsi (Scalar.subi (Scalar.muli (Scalar.addi (BitVec.ofNat 32 (i 1).val) 1#32) 128#32) 384#32) 0#32)).toNat, 128 * h.val] : Fin 3 → ℕ)
    = ![0, 128 * ((i 1).val + 1 - 3), 128 * h.val] := by
  rw [hi_block (i 1), sext _ (by have h : (i 1).val < 64 := (i 1).isLt; omega)]

theorem first_iff (i : Fin 64) : Scalar.cmpi .ne (Scalar.extui (Scalar.cmpi .eq (BitVec.ofNat 32 i.val) 0#32) : BitVec 32) 0#32 = 1#1 ↔ i.val = 0 := by
  revert i; decide +kernel

section Body

variable (c : Dev nD) (i : grid0.Coords)
variable (a2 : Memref sig .tc .vmem S1x128x512 .bf16) (h2 : a2.IsWhole) (a3 : Memref sig .tc .vmem S1x8192x512 .bf16) (h3 : a3.IsWhole)
variable (a4 : Memref sig .tc .vmem S1x8192x512 .bf16) (h4 : a4.IsWhole) (a5 : Memref sig .tc .vmem S128x512 .bf16) (h5 : a5.IsWhole)
variable (a6 : Memref sig .tc .smem S4 .f32) (h6 : a6.IsWhole) (a7 : Memref sig .tc .vmem S384x384 .bf16) (h7 : a7.IsWhole)
variable (q : Vec F S1x128x512 .bf16) (k v : Vec F S1x8192x512 .bf16)

/-- The blocks read, -/
def heldIn : sProp (𝕄 F) :=
  iprop(owns c.tc a2 fullShare q ∗ owns c.tc a3 fullShare k ∗ owns c.tc a4 fullShare v)

/-- and what is kept. -/
def heldKept (s : Kept F) : sProp (𝕄 F) :=
  iprop(owns c.tc a6 fullShare s.km ∗ owns c.tc a7 fullShare s.su)

/-- The state after the body's first lines: a group's start puts the fresh values. -/
theorem part2_run (s : Kept F) (K : _ → sProp (𝕄 F)) :
    iprop(heldIn c a2 a3 a4 q k v ∗ heldKept c a6 a7 s
        ∗ (heldIn c a2 a3 a4 q k v -∗ heldKept c a6 a7 (found (i 1) k s)
          -∗ K ⟨BitVec.ofNat 32 (i 1).val, k0_pay15 (quarter q 0), k0_pay16 (quarter q 1), k0_pay17 (quarter q 2), k0_pay18 (quarter q 3),
            k0_pay19 (quarter q 0) ((found (i 1) k s).km (ix1 (0 : Fin 4))), k0_pay20 (quarter q 1) ((found (i 1) k s).km (ix1 (1 : Fin 4))),
            (found (i 1) k s).km (ix1 (2 : Fin 4))⟩))
      ⊢ wp frame (wpE (defs₀ (F := F)) 𝒱₀ c.tc none) Set.univ
        (k0_part2 i a2 h2 a3 h3 a4 h4 a5 h5 a6 h6 a7 h7) K := by
  simp only [k0_part2_eq_skeleton]; unfold k0_part2_skel
  unfold heldIn heldKept found
  dsimp only
  by_cases hi0 : (i 1).val = 0
  · rw [dif_pos ((first_iff (i 1)).2 hi0), if_pos hi0]
    simp only [k0_part1_eq_skeleton]; unfold k0_part1_skel
    simp only [smemLoad, smemLoadElt, Prog.lift, Prog.bind_op, Prog.bind_ret, Prog.pure_eq_ret]
    iintro ⟨⟨H2, H3, H4⟩, ⟨H6, H7⟩, HK⟩
    iapply (own_load (slab k 0) (win_slab _ 0 _ rfl)) $$ H3; iintro H3
    iapply (own_load _ (win_word _ 0 _ rfl)) $$ H6; iintro H6
    iapply (own_store (wput (s.km) 0 (k0_pay10 (slab k 0))) rfl) $$ H6; iintro H6
    iapply (own_load (slab k 1) (win_slab _ 1 _ rfl)) $$ H3; iintro H3
    iapply (own_load _ (win_word _ 1 _ rfl)) $$ H6; iintro H6
    iapply (own_store (wput (wput (s.km) 0 (k0_pay10 (slab k 0))) 1 (k0_pay10 (slab k 1))) rfl) $$ H6; iintro H6
    iapply (own_load (slab k 2) (win_slab _ 2 _ rfl)) $$ H3; iintro H3
    iapply (own_load _ (win_word _ 2 _ rfl)) $$ H6; iintro H6
    iapply (own_store (wput (wput (wput (s.km) 0 (k0_pay10 (slab k 0))) 1 (k0_pay10 (slab k 1))) 2 (k0_pay10 (slab k 2))) rfl) $$ H6; iintro H6
    iapply (own_load (slab k 3) (win_slab _ 3 _ rfl)) $$ H3; iintro H3
    iapply (own_load _ (win_word _ 3 _ rfl)) $$ H6; iintro H6
    iapply (own_store (fresh k).km ((show _ = wput (wput (wput (wput (s.km) 0 (k0_pay10 (slab k 0))) 1 (k0_pay10 (slab k 1))) 2 (k0_pay10 (slab k 2))) 3 (k0_pay10 (slab k 3)) from rfl).trans (put_words s.km fun h => k0_pay10 (slab k h)))) $$ H6; iintro H6
    iapply (own_load _ (win_full _ _)) $$ H7; iintro H7
    iapply (own_store (fresh k).su (put_full _ _ inb_S384x384_S384x384_0_0)) $$ H7; iintro H7
    iapply (own_load (quarter q 0) (win_quarter _ 0 _ rfl)) $$ H2; iintro H2
    iapply (own_load (quarter q 1) (win_quarter _ 1 _ rfl)) $$ H2; iintro H2
    iapply (own_load (quarter q 2) (win_quarter _ 2 _ rfl)) $$ H2; iintro H2
    iapply (own_load (quarter q 3) (win_quarter _ 3 _ rfl)) $$ H2; iintro H2
    iapply (own_load _ (win_word _ 0 _ rfl)) $$ H6; iintro H6
    iapply (own_load _ (win_word _ 1 _ rfl)) $$ H6; iintro H6
    iapply (own_load _ (win_word _ 2 _ rfl)) $$ H6; iintro H6
    rw [wp_ret]; imodintro
    iapply HK $$ [H2 H3 H4] [H6 H7]
    · isplitl [H2]; · iexact H2
      isplitl [H3]; · iexact H3
      iexact H4
    · isplitl [H6]; · iexact H6
      iexact H7
  · rw [dif_neg (fun h => hi0 ((first_iff (i 1)).1 h)), if_neg hi0]
    simp only [smemLoad, smemLoadElt, Prog.lift, Prog.bind_op, Prog.bind_ret, Prog.pure_eq_ret]
    iintro ⟨⟨H2, H3, H4⟩, ⟨H6, H7⟩, HK⟩
    iapply (own_load (quarter q 0) (win_quarter _ 0 _ rfl)) $$ H2; iintro H2
    iapply (own_load (quarter q 1) (win_quarter _ 1 _ rfl)) $$ H2; iintro H2
    iapply (own_load (quarter q 2) (win_quarter _ 2 _ rfl)) $$ H2; iintro H2
    iapply (own_load (quarter q 3) (win_quarter _ 3 _ rfl)) $$ H2; iintro H2
    iapply (own_load _ (win_word _ 0 _ rfl)) $$ H6; iintro H6
    iapply (own_load _ (win_word _ 1 _ rfl)) $$ H6; iintro H6
    iapply (own_load _ (win_word _ 2 _ rfl)) $$ H6; iintro H6
    rw [wp_ret]; imodintro
    iapply HK $$ [H2 H3 H4] [H6 H7]
    · isplitl [H2]; · iexact H2
      isplitl [H3]; · iexact H3
      iexact H4
    · isplitl [H6]; · iexact H6
      iexact H7

/-- What block `i` works with, -/
abbrev envOf (s : Kept F) : Env F := env mask (Named.named κ "exit" 0xC2E60000#32) (i 1) q k v (found (i 1) k s)
/-- and the block it writes. -/
abbrev after (s : Kept F) : Vec F S128x512 .bf16 := out (run (envOf i q k v s) (i 1).val).2

theorem bound1 (x : Vec F S1x128x128 .bf16) (w : F .f32) : k0_pay20 x w = KernelFwd.Gen.k0_pay19 x w := rfl
theorem bound2 (x : Vec F S1x128x128 .bf16) (w : F .f32) : k0_pay21 (k0_pay17 x) w = KernelFwd.Gen.k0_pay19 x w := rfl
theorem bound3 (x : Vec F S1x128x128 .bf16) (w : F .f32) : k0_pay22 (k0_pay18 x) w = KernelFwd.Gen.k0_pay19 x w := rfl

set_option maxHeartbeats 3200000 in
theorem body_run (s : Kept F) (o5 : Vec F S128x512 .bf16) (K : PUnit → sProp (𝕄 F)) :
    iprop(heldIn c a2 a3 a4 q k v ∗ heldKept c a6 a7 s ∗ owns c.tc a5 fullShare o5
        ∗ (heldIn c a2 a3 a4 q k v -∗ heldKept c a6 a7 (found (i 1) k s) -∗ owns c.tc a5 fullShare (after i q k v s) -∗ K ⟨⟩))
      ⊢ wp frame (wpE (defs₀ (F := F)) 𝒱₀ c.tc none) Set.univ
        (cc0_attn_fwd i a2 h2 a3 h3 a4 h4 a5 h5 a6 h6 a7 h7) K := by
  have hn : (i 1).val + 1 ≤ 64 := by have h : (i 1).val < 64 := (i 1).isLt; omega
  simp only [cc0_attn_fwd_eq_skeleton]; unfold cc0_attn_fwd_skel
  rw [wp_bind]
  iintro ⟨HI, HS, H5, HK⟩
  iapply (part2_run c i a2 h2 a3 h3 a4 h4 a5 h5 a6 h6 a7 h7 q k v s)
  isplitl [HI]; · iexact HI
  isplitl [HS]; · iexact HS
  iintro HI HS
  simp only [k0_part3_eq_skeleton, k0_part4_eq_skeleton, k0_part5_eq_skeleton, k0_part6_eq_skeleton, k0_part7_eq_skeleton]
  unfold k0_part3_skel k0_part4_skel k0_part5_skel k0_part6_skel k0_part7_skel heldIn heldKept
  dsimp only
  icases HI with ⟨H2, H3, H4⟩
  icases HS with ⟨H6, H7⟩
  rw [first_words _ hn]
  simp only [smemLoad, smemLoadElt, Prog.lift, Prog.bind_op, Prog.bind_ret, Prog.pure_eq_ret]
  iapply (own_load _ (win_word _ 3 _ rfl)) $$ H6; iintro H6
  simp only [Prog.bind_op, Prog.bind_ret]
  iapply (own_load (rows k ((i 1).val + 1) 0) (win_rows _ _ 0 hn _ (off_eq i 0))) $$ H3; iintro H3
  iapply (own_load (rows k ((i 1).val + 1) 1) (win_rows _ _ 1 hn _ (off_eq i 1))) $$ H3; iintro H3
  iapply (own_load (rows k ((i 1).val + 1) 2) (win_rows _ _ 2 hn _ (off_eq i 2))) $$ H3; iintro H3
  iapply (own_load (rows k ((i 1).val + 1) 3) (win_rows _ _ 3 hn _ (off_eq i 3))) $$ H3; iintro H3
  iapply (own_load _ (win_full _ _)) $$ H7; iintro H7
  iapply (own_load _ (win_full _ _)) $$ H7; iintro H7
  iapply (own_load _ (win_full _ _)) $$ H7; iintro H7
  iapply (own_load _ (win_full _ _)) $$ H7; iintro H7
  iapply (own_load (rows v ((i 1).val + 1) 0) (win_rows _ _ 0 hn _ (off_eq i 0))) $$ H4; iintro H4
  iapply (own_load (rows v ((i 1).val + 1) 1) (win_rows _ _ 1 hn _ (off_eq i 1))) $$ H4; iintro H4
  iapply (own_load (rows v ((i 1).val + 1) 2) (win_rows _ _ 2 hn _ (off_eq i 2))) $$ H4; iintro H4
  iapply (own_load (rows v ((i 1).val + 1) 3) (win_rows _ _ 3 hn _ (off_eq i 3))) $$ H4; iintro H4
  simp only [first1_z, first2_z, first3_z]
  simp only [first0_nl, first1_nl, first2_nl, first3_nl, first0_r, first1_r, first2_r, first3_r, first0_o, first1_o, first2_o, first3_o, bound1, bound2, bound3]
  simp only [first_z _ _ _ hn]
  iapply (wp_call_spec 𝒱₀ c.tc none Set.univ
    (spec c a3 a4 a7 (envOf i q k v s) ((i 1).val + 1 - 3) (step (envOf i q k v s) ((i 1).val + 1) start)) ((i 1).val + 1 - 3)
    (fun u hu => nomatch hu)
    (spec_le c i a3 h3 a4 h4 a7 h7 (envOf i q k v s) rfl rfl Set.univ ((i 1).val + 1 - 3) (by omega) (step (envOf i q k v s) ((i 1).val + 1) start)))
  rw [spec_apply]; unfold held
  isplitl [H3 H4 H7]
  · isplitl [H3]; · iexact H3
    isplitl [H4]; · iexact H4
    iexact H7
  iintro ⟨H3, H4, H7⟩
  have hfin : run (envOf i q k v s) (i 1).val = sweep (envOf i q k v s) ((i 1).val + 1 - 3) (step (envOf i q k v s) ((i 1).val + 1) start) := rfl
  rw [← hfin]
  generalize hf : run (envOf i q k v s) (i 1).val = fin
  iapply (own_load _ rfl) $$ H5; iintro H5
  iapply (own_store (qput (o5) 0 (k0_pay58 (fin.2.o 0))) rfl) $$ H5; iintro H5
  iapply (own_load _ rfl) $$ H5; iintro H5
  iapply (own_store (qput (qput (o5) 0 (k0_pay58 (fin.2.o 0))) 1 (k0_pay58 (fin.2.o 1))) rfl) $$ H5; iintro H5
  iapply (own_load _ rfl) $$ H5; iintro H5
  iapply (own_store (qput (qput (qput (o5) 0 (k0_pay58 (fin.2.o 0))) 1 (k0_pay58 (fin.2.o 1))) 2 (k0_pay58 (fin.2.o 2))) rfl) $$ H5; iintro H5
  iapply (own_load _ rfl) $$ H5; iintro H5
  iapply (own_store (out fin.2) ((show _ = qput (qput (qput (qput (o5) 0 (k0_pay58 (fin.2.o 0))) 1 (k0_pay58 (fin.2.o 1))) 2 (k0_pay58 (fin.2.o 2))) 3 (k0_pay58 (fin.2.o 3)) from rfl).trans (put_quarters o5 fin.2))) $$ H5; iintro H5
  rw [wp_ret]; imodintro
  iapply HK $$ [H2 H3 H4] [H6 H7] [H5]
  · isplitl [H2]; · iexact H2
    isplitl [H3]; · iexact H3
    iexact H4
  · isplitl [H6]; · iexact H6
    iexact H7
  · rw [show after i q k v s = out fin.2 from by rw [← hf]]
    iexact H5

end Body

end Cert.Fwd

end
-- ==== Proof.FwdRun.lean ====
/-
  The launch of the attention's forward kernel: what stays between blocks of queries, the obligation at a block, the run.
-/
module

public import proofs.«01_k».proof.Proof.FwdBody
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

noncomputable section

namespace Cert.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Blocks Cert.KernelFwdIdeal Cert.KernelFwdIdeal.Gen

variable {F : FTy → Type} [FloatOps F] [Named F]
variable (m : (ℓ : Loc nD τ sig) → Buf (Elt F) ℓ) (ρ : Dev nD → PrngReg)

/-! ## The host lines before the launch -/

/-- The arrays as the launch finds them. -/
abbrev V (c : Dev nD) (b : Ref sig .tc) : Buf (Elt F) ((c : Thread nD τ).loc b) :=
  StableHlo.after hostOps0 (fun b => m (c, b)) (Proc.devRef .tc b)

theorem hostOps0_fresh : (hostOps0 (F := F)).Forall fun op => op.fresh = ∅ := by
  simp only [List.Forall]; repeat' constructor

set_option maxHeartbeats 800000 in
theorem hmain : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

theorem V_arg0 (c : Dev nD) : V m c main_arg0 = m (c.tc.loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The blocks and what is kept between points -/

/-- Window `w`'s block at point `t`. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

variable (c : Dev nD) (t : Fin (cfg0 (F := F)).N)

abbrev bq : Vec F S1x128x512 .bf16 := iblk m c 0 t
abbrev bk : Vec F S1x8192x512 .bf16 := iblk m c 1 t
abbrev bv : Vec F S1x8192x512 .bf16 := iblk m c 2 t

/-- What point `t` leaves when it finds `s`, -/
abbrev keptAt (s : Kept F) : Kept F := found (grid0.coords t 1) (bk m c t) s
/-- and the block it writes. -/
abbrev outAt (s : Kept F) : Vec F S128x512 .bf16 :=
  after (grid0.coords t) (bq m c t) (bk m c t) (bv m c t) s

theorem N_pos : 0 < (cfg0 (F := F)).N := by rw [show (cfg0 (F := F)).N = 256 from N_0]; omega

/-- What point `n` finds (at the first point: anything, which it does not use). -/
def kept (c : Dev nD) : ℕ → Kept F
  | 0 => fresh (bk m c ⟨0, N_pos⟩)
  | n + 1 => if h : n < (cfg0 (F := F)).N then keptAt m c ⟨n, h⟩ (kept c n) else kept c n

theorem kept_succ : kept m c (t.val + 1) = keptAt m c t (kept m c t.val) := by
  rw [kept, dif_pos t.isLt]

theorem coords_one : ∀ t : Fin grid0.N, (grid0.coords t 1).val = t.val % 64 := by decide +kernel
theorem coords_zero : ∀ t : Fin grid0.N, (grid0.coords t 0).val = t.val / 64 := by decide +kernel

theorem found_first (i : Fin 64) (h : i.val = 0) (k : Vec F S1x8192x512 .bf16) (s s' : Kept F) : found i k s = found i k s' := by
  unfold found; rw [if_pos h, if_pos h]
theorem keptAt_first (h : t.val % 64 = 0) (s s' : Kept F) : keptAt m c t s = keptAt m c t s' :=
  found_first _ ((coords_one t).trans h) _ _ _
theorem outAt_first (h : t.val % 64 = 0) (s s' : Kept F) : outAt m c t s = outAt m c t s' := by
  unfold outAt after envOf; rw [found_first _ ((coords_one t).trans h) _ s s']

/-- Between points: the kept buffers, at what the points so far leave, and the generator. -/
def PhiS (c : Dev nD) (n : ℕ) : sProp (𝕄 F) :=
  iprop(∃ s : Kept F, ⌜n ≠ 0 → s = kept m c n⌝
    ∗ heldKept c (Memref.whole cc0_scratch0) (Memref.whole cc0_scratch1) s
    ∗ ∃ r, prngReg c r)

theorem PhiA_eq (c : Dev nD) : (Pipeline.ΦA spec0 c : sProp (𝕄 F))
    = iprop(iprop((∃ d, owns c.tc (Memref.whole cc0_scratch1) fullShare d)
        ∗ (∃ d, owns c.tc (Memref.whole cc0_scratch0) fullShare d)) ∗ (∃ r, prngReg c r)) := by
  unfold Pipeline.ΦA; rw [scopedRest0_eq]; simp only [owns_whole]; try rfl

/-! ## The pipeline's data -/

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t (kept m c t.val)
  Φ t := PhiS m c t.val
  q w := Pipeline.shareOf spec0 w
  owed _ := 0

theorem A_eq (c : Dev nD) (w : Fin (cfg0 (F := F)).W) : (dats m 0 c).A w = V m c (Pipeline.arrRef spec0 w) := by dsimp only [dats]

theorem after0_0 : (dats m 0 c).after 0 t = bq m c t := rfl
theorem after0_1 : (dats m 0 c).after 1 t = bk m c t := rfl
theorem after0_2 : (dats m 0 c).after 2 t = bv m c t := rfl
theorem after0_3 : (dats m 0 c).after 3 t = outAt m c t (kept m c t.val) := rfl

theorem PhiS_castSucc : (dats m 0 c).Φ t.castSucc = PhiS m c t.val := by
  dsimp only [dats]; rw [Fin.val_castSucc]

/-- An input's buffer holds its block at every point, fetched there or not. -/
theorem before0_0 (d) : (dats m 0 c).before 0 t d = bq m c t :=
  (dats m 0 c).before_in_eq_fetched 0 rfl (fun _ => rfl) (fun _ _ _ => rfl) (fun _ => rfl) t d
theorem before0_1 (d) : (dats m 0 c).before 1 t d = bk m c t :=
  (dats m 0 c).before_in_eq_fetched 1 rfl (fun _ => rfl) (fun _ _ _ => rfl) (fun _ => rfl) t d
theorem before0_2 (d) : (dats m 0 c).before 2 t d = bv m c t :=
  (dats m 0 c).before_in_eq_fetched 2 rfl (fun _ => rfl) (fun _ _ _ => rfl) (fun _ => rfl) t d

abbrev ms0_0 : Memref sig .tc .vmem S1x128x512 .bf16 := win0_0.stage ((cfg0 (F := F)).slots t 0)
abbrev ms0_1 : Memref sig .tc .vmem S1x8192x512 .bf16 := win0_1.stage ((cfg0 (F := F)).slots t 1)
abbrev ms0_2 : Memref sig .tc .vmem S1x8192x512 .bf16 := win0_2.stage ((cfg0 (F := F)).slots t 2)
abbrev ms0_3 : Memref sig .tc .vmem S128x512 .bf16 := win0_3.stage ((cfg0 (F := F)).slots t 3)

/-! ## The body at a point -/

/-- The body on anything the inputs' blocks, the kept buffers and the result's block, with what is kept stated at the point. -/
theorem point_run (o5 : Vec F S128x512 .bf16) (K : PUnit → sProp (𝕄 F)) :
    iprop(heldIn c (ms0_0 t) (ms0_1 t) (ms0_2 t) (bq m c t) (bk m c t) (bv m c t) ∗ PhiS m c t.val ∗ owns c.tc (ms0_3 t) fullShare o5
        ∗ (heldIn c (ms0_0 t) (ms0_1 t) (ms0_2 t) (bq m c t) (bk m c t) (bv m c t) -∗ PhiS m c (t.val + 1)
          -∗ owns c.tc (ms0_3 t) fullShare (outAt m c t (kept m c t.val)) -∗ K ⟨⟩))
      ⊢ wp frame (wpE (defs₀ (F := F)) 𝒱₀ c.tc none) Set.univ (bodyAt0 t) K := by
  unfold PhiS bodyAt0
  iintro ⟨HI, ⟨%s, %hs, HS, Hg⟩, HO, HK⟩
  have e1 : keptAt m c t s = kept m c (t.val + 1) := by
    rw [kept_succ]
    by_cases h : t.val = 0
    · exact keptAt_first m c t (by rw [h]) _ _
    · rw [hs h]
  have e2 : outAt m c t s = outAt m c t (kept m c t.val) := by
    by_cases h : t.val = 0
    · exact outAt_first m c t (by rw [h]) _ _
    · rw [hs h]
  rw [← e1, ← e2]
  iapply (body_run c (grid0.coords t) _ _ _ _ _ _ _ _ _ _ _ _ (bq m c t) (bk m c t) (bv m c t) s o5 K)
  isplitl [HI]; · iexact HI
  isplitl [HS]; · iexact HS
  isplitl [HO]; · iexact HO
  iintro HI HS HO
  iapply HK $$ [HI] [HS Hg] [HO]
  · iexact HI
  · iexists _
    isplitr
    swap
    · isplitl [HS]; · iexact HS
      iexact Hg
    ipureintro
    exact fun _ => rfl
  · iexact HO

theorem leaves_live (w : Fin (cfg0 (F := F)).W) (h : (cfg0 (F := F)).idle w ((cfg0 (F := F)).grid.coords t) = false) :
    (dats m 0 c).leavesExact w t = owns c.tc (((cfg0 (F := F)).win w).stage ((cfg0 (F := F)).slots t w)) fullShare ((dats m 0 c).after w t) := by
  unfold Dat.leavesExact; rw [h]
/-- What the body is called with, and what it returns. -/
def bodyPre : sProp (𝕄 F) :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d)))

def bodyPost : sProp (𝕄 F) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 1600000 in
theorem sound_body :
    bodyPre m c t ⊢ wp frame (wpE (defs₀ (F := F)) 𝒱₀ c.tc none) Set.univ (bodyAt0 t) (fun _ => bodyPost m c t) := by
  unfold bodyPre bodyPost
  simp only [before0_0, before0_1, before0_2]
  rw [show (dats m 0 c).owesAt () t.succ = (dats m 0 c).owesAt () t.castSucc from rfl]
  rw [show (dats m 0 c).Φ t.succ = PhiS m c (t.val + 1) from rfl, PhiS_castSucc m c t]
  rw [show (dats m 0 c).leavesExact 0 t = owns c.tc (ms0_0 t) fullShare (bq m c t) from
    (leaves_live m c t 0 rfl).trans (by rw [after0_0]; rfl)]
  rw [show (dats m 0 c).leavesExact 1 t = owns c.tc (ms0_1 t) fullShare (bk m c t) from
    (leaves_live m c t 1 rfl).trans (by rw [after0_1]; rfl)]
  rw [show (dats m 0 c).leavesExact 2 t = owns c.tc (ms0_2 t) fullShare (bv m c t) from
    (leaves_live m c t 2 rfl).trans (by rw [after0_2]; rfl)]
  rw [show (dats m 0 c).leavesExact 3 t = owns c.tc (ms0_3 t) fullShare (outAt m c t (kept m c t.val)) from
    (leaves_live m c t 3 rfl).trans (by rw [after0_3]; rfl)]
  iintro ⟨HΦ, Ho, ⟨%d0, H0⟩, ⟨%d1, H1⟩, ⟨%d2, H2⟩, ⟨%d3, H3⟩⟩
  iapply (point_run m c t ((dats m 0 c).before 3 t d3) _)
  unfold heldIn
  isplitl [H0 H1 H2]
  · isplitl [H0]; · iexact H0
    isplitl [H1]; · iexact H1
    iexact H2
  isplitl [HΦ]; · iexact HΦ
  isplitl [H3]; · iexact H3
  iintro ⟨H0, H1, H2⟩ HΦ H3
  isplitl [HΦ]; · iexact HΦ
  isplitl [Ho]; · iexact Ho
  isplitl [H0]; · iexact H0
  isplitl [H1]; · iexact H1
  isplitl [H2]; · iexact H2
  iexact H3

theorem defs₀_row :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The launch -/

theorem hin (c : Dev nD) : Pipeline.ΦA spec0 c ⊢ (dats m 0 c).Φ 0 := by
  rw [show (dats m 0 c).Φ 0 = PhiS m c 0 from rfl, PhiA_eq]
  unfold PhiS heldKept
  iintro ⟨⟨⟨%d1, H1⟩, ⟨%d0, H0⟩⟩, Hg⟩
  iexists (⟨d0, d1⟩ : Kept F)
  isplitr
  swap
  · isplitl [H0 H1]
    · isplitl [H0]; · iexact H0
      iexact H1
    iexact Hg
  ipureintro
  exact fun h => absurd rfl h

theorem hout (c : Dev nD) : (dats m 0 c).Φ (Fin.last (cfg0 (F := F)).N) ⊢ Pipeline.ΦA spec0 c := by
  rw [show (dats m 0 c).Φ (Fin.last (cfg0 (F := F)).N) = PhiS m c (cfg0 (F := F)).N from rfl, PhiA_eq]
  unfold PhiS heldKept
  iintro ⟨%s, -, ⟨H0, H1⟩, Hg⟩
  isplitr [Hg]
  · isplitl [H1]; · iexists _; iexact H1
    iexists _; iexact H0
  iexact Hg

set_option backward.isDefEq.respectTransparency.types false in
set_option maxHeartbeats 800000 in
/-- The launch: every array at what the points leave in it, and every counter at zero. -/
theorem run_main_quiescent : θ_run defs (onTc (τ := τ) (main (F := F))) (s₀ m ρ)
    (fun r => (Pipeline.FramePost (cfgs (F := F)) (dats m) 0 (V m)) r ∧ r.2.sem = fun _ => 0) :=
  Pipeline.θ_run_frame_track_shared (Q' := _) (cfgs (F := F)) (dats m) (0 : Fin 1) launch₀0 defs₀ 𝒱₀ m ρ main
    (hbody := fun c => (body_obligation m c).loose) (hq := fun _ _ _ => rfl)
    (howed := fun _ _ => rfl) (V := V m) (hmain := hmain m) (hA := A_eq m) (hin := hin m) (hout := hout m)

theorem run_main : θ_run defs (onTc (τ := τ) (main (F := F))) (s₀ m ρ) (Pipeline.FramePost (cfgs (F := F)) (dats m) 0 (V m)) :=
  (θ_run defs _ _).mono (fun _ h => h.1) (run_main_quiescent m ρ)

/-- The arguments end as they were. -/
theorem unchanged_of {r : PUnit × MemSt nD τ sig (Elt F)} (h : Pipeline.FramePost (cfgs (F := F)) (dats m) 0 (V m) r) (c : Dev nD) :
    r.2.mem ((c.tc : Thread nD τ).loc main_arg0) = m ((c.tc : Thread nD τ).loc main_arg0) :=
  ((h c).2 main_arg0 (Pipeline.mem_restRefs_of main_arg0 (by decide) (by decide : ∀ w : Fin 4, (spec0 w).arr.view.ref ≠ main_arg0))).trans (V_arg0 m c)

/-- The frame. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => unchanged_of m h.1 c, h.2⟩) (run_main_quiescent m ρ)

end Cert.Fwd

end
-- ==== Proof.FwdReal.lean ====
/-
  One head's step of the forward sweep on reals, and the whole sweep: the rest is the sum of what the keys so far leave, the
  accumulator the sum of their weights times their values. The exit never happens, so the sweep ends at the first key.
-/
module

public import proofs.«01_k».proof.Proof.FwdCanon
public import proofs.«01_k».proof.Proof.AttnLive

@[expose] public section

noncomputable section

namespace Cert.Fwd

open Idealize.ShloMosaic Idealize.ShloMosaic.TcCoe
open Cert.Blocks Cert.KernelFwd Cert.KernelFwd.Gen Cert.AttnMath Cert.Common

theorem mask_apply (i n : ℕ) (hi64 : i < 64) (hn : n ≤ i + 1) (a : Fin 128) (j : Fin 384) :
    k0_pay61 (k0_pay23 (BitVec.ofNat 32 i)) (hi n) (ix2 a j) = if live i n a j then 1#1 else 0#1 := by
  pointwise [k0_pay61, k0_pay23]
  rw [hi_next n (by omega), show IntOp.addi (Scalar.muli (BitVec.ofNat 32 i) 128#32) (BitVec.ofNat 32 a.val) = BitVec.ofNat 32 (128 * i + a.val) by
    show BitVec.ofNat 32 i * BitVec.ofNat 32 128 + _ = _
    rw [BitVec.ofNat_add, BitVec.ofNat_mul, BitVec.mul_comm],
    minsi_ofNat _ _ (by omega) (by omega), subi_ofNat _ _ (by omega)]
  unfold IntOp.cmpi; dsimp only
  rw [slt_ofNat _ _ (by omega) (by omega)]
  by_cases h : live i n a j
  · rw [if_pos h, decide_eq_true (by unfold live at h; omega)]; rfl
  · rw [if_neg h, decide_eq_false (by unfold live at h; omega)]; rfl

section Scalars

variable {z : FVec Ideal S128x384 .f32} {Z : Fin 128 → Fin 384 → ℝ} {p : Fin 128 → Fin 384 → Prop} [∀ a j, Decidable (p a j)]

theorem nl_apply (hz : Masked z p Z) (a : Fin 128) (j : Fin 384) :
    k0_pay67 z (ix2 a j) = ((if p a j then nlz (Z a j) else 0 : ℝ) : EReal) := by
  pointwise [k0_pay67]
  rw [Ideal.absf_def]
  by_cases h : p a j
  · rw [if_pos h, (hz a j).1 h, abs_real, ← EReal.coe_zero, ← EReal.coe_one, ← EReal.coe_sub, Ideal.exp_coe, ← EReal.coe_add, zero_sub]
    rw [log_real (one_add_ex (Z a j)), max_real, ← EReal.coe_add, ← EReal.coe_sub]; rfl
  · rw [if_neg h, (hz a j).2 h]
    simp [← EReal.coe_one, log_real]

/-- The weights of a window's keys. -/
theorem wt_apply {r : FVec Ideal S128x1 .f32} {su : Vec Ideal S384x384 .bf16} {R : Fin 128 → ℝ} (hz : Masked z p Z)
    (hr : ∀ a, r (ix2 a 0) = (R a : EReal)) (hs : ∀ x j : Fin 384, su (ix2 x j) = ((if j.val ≤ x.val then 1 else 0 : ℝ) : EReal))
    (a : Fin 128) (j : Fin 384) :
    Ideal.exp (z (ix2 a j) + k0_pay72 r (k0_pay67 z) su (ix2 a j)) =
      ((if p a j then Real.exp (Z a j + ((∑ x : Fin 384, if j.val ≤ x.val then (if p a x then nlz (Z a x) else 0) else 0) + R a))
      else 0 : ℝ) : EReal) := by
  have hn : ∀ x, k0_pay67 z (ix2 a x) = ((if p a x then nlz (Z a x) else 0 : ℝ) : EReal) := nl_apply hz a
  have hw : k0_pay72 r (k0_pay67 z) su (ix2 a j) =
      (((∑ x : Fin 384, if j.val ≤ x.val then (if p a x then nlz (Z a x) else 0) else 0) + R a : ℝ) : EReal) := by
    pointwise [k0_pay72]
    rw [within_apply hn (fun x => hs x j), hr, ← EReal.coe_add]
  rw [hw]
  by_cases h : p a j
  · rw [if_pos h, (hz a j).1 h, ← EReal.coe_add, Ideal.exp_coe]
  · rw [if_neg h, (hz a j).2 h, EReal.bot_add, Ideal.exp_bot, EReal.coe_zero]

end Scalars

/-! ## One head's step -/

theorem colInv_none (i : ℕ) (f : ℕ → ℕ → ℝ) : ColInv i (i + 1) f k0_pay24 := by
  intro a
  pointwise [k0_pay24]
  rw [Finset.Ico_eq_empty_of_le (by omega), Finset.sum_empty, EReal.coe_zero]

/-- The accumulator, of the keys from block `n` on. -/
def OInv (H : Head) (i n : ℕ) (x : FVec Ideal S128x128 .f32) : Prop :=
  ∀ a d : Fin 128, x (ix2 a d) =
    ((∑ s ∈ Finset.Ico (128 * n) (128 * i + a.val), wgt H (128 * i + a.val) s * H.v s d : ℝ) : EReal)

theorem oInv_none (H : Head) (i : ℕ) : OInv H i (i + 1) k0_pay28 := by
  intro a d
  pointwise [k0_pay28]
  rw [Finset.Ico_eq_empty_of_le (by omega), Finset.sum_empty, EReal.coe_zero]

/-- What the sweep's vectors hold: for each head `h` the rows of `H h`, queries from `128 i` on, and the triangle of ones. -/
structure At (H : Fin 4 → Head) (i : ℕ) (e : Env Ideal) : Prop where
  mask : e.mask = ⊥
  exit : e.exit = ⊥
  b : ∀ a, ∃ x : ℝ, e.b 0 (ix2 a 0) = (x : EReal)
  pos : e.pos = k0_pay23 (BitVec.ofNat 32 i)
  q : ∀ h (a d : Fin 128), e.q h (ix2 a d) = ((H h).q (128 * i + a.val) d : EReal)
  k : ∀ (h : Fin 4) (s : Fin 8192) (d : Fin 128), e.k (ix3 (0 : Fin 1) s (⟨min (128 * h.val + d.val) 511, by omega⟩ : Fin 512)) = ((H h).k s.val d : EReal)
  v : ∀ (h : Fin 4) (s : Fin 8192) (d : Fin 128), e.v (ix3 (0 : Fin 1) s (⟨min (128 * h.val + d.val) 511, by omega⟩ : Fin 512)) = ((H h).v s.val d : EReal)
  su : ∀ x j : Fin 384, e.su (ix2 x j) = ((if j.val ≤ x.val then 1 else 0 : ℝ) : EReal)

/-- What the sweep carries with `n` blocks left. -/
structure Inv (H : Fin 4 → Head) (i n : ℕ) (s : St Ideal) : Prop where
  r : ∀ h, ColInv i n (keep (H h)) (s.r h)
  o : ∀ h, OInv (H h) i n (s.o h)

section Step

variable {H : Fin 4 → Head} {i n : ℕ} {e : Env Ideal} (A : At H i e) (hi64 : i < 64) (hn : n ≤ i + 1) (h : Fin 4)
include A hi64 hn

theorem rows_k (j : Fin 384) (d : Fin 128) : rows e.k n h (ix3 (0 : Fin 1) j d) = ((H h).k (128 * (n - 3) + j.val) d : EReal) := by
  have := A.k h ⟨min (128 * (n - 3) + j.val) 8191, by omega⟩ d
  rw [show ((H h).k (128 * (n - 3) + j.val) d) = (H h).k (min (128 * (n - 3) + j.val) 8191) d by congr 1; omega]
  exact this

theorem rows_v (j : Fin 384) (d : Fin 128) : rows e.v n h (ix3 (0 : Fin 1) j d) = ((H h).v (128 * (n - 3) + j.val) d : EReal) := by
  have := A.v h ⟨min (128 * (n - 3) + j.val) 8191, by omega⟩ d
  rw [show ((H h).v (128 * (n - 3) + j.val) d) = (H h).v (min (128 * (n - 3) + j.val) 8191) d by congr 1; omega]
  exact this

theorem score_masked : Masked (score e n h) (live i n) (fun a j => z (H h) (128 * i + a.val) (128 * (n - 3) + j.val)) := by
  intro a j
  have hz : score e n h (ix2 a j) = if live i n a j then (z (H h) (128 * i + a.val) (128 * (n - 3) + j.val) : EReal) else ⊥ := by
    have hk := rows_k A hi64 hn h
    unfold score score1
    rw [A.pos, A.mask]
    generalize rows e.k n h = K at hk
    pointwise [k0_pay64, k0_pay59]
    rw [mask_apply i n hi64 hn a j, ofBits_scale]
    simp only [A.q, hk, ← EReal.coe_mul, coe_sum]
    by_cases h : live i n a j
    · rw [if_pos h, if_pos h]; rfl
    · rw [if_neg h, if_neg h]; rfl
  exact ⟨fun h => by rw [hz, if_pos h], fun h => by rw [hz, if_neg h]⟩

theorem rest_inv {r : FVec Ideal S128x1 .f32} (hr : ColInv i n (keep (H h)) r) : ColInv i (n - 3) (keep (H h)) (rest r (score e n h)) := by
  intro a
  have hx := fun j => nl_apply (score_masked A hi64 hn h) a j
  unfold rest
  generalize k0_pay67 (score e n h) = x at hx
  pointwise [k0_pay82]
  simp only [hr a, hx, coe_sum, ← EReal.coe_add]
  have h2 := live_sum i n hn (keep (H h) (128 * i + a.val)) a 0
  simp only [Nat.zero_le, if_true, Nat.add_zero] at h2
  unfold keep at h2 ⊢
  rw [h2, add_comm, AttnMath.sum_ico_min _ _ _ _ (by omega)]

theorem wt_live {r : FVec Ideal S128x1 .f32} (hr : ColInv i n (keep (H h)) r) (a : Fin 128) (j : Fin 384) :
    Ideal.exp (score e n h (ix2 a j) + k0_pay72 r (k0_pay67 (score e n h)) e.su (ix2 a j)) =
      ((if live i n a j then wgt (H h) (128 * i + a.val) (128 * (n - 3) + j.val) else 0 : ℝ) : EReal) := by
  rw [wt_apply (score_masked A hi64 hn h) hr A.su]
  refine congrArg _ (if_ctx_congr Iff.rfl (fun hl => ?_) fun _ => rfl)
  have h2 := live_sum i n hn (keep (H h) (128 * i + a.val)) a j.val
  unfold keep at h2 ⊢
  rw [h2, wgt]; unfold keep
  rw [AttnMath.sum_ico_min _ _ _ _ (by have := lt_of_lt_of_le hl (min_le_right _ _); omega)]

theorem acc_inv {r : FVec Ideal S128x1 .f32} {o : FVec Ideal S128x128 .f32} (hr : ColInv i n (keep (H h)) r) (ho : OInv (H h) i n o) :
    OInv (H h) i (n - 3) (acc o (score e n h) r e.su (rows e.v n h)) := by
  intro a d
  have hw := wt_live A hi64 hn h hr a
  have hv := rows_v A hi64 hn h
  unfold acc
  generalize k0_pay72 r (k0_pay67 (score e n h)) e.su = w at hw
  generalize score e n h = Z at hw
  generalize rows e.v n h = V at hv
  pointwise [k0_pay78]
  simp only [ho a d, hw, hv, ← EReal.coe_mul, coe_sum, ← EReal.coe_add, ite_mul, zero_mul]
  have h2 := live_sum i n hn (fun s => wgt (H h) (128 * i + a.val) s * (H h).v s d) a 0
  simp only [Nat.zero_le, if_true, Nat.add_zero] at h2
  rw [h2, add_comm, AttnMath.sum_ico_min _ _ _ _ (by omega)]

omit h in
theorem step_inv {s : St Ideal} (hs : Inv H i n s) : Inv H i (n - 3) (step e n s) :=
  ⟨fun h => rest_inv A hi64 hn h (hs.r h), fun h => acc_inv A hi64 hn h (hs.r h) (hs.o h)⟩

end Step

/-! ## No exit -/

theorem bound_gt {b r : FVec Ideal S128x1 .f32} (hb : ∀ a, ∃ x : ℝ, b (ix2 a 0) = (x : EReal)) (hr : ∀ a, ∃ x : ℝ, r (ix2 a 0) = (x : EReal)) :
    ⊥ < k0_pay4 b r := by
  pointwise [k0_pay4]
  refine (Finset.lt_fold_max _).2 (Or.inr ⟨(0, 0), Finset.mem_univ _, ?_⟩)
  obtain ⟨x, hx⟩ := hb 0
  obtain ⟨y, hy⟩ := hr 0
  show ⊥ < r (ix2 0 0) + b (ix2 0 0)
  rw [hx, hy, ← EReal.coe_add]; exact EReal.bot_lt_coe _

section Sweep

variable {H : Fin 4 → Head} {i : ℕ} {e : Env Ideal} (A : At H i e) (hi64 : i < 64)
include A hi64

theorem goes_on {n : ℕ} {s : St Ideal} (h0 : 0 < n) (hn : n ≤ i + 1) (hs : Inv H i n s) : goes e n s := by
  have h1 : Scalar.cmpf (F := Ideal) (φ := .f32) .ogt (k0_pay4 (e.b 0) (s.r 0)) e.exit = 1#1 := by
    rw [A.exit]
    show Ideal.cmp .ogt (k0_pay4 (e.b 0) (s.r 0)) ⊥ = 1#1
    simp [Ideal.cmp, bound_gt A.b fun a => ⟨_, hs.r 0 a⟩]
  have one : ∀ x y z : BitVec 1, Scalar.andi 1#1 (Scalar.ori (Scalar.ori (Scalar.ori 1#1 x) y) z) = 1#1 := by decide
  unfold goes; rw [hi_pos n h0 (by omega), h1]; exact one _ _ _

theorem sweep_inv : ∀ (n : ℕ) (s : St Ideal), n ≤ i + 1 → Inv H i n s → Inv H i 0 (sweep e n s).2 := by
  intro n
  induction n using Nat.strong_induction_on with
  | _ n ih =>
    intro s hn hs
    rw [sweep]
    by_cases h : 0 < n
    · rw [dif_pos ⟨h, goes_on A hi64 h hn hs⟩]
      exact ih (n - 3) (by omega) _ (by omega) (step_inv A hi64 hn hs)
    · obtain rfl : n = 0 := by omega
      rw [dif_neg fun h' => h h'.1]; exact hs

theorem run_inv : Inv H i 0 (run e i).2 :=
  sweep_inv A hi64 _ _ (by omega) (step_inv A hi64 le_rfl ⟨fun h => colInv_none i _, fun h => oInv_none _ i⟩)

end Sweep

end Cert.Fwd

end
-- ==== Proof.FwdKernel.lean ====
/-
  The attention's forward kernel on real arguments: the blocks it reads, what is kept between blocks of queries, and the array
  it leaves.
-/
module

public import proofs.«01_k».proof.Proof.FwdRun
public import proofs.«01_k».proof.Proof.FwdReal
public import Idealize.ShloMosaic.Lib.StableHlo.ReadAt

@[expose] public section

noncomputable section

namespace Cert.Fwd

open Idealize.ShloMosaic Idealize.ShloMosaic.TcCoe Idealize.SL.Sem
open Idealize.ShloMosaic.Pipeline (Dat)
open Cert.Blocks Cert.KernelFwdIdeal Cert.KernelFwdIdeal.Gen Cert.AttnMath Cert.Common

variable (m : (ℓ : Loc nD τ sig) → Buf (Elt Ideal) ℓ)

/-! ## The blocks -/

theorem idx_facts : ∀ t : Fin grid0.N,
    (1536 * win0_0.index t 0 + 512 * win0_0.index t 2 = 512 * (t.val / 64) ∧ win0_0.index t 1 = t.val % 64) ∧
    (1536 * win0_1.index t 0 + 512 * win0_1.index t 2 = 2048 + 512 * (t.val / 64) ∧ win0_1.index t 1 = 0) ∧
    (1536 * win0_2.index t 0 + 512 * win0_2.index t 2 = 4096 + 512 * (t.val / 64) ∧ win0_2.index t 1 = 0) ∧
    (win0_3.index t 0 = t.val % 64 ∧ win0_3.index t 1 = t.val / 64) := by decide +kernel

theorem idx_lt : ∀ t : Fin grid0.N, (win0_0.index t 0 < 4 ∧ win0_0.index t 2 < 3) ∧ (win0_1.index t 0 < 4 ∧ win0_1.index t 2 < 3) ∧
    (win0_2.index t 0 < 4 ∧ win0_2.index t 2 < 3) := by decide +kernel

theorem V_qkv (c : Dev nD) (p : Fin 4) (r : Fin 8192) (x : Fin 1536) :
    (V m c main_v2 : Vec Ideal S4x8192x1536 .bf16) (ix3 p r x)
      = (m (c.tc.loc main_arg0) : Vec Ideal S8192x6144 .f32) (ix2 r ⟨p.val * 1536 + x.val, by omega⟩) := by
  unfold V hostOps0
  after_reads_at

theorem t_lt (t : Fin (cfg0 (F := Ideal)).N) : t.val < 256 := lt_of_lt_of_eq t.isLt N_0

/-- A block of the packed rows, of an array's place for it. -/
theorem place (c : Dev nD) (A B : ℕ) (hA : A < 4) (hB : B < 3) (r : Fin 8192) (x : Fin 512) (o : ℕ) (ho : 1536 * A + 512 * B = o) (hoo : o + 512 ≤ 6144) :
    (V m c main_v2 : Vec Ideal S4x8192x1536 .bf16) (ix3 ⟨A, hA⟩ r ⟨512 * B + x.val, by omega⟩)
      = (m (c.tc.loc main_arg0) : Vec Ideal S8192x6144 .f32) (ix2 r ⟨o + x.val, by omega⟩) := by
  refine (V_qkv m c ⟨A, hA⟩ r _).trans ?_
  congr 2; apply Fin.ext; show A * 1536 + (512 * B + x.val) = o + x.val; omega

theorem bq_apply (c : Dev nD) (t : Fin (cfg0 (F := Ideal)).N) (a : Fin 128) (x : Fin 512) :
    bq m c t (ix3 (0 : Fin 1) a x) = (m (c.tc.loc main_arg0) : Vec Ideal S8192x6144 .f32)
      (ix2 ⟨128 * (t.val % 64) + a.val, by omega⟩ ⟨512 * (t.val / 64) + x.val, by have := t_lt t; omega⟩) := by
  have hi := (idx_facts t).1
  have hl := (idx_lt t).1
  have := t_lt t
  refine Eq.trans ?_ (place m c _ _ hl.1 hl.2 ⟨128 * (t.val % 64) + a.val, by omega⟩ x _ hi.1 (by omega))
  unfold bq iblk; rw [View.read_apply]
  show V m c main_v2 _ = _
  congr 1; funext b; apply Fin.ext
  match b with
  | ⟨0, _⟩ => show win0_0.index t 0 * 1 + 1 * 0 = win0_0.index t 0; omega
  | ⟨1, _⟩ => show win0_0.index t 1 * 128 + 1 * a.val = 128 * (t.val % 64) + a.val; rw [hi.2]; omega
  | ⟨2, _⟩ => show win0_0.index t 2 * 512 + 1 * x.val = 512 * win0_0.index t 2 + x.val; omega

theorem bk_apply (c : Dev nD) (t : Fin (cfg0 (F := Ideal)).N) (s : Fin 8192) (x : Fin 512) :
    bk m c t (ix3 (0 : Fin 1) s x) = (m (c.tc.loc main_arg0) : Vec Ideal S8192x6144 .f32)
      (ix2 s ⟨2048 + 512 * (t.val / 64) + x.val, by have := t_lt t; omega⟩) := by
  have hi := (idx_facts t).2.1
  have hl := (idx_lt t).2.1
  have := t_lt t
  refine Eq.trans ?_ (place m c _ _ hl.1 hl.2 s x _ hi.1 (by omega))
  unfold bk iblk; rw [View.read_apply]
  show V m c main_v2 _ = _
  congr 1; funext b; apply Fin.ext
  match b with
  | ⟨0, _⟩ => show win0_1.index t 0 * 1 + 1 * 0 = win0_1.index t 0; omega
  | ⟨1, _⟩ => show win0_1.index t 1 * 8192 + 1 * s.val = s.val; rw [hi.2]; omega
  | ⟨2, _⟩ => show win0_1.index t 2 * 512 + 1 * x.val = 512 * win0_1.index t 2 + x.val; omega

theorem bv_apply (c : Dev nD) (t : Fin (cfg0 (F := Ideal)).N) (s : Fin 8192) (x : Fin 512) :
    bv m c t (ix3 (0 : Fin 1) s x) = (m (c.tc.loc main_arg0) : Vec Ideal S8192x6144 .f32)
      (ix2 s ⟨4096 + 512 * (t.val / 64) + x.val, by have := t_lt t; omega⟩) := by
  have hi := (idx_facts t).2.2.1
  have hl := (idx_lt t).2.2
  have := t_lt t
  refine Eq.trans ?_ (place m c _ _ hl.1 hl.2 s x _ hi.1 (by omega))
  unfold bv iblk; rw [View.read_apply]
  show V m c main_v2 _ = _
  congr 1; funext b; apply Fin.ext
  match b with
  | ⟨0, _⟩ => show win0_2.index t 0 * 1 + 1 * 0 = win0_2.index t 0; omega
  | ⟨1, _⟩ => show win0_2.index t 1 * 8192 + 1 * s.val = s.val; rw [hi.2]; omega
  | ⟨2, _⟩ => show win0_2.index t 2 * 512 + 1 * x.val = 512 * win0_2.index t 2 + x.val; omega

/-! ## Real arguments -/

/-- The argument of a device is real. -/
def Reals (c : Dev nD) (X : ℕ → ℕ → ℝ) : Prop :=
  ∀ (i : Fin 8192) (k : Fin 6144), (m (c.tc.loc main_arg0) : Vec Ideal S8192x6144 .f32) (ix2 i k) = (X i.val k.val : EReal)

/-! ## The triangle, the longest key, the bound -/

theorem tri_upper (x j : Fin 384) : (Cert.KernelFwd.Gen.k0_pay14 (F := Ideal)) (ix2 x j) = ((if j.val ≤ x.val then 1 else 0 : ℝ) : EReal) := by
  pointwise [Cert.KernelFwd.Gen.k0_pay14]
  unfold IntOp.cmpi; dsimp only
  rw [sle_ofNat _ _ (by omega) (by omega)]
  by_cases h : j.val ≤ x.val
  · rw [if_pos h, decide_eq_true h]; exact sitofp_one
  · rw [if_neg h, decide_eq_false h]; exact sitofp_zero

theorem longest (k : Vec Ideal S1x8192x128 .bf16) (K : Fin 8192 → Fin 128 → ℝ) (hk : ∀ s d, k (ix3 (0 : Fin 1) s d) = (K s d : EReal)) :
    ∃ r : ℝ, Cert.KernelFwd.Gen.k0_pay10 k = (r : EReal) := by
  pointwise [Cert.KernelFwd.Gen.k0_pay10]
  simp only [hk, ← EReal.coe_mul, coe_sum, ofBits_neg_inf]
  obtain ⟨y, hy, e⟩ := fold_real ((0, 0) : Fin 8192 × Fin 1) (fun x => ∑ d, K x.1 d * K x.1 d) (fun x => Finset.sum_nonneg fun d _ => mul_self_nonneg _)
  rw [e]
  exact ⟨_, sqrt_real hy⟩

theorem bound (q : Vec Ideal S1x128x128 .bf16) (Q : Fin 128 → Fin 128 → ℝ) (hq : ∀ a d, q (ix3 (0 : Fin 1) a d) = (Q a d : EReal)) (r : ℝ)
    (a : Fin 128) : ∃ x : ℝ, Cert.KernelFwd.Gen.k0_pay19 q ((r : ℝ) : EReal) (ix2 a 0) = (x : EReal) := by
  pointwise [Cert.KernelFwd.Gen.k0_pay19, Cert.KernelFwd.Gen.k0_pay15]
  simp only [hq, ofBits_bound, ofBits_slack, ← EReal.coe_mul, coe_sum]
  rw [sqrt_real (Finset.sum_nonneg fun d _ => mul_self_nonneg _)]
  simp only [← EReal.coe_mul, ← EReal.coe_add]
  exact ⟨_, rfl⟩

/-! ## What is kept -/

/-- What a block of queries finds: the longest key's length of head 0 (only that it is real) and the triangle. -/
structure Found (k : Kept Ideal) : Prop where
  km : ∃ r : ℝ, k.km (ix1 (0 : Fin 4)) = (r : EReal)
  su : ∀ x j : Fin 384, k.su (ix2 x j) = ((if j.val ≤ x.val then 1 else 0 : ℝ) : EReal)

variable {m} {c : Dev nD} {X : ℕ → ℕ → ℝ} (h : Reals m c X)
include h

omit h in
theorem fresh_km (k : Vec Ideal S1x8192x512 .bf16) : (fresh k).km (ix1 (0 : Fin 4)) = Cert.KernelFwd.Gen.k0_pay10 (slab k 0) := by
  unfold fresh; dsimp only
  exact congrArg (fun u : Fin 4 => Cert.KernelFwd.Gen.k0_pay10 (slab k u)) (Fin.ext rfl)

omit h in
theorem fresh_su (k : Vec Ideal S1x8192x512 .bf16) (x j : Fin 384) : (fresh k).su (ix2 x j) = (Cert.KernelFwd.Gen.k0_pay14 (F := Ideal)) (ix2 x j) := by
  unfold fresh; dsimp only

theorem fresh_found (t : Fin (cfg0 (F := Ideal)).N) : Found (fresh (bk m c t)) := by
  refine ⟨?_, fun x j => (fresh_su _ x j).trans (tri_upper x j)⟩
  rw [fresh_km]
  refine longest _ (fun s d => X s.val (2048 + 512 * (t.val / 64) + min (128 * 0 + d.val) 511)) fun s d => ?_
  unfold slab
  exact (bk_apply m c t s _).trans (h _ _)

theorem found_kept : ∀ (n : ℕ) (hn : n < (cfg0 (F := Ideal)).N), Found (keptAt m c ⟨n, hn⟩ (kept m c n))
  | 0, hn => by
    have e : (grid0.coords ⟨0, hn⟩ 1).val = 0 := coords_one ⟨0, hn⟩
    unfold keptAt found; rw [if_pos e]; exact fresh_found h ⟨0, hn⟩
  | n + 1, hn => by
    have e : (grid0.coords ⟨n + 1, hn⟩ 1).val = (n + 1) % 64 := coords_one ⟨n + 1, hn⟩
    unfold keptAt found
    by_cases h0 : (n + 1) % 64 = 0
    · rw [if_pos (e.trans h0)]; exact fresh_found h ⟨n + 1, hn⟩
    · rw [if_neg (fun h' => h0 (e.symm.trans h'))]
      have hb := found_kept n (Nat.lt_of_succ_lt hn)
      rwa [← kept_succ] at hb

/-- The surroundings of a block's sweep. -/
theorem surroundings (Y : ℕ → ℕ → ℝ) (t : Fin (cfg0 (F := Ideal)).N) {k : Kept Ideal} (hk : Found k) (i : Fin 64) (hi : i.val = t.val % 64) :
    At (fun u : Fin 4 => head X Y (4 * (t.val / 64) + u.val)) (t.val % 64)
      (env mask (Named.named κ "exit" 0xC2E60000#32) i (bq m c t) (bk m c t) (bv m c t) k) where
  mask := IdealRules.named_const.ideal_named_scalar (φ := .f32) κ "mask" 0xF149F2CA#32 ⊥ rfl
  exit := IdealRules.named_const.ideal_named_scalar (φ := .f32) κ "exit" 0xC2E60000#32 ⊥ rfl
  b a := by
    obtain ⟨r, hr⟩ := hk.km
    unfold env; dsimp only; rw [hr]
    refine bound (quarter (bq m c t) 0) (fun a d => X (128 * (t.val % 64) + a.val) (512 * (t.val / 64) + min (128 * 0 + d.val) 511)) (fun a d => ?_) r a
    unfold quarter; exact (bq_apply m c t a _).trans (h _ _)
  pos := by rw [← hi]; rfl
  q u a d := by
    unfold env; dsimp only
    pointwise [Cert.KernelFwd.Gen.k0_pay15]
    refine (bq_apply m c t a _).trans ((h _ _).trans ?_)
    show ((X (128 * (t.val % 64) + a.val) (512 * (t.val / 64) + min (128 * u.val + d.val) 511) : ℝ) : EReal) = ((X _ (128 * (4 * (t.val / 64) + u.val) + d.val) : ℝ) : EReal)
    congr 2; omega
  k u s d := by
    refine (bk_apply m c t s _).trans ((h _ _).trans ?_)
    show ((X s.val (2048 + 512 * (t.val / 64) + min (128 * u.val + d.val) 511) : ℝ) : EReal) = ((X _ (2048 + 128 * (4 * (t.val / 64) + u.val) + d.val) : ℝ) : EReal)
    congr 2; omega
  v u s d := by
    refine (bv_apply m c t s _).trans ((h _ _).trans ?_)
    show ((X s.val (4096 + 512 * (t.val / 64) + min (128 * u.val + d.val) 511) : ℝ) : EReal) = ((X _ (4096 + 128 * (4 * (t.val / 64) + u.val) + d.val) : ℝ) : EReal)
    congr 2; omega
  su := hk.su

/-- Column `d` of head `u`. -/
abbrev col (u : Fin 4) (d : Fin 128) : Fin 512 := ⟨128 * u.val + d.val, by omega⟩

omit h in
theorem out_apply (s : St Ideal) (a : Fin 128) (u : Fin 4) (d : Fin 128) : out s (ix2 a (col u d)) = s.o u (ix2 a d) := by
  unfold out
  pointwise [Cert.KernelFwd.Gen.k0_pay58]
  show s.o ⟨min ((128 * u.val + d.val) / 128) 3, _⟩ (ix2 a ⟨(128 * u.val + d.val) % 128, _⟩) = _
  rw [show (⟨min ((128 * u.val + d.val) / 128) 3, by omega⟩ : Fin 4) = u from Fin.ext (by show min ((128 * u.val + d.val) / 128) 3 = u.val; omega),
    show (⟨(128 * u.val + d.val) % 128, by omega⟩ : Fin 128) = d from Fin.ext (by show (128 * u.val + d.val) % 128 = d.val; omega)]

/-- A block of queries, of what it finds. -/
theorem block (Y : ℕ → ℕ → ℝ) (t : Fin (cfg0 (F := Ideal)).N) (a : Fin 128) (u : Fin 4) (d : Fin 128) :
    outAt m c t (kept m c t.val) (ix2 a (col u d)) = ((∑ r ∈ Finset.range (128 * (t.val % 64) + a.val),
      wgt (head X Y (4 * (t.val / 64) + u.val)) (128 * (t.val % 64) + a.val) r * (head X Y (4 * (t.val / 64) + u.val)).v r d : ℝ) : EReal) := by
  have e : (grid0.coords t 1).val = t.val % 64 := coords_one t
  have A := surroundings h Y t (found_kept h t.val t.isLt) (grid0.coords t 1) e
  have ho := (run_inv A (by omega)).o u a d
  rw [Nat.mul_zero, ← Finset.range_eq_Ico] at ho
  refine Eq.trans ?_ ho
  unfold outAt after envOf
  rw [e]
  exact out_apply _ a u d

/-! ## The array -/

variable (X)
omit h

/-- The attention's rows. -/
def gO (i : S8192x2048.Idx) : EReal :=
  ((∑ r ∈ Finset.range (i 0).val, wgt (hd X (fun _ _ => 0) (i 1)) (i 0).val r * (hd X (fun _ _ => 0) (i 1)).v r (ix (i 1)) : ℝ) : EReal)

variable {X}

theorem hd_col (Y : ℕ → ℕ → ℝ) (g : ℕ) (hg : g < 4) (u : Fin 4) (d : Fin 128) (x : Fin 2048) (hx : x.val = g * 512 + (128 * u.val + d.val)) :
    hd X Y x = head X Y (4 * g + u.val) ∧ ix x = d :=
  ⟨by unfold hd; congr 1; omega, Fin.ext (by show x.val % 128 = _; omega)⟩

theorem exists_col (b : Fin 512) : ∃ (u : Fin 4) (d : Fin 128), b = col u d :=
  ⟨⟨b.val / 128, by omega⟩, ⟨b.val % 128, by omega⟩, Fin.ext (by show b.val = 128 * (b.val / 128) + b.val % 128; omega)⟩

theorem cover_3 (i : S8192x2048.Idx) : ∃ t : Fin (cfg0 (F := Ideal)).N, (cfg0.win 3).flush t = true ∧ i ∈ ((cfg0.win 3).blk t).view.set := by
  have h0 : _ < 8192 := (i 0).isLt
  have h1 : _ < 2048 := (i 1).isLt
  obtain ⟨t, ht⟩ : ∃ t : Fin (cfg0 (F := Ideal)).N, t.val = 64 * ((i 1).val / 512) + (i 0).val / 128 :=
    ⟨⟨_, lt_of_lt_of_eq (by omega : 64 * ((i 1).val / 512) + (i 0).val / 128 < 256) N_0.symm⟩, rfl⟩
  refine ⟨t, flush0_3 _, ?_⟩
  have hi := (idx_facts t).2.2.2
  exact in_rect (all2 (in_blk (i 0).val 128 hi.1 (by omega)) (in_blk (i 1).val 512 hi.2 (by omega)))

include h

theorem final_3 : (dats m 0 c).arrAt 3 (cfg0 (F := Ideal)).N = gO X :=
  (dats m 0 c).arrAt_eq_of_cover 3 (gO X) (fun t _ => by
    have hi := (idx_facts t).2.2.2
    have hN := t_lt t
    rw [show (dats m 0 c).flushed 3 t = (dats m 0 c).after 3 t from rfl, after0_3]
    refine ext2 fun a b => ?_
    rw [View.read_apply]
    obtain ⟨u, d, rfl⟩ := exists_col b
    refine (block h (fun _ _ => 0) t a u d).trans ?_
    have e0 : (((cfg0.win 3).blk t).view.emb (ix2 a (col u d)) 0 : Nat) = 128 * (t.val % 64) + a.val := by
      show win0_3.index t 0 * 128 + 1 * a.val = _; rw [hi.1]; omega
    have e1 := hd_col (X := X) (fun _ _ => 0) (t.val / 64) (by omega) u d (((cfg0.win 3).blk t).view.emb (ix2 a (col u d)) 1) (by
      show win0_3.index t 1 * 512 + 1 * (128 * u.val + d.val) = _; rw [hi.2]; omega)
    unfold gO
    rw [e0, e1.1, e1.2]
    rfl) cover_3

end Cert.Fwd

end
-- ==== Proof.FwdRef.lean ====
/-
  The attention's forward reference on real arguments, stage by stage.
-/
module

public import proofs.«01_k».proof.Proof.AttnLive
public import proofs.«01_k».proof.Proof.Gen.ReferenceFwdIdeal.Run
public import proofs.«01_k».proof.Proof.Gen.ReferenceFwdIdeal.Read
public import Idealize.ShloMosaic.Lib.Pointwise

@[expose] public section

noncomputable section

namespace Cert.ReferenceFwdIdeal.Val

open Cert.ReferenceFwdIdeal Cert.ReferenceFwdIdeal.Gen Cert.ReferenceFwdIdeal.Read Cert.AttnMath Cert.Common
open Idealize.ShloMosaic

theorem bits_const (b : BitVec 32) : (id (constant (F := Ideal) S_ .f32 b) ix0 : EReal) = Ideal.ofBits .f32 b := rfl

section Stages

variable {x0 : Vec Ideal S8192x6144 .f32} {X Y : ℕ → ℕ → ℝ}
  (h0 : ∀ (i : Fin 8192) (k : Fin 6144), x0 (ix2 i k) = (X i.val k.val : EReal))

section One
include h0

theorem v4 (h : Fin 16) (t : Fin 8192) (d : Fin 128) : val_main_v4 (F := Ideal) x0 (ix3 h t d) = ((head X Y h.val).q t.val d : EReal) := by
  pointwise [val_main_v4, val_main_v3, val_main_v0]
  rw [h0]
  exact EReal.coe_eq_coe_iff.2 (congrArg (X t.val) (show h.val * 128 + d.val = 128 * h.val + d.val by omega))

theorem v6 (h : Fin 16) (t : Fin 8192) (d : Fin 128) : val_main_v6 (F := Ideal) x0 (ix3 h t d) = ((head X Y h.val).k t.val d : EReal) := by
  pointwise [val_main_v6, val_main_v5, val_main_v1]
  rw [h0]
  exact EReal.coe_eq_coe_iff.2 (congrArg (X t.val) (show 2048 + (h.val * 128 + d.val) = 2048 + 128 * h.val + d.val by omega))

theorem v8 (h : Fin 16) (t : Fin 8192) (d : Fin 128) : val_main_v8 (F := Ideal) x0 (ix3 h t d) = ((head X Y h.val).v t.val d : EReal) := by
  pointwise [val_main_v8, val_main_v7, val_main_v2]
  rw [h0]
  exact EReal.coe_eq_coe_iff.2 (congrArg (X t.val) (show 4096 + (h.val * 128 + d.val) = 4096 + 128 * h.val + d.val by omega))

theorem v11 (h : Fin 16) (t s : Fin 8192) : val_main_v11 (F := Ideal) x0 (ix3 h t s) = (z (head X Y h.val) t.val s.val : EReal) := by
  pointwise [val_main_v11, val_main_v10, val_main_v9, val_main_cst]
  simp only [v4 (Y := Y) h0, v6 (Y := Y) h0, coe_sum, ofBits_scale, ← EReal.coe_mul, z]

omit h0 in
theorem live (t s : Fin 8192) : val_main_v18 (F := Ideal) (ix2 t s) = if s.val < t.val then 1#1 else 0#1 := by
  pointwise [val_main_v18, val_main_v17, val_main_v16, val_main_v15, val_main_v14, val_main_v13, val_main_v12]
  unfold IntOp.cmpi; dsimp only
  rw [slt_ofNat _ _ (by omega) (by omega)]
  by_cases h : s.val < t.val
  · rw [if_pos h, decide_eq_true h]; rfl
  · rw [if_neg h, decide_eq_false h]; rfl

theorem score (h : Fin 16) (t s : Fin 8192) : val_main_call0_v0 (F := Ideal) x0 (ix3 h t s) = (z (head X Y h.val) t.val s.val : EReal) := by
  pointwise [val_main_call0_v0, val_main_v19]
  rw [v11 (Y := Y) h0]
  exact neg_neg _

theorem softplus (h : Fin 16) (t s : Fin 8192) : val_main_call0_v1 (F := Ideal) x0 (ix3 h t s) = ((-keep (head X Y h.val) t.val s.val : ℝ) : EReal) := by
  pointwise [val_main_call0_v1, val_main_call0_call0_v4, val_main_call0_call0_v11, val_main_call0_call0_v10, val_main_call0_call0_v9, val_main_call0_call0_v8,
    val_main_call0_call0_v7, val_main_call0_call0_v3, val_main_call0_call0_v2, val_main_call0_call0_v1, val_main_call0_call0_v0, val_main_call0_call0_cst]
  rw [score (Y := Y) h0]
  generalize hz : z (head X Y h.val) t.val s.val = x
  rw [if_neg (fun h => h rfl), Ideal.absf_def, abs_real, ← EReal.coe_neg, Ideal.exp_coe]
  unfold Ideal.log1p
  rw [← EReal.coe_one, ← EReal.coe_add, log_real (by positivity), ← EReal.coe_zero, max_real, ← EReal.coe_add]
  unfold keep nlz exz
  rw [hz]
  exact EReal.coe_eq_coe_iff.2 (by ring)

theorem v20 (h : Fin 16) (t s : Fin 8192) : val_main_v20 (F := Ideal) x0 (ix3 h t s) = (keep (head X Y h.val) t.val s.val : EReal) := by
  pointwise [val_main_v20]
  rw [softplus (Y := Y) h0, ← EReal.coe_neg, neg_neg]

theorem v21 (h : Fin 16) (t s : Fin 8192) : val_main_v21 (F := Ideal) x0 (ix3 h t s)
    = ((if s.val < t.val then keep (head X Y h.val) t.val s.val else 0 : ℝ) : EReal) := by
  pointwise [val_main_v21, val_main_call1_v1, val_main_call1_v2, val_main_call1_v0, val_main_cst_0]
  rw [live, v20 (Y := Y) h0, bits_const, ofBits_zero]
  by_cases h : s.val < t.val
  · rw [if_pos h, if_pos h]; rfl
  · rw [if_neg h, if_neg h]; rfl

theorem v22 (h : Fin 16) (t s : Fin 8192) : val_main_v22 (F := Ideal) x0 (ix3 h t s)
    = ((∑ r ∈ Finset.Ico s.val t.val, keep (head X Y h.val) t.val r : ℝ) : EReal) := by
  refine Eq.trans ?_ ((window_from (val_main_v21 (F := Ideal) x0) (fun h t r => if r < t then keep (head X Y h.val) t r else 0)
    (v21 (Y := Y) h0) reduceWindows_S16x8192x8192_S16x8192x8192_w1s1p0_0_w1s1p0_0_w8192s1p0_8191 h t s).trans ?_)
  · unfold val_main_v22 Host.reduceWindowAdd
    rw [Ideal.hostReduceWindowAdd_def]
    congr 1
    exact (show _ = Ideal.ofBits .f32 0x00000000#32 from rfl).trans ofBits_zero
  · rw [← Finset.sum_filter]
    refine EReal.coe_eq_coe_iff.2 (Finset.sum_congr ?_ fun _ _ => rfl)
    ext r; simp only [Finset.mem_filter, Finset.mem_Ico]; omega

theorem v25 (h : Fin 16) (t s : Fin 8192) : val_main_v25 (F := Ideal) x0 (ix3 h t s)
    = ((if s.val < t.val then wgt (head X Y h.val) t.val s.val else 0 : ℝ) : EReal) := by
  pointwise [val_main_v25, val_main_v24, val_main_call3_v1, val_main_v23, val_main_call3_v2, val_main_call3_v0, val_main_cst_1]
  rw [live, v11 (Y := Y) h0, v22 (Y := Y) h0, bits_const, ofBits_neg_inf, ← EReal.coe_add]
  by_cases h : s.val < t.val
  · rw [if_pos h, if_pos h]; exact Ideal.exp_coe _
  · rw [if_neg h, if_neg h]; exact Ideal.exp_bot

theorem v26 (h : Fin 16) (t : Fin 8192) (d : Fin 128) : val_main_v26 (F := Ideal) x0 (ix3 h t d)
    = ((∑ s ∈ Finset.range t.val, wgt (head X Y h.val) t.val s * (head X Y h.val).v s d : ℝ) : EReal) := by
  pointwise [val_main_v26]
  simp only [v25 (Y := Y) h0, v8 (Y := Y) h0, ← EReal.coe_mul, coe_sum, ite_mul, zero_mul]
  rw [Fin.sum_univ_eq_sum_range (fun s => if s < t.val then wgt (head X Y h.val) t.val s * (head X Y h.val).v s d else 0) 8192, ← Finset.sum_filter]
  refine EReal.coe_eq_coe_iff.2 (Finset.sum_congr ?_ fun _ _ => rfl)
  ext s; simp only [Finset.mem_filter, Finset.mem_range]; omega

theorem v29 (t : Fin 8192) (x : Fin 2048) : val_main_v29 (F := Ideal) x0 (ix2 t x)
    = ((∑ s ∈ Finset.range t.val, wgt (hd X Y x) t.val s * (hd X Y x).v s (ix x) : ℝ) : EReal) := by
  refine Eq.trans ?_ (v26 (Y := Y) h0 ⟨x.val / 128, by omega⟩ t (ix x))
  pointwise [val_main_v29, val_main_v28, val_main_v27]
  congr 1

end One

end Stages

end Cert.ReferenceFwdIdeal.Val

end
-- ==== Proof.FwdWords.lean ====
/-
  The frame of the attention's forward kernel over words: the run goes through whatever the values are, since its
  windows lie inside the keys and its sweep ends.
-/
module

public import proofs.«01_k».proof.Proof.Safe
public import proofs.«01_k».proof.Proof.FwdCanon
public import proofs.«01_k».proof.Proof.Gen.KernelFwd.Skeleton
public import proofs.«01_k».proof.Proof.Gen.KernelFwd.Launch
public import proofs.«01_k».proof.Proof.Gen.KernelFwd.Points
public import Idealize.ShloMosaic.Lib.Claim

@[expose] public section

noncomputable section

namespace Cert.FwdWords

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.KernelFwd Cert.KernelFwd.Gen
open Cert.Blocks

variable {F : FTy → Type} [FloatOps F]

abbrev 𝕄 (F : FTy → Type) := MT nD τ sig Unit (Elt F) ℕ (UR sig nD τ) ℕ

abbrev 𝒱₀ : Variants := Variants.nat

/-! ## The sweep -/

theorem chk1 (n : ℕ) (hn : n ≤ 64) : k0_chk1 (hi n) := by
  have hm : ∀ n : Fin 65, 128 ∣ (k0_mult2 (hi n.val)).toNat := by decide +kernel
  refine ⟨hm ⟨n, by omega⟩, ?_, ?_, ?_, ?_⟩
  all_goals
    intro a
    first | unfold k0_off5 | unfold k0_off6 | unfold k0_off7 | unfold k0_off8
    dsimp only
    rw [sext n hn]
    fin_cases a
    · show _ + 1 ≤ 1; simp
    · show 128 * (n - 3) + 384 ≤ 8192; omega
    · show _ + 128 ≤ 512; simp

theorem sgt_zero (b : BitVec 1) : Scalar.andi (Scalar.cmpi .sgt (hi 0) 0#32) b ≠ 1#1 := by
  revert b; decide +kernel

section Run

variable (c : Dev nD) (G : sProp (𝕄 F)) (i : grid0.Coords)
variable (a2 : Memref sig .tc .vmem S1x128x512 .bf16) (h2 : a2.IsWhole)
variable (a3 : Memref sig .tc .vmem S1x8192x512 .bf16) (h3 : a3.IsWhole) (a4 : Memref sig .tc .vmem S1x8192x512 .bf16) (h4 : a4.IsWhole)
variable (a5 : Memref sig .tc .vmem S128x512 .bf16) (h5 : a5.IsWhole)
variable (a6 : Memref sig .tc .smem S4 .f32) (h6 : a6.IsWhole) (a7 : Memref sig .tc .vmem S384x384 .bf16) (h7 : a7.IsWhole)

set_option maxHeartbeats 1600000 in
theorem sweep_run (g3 : Safe.Has G c a3) (g4 : Safe.Has G c a4) (g7 : Safe.Has G c a7) (E : Set ℕ) (n : ℕ) : n ≤ 64 → ∀ b0 b1 b2 b3 pos q0 q1 q2 q3 r0 r1 r2 r3 o0 o1 o2 o3
    (K : _ → sProp (𝕄 F)), (∀ x, G ⊢ K x) →
    G ⊢ wp frame (wpE (defs₀ (F := F)) 𝒱₀ c.tc (some n)) E
      (defs₀ (F := F) .tc 1 ⟨i, b0, b1, b2, b3, pos, a3, h3, q0, q1, q2, q3, a7, h7, a4, h4, hi n, r0, r1, r2, r3, o0, o1, o2, o3⟩) K := by
  induction n using Nat.strong_induction_on with
  | _ n ih =>
  intro hn b0 b1 b2 b3 pos q0 q1 q2 q3 r0 r1 r2 r3 o0 o1 o2 o3 K hK
  show _ ⊢ wp frame (wpE (defs₀ (F := F)) 𝒱₀ c.tc (some n)) E
    (cc0_while1 i b0 b1 b2 b3 pos a3 h3 q0 q1 q2 q3 a7 h7 a4 h4 (hi n) r0 r1 r2 r3 o0 o1 o2 o3) K
  simp only [cc0_while1_eq_skeleton]; unfold cc0_while1_skel
  dsimp only
  split
  next hg =>
    have h0 : 0 < n := by
      rcases Nat.eq_zero_or_pos n with h0 | h0
      · subst h0; exact absurd hg (sgt_zero _)
      · exact h0
    simp only [k0_part8_eq_skeleton, k0_part9_eq_skeleton, k0_part10_eq_skeleton, k0_part11_eq_skeleton]
    unfold k0_part8_skel k0_part9_skel k0_part10_skel k0_part11_skel
    simp only [Prog.lift, Prog.bind_op, Prog.bind_ret, Prog.pure_eq_ret]
    refine Safe.assume 𝒱₀ (chk1 n hn) ?_
    simp only [Prog.bind_op, Prog.bind_ret]
    iterate 4
      refine Safe.load 𝒱₀ g3 fun _ => ?_
      simp only [Prog.bind_op, Prog.bind_ret]
    iterate 4 refine Safe.load 𝒱₀ g7 fun _ => ?_
    iterate 4 refine Safe.load 𝒱₀ g4 fun _ => ?_
    rw [hi_next n hn]
    exact Safe.call 𝒱₀ (n - 3) (fun u hu => by cases hu; show n - 3 < n; omega)
      (fun K' hK' => ih (n - 3) (by omega) (by omega) _ _ _ _ _ _ _ _ _ _ _ _ _ _ _ _ _ K' hK') fun x => Safe.ret 𝒱₀ (hK x)
  next => rw [Prog.pure_eq_ret]; exact Safe.ret 𝒱₀ (hK _)

/-! ## The body -/

set_option maxHeartbeats 1600000 in
theorem part2_run (g2 : Safe.Has G c a2) (g3 : Safe.Has G c a3) (g6 : Safe.Has G c a6) (g7 : Safe.Has G c a7) (K : _ → sProp (𝕄 F))
    (hK : ∀ x, x.1 = BitVec.ofNat 32 (i 1).val → G ⊢ K x) :
    G ⊢ wp frame (wpE (defs₀ (F := F)) 𝒱₀ c.tc none) Set.univ (k0_part2 i a2 h2 a3 h3 a4 h4 a5 h5 a6 h6 a7 h7) K := by
  simp only [k0_part2_eq_skeleton]; unfold k0_part2_skel
  dsimp only
  split
  · simp only [k0_part1_eq_skeleton]; unfold k0_part1_skel
    simp only [smemLoad, smemLoadElt, Prog.lift, Prog.bind_op, Prog.bind_ret, Prog.pure_eq_ret]
    iterate 4
      refine Safe.load 𝒱₀ g3 fun _ => ?_
      refine Safe.load 𝒱₀ g6 fun _ => ?_
      refine Safe.store 𝒱₀ g6 ?_
    refine Safe.load 𝒱₀ g7 fun _ => ?_
    refine Safe.store 𝒱₀ g7 ?_
    iterate 4 refine Safe.load 𝒱₀ g2 fun _ => ?_
    iterate 3 refine Safe.load 𝒱₀ g6 fun _ => ?_
    exact Safe.ret 𝒱₀ (hK _ rfl)
  · simp only [smemLoad, smemLoadElt, Prog.lift, Prog.bind_op, Prog.bind_ret, Prog.pure_eq_ret]
    iterate 4 refine Safe.load 𝒱₀ g2 fun _ => ?_
    iterate 3 refine Safe.load 𝒱₀ g6 fun _ => ?_
    exact Safe.ret 𝒱₀ (hK _ rfl)

set_option maxHeartbeats 1600000 in
theorem body_run (g2 : Safe.Has G c a2) (g3 : Safe.Has G c a3) (g4 : Safe.Has G c a4) (g5 : Safe.Has G c a5) (g6 : Safe.Has G c a6) (g7 : Safe.Has G c a7)
    (K : PUnit → sProp (𝕄 F)) (hK : G ⊢ K ⟨⟩) :
    G ⊢ wp frame (wpE (defs₀ (F := F)) 𝒱₀ c.tc none) Set.univ (cc0_attn_fwd i a2 h2 a3 h3 a4 h4 a5 h5 a6 h6 a7 h7) K := by
  have hn : (i 1).val + 1 ≤ 64 := by have h : (i 1).val < 64 := (i 1).isLt; omega
  simp only [cc0_attn_fwd_eq_skeleton]; unfold cc0_attn_fwd_skel
  rw [wp_bind]
  refine part2_run c G i a2 h2 a3 h3 a4 h4 a5 h5 a6 h6 a7 h7 g2 g3 g6 g7 _ ?_
  rintro ⟨b, x0, x1, x2, x3, x4, x5, x6⟩ hb
  subst hb
  simp only [k0_part3_eq_skeleton, k0_part4_eq_skeleton, k0_part5_eq_skeleton, k0_part6_eq_skeleton, k0_part7_eq_skeleton]
  unfold k0_part3_skel k0_part4_skel k0_part5_skel k0_part6_skel k0_part7_skel
  dsimp only
  rw [Cert.Fwd.first_words _ hn]
  simp only [smemLoad, smemLoadElt, Prog.lift, Prog.bind_op, Prog.bind_ret, Prog.pure_eq_ret]
  refine Safe.load 𝒱₀ g6 fun _ => ?_
  simp only [Prog.bind_op, Prog.bind_ret]
  iterate 4 refine Safe.load 𝒱₀ g3 fun _ => ?_
  iterate 4 refine Safe.load 𝒱₀ g7 fun _ => ?_
  iterate 4 refine Safe.load 𝒱₀ g4 fun _ => ?_
  refine Safe.call 𝒱₀ ((i 1).val + 1 - 3) (fun u hu => nomatch hu)
    (sweep_run c G i a3 h3 a4 h4 a7 h7 g3 g4 g7 Set.univ _ (by omega) _ _ _ _ _ _ _ _ _ _ _ _ _ _ _ _ _) fun _ => ?_
  simp only [Prog.bind_op, Prog.bind_ret]
  iterate 4
    refine Safe.load 𝒱₀ g5 fun _ => ?_
    refine Safe.store 𝒱₀ g5 ?_
  exact Safe.ret 𝒱₀ hK

end Run

/-! ## The launch -/

variable (m : (ℓ : Loc nD τ sig) → Buf (Elt F) ℓ) (ρ : Dev nD → PrngReg)

/-- The arrays as the launch finds them. -/
abbrev V (c : Dev nD) (b : Ref sig .tc) : Buf (Elt F) ((c : Thread nD τ).loc b) :=
  StableHlo.after hostOps0 (fun b => m (c, b)) (Proc.devRef .tc b)

theorem hostOps0_fresh : (hostOps0 (F := F)).Forall fun op => op.fresh = ∅ := by
  simp only [List.Forall]; repeat' constructor

set_option maxHeartbeats 800000 in
theorem hmain : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

theorem V_arg0 (c : Dev nD) : V m c main_arg0 = m (c.tc.loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem PhiA_eq (c : Dev nD) : (Pipeline.ΦA spec0 c : sProp (𝕄 F))
    = iprop(iprop((∃ d, owns c.tc (Memref.whole cc0_scratch1) fullShare d)
        ∗ (∃ d, owns c.tc (Memref.whole cc0_scratch0) fullShare d)) ∗ (∃ r, prngReg c r)) := by
  unfold Pipeline.ΦA; rw [scopedRest0_eq]; simp only [owns_whole]; try rfl

/-- The launch's data: nothing is said of what a block leaves in its buffers. -/
def rdat (c : Dev nD) : RDat τ (Elt F) Unit ℕ (UR sig nD τ) ℕ (cfg0 (F := F)) c where
  A w := V m c (Pipeline.arrRef spec0 w)
  after _ _ _ _ := True
  Φ _ := Pipeline.ΦA spec0 c
  q w := Pipeline.shareOf spec0 w
  owed _ := 0

variable (c : Dev nD) (t : Fin (cfg0 (F := F)).N)

abbrev ms0 : Memref sig .tc .vmem S1x128x512 .bf16 := win0_0.stage ((cfg0 (F := F)).slots t 0)
abbrev ms1 : Memref sig .tc .vmem S1x8192x512 .bf16 := win0_1.stage ((cfg0 (F := F)).slots t 1)
abbrev ms2 : Memref sig .tc .vmem S1x8192x512 .bf16 := win0_2.stage ((cfg0 (F := F)).slots t 2)
abbrev ms3 : Memref sig .tc .vmem S128x512 .bf16 := win0_3.stage ((cfg0 (F := F)).slots t 3)

theorem defs₀_row :
    defs₀ (F := F) .tc (cfg0 (F := F)).body ((cfg0 (F := F)).bodyArgs t ((cfg0 (F := F)).slots t)) = bodyAt0 t := by
  unfold defs₀; rw [Defs.onTc_tc]

/-- All a block works in, and the rest. -/
def all (R : sProp (𝕄 F)) : sProp (𝕄 F) :=
  iprop(Safe.some c (ms0 t) ∗ Safe.some c (ms1 t) ∗ Safe.some c (ms2 t) ∗ Safe.some c (ms3 t)
    ∗ Safe.some c (Memref.whole cc0_scratch0) ∗ Safe.some c (Memref.whole cc0_scratch1) ∗ R)

theorem point_run (R : sProp (𝕄 F)) (K : PUnit → sProp (𝕄 F)) (hK : all c t R ⊢ K ⟨⟩) :
    all c t R ⊢ wp frame (wpE (defs₀ (F := F)) 𝒱₀ c.tc none) Set.univ (bodyAt0 t) K := by
  unfold all at hK ⊢
  exact body_run c _ _ _ _ _ _ _ _ _ _ _ _ _ _ Safe.here (Safe.there Safe.here) (Safe.there (Safe.there Safe.here))
    (Safe.there (Safe.there (Safe.there Safe.here))) (Safe.there (Safe.there (Safe.there (Safe.there Safe.here))))
    (Safe.there (Safe.there (Safe.there (Safe.there (Safe.there Safe.here))))) K hK

theorem body_obligation (c : Dev nD) : (rdat m c).BodyObligation (defs₀ (F := F)) 𝒱₀ () Set.univ := fun t Y _ => by
  rw [bigSep_W0, bigSep_W0, defs₀_row]
  refine BIBase.Entails.trans ?_ (point_run c t iprop((∃ r, prngReg c r) ∗ (rdat m c).owesAt () t.castSucc) _ ?_)
  · rw [show (rdat m c).Φ t.castSucc = Pipeline.ΦA spec0 c from rfl, PhiA_eq]
    unfold all Safe.some
    iintro ⟨⟨⟨H7, H6⟩, Hg⟩, Ho, H0, H1, H2, H3⟩
    isplitl [H0]; · iexists _; iexact H0
    isplitl [H1]; · iexists _; iexact H1
    isplitl [H2]; · iexists _; iexact H2
    isplitl [H3]; · iexists _; iexact H3
    isplitl [H6]; · iexact H6
    isplitl [H7]; · iexact H7
    isplitl [Hg]; · iexact Hg
    iexact Ho
  · rw [show (rdat m c).Φ t.succ = Pipeline.ΦA spec0 c from rfl, PhiA_eq, show (rdat m c).owesAt () t.succ = (rdat m c).owesAt () t.castSucc from rfl]
    unfold all Safe.some
    iintro ⟨⟨%d0, H0⟩, ⟨%d1, H1⟩, ⟨%d2, H2⟩, ⟨%d3, H3⟩, H6, H7, Hg, Ho⟩
    isplitl [H6 H7 Hg]
    · isplitr [Hg]
      · isplitl [H7]; · iexact H7
        iexact H6
      iexact Hg
    isplitl [Ho]; · iexact Ho
    isplitl [H0]
    · iexists d0; isplitr; · ipureintro; exact trivial
      iexact H0
    isplitl [H1]
    · iexists d1; isplitr; · ipureintro; exact trivial
      iexact H1
    isplitl [H2]
    · iexists d2; isplitr; · ipureintro; exact trivial
      iexact H2
    iexists d3; isplitr; · ipureintro; exact trivial
    iexact H3

set_option backward.isDefEq.respectTransparency.types false in
set_option maxHeartbeats 800000 in
theorem run_main : θ_run defs (onTc (τ := τ) (main (F := F))) (s₀ m ρ)
    (fun r => RDat.FramePost (cfg0 (F := F)) (rdat m) (V m) r ∧ r.2.sem = fun _ => 0) :=
  RDat.θ_run_frame_track_shared (Q' := _) (cfgs (F := F)) (0 : Fin 1) launch₀0 defs₀ 𝒱₀ (rdat m) m ρ main
    (hbody := body_obligation m) (hq := fun _ _ _ => rfl)
    (howed := fun _ _ => rfl) (V := V m) (hmain := hmain m) (hA := fun _ _ => rfl) (hin := fun _ => .rfl) (hout := fun _ => .rfl)

/-- The frame. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c =>
    ((h.1 c).2 main_arg0 (Pipeline.mem_restRefs_of main_arg0 (by decide) (by decide : ∀ w : Fin 4, (spec0 w).arr.view.ref ≠ main_arg0))).trans (V_arg0 m c), h.2⟩)
    (run_main m ρ)

end Cert.FwdWords

end
-- ==== Proof.Fwd.lean ====
/-
  The attention's forward call: its frames, the reference's frame, and the equality of its result over the reals from a finite
  argument.
-/
module

public import proofs.«01_k».proof.Proof.FwdKernel
public import proofs.«01_k».proof.Proof.Blocks
public import proofs.«01_k».proof.Proof.FwdRef
public import proofs.«01_k».proof.Proof.FwdWords
public import proofs.«01_k».proof.Proof.Gen.KernelFwd
public import proofs.«01_k».proof.Proof.Gen.Pre_finite_fwd
public import proofs.«01_k».proof.Proof.Gen.ReferenceFwdIdeal.Run
public import proofs.«01_k».proof.Defs
public import Idealize.ShloMosaic.Lib.ReduceAll

@[expose] public section

noncomputable section

namespace Cert.Fwd

open Idealize.ShloMosaic Idealize.ShloMosaic.TcCoe Idealize.ShloMosaic.Tactic
open Idealize.SL Idealize.SL.Sem

/-! ## The frames -/

theorem frame_ideal : Cert.quiescent_KernelFwdIdeal := fun m ρ _ => frame_any (F := Ideal) m ρ
theorem frame_kernel : Cert.quiescent_KernelFwd := fun m ρ _ => Cert.FwdWords.frame_any (F := Bits) m ρ

theorem frame_reference : Cert.quiescent_ReferenceFwdIdeal := fun m ρ _ =>
  (θ_run Cert.ReferenceFwdIdeal.defs _ _).mono (fun r h => ⟨fun c => (h c).2, sem_eq_zero_of_no_sems (by decide) r.2⟩)
    (Cert.ReferenceFwdIdeal.Value.run (F := Ideal) m ρ)

theorem names : Cert.preserves_KernelFwd_KernelFwdIdeal := ⟨IdealRules.named_const.statement _ _ _ _ _ rfl, IdealRules.named_const.statement _ _ _ _ _ rfl⟩

/-! ## The values -/

open Cert.AttnMath Cert.Common Cert.Blocks

section Pre

variable (m : (ℓ : Loc Cert.KernelFwdIdeal.nD Cert.KernelFwdIdeal.τ Cert.KernelFwdIdeal.sig) → Buf (Elt Ideal) ℓ)
  (c : Dev Cert.KernelFwdIdeal.nD)

/-- The packed queries, keys and values as reals, zero outside the array. -/
def Xv (n k : ℕ) : ℝ := if h : n < 8192 ∧ k < 6144 then
  ((m (c.tc.loc Cert.KernelFwdIdeal.main_arg0) : Vec Ideal Cert.KernelFwdIdeal.S8192x6144 .f32) (ix2 ⟨n, h.1⟩ ⟨k, h.2⟩)).toReal else 0

instance : Subsingleton Cert.Pre_finite_fwd.S_.Idx := ⟨fun a b => funext fun i => i.elim0⟩

theorem reals (h : Cert.Pre_KernelFwdIdeal_finite_fwd m) : Reals m c (Xv m c) := fun i k => by
  rw [Xv, dif_pos ⟨i.isLt, k.isLt⟩]
  exact real_at (congrFun (h c) ix0) (ix2 i k)

end Pre

theorem values : Cert.algebraic_KernelFwdIdeal_ReferenceFwdIdeal_pre_finite_fwd := by
  intro m g m' g' h hag
  have hR := fun c => reals m c h
  refine ⟨fun c => gO (Xv m c), ?_, ?_⟩
  · refine (θ_run Cert.KernelFwdIdeal.defs _ _).mono (fun r hr c => ?_) (run_main (F := Ideal) m g)
    exact ⟨((hr c).1 3).trans (final_3 (hR c)), unchanged_of m hr c⟩
  · refine (θ_run Cert.ReferenceFwdIdeal.defs _ _).mono (fun r hr c => ?_) (Cert.ReferenceFwdIdeal.Value.run (F := Ideal) m' g')
    obtain ⟨h0, ha⟩ := hr c
    have d0 := same2 (hR c) (hag c)
    refine ⟨h0.trans ((Cert.ReferenceFwdIdeal.Read.val_main_v29_eq _ _).trans (funext fun i => ?_)), ha⟩
    obtain ⟨a, b, rfl⟩ : ∃ a b, i = ix2 a b := ⟨_, _, eq_ix2 i⟩
    exact Cert.ReferenceFwdIdeal.Val.v29 d0 a b

end Cert.Fwd

end
-- ==== Proof.GateKernel.lean ====
/- The values of the gated activation's forward kernel: what each grid point stores, and the result array after the run. The
   convolution and the gate at a grid point are those of the backward kernel. -/
module

public import proofs.«01_k».proof.Proof.Blocks
public import proofs.«01_k».proof.Proof.ActKernel
public import proofs.«01_k».proof.Proof.Gen.KernelGateIdeal.Value

@[expose] public section

set_option maxRecDepth 16384

noncomputable section

namespace Cert.KernelGateIdeal.Val

open Cert.Blocks
open Cert.KernelGateIdeal Cert.KernelGateIdeal.Gen Cert.Common Cert.Gated
open Cert.KernelActIdeal.Val (Blks BReals tap0 tap1 tap2 tap_apply cl)
open Idealize.ShloMosaic Idealize.ShloMosaic.TcCoe Idealize.SL.Sem
open Idealize.ShloMosaic.Pipeline (Dat)

/-- The activation at row `n` of a column: the gate, under its logistic, times the value. -/
def _root_.Cert.Gated.Col.act (C : Col) (n : ℕ) : ℝ := C.gate n * sg (C.gate n) * C.val n

/-! ## A grid point's payload -/

theorem pay_apply {t : grid0.Coords} {B : Blks} {i : ℕ} {C : ℕ → Col} (h : BReals t B i C) (a : Fin 256) (q : Fin 2816) :
    k0_pay1 (F := Ideal) (Scalar.cmpi .eq (BitVec.ofNat 32 (t 1).val) 0#32) (k0_pay2 t B.hg B.hgb B.bg (tap0 B.wg) (tap1 B.wg) (tap2 B.wg)) (k0_pay3 B.hv) B.hvb B.bv
      (tap0 B.wv) (tap1 B.wv) (tap2 B.wv) (ix3 0 a q) = ((C q.val).act (i * 256 + a.val) : EReal) := by
  have eg : k0_pay2 (F := Ideal) t B.hg B.hgb B.bg (tap0 B.wg) (tap1 B.wg) (tap2 B.wg) (ix2 a q) = _ := Cert.KernelActIdeal.Val.gate_apply h a q
  have e0 : k0_pay3 (F := Ideal) B.hv (ix2 a q) = _ := Cert.KernelActIdeal.Val.v0_apply h a q
  have ha := a.isLt
  have p (n k : ℕ) (hk : k ≤ 8) (hn : n + k = a.val + 8) (hn' : n < 264) :=
    Cert.KernelActIdeal.Val.prior_row h.hi (F := (C q.val).H) (x := fun a => k0_pay3 (F := Ideal) B.hv (ix2 a q)) (y := fun a => B.hvb (ix3 0 a q))
      (fun a => Cert.KernelActIdeal.Val.v0_apply h a q) (fun h0 a => h.hvb h0 a q) n a.val k hk ha hn hn'
  have w0 : tap0 B.wv (ix3 0 0 q) = _ := (tap_apply B.wv 0 (by norm_num) inb_S1x3x2816_S1x1x2816_0_0_0 q).trans (h.wv 0 q)
  have w1 : tap1 B.wv (ix3 0 0 q) = _ := (tap_apply B.wv 1 (by norm_num) inb_S1x3x2816_S1x1x2816_0_1_0 q).trans (h.wv 1 q)
  have w2 : tap2 B.wv (ix3 0 0 q) = _ := (tap_apply B.wv 2 (by norm_num) inb_S1x3x2816_S1x1x2816_0_2_0 q).trans (h.wv 2 q)
  pointwise [k0_pay1]
  rw [eg, e0, w0, w1, w2, h.bv, h.ht, Ideal.logistic_coe]
  refine (congrArg₂ (fun u v : EReal => ((C q.val).gate (i * 256 + a.val) : EReal) * (sg ((C q.val).gate (i * 256 + a.val)) : EReal)
    * ((((C q.val).e : EReal) + ((C q.val).U 0 : EReal) * u + ((C q.val).U 1 : EReal) * v) + ((C q.val).U 2 : EReal) * ((C q.val).H (i * 256 + a.val) : EReal)))
    (p _ 2 (by norm_num) (by omega) (by omega)) (p _ 1 (by norm_num) (by omega) (by omega))).trans ?_
  simp only [← EReal.coe_mul, ← EReal.coe_add]
  rfl

/-! ## The arguments' blocks -/

variable (m : (ℓ : Loc nD τ sig) → Buf (Elt Ideal) ℓ)

/-- The arguments of a device are reals: `H` the rows of the convolution's input, `W` the taps, `b` the biases. -/
structure Reals (c : Dev nD) (H W : ℕ → ℕ → ℝ) (b : ℕ → ℝ) : Prop where
  h : ∀ (i : Fin 8192) (k : Fin 11008), (m (c.tc.loc main_arg0) : Vec Ideal S8192x11008 .f32) (ix2 i k) = (H i.val k.val : EReal)
  w : ∀ (i : Fin 3) (k : Fin 11008), (m (c.tc.loc main_arg1) : Vec Ideal S3x11008 .f32) (ix2 i k) = (W i.val k.val : EReal)
  b : ∀ (k : Fin 11008), (m (c.tc.loc main_arg2) : Vec Ideal S11008 .f32) (ix1 k) = (b k.val : EReal)

/-- Column `q` of group `g`, without a cotangent. -/
abbrev col (H W : ℕ → ℕ → ℝ) (b : ℕ → ℝ) (g q : ℕ) : Col := cl H W b (fun _ _ => 0) g q

variable {m} {c : Dev nD} {H W : ℕ → ℕ → ℝ} {b : ℕ → ℝ} (h : Reals m c H W b)

theorem point_lt (t : Fin cfg0.N) : t.val < 64 := lt_of_lt_of_eq t.isLt N_0

theorem idx_facts : ∀ t : Fin cfg0.N, (win0_0.index t 0 = t.val / 32 ∧ win0_0.index t 1 = t.val % 32 ∧ win0_0.index t 2 = 0)
    ∧ (win0_1.index t 0 = t.val / 32 ∧ win0_1.index t 1 = max (t.val % 32 * 32 - 1) 0 ∧ win0_1.index t 2 = 0)
    ∧ (win0_2.index t 0 = t.val / 32 + 2 ∧ win0_2.index t 1 = t.val % 32 ∧ win0_2.index t 2 = 0)
    ∧ (win0_3.index t 0 = t.val / 32 + 2 ∧ win0_3.index t 1 = max (t.val % 32 * 32 - 1) 0 ∧ win0_3.index t 2 = 0)
    ∧ (win0_4.index t 0 = t.val / 32 ∧ win0_4.index t 1 = 0 ∧ win0_4.index t 2 = 0)
    ∧ (win0_5.index t 0 = t.val / 32 + 2 ∧ win0_5.index t 1 = 0 ∧ win0_5.index t 2 = 0)
    ∧ (win0_6.index t 0 = t.val / 32 ∧ win0_6.index t 1 = 0 ∧ win0_6.index t 2 = 0)
    ∧ (win0_7.index t 0 = t.val / 32 + 2 ∧ win0_7.index t 1 = 0 ∧ win0_7.index t 2 = 0)
    ∧ (win0_8.index t 0 = t.val / 32 ∧ win0_8.index t 1 = t.val % 32 ∧ win0_8.index t 2 = 0)
    ∧ (grid0.coords t 1).val = t.val % 32 :=
  (by decide +kernel : ∀ t : Fin grid0.N, _)

include h

theorem Reals.v2 (g : Fin 4) (n : Fin 8192) (q : Fin 2816) :
    (V m c main_v2 : Vec Ideal S4x8192x2816 .f32) (ix3 g n q) = (grp (H n.val) g.val q.val : EReal) := by
  have hg := g.isLt
  refine Eq.trans ?_ (grp_host (fun k => h.h n k) g.val q.val (by omega))
  unfold V hostOps0 hostOps0_1 hostOps0_2 hostOps0_3
  after_reads_at

theorem Reals.v5 (g : Fin 4) (n : Fin 3) (q : Fin 2816) :
    (V m c main_v5 : Vec Ideal S4x3x2816 .f32) (ix3 g n q) = (grp (W n.val) g.val q.val : EReal) := by
  have hg := g.isLt
  refine Eq.trans ?_ (grp_host (fun k => h.w n k) g.val q.val (by omega))
  unfold V hostOps0 hostOps0_1 hostOps0_2 hostOps0_3
  after_reads_at

theorem Reals.v7 (g : Fin 4) (q : Fin 2816) :
    (V m c main_v7 : Vec Ideal S4x1x2816 .f32) (ix3 g 0 q) = (grp b g.val q.val : EReal) := by
  have hg := g.isLt
  refine Eq.trans ?_ (grp_host (fun k => h.b k) g.val q.val (by omega))
  unfold V hostOps0 hostOps0_1 hostOps0_2 hostOps0_3
  after_reads_at

/-- A grid point's blocks, with a cotangent of zeros. -/
abbrev blks (m : (ℓ : Loc nD τ sig) → Buf (Elt Ideal) ℓ) (c : Dev nD) (t : Fin cfg0.N) : Blks where
  hg := iblk m c 0 t
  hv := iblk m c 2 t
  da := fun _ => 0
  hgb := iblk m c 1 t
  hvb := iblk m c 3 t
  wg := iblk m c 4 t
  wv := iblk m c 5 t
  bg := iblk m c 6 t
  bv := iblk m c 7 t

theorem Reals.blks (t : Fin cfg0.N) : BReals (grid0.coords t) (blks m c t) (t.val % 32) (col H W b (t.val / 32)) := by
  obtain ⟨⟨a0, a1, a2⟩, ⟨b0, b1, b2⟩, ⟨c0, c1, c2⟩, ⟨d0, d1, d2⟩, ⟨e0, e1, e2⟩, ⟨f0, f1, f2⟩, ⟨g0, g1, g2⟩, ⟨i0, i1, i2⟩, -, hc⟩ := idx_facts t
  have ht := point_lt t
  refine ⟨hc, Nat.mod_lt _ (by norm_num), fun a q => ?_, fun a q => ?_, fun a q => ?_, fun h0 a q => ?_, fun h0 a q => ?_, fun k q => ?_, fun k q => ?_, fun q => ?_, fun q => ?_⟩
  · have ha := a.isLt
    refine Eq.trans (congrArg (V m c main_v2 : Vec Ideal S4x8192x2816 .f32) (at3 ?_ ?_ ?_)) (h.v2 ⟨t.val / 32, by omega⟩ ⟨t.val % 32 * 256 + a.val, by omega⟩ q)
    · show win0_0.index t 0 * 1 + 1 * 0 = t.val / 32; omega
    · show win0_0.index t 1 * 256 + 1 * a.val = t.val % 32 * 256 + a.val; omega
    · exact blk_in ‹_›
  · have ha := a.isLt
    refine Eq.trans (congrArg (V m c main_v2 : Vec Ideal S4x8192x2816 .f32) (at3 ?_ ?_ ?_)) (h.v2 ⟨t.val / 32 + 2, by omega⟩ ⟨t.val % 32 * 256 + a.val, by omega⟩ q)
    · show win0_2.index t 0 * 1 + 1 * 0 = t.val / 32 + 2; omega
    · show win0_2.index t 1 * 256 + 1 * a.val = t.val % 32 * 256 + a.val; omega
    · exact blk_in ‹_›
  · show (0 : EReal) = (grp (fun _ => 0) (t.val / 32) q.val : ℝ)
    unfold grp
    rw [ite_self]; rfl
  · have ha := a.isLt
    refine Eq.trans (congrArg (V m c main_v2 : Vec Ideal S4x8192x2816 .f32) (at3 ?_ ?_ ?_)) (h.v2 ⟨t.val / 32, by omega⟩ ⟨t.val % 32 * 256 + a.val - 8, by omega⟩ q)
    · show win0_1.index t 0 * 1 + 1 * 0 = t.val / 32; omega
    · show win0_1.index t 1 * 8 + 1 * a.val = t.val % 32 * 256 + a.val - 8; omega
    · exact blk_in ‹_›
  · have ha := a.isLt
    refine Eq.trans (congrArg (V m c main_v2 : Vec Ideal S4x8192x2816 .f32) (at3 ?_ ?_ ?_)) (h.v2 ⟨t.val / 32 + 2, by omega⟩ ⟨t.val % 32 * 256 + a.val - 8, by omega⟩ q)
    · show win0_3.index t 0 * 1 + 1 * 0 = t.val / 32 + 2; omega
    · show win0_3.index t 1 * 8 + 1 * a.val = t.val % 32 * 256 + a.val - 8; omega
    · exact blk_in ‹_›
  · refine Eq.trans (congrArg (V m c main_v5 : Vec Ideal S4x3x2816 .f32) (at3 ?_ ?_ ?_)) (h.v5 ⟨t.val / 32, by omega⟩ k q)
    · show win0_4.index t 0 * 1 + 1 * 0 = t.val / 32; omega
    · exact blk_in ‹_›
    · exact blk_in ‹_›
  · refine Eq.trans (congrArg (V m c main_v5 : Vec Ideal S4x3x2816 .f32) (at3 ?_ ?_ ?_)) (h.v5 ⟨t.val / 32 + 2, by omega⟩ k q)
    · show win0_5.index t 0 * 1 + 1 * 0 = t.val / 32 + 2; omega
    · exact blk_in ‹_›
    · exact blk_in ‹_›
  · refine Eq.trans (congrArg (V m c main_v7 : Vec Ideal S4x1x2816 .f32) (at3 ?_ ?_ ?_)) (h.v7 ⟨t.val / 32, by omega⟩ q)
    · show win0_6.index t 0 * 1 + 1 * 0 = t.val / 32; omega
    · exact blk_in ‹_›
    · exact blk_in ‹_›
  · refine Eq.trans (congrArg (V m c main_v7 : Vec Ideal S4x1x2816 .f32) (at3 ?_ ?_ ?_)) (h.v7 ⟨t.val / 32 + 2, by omega⟩ q)
    · show win0_7.index t 0 * 1 + 1 * 0 = t.val / 32 + 2; omega
    · exact blk_in ‹_›
    · exact blk_in ‹_›

/-! ## The result array -/

variable (H W b)
omit h

/-- The activation, packed, at an index of the array. -/
def gA (i : S2x8192x2816.Idx) : EReal := ((col H W b (i 0).val (i 2).val).act (i 1).val : EReal)

variable {H W b}

theorem cover_8 (i : S2x8192x2816.Idx) : ∃ t : Fin cfg0.N, (cfg0.win 8).flush t = true ∧ i ∈ ((cfg0.win 8).blk t).view.set := by
  have hN : cfg0.N = 64 := N_0
  have h0 : _ < 2 := (i 0).isLt
  have h1 : _ < 8192 := (i 1).isLt
  have h2 : _ < 2816 := (i 2).isLt
  obtain ⟨t, ht⟩ := fin_at (N := cfg0.N) ((i 0).val * 32 + (i 1).val / 256) (by omega)
  refine ⟨t, flush0_8 _, ?_⟩
  obtain ⟨a0, a1, a2⟩ := (idx_facts t).2.2.2.2.2.2.2.2.1
  exact in_rect (all3 (in_blk (i 0).val 1 a0 (by omega)) (in_blk (i 1).val 256 a1 (by omega)) (in_blk (i 2).val 2816 a2 (by omega)))

include h in
theorem final_8 : (dats m 0 c).arrAt 8 cfg0.N = gA H W b :=
  (dats m 0 c).arrAt_eq_of_cover 8 _ (fun t hf => by
    rw [Value.flushed8]
    funext j
    rw [View.read_apply]
    obtain ⟨a0, a1, a2⟩ := (idx_facts t).2.2.2.2.2.2.2.2.1
    have ht := point_lt t
    obtain ⟨z, a, q, rfl⟩ : ∃ (z : Fin 1) (a : Fin 256) (q : Fin 2816), j = ix3 z a q := ⟨_, _, _, eq_ix3 j⟩
    obtain rfl : z = 0 := Subsingleton.elim _ _
    have e0 : ((((cfg0.win 8).blk t).view.emb (ix3 0 a q)) 0).val = t.val / 32 := by
      show win0_8.index t 0 * 1 + 1 * 0 = _; omega
    have e1 : ((((cfg0.win 8).blk t).view.emb (ix3 0 a q)) 1).val = t.val % 32 * 256 + a.val := by
      show win0_8.index t 1 * 256 + 1 * a.val = _; omega
    have e2 : ((((cfg0.win 8).blk t).view.emb (ix3 0 a q)) 2).val = q.val := by
      show win0_8.index t 2 * 2816 + 1 * q.val = _; omega
    refine Eq.trans ?_ ((pay_apply (h.blks t) a q).trans ?_)
    · unfold out0_8
      simp only [View.canon_unit_zero (S := S1x256x2816) hz3, View.ld_unit_zero (S := S1x256x2816) hz3, View.ld_unit_zero (S := S1x8x2816) hz3, View.ld_unit_zero (S := S1x1x2816) hz3]
      rfl
    · unfold gA
      rw [e0, e1, e2]
      rfl) cover_8

end Cert.KernelGateIdeal.Val

end
-- ==== Proof.GateRef.lean ====
/- The values of the gated activation's forward reference: the convolution is the one under the backward reference's derivative. -/
module

public import proofs.«01_k».proof.Proof.ActRef
public import proofs.«01_k».proof.Proof.GateKernel
public import proofs.«01_k».proof.Proof.Gen.ReferenceGateIdeal.Run
public import proofs.«01_k».proof.Proof.Gen.ReferenceGateIdeal.Read

@[expose] public section

noncomputable section

namespace Cert.ReferenceGateIdeal.Val

open Cert.ReferenceGateIdeal Cert.ReferenceGateIdeal.Gen Cert.ReferenceGateIdeal.Read Cert.Common Cert.Gated
open Cert.KernelGateIdeal.Val (col gA)
open Cert.KernelActIdeal.Val (cl)
open Cert.ReferenceActIdeal.Val (uc cl_real)
open Idealize.ShloMosaic

variable {x0 : Vec Ideal S8192x11008 .f32} {x1 : Vec Ideal S3x11008 .f32} {x2 : Vec Ideal S11008 .f32}
  {H W : ℕ → ℕ → ℝ} {b : ℕ → ℝ}
  (h0 : ∀ (i : Fin 8192) (k : Fin 11008), x0 (ix2 i k) = (H i.val k.val : EReal)) (h1 : ∀ (i : Fin 3) (k : Fin 11008), x1 (ix2 i k) = (W i.val k.val : EReal))
  (h2 : ∀ k : Fin 11008, x2 (ix1 k) = (b k.val : EReal))

include h0 h1 h2

theorem v28 (i : Fin 8192) (k : Fin 5504) : val_main_v28 (F := Ideal) x0 x1 x2 (ix2 i k) = ((uc H W b (fun _ _ => 0) k.val).act i.val : EReal) := by
  have e25 : val_main_v25 (F := Ideal) x0 x1 x2 (ix2 i k) = _ := Cert.ReferenceActIdeal.Val.v25 (Y := fun _ _ => 0) h0 h1 h2 i k
  have e26 : val_main_v26 (F := Ideal) x0 x1 x2 (ix2 i k) = _ := Cert.ReferenceActIdeal.Val.v26 (Y := fun _ _ => 0) h0 h1 h2 i k
  have e5 : val_main_call0_v5 (F := Ideal) x0 x1 x2 (ix2 i k) = _ := Cert.ReferenceActIdeal.Val.v27 (Y := fun _ _ => 0) h0 h1 h2 i k
  pointwise [val_main_v28, val_main_v27]
  rw [e25, e26, e5]
  simp only [← EReal.coe_mul]
  rfl

theorem v32 (z : S2x8192x2816.Idx) : val_main_v32 (F := Ideal) x0 x1 x2 z = gA H W b z := by
  obtain ⟨g, n, q, rfl⟩ : ∃ g n q, z = ix3 g n q := ⟨_, _, _, eq_ix3 z⟩
  pointwise [val_main_v32, val_main_v31, val_main_v30, val_main_v29, val_main_call1_v0, val_main_c]
  have hg := g.isLt
  unfold gA
  show _ = ((col H W b g.val q.val).act n.val : EReal)
  refine (grp_host (N := 5504) (f := fun k => (uc H W b (fun _ _ => 0) k).act n.val) (fun k => v28 h0 h1 h2 n k) g.val q.val (by omega)).trans (congrArg _ ?_)
  unfold grp
  by_cases hq : q.val < 2752
  · rw [if_pos hq, col, cl_real _ _ _ _ _ _ hq]
  · rw [if_neg hq]
    unfold Col.act Col.gate col cl conv prior grp
    simp only [if_neg hq, ite_self, mul_zero, add_zero, zero_mul]

end Cert.ReferenceGateIdeal.Val

end
-- ==== Proof.Gate.lean ====
/- The gated activation's forward kernel: its two frames, the reference's frame, and the equality of the results over the reals from
   finite arguments. -/
module

public import proofs.«01_k».proof.Defs
public import proofs.«01_k».proof.Proof.Gen.KernelGate
public import proofs.«01_k».proof.Proof.Gen.Pre_finite_gate
public import proofs.«01_k».proof.Proof.Act
public import proofs.«01_k».proof.Proof.GateKernel
public import proofs.«01_k».proof.Proof.GateRef
public import Idealize.ShloMosaic.Lib.ReduceAll

@[expose] public section

noncomputable section

namespace Cert.Gate

open Cert.Common
open Idealize.ShloMosaic

theorem frame_kernel : Cert.quiescent_KernelGate := fun m ρ _ =>
  cast (by sl_kernel_rfl) (Cert.KernelGateIdeal.Gen.frame (F := Bits) m ρ)

theorem frame_ideal : Cert.quiescent_KernelGateIdeal := fun m ρ _ => Cert.KernelGateIdeal.Gen.frame m ρ

theorem frame_reference : Cert.quiescent_ReferenceGateIdeal := fun m ρ _ =>
  (θ_run Cert.ReferenceGateIdeal.defs _ _).mono (fun r h => ⟨fun c => (h c).2, sem_eq_zero_of_no_sems (by decide) r.2⟩)
    (Cert.ReferenceGateIdeal.Value.run (F := Ideal) m ρ)

section Pre

variable (m : (ℓ : Loc Cert.KernelGateIdeal.nD Cert.KernelGateIdeal.τ Cert.KernelGateIdeal.sig) → Buf (Elt Ideal) ℓ)
  (c : Dev Cert.KernelGateIdeal.nD)

/-- The convolution's input, the taps and the biases as reals. -/
def Hv : ℕ → ℕ → ℝ := Cert.Act.rowsOf (R := 8192) (C := 11008) (m (c.tc.loc Cert.KernelGateIdeal.main_arg0))

def Wv : ℕ → ℕ → ℝ := Cert.Act.rowsOf (R := 3) (C := 11008) (m (c.tc.loc Cert.KernelGateIdeal.main_arg1))

def bv (k : ℕ) : ℝ := if h : k < 11008 then ((m (c.tc.loc Cert.KernelGateIdeal.main_arg2) : Vec Ideal Cert.KernelGateIdeal.S11008 .f32) (ix1 ⟨k, h⟩)).toReal else 0

instance : Subsingleton Cert.Pre_finite_gate.S_.Idx := ⟨fun a b => funext fun i => i.elim0⟩

theorem reals (h : Cert.Pre_KernelGateIdeal_finite_gate m) : Cert.KernelGateIdeal.Val.Reals m c (Hv m c) (Wv m c) (bv m c) := by
  have e := congrFun (h c) ix0
  obtain ⟨e, e2⟩ := IntOp.andi_eq_one.1 e
  obtain ⟨e0, e1⟩ := IntOp.andi_eq_one.1 e
  refine ⟨fun i k => ?_, fun i k => ?_, fun k => ?_⟩
  · rw [Hv, Cert.Act.rowsOf, dif_pos ⟨i.isLt, k.isLt⟩]
    exact real_at e0 (ix2 i k)
  · rw [Wv, Cert.Act.rowsOf, dif_pos ⟨i.isLt, k.isLt⟩]
    exact real_at e1 (ix2 i k)
  · rw [bv, dif_pos k.isLt]
    exact real_at e2 (ix1 k)

end Pre

open Cert.KernelGateIdeal.Val in
theorem values : Cert.algebraic_KernelGateIdeal_ReferenceGateIdeal_pre_finite_gate := by
  intro m g m' g' h hag
  have hR := fun c => reals m c h
  refine ⟨fun c => gA (Hv m c) (Wv m c) (bv m c), ?_, ?_⟩
  · refine (θ_run Cert.KernelGateIdeal.defs _ _).mono (fun r hr c => ?_) (Cert.KernelGateIdeal.Value.run_blocks (F := Ideal) m g)
    obtain ⟨h8, ha⟩ := hr c
    exact ⟨h8.trans (final_8 (hR c)), ha⟩
  · refine (θ_run Cert.ReferenceGateIdeal.defs _ _).mono (fun r hr c => ?_) (Cert.ReferenceGateIdeal.Value.run (F := Ideal) m' g')
    obtain ⟨r0, ha⟩ := hr c
    obtain ⟨a0, a1, a2⟩ := hag c
    exact ⟨r0.trans ((Cert.ReferenceGateIdeal.Read.val_main_v32_eq _ _).trans (funext fun i => Cert.ReferenceGateIdeal.Val.v32
      (fun i k => (congrFun a0 (ix2 i k)).trans ((hR c).h i k)) (fun i k => (congrFun a1 (ix2 i k)).trans ((hR c).w i k))
      (fun k => (congrFun a2 (ix1 k)).trans ((hR c).b k)) i)), ha⟩

end Cert.Gate

end
-- ==== Proof.TrunkKernel.lean ====
/- The values of the pool's forward kernel, which adds the residual and takes the norm: what each grid point stores, and the
   result arrays after the run. The window means at a grid point are those of the backward kernel. -/
module

public import proofs.«01_k».proof.Proof.LnMath
public import proofs.«01_k».proof.Proof.MixKernel
public import proofs.«01_k».proof.Proof.Gen.KernelTrunkIdeal.Value

@[expose] public section

noncomputable section

/-- Row `n` normalised, scaled and shifted, at column `b`. -/
def Cert.LnMath.norm (R : ℕ → ℕ → ℝ) (G B : ℕ → ℝ) (n : ℕ) (b : Fin 2048) : ℝ := xh (fun k => R n k.val) b * G b.val + B b.val

namespace Cert.KernelTrunkIdeal.Val

open Cert.KernelTrunkIdeal Cert.KernelTrunkIdeal.Gen Cert.Common Cert.Counts Cert.LnMath Cert.Blocks
open Cert.KernelMixIdeal.Val (inb_cols cols cols_apply plane plane_apply o0 o1 o2 o3 P0 P1 P2 P3 pm P0_apply P1_apply P2_apply P3_apply mem_cols one_of_four quarter)
open Idealize.ShloMosaic Idealize.ShloMosaic.TcCoe Idealize.SL.Sem
open Idealize.ShloMosaic.Pipeline (Dat)

/-! ## A group's columns -/

/-- The residual's part and the scaled product of the means. -/
def blend (p : FVec Ideal S256x512 .bf16) (x : Vec Ideal S256x512 .f32) (w : Vec Ideal S1x512x512 .bf16) (s : Vec Ideal S1x512 .f32) : FVec Ideal S256x512 .f32 :=
  addf (mulf (broadcast S256x512 (Scalar.ofBits .f32 0x3FD744FD#32)) x)
    (mulf (matmul dot_S256x512_S512x512_S256x512_1_0_0_1_n_n none p (shapeCast S512x512 w shapeCasts_S1x512x512_S512x512 : FVec Ideal S512x512 .bf16) (constant S256x512 .f32 0x00000000#32))
      (broadcastTo S256x512 (shapeCast S1x512 s shapeCasts_S1x512_S1x512) broadcasts_S1x512_S256x512))

theorem blend_apply {p : FVec Ideal S256x512 .bf16} {x : Vec Ideal S256x512 .f32} {w : Vec Ideal S1x512x512 .bf16} {s : Vec Ideal S1x512 .f32}
    {P X : Fin 256 → Fin 512 → ℝ} {W : Fin 512 → Fin 512 → ℝ} {S : Fin 512 → ℝ} (hp : ∀ a k, p (ix2 a k) = (P a k : EReal))
    (hx : ∀ a q, x (ix2 a q) = (X a q : EReal)) (hw : ∀ k q, w (ix3 0 k q) = (W k q : EReal)) (hs : ∀ q, s (ix2 0 q) = (S q : EReal))
    (a : Fin 256) (q : Fin 512) : blend p x w s (ix2 a q) = ((alpha * X a q + (∑ k, P a k * W k q) * S q : ℝ) : EReal) := by
  pointwise [blend]
  simp only [hp, hx, hw, hs, ofBits_alpha, ← EReal.coe_mul, coe_sum, ← EReal.coe_add]

variable (x : Vec Ideal S256x2048 .f32) (y : Vec Ideal S16x2048 .f32) (w : Vec Ideal S4x512x512 .bf16) (s : Vec Ideal S1x2048 .f32)

/-- The store of a group, -/
def st (P : FVec Ideal S256x512 .bf16) (j o : ℕ) (hj : j < 4) (ho : o + 512 ≤ 2048) : View.Piece (Elt Ideal) S256x2048 .f32 :=
  ⟨Rect.unit (s := S256x2048) ![0, o] ![256, 512] (inb_cols 256 o ho), blend P (cols o ho x) (plane j hj w) (cols o ho s)⟩

/-- and of a grid point. -/
def sts (a : BitVec 32) : List (View.Piece (Elt Ideal) S256x2048 .f32) :=
  [st x w s (P3 a x y) 3 1536 (by norm_num) o3, st x w s (P2 a x y) 2 1024 (by norm_num) o2, st x w s (P1 a x y) 1 512 (by norm_num) o1,
    st x w s (P0 a x y) 0 0 (by norm_num) o0]

theorem sts_cover (a : BitVec 32) (z : S256x2048.Idx) : ∃ p ∈ sts x y w s a, z ∈ p.1.set := by
  refine one_of_four (fun p : View.Piece (Elt Ideal) S256x2048 .f32 => z ∈ p.1.set) _ _ _ _ ?_
  exact (quarter (z 1).val (z 1).isLt).imp (mem_cols z _ o3) (Or.imp (mem_cols z _ o2) (Or.imp (mem_cols z _ o1) (mem_cols z _ o0)))

section Points

variable (m : (ℓ : Loc nD τ sig) → Buf (Elt Ideal) ℓ) (c : Dev nD)

/-- The rows before the norm that a grid point leaves. -/
def rows (t : Fin cfg0.N) : Vec Ideal S256x2048 .f32 :=
  View.canon (sts (iblk m c 0 t) (iblk m c 1 t) (iblk m c 2 t) (iblk m c 3 t) (BitVec.ofNat 32 (grid0.coords t 0).val))

theorem outs (t : Fin cfg0.N) : outsAt0 m c t = (rows m c t,
    k0_pay1 (k0_pay9 (rows m c t)) (k0_pay10 (iblk m c 4 t)) (iblk m c 5 t),
    k0_pay2 (k0_pay9 (rows m c t)) (k0_pay10 (iblk m c 4 t)) (iblk m c 5 t)) := by
  unfold outsAt0 out0_A_6 out0_A_7 out0_A_8
  simp only [View.read_writes_junk_eq_canon]
  unfold kernelRun0_A
  dsimp only
  sl_unfold_words
  simp only [View.canon_unit_zero (S := S256x2048) hz2, View.readAt_eq_ld, (hs0_0 t).read_unread, (hs0_1 t).read_unread, (hs0_2 t).read_unread, (hs0_3 t).read_unread,
    (hs0_4 t).read_unread, (hs0_5 t).read_unread, View.ld_unit_zero (S := S1x2048) hz2]
  have e : (ms0_6 t).view.readCov (sts (iblk m c 0 t) (iblk m c 1 t) (iblk m c 2 t) (iblk m c 3 t) (BitVec.ofNat 32 (grid0.coords t 0).val))
      (Rect.unit (s := S256x2048) ![0, 0] S256x2048.size inb_S256x2048_S256x2048_0_0).toLoadRect = rows m c t :=
    (View.readCov_eq_canon_ld _ _ _ fun z => sts_cover _ _ _ _ _ _).trans (View.ld_unit_zero (S := S256x2048) hz2 _ _)
  exact Prod.ext rfl (Prod.ext (congrArg (fun r => k0_pay1 (k0_pay9 r) (k0_pay10 (iblk m c 4 t)) (iblk m c 5 t)) e)
    (congrArg (fun r => k0_pay2 (k0_pay9 r) (k0_pay10 (iblk m c 4 t)) (iblk m c 5 t)) e))

end Points

/-! ## On reals -/

/-- A row before the norm: the residual's part and the scaled product of the means. -/
def rr (X : ℕ → ℕ → ℝ) (W : ℕ → ℕ → ℕ → ℝ) (S : ℕ → ℝ) (n b : ℕ) : ℝ :=
  alpha * X n b + (∑ k : Fin 512, pm X n (b / 512 * 512 + k.val) * W (b / 512) k.val (b % 512)) * S b

section Blocks

variable {i : ℕ} {X : ℕ → ℕ → ℝ} {S : ℕ → ℝ} {W : ℕ → ℕ → ℕ → ℝ} {x y w s}
  (hx : ∀ a b, x (ix2 a b) = (X (i * 256 + a.val) b.val : EReal)) (hy : 0 < i → ∀ a b, y (ix2 a b) = (X (i * 256 + a.val - 16) b.val : EReal))
  (hw : ∀ g k q, w (ix3 g k q) = (W g.val k.val q.val : EReal)) (hs : ∀ b, s (ix2 0 b) = (S b.val : EReal))

include hx hw hs in
theorem st_piece (j o : ℕ) (hj : j < 4) (ho : o + 512 ≤ 2048) (hjo : o = j * 512)
    {P : FVec Ideal S256x512 .bf16} (hP : ∀ a k, P (ix2 a k) = (pm X (i * 256 + a.val) (o + k.val) : EReal)) (z : (st x w s P j o hj ho).1.shape.Idx) :
    (st x w s P j o hj ho).2 z = (fun z : S256x2048.Idx => (rr X W S (i * 256 + (z 0).val) (z 1).val : EReal)) ((st x w s P j o hj ho).1.emb z) := by
  obtain ⟨a, q, rfl⟩ : ∃ (a : Fin 256) (q : Fin 512), z = ix2 a q := ⟨z 0, z 1, eq_ix2 z⟩
  have hq := q.isLt
  refine (blend_apply (P := fun a k => pm X (i * 256 + a.val) (o + k.val)) (X := fun a q => X (i * 256 + a.val) (o + q.val)) (W := fun k q => W j k.val q.val)
    (S := fun q => S (o + q.val)) hP (fun a q => by rw [cols_apply, hx]) (fun k q => by rw [plane_apply, hw]) (fun q => by rw [cols_apply, hs]) a q).trans ?_
  have e0 : ((st x w s P j o hj ho).1.emb (ix2 a q) 0).val = a.val := by show 0 + 1 * a.val = _; omega
  have e1 : ((st x w s P j o hj ho).1.emb (ix2 a q) 1).val = j * 512 + q.val := by show o + 1 * q.val = _; omega
  dsimp only
  unfold rr
  rw [e0, e1, show (j * 512 + q.val) / 512 = j by omega, show (j * 512 + q.val) % 512 = q.val by omega, hjo]

include hx hy hw hs in
theorem sts_apply (hi : i < 32) (a : Fin 256) (b : Fin 2048) :
    View.canon (sts x y w s (BitVec.ofNat 32 i)) (ix2 a b) = (rr X W S (i * 256 + a.val) b.val : EReal) := by
  have e := View.canon_append_of_piecesOf (fun z : S256x2048.Idx => (rr X W S (i * 256 + (z 0).val) (z 1).val : EReal)) [] (sts x y w s (BitVec.ofNat 32 i))
    ⟨st_piece hx hw hs 3 1536 _ _ rfl (P3_apply hi hx hy), st_piece hx hw hs 2 1024 _ _ rfl (P2_apply hi hx hy),
      st_piece hx hw hs 1 512 _ _ rfl (P1_apply hi hx hy), st_piece hx hw hs 0 0 _ _ rfl (P0_apply hi hx hy), trivial⟩ (ix2 a b) (sts_cover _ _ _ _ _ _)
  rwa [List.append_nil] at e

end Blocks

/-- The norm of a tile's rows. -/
theorem nrm_apply {r : Vec Ideal S256x2048 .f32} {g e : Vec Ideal S1x2048 .f32} {R : ℕ → ℕ → ℝ} {G B : ℕ → ℝ} {i : ℕ}
    (hr : ∀ a b, r (ix2 a b) = (R (i + a.val) b.val : EReal)) (hg : ∀ b, g (ix2 0 b) = (G b.val : EReal)) (he : ∀ b, e (ix2 0 b) = (B b.val : EReal))
    (a : Fin 256) (b : Fin 2048) : k0_pay1 (k0_pay9 r) (k0_pay10 g) e (ix2 a b) = (norm R G B (i + a.val) b : EReal) := by
  pointwise [k0_pay1, k0_pay9, k0_pay10]
  simp only [hr, hg, he, coe_sum, ofBits_2048, ofBits_eps, div_real _ (by norm_num : (2048 : ℝ) ≠ 0), ← EReal.coe_sub, ← EReal.coe_mul, ← EReal.coe_add]
  have e := rsqrt_real (vep_pos fun k => R (i + a.val) k.val)
  simp only [vep, cen] at e
  rw [e]
  simp only [← EReal.coe_mul, ← EReal.coe_add]
  rfl

/-! ## The arguments' blocks -/

variable (m : (ℓ : Loc nD τ sig) → Buf (Elt Ideal) ℓ)

/-- The arguments of a device are reals: the rows, the groups' weights, the scale, and the norm's scale and shift. -/
structure Reals (c : Dev nD) (X : ℕ → ℕ → ℝ) (W : ℕ → ℕ → ℕ → ℝ) (S G B : ℕ → ℝ) : Prop where
  x : ∀ (i : Fin 8192) (k : Fin 2048), (m (c.tc.loc main_arg0) : Vec Ideal S8192x2048 .f32) (ix2 i k) = (X i.val k.val : EReal)
  w : ∀ (g : Fin 4) (k q : Fin 512), (m (c.tc.loc main_arg1) : Vec Ideal S4x512x512 .f32) (ix3 g k q) = (W g.val k.val q.val : EReal)
  s : ∀ (k : Fin 2048), (m (c.tc.loc main_arg2) : Vec Ideal S2048 .f32) (ix1 k) = (S k.val : EReal)
  g : ∀ (k : Fin 2048), (m (c.tc.loc main_arg3) : Vec Ideal S2048 .f32) (ix1 k) = (G k.val : EReal)
  b : ∀ (k : Fin 2048), (m (c.tc.loc main_arg4) : Vec Ideal S2048 .f32) (ix1 k) = (B k.val : EReal)

variable {m} {c : Dev nD} {X : ℕ → ℕ → ℝ} {W : ℕ → ℕ → ℕ → ℝ} {S G B : ℕ → ℝ} (h : Reals m c X W S G B)

theorem point_lt (t : Fin cfg0.N) : t.val < 32 := lt_of_lt_of_eq t.isLt N_0

theorem idx_facts : ∀ t : Fin cfg0.N, (win0_0.index t 0 = t.val ∧ win0_0.index t 1 = 0)
    ∧ (win0_1.index t 0 = max (t.val * 16 - 1) 0 ∧ win0_1.index t 1 = 0)
    ∧ (win0_2.index t 0 = 0 ∧ win0_2.index t 1 = 0 ∧ win0_2.index t 2 = 0)
    ∧ (win0_3.index t 0 = 0 ∧ win0_3.index t 1 = 0) ∧ (win0_4.index t 0 = 0 ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0) ∧ (win0_8.index t 0 = t.val ∧ win0_8.index t 1 = 0)
    ∧ (grid0.coords t 0).val = t.val :=
  (by decide +kernel : ∀ t : Fin grid0.N, _)

include h

theorem Reals.v0 (g : Fin 4) (k q : Fin 512) : (V m c main_v0 : Vec Ideal S4x512x512 .bf16) (ix3 g k q) = (W g.val k.val q.val : EReal) :=
  (show _ = (m (c.tc.loc main_arg1) : Vec Ideal S4x512x512 .f32) (ix3 g k q) by unfold V hostOps0; after_reads_at).trans (h.w g k q)

theorem Reals.v1 (b : Fin 2048) : (V m c main_v1 : Vec Ideal S1x2048 .f32) (ix2 0 b) = (S b.val : EReal) :=
  (show _ = (m (c.tc.loc main_arg2) : Vec Ideal S2048 .f32) (ix1 b) by unfold V hostOps0; after_reads_at).trans (h.s b)

theorem Reals.v2 (b : Fin 2048) : (V m c main_v2 : Vec Ideal S1x2048 .f32) (ix2 0 b) = (G b.val : EReal) :=
  (show _ = (m (c.tc.loc main_arg3) : Vec Ideal S2048 .f32) (ix1 b) by unfold V hostOps0; after_reads_at).trans (h.g b)

theorem Reals.v3 (b : Fin 2048) : (V m c main_v3 : Vec Ideal S1x2048 .f32) (ix2 0 b) = (B b.val : EReal) :=
  (show _ = (m (c.tc.loc main_arg4) : Vec Ideal S2048 .f32) (ix1 b) by unfold V hostOps0; after_reads_at).trans (h.b b)

theorem Reals.pre (t : Fin cfg0.N) (a : Fin 256) (b : Fin 2048) : rows m c t (ix2 a b) = (rr X W S (t.val * 256 + a.val) b.val : EReal) := by
  obtain ⟨⟨a0, a1⟩, ⟨b0, b1⟩, ⟨c0, c1, c2⟩, ⟨d0, d1⟩, -, -, -, -, -, hc⟩ := idx_facts t
  have ht := point_lt t
  unfold rows
  rw [hc]
  refine sts_apply (fun a b => ?_) (fun h0 a b => ?_) (fun g k q => ?_) (fun b => ?_) ht a b
  · have ha := a.isLt
    refine Eq.trans (congrArg (V m c main_arg0 : Vec Ideal S8192x2048 .f32) (at2 ?_ ?_)) ((congrFun (V_main_arg0 m c) _).trans (h.x ⟨t.val * 256 + a.val, by omega⟩ b))
    · show win0_0.index t 0 * 256 + 1 * a.val = t.val * 256 + a.val; omega
    · exact blk_in ‹_›
  · have ha := a.isLt
    refine Eq.trans (congrArg (V m c main_arg0 : Vec Ideal S8192x2048 .f32) (at2 ?_ ?_)) ((congrFun (V_main_arg0 m c) _).trans (h.x ⟨t.val * 256 + a.val - 16, by omega⟩ b))
    · show win0_1.index t 0 * 16 + 1 * a.val = t.val * 256 + a.val - 16; omega
    · exact blk_in ‹_›
  · refine Eq.trans (congrArg (V m c main_v0 : Vec Ideal S4x512x512 .bf16) (funext fun x => Fin.ext ?_)) (h.v0 g k q)
    match x with
    | ⟨0, _⟩ => exact blk_in ‹_›
    | ⟨1, _⟩ => exact blk_in ‹_›
    | ⟨2, _⟩ => exact blk_in ‹_›
  · refine Eq.trans (congrArg (V m c main_v1 : Vec Ideal S1x2048 .f32) (at2 ?_ ?_)) (h.v1 b)
    · exact blk_in ‹_›
    · exact blk_in ‹_›

theorem Reals.nrm (t : Fin cfg0.N) (a : Fin 256) (b : Fin 2048) :
    k0_pay1 (k0_pay9 (rows m c t)) (k0_pay10 (iblk m c 4 t)) (iblk m c 5 t) (ix2 a b) = (norm (rr X W S) G B (t.val * 256 + a.val) b : EReal) := by
  obtain ⟨-, -, -, -, ⟨e0, e1⟩, ⟨f0, f1⟩, -⟩ := idx_facts t
  refine nrm_apply (h.pre t) (fun b => ?_) (fun b => ?_) a b
  · refine Eq.trans (congrArg (V m c main_v2 : Vec Ideal S1x2048 .f32) (at2 ?_ ?_)) (h.v2 b)
    · exact blk_in ‹_›
    · exact blk_in ‹_›
  · refine Eq.trans (congrArg (V m c main_v3 : Vec Ideal S1x2048 .f32) (at2 ?_ ?_)) (h.v3 b)
    · exact blk_in ‹_›
    · exact blk_in ‹_›

/-! ## The result arrays -/

omit h

/-- The rows before the norm, and the normalised rows, at an index of the array. -/
def gR (R : ℕ → ℕ → ℝ) (i : S8192x2048.Idx) : EReal := (R (i 0).val (i 1).val : EReal)

def gN (R : ℕ → ℕ → ℝ) (G B : ℕ → ℝ) (i : S8192x2048.Idx) : EReal := (norm R G B (i 0).val (i 1) : EReal)

/-- The point whose tile holds a row, -/
theorem tile_of (i : S8192x2048.Idx) : ∃ t : Fin cfg0.N, t.val = (i 0).val / 256 := by
  have hN : cfg0.N = 32 := N_0
  have h0 : _ < 8192 := (i 0).isLt
  exact ⟨⟨(i 0).val / 256, by omega⟩, rfl⟩

/-- an index of that tile, -/
theorem in_tile {x : Fin 2 → ℕ} {t : ℕ} {i : S8192x2048.Idx} (h0 : x 0 = t) (h1 : x 1 = 0) (ht : t = (i 0).val / 256) (a : Fin 2) :
    x a * (![256, 2048] : Fin 2 → ℕ) a ≤ (i a).val ∧ (i a).val < x a * (![256, 2048] : Fin 2 → ℕ) a + (![256, 2048] : Fin 2 → ℕ) a := by
  have hi : (i 1 : Nat) < 2048 := (i 1).isLt
  match a with
  | ⟨0, _⟩ => show x 0 * 256 ≤ (i 0 : Nat) ∧ (i 0 : Nat) < x 0 * 256 + 256; omega
  | ⟨1, _⟩ => show x 1 * 2048 ≤ (i 1 : Nat) ∧ (i 1 : Nat) < x 1 * 2048 + 2048; omega

/-- and an entry of it in the array. -/
theorem at_tile {x : Fin 2 → ℕ} {t : ℕ} {i : S8192x2048.Idx} {a : Fin 256} {b : Fin 2048} (h0 : x 0 = t) (h1 : x 1 = 0)
    (e0 : (i 0).val = x 0 * 256 + 1 * a.val) (e1 : (i 1).val = x 1 * 2048 + 1 * b.val) (ht : t < cfg0.N) :
    i = ix2 ⟨t * 256 + a.val, by have hN : cfg0.N = 32 := N_0; have ha := a.isLt; omega⟩ b :=
  at2 (by show _ = t * 256 + a.val; omega) (by omega)

attribute [local irreducible] rows

include h

theorem final_6 : (dats m 0 c).arrAt 6 cfg0.N = gR (rr X W S) :=
  (dats m 0 c).arrAt_eq_of_cover 6 (gR (rr X W S)) (fun t _ => by
    obtain ⟨-, -, -, -, -, -, hi, -⟩ := idx_facts t
    rw [Value.flushed6, outs]
    exact ext2 fun a b => (h.pre t a b).trans (congrArg (gR (rr X W S)) (at_tile (a := a) (b := b) hi.1 hi.2 rfl rfl t.isLt)).symm) (fun i => by
    obtain ⟨t, ht⟩ := tile_of i
    refine ⟨t, flush0_6 _, ?_⟩
    obtain ⟨-, -, -, -, -, -, hi, -⟩ := idx_facts t
    exact in_rect (in_tile hi.1 hi.2 ht))

theorem final_7 : (dats m 0 c).arrAt 7 cfg0.N = gN (rr X W S) G B :=
  (dats m 0 c).arrAt_eq_of_cover 7 (gN (rr X W S) G B) (fun t _ => by
    obtain ⟨-, -, -, -, -, -, -, hi, -⟩ := idx_facts t
    rw [Value.flushed7, outs]
    exact ext2 fun a b => (h.nrm t a b).trans (congrArg (gN (rr X W S) G B) (at_tile (a := a) (b := b) hi.1 hi.2 rfl rfl t.isLt)).symm) (fun i => by
    obtain ⟨t, ht⟩ := tile_of i
    refine ⟨t, flush0_7 _, ?_⟩
    obtain ⟨-, -, -, -, -, -, -, hi, -⟩ := idx_facts t
    exact in_rect (in_tile hi.1 hi.2 ht))

theorem final_8 : (dats m 0 c).arrAt 8 cfg0.N = gN (rr X W S) G B :=
  (dats m 0 c).arrAt_eq_of_cover 8 (gN (rr X W S) G B) (fun t _ => by
    obtain ⟨-, -, -, -, -, -, -, -, hi, -⟩ := idx_facts t
    rw [Value.flushed8, outs]
    exact ext2 fun a b => (h.nrm t a b).trans (congrArg (gN (rr X W S) G B) (at_tile (a := a) (b := b) hi.1 hi.2 rfl rfl t.isLt)).symm) (fun i => by
    obtain ⟨t, ht⟩ := tile_of i
    refine ⟨t, flush0_8 _, ?_⟩
    obtain ⟨-, -, -, -, -, -, -, -, hi, -⟩ := idx_facts t
    exact in_rect (in_tile hi.1 hi.2 ht))

end Cert.KernelTrunkIdeal.Val

end
-- ==== Proof.TrunkRef.lean ====
/- The values of the pool's forward reference: its pool is the one of the backward reference, its norm the one under the norm's
   derivative. -/
module

public import proofs.«01_k».proof.Proof.LnRef
public import proofs.«01_k».proof.Proof.MixRef
public import proofs.«01_k».proof.Proof.TrunkKernel
public import proofs.«01_k».proof.Proof.Gen.ReferenceTrunkIdeal.Run
public import proofs.«01_k».proof.Proof.Gen.ReferenceTrunkIdeal.Read

@[expose] public section

noncomputable section

namespace Cert.ReferenceTrunkIdeal.Val

open Cert.ReferenceTrunkIdeal Cert.ReferenceTrunkIdeal.Gen Cert.ReferenceTrunkIdeal.Read Cert.Common Cert.Counts Cert.LnMath
open Cert.KernelTrunkIdeal.Val (rr)
open Idealize.ShloMosaic

variable {x0 : Vec Ideal S8192x2048 .f32} {x1 : Vec Ideal S4x512x512 .f32} {x2 x3 x4 : Vec Ideal S2048 .f32} {X : ℕ → ℕ → ℝ} {S G B : ℕ → ℝ} {W : ℕ → ℕ → ℕ → ℝ}
  (h0 : ∀ (i : Fin 8192) (k : Fin 2048), x0 (ix2 i k) = (X i.val k.val : EReal))
  (h1 : ∀ (g : Fin 4) (k q : Fin 512), x1 (ix3 g k q) = (W g.val k.val q.val : EReal))
  (h2 : ∀ k : Fin 2048, x2 (ix1 k) = (S k.val : EReal)) (h3 : ∀ k : Fin 2048, x3 (ix1 k) = (G k.val : EReal)) (h4 : ∀ k : Fin 2048, x4 (ix1 k) = (B k.val : EReal))

include h0 h1 h2

theorem v79 (i : Fin 8192) (b : Fin 2048) : val_main_v79 (F := Ideal) x0 x1 x2 (ix2 i b) = (rr X W S i.val b.val : EReal) := by
  have e : val_main_v75 (F := Ideal) x0 x1 (ix2 i b) = _ := Cert.ReferenceMixIdeal.Val.v73 h0 h1 i b
  pointwise [val_main_v79, val_main_v78, val_main_v77, val_main_v76, val_main_v1, val_main_v0, val_main_cst]
  rw [e, h0, h2, ofBits_alpha]
  simp only [← EReal.coe_mul, ← EReal.coe_add]
  rfl

include h3 h4

theorem v103 (i : Fin 8192) (b : Fin 2048) : val_main_v103 (F := Ideal) x0 x1 x2 x3 x4 (ix2 i b) = (norm (rr X W S) G B i.val b : EReal) := by
  have e : val_main_v97 (F := Ideal) x0 x1 x2 (ix2 i b) = _ := Cert.ReferenceLnIdeal.Val.v23 (R := fun n k => rr X W S n.val k.val) (v79 h0 h1 h2) i b
  pointwise [val_main_v103, val_main_v102, val_main_v101, val_main_v100, val_main_v99, val_main_v98]
  rw [e, h3, h4]
  simp only [← EReal.coe_mul, ← EReal.coe_add]
  rfl

end Cert.ReferenceTrunkIdeal.Val

end
-- ==== Proof.Trunk.lean ====
/- The pool's forward kernel, with its residual and norm: its two frames, the reference's frame, and the equality of the results
   over the reals from finite arguments. -/
module

public import proofs.«01_k».proof.Defs
public import proofs.«01_k».proof.Proof.Gen.KernelTrunk
public import proofs.«01_k».proof.Proof.Gen.Pre_finite_trunk
public import proofs.«01_k».proof.Proof.Mix
public import proofs.«01_k».proof.Proof.TrunkRef
public import Idealize.ShloMosaic.Lib.ReduceAll

@[expose] public section

noncomputable section

namespace Cert.Trunk

open Cert.Common Cert.Blocks
open Cert.Mix (rowsOf)
open Idealize.ShloMosaic

theorem frame_kernel : Cert.quiescent_KernelTrunk := fun m ρ _ =>
  cast (by sl_kernel_rfl) (Cert.KernelTrunkIdeal.Gen.frame (F := Bits) m ρ)

theorem frame_ideal : Cert.quiescent_KernelTrunkIdeal := fun m ρ _ => Cert.KernelTrunkIdeal.Gen.frame m ρ

theorem frame_reference : Cert.quiescent_ReferenceTrunkIdeal := fun m ρ _ =>
  (θ_run Cert.ReferenceTrunkIdeal.defs _ _).mono (fun r h => ⟨fun c => (h c).2.2.2, sem_eq_zero_of_no_sems (by decide) r.2⟩)
    (Cert.ReferenceTrunkIdeal.Value.run (F := Ideal) m ρ)

section Pre

variable (m : (ℓ : Loc Cert.KernelTrunkIdeal.nD Cert.KernelTrunkIdeal.τ Cert.KernelTrunkIdeal.sig) → Buf (Elt Ideal) ℓ)
  (c : Dev Cert.KernelTrunkIdeal.nD)

/-- The entries of a vector as reals, zero past its end. -/
def vecOf (x : Vec Ideal Cert.KernelTrunkIdeal.S2048 .f32) (k : ℕ) : ℝ := if h : k < 2048 then (x (ix1 ⟨k, h⟩)).toReal else 0

/-- The rows, the weights, the scale, and the norm's scale and shift as reals. -/
def Xv : ℕ → ℕ → ℝ := rowsOf (m (c.tc.loc Cert.KernelTrunkIdeal.main_arg0))

def Wv (g k q : ℕ) : ℝ := if h : g < 4 ∧ k < 512 ∧ q < 512 then
  ((m (c.tc.loc Cert.KernelTrunkIdeal.main_arg1) : Vec Ideal Cert.KernelTrunkIdeal.S4x512x512 .f32) (ix3 ⟨g, h.1⟩ ⟨k, h.2.1⟩ ⟨q, h.2.2⟩)).toReal else 0

def Sv : ℕ → ℝ := vecOf (m (c.tc.loc Cert.KernelTrunkIdeal.main_arg2))

def Gv : ℕ → ℝ := vecOf (m (c.tc.loc Cert.KernelTrunkIdeal.main_arg3))

def Bv : ℕ → ℝ := vecOf (m (c.tc.loc Cert.KernelTrunkIdeal.main_arg4))

instance : Subsingleton Cert.Pre_finite_trunk.S_.Idx := ⟨fun a b => funext fun i => i.elim0⟩

theorem reals (h : Cert.Pre_KernelTrunkIdeal_finite_trunk m) : Cert.KernelTrunkIdeal.Val.Reals m c (Xv m c) (Wv m c) (Sv m c) (Gv m c) (Bv m c) := by
  have e := congrFun (h c) ix0
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i k => ?_, fun g k q => ?_, fun k => ?_, fun k => ?_, fun k => ?_⟩
  · rw [Xv, rowsOf, dif_pos ⟨i.isLt, k.isLt⟩]
    exact real_at e0 (ix2 i k)
  · rw [Wv, dif_pos ⟨g.isLt, k.isLt, q.isLt⟩]
    exact real_at e1 (ix3 g k q)
  · rw [Sv, vecOf, dif_pos k.isLt]
    exact real_at e2 (ix1 k)
  · rw [Gv, vecOf, dif_pos k.isLt]
    exact real_at e3 (ix1 k)
  · rw [Bv, vecOf, dif_pos k.isLt]
    exact real_at e4 (ix1 k)

end Pre

open Cert.KernelTrunkIdeal.Val in
theorem values : Cert.algebraic_KernelTrunkIdeal_ReferenceTrunkIdeal_pre_finite_trunk := by
  intro m g m' g' h hag
  have hR := fun c => reals m c h
  refine ⟨fun c => gR (rr (Xv m c) (Wv m c) (Sv m c)), fun c => gN (rr (Xv m c) (Wv m c) (Sv m c)) (Gv m c) (Bv m c),
    fun c => gN (rr (Xv m c) (Wv m c) (Sv m c)) (Gv m c) (Bv m c), ?_, ?_⟩
  · refine (θ_run Cert.KernelTrunkIdeal.defs _ _).mono (fun r hr c => ?_) (Cert.KernelTrunkIdeal.Value.run_blocks (F := Ideal) m g)
    obtain ⟨h6, h7, h8, ha⟩ := hr c
    exact ⟨h6.trans (final_6 (hR c)), h7.trans (final_7 (hR c)), h8.trans (final_8 (hR c)), ha⟩
  · refine (θ_run Cert.ReferenceTrunkIdeal.defs _ _).mono (fun r hr c => ?_) (Cert.ReferenceTrunkIdeal.Value.run (F := Ideal) m' g')
    obtain ⟨r0, r1, r2, ha⟩ := hr c
    obtain ⟨a0, a1, a2, a3, a4⟩ := hag c
    have d0 := same2 (hR c).x a0
    have d1 := same3 (hR c).w a1
    have d2 := same1 (hR c).s a2
    have d3 := same1 (hR c).g a3
    have d4 := same1 (hR c).b a4
    refine ⟨r0.trans ((Cert.ReferenceTrunkIdeal.Read.val_main_v79_eq _ _).trans (funext fun i => ?_)),
      r1.trans ((Cert.ReferenceTrunkIdeal.Read.val_main_v103_eq _ _).trans (funext fun i => ?_)),
      r2.trans ((Cert.ReferenceTrunkIdeal.Read.val_main_v104_eq _ _).trans (funext fun i => ?_)), ha⟩
    all_goals obtain ⟨a, b, rfl⟩ : ∃ a b, i = ix2 a b := ⟨_, _, eq_ix2 i⟩
    · exact Cert.ReferenceTrunkIdeal.Val.v79 d0 d1 d2 a b
    · exact Cert.ReferenceTrunkIdeal.Val.v103 d0 d1 d2 d3 d4 a b
    · exact Cert.ReferenceTrunkIdeal.Val.v103 d0 d1 d2 d3 d4 a b

end Cert.Trunk

end
-- ==== Proof.JoinKernel.lean ====
/- The values of the kernel of the product with the residual and the norm: what each grid point stores, and the result arrays
   after the run. The first point brings the weights into scratch memory, where every later point finds them. -/
module

public import proofs.«01_k».proof.Proof.TrunkKernel
public import proofs.«01_k».proof.Proof.Gen.KernelJoinIdeal.Value

@[expose] public section

noncomputable section

namespace Cert.KernelJoinIdeal.Val

open Cert.KernelJoinIdeal Cert.KernelJoinIdeal.Gen Cert.Common Cert.Counts Cert.LnMath Cert.Blocks
open Cert.KernelTrunkIdeal.Val (nrm_apply gR gN in_tile at_tile)
open Idealize.ShloMosaic Idealize.ShloMosaic.TcCoe Idealize.SL.Sem
open Idealize.ShloMosaic.Pipeline (Dat)

section Points

variable (m : (ℓ : Loc nD τ sig) → Buf (Elt Ideal) ℓ) (c : Dev nD)

/-- What a grid point leaves from the weights it finds, which it leaves too. -/
def tile (t : Fin cfg0.N) (w : Vec Ideal S1x2048x2048 .bf16) :
    Vec Ideal S256x2048 .f32 × Vec Ideal S256x2048 .f32 × Vec Ideal S256x2048 .bf16 × Vec Ideal S1x2048x2048 .bf16 :=
  (k0_pay3 (iblk m c 1 t) (iblk m c 0 t) w,
    k0_pay1 (k0_pay4 (iblk m c 3 t)) (k0_pay5 (iblk m c 1 t) (iblk m c 0 t) w) (k0_pay6 (iblk m c 2 t)),
    k0_pay2 (k0_pay4 (iblk m c 3 t)) (k0_pay5 (iblk m c 1 t) (iblk m c 0 t) w) (k0_pay6 (iblk m c 2 t)), w)

omit m c in
theorem canon_whole (w : Vec Ideal S1x2048x2048 .bf16) : View.canon (Val := Elt Ideal) (e := .bf16) [⟨Rect.whole S1x2048x2048, w⟩] = w := View.canon_cons_unit_zero rfl _ _ _

omit m c in
theorem filled (v : View sig .tc .vmem S1x2048x2048 .bf16) (w : Vec Ideal S1x2048x2048 .bf16) : v.readCov (Val := Elt Ideal) [⟨Rect.whole S1x2048x2048, w⟩]
    (Rect.unit (s := S1x2048x2048) ![0, 0, 0] ![1, 2048, 2048] inb_S1x2048x2048_S1x2048x2048_0_0_0).toLoadRect = w := by
  rw [View.readCov_eq_canon_ld _ _ _ (fun y => ⟨_, List.mem_cons_self, by
    show y ∈ (Rect.whole S1x2048x2048).set; rw [Rect.set_whole]; exact Finset.mem_univ y⟩), canon_whole]
  exact View.ld_unit_zero (S := S1x2048x2048) hz3 _ _

theorem outs_A (t : Fin cfg0.N) (h0 : t.val % 32 = 0) : outsAt0 m c t.val t.isLt = tile m c t (V m c main_v3) := by
  rw [outsAt0_A m c t h0]
  unfold out0_A_4 out0_A_5 out0_A_6 sout0_A_0
  simp only [View.read_writes_junk_eq_canon]
  unfold kernelRun0_A
  dsimp only
  sl_unfold_words
  simp only [View.canon_unit_zero (S := S256x2048) hz2, View.readAt_eq_ld, (hs0_0 t).read_unread, (hs0_1 t).read_unread, (hs0_2 t).read_unread, (hs0_3 t).read_unread,
    View.ld_unit_zero (S := S1x2048) hz2, View.ld_unit_zero (S := S256x2048) hz2, View.ld_unit_zero (S := S1x256x2048) hz3,
    View.ld_unit_zero (S := S1x2048x2048) hz3, filled, canon_whole]
  rfl

theorem outs_B (t : Fin cfg0.N) (h0 : ¬t.val % 32 = 0) :
    outsAt0 m c t.val t.isLt = tile m c t (outsAt0 m c (t.val - 1) (Nat.lt_of_le_of_lt (Nat.sub_le _ _) t.isLt)).2.2.2 := by
  rw [outsAt0_B m c t h0]
  unfold out0_B_4 out0_B_5 out0_B_6 sout0_B_0
  simp only [View.read_writes_junk_eq_canon]
  unfold kernelRun0_B
  dsimp only
  sl_unfold_words
  simp only [View.canon_unit_zero (S := S256x2048) hz2, View.readAt_eq_ld, (hs0_0 t).read_unread, (hs0_1 t).read_unread, (hs0_2 t).read_unread, (hs0_3 t).read_unread,
    View.ld_unit_zero (S := S1x2048) hz2, View.ld_unit_zero (S := S256x2048) hz2, View.ld_unit_zero (S := S1x256x2048) hz3,
    View.ld_unit_zero (S := S1x2048x2048) hz3, (Memref.isWhole_whole _).read_unread]
  rfl

theorem outs (t : Fin cfg0.N) : outsAt0 m c t.val t.isLt = tile m c t (V m c main_v3) := by
  obtain ⟨n, hn⟩ := t
  induction n with
  | zero => exact outs_A m c ⟨0, hn⟩ rfl
  | succ n ih =>
    have hN : n + 1 < 32 := lt_of_lt_of_eq hn N_0
    rw [outs_B m c ⟨n + 1, hn⟩ (by show ¬(n + 1) % 32 = 0; omega)]
    exact congrArg (tile m c ⟨n + 1, hn⟩) (congrArg (fun p => p.2.2.2) (ih (Nat.lt_of_succ_lt hn)))

end Points

/-! ## On reals -/

/-- A row before the norm: the residual's part and the product. -/
def jj (O W R : ℕ → ℕ → ℝ) (n b : ℕ) : ℝ := alpha * R n b + ∑ k : Fin 2048, O n k.val * W k.val b

theorem pay3 {o : Vec Ideal S1x256x2048 .bf16} {r : Vec Ideal S256x2048 .f32} {w : Vec Ideal S1x2048x2048 .bf16} {O W R : ℕ → ℕ → ℝ} {i : ℕ}
    (ho : ∀ a k, o (ix3 0 a k) = (O (i + a.val) k.val : EReal)) (hr : ∀ a b, r (ix2 a b) = (R (i + a.val) b.val : EReal))
    (hw : ∀ k b, w (ix3 0 k b) = (W k.val b.val : EReal)) (a : Fin 256) (b : Fin 2048) : k0_pay3 r o w (ix2 a b) = (jj O W R (i + a.val) b.val : EReal) := by
  pointwise [k0_pay3]
  simp only [ho, hr, hw, ofBits_alpha, ← EReal.coe_mul, coe_sum, ← EReal.coe_add, jj]

/-- The norm is the one of the pool's kernel. -/
theorem pay1 (o : Vec Ideal S1x256x2048 .bf16) (r : Vec Ideal S256x2048 .f32) (w : Vec Ideal S1x2048x2048 .bf16) (g e : Vec Ideal S1x2048 .f32) :
    k0_pay1 (k0_pay4 e) (k0_pay5 r o w) (k0_pay6 g) =
      Cert.KernelTrunkIdeal.Gen.k0_pay1 (Cert.KernelTrunkIdeal.Gen.k0_pay9 (k0_pay3 r o w)) (Cert.KernelTrunkIdeal.Gen.k0_pay10 g) e := by
  unfold k0_pay5 Cert.KernelTrunkIdeal.Gen.k0_pay9
  rw [shapeCast_self]
  rfl

/-! ## The arguments' blocks -/

variable (m : (ℓ : Loc nD τ sig) → Buf (Elt Ideal) ℓ)

/-- The arguments of a device are reals: the product's factors, the residual, and the norm's scale and shift. -/
structure Reals (c : Dev nD) (O W R : ℕ → ℕ → ℝ) (G B : ℕ → ℝ) : Prop where
  o : ∀ (i : Fin 8192) (k : Fin 2048), (m (c.tc.loc main_arg0) : Vec Ideal S8192x2048 .f32) (ix2 i k) = (O i.val k.val : EReal)
  w : ∀ k q : Fin 2048, (m (c.tc.loc main_arg1) : Vec Ideal S2048x2048 .f32) (ix2 k q) = (W k.val q.val : EReal)
  r : ∀ (i : Fin 8192) (k : Fin 2048), (m (c.tc.loc main_arg2) : Vec Ideal S8192x2048 .f32) (ix2 i k) = (R i.val k.val : EReal)
  g : ∀ k : Fin 2048, (m (c.tc.loc main_arg3) : Vec Ideal S2048 .f32) (ix1 k) = (G k.val : EReal)
  b : ∀ k : Fin 2048, (m (c.tc.loc main_arg4) : Vec Ideal S2048 .f32) (ix1 k) = (B k.val : EReal)

variable {m} {c : Dev nD} {O W R : ℕ → ℕ → ℝ} {G B : ℕ → ℝ} (h : Reals m c O W R G B)

theorem idx_facts : ∀ t : Fin cfg0.N, (win0_0.index t 0 = 0 ∧ win0_0.index t 1 = t.val ∧ win0_0.index t 2 = 0)
    ∧ (win0_1.index t 0 = t.val ∧ win0_1.index t 1 = 0) ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) ∧ (win0_6.index t 0 = t.val ∧ win0_6.index t 1 = 0) :=
  (by decide +kernel : ∀ t : Fin grid0.N, _)

include h

theorem Reals.v1 (i : Fin 8192) (k : Fin 2048) : (V m c main_v1 : Vec Ideal S1x8192x2048 .bf16) (ix3 0 i k) = (O i.val k.val : EReal) :=
  (show _ = (m (c.tc.loc main_arg0) : Vec Ideal S8192x2048 .f32) (ix2 i k) by unfold V hostOps0; after_reads_at).trans (h.o i k)

theorem Reals.v3 (k q : Fin 2048) : (V m c main_v3 : Vec Ideal S1x2048x2048 .bf16) (ix3 0 k q) = (W k.val q.val : EReal) :=
  (show _ = (m (c.tc.loc main_arg1) : Vec Ideal S2048x2048 .f32) (ix2 k q) by unfold V hostOps0; after_reads_at).trans (h.w k q)

theorem Reals.v4 (b : Fin 2048) : (V m c main_v4 : Vec Ideal S1x2048 .f32) (ix2 0 b) = (G b.val : EReal) :=
  (show _ = (m (c.tc.loc main_arg3) : Vec Ideal S2048 .f32) (ix1 b) by unfold V hostOps0; after_reads_at).trans (h.g b)

theorem Reals.v5 (b : Fin 2048) : (V m c main_v5 : Vec Ideal S1x2048 .f32) (ix2 0 b) = (B b.val : EReal) :=
  (show _ = (m (c.tc.loc main_arg4) : Vec Ideal S2048 .f32) (ix1 b) by unfold V hostOps0; after_reads_at).trans (h.b b)

theorem Reals.pre (t : Fin cfg0.N) (a : Fin 256) (b : Fin 2048) : (tile m c t (V m c main_v3)).1 (ix2 a b) = (jj O W R (t.val * 256 + a.val) b.val : EReal) := by
  obtain ⟨⟨a0, a1, a2⟩, ⟨b0, b1⟩, -⟩ := idx_facts t
  have ht : t.val < 32 := lt_of_lt_of_eq t.isLt N_0
  refine pay3 (fun a k => ?_) (fun a b => ?_) h.v3 a b
  · have ha := a.isLt
    refine Eq.trans (congrArg (V m c main_v1 : Vec Ideal S1x8192x2048 .bf16) (funext fun x => Fin.ext ?_)) (h.v1 ⟨t.val * 256 + a.val, by omega⟩ k)
    match x with
    | ⟨0, _⟩ => exact blk_in ‹_›
    | ⟨1, _⟩ => show win0_0.index t 1 * 256 + 1 * a.val = t.val * 256 + a.val; omega
    | ⟨2, _⟩ => exact blk_in ‹_›
  · have ha := a.isLt
    refine Eq.trans (congrArg (V m c main_arg2 : Vec Ideal S8192x2048 .f32) (at2 ?_ ?_)) ((congrFun (V_main_arg2 m c) _).trans (h.r ⟨t.val * 256 + a.val, by omega⟩ b))
    · show win0_1.index t 0 * 256 + 1 * a.val = t.val * 256 + a.val; omega
    · exact blk_in ‹_›

theorem Reals.nrm (t : Fin cfg0.N) (a : Fin 256) (b : Fin 2048) :
    (tile m c t (V m c main_v3)).2.1 (ix2 a b) = (norm (jj O W R) G B (t.val * 256 + a.val) b : EReal) := by
  obtain ⟨-, -, ⟨e0, e1⟩, ⟨f0, f1⟩, -⟩ := idx_facts t
  refine (congrFun (pay1 (iblk m c 0 t) (iblk m c 1 t) (V m c main_v3) (iblk m c 2 t) (iblk m c 3 t)) _).trans (nrm_apply (h.pre t) (fun b => ?_) (fun b => ?_) a b)
  · refine Eq.trans (congrArg (V m c main_v4 : Vec Ideal S1x2048 .f32) (at2 ?_ ?_)) (h.v4 b)
    · exact blk_in ‹_›
    · exact blk_in ‹_›
  · refine Eq.trans (congrArg (V m c main_v5 : Vec Ideal S1x2048 .f32) (at2 ?_ ?_)) (h.v5 b)
    · exact blk_in ‹_›
    · exact blk_in ‹_›

theorem Reals.low (t : Fin cfg0.N) (a : Fin 256) (b : Fin 2048) :
    (tile m c t (V m c main_v3)).2.2.1 (ix2 a b) = (norm (jj O W R) G B (t.val * 256 + a.val) b : EReal) := h.nrm t a b

/-! ## The result arrays -/

attribute [local irreducible] tile

theorem final_4 : (dats m 0 c).arrAt 4 cfg0.N = gR (jj O W R) :=
  (dats m 0 c).arrAt_eq_of_cover 4 (gR (jj O W R)) (fun t _ => by
    obtain ⟨-, -, -, -, hi, -⟩ := idx_facts t
    rw [Value.flushed4, outs]
    exact ext2 fun a b => (h.pre t a b).trans (congrArg (gR (jj O W R)) (at_tile (i := ((cfg0.win 4).blk t).view.emb (ix2 a b)) (a := a) (b := b) hi.1 hi.2 rfl rfl t.isLt)).symm) (fun i => by
    obtain ⟨t, ht⟩ : ∃ t : Fin cfg0.N, t.val = (i 0).val / 256 := Cert.KernelTrunkIdeal.Val.tile_of i
    refine ⟨t, flush0_4 _, ?_⟩
    obtain ⟨-, -, -, -, hi, -⟩ := idx_facts t
    exact in_rect (in_tile hi.1 hi.2 ht))

theorem final_5 : (dats m 0 c).arrAt 5 cfg0.N = gN (jj O W R) G B :=
  (dats m 0 c).arrAt_eq_of_cover 5 (gN (jj O W R) G B) (fun t _ => by
    obtain ⟨-, -, -, -, -, hi, -⟩ := idx_facts t
    rw [Value.flushed5, outs]
    exact ext2 fun a b => (h.nrm t a b).trans (congrArg (gN (jj O W R) G B) (at_tile (i := ((cfg0.win 5).blk t).view.emb (ix2 a b)) (a := a) (b := b) hi.1 hi.2 rfl rfl t.isLt)).symm) (fun i => by
    obtain ⟨t, ht⟩ : ∃ t : Fin cfg0.N, t.val = (i 0).val / 256 := Cert.KernelTrunkIdeal.Val.tile_of i
    refine ⟨t, flush0_5 _, ?_⟩
    obtain ⟨-, -, -, -, -, hi, -⟩ := idx_facts t
    exact in_rect (in_tile hi.1 hi.2 ht))

theorem final_6 : (dats m 0 c).arrAt 6 cfg0.N = gN (jj O W R) G B :=
  (dats m 0 c).arrAt_eq_of_cover 6 (gN (jj O W R) G B) (fun t _ => by
    obtain ⟨-, -, -, -, -, -, hi⟩ := idx_facts t
    rw [Value.flushed6, outs]
    exact ext2 fun a b => (h.low t a b).trans (congrArg (gN (jj O W R) G B) (at_tile (i := ((cfg0.win 6).blk t).view.emb (ix2 a b)) (a := a) (b := b) hi.1 hi.2 rfl rfl t.isLt)).symm) (fun i => by
    obtain ⟨t, ht⟩ : ∃ t : Fin cfg0.N, t.val = (i 0).val / 256 := Cert.KernelTrunkIdeal.Val.tile_of i
    refine ⟨t, flush0_6 _, ?_⟩
    obtain ⟨-, -, -, -, -, -, hi⟩ := idx_facts t
    exact in_rect (in_tile hi.1 hi.2 ht))

end Cert.KernelJoinIdeal.Val

end
-- ==== Proof.JoinRef.lean ====
/- The values of the reference of the product with the residual and the norm: its norm is the one under the norm's derivative. -/
module

public import proofs.«01_k».proof.Proof.LnRef
public import proofs.«01_k».proof.Proof.JoinKernel
public import proofs.«01_k».proof.Proof.Gen.ReferenceJoinIdeal.Run
public import proofs.«01_k».proof.Proof.Gen.ReferenceJoinIdeal.Read

@[expose] public section

noncomputable section

namespace Cert.ReferenceJoinIdeal.Val

open Cert.ReferenceJoinIdeal Cert.ReferenceJoinIdeal.Gen Cert.ReferenceJoinIdeal.Read Cert.Common Cert.Counts Cert.LnMath
open Cert.KernelJoinIdeal.Val (jj)
open Idealize.ShloMosaic

variable {x0 x2 : Vec Ideal S8192x2048 .f32} {x1 : Vec Ideal S2048x2048 .f32} {x3 x4 : Vec Ideal S2048 .f32} {O W R : ℕ → ℕ → ℝ} {G B : ℕ → ℝ}
  (h0 : ∀ (i : Fin 8192) (k : Fin 2048), x0 (ix2 i k) = (O i.val k.val : EReal))
  (h1 : ∀ k q : Fin 2048, x1 (ix2 k q) = (W k.val q.val : EReal))
  (h2 : ∀ (i : Fin 8192) (k : Fin 2048), x2 (ix2 i k) = (R i.val k.val : EReal))
  (h3 : ∀ k : Fin 2048, x3 (ix1 k) = (G k.val : EReal)) (h4 : ∀ k : Fin 2048, x4 (ix1 k) = (B k.val : EReal))

include h0 h1 h2

theorem v3 (i : Fin 8192) (b : Fin 2048) : val_main_v3 (F := Ideal) x0 x1 x2 (ix2 i b) = (jj O W R i.val b.val : EReal) := by
  pointwise [val_main_v3, val_main_v2, val_main_v1, val_main_v0, val_main_cst]
  simp only [h0, h1, h2, ofBits_alpha, ← EReal.coe_mul, coe_sum, ← EReal.coe_add, jj]

include h3 h4

theorem v27 (i : Fin 8192) (b : Fin 2048) : val_main_v27 (F := Ideal) x0 x1 x2 x3 x4 (ix2 i b) = (norm (jj O W R) G B i.val b : EReal) := by
  have e : val_main_v21 (F := Ideal) x0 x1 x2 (ix2 i b) = _ := Cert.ReferenceLnIdeal.Val.v23 (R := fun n k => jj O W R n.val k.val) (v3 h0 h1 h2) i b
  pointwise [val_main_v27, val_main_v26, val_main_v25, val_main_v24, val_main_v23, val_main_v22]
  rw [e, h3, h4]
  simp only [← EReal.coe_mul, ← EReal.coe_add]
  rfl

end Cert.ReferenceJoinIdeal.Val

end
-- ==== Proof.Join.lean ====
/- The kernel of the product with the residual and the norm: its two frames, the reference's frame, and the equality of the results
   over the reals from finite arguments. -/
module

public import proofs.«01_k».proof.Defs
public import proofs.«01_k».proof.Proof.Gen.KernelJoin
public import proofs.«01_k».proof.Proof.Gen.Pre_finite_join
public import proofs.«01_k».proof.Proof.Trunk
public import proofs.«01_k».proof.Proof.JoinRef
public import Idealize.ShloMosaic.Lib.ReduceAll

@[expose] public section

noncomputable section

namespace Cert.Join

open Cert.Common Cert.Blocks
open Cert.Mix (rowsOf)
open Cert.Trunk (vecOf)
open Idealize.ShloMosaic

theorem frame_kernel : Cert.quiescent_KernelJoin := fun m ρ _ =>
  cast (by sl_kernel_rfl) (Cert.KernelJoinIdeal.Gen.frame (F := Bits) m ρ)

theorem frame_ideal : Cert.quiescent_KernelJoinIdeal := fun m ρ _ => Cert.KernelJoinIdeal.Gen.frame m ρ

theorem frame_reference : Cert.quiescent_ReferenceJoinIdeal := fun m ρ _ =>
  (θ_run Cert.ReferenceJoinIdeal.defs _ _).mono (fun r h => ⟨fun c => (h c).2.2.2, sem_eq_zero_of_no_sems (by decide) r.2⟩)
    (Cert.ReferenceJoinIdeal.Value.run (F := Ideal) m ρ)

section Pre

variable (m : (ℓ : Loc Cert.KernelJoinIdeal.nD Cert.KernelJoinIdeal.τ Cert.KernelJoinIdeal.sig) → Buf (Elt Ideal) ℓ)
  (c : Dev Cert.KernelJoinIdeal.nD)

/-- The product's factors, the residual, and the norm's scale and shift as reals. -/
def Ov : ℕ → ℕ → ℝ := rowsOf (m (c.tc.loc Cert.KernelJoinIdeal.main_arg0))

def Wv (k q : ℕ) : ℝ := if h : k < 2048 ∧ q < 2048 then
  ((m (c.tc.loc Cert.KernelJoinIdeal.main_arg1) : Vec Ideal Cert.KernelJoinIdeal.S2048x2048 .f32) (ix2 ⟨k, h.1⟩ ⟨q, h.2⟩)).toReal else 0

def Rv : ℕ → ℕ → ℝ := rowsOf (m (c.tc.loc Cert.KernelJoinIdeal.main_arg2))

def Gv : ℕ → ℝ := vecOf (m (c.tc.loc Cert.KernelJoinIdeal.main_arg3))

def Bv : ℕ → ℝ := vecOf (m (c.tc.loc Cert.KernelJoinIdeal.main_arg4))

instance : Subsingleton Cert.Pre_finite_join.S_.Idx := ⟨fun a b => funext fun i => i.elim0⟩

theorem reals (h : Cert.Pre_KernelJoinIdeal_finite_join m) : Cert.KernelJoinIdeal.Val.Reals m c (Ov m c) (Wv m c) (Rv m c) (Gv m c) (Bv m c) := by
  have e := congrFun (h c) ix0
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i k => ?_, fun k q => ?_, fun i k => ?_, fun k => ?_, fun k => ?_⟩
  · rw [Ov, rowsOf, dif_pos ⟨i.isLt, k.isLt⟩]
    exact real_at e0 (ix2 i k)
  · rw [Wv, dif_pos ⟨k.isLt, q.isLt⟩]
    exact real_at e1 (ix2 k q)
  · rw [Rv, rowsOf, dif_pos ⟨i.isLt, k.isLt⟩]
    exact real_at e2 (ix2 i k)
  · rw [Gv, vecOf, dif_pos k.isLt]
    exact real_at e3 (ix1 k)
  · rw [Bv, vecOf, dif_pos k.isLt]
    exact real_at e4 (ix1 k)

end Pre

open Cert.KernelJoinIdeal.Val Cert.KernelTrunkIdeal.Val in
theorem values : Cert.algebraic_KernelJoinIdeal_ReferenceJoinIdeal_pre_finite_join := by
  intro m g m' g' h hag
  have hR := fun c => reals m c h
  let J := fun c => jj (Ov m c) (Wv m c) (Rv m c)
  refine ⟨fun c => gR (J c), fun c => gN (J c) (Gv m c) (Bv m c), fun c => gN (J c) (Gv m c) (Bv m c), ?_, ?_⟩
  · refine (θ_run Cert.KernelJoinIdeal.defs _ _).mono (fun r hr c => ?_) (Cert.KernelJoinIdeal.Value.run_blocks (F := Ideal) m g)
    obtain ⟨h4, h5, h6, ha⟩ := hr c
    exact ⟨h4.trans (Cert.KernelJoinIdeal.Val.final_4 (hR c)), h5.trans (Cert.KernelJoinIdeal.Val.final_5 (hR c)), h6.trans (Cert.KernelJoinIdeal.Val.final_6 (hR c)), ha⟩
  · refine (θ_run Cert.ReferenceJoinIdeal.defs _ _).mono (fun r hr c => ?_) (Cert.ReferenceJoinIdeal.Value.run (F := Ideal) m' g')
    obtain ⟨r0, r1, r2, ha⟩ := hr c
    obtain ⟨a0, a1, a2, a3, a4⟩ := hag c
    have d0 := same2 (hR c).o a0
    have d1 := same2 (hR c).w a1
    have d2 := same2 (hR c).r a2
    have d3 := same1 (hR c).g a3
    have d4 := same1 (hR c).b a4
    refine ⟨r0.trans ((Cert.ReferenceJoinIdeal.Read.val_main_v3_eq _ _ _).trans (funext fun i => ?_)),
      r1.trans ((Cert.ReferenceJoinIdeal.Read.val_main_v27_eq _ _ _ _ _).trans (funext fun i => ?_)),
      r2.trans ((Cert.ReferenceJoinIdeal.Read.val_main_v28_eq _ _ _ _ _).trans (funext fun i => ?_)), ha⟩
    all_goals obtain ⟨a, b, rfl⟩ : ∃ a b, i = ix2 a b := ⟨_, _, eq_ix2 i⟩
    · exact Cert.ReferenceJoinIdeal.Val.v3 d0 d1 d2 a b
    · exact Cert.ReferenceJoinIdeal.Val.v27 d0 d1 d2 d3 d4 a b
    · exact Cert.ReferenceJoinIdeal.Val.v27 d0 d1 d2 d3 d4 a b

end Cert.Join

end
-- ==== Proof.Padded.lean ====
/- A row of 11008 entries packed in four groups, 2752 entries to a group and zeros after them, and the sums over a packed row. -/
module

public import proofs.«01_k».proof.Defs
public import Idealize.ShloMosaic.Lib.Pointwise
public import Idealize.ShloMosaic.Lib.StableHlo.ReadAt
public import proofs.«01_k».proof.Proof.Common
public import proofs.«01_k».proof.Proof.Blocks

@[expose] public section

noncomputable section

namespace Cert.Padded

open Idealize.ShloMosaic

/-- Entry `q` of group `g`. -/
def pk (f : Fin 11008 → EReal) (g : Fin 4) (q : Fin 2816) : EReal :=
  if h : q.val < 2752 then f ⟨g.val * 2752 + q.val, by omega⟩ else (FloatOps.sitofp FTy.f32 0#32 : Ideal .f32)

theorem sitofp_zero : (FloatOps.sitofp FTy.f32 0#32 : Ideal .f32) = (0 : EReal) := by show (((0#32 : BitVec 32).toInt : ℝ) : EReal) = 0; simp

/-- Products with a packed entry, summed. -/
theorem pk_sum {n : ℕ} (x : Fin n → EReal) (f : Fin n → Fin 11008 → EReal) (g : Fin 4) (q : Fin 2816) :
    (∑ k, pk (f k) g q * x k) = if h : q.val < 2752 then ∑ k, f k ⟨g.val * 2752 + q.val, by omega⟩ * x k else (FloatOps.sitofp FTy.f32 0#32 : Ideal .f32) := by
  unfold pk
  by_cases h : q.val < 2752
  · simp only [dif_pos h]
  · simp only [dif_neg h, sitofp_zero, zero_mul, Finset.sum_const_zero]

/-- A sum by blocks. -/
theorem blocks (A B : ℕ) {N : ℕ} (e : A * B = N) (f : Fin N → EReal) (h : ∀ (s : Fin A) (a : Fin B), s.val * B + a.val < N) :
    (∑ s : Fin A, ∑ a : Fin B, f ⟨s.val * B + a.val, h s a⟩) = ∑ n, f n := by
  subst e
  refine (Fintype.sum_prod_type' fun s a => f ⟨_, h s a⟩).symm.trans ((Finset.sum_congr rfl fun p _ => congrArg f (Fin.ext ?_)).trans (Equiv.sum_comp finProdFinEquiv f))
  exact (Nat.add_comm _ _).trans (congrArg (p.2.val + ·) (Nat.mul_comm _ _))

/-- The products of two packed rows, summed. -/
theorem pk_dot (f w : Fin 11008 → EReal) : (∑ g, ∑ q, pk f g q * pk w g q) = ∑ b, f b * w b := by
  refine (Finset.sum_congr rfl fun g _ => (Fin.sum_univ_add (a := 2752) (b := 64) fun q => pk f g q * pk w g q).trans
    ((congrArg₂ (fun x y : EReal => x + y) (Finset.sum_congr rfl fun q _ => ?_) (Finset.sum_eq_zero fun q _ => ?_)).trans (add_zero _))).trans
    (blocks 4 2752 rfl (fun b => f b * w b) fun _ _ => by omega)
  · unfold pk
    rw [dif_pos (show (Fin.castAdd 64 q).val < 2752 from q.isLt), dif_pos (show (Fin.castAdd 64 q).val < 2752 from q.isLt)]; rfl
  · unfold pk
    rw [dif_neg (show ¬(Fin.natAdd 2752 q).val < 2752 from Nat.not_lt.2 (Nat.le_add_right _ _)), sitofp_zero, zero_mul]

end Cert.Padded

end
-- ==== Proof.Up.lean ====
/- The product of the rows with the first weights of the gated activation: its frames, the reference's frame, and the equality
   of the result, which needs nothing of the arguments: a padded column is a sum of products with zero. -/
module

public import proofs.«01_k».proof.Proof.Padded
public import proofs.«01_k».proof.Proof.Gen.KernelUp
public import proofs.«01_k».proof.Proof.Gen.KernelUpIdeal.Value
public import proofs.«01_k».proof.Proof.Gen.ReferenceUpIdeal.Run
public import proofs.«01_k».proof.Proof.Gen.ReferenceUpIdeal.Read

@[expose] public section

noncomputable section

namespace Cert.Up

open Cert.KernelUpIdeal Cert.KernelUpIdeal.Gen Cert.Common Cert.Blocks Cert.Padded
open Idealize.ShloMosaic Idealize.ShloMosaic.TcCoe Idealize.SL.Sem
open Idealize.ShloMosaic.Pipeline (Dat)

theorem frame_kernel : Cert.quiescent_KernelUp := fun m ρ _ => cast (by sl_kernel_rfl) (frame (F := Bits) m ρ)

theorem frame_ideal : Cert.quiescent_KernelUpIdeal := fun m ρ _ => frame m ρ

theorem frame_reference : Cert.quiescent_ReferenceUpIdeal := fun m ρ _ =>
  (θ_run Cert.ReferenceUpIdeal.defs _ _).mono (fun r h => ⟨fun c => (h c).2, sem_eq_zero_of_no_sems (by decide) r.2⟩)
    (Cert.ReferenceUpIdeal.Value.run (F := Ideal) m ρ)

/-- The product with column `q` of group `g`. -/
def prod (x : Vec Ideal S8192x2048 .f32) (w : Vec Ideal S2048x11008 .f32) (g : Fin 4) (n : Fin 8192) (q : Fin 2816) : EReal :=
  ∑ k, pk (fun b => w (ix2 k b)) g q * x (ix2 n k)

theorem pay (x : Vec Ideal S512x2048 .bf16) (w : Vec Ideal S1x2816x2048 .bf16) (a : Fin 512) (q : Fin 2816) :
    k0_pay1 x w (ix3 0 a q) = ∑ k : Fin 2048, w (ix3 0 q k) * x (ix2 a k) := by
  simp only [mul_comm (w _)]
  pointwise [k0_pay1]

theorem ref (x : Vec Ideal S8192x2048 .f32) (w : Vec Ideal S2048x11008 .f32) (g : Fin 4) (n : Fin 8192) (q : Fin 2816) :
    Cert.ReferenceUpIdeal.Read.val_main_v3 (F := Ideal) x w (ix3 g n q) = prod x w g n q := by
  refine Eq.trans ?_ (pk_sum (fun k => x (ix2 n k)) (fun k b => w (ix2 k b)) g q).symm
  simp only [mul_comm (w _)]
  open Cert.ReferenceUpIdeal.Read in pointwise [val_main_v3, val_main_v2, val_main_v1, val_main_v0, val_main_call0_v0, val_main_c]

variable (m : (ℓ : Loc nD τ sig) → Buf (Elt Ideal) ℓ) (c : Dev nD)

theorem wts (g : Fin 4) (q : Fin 2816) (k : Fin 2048) : (V m c main_v3 : Vec Ideal S4x2816x2048 .bf16) (ix3 g q k)
    = pk (fun b => (m (c.tc.loc main_arg1) : Vec Ideal S2048x11008 .f32) (ix2 k b)) g q := by
  unfold V hostOps0 hostOps0_1 hostOps0_2
  after_reads_at
  rfl

theorem rows (n : Fin 8192) (k : Fin 2048) : (V m c main_v4 : Vec Ideal S8192x2048 .bf16) (ix2 n k) =
    (m (c.tc.loc main_arg0) : Vec Ideal S8192x2048 .f32) (ix2 n k) := by
  unfold V hostOps0 hostOps0_1 hostOps0_2
  after_reads_at

/-- The result array. -/
def gU : Vec Ideal S4x8192x2816 .f32 := fun i => prod (m (c.tc.loc main_arg0)) (m (c.tc.loc main_arg1)) (i 0) (i 1) (i 2)

theorem idx_facts : ∀ t : Fin cfg0.N, (win0_0.index t 0 = t.val % 16 ∧ win0_0.index t 1 = 0)
    ∧ (win0_1.index t 0 = t.val / 16 ∧ win0_1.index t 1 = 0 ∧ win0_1.index t 2 = 0)
    ∧ (win0_2.index t 0 = t.val / 16 ∧ win0_2.index t 1 = t.val % 16 ∧ win0_2.index t 2 = 0) :=
  (by decide +kernel : ∀ t : Fin grid0.N, _)

theorem point (t : Fin cfg0.N) (ht : t.val < 64) (a : Fin 512) (q : Fin 2816) : out0_2 (iblk m c 0 t) (iblk m c 1 t) (ix3 0 a q) =
    gU m c (ix3 (⟨t.val / 16, by omega⟩ : Fin 4) (⟨t.val % 16 * 512 + a.val, by omega⟩ : Fin 8192) q) := by
  obtain ⟨⟨a0, a1⟩, ⟨b0, b1, b2⟩, -⟩ := idx_facts t
  have ha := a.isLt
  refine Eq.trans ?_ ((pay (iblk m c 0 t) (iblk m c 1 t) a q).trans ?_)
  · unfold out0_2
    rw [View.canon_unit_zero (S := S1x512x2816) hz3, View.ld_unit_zero (S := S512x2048) hz2, View.ld_unit_zero (S := S1x2816x2048) hz3]
  unfold gU prod
  refine Finset.sum_congr rfl fun k _ => congrArg₂ (fun x y : EReal => x * y) ?_ ?_
  · exact (congrArg (V m c main_v3 : Vec Ideal S4x2816x2048 .bf16) (at3 (by show win0_1.index t 0 * 1 + 1 * 0 = t.val / 16; omega) (blk_in b1) (blk_in b2))).trans (wts m c _ q k)
  · exact (congrArg (V m c main_v4 : Vec Ideal S8192x2048 .bf16) (at2 (blk_at a0 rfl) (blk_in a1))).trans (rows m c _ k)

theorem final : (dats m 0 c).arrAt 2 cfg0.N = gU m c :=
  (dats m 0 c).arrAt_eq_of_cover 2 (gU m c) (fun t _ => by
    rw [Value.flushed2]
    funext j
    rw [View.read_apply]
    obtain ⟨-, -, e0, e1, e2⟩ := idx_facts t
    have ht : t.val < 64 := lt_of_lt_of_eq t.isLt N_0
    obtain ⟨z, a, q, rfl⟩ : ∃ (z : Fin 1) (a : Fin 512) (q : Fin 2816), j = ix3 z a q := ⟨_, _, _, eq_ix3 j⟩
    obtain rfl : z = 0 := Subsingleton.elim _ _
    refine (point m c t ht a q).trans (congrArg (gU m c) (at3 (x := ((cfg0.win 2).blk t).view.emb (ix3 0 a q)) ?_ ?_ (blk_in e2))).symm
    · show win0_2.index t 0 * 1 + 1 * 0 = t.val / 16; omega
    · show win0_2.index t 1 * 512 + 1 * a.val = t.val % 16 * 512 + a.val; omega) (fun i => by
    have h0 : _ < 4 := (i 0).isLt
    have h1 : _ < 8192 := (i 1).isLt
    have h2 : _ < 2816 := (i 2).isLt
    obtain ⟨t, ht⟩ := fin_at (N := cfg0.N) ((i 0).val * 16 + (i 1).val / 512) (lt_of_lt_of_eq (by omega) N_0.symm)
    obtain ⟨-, -, e0, e1, e2⟩ := idx_facts t
    exact ⟨t, flush0_2 _, in_rect (all3 (in_blk (i 0).val 1 e0 (by omega)) (in_blk (i 1).val 512 e1 (by omega)) (in_blk (i 2).val 2816 e2 (by omega)))⟩)

theorem values : Cert.algebraic_KernelUpIdeal_ReferenceUpIdeal := by
  intro m g m' g' _ hag
  refine ⟨fun c => gU m c, ?_, ?_⟩
  · refine (θ_run defs _ _).mono (fun r hr c => ?_) (Value.run_blocks (F := Ideal) m g)
    obtain ⟨h3, ha⟩ := hr c
    exact ⟨h3.trans (final m c), ha⟩
  · refine (θ_run Cert.ReferenceUpIdeal.defs _ _).mono (fun r hr c => ?_) (Cert.ReferenceUpIdeal.Value.run (F := Ideal) m' g')
    obtain ⟨h0, ha⟩ := hr c
    obtain ⟨a0, a1⟩ := hag c
    refine ⟨h0.trans ((Cert.ReferenceUpIdeal.Read.val_main_v3_eq _ _).trans (funext fun i => ?_)), ha⟩
    obtain ⟨g, a, b, rfl⟩ : ∃ g a b, i = ix3 g a b := ⟨_, _, _, eq_ix3 i⟩
    refine (ref _ _ g a b).trans ?_
    rw [a0, a1]; rfl

end Cert.Up

end
-- ==== Proof.Tn.lean ====
/- The product of the gradient's packed columns with the rows, summed over the rows: its frames, the reference's frame, and the
   equality of the result, which needs nothing of the arguments. -/
module

public import proofs.«01_k».proof.Proof.Padded
public import proofs.«01_k».proof.Proof.Gen.KernelTn
public import proofs.«01_k».proof.Proof.Gen.KernelTnIdeal.Value
public import proofs.«01_k».proof.Proof.Gen.ReferenceTnIdeal.Run
public import proofs.«01_k».proof.Proof.Gen.ReferenceTnIdeal.Read

@[expose] public section

noncomputable section

namespace Cert.Tn

open Cert.KernelTnIdeal Cert.KernelTnIdeal.Gen Cert.Common Cert.Blocks Cert.Padded
open Idealize.ShloMosaic Idealize.ShloMosaic.TcCoe Idealize.SL.Sem

theorem frame_kernel : Cert.quiescent_KernelTn := fun m ρ _ => cast (by sl_kernel_rfl) (frame (F := Bits) m ρ)

theorem frame_ideal : Cert.quiescent_KernelTnIdeal := fun m ρ _ => frame m ρ

theorem frame_reference : Cert.quiescent_ReferenceTnIdeal := fun m ρ _ =>
  (θ_run Cert.ReferenceTnIdeal.defs _ _).mono (fun r h => ⟨fun c => (h c).2, sem_eq_zero_of_no_sems (by decide) r.2⟩)
    (Cert.ReferenceTnIdeal.Value.run (F := Ideal) m ρ)

/-- Row `n` of column `q` of group `g` of the gradient times that of column `k` of the rows. -/
def term (d : Vec Ideal S8192x11008 .f32) (x : Vec Ideal S8192x2048 .f32) (g : Fin 4) (q : Fin 2816) (k : Fin 2048) (n : Fin 8192) : EReal :=
  pk (fun b => d (ix2 n b)) g q * x (ix2 n k)

/-- Those columns' product. -/
def prod (d : Vec Ideal S8192x11008 .f32) (x : Vec Ideal S8192x2048 .f32) (g : Fin 4) (q : Fin 2816) (k : Fin 2048) : EReal :=
  ∑ n, term d x g q k n

theorem pay0 (i : S1x1408x2048.Idx) : k0_pay1 (F := Ideal) i = (0 : EReal) := by
  obtain ⟨z, q, k, rfl⟩ : ∃ z q k, i = ix3 z q k := ⟨_, _, _, eq_ix3 i⟩
  obtain rfl : z = 0 := Subsingleton.elim _ _
  pointwise [k0_pay1]

theorem pay (s : Vec Ideal S1x1408x2048 .f32) (d : Vec Ideal S1x1024x1408 .bf16) (x : Vec Ideal S1x1024x2048 .bf16) (q : Fin 1408) (k : Fin 2048) :
    k0_pay2 s d x (ix3 0 q k) = s (ix3 0 q k) + ∑ a : Fin 1024, d (ix3 0 a q) * x (ix3 0 a k) := by
  pointwise [k0_pay2]

theorem ref (d : Vec Ideal S8192x11008 .f32) (x : Vec Ideal S8192x2048 .f32) (g : Fin 4) (q : Fin 2816) (k : Fin 2048) :
    Cert.ReferenceTnIdeal.Read.val_main_v6 (F := Ideal) d x (ix3 g q k) = prod d x g q k := by
  refine Eq.trans ?_ (pk_sum (fun n => x (ix2 n k)) (fun n b => d (ix2 n b)) g q).symm
  open Cert.ReferenceTnIdeal.Read in pointwise [val_main_v6, val_main_v5, val_main_v4, val_main_v3, val_main_v2, val_main_call0_v0, val_main_c]

variable (m : (ℓ : Loc nD τ sig) → Buf (Elt Ideal) ℓ) (c : Dev nD)

theorem cols (g : Fin 4) (n : Fin 8192) (q : Fin 2816) : (V m c main_v3 : Vec Ideal S4x8192x2816 .bf16) (ix3 g n q)
    = pk (fun b => (m (c.tc.loc main_arg0) : Vec Ideal S8192x11008 .f32) (ix2 n b)) g q := by
  unfold V hostOps0 hostOps0_1 hostOps0_2
  after_reads_at
  rfl

theorem rows (n : Fin 8192) (k : Fin 2048) : (V m c main_v5 : Vec Ideal S1x8192x2048 .bf16) (ix3 0 n k) =
    (m (c.tc.loc main_arg1) : Vec Ideal S8192x2048 .f32) (ix2 n k) := by
  unfold V hostOps0 hostOps0_1 hostOps0_2
  after_reads_at

theorem idx_facts : ∀ t : Fin cfg0.N, (win0_0.index t 0 = t.val / 16 ∧ win0_0.index t 1 = t.val % 8 ∧ win0_0.index t 2 = t.val / 8 % 2)
    ∧ (win0_1.index t 0 = 0 ∧ win0_1.index t 1 = t.val % 8 ∧ win0_1.index t 2 = 0) :=
  (by decide +kernel : ∀ t : Fin grid0.N, _)

/-- What point `t` adds. -/
def add (t : Fin cfg0.N) (i : S1x1408x2048.Idx) : EReal :=
  ∑ a : Fin 1024, (show EReal from iblk m c 0 t (ix3 0 a (i 1))) * (show EReal from iblk m c 1 t (ix3 0 a (i 2)))

theorem step (t : Fin cfg0.N) (s : Vec Ideal S1x1408x2048 .f32) (i : S1x1408x2048.Idx) :
    k0_pay2 s (iblk m c 0 t) (iblk m c 1 t) i = (s i + add m c t i : EReal) := by
  obtain ⟨z, q, k, rfl⟩ : ∃ z q k, i = ix3 z q k := ⟨_, _, _, eq_ix3 i⟩
  obtain rfl : z = 0 := Subsingleton.elim _ _
  exact pay s (iblk m c 0 t) (iblk m c 1 t) q k

theorem add_eq (t : Fin cfg0.N) (g : Fin 4) (q : Fin 2816) (s : Fin 8) (k : Fin 2048) (h : t.val = 8 * (2 * g.val + q.val / 1408) + s.val)
    (i : S1x1408x2048.Idx) (h1 : (i 1).val = q.val % 1408) (h2 : (i 2).val = k.val) :
    add m c t i = ∑ a : Fin 1024, term (m (c.tc.loc main_arg0)) (m (c.tc.loc main_arg1)) g q k ⟨s.val * 1024 + a.val, by omega⟩ := by
  obtain ⟨⟨a0, a1, a2⟩, ⟨b0, b1, b2⟩⟩ := idx_facts t
  have hq := q.isLt
  have hs := s.isLt
  refine Finset.sum_congr rfl fun a _ => congrArg₂ (fun x y : EReal => x * y) ?_ ?_
  · exact (congrArg (V m c main_v3 : Vec Ideal S4x8192x2816 .bf16) (at3 (by show win0_0.index t 0 * 1 + 1 * 0 = g.val; omega)
      (blk_at (a1.trans (by omega)) rfl) (by show win0_0.index t 2 * 1408 + 1 * (i 1).val = q.val; omega))).trans (cols m c g _ q)
  · exact (congrArg (V m c main_v5 : Vec Ideal S1x8192x2048 .bf16) (at3 (blk_in b0) (blk_at (b1.trans (by omega)) rfl) ((blk_in b2).trans h2))).trans (rows m c _ k)

/-- The result array. -/
def gT : Vec Ideal S4x2816x2048 .f32 := fun i => prod (m (c.tc.loc main_arg0)) (m (c.tc.loc main_arg1)) (i 0) (i 1) (i 2)

theorem final (g : Fin 4) (q : Fin 2816) (k : Fin 2048) : Value.G2 m c (ix3 g q k) = gT m c (ix3 g q k) := by
  have hg := g.isLt
  have hq := q.isLt
  have hr : Value.run2Of (ix3 g q k) = 2 * g.val + q.val / 1408 := by
    show 2 * (g.val / 1 - 0) + 1 * (q.val / 1408 - 0) + 1 * (k.val / 2048 - 0) = _; omega
  have hb (s : ℕ) (hs : s < 8) : 8 * Value.run2Of (ix3 g q k) + s < cfg0.N := lt_of_lt_of_eq (by omega) N_0.symm
  unfold Value.G2
  rw [dif_pos (hb 7 (by omega))]
  refine (Pipeline.accAt_add_apply (β := EReal) _ _ (fun _ => 0) (fun n i => if h : n < cfg0.N then add m c ⟨n, h⟩ i else 0) _ 7
    (fun h i => by rw [dif_pos h]; exact (step m c ⟨_, h⟩ _ i).trans (by rw [pay0]))
    (fun n h s i _ _ => by rw [dif_pos h]; exact step m c ⟨n, h⟩ s i) 7 le_rfl (hb 7 (by omega)) _).trans ?_
  rw [zero_add, Finset.sum_range]
  refine (Finset.sum_congr rfl fun s _ => ?_).trans (blocks 8 1024 rfl (term (m (c.tc.loc main_arg0)) (m (c.tc.loc main_arg1)) g q k) fun _ _ => by omega)
  rw [dif_pos (hb s.val s.isLt)]
  exact add_eq m c _ g q s k (congrArg (8 * · + s.val) hr) _ rfl (Nat.mod_eq_of_lt k.isLt)

theorem values : Cert.algebraic_KernelTnIdeal_ReferenceTnIdeal := by
  intro m g m' g' _ hag
  refine ⟨fun c => gT m c, ?_, ?_⟩
  · refine (θ_run defs _ _).mono (fun r hr c => ?_) (Value.run (F := Ideal) m g)
    obtain ⟨h3, ha⟩ := hr c
    refine ⟨h3.trans (funext fun i => ?_), ha⟩
    obtain ⟨g, a, b, rfl⟩ : ∃ g a b, i = ix3 g a b := ⟨_, _, _, eq_ix3 i⟩
    exact final m c g a b
  · refine (θ_run Cert.ReferenceTnIdeal.defs _ _).mono (fun r hr c => ?_) (Cert.ReferenceTnIdeal.Value.run (F := Ideal) m' g')
    obtain ⟨h0, ha⟩ := hr c
    obtain ⟨a0, a1⟩ := hag c
    refine ⟨h0.trans ((Cert.ReferenceTnIdeal.Read.val_main_v6_eq _ _).trans (funext fun i => ?_)), ha⟩
    obtain ⟨g, a, b, rfl⟩ : ∃ g a b, i = ix3 g a b := ⟨_, _, _, eq_ix3 i⟩
    refine (ref _ _ g a b).trans ?_
    rw [a0, a1]; rfl

end Cert.Tn

end
-- ==== Proof.Nt.lean ====
/- The product of the gradient's packed columns with the packed weights, summed over the columns, and the residual's share added:
   its frames, the reference's frame, and the equality of the result, which needs nothing of the arguments. -/
module

public import proofs.«01_k».proof.Proof.Padded
public import proofs.«01_k».proof.Proof.Gen.KernelNt
public import proofs.«01_k».proof.Proof.Gen.KernelNtIdeal.Value
public import proofs.«01_k».proof.Proof.Gen.ReferenceNtIdeal.Run
public import proofs.«01_k».proof.Proof.Gen.ReferenceNtIdeal.Read

@[expose] public section

noncomputable section

namespace Cert.Nt

open Cert.KernelNtIdeal Cert.KernelNtIdeal.Gen Cert.Common Cert.Blocks Cert.Padded
open Idealize.ShloMosaic Idealize.ShloMosaic.TcCoe Idealize.SL.Sem

theorem frame_kernel : Cert.quiescent_KernelNt := fun m ρ _ => cast (by sl_kernel_rfl) (frame (F := Bits) m ρ)

theorem frame_ideal : Cert.quiescent_KernelNtIdeal := fun m ρ _ => frame m ρ

theorem frame_reference : Cert.quiescent_ReferenceNtIdeal := fun m ρ _ =>
  (θ_run Cert.ReferenceNtIdeal.defs _ _).mono (fun r h => ⟨fun c => (h c).2, sem_eq_zero_of_no_sems (by decide) r.2⟩)
    (Cert.ReferenceNtIdeal.Value.run (F := Ideal) m ρ)

/-- The residual's share. -/
def first (y : Vec Ideal S8192x2048 .f32) (n : Fin 8192) (k : Fin 2048) : EReal := Ideal.ofBits .f32 0x3FD744FD#32 * y (ix2 n k)

/-- The product. -/
def dot (d : Vec Ideal S8192x11008 .f32) (w : Vec Ideal S2048x11008 .f32) (n : Fin 8192) (k : Fin 2048) : EReal := ∑ b, d (ix2 n b) * w (ix2 k b)

theorem pay (s : Vec Ideal S512x2048 .f32) (d : Vec Ideal S1x512x2816 .bf16) (w : Vec Ideal S1x2816x2048 .bf16) (a : Fin 512) (k : Fin 2048) :
    k0_pay2 s d w (ix2 a k) = s (ix2 a k) + ∑ q : Fin 2816, d (ix3 0 a q) * w (ix3 0 q k) := by
  pointwise [k0_pay2]

theorem pay1 (y : Vec Ideal S512x2048 .f32) (a : Fin 512) (k : Fin 2048) :
    k0_pay1 y (ix2 a k) = (Ideal.ofBits .f32 0x3FD744FD#32 * y (ix2 a k) : EReal) := by
  pointwise [k0_pay1]

theorem ref (d : Vec Ideal S8192x11008 .f32) (w : Vec Ideal S2048x11008 .f32) (y : Vec Ideal S8192x2048 .f32) (n : Fin 8192) (k : Fin 2048) :
    Cert.ReferenceNtIdeal.Read.val_main_v5 (F := Ideal) d w y (ix2 n k) = (first y n k + dot d w n k : EReal) := by
  unfold first dot
  open Cert.ReferenceNtIdeal.Read in pointwise [val_main_v5, val_main_v4, val_main_v3, val_main_v2, val_main_cst_0]

variable (m : (ℓ : Loc nD τ sig) → Buf (Elt Ideal) ℓ) (c : Dev nD)

theorem outs_A (t : Fin cfg0.N) (h : t.val % 4 = 0) :
    (outsAt0 m c t.val t.isLt).2 = k0_pay2 (k0_pay1 (iblk m c 2 t)) (iblk m c 0 t) (iblk m c 1 t) := by
  rw [outsAt0_A m c t h (by omega)]
  unfold sout0_A_0
  rw [View.read_writes_eq_canon _ _ _ (fun y => scover0_A_0 (y := y) ..)]
  unfold kernelRun0_A
  dsimp only
  sl_unfold_words
  simp only [View.canon_cons_unit_zero (S := S512x2048) hz2, View.readCov_unit_zero (S := S512x2048) _ hz2, View.readAt_eq_ld, (hs0_0 t).read_unread,
    (hs0_1 t).read_unread, (hs0_2 t).read_unread, View.ld_unit_zero (S := S512x2048) hz2, View.ld_unit_zero (S := S1x512x2816) hz3,
    View.ld_unit_zero (S := S1x2816x2048) hz3, shapeCast_self]

theorem outs_S (t : Fin cfg0.N) (h : ¬t.val % 4 = 0) :
    (outsAt0 m c t.val t.isLt).2 = k0_pay2 (outsAt0 m c (t.val - 1) (Nat.lt_of_le_of_lt (Nat.sub_le _ _) t.isLt)).2 (iblk m c 0 t) (iblk m c 1 t)
      ∧ (t.val % 4 = 3 → (outsAt0 m c t.val t.isLt).1 = (outsAt0 m c t.val t.isLt).2) := by
  by_cases h3 : t.val % 4 = 3
  · rw [outsAt0_C m c t h h3]
    unfold sout0_C_0 out0_C_3
    rw [View.read_writes_eq_canon _ _ _ (fun y => scover0_C_0 (y := y) ..), View.read_writes_eq_canon _ _ _ (fun y => cover0_C_3 (y := y) ..)]
    unfold kernelRun0_C
    dsimp only
    sl_unfold_words
    simp only [View.canon_unit_zero (S := S512x2048) hz2, View.readCov_unit_zero (S := S512x2048) _ hz2, View.readAt_eq_ld, (hs0_0 t).read_unread,
      (hs0_1 t).read_unread, (Memref.isWhole_whole _).read_unread, View.ld_unit_zero (S := S512x2048) hz2, View.ld_unit_zero (S := S1x512x2816) hz3,
      View.ld_unit_zero (S := S1x2816x2048) hz3, shapeCast_self, implies_true, and_self]
  · refine ⟨?_, fun h => absurd h h3⟩
    rw [outsAt0_B m c t h h3]
    unfold sout0_B_0
    rw [View.read_writes_eq_canon _ _ _ (fun y => scover0_B_0 (y := y) ..)]
    unfold kernelRun0_B
    dsimp only
    sl_unfold_words
    simp only [View.canon_unit_zero (S := S512x2048) hz2, View.readAt_eq_ld, (hs0_0 t).read_unread,
      (hs0_1 t).read_unread, (Memref.isWhole_whole _).read_unread, View.ld_unit_zero (S := S512x2048) hz2, View.ld_unit_zero (S := S1x512x2816) hz3,
      View.ld_unit_zero (S := S1x2816x2048) hz3, shapeCast_self]

theorem cols (g : Fin 4) (n : Fin 8192) (q : Fin 2816) : (V m c main_v7 : Vec Ideal S4x8192x2816 .bf16) (ix3 g n q)
    = pk (fun b => (m (c.tc.loc main_arg0) : Vec Ideal S8192x11008 .f32) (ix2 n b)) g q := by
  unfold V hostOps0 hostOps0_1 hostOps0_2 hostOps0_3
  after_reads_at
  rfl

theorem wts (g : Fin 4) (q : Fin 2816) (k : Fin 2048) : (V m c main_v3 : Vec Ideal S4x2816x2048 .bf16) (ix3 g q k)
    = pk (fun b => (m (c.tc.loc main_arg1) : Vec Ideal S2048x11008 .f32) (ix2 k b)) g q := by
  unfold V hostOps0 hostOps0_1 hostOps0_2 hostOps0_3
  after_reads_at
  rfl

theorem idx_facts : ∀ t : Fin cfg0.N, (win0_0.index t 0 = t.val % 4 ∧ win0_0.index t 1 = t.val / 4 ∧ win0_0.index t 2 = 0)
    ∧ (win0_1.index t 0 = t.val % 4 ∧ win0_1.index t 1 = 0 ∧ win0_1.index t 2 = 0) ∧ (win0_2.index t 0 = t.val / 4 ∧ win0_2.index t 1 = 0) :=
  (by decide +kernel : ∀ t : Fin grid0.N, _)

/-- What point `s` of a row's four adds. -/
def part (n : Fin 8192) (k : Fin 2048) (s : Fin 4) : EReal :=
  ∑ q, pk (fun b => (m (c.tc.loc main_arg0) : Vec Ideal S8192x11008 .f32) (ix2 n b)) s q
    * pk (fun b => (m (c.tc.loc main_arg1) : Vec Ideal S2048x11008 .f32) (ix2 k b)) s q

theorem step (n : Fin 8192) (a : Fin 512) (k : Fin 2048) (s : Fin 4) (t : Fin cfg0.N) (h : t.val = 4 * (n.val / 512) + s.val) (ha : a.val = n.val % 512)
    (v : Vec Ideal S512x2048 .f32) : k0_pay2 v (iblk m c 0 t) (iblk m c 1 t) (ix2 a k) = (v (ix2 a k) + part m c n k s : EReal) := by
  obtain ⟨⟨a0, a1, a2⟩, ⟨b0, b1, b2⟩, -⟩ := idx_facts t
  have hs := s.isLt
  refine (pay v (iblk m c 0 t) (iblk m c 1 t) a k).trans (congrArg (fun y : EReal => v (ix2 a k) + y)
    (Finset.sum_congr rfl fun q _ => congrArg₂ (fun x y : EReal => x * y) ?_ ?_))
  · exact (congrArg (V m c main_v7 : Vec Ideal S4x8192x2816 .bf16) (at3 (by show win0_0.index t 0 * 1 + 1 * 0 = s.val; omega)
      (by show win0_0.index t 1 * 512 + 1 * a.val = n.val; omega) (blk_in a2))).trans (cols m c s n q)
  · exact (congrArg (V m c main_v3 : Vec Ideal S4x2816x2048 .bf16) (at3 (by show win0_1.index t 0 * 1 + 1 * 0 = s.val; omega)
      (blk_in b1) (blk_in b2))).trans (wts m c s q k)

theorem acc (n : Fin 8192) (a : Fin 512) (k : Fin 2048) (ha : a.val = n.val % 512) : ∀ (s : ℕ) (hs : s < 4) (h : 4 * (n.val / 512) + s < cfg0.N),
    (outsAt0 m c (4 * (n.val / 512) + s) h).2 (ix2 a k) = (first (m (c.tc.loc main_arg2)) n k + ∑ i : Fin (s + 1), part m c n k ⟨i.val, by omega⟩ : EReal)
  | 0, hs, h => by
    obtain ⟨-, -, e0, e1⟩ := idx_facts ⟨_, h⟩
    dsimp only at e0
    rw [outs_A m c ⟨_, h⟩ (by dsimp only; omega), Fin.sum_univ_one]
    refine (step m c n a k 0 ⟨_, h⟩ rfl ha _).trans (congrArg (fun y : EReal => y + part m c n k 0) ?_)
    refine (pay1 (iblk m c 2 ⟨_, h⟩) a k).trans (congrArg (fun y : EReal => Ideal.ofBits .f32 0x3FD744FD#32 * y) ?_)
    exact (congrArg (V m c main_arg2 : Vec Ideal S8192x2048 .f32) (at2 (p := n) (q := k) (by show win0_2.index ⟨_, h⟩ 0 * 512 + 1 * a.val = n.val; omega) (blk_in e1))).trans
      (congrFun (V_main_arg2 m c) _)
  | s + 1, hs, h => by
    rw [(outs_S m c ⟨_, h⟩ (by dsimp only; omega)).1, Fin.sum_univ_castSucc]
    exact (step m c n a k ⟨s + 1, hs⟩ ⟨_, h⟩ rfl ha _).trans
      ((congrArg (fun y : EReal => y + part m c n k ⟨s + 1, hs⟩) (acc n a k ha s (by omega) _)).trans (add_assoc _ _ _))

/-- The result array. -/
def gN : Vec Ideal S8192x2048 .f32 := fun i =>
  (first (m (c.tc.loc main_arg2)) (i 0) (i 1) + dot (m (c.tc.loc main_arg0)) (m (c.tc.loc main_arg1)) (i 0) (i 1) : EReal)

theorem final (n : Fin 8192) (k : Fin 2048) : Value.G3 m c (ix2 n k) = gN m c (ix2 n k) := by
  have hn := n.isLt
  have hk := k.isLt
  have hr : Value.pt3Of (ix2 n k) = 4 * (n.val / 512) + 3 := by
    show 4 * (1 * (n.val / 512 - 0) + 1 * (k.val / 2048 - 0)) + 3 = _; omega
  have hb : 4 * (n.val / 512) + 3 < cfg0.N := lt_of_lt_of_eq (by omega) N_0.symm
  have e : ∀ p (h : p < cfg0.N), p = 4 * (n.val / 512) + 3 → outsAt0 m c p h = outsAt0 m c _ hb := fun p h e => by subst e; rfl
  unfold Value.G3
  rw [dif_pos (hr ▸ hb), ← Value.outsAt0_sweep m c _ (hr ▸ hb), e _ _ hr, (outs_S m c ⟨_, hb⟩ (by dsimp only; omega)).2 (by dsimp only; omega)]
  refine (congrArg (outsAt0 m c _ hb).2 (at2 (p := ⟨n.val % 512, by omega⟩) (q := k) rfl (Nat.mod_eq_of_lt hk))).trans ((acc m c n _ k rfl 3 (by omega) hb).trans ?_)
  exact congrArg (fun y : EReal => first (m (c.tc.loc main_arg2)) n k + y) (pk_dot _ _)

theorem values : Cert.algebraic_KernelNtIdeal_ReferenceNtIdeal := by
  intro m g m' g' _ hag
  refine ⟨fun c => gN m c, ?_, ?_⟩
  · refine (θ_run defs _ _).mono (fun r hr c => ?_) (Value.run (F := Ideal) m g)
    obtain ⟨h3, ha⟩ := hr c
    refine ⟨h3.trans (funext fun i => ?_), ha⟩
    obtain ⟨a, b, rfl⟩ : ∃ a b, i = ix2 a b := ⟨_, _, eq_ix2 i⟩
    exact final m c a b
  · refine (θ_run Cert.ReferenceNtIdeal.defs _ _).mono (fun r hr c => ?_) (Cert.ReferenceNtIdeal.Value.run (F := Ideal) m' g')
    obtain ⟨h0, ha⟩ := hr c
    obtain ⟨a0, a1, a2⟩ := hag c
    refine ⟨h0.trans ((Cert.ReferenceNtIdeal.Read.val_main_v5_eq _ _ _).trans (funext fun i => ?_)), ha⟩
    obtain ⟨a, b, rfl⟩ : ∃ a b, i = ix2 a b := ⟨_, _, eq_ix2 i⟩
    refine (ref _ _ _ a b).trans ?_
    rw [a0, a1, a2]; rfl

end Cert.Nt

end
-- ==== Proof.lean ====
/- The claims of the certificate, each call's own module proved. -/
module

public import proofs.«01_k».proof.Defs
public import proofs.«01_k».proof.Proof.Ln
public import proofs.«01_k».proof.Proof.Attn
public import proofs.«01_k».proof.Proof.Mix
public import proofs.«01_k».proof.Proof.Pool
public import proofs.«01_k».proof.Proof.Conv
public import proofs.«01_k».proof.Proof.Act
public import proofs.«01_k».proof.Proof.Loss
public import proofs.«01_k».proof.Proof.Fwd
public import proofs.«01_k».proof.Proof.Gate
public import proofs.«01_k».proof.Proof.Trunk
public import proofs.«01_k».proof.Proof.Join
public import proofs.«01_k».proof.Proof.Up
public import proofs.«01_k».proof.Proof.Tn
public import proofs.«01_k».proof.Proof.Nt

@[expose] public section

namespace Cert.Proof

theorem claim : Cert.Claim :=
  ⟨Cert.KernelLn.Gen.facts, Cert.KernelLnIdeal.Gen.facts, Cert.ReferenceLnIdeal.Gen.facts,
    Cert.KernelAttn.Gen.facts, Cert.KernelAttnIdeal.Gen.facts, Cert.ReferenceAttnIdeal.Gen.facts,
    Cert.KernelMix.Gen.facts, Cert.KernelMixIdeal.Gen.facts, Cert.ReferenceMixIdeal.Gen.facts,
    Cert.KernelPool.Gen.facts, Cert.KernelPoolIdeal.Gen.facts, Cert.ReferencePoolIdeal.Gen.facts,
    Cert.KernelConv.Gen.facts, Cert.KernelConvIdeal.Gen.facts, Cert.ReferenceConvIdeal.Gen.facts,
    Cert.KernelAct.Gen.facts, Cert.KernelActIdeal.Gen.facts, Cert.ReferenceActIdeal.Gen.facts,
    Cert.KernelLoss.Gen.facts, Cert.KernelLossIdeal.Gen.facts, Cert.ReferenceLossIdeal.Gen.facts,
    Cert.KernelFwd.Gen.facts, Cert.KernelFwdIdeal.Gen.facts, Cert.ReferenceFwdIdeal.Gen.facts,
    Cert.KernelGate.Gen.facts, Cert.KernelGateIdeal.Gen.facts, Cert.ReferenceGateIdeal.Gen.facts,
    Cert.KernelTrunk.Gen.facts, Cert.KernelTrunkIdeal.Gen.facts, Cert.ReferenceTrunkIdeal.Gen.facts,
    Cert.KernelJoin.Gen.facts, Cert.KernelJoinIdeal.Gen.facts, Cert.ReferenceJoinIdeal.Gen.facts,
    Cert.KernelUp.Gen.facts, Cert.KernelUpIdeal.Gen.facts, Cert.ReferenceUpIdeal.Gen.facts,
    Cert.KernelTn.Gen.facts, Cert.KernelTnIdeal.Gen.facts, Cert.ReferenceTnIdeal.Gen.facts,
    Cert.KernelNt.Gen.facts, Cert.KernelNtIdeal.Gen.facts, Cert.ReferenceNtIdeal.Gen.facts,
    Cert.Pre_finite_ln.Gen.facts, Cert.Pre_finite_attn.Gen.facts, Cert.Pre_finite_mix.Gen.facts, Cert.Pre_finite_pool.Gen.facts, Cert.Pre_finite_conv.Gen.facts, Cert.Pre_finite_act.Gen.facts, Cert.Pre_finite_loss.Gen.facts, Cert.Pre_finite_fwd.Gen.facts, Cert.Pre_finite_gate.Gen.facts, Cert.Pre_finite_trunk.Gen.facts, Cert.Pre_finite_join.Gen.facts,
    Ln.frame_kernel, Ln.frame_ideal, fun m ρ _ => Ln.frame_ideal m ρ trivial, Ln.frame_reference, fun m ρ _ => Ln.frame_reference m ρ trivial,
    Attn.frame_kernel, Attn.frame_ideal, fun m ρ _ => Attn.frame_ideal m ρ trivial, Attn.frame_reference, fun m ρ _ => Attn.frame_reference m ρ trivial,
    Mix.frame_kernel, Mix.frame_ideal, fun m ρ _ => Mix.frame_ideal m ρ trivial, Mix.frame_reference, fun m ρ _ => Mix.frame_reference m ρ trivial,
    Pool.frame_kernel, Pool.frame_ideal, fun m ρ _ => Pool.frame_ideal m ρ trivial, Pool.frame_reference, fun m ρ _ => Pool.frame_reference m ρ trivial,
    Conv.frame_kernel, Conv.frame_ideal, fun m ρ _ => Conv.frame_ideal m ρ trivial, Conv.frame_reference, fun m ρ _ => Conv.frame_reference m ρ trivial,
    Act.frame_kernel, Act.frame_ideal, fun m ρ _ => Act.frame_ideal m ρ trivial, Act.frame_reference, fun m ρ _ => Act.frame_reference m ρ trivial,
    Loss.frame_kernel, Loss.frame_ideal, fun m ρ _ => Loss.frame_ideal m ρ trivial, Loss.frame_reference, fun m ρ _ => Loss.frame_reference m ρ trivial,
    Fwd.frame_kernel, Fwd.frame_ideal, fun m ρ _ => Fwd.frame_ideal m ρ trivial, Fwd.frame_reference, fun m ρ _ => Fwd.frame_reference m ρ trivial,
    Gate.frame_kernel, Gate.frame_ideal, fun m ρ _ => Gate.frame_ideal m ρ trivial, Gate.frame_reference, fun m ρ _ => Gate.frame_reference m ρ trivial,
    Trunk.frame_kernel, Trunk.frame_ideal, fun m ρ _ => Trunk.frame_ideal m ρ trivial, Trunk.frame_reference, fun m ρ _ => Trunk.frame_reference m ρ trivial,
    Join.frame_kernel, Join.frame_ideal, fun m ρ _ => Join.frame_ideal m ρ trivial, Join.frame_reference, fun m ρ _ => Join.frame_reference m ρ trivial,
    Up.frame_kernel, Up.frame_ideal, Up.frame_reference,
    Tn.frame_kernel, Tn.frame_ideal, Tn.frame_reference,
    Nt.frame_kernel, Nt.frame_ideal, Nt.frame_reference,
    trivial, Ln.values, Attn.names, Attn.values, trivial, Mix.values, trivial, Pool.values, trivial, Conv.values, trivial, Act.values, trivial, Loss.values, Fwd.names, Fwd.values, trivial, Gate.values, trivial, Trunk.values, trivial, Join.values, trivial, Up.values, trivial, Tn.values, trivial, Nt.values⟩

end Cert.Proof

end
